-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.1 = (fun _ => 1#1)
    ∧ (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2 = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v125) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S512x65536 : Shape := ⟨2, ![512, 65536]⟩
abbrev S512 : Shape := ⟨1, ![512]⟩
abbrev S512x2 : Shape := ⟨2, ![512, 2]⟩
abbrev S65536 : Shape := ⟨1, ![65536]⟩
abbrev S65536x2 : Shape := ⟨2, ![65536, 2]⟩
abbrev S2x16384 : Shape := ⟨2, ![2, 16384]⟩
abbrev S4096 : Shape := ⟨1, ![4096]⟩
abbrev S_ : Shape := ⟨0, ![]⟩

class Facts : Prop where
  bcast_S_S512 : S_.BroadcastsInDim S512 (![] : Fin 0 → Fin S512.rank)
  bcast_S_S65536 : S_.BroadcastsInDim S65536 (![] : Fin 0 → Fin S65536.rank)
  bcast_S_S2x16384 : S_.BroadcastsInDim S2x16384 (![] : Fin 0 → Fin S2x16384.rank)
  bcast_S_S4096 : S_.BroadcastsInDim S4096 (![] : Fin 0 → Fin S4096.rank)

variable [Facts]

def fn_part1 {F : FTy → Type} [FloatOps F] (main_arg6 : IVec S4096 32) (main_arg7 : IVec S4096 32) (main_v4 : IVec S512 1) (main_v9 : IVec S65536 1) (main_v14 : IVec S2x16384 1) (main_v16 : IVec S4096 1) : IVec S512 1 × IVec S65536 1 × IVec S2x16384 1 × IVec S4096 1 × IVec S4096 1 :=
  let main_c_6 : IVec S_ 32 := constantI S_ 32 512#32
  let main_v17 : IVec S4096 32 := broadcastInDim S4096 ![] bcast_S_S4096 main_c_6
  let main_v18 : IVec S4096 1 := cmpi .slt main_arg6 main_v17
  let main_v19 : IVec S4096 1 := andi main_v16 main_v18
  let main_c_7 : IVec S_ 32 := constantI S_ 32 0#32
  let main_v20 : IVec S4096 32 := broadcastInDim S4096 ![] bcast_S_S4096 main_c_7
  let main_v21 : IVec S4096 1 := cmpi .sge main_arg7 main_v20
  let main_c_8 : IVec S_ 32 := constantI S_ 32 65536#32
  let main_v22 : IVec S4096 32 := broadcastInDim S4096 ![] bcast_S_S4096 main_c_8
  let main_v23 : IVec S4096 1 := cmpi .slt main_arg7 main_v22
  let main_v24 : IVec S4096 1 := andi main_v21 main_v23
  (main_v4, main_v9, main_v14, main_v19, main_v24)

def fn {F : FTy → Type} [FloatOps F] (main_arg0 : FVec F S512x65536 .f32) (main_arg1 : IVec S512 32) (main_arg2 : IVec S512x2 32) (main_arg3 : IVec S65536 32) (main_arg4 : IVec S65536x2 32) (main_arg5 : IVec S2x16384 32) (main_arg6 : IVec S4096 32) (main_arg7 : IVec S4096 32) : IVec S512 1 × IVec S65536 1 × IVec S2x16384 1 × IVec S4096 1 × IVec S4096 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 2048#32
  let main_v2 : IVec S512 32 := broadcastInDim S512 ![] bcast_S_S512 main_c_0
  let main_v3 : IVec S512 1 := cmpi .slt main_arg1 main_v2
  let main_v4 : IVec S512 1 := andi main_v1 main_v3
  let main_c_1 : IVec S_ 32 := constantI S_ 32 0#32
  let main_v5 : IVec S65536 32 := broadcastInDim S65536 ![] bcast_S_S65536 main_c_1
  let main_v6 : IVec S65536 1 := cmpi .sge main_arg3 main_v5
  let main_c_2 : IVec S_ 32 := constantI S_ 32 2048#32
  let main_v7 : IVec S65536 32 := broadcastInDim S65536 ![] bcast_S_S65536 main_c_2
  let main_v8 : IVec S65536 1 := cmpi .slt main_arg3 main_v7
  let main_v9 : IVec S65536 1 := andi main_v6 main_v8
  let main_c_3 : IVec S_ 32 := constantI S_ 32 0#32
  let main_v10 : IVec S2x16384 32 := broadcastInDim S2x16384 ![] bcast_S_S2x16384 main_c_3
  let main_v11 : IVec S2x16384 1 := cmpi .sge main_arg5 main_v10
  let main_c_4 : IVec S_ 32 := constantI S_ 32 2048#32
  let main_v12 : IVec S2x16384 32 := broadcastInDim S2x16384 ![] bcast_S_S2x16384 main_c_4
  let main_v13 : IVec S2x16384 1 := cmpi .slt main_arg5 main_v12
  let main_v14 : IVec S2x16384 1 := andi main_v11 main_v13
  let main_c_5 : IVec S_ 32 := constantI S_ 32 0#32
  let main_v15 : IVec S4096 32 := broadcastInDim S4096 ![] bcast_S_S4096 main_c_5
  let main_v16 : IVec S4096 1 := cmpi .sge main_arg6 main_v15
  fn_part1 (F := F) main_arg6 main_arg7 main_v4 main_v9 main_v14 main_v16
-- ==== Kernel.lean ====
abbrev S512x65536 : Shape := ⟨2, ![512, 65536]⟩
abbrev S512 : Shape := ⟨1, ![512]⟩
abbrev S512x2 : Shape := ⟨2, ![512, 2]⟩
abbrev S65536 : Shape := ⟨1, ![65536]⟩
abbrev S65536x2 : Shape := ⟨2, ![65536, 2]⟩
abbrev S2x16384 : Shape := ⟨2, ![2, 16384]⟩
abbrev S4096 : Shape := ⟨1, ![4096]⟩
abbrev S512x1 : Shape := ⟨2, ![512, 1]⟩
abbrev S1x65536 : Shape := ⟨2, ![1, 65536]⟩
abbrev S65536x1 : Shape := ⟨2, ![65536, 1]⟩
abbrev S1x16384 : Shape := ⟨2, ![1, 16384]⟩
abbrev S16384 : Shape := ⟨1, ![16384]⟩
abbrev S16384x1 : Shape := ⟨2, ![16384, 1]⟩
abbrev S1x4096 : Shape := ⟨2, ![1, 4096]⟩
abbrev S512x2048 : Shape := ⟨2, ![512, 2048]⟩
abbrev S1x1024 : Shape := ⟨2, ![1, 1024]⟩
abbrev S1024x1 : Shape := ⟨2, ![1024, 1]⟩
abbrev S512x1024 : Shape := ⟨2, ![512, 1024]⟩
abbrev S1024x2048 : Shape := ⟨2, ![1024, 2048]⟩
abbrev S1x2048 : Shape := ⟨2, ![1, 2048]⟩
abbrev S2048x2048 : Shape := ⟨2, ![2048, 2048]⟩
abbrev S512x8x8192 : Shape := ⟨3, ![512, 8, 8192]⟩
abbrev S4096x1x1 : Shape := ⟨3, ![4096, 1, 1]⟩
abbrev S1x8x8192 : Shape := ⟨3, ![1, 8, 8192]⟩
abbrev S1 : Shape := ⟨1, ![1]⟩
abbrev S64x1x1 : Shape := ⟨3, ![64, 1, 1]⟩
abbrev S8x8192 : Shape := ⟨2, ![8, 8192]⟩
abbrev S1x8x128 : Shape := ⟨3, ![1, 8, 128]⟩
abbrev S8x128 : Shape := ⟨2, ![8, 128]⟩
abbrev S1x1x1 : Shape := ⟨3, ![1, 1, 1]⟩
abbrev S1x1 : Shape := ⟨2, ![1, 1]⟩
abbrev S512x4096 : Shape := ⟨2, ![512, 4096]⟩
abbrev S1x512 : Shape := ⟨2, ![1, 512]⟩
abbrev S1x512x1 : Shape := ⟨3, ![1, 512, 1]⟩
abbrev S_ : Shape := ⟨0, ![]⟩

abbrev nBuf : Space → Nat
  | .hbm => 39
  | .vmem => 157
  | .smem => 2
  | _ => 0

abbrev vmemTy0_0 (i : Nat) : BufTy := match i % 128 with
  | 0 => ⟨S512x1, .i32⟩
  | 1 => ⟨S1x1024, .i32⟩
  | 2 => ⟨S1x1024, .i32⟩
  | 3 => ⟨S1024x1, .i32⟩
  | 4 => ⟨S1024x1, .i32⟩
  | 5 => ⟨S512x2048, .bf16⟩
  | 6 => ⟨S512x2048, .f32⟩
  | 7 => ⟨S512x2048, .f32⟩
  | 8 => ⟨S512x2048, .f32⟩
  | 9 => ⟨S512x1, .i32⟩
  | 10 => ⟨S512x1, .i32⟩
  | 11 => ⟨S512x1, .i32⟩
  | 12 => ⟨S1x2048, .i32⟩
  | 13 => ⟨S1x2048, .i32⟩
  | 14 => ⟨S1x2048, .i32⟩
  | 15 => ⟨S1x2048, .i32⟩
  | 16 => ⟨S1x2048, .i32⟩
  | 17 => ⟨S1x2048, .i32⟩
  | 18 => ⟨S512x2048, .bf16⟩
  | 19 => ⟨S512x2048, .f32⟩
  | 20 => ⟨S512x2048, .f32⟩
  | 21 => ⟨S1x8x8192, .f32⟩
  | 22 => ⟨S1x8x8192, .f32⟩
  | 23 => ⟨S1x8x8192, .f32⟩
  | 24 => ⟨S1x8x8192, .f32⟩
  | 25 => ⟨S1x8x8192, .f32⟩
  | 26 => ⟨S1x8x8192, .f32⟩
  | 27 => ⟨S1x8x8192, .f32⟩
  | 28 => ⟨S1x8x8192, .f32⟩
  | 29 => ⟨S1x8x8192, .f32⟩
  | 30 => ⟨S1x8x8192, .f32⟩
  | 31 => ⟨S1x8x8192, .f32⟩
  | 32 => ⟨S1x8x8192, .f32⟩
  | 33 => ⟨S1x8x8192, .f32⟩
  | 34 => ⟨S1x8x8192, .f32⟩
  | 35 => ⟨S1x8x8192, .f32⟩
  | 36 => ⟨S1x8x8192, .f32⟩
  | 37 => ⟨S1x8x8192, .f32⟩
  | 38 => ⟨S1x8x8192, .f32⟩
  | 39 => ⟨S1x8x8192, .f32⟩
  | 40 => ⟨S1x8x8192, .f32⟩
  | 41 => ⟨S1x8x8192, .f32⟩
  | 42 => ⟨S1x8x8192, .f32⟩
  | 43 => ⟨S1x8x8192, .f32⟩
  | 44 => ⟨S1x8x8192, .f32⟩
  | 45 => ⟨S1x8x8192, .f32⟩
  | 46 => ⟨S1x8x8192, .f32⟩
  | 47 => ⟨S1x8x8192, .f32⟩
  | 48 => ⟨S1x8x8192, .f32⟩
  | 49 => ⟨S1x8x8192, .f32⟩
  | 50 => ⟨S1x8x8192, .f32⟩
  | 51 => ⟨S1x8x8192, .f32⟩
  | 52 => ⟨S1x8x8192, .f32⟩
  | 53 => ⟨S1x8x8192, .f32⟩
  | 54 => ⟨S1x8x8192, .f32⟩
  | 55 => ⟨S1x8x8192, .f32⟩
  | 56 => ⟨S1x8x8192, .f32⟩
  | 57 => ⟨S1x8x8192, .f32⟩
  | 58 => ⟨S1x8x8192, .f32⟩
  | 59 => ⟨S1x8x8192, .f32⟩
  | 60 => ⟨S1x8x8192, .f32⟩
  | 61 => ⟨S1x8x8192, .f32⟩
  | 62 => ⟨S1x8x8192, .f32⟩
  | 63 => ⟨S1x8x8192, .f32⟩
  | 64 => ⟨S1x8x8192, .f32⟩
  | 65 => ⟨S1x8x8192, .f32⟩
  | 66 => ⟨S1x8x8192, .f32⟩
  | 67 => ⟨S1x8x8192, .f32⟩
  | 68 => ⟨S1x8x8192, .f32⟩
  | 69 => ⟨S1x8x8192, .f32⟩
  | 70 => ⟨S1x8x8192, .f32⟩
  | 71 => ⟨S1x8x8192, .f32⟩
  | 72 => ⟨S1x8x8192, .f32⟩
  | 73 => ⟨S1x8x8192, .f32⟩
  | 74 => ⟨S1x8x8192, .f32⟩
  | 75 => ⟨S1x8x8192, .f32⟩
  | 76 => ⟨S1x8x8192, .f32⟩
  | 77 => ⟨S1x8x8192, .f32⟩
  | 78 => ⟨S1x8x8192, .f32⟩
  | 79 => ⟨S1x8x8192, .f32⟩
  | 80 => ⟨S1x8x8192, .f32⟩
  | 81 => ⟨S1x8x8192, .f32⟩
  | 82 => ⟨S1x8x8192, .f32⟩
  | 83 => ⟨S1x8x8192, .f32⟩
  | 84 => ⟨S1x8x8192, .f32⟩
  | 85 => ⟨S1x8x8192, .f32⟩
  | 86 => ⟨S1x8x8192, .f32⟩
  | 87 => ⟨S1x8x8192, .f32⟩
  | 88 => ⟨S1x8x8192, .f32⟩
  | 89 => ⟨S1x8x8192, .f32⟩
  | 90 => ⟨S1x8x8192, .f32⟩
  | 91 => ⟨S1x8x8192, .f32⟩
  | 92 => ⟨S1x8x8192, .f32⟩
  | 93 => ⟨S1x8x8192, .f32⟩
  | 94 => ⟨S1x8x8192, .f32⟩
  | 95 => ⟨S1x8x8192, .f32⟩
  | 96 => ⟨S1x8x8192, .f32⟩
  | 97 => ⟨S1x8x8192, .f32⟩
  | 98 => ⟨S1x8x8192, .f32⟩
  | 99 => ⟨S1x8x8192, .f32⟩
  | 100 => ⟨S1x8x8192, .f32⟩
  | 101 => ⟨S1x8x8192, .f32⟩
  | 102 => ⟨S1x8x8192, .f32⟩
  | 103 => ⟨S1x8x8192, .f32⟩
  | 104 => ⟨S1x8x8192, .f32⟩
  | 105 => ⟨S1x8x8192, .f32⟩
  | 106 => ⟨S1x8x8192, .f32⟩
  | 107 => ⟨S1x8x8192, .f32⟩
  | 108 => ⟨S1x8x8192, .f32⟩
  | 109 => ⟨S1x8x8192, .f32⟩
  | 110 => ⟨S1x8x8192, .f32⟩
  | 111 => ⟨S1x8x8192, .f32⟩
  | 112 => ⟨S1x8x8192, .f32⟩
  | 113 => ⟨S1x8x8192, .f32⟩
  | 114 => ⟨S1x8x8192, .f32⟩
  | 115 => ⟨S1x8x8192, .f32⟩
  | 116 => ⟨S1x8x8192, .f32⟩
  | 117 => ⟨S1x8x8192, .f32⟩
  | 118 => ⟨S1x8x8192, .f32⟩
  | 119 => ⟨S1x8x8192, .f32⟩
  | 120 => ⟨S1x8x8192, .f32⟩
  | 121 => ⟨S1x8x8192, .f32⟩
  | 122 => ⟨S1x8x8192, .f32⟩
  | 123 => ⟨S1x8x8192, .f32⟩
  | 124 => ⟨S1x8x8192, .f32⟩
  | 125 => ⟨S1x8x8192, .f32⟩
  | 126 => ⟨S1x8x8192, .f32⟩
  | 127 => ⟨S1x8x8192, .f32⟩
  | _ => ⟨S512x65536, .f32⟩

abbrev vmemTy0_1 (i : Nat) : BufTy := match i % 128 with
  | 0 => ⟨S1x8x8192, .f32⟩
  | 1 => ⟨S1x8x8192, .f32⟩
  | 2 => ⟨S1x8x8192, .f32⟩
  | 3 => ⟨S1x8x8192, .f32⟩
  | 4 => ⟨S1x8x8192, .f32⟩
  | 5 => ⟨S1x8x8192, .f32⟩
  | 6 => ⟨S1x8x8192, .f32⟩
  | 7 => ⟨S1x8x8192, .f32⟩
  | 8 => ⟨S1x8x8192, .f32⟩
  | 9 => ⟨S1x8x8192, .f32⟩
  | 10 => ⟨S1x8x8192, .f32⟩
  | 11 => ⟨S1x8x8192, .f32⟩
  | 12 => ⟨S1x8x8192, .f32⟩
  | 13 => ⟨S1x8x8192, .f32⟩
  | 14 => ⟨S1x8x8192, .f32⟩
  | 15 => ⟨S1x8x8192, .f32⟩
  | 16 => ⟨S1x8x8192, .f32⟩
  | 17 => ⟨S1x8x8192, .f32⟩
  | 18 => ⟨S1x8x8192, .f32⟩
  | 19 => ⟨S1x8x8192, .f32⟩
  | 20 => ⟨S1x8x8192, .f32⟩
  | 21 => ⟨S64x1x1, .f32⟩
  | 22 => ⟨S64x1x1, .f32⟩
  | 23 => ⟨S1x4096, .f32⟩
  | 24 => ⟨S1x4096, .i32⟩
  | 25 => ⟨S1x4096, .i32⟩
  | 26 => ⟨S1x1, .f32⟩
  | 27 => ⟨S1x1, .f32⟩
  | 28 => ⟨S1x1, .f32⟩
  | _ => ⟨S512x65536, .f32⟩

abbrev vmemTy (i : Nat) : BufTy := match i / 128 with
  | 0 => vmemTy0_0 i
  | 1 => vmemTy0_1 i
  | _ => ⟨S512x65536, .f32⟩

abbrev bufTy : (tb : Table) → Fin (tcTables nBuf tb) → BufTy
  | .hbm, ⟨0, _⟩ => ⟨S512x65536, .f32⟩
  | .hbm, ⟨1, _⟩ => ⟨S512, .i32⟩
  | .hbm, ⟨2, _⟩ => ⟨S512x2, .i32⟩
  | .hbm, ⟨3, _⟩ => ⟨S65536, .i32⟩
  | .hbm, ⟨4, _⟩ => ⟨S65536x2, .i32⟩
  | .hbm, ⟨5, _⟩ => ⟨S2x16384, .i32⟩
  | .hbm, ⟨6, _⟩ => ⟨S512x1, .i32⟩
  | .hbm, ⟨7, _⟩ => ⟨S512x1, .i32⟩
  | .hbm, ⟨8, _⟩ => ⟨S512, .i32⟩
  | .hbm, ⟨9, _⟩ => ⟨S512x1, .i32⟩
  | .hbm, ⟨10, _⟩ => ⟨S512x1, .i32⟩
  | .hbm, ⟨11, _⟩ => ⟨S512, .i32⟩
  | .hbm, ⟨12, _⟩ => ⟨S512x1, .i32⟩
  | .hbm, ⟨13, _⟩ => ⟨S1x65536, .i32⟩
  | .hbm, ⟨14, _⟩ => ⟨S65536x1, .i32⟩
  | .hbm, ⟨15, _⟩ => ⟨S65536, .i32⟩
  | .hbm, ⟨16, _⟩ => ⟨S1x65536, .i32⟩
  | .hbm, ⟨17, _⟩ => ⟨S65536x1, .i32⟩
  | .hbm, ⟨18, _⟩ => ⟨S65536, .i32⟩
  | .hbm, ⟨19, _⟩ => ⟨S1x65536, .i32⟩
  | .hbm, ⟨20, _⟩ => ⟨S1x16384, .i32⟩
  | .hbm, ⟨21, _⟩ => ⟨S16384, .i32⟩
  | .hbm, ⟨22, _⟩ => ⟨S1x16384, .i32⟩
  | .hbm, ⟨23, _⟩ => ⟨S1x16384, .i32⟩
  | .hbm, ⟨24, _⟩ => ⟨S16384, .i32⟩
  | .hbm, ⟨25, _⟩ => ⟨S16384x1, .i32⟩
  | .hbm, ⟨26, _⟩ => ⟨S1x4096, .i32⟩
  | .hbm, ⟨27, _⟩ => ⟨S1x4096, .i32⟩
  | .hbm, ⟨28, _⟩ => ⟨S512x2048, .bf16⟩
  | .hbm, ⟨29, _⟩ => ⟨S512x65536, .f32⟩
  | .hbm, ⟨30, _⟩ => ⟨S512x8x8192, .f32⟩
  | .hbm, ⟨31, _⟩ => ⟨S4096x1x1, .f32⟩
  | .hbm, ⟨32, _⟩ => ⟨S1x4096, .f32⟩
  | .hbm, ⟨33, _⟩ => ⟨S1x1, .f32⟩
  | .hbm, ⟨34, _⟩ => ⟨S1x1, .f32⟩
  | .hbm, ⟨35, _⟩ => ⟨S1x1, .f32⟩
  | .hbm, ⟨36, _⟩ => ⟨S_, .f32⟩
  | .hbm, ⟨37, _⟩ => ⟨S_, .f32⟩
  | .hbm, ⟨38, _⟩ => ⟨S_, .f32⟩
  | .local _ .vmem, ⟨i, _⟩ => vmemTy i
  | .local _ .smem, ⟨0, _⟩ => ⟨S4096, .i32⟩
  | .local _ .smem, ⟨1, _⟩ => ⟨S4096, .i32⟩
  | _, _ => ⟨S512x65536, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 156 → Bool
  | ⟨i, _⟩ => dmaSemScopedAt i

abbrev sig : RefSig :=
  ofTc nBuf bufTy 0 156 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v27_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_arg6 : Ref sig .tc := ⟨.smem, 0, rfl⟩
abbrev main_arg7 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc2_stg9_0 : Ref sig .tc := ⟨.vmem, 39, rfl⟩
abbrev cc2_stg9_1 : Ref sig .tc := ⟨.vmem, 40, rfl⟩
abbrev cc2_stg10_0 : Ref sig .tc := ⟨.vmem, 41, rfl⟩
abbrev cc2_stg10_1 : Ref sig .tc := ⟨.vmem, 42, rfl⟩
abbrev cc2_stg11_0 : Ref sig .tc := ⟨.vmem, 43, rfl⟩
abbrev cc2_stg11_1 : Ref sig .tc := ⟨.vmem, 44, rfl⟩
abbrev cc2_stg12_0 : Ref sig .tc := ⟨.vmem, 45, rfl⟩
abbrev cc2_stg12_1 : Ref sig .tc := ⟨.vmem, 46, rfl⟩
abbrev cc2_stg13_0 : Ref sig .tc := ⟨.vmem, 47, rfl⟩
abbrev cc2_stg13_1 : Ref sig .tc := ⟨.vmem, 48, rfl⟩
abbrev cc2_stg14_0 : Ref sig .tc := ⟨.vmem, 49, rfl⟩
abbrev cc2_stg14_1 : Ref sig .tc := ⟨.vmem, 50, rfl⟩
abbrev cc2_stg15_0 : Ref sig .tc := ⟨.vmem, 51, rfl⟩
abbrev cc2_stg15_1 : Ref sig .tc := ⟨.vmem, 52, rfl⟩
abbrev cc2_stg16_0 : Ref sig .tc := ⟨.vmem, 53, rfl⟩
abbrev cc2_stg16_1 : Ref sig .tc := ⟨.vmem, 54, rfl⟩
abbrev cc2_stg17_0 : Ref sig .tc := ⟨.vmem, 55, rfl⟩
abbrev cc2_stg17_1 : Ref sig .tc := ⟨.vmem, 56, rfl⟩
abbrev cc2_stg18_0 : Ref sig .tc := ⟨.vmem, 57, rfl⟩
abbrev cc2_stg18_1 : Ref sig .tc := ⟨.vmem, 58, rfl⟩
abbrev cc2_stg19_0 : Ref sig .tc := ⟨.vmem, 59, rfl⟩
abbrev cc2_stg19_1 : Ref sig .tc := ⟨.vmem, 60, rfl⟩
abbrev cc2_stg20_0 : Ref sig .tc := ⟨.vmem, 61, rfl⟩
abbrev cc2_stg20_1 : Ref sig .tc := ⟨.vmem, 62, rfl⟩
abbrev cc2_stg21_0 : Ref sig .tc := ⟨.vmem, 63, rfl⟩
abbrev cc2_stg21_1 : Ref sig .tc := ⟨.vmem, 64, rfl⟩
abbrev cc2_stg22_0 : Ref sig .tc := ⟨.vmem, 65, rfl⟩
abbrev cc2_stg22_1 : Ref sig .tc := ⟨.vmem, 66, rfl⟩
abbrev cc2_stg23_0 : Ref sig .tc := ⟨.vmem, 67, rfl⟩
abbrev cc2_stg23_1 : Ref sig .tc := ⟨.vmem, 68, rfl⟩
abbrev cc2_stg24_0 : Ref sig .tc := ⟨.vmem, 69, rfl⟩
abbrev cc2_stg24_1 : Ref sig .tc := ⟨.vmem, 70, rfl⟩
abbrev cc2_stg25_0 : Ref sig .tc := ⟨.vmem, 71, rfl⟩
abbrev cc2_stg25_1 : Ref sig .tc := ⟨.vmem, 72, rfl⟩
abbrev cc2_stg26_0 : Ref sig .tc := ⟨.vmem, 73, rfl⟩
abbrev cc2_stg26_1 : Ref sig .tc := ⟨.vmem, 74, rfl⟩
abbrev cc2_stg27_0 : Ref sig .tc := ⟨.vmem, 75, rfl⟩
abbrev cc2_stg27_1 : Ref sig .tc := ⟨.vmem, 76, rfl⟩
abbrev cc2_stg28_0 : Ref sig .tc := ⟨.vmem, 77, rfl⟩
abbrev cc2_stg28_1 : Ref sig .tc := ⟨.vmem, 78, rfl⟩
abbrev cc2_stg29_0 : Ref sig .tc := ⟨.vmem, 79, rfl⟩
abbrev cc2_stg29_1 : Ref sig .tc := ⟨.vmem, 80, rfl⟩
abbrev cc2_stg30_0 : Ref sig .tc := ⟨.vmem, 81, rfl⟩
abbrev cc2_stg30_1 : Ref sig .tc := ⟨.vmem, 82, rfl⟩
abbrev cc2_stg31_0 : Ref sig .tc := ⟨.vmem, 83, rfl⟩
abbrev cc2_stg31_1 : Ref sig .tc := ⟨.vmem, 84, rfl⟩
abbrev cc2_stg32_0 : Ref sig .tc := ⟨.vmem, 85, rfl⟩
abbrev cc2_stg32_1 : Ref sig .tc := ⟨.vmem, 86, rfl⟩
abbrev cc2_stg33_0 : Ref sig .tc := ⟨.vmem, 87, rfl⟩
abbrev cc2_stg33_1 : Ref sig .tc := ⟨.vmem, 88, rfl⟩
abbrev cc2_stg34_0 : Ref sig .tc := ⟨.vmem, 89, rfl⟩
abbrev cc2_stg34_1 : Ref sig .tc := ⟨.vmem, 90, rfl⟩
abbrev cc2_stg35_0 : Ref sig .tc := ⟨.vmem, 91, rfl⟩
abbrev cc2_stg35_1 : Ref sig .tc := ⟨.vmem, 92, rfl⟩
abbrev cc2_stg36_0 : Ref sig .tc := ⟨.vmem, 93, rfl⟩
abbrev cc2_stg36_1 : Ref sig .tc := ⟨.vmem, 94, rfl⟩
abbrev cc2_stg37_0 : Ref sig .tc := ⟨.vmem, 95, rfl⟩
abbrev cc2_stg37_1 : Ref sig .tc := ⟨.vmem, 96, rfl⟩
abbrev cc2_stg38_0 : Ref sig .tc := ⟨.vmem, 97, rfl⟩
abbrev cc2_stg38_1 : Ref sig .tc := ⟨.vmem, 98, rfl⟩
abbrev cc2_stg39_0 : Ref sig .tc := ⟨.vmem, 99, rfl⟩
abbrev cc2_stg39_1 : Ref sig .tc := ⟨.vmem, 100, rfl⟩
abbrev cc2_stg40_0 : Ref sig .tc := ⟨.vmem, 101, rfl⟩
abbrev cc2_stg40_1 : Ref sig .tc := ⟨.vmem, 102, rfl⟩
abbrev cc2_stg41_0 : Ref sig .tc := ⟨.vmem, 103, rfl⟩
abbrev cc2_stg41_1 : Ref sig .tc := ⟨.vmem, 104, rfl⟩
abbrev cc2_stg42_0 : Ref sig .tc := ⟨.vmem, 105, rfl⟩
abbrev cc2_stg42_1 : Ref sig .tc := ⟨.vmem, 106, rfl⟩
abbrev cc2_stg43_0 : Ref sig .tc := ⟨.vmem, 107, rfl⟩
abbrev cc2_stg43_1 : Ref sig .tc := ⟨.vmem, 108, rfl⟩
abbrev cc2_stg44_0 : Ref sig .tc := ⟨.vmem, 109, rfl⟩
abbrev cc2_stg44_1 : Ref sig .tc := ⟨.vmem, 110, rfl⟩
abbrev cc2_stg45_0 : Ref sig .tc := ⟨.vmem, 111, rfl⟩
abbrev cc2_stg45_1 : Ref sig .tc := ⟨.vmem, 112, rfl⟩
abbrev cc2_stg46_0 : Ref sig .tc := ⟨.vmem, 113, rfl⟩
abbrev cc2_stg46_1 : Ref sig .tc := ⟨.vmem, 114, rfl⟩
abbrev cc2_stg47_0 : Ref sig .tc := ⟨.vmem, 115, rfl⟩
abbrev cc2_stg47_1 : Ref sig .tc := ⟨.vmem, 116, rfl⟩
abbrev cc2_stg48_0 : Ref sig .tc := ⟨.vmem, 117, rfl⟩
abbrev cc2_stg48_1 : Ref sig .tc := ⟨.vmem, 118, rfl⟩
abbrev cc2_stg49_0 : Ref sig .tc := ⟨.vmem, 119, rfl⟩
abbrev cc2_stg49_1 : Ref sig .tc := ⟨.vmem, 120, rfl⟩
abbrev cc2_stg50_0 : Ref sig .tc := ⟨.vmem, 121, rfl⟩
abbrev cc2_stg50_1 : Ref sig .tc := ⟨.vmem, 122, rfl⟩
abbrev cc2_stg51_0 : Ref sig .tc := ⟨.vmem, 123, rfl⟩
abbrev cc2_stg51_1 : Ref sig .tc := ⟨.vmem, 124, rfl⟩
abbrev cc2_stg52_0 : Ref sig .tc := ⟨.vmem, 125, rfl⟩
abbrev cc2_stg52_1 : Ref sig .tc := ⟨.vmem, 126, rfl⟩
abbrev cc2_stg53_0 : Ref sig .tc := ⟨.vmem, 127, rfl⟩
abbrev cc2_stg53_1 : Ref sig .tc := ⟨.vmem, 128, rfl⟩
abbrev cc2_stg54_0 : Ref sig .tc := ⟨.vmem, 129, rfl⟩
abbrev cc2_stg54_1 : Ref sig .tc := ⟨.vmem, 130, rfl⟩
abbrev cc2_stg55_0 : Ref sig .tc := ⟨.vmem, 131, rfl⟩
abbrev cc2_stg55_1 : Ref sig .tc := ⟨.vmem, 132, rfl⟩
abbrev cc2_stg56_0 : Ref sig .tc := ⟨.vmem, 133, rfl⟩
abbrev cc2_stg56_1 : Ref sig .tc := ⟨.vmem, 134, rfl⟩
abbrev cc2_stg57_0 : Ref sig .tc := ⟨.vmem, 135, rfl⟩
abbrev cc2_stg57_1 : Ref sig .tc := ⟨.vmem, 136, rfl⟩
abbrev cc2_stg58_0 : Ref sig .tc := ⟨.vmem, 137, rfl⟩
abbrev cc2_stg58_1 : Ref sig .tc := ⟨.vmem, 138, rfl⟩
abbrev cc2_stg59_0 : Ref sig .tc := ⟨.vmem, 139, rfl⟩
abbrev cc2_stg59_1 : Ref sig .tc := ⟨.vmem, 140, rfl⟩
abbrev cc2_stg60_0 : Ref sig .tc := ⟨.vmem, 141, rfl⟩
abbrev cc2_stg60_1 : Ref sig .tc := ⟨.vmem, 142, rfl⟩
abbrev cc2_stg61_0 : Ref sig .tc := ⟨.vmem, 143, rfl⟩
abbrev cc2_stg61_1 : Ref sig .tc := ⟨.vmem, 144, rfl⟩
abbrev cc2_stg62_0 : Ref sig .tc := ⟨.vmem, 145, rfl⟩
abbrev cc2_stg62_1 : Ref sig .tc := ⟨.vmem, 146, rfl⟩
abbrev cc2_stg63_0 : Ref sig .tc := ⟨.vmem, 147, rfl⟩
abbrev cc2_stg63_1 : Ref sig .tc := ⟨.vmem, 148, rfl⟩
abbrev cc2_stg64_0 : Ref sig .tc := ⟨.vmem, 149, rfl⟩
abbrev cc2_stg64_1 : Ref sig .tc := ⟨.vmem, 150, rfl⟩
abbrev cc3_stg0_0 : Ref sig .tc := ⟨.vmem, 151, rfl⟩
abbrev cc3_stg1_0 : Ref sig .tc := ⟨.vmem, 152, rfl⟩
abbrev cc3_stg2_0 : Ref sig .tc := ⟨.vmem, 153, rfl⟩
abbrev cc3_stg3_0 : Ref sig .tc := ⟨.vmem, 154, rfl⟩
abbrev cc3_stg4_0 : Ref sig .tc := ⟨.vmem, 155, rfl⟩
abbrev cc3_stg5_0 : Ref sig .tc := ⟨.vmem, 156, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc2_sem9_0 : DmaSem sig := 38
abbrev cc2_sem9_1 : DmaSem sig := 39
abbrev cc2_sem10_0 : DmaSem sig := 40
abbrev cc2_sem10_1 : DmaSem sig := 41
abbrev cc2_sem11_0 : DmaSem sig := 42
abbrev cc2_sem11_1 : DmaSem sig := 43
abbrev cc2_sem12_0 : DmaSem sig := 44
abbrev cc2_sem12_1 : DmaSem sig := 45
abbrev cc2_sem13_0 : DmaSem sig := 46
abbrev cc2_sem13_1 : DmaSem sig := 47
abbrev cc2_sem14_0 : DmaSem sig := 48
abbrev cc2_sem14_1 : DmaSem sig := 49
abbrev cc2_sem15_0 : DmaSem sig := 50
abbrev cc2_sem15_1 : DmaSem sig := 51
abbrev cc2_sem16_0 : DmaSem sig := 52
abbrev cc2_sem16_1 : DmaSem sig := 53
abbrev cc2_sem17_0 : DmaSem sig := 54
abbrev cc2_sem17_1 : DmaSem sig := 55
abbrev cc2_sem18_0 : DmaSem sig := 56
abbrev cc2_sem18_1 : DmaSem sig := 57
abbrev cc2_sem19_0 : DmaSem sig := 58
abbrev cc2_sem19_1 : DmaSem sig := 59
abbrev cc2_sem20_0 : DmaSem sig := 60
abbrev cc2_sem20_1 : DmaSem sig := 61
abbrev cc2_sem21_0 : DmaSem sig := 62
abbrev cc2_sem21_1 : DmaSem sig := 63
abbrev cc2_sem22_0 : DmaSem sig := 64
abbrev cc2_sem22_1 : DmaSem sig := 65
abbrev cc2_sem23_0 : DmaSem sig := 66
abbrev cc2_sem23_1 : DmaSem sig := 67
abbrev cc2_sem24_0 : DmaSem sig := 68
abbrev cc2_sem24_1 : DmaSem sig := 69
abbrev cc2_sem25_0 : DmaSem sig := 70
abbrev cc2_sem25_1 : DmaSem sig := 71
abbrev cc2_sem26_0 : DmaSem sig := 72
abbrev cc2_sem26_1 : DmaSem sig := 73
abbrev cc2_sem27_0 : DmaSem sig := 74
abbrev cc2_sem27_1 : DmaSem sig := 75
abbrev cc2_sem28_0 : DmaSem sig := 76
abbrev cc2_sem28_1 : DmaSem sig := 77
abbrev cc2_sem29_0 : DmaSem sig := 78
abbrev cc2_sem29_1 : DmaSem sig := 79
abbrev cc2_sem30_0 : DmaSem sig := 80
abbrev cc2_sem30_1 : DmaSem sig := 81
abbrev cc2_sem31_0 : DmaSem sig := 82
abbrev cc2_sem31_1 : DmaSem sig := 83
abbrev cc2_sem32_0 : DmaSem sig := 84
abbrev cc2_sem32_1 : DmaSem sig := 85
abbrev cc2_sem33_0 : DmaSem sig := 86
abbrev cc2_sem33_1 : DmaSem sig := 87
abbrev cc2_sem34_0 : DmaSem sig := 88
abbrev cc2_sem34_1 : DmaSem sig := 89
abbrev cc2_sem35_0 : DmaSem sig := 90
abbrev cc2_sem35_1 : DmaSem sig := 91
abbrev cc2_sem36_0 : DmaSem sig := 92
abbrev cc2_sem36_1 : DmaSem sig := 93
abbrev cc2_sem37_0 : DmaSem sig := 94
abbrev cc2_sem37_1 : DmaSem sig := 95
abbrev cc2_sem38_0 : DmaSem sig := 96
abbrev cc2_sem38_1 : DmaSem sig := 97
abbrev cc2_sem39_0 : DmaSem sig := 98
abbrev cc2_sem39_1 : DmaSem sig := 99
abbrev cc2_sem40_0 : DmaSem sig := 100
abbrev cc2_sem40_1 : DmaSem sig := 101
abbrev cc2_sem41_0 : DmaSem sig := 102
abbrev cc2_sem41_1 : DmaSem sig := 103
abbrev cc2_sem42_0 : DmaSem sig := 104
abbrev cc2_sem42_1 : DmaSem sig := 105
abbrev cc2_sem43_0 : DmaSem sig := 106
abbrev cc2_sem43_1 : DmaSem sig := 107
abbrev cc2_sem44_0 : DmaSem sig := 108
abbrev cc2_sem44_1 : DmaSem sig := 109
abbrev cc2_sem45_0 : DmaSem sig := 110
abbrev cc2_sem45_1 : DmaSem sig := 111
abbrev cc2_sem46_0 : DmaSem sig := 112
abbrev cc2_sem46_1 : DmaSem sig := 113
abbrev cc2_sem47_0 : DmaSem sig := 114
abbrev cc2_sem47_1 : DmaSem sig := 115
abbrev cc2_sem48_0 : DmaSem sig := 116
abbrev cc2_sem48_1 : DmaSem sig := 117
abbrev cc2_sem49_0 : DmaSem sig := 118
abbrev cc2_sem49_1 : DmaSem sig := 119
abbrev cc2_sem50_0 : DmaSem sig := 120
abbrev cc2_sem50_1 : DmaSem sig := 121
abbrev cc2_sem51_0 : DmaSem sig := 122
abbrev cc2_sem51_1 : DmaSem sig := 123
abbrev cc2_sem52_0 : DmaSem sig := 124
abbrev cc2_sem52_1 : DmaSem sig := 125
abbrev cc2_sem53_0 : DmaSem sig := 126
abbrev cc2_sem53_1 : DmaSem sig := 127
abbrev cc2_sem54_0 : DmaSem sig := 128
abbrev cc2_sem54_1 : DmaSem sig := 129
abbrev cc2_sem55_0 : DmaSem sig := 130
abbrev cc2_sem55_1 : DmaSem sig := 131
abbrev cc2_sem56_0 : DmaSem sig := 132
abbrev cc2_sem56_1 : DmaSem sig := 133
abbrev cc2_sem57_0 : DmaSem sig := 134
abbrev cc2_sem57_1 : DmaSem sig := 135
abbrev cc2_sem58_0 : DmaSem sig := 136
abbrev cc2_sem58_1 : DmaSem sig := 137
abbrev cc2_sem59_0 : DmaSem sig := 138
abbrev cc2_sem59_1 : DmaSem sig := 139
abbrev cc2_sem60_0 : DmaSem sig := 140
abbrev cc2_sem60_1 : DmaSem sig := 141
abbrev cc2_sem61_0 : DmaSem sig := 142
abbrev cc2_sem61_1 : DmaSem sig := 143
abbrev cc2_sem62_0 : DmaSem sig := 144
abbrev cc2_sem62_1 : DmaSem sig := 145
abbrev cc2_sem63_0 : DmaSem sig := 146
abbrev cc2_sem63_1 : DmaSem sig := 147
abbrev cc2_sem64_0 : DmaSem sig := 148
abbrev cc2_sem64_1 : DmaSem sig := 149
abbrev cc3_sem0_0 : DmaSem sig := 150
abbrev cc3_sem1_0 : DmaSem sig := 151
abbrev cc3_sem2_0 : DmaSem sig := 152
abbrev cc3_sem3_0 : DmaSem sig := 153
abbrev cc3_sem4_0 : DmaSem sig := 154
abbrev cc3_sem5_0 : DmaSem sig := 155

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v27 : BitVec 1 := Scalar.cmpi .eq arg0 c15_i32
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x2048 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2048 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S512x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![64], ![false]⟩

abbrev pre2 : Pipeline.Prefetch sig := ⟨2, ![main_arg6.idx, main_arg7.idx], fun | 0 => main_arg6.names | 1 => main_arg7.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) (c0_i32 : BitVec 32) : Fin 1 → Nat :=
  let arg0 : BitVec 32 := BitVec.ofNat 32 (i 0).val
  let c64_i32 : BitVec 32 := 64#32
  let v0 : BitVec 32 := Scalar.muli arg0 c64_i32
  let v1 : BitVec 32 := Scalar.addi v0 c0_i32
  let v2 : Index := Scalar.indexCast v1
  ![v2.toNat]
def k2_off2 (v3 : BitVec 32) : Fin 3 → Nat :=
  let c0_14 : Index := 0#32
  let c0_15 : Index := 0#32
  let c8192_i32_2 : BitVec 32 := 8192#32
  let c0_i32_3 : BitVec 32 := 0#32
  let v11 : BitVec 1 := Scalar.cmpi .eq c8192_i32_2 c0_i32_3
  let c1_i32 : BitVec 32 := 1#32
  let v12 : BitVec 32 := Scalar.select v11 c1_i32 c8192_i32_2
  let v13 : BitVec 32 := Scalar.remsi v3 v12
  let c0_i32_5 : BitVec 32 := 0#32
  let v15 : BitVec 1 := Scalar.cmpi .slt v13 c0_i32_5
  let c0_i32_6 : BitVec 32 := 0#32
  let v16 : BitVec 1 := Scalar.cmpi .slt v12 c0_i32_6
  let v17 : BitVec 1 := Scalar.xori v15 v16
  let c0_i32_4 : BitVec 32 := 0#32
  let v14 : BitVec 1 := Scalar.cmpi .ne v13 c0_i32_4
  let v18 : BitVec 1 := Scalar.andi v17 v14
  let v19 : BitVec 32 := Scalar.addi v13 v12
  let v20 : BitVec 32 := Scalar.select v18 v19 v13
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c128_i32 : BitVec 32 := 128#32
  let c0_i32_9 : BitVec 32 := 0#32
  let v27 : BitVec 1 := Scalar.cmpi .sgt c128_i32 c0_i32_9
  let v28 : BitVec 32 := Scalar.extui v27
  let c0_i32_10 : BitVec 32 := 0#32
  let v29 : BitVec 1 := Scalar.cmpi .slt c128_i32 c0_i32_10
  let v30 : BitVec 32 := Scalar.extui v29
  let v31 : BitVec 32 := Scalar.subi v28 v30
  let v32 : BitVec 1 := Scalar.cmpi .ne v26 v31
  let v33 : BitVec 32 := Scalar.remsi v20 c128_i32
  let c0_i32_11 : BitVec 32 := 0#32
  let v34 : BitVec 1 := Scalar.cmpi .ne v33 c0_i32_11
  let v35 : BitVec 1 := Scalar.andi v32 v34
  let v21 : BitVec 32 := Scalar.divsi v20 c128_i32
  let c1_i32_12 : BitVec 32 := 1#32
  let v36 : BitVec 32 := Scalar.subi v21 c1_i32_12
  let v37 : BitVec 32 := Scalar.select v35 v36 v21
  let c128_i32_13 : BitVec 32 := 128#32
  let v38 : BitVec 32 := Scalar.muli v37 c128_i32_13
  let v39 : Index := Scalar.indexCast v38
  ![0, 0, v39.toNat]

def k2_chk1 (v3 : BitVec 32) : Prop :=
  (∀ a, (k2_off2 v3) a + S1x8x128.size a ≤ S1x8x8192.size a)
theorem k2_off2_inb : ∀ (v3 : BitVec 32) (k2_hw1 : k2_chk1 v3), ∀ a, (k2_off2 v3) a + S1x8x128.size a ≤ S1x8x8192.size a := fun v3 k2_hw1 => k2_hw1

def k2_off3 (i : grid2.Coords) : Fin 1 → Nat :=
  let arg0 : BitVec 32 := BitVec.ofNat 32 (i 0).val
  let c64_i32_26 : BitVec 32 := 64#32
  let v89 : BitVec 32 := Scalar.muli arg0 c64_i32_26
  let c1_i32_27 : BitVec 32 := 1#32
  let v90 : BitVec 32 := Scalar.addi v89 c1_i32_27
  let v91 : Index := Scalar.indexCast v90
  ![v91.toNat]
def k2_off4 (v92 : BitVec 32) : Fin 3 → Nat :=
  let c0_46 : Index := 0#32
  let c0_47 : Index := 0#32
  let c8192_i32_32 : BitVec 32 := 8192#32
  let c0_i32_33 : BitVec 32 := 0#32
  let v100 : BitVec 1 := Scalar.cmpi .eq c8192_i32_32 c0_i32_33
  let c1_i32_34 : BitVec 32 := 1#32
  let v101 : BitVec 32 := Scalar.select v100 c1_i32_34 c8192_i32_32
  let v102 : BitVec 32 := Scalar.remsi v92 v101
  let c0_i32_36 : BitVec 32 := 0#32
  let v104 : BitVec 1 := Scalar.cmpi .slt v102 c0_i32_36
  let c0_i32_37 : BitVec 32 := 0#32
  let v105 : BitVec 1 := Scalar.cmpi .slt v101 c0_i32_37
  let v106 : BitVec 1 := Scalar.xori v104 v105
  let c0_i32_35 : BitVec 32 := 0#32
  let v103 : BitVec 1 := Scalar.cmpi .ne v102 c0_i32_35
  let v107 : BitVec 1 := Scalar.andi v106 v103
  let v108 : BitVec 32 := Scalar.addi v102 v101
  let v109 : BitVec 32 := Scalar.select v107 v108 v102
  let c0_i32_39 : BitVec 32 := 0#32
  let v111 : BitVec 1 := Scalar.cmpi .sgt v109 c0_i32_39
  let v112 : BitVec 32 := Scalar.extui v111
  let c0_i32_40 : BitVec 32 := 0#32
  let v113 : BitVec 1 := Scalar.cmpi .slt v109 c0_i32_40
  let v114 : BitVec 32 := Scalar.extui v113
  let v115 : BitVec 32 := Scalar.subi v112 v114
  let c128_i32_38 : BitVec 32 := 128#32
  let c0_i32_41 : BitVec 32 := 0#32
  let v116 : BitVec 1 := Scalar.cmpi .sgt c128_i32_38 c0_i32_41
  let v117 : BitVec 32 := Scalar.extui v116
  let c0_i32_42 : BitVec 32 := 0#32
  let v118 : BitVec 1 := Scalar.cmpi .slt c128_i32_38 c0_i32_42
  let v119 : BitVec 32 := Scalar.extui v118
  let v120 : BitVec 32 := Scalar.subi v117 v119
  let v121 : BitVec 1 := Scalar.cmpi .ne v115 v120
  let v122 : BitVec 32 := Scalar.remsi v109 c128_i32_38
  let c0_i32_43 : BitVec 32 := 0#32
  let v123 : BitVec 1 := Scalar.cmpi .ne v122 c0_i32_43
  let v124 : BitVec 1 := Scalar.andi v121 v123
  let v110 : BitVec 32 := Scalar.divsi v109 c128_i32_38
  let c1_i32_44 : BitVec 32 := 1#32
  let v125 : BitVec 32 := Scalar.subi v110 c1_i32_44
  let v126 : BitVec 32 := Scalar.select v124 v125 v110
  let c128_i32_45 : BitVec 32 := 128#32
  let v127 : BitVec 32 := Scalar.muli v126 c128_i32_45
  let v128 : Index := Scalar.indexCast v127
  ![0, 0, v128.toNat]

def k2_chk2 (v92 : BitVec 32) : Prop :=
  (∀ a, (k2_off4 v92) a + S1x8x128.size a ≤ S1x8x8192.size a)
theorem k2_off4_inb : ∀ (v92 : BitVec 32) (k2_hw2 : k2_chk2 v92), ∀ a, (k2_off4 v92) a + S1x8x128.size a ≤ S1x8x8192.size a := fun v92 k2_hw2 => k2_hw2

def k2_off5 (i : grid2.Coords) : Fin 1 → Nat :=
  let arg0 : BitVec 32 := BitVec.ofNat 32 (i 0).val
  let c64_i32_59 : BitVec 32 := 64#32
  let v178 : BitVec 32 := Scalar.muli arg0 c64_i32_59
  let c2_i32 : BitVec 32 := 2#32
  let v179 : BitVec 32 := Scalar.addi v178 c2_i32
  let v180 : Index := Scalar.indexCast v179
  ![v180.toNat]
def k2_off6 (v181 : BitVec 32) : Fin 3 → Nat :=
  let c0_78 : Index := 0#32
  let c0_79 : Index := 0#32
  let c8192_i32_64 : BitVec 32 := 8192#32
  let c0_i32_65 : BitVec 32 := 0#32
  let v189 : BitVec 1 := Scalar.cmpi .eq c8192_i32_64 c0_i32_65
  let c1_i32_66 : BitVec 32 := 1#32
  let v190 : BitVec 32 := Scalar.select v189 c1_i32_66 c8192_i32_64
  let v191 : BitVec 32 := Scalar.remsi v181 v190
  let c0_i32_68 : BitVec 32 := 0#32
  let v193 : BitVec 1 := Scalar.cmpi .slt v191 c0_i32_68
  let c0_i32_69 : BitVec 32 := 0#32
  let v194 : BitVec 1 := Scalar.cmpi .slt v190 c0_i32_69
  let v195 : BitVec 1 := Scalar.xori v193 v194
  let c0_i32_67 : BitVec 32 := 0#32
  let v192 : BitVec 1 := Scalar.cmpi .ne v191 c0_i32_67
  let v196 : BitVec 1 := Scalar.andi v195 v192
  let v197 : BitVec 32 := Scalar.addi v191 v190
  let v198 : BitVec 32 := Scalar.select v196 v197 v191
  let c0_i32_71 : BitVec 32 := 0#32
  let v200 : BitVec 1 := Scalar.cmpi .sgt v198 c0_i32_71
  let v201 : BitVec 32 := Scalar.extui v200
  let c0_i32_72 : BitVec 32 := 0#32
  let v202 : BitVec 1 := Scalar.cmpi .slt v198 c0_i32_72
  let v203 : BitVec 32 := Scalar.extui v202
  let v204 : BitVec 32 := Scalar.subi v201 v203
  let c128_i32_70 : BitVec 32 := 128#32
  let c0_i32_73 : BitVec 32 := 0#32
  let v205 : BitVec 1 := Scalar.cmpi .sgt c128_i32_70 c0_i32_73
  let v206 : BitVec 32 := Scalar.extui v205
  let c0_i32_74 : BitVec 32 := 0#32
  let v207 : BitVec 1 := Scalar.cmpi .slt c128_i32_70 c0_i32_74
  let v208 : BitVec 32 := Scalar.extui v207
  let v209 : BitVec 32 := Scalar.subi v206 v208
  let v210 : BitVec 1 := Scalar.cmpi .ne v204 v209
  let v211 : BitVec 32 := Scalar.remsi v198 c128_i32_70
  let c0_i32_75 : BitVec 32 := 0#32
  let v212 : BitVec 1 := Scalar.cmpi .ne v211 c0_i32_75
  let v213 : BitVec 1 := Scalar.andi v210 v212
  let v199 : BitVec 32 := Scalar.divsi v198 c128_i32_70
  let c1_i32_76 : BitVec 32 := 1#32
  let v214 : BitVec 32 := Scalar.subi v199 c1_i32_76
  let v215 : BitVec 32 := Scalar.select v213 v214 v199
  let c128_i32_77 : BitVec 32 := 128#32
  let v216 : BitVec 32 := Scalar.muli v215 c128_i32_77
  let v217 : Index := Scalar.indexCast v216
  ![0, 0, v217.toNat]

def k2_chk3 (v181 : BitVec 32) : Prop :=
  (∀ a, (k2_off6 v181) a + S1x8x128.size a ≤ S1x8x8192.size a)
theorem k2_off6_inb : ∀ (v181 : BitVec 32) (k2_hw3 : k2_chk3 v181), ∀ a, (k2_off6 v181) a + S1x8x128.size a ≤ S1x8x8192.size a := fun v181 k2_hw3 => k2_hw3

def k2_off7 (i : grid2.Coords) : Fin 1 → Nat :=
  let arg0 : BitVec 32 := BitVec.ofNat 32 (i 0).val
  let c64_i32_91 : BitVec 32 := 64#32
  let v267 : BitVec 32 := Scalar.muli arg0 c64_i32_91
  let c3_i32 : BitVec 32 := 3#32
  let v268 : BitVec 32 := Scalar.addi v267 c3_i32
  let v269 : Index := Scalar.indexCast v268
  ![v269.toNat]
def k2_off8 (v270 : BitVec 32) : Fin 3 → Nat :=
  let c0_110 : Index := 0#32
  let c0_111 : Index := 0#32
  let c8192_i32_96 : BitVec 32 := 8192#32
  let c0_i32_97 : BitVec 32 := 0#32
  let v278 : BitVec 1 := Scalar.cmpi .eq c8192_i32_96 c0_i32_97
  let c1_i32_98 : BitVec 32 := 1#32
  let v279 : BitVec 32 := Scalar.select v278 c1_i32_98 c8192_i32_96
  let v280 : BitVec 32 := Scalar.remsi v270 v279
  let c0_i32_100 : BitVec 32 := 0#32
  let v282 : BitVec 1 := Scalar.cmpi .slt v280 c0_i32_100
  let c0_i32_101 : BitVec 32 := 0#32
  let v283 : BitVec 1 := Scalar.cmpi .slt v279 c0_i32_101
  let v284 : BitVec 1 := Scalar.xori v282 v283
  let c0_i32_99 : BitVec 32 := 0#32
  let v281 : BitVec 1 := Scalar.cmpi .ne v280 c0_i32_99
  let v285 : BitVec 1 := Scalar.andi v284 v281
  let v286 : BitVec 32 := Scalar.addi v280 v279
  let v287 : BitVec 32 := Scalar.select v285 v286 v280
  let c0_i32_103 : BitVec 32 := 0#32
  let v289 : BitVec 1 := Scalar.cmpi .sgt v287 c0_i32_103
  let v290 : BitVec 32 := Scalar.extui v289
  let c0_i32_104 : BitVec 32 := 0#32
  let v291 : BitVec 1 := Scalar.cmpi .slt v287 c0_i32_104
  let v292 : BitVec 32 := Scalar.extui v291
  let v293 : BitVec 32 := Scalar.subi v290 v292
  let c128_i32_102 : BitVec 32 := 128#32
  let c0_i32_105 : BitVec 32 := 0#32
  let v294 : BitVec 1 := Scalar.cmpi .sgt c128_i32_102 c0_i32_105
  let v295 : BitVec 32 := Scalar.extui v294
  let c0_i32_106 : BitVec 32 := 0#32
  let v296 : BitVec 1 := Scalar.cmpi .slt c128_i32_102 c0_i32_106
  let v297 : BitVec 32 := Scalar.extui v296
  let v298 : BitVec 32 := Scalar.subi v295 v297
  let v299 : BitVec 1 := Scalar.cmpi .ne v293 v298
  let v300 : BitVec 32 := Scalar.remsi v287 c128_i32_102
  let c0_i32_107 : BitVec 32 := 0#32
  let v301 : BitVec 1 := Scalar.cmpi .ne v300 c0_i32_107
  let v302 : BitVec 1 := Scalar.andi v299 v301
  let v288 : BitVec 32 := Scalar.divsi v287 c128_i32_102
  let c1_i32_108 : BitVec 32 := 1#32
  let v303 : BitVec 32 := Scalar.subi v288 c1_i32_108
  let v304 : BitVec 32 := Scalar.select v302 v303 v288
  let c128_i32_109 : BitVec 32 := 128#32
  let v305 : BitVec 32 := Scalar.muli v304 c128_i32_109
  let v306 : Index := Scalar.indexCast v305
  ![0, 0, v306.toNat]

def k2_chk4 (v270 : BitVec 32) : Prop :=
  (∀ a, (k2_off8 v270) a + S1x8x128.size a ≤ S1x8x8192.size a)
theorem k2_off8_inb : ∀ (v270 : BitVec 32) (k2_hw4 : k2_chk4 v270), ∀ a, (k2_off8 v270) a + S1x8x128.size a ≤ S1x8x8192.size a := fun v270 k2_hw4 => k2_hw4

def k2_off9 (i : grid2.Coords) : Fin 1 → Nat :=
  let arg0 : BitVec 32 := BitVec.ofNat 32 (i 0).val
  let c64_i32_123 : BitVec 32 := 64#32
  let v356 : BitVec 32 := Scalar.muli arg0 c64_i32_123
  let c4_i32 : BitVec 32 := 4#32
  let v357 : BitVec 32 := Scalar.addi v356 c4_i32
  let v358 : Index := Scalar.indexCast v357
  ![v358.toNat]
def k2_off10 (v359 : BitVec 32) : Fin 3 → Nat :=
  let c0_142 : Index := 0#32
  let c0_143 : Index := 0#32
  let c8192_i32_128 : BitVec 32 := 8192#32
  let c0_i32_129 : BitVec 32 := 0#32
  let v367 : BitVec 1 := Scalar.cmpi .eq c8192_i32_128 c0_i32_129
  let c1_i32_130 : BitVec 32 := 1#32
  let v368 : BitVec 32 := Scalar.select v367 c1_i32_130 c8192_i32_128
  let v369 : BitVec 32 := Scalar.remsi v359 v368
  let c0_i32_132 : BitVec 32 := 0#32
  let v371 : BitVec 1 := Scalar.cmpi .slt v369 c0_i32_132
  let c0_i32_133 : BitVec 32 := 0#32
  let v372 : BitVec 1 := Scalar.cmpi .slt v368 c0_i32_133
  let v373 : BitVec 1 := Scalar.xori v371 v372
  let c0_i32_131 : BitVec 32 := 0#32
  let v370 : BitVec 1 := Scalar.cmpi .ne v369 c0_i32_131
  let v374 : BitVec 1 := Scalar.andi v373 v370
  let v375 : BitVec 32 := Scalar.addi v369 v368
  let v376 : BitVec 32 := Scalar.select v374 v375 v369
  let c0_i32_135 : BitVec 32 := 0#32
  let v378 : BitVec 1 := Scalar.cmpi .sgt v376 c0_i32_135
  let v379 : BitVec 32 := Scalar.extui v378
  let c0_i32_136 : BitVec 32 := 0#32
  let v380 : BitVec 1 := Scalar.cmpi .slt v376 c0_i32_136
  let v381 : BitVec 32 := Scalar.extui v380
  let v382 : BitVec 32 := Scalar.subi v379 v381
  let c128_i32_134 : BitVec 32 := 128#32
  let c0_i32_137 : BitVec 32 := 0#32
  let v383 : BitVec 1 := Scalar.cmpi .sgt c128_i32_134 c0_i32_137
  let v384 : BitVec 32 := Scalar.extui v383
  let c0_i32_138 : BitVec 32 := 0#32
  let v385 : BitVec 1 := Scalar.cmpi .slt c128_i32_134 c0_i32_138
  let v386 : BitVec 32 := Scalar.extui v385
  let v387 : BitVec 32 := Scalar.subi v384 v386
  let v388 : BitVec 1 := Scalar.cmpi .ne v382 v387
  let v389 : BitVec 32 := Scalar.remsi v376 c128_i32_134
  let c0_i32_139 : BitVec 32 := 0#32
  let v390 : BitVec 1 := Scalar.cmpi .ne v389 c0_i32_139
  let v391 : BitVec 1 := Scalar.andi v388 v390
  let v377 : BitVec 32 := Scalar.divsi v376 c128_i32_134
  let c1_i32_140 : BitVec 32 := 1#32
  let v392 : BitVec 32 := Scalar.subi v377 c1_i32_140
  let v393 : BitVec 32 := Scalar.select v391 v392 v377
  let c128_i32_141 : BitVec 32 := 128#32
  let v394 : BitVec 32 := Scalar.muli v393 c128_i32_141
  let v395 : Index := Scalar.indexCast v394
  ![0, 0, v395.toNat]

def k2_chk5 (v359 : BitVec 32) : Prop :=
  (∀ a, (k2_off10 v359) a + S1x8x128.size a ≤ S1x8x8192.size a)
theorem k2_off10_inb : ∀ (v359 : BitVec 32) (k2_hw5 : k2_chk5 v359), ∀ a, (k2_off10 v359) a + S1x8x128.size a ≤ S1x8x8192.size a := fun v359 k2_hw5 => k2_hw5

def k2_off11 (i : grid2.Coords) : Fin 1 → Nat :=
  let arg0 : BitVec 32 := BitVec.ofNat 32 (i 0).val
  let c64_i32_155 : BitVec 32 := 64#32
  let v445 : BitVec 32 := Scalar.muli arg0 c64_i32_155
  let c5_i32 : BitVec 32 := 5#32
  let v446 : BitVec 32 := Scalar.addi v445 c5_i32
  let v447 : Index := Scalar.indexCast v446
  ![v447.toNat]
def k2_off12 (v448 : BitVec 32) : Fin 3 → Nat :=
  let c0_174 : Index := 0#32
  let c0_175 : Index := 0#32
  let c8192_i32_160 : BitVec 32 := 8192#32
  let c0_i32_161 : BitVec 32 := 0#32
  let v456 : BitVec 1 := Scalar.cmpi .eq c8192_i32_160 c0_i32_161
  let c1_i32_162 : BitVec 32 := 1#32
  let v457 : BitVec 32 := Scalar.select v456 c1_i32_162 c8192_i32_160
  let v458 : BitVec 32 := Scalar.remsi v448 v457
  let c0_i32_164 : BitVec 32 := 0#32
  let v460 : BitVec 1 := Scalar.cmpi .slt v458 c0_i32_164
  let c0_i32_165 : BitVec 32 := 0#32
  let v461 : BitVec 1 := Scalar.cmpi .slt v457 c0_i32_165
  let v462 : BitVec 1 := Scalar.xori v460 v461
  let c0_i32_163 : BitVec 32 := 0#32
  let v459 : BitVec 1 := Scalar.cmpi .ne v458 c0_i32_163
  let v463 : BitVec 1 := Scalar.andi v462 v459
  let v464 : BitVec 32 := Scalar.addi v458 v457
  let v465 : BitVec 32 := Scalar.select v463 v464 v458
  let c0_i32_167 : BitVec 32 := 0#32
  let v467 : BitVec 1 := Scalar.cmpi .sgt v465 c0_i32_167
  let v468 : BitVec 32 := Scalar.extui v467
  let c0_i32_168 : BitVec 32 := 0#32
  let v469 : BitVec 1 := Scalar.cmpi .slt v465 c0_i32_168
  let v470 : BitVec 32 := Scalar.extui v469
  let v471 : BitVec 32 := Scalar.subi v468 v470
  let c128_i32_166 : BitVec 32 := 128#32
  let c0_i32_169 : BitVec 32 := 0#32
  let v472 : BitVec 1 := Scalar.cmpi .sgt c128_i32_166 c0_i32_169
  let v473 : BitVec 32 := Scalar.extui v472
  let c0_i32_170 : BitVec 32 := 0#32
  let v474 : BitVec 1 := Scalar.cmpi .slt c128_i32_166 c0_i32_170
  let v475 : BitVec 32 := Scalar.extui v474
  let v476 : BitVec 32 := Scalar.subi v473 v475
  let v477 : BitVec 1 := Scalar.cmpi .ne v471 v476
  let v478 : BitVec 32 := Scalar.remsi v465 c128_i32_166
  let c0_i32_171 : BitVec 32 := 0#32
  let v479 : BitVec 1 := Scalar.cmpi .ne v478 c0_i32_171
  let v480 : BitVec 1 := Scalar.andi v477 v479
  let v466 : BitVec 32 := Scalar.divsi v465 c128_i32_166
  let c1_i32_172 : BitVec 32 := 1#32
  let v481 : BitVec 32 := Scalar.subi v466 c1_i32_172
  let v482 : BitVec 32 := Scalar.select v480 v481 v466
  let c128_i32_173 : BitVec 32 := 128#32
  let v483 : BitVec 32 := Scalar.muli v482 c128_i32_173
  let v484 : Index := Scalar.indexCast v483
  ![0, 0, v484.toNat]

def k2_chk6 (v448 : BitVec 32) : Prop :=
  (∀ a, (k2_off12 v448) a + S1x8x128.size a ≤ S1x8x8192.size a)
theorem k2_off12_inb : ∀ (v448 : BitVec 32) (k2_hw6 : k2_chk6 v448), ∀ a, (k2_off12 v448) a + S1x8x128.size a ≤ S1x8x8192.size a := fun v448 k2_hw6 => k2_hw6

def k2_off13 (i : grid2.Coords) : Fin 1 → Nat :=
  let arg0 : BitVec 32 := BitVec.ofNat 32 (i 0).val
  let c64_i32_187 : BitVec 32 := 64#32
  let v534 : BitVec 32 := Scalar.muli arg0 c64_i32_187
  let c6_i32 : BitVec 32 := 6#32
  let v535 : BitVec 32 := Scalar.addi v534 c6_i32
  let v536 : Index := Scalar.indexCast v535
  ![v536.toNat]
def k2_off14 (v537 : BitVec 32) : Fin 3 → Nat :=
  let c0_206 : Index := 0#32
  let c0_207 : Index := 0#32
  let c8192_i32_192 : BitVec 32 := 8192#32
  let c0_i32_193 : BitVec 32 := 0#32
  let v545 : BitVec 1 := Scalar.cmpi .eq c8192_i32_192 c0_i32_193
  let c1_i32_194 : BitVec 32 := 1#32
  let v546 : BitVec 32 := Scalar.select v545 c1_i32_194 c8192_i32_192
  let v547 : BitVec 32 := Scalar.remsi v537 v546
  let c0_i32_196 : BitVec 32 := 0#32
  let v549 : BitVec 1 := Scalar.cmpi .slt v547 c0_i32_196
  let c0_i32_197 : BitVec 32 := 0#32
  let v550 : BitVec 1 := Scalar.cmpi .slt v546 c0_i32_197
  let v551 : BitVec 1 := Scalar.xori v549 v550
  let c0_i32_195 : BitVec 32 := 0#32
  let v548 : BitVec 1 := Scalar.cmpi .ne v547 c0_i32_195
  let v552 : BitVec 1 := Scalar.andi v551 v548
  let v553 : BitVec 32 := Scalar.addi v547 v546
  let v554 : BitVec 32 := Scalar.select v552 v553 v547
  let c0_i32_199 : BitVec 32 := 0#32
  let v556 : BitVec 1 := Scalar.cmpi .sgt v554 c0_i32_199
  let v557 : BitVec 32 := Scalar.extui v556
  let c0_i32_200 : BitVec 32 := 0#32
  let v558 : BitVec 1 := Scalar.cmpi .slt v554 c0_i32_200
  let v559 : BitVec 32 := Scalar.extui v558
  let v560 : BitVec 32 := Scalar.subi v557 v559
  let c128_i32_198 : BitVec 32 := 128#32
  let c0_i32_201 : BitVec 32 := 0#32
  let v561 : BitVec 1 := Scalar.cmpi .sgt c128_i32_198 c0_i32_201
  let v562 : BitVec 32 := Scalar.extui v561
  let c0_i32_202 : BitVec 32 := 0#32
  let v563 : BitVec 1 := Scalar.cmpi .slt c128_i32_198 c0_i32_202
  let v564 : BitVec 32 := Scalar.extui v563
  let v565 : BitVec 32 := Scalar.subi v562 v564
  let v566 : BitVec 1 := Scalar.cmpi .ne v560 v565
  let v567 : BitVec 32 := Scalar.remsi v554 c128_i32_198
  let c0_i32_203 : BitVec 32 := 0#32
  let v568 : BitVec 1 := Scalar.cmpi .ne v567 c0_i32_203
  let v569 : BitVec 1 := Scalar.andi v566 v568
  let v555 : BitVec 32 := Scalar.divsi v554 c128_i32_198
  let c1_i32_204 : BitVec 32 := 1#32
  let v570 : BitVec 32 := Scalar.subi v555 c1_i32_204
  let v571 : BitVec 32 := Scalar.select v569 v570 v555
  let c128_i32_205 : BitVec 32 := 128#32
  let v572 : BitVec 32 := Scalar.muli v571 c128_i32_205
  let v573 : Index := Scalar.indexCast v572
  ![0, 0, v573.toNat]

def k2_chk7 (v537 : BitVec 32) : Prop :=
  (∀ a, (k2_off14 v537) a + S1x8x128.size a ≤ S1x8x8192.size a)
theorem k2_off14_inb : ∀ (v537 : BitVec 32) (k2_hw7 : k2_chk7 v537), ∀ a, (k2_off14 v537) a + S1x8x128.size a ≤ S1x8x8192.size a := fun v537 k2_hw7 => k2_hw7

def k2_off15 (i : grid2.Coords) : Fin 1 → Nat :=
  let arg0 : BitVec 32 := BitVec.ofNat 32 (i 0).val
  let c64_i32_219 : BitVec 32 := 64#32
  let v623 : BitVec 32 := Scalar.muli arg0 c64_i32_219
  let c7_i32 : BitVec 32 := 7#32
  let v624 : BitVec 32 := Scalar.addi v623 c7_i32
  let v625 : Index := Scalar.indexCast v624
  ![v625.toNat]
def k2_off16 (v626 : BitVec 32) : Fin 3 → Nat :=
  let c0_238 : Index := 0#32
  let c0_239 : Index := 0#32
  let c8192_i32_224 : BitVec 32 := 8192#32
  let c0_i32_225 : BitVec 32 := 0#32
  let v634 : BitVec 1 := Scalar.cmpi .eq c8192_i32_224 c0_i32_225
  let c1_i32_226 : BitVec 32 := 1#32
  let v635 : BitVec 32 := Scalar.select v634 c1_i32_226 c8192_i32_224
  let v636 : BitVec 32 := Scalar.remsi v626 v635
  let c0_i32_228 : BitVec 32 := 0#32
  let v638 : BitVec 1 := Scalar.cmpi .slt v636 c0_i32_228
  let c0_i32_229 : BitVec 32 := 0#32
  let v639 : BitVec 1 := Scalar.cmpi .slt v635 c0_i32_229
  let v640 : BitVec 1 := Scalar.xori v638 v639
  let c0_i32_227 : BitVec 32 := 0#32
  let v637 : BitVec 1 := Scalar.cmpi .ne v636 c0_i32_227
  let v641 : BitVec 1 := Scalar.andi v640 v637
  let v642 : BitVec 32 := Scalar.addi v636 v635
  let v643 : BitVec 32 := Scalar.select v641 v642 v636
  let c0_i32_231 : BitVec 32 := 0#32
  let v645 : BitVec 1 := Scalar.cmpi .sgt v643 c0_i32_231
  let v646 : BitVec 32 := Scalar.extui v645
  let c0_i32_232 : BitVec 32 := 0#32
  let v647 : BitVec 1 := Scalar.cmpi .slt v643 c0_i32_232
  let v648 : BitVec 32 := Scalar.extui v647
  let v649 : BitVec 32 := Scalar.subi v646 v648
  let c128_i32_230 : BitVec 32 := 128#32
  let c0_i32_233 : BitVec 32 := 0#32
  let v650 : BitVec 1 := Scalar.cmpi .sgt c128_i32_230 c0_i32_233
  let v651 : BitVec 32 := Scalar.extui v650
  let c0_i32_234 : BitVec 32 := 0#32
  let v652 : BitVec 1 := Scalar.cmpi .slt c128_i32_230 c0_i32_234
  let v653 : BitVec 32 := Scalar.extui v652
  let v654 : BitVec 32 := Scalar.subi v651 v653
  let v655 : BitVec 1 := Scalar.cmpi .ne v649 v654
  let v656 : BitVec 32 := Scalar.remsi v643 c128_i32_230
  let c0_i32_235 : BitVec 32 := 0#32
  let v657 : BitVec 1 := Scalar.cmpi .ne v656 c0_i32_235
  let v658 : BitVec 1 := Scalar.andi v655 v657
  let v644 : BitVec 32 := Scalar.divsi v643 c128_i32_230
  let c1_i32_236 : BitVec 32 := 1#32
  let v659 : BitVec 32 := Scalar.subi v644 c1_i32_236
  let v660 : BitVec 32 := Scalar.select v658 v659 v644
  let c128_i32_237 : BitVec 32 := 128#32
  let v661 : BitVec 32 := Scalar.muli v660 c128_i32_237
  let v662 : Index := Scalar.indexCast v661
  ![0, 0, v662.toNat]

def k2_chk8 (v626 : BitVec 32) : Prop :=
  (∀ a, (k2_off16 v626) a + S1x8x128.size a ≤ S1x8x8192.size a)
theorem k2_off16_inb : ∀ (v626 : BitVec 32) (k2_hw8 : k2_chk8 v626), ∀ a, (k2_off16 v626) a + S1x8x128.size a ≤ S1x8x8192.size a := fun v626 k2_hw8 => k2_hw8

def k2_off17 (i : grid2.Coords) : Fin 1 → Nat :=
  let arg0 : BitVec 32 := BitVec.ofNat 32 (i 0).val
  let c64_i32_251 : BitVec 32 := 64#32
  let v712 : BitVec 32 := Scalar.muli arg0 c64_i32_251
  let c8_i32 : BitVec 32 := 8#32
  let v713 : BitVec 32 := Scalar.addi v712 c8_i32
  let v714 : Index := Scalar.indexCast v713
  ![v714.toNat]
def k2_off18 (v715 : BitVec 32) : Fin 3 → Nat :=
  let c0_270 : Index := 0#32
  let c0_271 : Index := 0#32
  let c8192_i32_256 : BitVec 32 := 8192#32
  let c0_i32_257 : BitVec 32 := 0#32
  let v723 : BitVec 1 := Scalar.cmpi .eq c8192_i32_256 c0_i32_257
  let c1_i32_258 : BitVec 32 := 1#32
  let v724 : BitVec 32 := Scalar.select v723 c1_i32_258 c8192_i32_256
  let v725 : BitVec 32 := Scalar.remsi v715 v724
  let c0_i32_260 : BitVec 32 := 0#32
  let v727 : BitVec 1 := Scalar.cmpi .slt v725 c0_i32_260
  let c0_i32_261 : BitVec 32 := 0#32
  let v728 : BitVec 1 := Scalar.cmpi .slt v724 c0_i32_261
  let v729 : BitVec 1 := Scalar.xori v727 v728
  let c0_i32_259 : BitVec 32 := 0#32
  let v726 : BitVec 1 := Scalar.cmpi .ne v725 c0_i32_259
  let v730 : BitVec 1 := Scalar.andi v729 v726
  let v731 : BitVec 32 := Scalar.addi v725 v724
  let v732 : BitVec 32 := Scalar.select v730 v731 v725
  let c0_i32_263 : BitVec 32 := 0#32
  let v734 : BitVec 1 := Scalar.cmpi .sgt v732 c0_i32_263
  let v735 : BitVec 32 := Scalar.extui v734
  let c0_i32_264 : BitVec 32 := 0#32
  let v736 : BitVec 1 := Scalar.cmpi .slt v732 c0_i32_264
  let v737 : BitVec 32 := Scalar.extui v736
  let v738 : BitVec 32 := Scalar.subi v735 v737
  let c128_i32_262 : BitVec 32 := 128#32
  let c0_i32_265 : BitVec 32 := 0#32
  let v739 : BitVec 1 := Scalar.cmpi .sgt c128_i32_262 c0_i32_265
  let v740 : BitVec 32 := Scalar.extui v739
  let c0_i32_266 : BitVec 32 := 0#32
  let v741 : BitVec 1 := Scalar.cmpi .slt c128_i32_262 c0_i32_266
  let v742 : BitVec 32 := Scalar.extui v741
  let v743 : BitVec 32 := Scalar.subi v740 v742
  let v744 : BitVec 1 := Scalar.cmpi .ne v738 v743
  let v745 : BitVec 32 := Scalar.remsi v732 c128_i32_262
  let c0_i32_267 : BitVec 32 := 0#32
  let v746 : BitVec 1 := Scalar.cmpi .ne v745 c0_i32_267
  let v747 : BitVec 1 := Scalar.andi v744 v746
  let v733 : BitVec 32 := Scalar.divsi v732 c128_i32_262
  let c1_i32_268 : BitVec 32 := 1#32
  let v748 : BitVec 32 := Scalar.subi v733 c1_i32_268
  let v749 : BitVec 32 := Scalar.select v747 v748 v733
  let c128_i32_269 : BitVec 32 := 128#32
  let v750 : BitVec 32 := Scalar.muli v749 c128_i32_269
  let v751 : Index := Scalar.indexCast v750
  ![0, 0, v751.toNat]

def k2_chk9 (v715 : BitVec 32) : Prop :=
  (∀ a, (k2_off18 v715) a + S1x8x128.size a ≤ S1x8x8192.size a)
theorem k2_off18_inb : ∀ (v715 : BitVec 32) (k2_hw9 : k2_chk9 v715), ∀ a, (k2_off18 v715) a + S1x8x128.size a ≤ S1x8x8192.size a := fun v715 k2_hw9 => k2_hw9

def k2_off19 (i : grid2.Coords) : Fin 1 → Nat :=
  let arg0 : BitVec 32 := BitVec.ofNat 32 (i 0).val
  let c64_i32_283 : BitVec 32 := 64#32
  let v801 : BitVec 32 := Scalar.muli arg0 c64_i32_283
  let c9_i32 : BitVec 32 := 9#32
  let v802 : BitVec 32 := Scalar.addi v801 c9_i32
  let v803 : Index := Scalar.indexCast v802
  ![v803.toNat]
def k2_off20 (v804 : BitVec 32) : Fin 3 → Nat :=
  let c0_302 : Index := 0#32
  let c0_303 : Index := 0#32
  let c8192_i32_288 : BitVec 32 := 8192#32
  let c0_i32_289 : BitVec 32 := 0#32
  let v812 : BitVec 1 := Scalar.cmpi .eq c8192_i32_288 c0_i32_289
  let c1_i32_290 : BitVec 32 := 1#32
  let v813 : BitVec 32 := Scalar.select v812 c1_i32_290 c8192_i32_288
  let v814 : BitVec 32 := Scalar.remsi v804 v813
  let c0_i32_292 : BitVec 32 := 0#32
  let v816 : BitVec 1 := Scalar.cmpi .slt v814 c0_i32_292
  let c0_i32_293 : BitVec 32 := 0#32
  let v817 : BitVec 1 := Scalar.cmpi .slt v813 c0_i32_293
  let v818 : BitVec 1 := Scalar.xori v816 v817
  let c0_i32_291 : BitVec 32 := 0#32
  let v815 : BitVec 1 := Scalar.cmpi .ne v814 c0_i32_291
  let v819 : BitVec 1 := Scalar.andi v818 v815
  let v820 : BitVec 32 := Scalar.addi v814 v813
  let v821 : BitVec 32 := Scalar.select v819 v820 v814
  let c0_i32_295 : BitVec 32 := 0#32
  let v823 : BitVec 1 := Scalar.cmpi .sgt v821 c0_i32_295
  let v824 : BitVec 32 := Scalar.extui v823
  let c0_i32_296 : BitVec 32 := 0#32
  let v825 : BitVec 1 := Scalar.cmpi .slt v821 c0_i32_296
  let v826 : BitVec 32 := Scalar.extui v825
  let v827 : BitVec 32 := Scalar.subi v824 v826
  let c128_i32_294 : BitVec 32 := 128#32
  let c0_i32_297 : BitVec 32 := 0#32
  let v828 : BitVec 1 := Scalar.cmpi .sgt c128_i32_294 c0_i32_297
  let v829 : BitVec 32 := Scalar.extui v828
  let c0_i32_298 : BitVec 32 := 0#32
  let v830 : BitVec 1 := Scalar.cmpi .slt c128_i32_294 c0_i32_298
  let v831 : BitVec 32 := Scalar.extui v830
  let v832 : BitVec 32 := Scalar.subi v829 v831
  let v833 : BitVec 1 := Scalar.cmpi .ne v827 v832
  let v834 : BitVec 32 := Scalar.remsi v821 c128_i32_294
  let c0_i32_299 : BitVec 32 := 0#32
  let v835 : BitVec 1 := Scalar.cmpi .ne v834 c0_i32_299
  let v836 : BitVec 1 := Scalar.andi v833 v835
  let v822 : BitVec 32 := Scalar.divsi v821 c128_i32_294
  let c1_i32_300 : BitVec 32 := 1#32
  let v837 : BitVec 32 := Scalar.subi v822 c1_i32_300
  let v838 : BitVec 32 := Scalar.select v836 v837 v822
  let c128_i32_301 : BitVec 32 := 128#32
  let v839 : BitVec 32 := Scalar.muli v838 c128_i32_301
  let v840 : Index := Scalar.indexCast v839
  ![0, 0, v840.toNat]

def k2_chk10 (v804 : BitVec 32) : Prop :=
  (∀ a, (k2_off20 v804) a + S1x8x128.size a ≤ S1x8x8192.size a)
theorem k2_off20_inb : ∀ (v804 : BitVec 32) (k2_hw10 : k2_chk10 v804), ∀ a, (k2_off20 v804) a + S1x8x128.size a ≤ S1x8x8192.size a := fun v804 k2_hw10 => k2_hw10

def k2_off21 (i : grid2.Coords) : Fin 1 → Nat :=
  let arg0 : BitVec 32 := BitVec.ofNat 32 (i 0).val
  let c64_i32_315 : BitVec 32 := 64#32
  let v890 : BitVec 32 := Scalar.muli arg0 c64_i32_315
  let c10_i32 : BitVec 32 := 10#32
  let v891 : BitVec 32 := Scalar.addi v890 c10_i32
  let v892 : Index := Scalar.indexCast v891
  ![v892.toNat]
def k2_off22 (v893 : BitVec 32) : Fin 3 → Nat :=
  let c0_334 : Index := 0#32
  let c0_335 : Index := 0#32
  let c8192_i32_320 : BitVec 32 := 8192#32
  let c0_i32_321 : BitVec 32 := 0#32
  let v901 : BitVec 1 := Scalar.cmpi .eq c8192_i32_320 c0_i32_321
  let c1_i32_322 : BitVec 32 := 1#32
  let v902 : BitVec 32 := Scalar.select v901 c1_i32_322 c8192_i32_320
  let v903 : BitVec 32 := Scalar.remsi v893 v902
  let c0_i32_324 : BitVec 32 := 0#32
  let v905 : BitVec 1 := Scalar.cmpi .slt v903 c0_i32_324
  let c0_i32_325 : BitVec 32 := 0#32
  let v906 : BitVec 1 := Scalar.cmpi .slt v902 c0_i32_325
  let v907 : BitVec 1 := Scalar.xori v905 v906
  let c0_i32_323 : BitVec 32 := 0#32
  let v904 : BitVec 1 := Scalar.cmpi .ne v903 c0_i32_323
  let v908 : BitVec 1 := Scalar.andi v907 v904
  let v909 : BitVec 32 := Scalar.addi v903 v902
  let v910 : BitVec 32 := Scalar.select v908 v909 v903
  let c0_i32_327 : BitVec 32 := 0#32
  let v912 : BitVec 1 := Scalar.cmpi .sgt v910 c0_i32_327
  let v913 : BitVec 32 := Scalar.extui v912
  let c0_i32_328 : BitVec 32 := 0#32
  let v914 : BitVec 1 := Scalar.cmpi .slt v910 c0_i32_328
  let v915 : BitVec 32 := Scalar.extui v914
  let v916 : BitVec 32 := Scalar.subi v913 v915
  let c128_i32_326 : BitVec 32 := 128#32
  let c0_i32_329 : BitVec 32 := 0#32
  let v917 : BitVec 1 := Scalar.cmpi .sgt c128_i32_326 c0_i32_329
  let v918 : BitVec 32 := Scalar.extui v917
  let c0_i32_330 : BitVec 32 := 0#32
  let v919 : BitVec 1 := Scalar.cmpi .slt c128_i32_326 c0_i32_330
  let v920 : BitVec 32 := Scalar.extui v919
  let v921 : BitVec 32 := Scalar.subi v918 v920
  let v922 : BitVec 1 := Scalar.cmpi .ne v916 v921
  let v923 : BitVec 32 := Scalar.remsi v910 c128_i32_326
  let c0_i32_331 : BitVec 32 := 0#32
  let v924 : BitVec 1 := Scalar.cmpi .ne v923 c0_i32_331
  let v925 : BitVec 1 := Scalar.andi v922 v924
  let v911 : BitVec 32 := Scalar.divsi v910 c128_i32_326
  let c1_i32_332 : BitVec 32 := 1#32
  let v926 : BitVec 32 := Scalar.subi v911 c1_i32_332
  let v927 : BitVec 32 := Scalar.select v925 v926 v911
  let c128_i32_333 : BitVec 32 := 128#32
  let v928 : BitVec 32 := Scalar.muli v927 c128_i32_333
  let v929 : Index := Scalar.indexCast v928
  ![0, 0, v929.toNat]

def k2_chk11 (v893 : BitVec 32) : Prop :=
  (∀ a, (k2_off22 v893) a + S1x8x128.size a ≤ S1x8x8192.size a)
theorem k2_off22_inb : ∀ (v893 : BitVec 32) (k2_hw11 : k2_chk11 v893), ∀ a, (k2_off22 v893) a + S1x8x128.size a ≤ S1x8x8192.size a := fun v893 k2_hw11 => k2_hw11

def k2_off23 (i : grid2.Coords) : Fin 1 → Nat :=
  let arg0 : BitVec 32 := BitVec.ofNat 32 (i 0).val
  let c64_i32_347 : BitVec 32 := 64#32
  let v979 : BitVec 32 := Scalar.muli arg0 c64_i32_347
  let c11_i32 : BitVec 32 := 11#32
  let v980 : BitVec 32 := Scalar.addi v979 c11_i32
  let v981 : Index := Scalar.indexCast v980
  ![v981.toNat]
def k2_off24 (v982 : BitVec 32) : Fin 3 → Nat :=
  let c0_366 : Index := 0#32
  let c0_367 : Index := 0#32
  let c8192_i32_352 : BitVec 32 := 8192#32
  let c0_i32_353 : BitVec 32 := 0#32
  let v990 : BitVec 1 := Scalar.cmpi .eq c8192_i32_352 c0_i32_353
  let c1_i32_354 : BitVec 32 := 1#32
  let v991 : BitVec 32 := Scalar.select v990 c1_i32_354 c8192_i32_352
  let v992 : BitVec 32 := Scalar.remsi v982 v991
  let c0_i32_356 : BitVec 32 := 0#32
  let v994 : BitVec 1 := Scalar.cmpi .slt v992 c0_i32_356
  let c0_i32_357 : BitVec 32 := 0#32
  let v995 : BitVec 1 := Scalar.cmpi .slt v991 c0_i32_357
  let v996 : BitVec 1 := Scalar.xori v994 v995
  let c0_i32_355 : BitVec 32 := 0#32
  let v993 : BitVec 1 := Scalar.cmpi .ne v992 c0_i32_355
  let v997 : BitVec 1 := Scalar.andi v996 v993
  let v998 : BitVec 32 := Scalar.addi v992 v991
  let v999 : BitVec 32 := Scalar.select v997 v998 v992
  let c0_i32_359 : BitVec 32 := 0#32
  let v1001 : BitVec 1 := Scalar.cmpi .sgt v999 c0_i32_359
  let v1002 : BitVec 32 := Scalar.extui v1001
  let c0_i32_360 : BitVec 32 := 0#32
  let v1003 : BitVec 1 := Scalar.cmpi .slt v999 c0_i32_360
  let v1004 : BitVec 32 := Scalar.extui v1003
  let v1005 : BitVec 32 := Scalar.subi v1002 v1004
  let c128_i32_358 : BitVec 32 := 128#32
  let c0_i32_361 : BitVec 32 := 0#32
  let v1006 : BitVec 1 := Scalar.cmpi .sgt c128_i32_358 c0_i32_361
  let v1007 : BitVec 32 := Scalar.extui v1006
  let c0_i32_362 : BitVec 32 := 0#32
  let v1008 : BitVec 1 := Scalar.cmpi .slt c128_i32_358 c0_i32_362
  let v1009 : BitVec 32 := Scalar.extui v1008
  let v1010 : BitVec 32 := Scalar.subi v1007 v1009
  let v1011 : BitVec 1 := Scalar.cmpi .ne v1005 v1010
  let v1012 : BitVec 32 := Scalar.remsi v999 c128_i32_358
  let c0_i32_363 : BitVec 32 := 0#32
  let v1013 : BitVec 1 := Scalar.cmpi .ne v1012 c0_i32_363
  let v1014 : BitVec 1 := Scalar.andi v1011 v1013
  let v1000 : BitVec 32 := Scalar.divsi v999 c128_i32_358
  let c1_i32_364 : BitVec 32 := 1#32
  let v1015 : BitVec 32 := Scalar.subi v1000 c1_i32_364
  let v1016 : BitVec 32 := Scalar.select v1014 v1015 v1000
  let c128_i32_365 : BitVec 32 := 128#32
  let v1017 : BitVec 32 := Scalar.muli v1016 c128_i32_365
  let v1018 : Index := Scalar.indexCast v1017
  ![0, 0, v1018.toNat]

def k2_chk12 (v982 : BitVec 32) : Prop :=
  (∀ a, (k2_off24 v982) a + S1x8x128.size a ≤ S1x8x8192.size a)
theorem k2_off24_inb : ∀ (v982 : BitVec 32) (k2_hw12 : k2_chk12 v982), ∀ a, (k2_off24 v982) a + S1x8x128.size a ≤ S1x8x8192.size a := fun v982 k2_hw12 => k2_hw12

def k2_off25 (i : grid2.Coords) : Fin 1 → Nat :=
  let arg0 : BitVec 32 := BitVec.ofNat 32 (i 0).val
  let c64_i32_379 : BitVec 32 := 64#32
  let v1068 : BitVec 32 := Scalar.muli arg0 c64_i32_379
  let c12_i32 : BitVec 32 := 12#32
  let v1069 : BitVec 32 := Scalar.addi v1068 c12_i32
  let v1070 : Index := Scalar.indexCast v1069
  ![v1070.toNat]
def k2_off26 (v1071 : BitVec 32) : Fin 3 → Nat :=
  let c0_398 : Index := 0#32
  let c0_399 : Index := 0#32
  let c8192_i32_384 : BitVec 32 := 8192#32
  let c0_i32_385 : BitVec 32 := 0#32
  let v1079 : BitVec 1 := Scalar.cmpi .eq c8192_i32_384 c0_i32_385
  let c1_i32_386 : BitVec 32 := 1#32
  let v1080 : BitVec 32 := Scalar.select v1079 c1_i32_386 c8192_i32_384
  let v1081 : BitVec 32 := Scalar.remsi v1071 v1080
  let c0_i32_388 : BitVec 32 := 0#32
  let v1083 : BitVec 1 := Scalar.cmpi .slt v1081 c0_i32_388
  let c0_i32_389 : BitVec 32 := 0#32
  let v1084 : BitVec 1 := Scalar.cmpi .slt v1080 c0_i32_389
  let v1085 : BitVec 1 := Scalar.xori v1083 v1084
  let c0_i32_387 : BitVec 32 := 0#32
  let v1082 : BitVec 1 := Scalar.cmpi .ne v1081 c0_i32_387
  let v1086 : BitVec 1 := Scalar.andi v1085 v1082
  let v1087 : BitVec 32 := Scalar.addi v1081 v1080
  let v1088 : BitVec 32 := Scalar.select v1086 v1087 v1081
  let c0_i32_391 : BitVec 32 := 0#32
  let v1090 : BitVec 1 := Scalar.cmpi .sgt v1088 c0_i32_391
  let v1091 : BitVec 32 := Scalar.extui v1090
  let c0_i32_392 : BitVec 32 := 0#32
  let v1092 : BitVec 1 := Scalar.cmpi .slt v1088 c0_i32_392
  let v1093 : BitVec 32 := Scalar.extui v1092
  let v1094 : BitVec 32 := Scalar.subi v1091 v1093
  let c128_i32_390 : BitVec 32 := 128#32
  let c0_i32_393 : BitVec 32 := 0#32
  let v1095 : BitVec 1 := Scalar.cmpi .sgt c128_i32_390 c0_i32_393
  let v1096 : BitVec 32 := Scalar.extui v1095
  let c0_i32_394 : BitVec 32 := 0#32
  let v1097 : BitVec 1 := Scalar.cmpi .slt c128_i32_390 c0_i32_394
  let v1098 : BitVec 32 := Scalar.extui v1097
  let v1099 : BitVec 32 := Scalar.subi v1096 v1098
  let v1100 : BitVec 1 := Scalar.cmpi .ne v1094 v1099
  let v1101 : BitVec 32 := Scalar.remsi v1088 c128_i32_390
  let c0_i32_395 : BitVec 32 := 0#32
  let v1102 : BitVec 1 := Scalar.cmpi .ne v1101 c0_i32_395
  let v1103 : BitVec 1 := Scalar.andi v1100 v1102
  let v1089 : BitVec 32 := Scalar.divsi v1088 c128_i32_390
  let c1_i32_396 : BitVec 32 := 1#32
  let v1104 : BitVec 32 := Scalar.subi v1089 c1_i32_396
  let v1105 : BitVec 32 := Scalar.select v1103 v1104 v1089
  let c128_i32_397 : BitVec 32 := 128#32
  let v1106 : BitVec 32 := Scalar.muli v1105 c128_i32_397
  let v1107 : Index := Scalar.indexCast v1106
  ![0, 0, v1107.toNat]

def k2_chk13 (v1071 : BitVec 32) : Prop :=
  (∀ a, (k2_off26 v1071) a + S1x8x128.size a ≤ S1x8x8192.size a)
theorem k2_off26_inb : ∀ (v1071 : BitVec 32) (k2_hw13 : k2_chk13 v1071), ∀ a, (k2_off26 v1071) a + S1x8x128.size a ≤ S1x8x8192.size a := fun v1071 k2_hw13 => k2_hw13

def k2_off27 (i : grid2.Coords) : Fin 1 → Nat :=
  let arg0 : BitVec 32 := BitVec.ofNat 32 (i 0).val
  let c64_i32_411 : BitVec 32 := 64#32
  let v1157 : BitVec 32 := Scalar.muli arg0 c64_i32_411
  let c13_i32 : BitVec 32 := 13#32
  let v1158 : BitVec 32 := Scalar.addi v1157 c13_i32
  let v1159 : Index := Scalar.indexCast v1158
  ![v1159.toNat]
def k2_off28 (v1160 : BitVec 32) : Fin 3 → Nat :=
  let c0_430 : Index := 0#32
  let c0_431 : Index := 0#32
  let c8192_i32_416 : BitVec 32 := 8192#32
  let c0_i32_417 : BitVec 32 := 0#32
  let v1168 : BitVec 1 := Scalar.cmpi .eq c8192_i32_416 c0_i32_417
  let c1_i32_418 : BitVec 32 := 1#32
  let v1169 : BitVec 32 := Scalar.select v1168 c1_i32_418 c8192_i32_416
  let v1170 : BitVec 32 := Scalar.remsi v1160 v1169
  let c0_i32_420 : BitVec 32 := 0#32
  let v1172 : BitVec 1 := Scalar.cmpi .slt v1170 c0_i32_420
  let c0_i32_421 : BitVec 32 := 0#32
  let v1173 : BitVec 1 := Scalar.cmpi .slt v1169 c0_i32_421
  let v1174 : BitVec 1 := Scalar.xori v1172 v1173
  let c0_i32_419 : BitVec 32 := 0#32
  let v1171 : BitVec 1 := Scalar.cmpi .ne v1170 c0_i32_419
  let v1175 : BitVec 1 := Scalar.andi v1174 v1171
  let v1176 : BitVec 32 := Scalar.addi v1170 v1169
  let v1177 : BitVec 32 := Scalar.select v1175 v1176 v1170
  let c0_i32_423 : BitVec 32 := 0#32
  let v1179 : BitVec 1 := Scalar.cmpi .sgt v1177 c0_i32_423
  let v1180 : BitVec 32 := Scalar.extui v1179
  let c0_i32_424 : BitVec 32 := 0#32
  let v1181 : BitVec 1 := Scalar.cmpi .slt v1177 c0_i32_424
  let v1182 : BitVec 32 := Scalar.extui v1181
  let v1183 : BitVec 32 := Scalar.subi v1180 v1182
  let c128_i32_422 : BitVec 32 := 128#32
  let c0_i32_425 : BitVec 32 := 0#32
  let v1184 : BitVec 1 := Scalar.cmpi .sgt c128_i32_422 c0_i32_425
  let v1185 : BitVec 32 := Scalar.extui v1184
  let c0_i32_426 : BitVec 32 := 0#32
  let v1186 : BitVec 1 := Scalar.cmpi .slt c128_i32_422 c0_i32_426
  let v1187 : BitVec 32 := Scalar.extui v1186
  let v1188 : BitVec 32 := Scalar.subi v1185 v1187
  let v1189 : BitVec 1 := Scalar.cmpi .ne v1183 v1188
  let v1190 : BitVec 32 := Scalar.remsi v1177 c128_i32_422
  let c0_i32_427 : BitVec 32 := 0#32
  let v1191 : BitVec 1 := Scalar.cmpi .ne v1190 c0_i32_427
  let v1192 : BitVec 1 := Scalar.andi v1189 v1191
  let v1178 : BitVec 32 := Scalar.divsi v1177 c128_i32_422
  let c1_i32_428 : BitVec 32 := 1#32
  let v1193 : BitVec 32 := Scalar.subi v1178 c1_i32_428
  let v1194 : BitVec 32 := Scalar.select v1192 v1193 v1178
  let c128_i32_429 : BitVec 32 := 128#32
  let v1195 : BitVec 32 := Scalar.muli v1194 c128_i32_429
  let v1196 : Index := Scalar.indexCast v1195
  ![0, 0, v1196.toNat]

def k2_chk14 (v1160 : BitVec 32) : Prop :=
  (∀ a, (k2_off28 v1160) a + S1x8x128.size a ≤ S1x8x8192.size a)
theorem k2_off28_inb : ∀ (v1160 : BitVec 32) (k2_hw14 : k2_chk14 v1160), ∀ a, (k2_off28 v1160) a + S1x8x128.size a ≤ S1x8x8192.size a := fun v1160 k2_hw14 => k2_hw14

def k2_off29 (i : grid2.Coords) : Fin 1 → Nat :=
  let arg0 : BitVec 32 := BitVec.ofNat 32 (i 0).val
  let c64_i32_443 : BitVec 32 := 64#32
  let v1246 : BitVec 32 := Scalar.muli arg0 c64_i32_443
  let c14_i32 : BitVec 32 := 14#32
  let v1247 : BitVec 32 := Scalar.addi v1246 c14_i32
  let v1248 : Index := Scalar.indexCast v1247
  ![v1248.toNat]
def k2_off30 (v1249 : BitVec 32) : Fin 3 → Nat :=
  let c0_462 : Index := 0#32
  let c0_463 : Index := 0#32
  let c8192_i32_448 : BitVec 32 := 8192#32
  let c0_i32_449 : BitVec 32 := 0#32
  let v1257 : BitVec 1 := Scalar.cmpi .eq c8192_i32_448 c0_i32_449
  let c1_i32_450 : BitVec 32 := 1#32
  let v1258 : BitVec 32 := Scalar.select v1257 c1_i32_450 c8192_i32_448
  let v1259 : BitVec 32 := Scalar.remsi v1249 v1258
  let c0_i32_452 : BitVec 32 := 0#32
  let v1261 : BitVec 1 := Scalar.cmpi .slt v1259 c0_i32_452
  let c0_i32_453 : BitVec 32 := 0#32
  let v1262 : BitVec 1 := Scalar.cmpi .slt v1258 c0_i32_453
  let v1263 : BitVec 1 := Scalar.xori v1261 v1262
  let c0_i32_451 : BitVec 32 := 0#32
  let v1260 : BitVec 1 := Scalar.cmpi .ne v1259 c0_i32_451
  let v1264 : BitVec 1 := Scalar.andi v1263 v1260
  let v1265 : BitVec 32 := Scalar.addi v1259 v1258
  let v1266 : BitVec 32 := Scalar.select v1264 v1265 v1259
  let c0_i32_455 : BitVec 32 := 0#32
  let v1268 : BitVec 1 := Scalar.cmpi .sgt v1266 c0_i32_455
  let v1269 : BitVec 32 := Scalar.extui v1268
  let c0_i32_456 : BitVec 32 := 0#32
  let v1270 : BitVec 1 := Scalar.cmpi .slt v1266 c0_i32_456
  let v1271 : BitVec 32 := Scalar.extui v1270
  let v1272 : BitVec 32 := Scalar.subi v1269 v1271
  let c128_i32_454 : BitVec 32 := 128#32
  let c0_i32_457 : BitVec 32 := 0#32
  let v1273 : BitVec 1 := Scalar.cmpi .sgt c128_i32_454 c0_i32_457
  let v1274 : BitVec 32 := Scalar.extui v1273
  let c0_i32_458 : BitVec 32 := 0#32
  let v1275 : BitVec 1 := Scalar.cmpi .slt c128_i32_454 c0_i32_458
  let v1276 : BitVec 32 := Scalar.extui v1275
  let v1277 : BitVec 32 := Scalar.subi v1274 v1276
  let v1278 : BitVec 1 := Scalar.cmpi .ne v1272 v1277
  let v1279 : BitVec 32 := Scalar.remsi v1266 c128_i32_454
  let c0_i32_459 : BitVec 32 := 0#32
  let v1280 : BitVec 1 := Scalar.cmpi .ne v1279 c0_i32_459
  let v1281 : BitVec 1 := Scalar.andi v1278 v1280
  let v1267 : BitVec 32 := Scalar.divsi v1266 c128_i32_454
  let c1_i32_460 : BitVec 32 := 1#32
  let v1282 : BitVec 32 := Scalar.subi v1267 c1_i32_460
  let v1283 : BitVec 32 := Scalar.select v1281 v1282 v1267
  let c128_i32_461 : BitVec 32 := 128#32
  let v1284 : BitVec 32 := Scalar.muli v1283 c128_i32_461
  let v1285 : Index := Scalar.indexCast v1284
  ![0, 0, v1285.toNat]

def k2_chk15 (v1249 : BitVec 32) : Prop :=
  (∀ a, (k2_off30 v1249) a + S1x8x128.size a ≤ S1x8x8192.size a)
theorem k2_off30_inb : ∀ (v1249 : BitVec 32) (k2_hw15 : k2_chk15 v1249), ∀ a, (k2_off30 v1249) a + S1x8x128.size a ≤ S1x8x8192.size a := fun v1249 k2_hw15 => k2_hw15

def k2_off31 (i : grid2.Coords) : Fin 1 → Nat :=
  let arg0 : BitVec 32 := BitVec.ofNat 32 (i 0).val
  let c64_i32_475 : BitVec 32 := 64#32
  let v1335 : BitVec 32 := Scalar.muli arg0 c64_i32_475
  let c15_i32 : BitVec 32 := 15#32
  let v1336 : BitVec 32 := Scalar.addi v1335 c15_i32
  let v1337 : Index := Scalar.indexCast v1336
  ![v1337.toNat]
def k2_off32 (v1338 : BitVec 32) : Fin 3 → Nat :=
  let c0_494 : Index := 0#32
  let c0_495 : Index := 0#32
  let c8192_i32_480 : BitVec 32 := 8192#32
  let c0_i32_481 : BitVec 32 := 0#32
  let v1346 : BitVec 1 := Scalar.cmpi .eq c8192_i32_480 c0_i32_481
  let c1_i32_482 : BitVec 32 := 1#32
  let v1347 : BitVec 32 := Scalar.select v1346 c1_i32_482 c8192_i32_480
  let v1348 : BitVec 32 := Scalar.remsi v1338 v1347
  let c0_i32_484 : BitVec 32 := 0#32
  let v1350 : BitVec 1 := Scalar.cmpi .slt v1348 c0_i32_484
  let c0_i32_485 : BitVec 32 := 0#32
  let v1351 : BitVec 1 := Scalar.cmpi .slt v1347 c0_i32_485
  let v1352 : BitVec 1 := Scalar.xori v1350 v1351
  let c0_i32_483 : BitVec 32 := 0#32
  let v1349 : BitVec 1 := Scalar.cmpi .ne v1348 c0_i32_483
  let v1353 : BitVec 1 := Scalar.andi v1352 v1349
  let v1354 : BitVec 32 := Scalar.addi v1348 v1347
  let v1355 : BitVec 32 := Scalar.select v1353 v1354 v1348
  let c0_i32_487 : BitVec 32 := 0#32
  let v1357 : BitVec 1 := Scalar.cmpi .sgt v1355 c0_i32_487
  let v1358 : BitVec 32 := Scalar.extui v1357
  let c0_i32_488 : BitVec 32 := 0#32
  let v1359 : BitVec 1 := Scalar.cmpi .slt v1355 c0_i32_488
  let v1360 : BitVec 32 := Scalar.extui v1359
  let v1361 : BitVec 32 := Scalar.subi v1358 v1360
  let c128_i32_486 : BitVec 32 := 128#32
  let c0_i32_489 : BitVec 32 := 0#32
  let v1362 : BitVec 1 := Scalar.cmpi .sgt c128_i32_486 c0_i32_489
  let v1363 : BitVec 32 := Scalar.extui v1362
  let c0_i32_490 : BitVec 32 := 0#32
  let v1364 : BitVec 1 := Scalar.cmpi .slt c128_i32_486 c0_i32_490
  let v1365 : BitVec 32 := Scalar.extui v1364
  let v1366 : BitVec 32 := Scalar.subi v1363 v1365
  let v1367 : BitVec 1 := Scalar.cmpi .ne v1361 v1366
  let v1368 : BitVec 32 := Scalar.remsi v1355 c128_i32_486
  let c0_i32_491 : BitVec 32 := 0#32
  let v1369 : BitVec 1 := Scalar.cmpi .ne v1368 c0_i32_491
  let v1370 : BitVec 1 := Scalar.andi v1367 v1369
  let v1356 : BitVec 32 := Scalar.divsi v1355 c128_i32_486
  let c1_i32_492 : BitVec 32 := 1#32
  let v1371 : BitVec 32 := Scalar.subi v1356 c1_i32_492
  let v1372 : BitVec 32 := Scalar.select v1370 v1371 v1356
  let c128_i32_493 : BitVec 32 := 128#32
  let v1373 : BitVec 32 := Scalar.muli v1372 c128_i32_493
  let v1374 : Index := Scalar.indexCast v1373
  ![0, 0, v1374.toNat]

def k2_chk16 (v1338 : BitVec 32) : Prop :=
  (∀ a, (k2_off32 v1338) a + S1x8x128.size a ≤ S1x8x8192.size a)
theorem k2_off32_inb : ∀ (v1338 : BitVec 32) (k2_hw16 : k2_chk16 v1338), ∀ a, (k2_off32 v1338) a + S1x8x128.size a ≤ S1x8x8192.size a := fun v1338 k2_hw16 => k2_hw16

def k2_off33 (i : grid2.Coords) : Fin 1 → Nat :=
  let arg0 : BitVec 32 := BitVec.ofNat 32 (i 0).val
  let c64_i32_507 : BitVec 32 := 64#32
  let v1424 : BitVec 32 := Scalar.muli arg0 c64_i32_507
  let c16_i32 : BitVec 32 := 16#32
  let v1425 : BitVec 32 := Scalar.addi v1424 c16_i32
  let v1426 : Index := Scalar.indexCast v1425
  ![v1426.toNat]
def k2_off34 (v1427 : BitVec 32) : Fin 3 → Nat :=
  let c0_526 : Index := 0#32
  let c0_527 : Index := 0#32
  let c8192_i32_512 : BitVec 32 := 8192#32
  let c0_i32_513 : BitVec 32 := 0#32
  let v1435 : BitVec 1 := Scalar.cmpi .eq c8192_i32_512 c0_i32_513
  let c1_i32_514 : BitVec 32 := 1#32
  let v1436 : BitVec 32 := Scalar.select v1435 c1_i32_514 c8192_i32_512
  let v1437 : BitVec 32 := Scalar.remsi v1427 v1436
  let c0_i32_516 : BitVec 32 := 0#32
  let v1439 : BitVec 1 := Scalar.cmpi .slt v1437 c0_i32_516
  let c0_i32_517 : BitVec 32 := 0#32
  let v1440 : BitVec 1 := Scalar.cmpi .slt v1436 c0_i32_517
  let v1441 : BitVec 1 := Scalar.xori v1439 v1440
  let c0_i32_515 : BitVec 32 := 0#32
  let v1438 : BitVec 1 := Scalar.cmpi .ne v1437 c0_i32_515
  let v1442 : BitVec 1 := Scalar.andi v1441 v1438
  let v1443 : BitVec 32 := Scalar.addi v1437 v1436
  let v1444 : BitVec 32 := Scalar.select v1442 v1443 v1437
  let c0_i32_519 : BitVec 32 := 0#32
  let v1446 : BitVec 1 := Scalar.cmpi .sgt v1444 c0_i32_519
  let v1447 : BitVec 32 := Scalar.extui v1446
  let c0_i32_520 : BitVec 32 := 0#32
  let v1448 : BitVec 1 := Scalar.cmpi .slt v1444 c0_i32_520
  let v1449 : BitVec 32 := Scalar.extui v1448
  let v1450 : BitVec 32 := Scalar.subi v1447 v1449
  let c128_i32_518 : BitVec 32 := 128#32
  let c0_i32_521 : BitVec 32 := 0#32
  let v1451 : BitVec 1 := Scalar.cmpi .sgt c128_i32_518 c0_i32_521
  let v1452 : BitVec 32 := Scalar.extui v1451
  let c0_i32_522 : BitVec 32 := 0#32
  let v1453 : BitVec 1 := Scalar.cmpi .slt c128_i32_518 c0_i32_522
  let v1454 : BitVec 32 := Scalar.extui v1453
  let v1455 : BitVec 32 := Scalar.subi v1452 v1454
  let v1456 : BitVec 1 := Scalar.cmpi .ne v1450 v1455
  let v1457 : BitVec 32 := Scalar.remsi v1444 c128_i32_518
  let c0_i32_523 : BitVec 32 := 0#32
  let v1458 : BitVec 1 := Scalar.cmpi .ne v1457 c0_i32_523
  let v1459 : BitVec 1 := Scalar.andi v1456 v1458
  let v1445 : BitVec 32 := Scalar.divsi v1444 c128_i32_518
  let c1_i32_524 : BitVec 32 := 1#32
  let v1460 : BitVec 32 := Scalar.subi v1445 c1_i32_524
  let v1461 : BitVec 32 := Scalar.select v1459 v1460 v1445
  let c128_i32_525 : BitVec 32 := 128#32
  let v1462 : BitVec 32 := Scalar.muli v1461 c128_i32_525
  let v1463 : Index := Scalar.indexCast v1462
  ![0, 0, v1463.toNat]

def k2_chk17 (v1427 : BitVec 32) : Prop :=
  (∀ a, (k2_off34 v1427) a + S1x8x128.size a ≤ S1x8x8192.size a)
theorem k2_off34_inb : ∀ (v1427 : BitVec 32) (k2_hw17 : k2_chk17 v1427), ∀ a, (k2_off34 v1427) a + S1x8x128.size a ≤ S1x8x8192.size a := fun v1427 k2_hw17 => k2_hw17

def k2_off35 (i : grid2.Coords) : Fin 1 → Nat :=
  let arg0 : BitVec 32 := BitVec.ofNat 32 (i 0).val
  let c64_i32_539 : BitVec 32 := 64#32
  let v1513 : BitVec 32 := Scalar.muli arg0 c64_i32_539
  let c17_i32 : BitVec 32 := 17#32
  let v1514 : BitVec 32 := Scalar.addi v1513 c17_i32
  let v1515 : Index := Scalar.indexCast v1514
  ![v1515.toNat]
def k2_off36 (v1516 : BitVec 32) : Fin 3 → Nat :=
  let c0_558 : Index := 0#32
  let c0_559 : Index := 0#32
  let c8192_i32_544 : BitVec 32 := 8192#32
  let c0_i32_545 : BitVec 32 := 0#32
  let v1524 : BitVec 1 := Scalar.cmpi .eq c8192_i32_544 c0_i32_545
  let c1_i32_546 : BitVec 32 := 1#32
  let v1525 : BitVec 32 := Scalar.select v1524 c1_i32_546 c8192_i32_544
  let v1526 : BitVec 32 := Scalar.remsi v1516 v1525
  let c0_i32_548 : BitVec 32 := 0#32
  let v1528 : BitVec 1 := Scalar.cmpi .slt v1526 c0_i32_548
  let c0_i32_549 : BitVec 32 := 0#32
  let v1529 : BitVec 1 := Scalar.cmpi .slt v1525 c0_i32_549
  let v1530 : BitVec 1 := Scalar.xori v1528 v1529
  let c0_i32_547 : BitVec 32 := 0#32
  let v1527 : BitVec 1 := Scalar.cmpi .ne v1526 c0_i32_547
  let v1531 : BitVec 1 := Scalar.andi v1530 v1527
  let v1532 : BitVec 32 := Scalar.addi v1526 v1525
  let v1533 : BitVec 32 := Scalar.select v1531 v1532 v1526
  let c0_i32_551 : BitVec 32 := 0#32
  let v1535 : BitVec 1 := Scalar.cmpi .sgt v1533 c0_i32_551
  let v1536 : BitVec 32 := Scalar.extui v1535
  let c0_i32_552 : BitVec 32 := 0#32
  let v1537 : BitVec 1 := Scalar.cmpi .slt v1533 c0_i32_552
  let v1538 : BitVec 32 := Scalar.extui v1537
  let v1539 : BitVec 32 := Scalar.subi v1536 v1538
  let c128_i32_550 : BitVec 32 := 128#32
  let c0_i32_553 : BitVec 32 := 0#32
  let v1540 : BitVec 1 := Scalar.cmpi .sgt c128_i32_550 c0_i32_553
  let v1541 : BitVec 32 := Scalar.extui v1540
  let c0_i32_554 : BitVec 32 := 0#32
  let v1542 : BitVec 1 := Scalar.cmpi .slt c128_i32_550 c0_i32_554
  let v1543 : BitVec 32 := Scalar.extui v1542
  let v1544 : BitVec 32 := Scalar.subi v1541 v1543
  let v1545 : BitVec 1 := Scalar.cmpi .ne v1539 v1544
  let v1546 : BitVec 32 := Scalar.remsi v1533 c128_i32_550
  let c0_i32_555 : BitVec 32 := 0#32
  let v1547 : BitVec 1 := Scalar.cmpi .ne v1546 c0_i32_555
  let v1548 : BitVec 1 := Scalar.andi v1545 v1547
  let v1534 : BitVec 32 := Scalar.divsi v1533 c128_i32_550
  let c1_i32_556 : BitVec 32 := 1#32
  let v1549 : BitVec 32 := Scalar.subi v1534 c1_i32_556
  let v1550 : BitVec 32 := Scalar.select v1548 v1549 v1534
  let c128_i32_557 : BitVec 32 := 128#32
  let v1551 : BitVec 32 := Scalar.muli v1550 c128_i32_557
  let v1552 : Index := Scalar.indexCast v1551
  ![0, 0, v1552.toNat]

def k2_chk18 (v1516 : BitVec 32) : Prop :=
  (∀ a, (k2_off36 v1516) a + S1x8x128.size a ≤ S1x8x8192.size a)
theorem k2_off36_inb : ∀ (v1516 : BitVec 32) (k2_hw18 : k2_chk18 v1516), ∀ a, (k2_off36 v1516) a + S1x8x128.size a ≤ S1x8x8192.size a := fun v1516 k2_hw18 => k2_hw18

def k2_off37 (i : grid2.Coords) : Fin 1 → Nat :=
  let arg0 : BitVec 32 := BitVec.ofNat 32 (i 0).val
  let c64_i32_571 : BitVec 32 := 64#32
  let v1602 : BitVec 32 := Scalar.muli arg0 c64_i32_571
  let c18_i32 : BitVec 32 := 18#32
  let v1603 : BitVec 32 := Scalar.addi v1602 c18_i32
  let v1604 : Index := Scalar.indexCast v1603
  ![v1604.toNat]
def k2_off38 (v1605 : BitVec 32) : Fin 3 → Nat :=
  let c0_590 : Index := 0#32
  let c0_591 : Index := 0#32
  let c8192_i32_576 : BitVec 32 := 8192#32
  let c0_i32_577 : BitVec 32 := 0#32
  let v1613 : BitVec 1 := Scalar.cmpi .eq c8192_i32_576 c0_i32_577
  let c1_i32_578 : BitVec 32 := 1#32
  let v1614 : BitVec 32 := Scalar.select v1613 c1_i32_578 c8192_i32_576
  let v1615 : BitVec 32 := Scalar.remsi v1605 v1614
  let c0_i32_580 : BitVec 32 := 0#32
  let v1617 : BitVec 1 := Scalar.cmpi .slt v1615 c0_i32_580
  let c0_i32_581 : BitVec 32 := 0#32
  let v1618 : BitVec 1 := Scalar.cmpi .slt v1614 c0_i32_581
  let v1619 : BitVec 1 := Scalar.xori v1617 v1618
  let c0_i32_579 : BitVec 32 := 0#32
  let v1616 : BitVec 1 := Scalar.cmpi .ne v1615 c0_i32_579
  let v1620 : BitVec 1 := Scalar.andi v1619 v1616
  let v1621 : BitVec 32 := Scalar.addi v1615 v1614
  let v1622 : BitVec 32 := Scalar.select v1620 v1621 v1615
  let c0_i32_583 : BitVec 32 := 0#32
  let v1624 : BitVec 1 := Scalar.cmpi .sgt v1622 c0_i32_583
  let v1625 : BitVec 32 := Scalar.extui v1624
  let c0_i32_584 : BitVec 32 := 0#32
  let v1626 : BitVec 1 := Scalar.cmpi .slt v1622 c0_i32_584
  let v1627 : BitVec 32 := Scalar.extui v1626
  let v1628 : BitVec 32 := Scalar.subi v1625 v1627
  let c128_i32_582 : BitVec 32 := 128#32
  let c0_i32_585 : BitVec 32 := 0#32
  let v1629 : BitVec 1 := Scalar.cmpi .sgt c128_i32_582 c0_i32_585
  let v1630 : BitVec 32 := Scalar.extui v1629
  let c0_i32_586 : BitVec 32 := 0#32
  let v1631 : BitVec 1 := Scalar.cmpi .slt c128_i32_582 c0_i32_586
  let v1632 : BitVec 32 := Scalar.extui v1631
  let v1633 : BitVec 32 := Scalar.subi v1630 v1632
  let v1634 : BitVec 1 := Scalar.cmpi .ne v1628 v1633
  let v1635 : BitVec 32 := Scalar.remsi v1622 c128_i32_582
  let c0_i32_587 : BitVec 32 := 0#32
  let v1636 : BitVec 1 := Scalar.cmpi .ne v1635 c0_i32_587
  let v1637 : BitVec 1 := Scalar.andi v1634 v1636
  let v1623 : BitVec 32 := Scalar.divsi v1622 c128_i32_582
  let c1_i32_588 : BitVec 32 := 1#32
  let v1638 : BitVec 32 := Scalar.subi v1623 c1_i32_588
  let v1639 : BitVec 32 := Scalar.select v1637 v1638 v1623
  let c128_i32_589 : BitVec 32 := 128#32
  let v1640 : BitVec 32 := Scalar.muli v1639 c128_i32_589
  let v1641 : Index := Scalar.indexCast v1640
  ![0, 0, v1641.toNat]

def k2_chk19 (v1605 : BitVec 32) : Prop :=
  (∀ a, (k2_off38 v1605) a + S1x8x128.size a ≤ S1x8x8192.size a)
theorem k2_off38_inb : ∀ (v1605 : BitVec 32) (k2_hw19 : k2_chk19 v1605), ∀ a, (k2_off38 v1605) a + S1x8x128.size a ≤ S1x8x8192.size a := fun v1605 k2_hw19 => k2_hw19

def k2_off39 (i : grid2.Coords) : Fin 1 → Nat :=
  let arg0 : BitVec 32 := BitVec.ofNat 32 (i 0).val
  let c64_i32_603 : BitVec 32 := 64#32
  let v1691 : BitVec 32 := Scalar.muli arg0 c64_i32_603
  let c19_i32 : BitVec 32 := 19#32
  let v1692 : BitVec 32 := Scalar.addi v1691 c19_i32
  let v1693 : Index := Scalar.indexCast v1692
  ![v1693.toNat]
def k2_off40 (v1694 : BitVec 32) : Fin 3 → Nat :=
  let c0_622 : Index := 0#32
  let c0_623 : Index := 0#32
  let c8192_i32_608 : BitVec 32 := 8192#32
  let c0_i32_609 : BitVec 32 := 0#32
  let v1702 : BitVec 1 := Scalar.cmpi .eq c8192_i32_608 c0_i32_609
  let c1_i32_610 : BitVec 32 := 1#32
  let v1703 : BitVec 32 := Scalar.select v1702 c1_i32_610 c8192_i32_608
  let v1704 : BitVec 32 := Scalar.remsi v1694 v1703
  let c0_i32_612 : BitVec 32 := 0#32
  let v1706 : BitVec 1 := Scalar.cmpi .slt v1704 c0_i32_612
  let c0_i32_613 : BitVec 32 := 0#32
  let v1707 : BitVec 1 := Scalar.cmpi .slt v1703 c0_i32_613
  let v1708 : BitVec 1 := Scalar.xori v1706 v1707
  let c0_i32_611 : BitVec 32 := 0#32
  let v1705 : BitVec 1 := Scalar.cmpi .ne v1704 c0_i32_611
  let v1709 : BitVec 1 := Scalar.andi v1708 v1705
  let v1710 : BitVec 32 := Scalar.addi v1704 v1703
  let v1711 : BitVec 32 := Scalar.select v1709 v1710 v1704
  let c0_i32_615 : BitVec 32 := 0#32
  let v1713 : BitVec 1 := Scalar.cmpi .sgt v1711 c0_i32_615
  let v1714 : BitVec 32 := Scalar.extui v1713
  let c0_i32_616 : BitVec 32 := 0#32
  let v1715 : BitVec 1 := Scalar.cmpi .slt v1711 c0_i32_616
  let v1716 : BitVec 32 := Scalar.extui v1715
  let v1717 : BitVec 32 := Scalar.subi v1714 v1716
  let c128_i32_614 : BitVec 32 := 128#32
  let c0_i32_617 : BitVec 32 := 0#32
  let v1718 : BitVec 1 := Scalar.cmpi .sgt c128_i32_614 c0_i32_617
  let v1719 : BitVec 32 := Scalar.extui v1718
  let c0_i32_618 : BitVec 32 := 0#32
  let v1720 : BitVec 1 := Scalar.cmpi .slt c128_i32_614 c0_i32_618
  let v1721 : BitVec 32 := Scalar.extui v1720
  let v1722 : BitVec 32 := Scalar.subi v1719 v1721
  let v1723 : BitVec 1 := Scalar.cmpi .ne v1717 v1722
  let v1724 : BitVec 32 := Scalar.remsi v1711 c128_i32_614
  let c0_i32_619 : BitVec 32 := 0#32
  let v1725 : BitVec 1 := Scalar.cmpi .ne v1724 c0_i32_619
  let v1726 : BitVec 1 := Scalar.andi v1723 v1725
  let v1712 : BitVec 32 := Scalar.divsi v1711 c128_i32_614
  let c1_i32_620 : BitVec 32 := 1#32
  let v1727 : BitVec 32 := Scalar.subi v1712 c1_i32_620
  let v1728 : BitVec 32 := Scalar.select v1726 v1727 v1712
  let c128_i32_621 : BitVec 32 := 128#32
  let v1729 : BitVec 32 := Scalar.muli v1728 c128_i32_621
  let v1730 : Index := Scalar.indexCast v1729
  ![0, 0, v1730.toNat]

def k2_chk20 (v1694 : BitVec 32) : Prop :=
  (∀ a, (k2_off40 v1694) a + S1x8x128.size a ≤ S1x8x8192.size a)
theorem k2_off40_inb : ∀ (v1694 : BitVec 32) (k2_hw20 : k2_chk20 v1694), ∀ a, (k2_off40 v1694) a + S1x8x128.size a ≤ S1x8x8192.size a := fun v1694 k2_hw20 => k2_hw20

def k2_off41 (i : grid2.Coords) : Fin 1 → Nat :=
  let arg0 : BitVec 32 := BitVec.ofNat 32 (i 0).val
  let c64_i32_635 : BitVec 32 := 64#32
  let v1780 : BitVec 32 := Scalar.muli arg0 c64_i32_635
  let c20_i32 : BitVec 32 := 20#32
  let v1781 : BitVec 32 := Scalar.addi v1780 c20_i32
  let v1782 : Index := Scalar.indexCast v1781
  ![v1782.toNat]
def k2_off42 (v1783 : BitVec 32) : Fin 3 → Nat :=
  let c0_654 : Index := 0#32
  let c0_655 : Index := 0#32
  let c8192_i32_640 : BitVec 32 := 8192#32
  let c0_i32_641 : BitVec 32 := 0#32
  let v1791 : BitVec 1 := Scalar.cmpi .eq c8192_i32_640 c0_i32_641
  let c1_i32_642 : BitVec 32 := 1#32
  let v1792 : BitVec 32 := Scalar.select v1791 c1_i32_642 c8192_i32_640
  let v1793 : BitVec 32 := Scalar.remsi v1783 v1792
  let c0_i32_644 : BitVec 32 := 0#32
  let v1795 : BitVec 1 := Scalar.cmpi .slt v1793 c0_i32_644
  let c0_i32_645 : BitVec 32 := 0#32
  let v1796 : BitVec 1 := Scalar.cmpi .slt v1792 c0_i32_645
  let v1797 : BitVec 1 := Scalar.xori v1795 v1796
  let c0_i32_643 : BitVec 32 := 0#32
  let v1794 : BitVec 1 := Scalar.cmpi .ne v1793 c0_i32_643
  let v1798 : BitVec 1 := Scalar.andi v1797 v1794
  let v1799 : BitVec 32 := Scalar.addi v1793 v1792
  let v1800 : BitVec 32 := Scalar.select v1798 v1799 v1793
  let c0_i32_647 : BitVec 32 := 0#32
  let v1802 : BitVec 1 := Scalar.cmpi .sgt v1800 c0_i32_647
  let v1803 : BitVec 32 := Scalar.extui v1802
  let c0_i32_648 : BitVec 32 := 0#32
  let v1804 : BitVec 1 := Scalar.cmpi .slt v1800 c0_i32_648
  let v1805 : BitVec 32 := Scalar.extui v1804
  let v1806 : BitVec 32 := Scalar.subi v1803 v1805
  let c128_i32_646 : BitVec 32 := 128#32
  let c0_i32_649 : BitVec 32 := 0#32
  let v1807 : BitVec 1 := Scalar.cmpi .sgt c128_i32_646 c0_i32_649
  let v1808 : BitVec 32 := Scalar.extui v1807
  let c0_i32_650 : BitVec 32 := 0#32
  let v1809 : BitVec 1 := Scalar.cmpi .slt c128_i32_646 c0_i32_650
  let v1810 : BitVec 32 := Scalar.extui v1809
  let v1811 : BitVec 32 := Scalar.subi v1808 v1810
  let v1812 : BitVec 1 := Scalar.cmpi .ne v1806 v1811
  let v1813 : BitVec 32 := Scalar.remsi v1800 c128_i32_646
  let c0_i32_651 : BitVec 32 := 0#32
  let v1814 : BitVec 1 := Scalar.cmpi .ne v1813 c0_i32_651
  let v1815 : BitVec 1 := Scalar.andi v1812 v1814
  let v1801 : BitVec 32 := Scalar.divsi v1800 c128_i32_646
  let c1_i32_652 : BitVec 32 := 1#32
  let v1816 : BitVec 32 := Scalar.subi v1801 c1_i32_652
  let v1817 : BitVec 32 := Scalar.select v1815 v1816 v1801
  let c128_i32_653 : BitVec 32 := 128#32
  let v1818 : BitVec 32 := Scalar.muli v1817 c128_i32_653
  let v1819 : Index := Scalar.indexCast v1818
  ![0, 0, v1819.toNat]

def k2_chk21 (v1783 : BitVec 32) : Prop :=
  (∀ a, (k2_off42 v1783) a + S1x8x128.size a ≤ S1x8x8192.size a)
theorem k2_off42_inb : ∀ (v1783 : BitVec 32) (k2_hw21 : k2_chk21 v1783), ∀ a, (k2_off42 v1783) a + S1x8x128.size a ≤ S1x8x8192.size a := fun v1783 k2_hw21 => k2_hw21

def k2_off43 (i : grid2.Coords) : Fin 1 → Nat :=
  let arg0 : BitVec 32 := BitVec.ofNat 32 (i 0).val
  let c64_i32_667 : BitVec 32 := 64#32
  let v1869 : BitVec 32 := Scalar.muli arg0 c64_i32_667
  let c21_i32 : BitVec 32 := 21#32
  let v1870 : BitVec 32 := Scalar.addi v1869 c21_i32
  let v1871 : Index := Scalar.indexCast v1870
  ![v1871.toNat]
def k2_off44 (v1872 : BitVec 32) : Fin 3 → Nat :=
  let c0_686 : Index := 0#32
  let c0_687 : Index := 0#32
  let c8192_i32_672 : BitVec 32 := 8192#32
  let c0_i32_673 : BitVec 32 := 0#32
  let v1880 : BitVec 1 := Scalar.cmpi .eq c8192_i32_672 c0_i32_673
  let c1_i32_674 : BitVec 32 := 1#32
  let v1881 : BitVec 32 := Scalar.select v1880 c1_i32_674 c8192_i32_672
  let v1882 : BitVec 32 := Scalar.remsi v1872 v1881
  let c0_i32_676 : BitVec 32 := 0#32
  let v1884 : BitVec 1 := Scalar.cmpi .slt v1882 c0_i32_676
  let c0_i32_677 : BitVec 32 := 0#32
  let v1885 : BitVec 1 := Scalar.cmpi .slt v1881 c0_i32_677
  let v1886 : BitVec 1 := Scalar.xori v1884 v1885
  let c0_i32_675 : BitVec 32 := 0#32
  let v1883 : BitVec 1 := Scalar.cmpi .ne v1882 c0_i32_675
  let v1887 : BitVec 1 := Scalar.andi v1886 v1883
  let v1888 : BitVec 32 := Scalar.addi v1882 v1881
  let v1889 : BitVec 32 := Scalar.select v1887 v1888 v1882
  let c0_i32_679 : BitVec 32 := 0#32
  let v1891 : BitVec 1 := Scalar.cmpi .sgt v1889 c0_i32_679
  let v1892 : BitVec 32 := Scalar.extui v1891
  let c0_i32_680 : BitVec 32 := 0#32
  let v1893 : BitVec 1 := Scalar.cmpi .slt v1889 c0_i32_680
  let v1894 : BitVec 32 := Scalar.extui v1893
  let v1895 : BitVec 32 := Scalar.subi v1892 v1894
  let c128_i32_678 : BitVec 32 := 128#32
  let c0_i32_681 : BitVec 32 := 0#32
  let v1896 : BitVec 1 := Scalar.cmpi .sgt c128_i32_678 c0_i32_681
  let v1897 : BitVec 32 := Scalar.extui v1896
  let c0_i32_682 : BitVec 32 := 0#32
  let v1898 : BitVec 1 := Scalar.cmpi .slt c128_i32_678 c0_i32_682
  let v1899 : BitVec 32 := Scalar.extui v1898
  let v1900 : BitVec 32 := Scalar.subi v1897 v1899
  let v1901 : BitVec 1 := Scalar.cmpi .ne v1895 v1900
  let v1902 : BitVec 32 := Scalar.remsi v1889 c128_i32_678
  let c0_i32_683 : BitVec 32 := 0#32
  let v1903 : BitVec 1 := Scalar.cmpi .ne v1902 c0_i32_683
  let v1904 : BitVec 1 := Scalar.andi v1901 v1903
  let v1890 : BitVec 32 := Scalar.divsi v1889 c128_i32_678
  let c1_i32_684 : BitVec 32 := 1#32
  let v1905 : BitVec 32 := Scalar.subi v1890 c1_i32_684
  let v1906 : BitVec 32 := Scalar.select v1904 v1905 v1890
  let c128_i32_685 : BitVec 32 := 128#32
  let v1907 : BitVec 32 := Scalar.muli v1906 c128_i32_685
  let v1908 : Index := Scalar.indexCast v1907
  ![0, 0, v1908.toNat]

def k2_chk22 (v1872 : BitVec 32) : Prop :=
  (∀ a, (k2_off44 v1872) a + S1x8x128.size a ≤ S1x8x8192.size a)
theorem k2_off44_inb : ∀ (v1872 : BitVec 32) (k2_hw22 : k2_chk22 v1872), ∀ a, (k2_off44 v1872) a + S1x8x128.size a ≤ S1x8x8192.size a := fun v1872 k2_hw22 => k2_hw22

def k2_off45 (i : grid2.Coords) : Fin 1 → Nat :=
  let arg0 : BitVec 32 := BitVec.ofNat 32 (i 0).val
  let c64_i32_699 : BitVec 32 := 64#32
  let v1958 : BitVec 32 := Scalar.muli arg0 c64_i32_699
  let c22_i32 : BitVec 32 := 22#32
  let v1959 : BitVec 32 := Scalar.addi v1958 c22_i32
  let v1960 : Index := Scalar.indexCast v1959
  ![v1960.toNat]
def k2_off46 (v1961 : BitVec 32) : Fin 3 → Nat :=
  let c0_718 : Index := 0#32
  let c0_719 : Index := 0#32
  let c8192_i32_704 : BitVec 32 := 8192#32
  let c0_i32_705 : BitVec 32 := 0#32
  let v1969 : BitVec 1 := Scalar.cmpi .eq c8192_i32_704 c0_i32_705
  let c1_i32_706 : BitVec 32 := 1#32
  let v1970 : BitVec 32 := Scalar.select v1969 c1_i32_706 c8192_i32_704
  let v1971 : BitVec 32 := Scalar.remsi v1961 v1970
  let c0_i32_708 : BitVec 32 := 0#32
  let v1973 : BitVec 1 := Scalar.cmpi .slt v1971 c0_i32_708
  let c0_i32_709 : BitVec 32 := 0#32
  let v1974 : BitVec 1 := Scalar.cmpi .slt v1970 c0_i32_709
  let v1975 : BitVec 1 := Scalar.xori v1973 v1974
  let c0_i32_707 : BitVec 32 := 0#32
  let v1972 : BitVec 1 := Scalar.cmpi .ne v1971 c0_i32_707
  let v1976 : BitVec 1 := Scalar.andi v1975 v1972
  let v1977 : BitVec 32 := Scalar.addi v1971 v1970
  let v1978 : BitVec 32 := Scalar.select v1976 v1977 v1971
  let c0_i32_711 : BitVec 32 := 0#32
  let v1980 : BitVec 1 := Scalar.cmpi .sgt v1978 c0_i32_711
  let v1981 : BitVec 32 := Scalar.extui v1980
  let c0_i32_712 : BitVec 32 := 0#32
  let v1982 : BitVec 1 := Scalar.cmpi .slt v1978 c0_i32_712
  let v1983 : BitVec 32 := Scalar.extui v1982
  let v1984 : BitVec 32 := Scalar.subi v1981 v1983
  let c128_i32_710 : BitVec 32 := 128#32
  let c0_i32_713 : BitVec 32 := 0#32
  let v1985 : BitVec 1 := Scalar.cmpi .sgt c128_i32_710 c0_i32_713
  let v1986 : BitVec 32 := Scalar.extui v1985
  let c0_i32_714 : BitVec 32 := 0#32
  let v1987 : BitVec 1 := Scalar.cmpi .slt c128_i32_710 c0_i32_714
  let v1988 : BitVec 32 := Scalar.extui v1987
  let v1989 : BitVec 32 := Scalar.subi v1986 v1988
  let v1990 : BitVec 1 := Scalar.cmpi .ne v1984 v1989
  let v1991 : BitVec 32 := Scalar.remsi v1978 c128_i32_710
  let c0_i32_715 : BitVec 32 := 0#32
  let v1992 : BitVec 1 := Scalar.cmpi .ne v1991 c0_i32_715
  let v1993 : BitVec 1 := Scalar.andi v1990 v1992
  let v1979 : BitVec 32 := Scalar.divsi v1978 c128_i32_710
  let c1_i32_716 : BitVec 32 := 1#32
  let v1994 : BitVec 32 := Scalar.subi v1979 c1_i32_716
  let v1995 : BitVec 32 := Scalar.select v1993 v1994 v1979
  let c128_i32_717 : BitVec 32 := 128#32
  let v1996 : BitVec 32 := Scalar.muli v1995 c128_i32_717
  let v1997 : Index := Scalar.indexCast v1996
  ![0, 0, v1997.toNat]

def k2_chk23 (v1961 : BitVec 32) : Prop :=
  (∀ a, (k2_off46 v1961) a + S1x8x128.size a ≤ S1x8x8192.size a)
theorem k2_off46_inb : ∀ (v1961 : BitVec 32) (k2_hw23 : k2_chk23 v1961), ∀ a, (k2_off46 v1961) a + S1x8x128.size a ≤ S1x8x8192.size a := fun v1961 k2_hw23 => k2_hw23

def k2_off47 (i : grid2.Coords) : Fin 1 → Nat :=
  let arg0 : BitVec 32 := BitVec.ofNat 32 (i 0).val
  let c64_i32_731 : BitVec 32 := 64#32
  let v2047 : BitVec 32 := Scalar.muli arg0 c64_i32_731
  let c23_i32 : BitVec 32 := 23#32
  let v2048 : BitVec 32 := Scalar.addi v2047 c23_i32
  let v2049 : Index := Scalar.indexCast v2048
  ![v2049.toNat]
def k2_off48 (v2050 : BitVec 32) : Fin 3 → Nat :=
  let c0_750 : Index := 0#32
  let c0_751 : Index := 0#32
  let c8192_i32_736 : BitVec 32 := 8192#32
  let c0_i32_737 : BitVec 32 := 0#32
  let v2058 : BitVec 1 := Scalar.cmpi .eq c8192_i32_736 c0_i32_737
  let c1_i32_738 : BitVec 32 := 1#32
  let v2059 : BitVec 32 := Scalar.select v2058 c1_i32_738 c8192_i32_736
  let v2060 : BitVec 32 := Scalar.remsi v2050 v2059
  let c0_i32_740 : BitVec 32 := 0#32
  let v2062 : BitVec 1 := Scalar.cmpi .slt v2060 c0_i32_740
  let c0_i32_741 : BitVec 32 := 0#32
  let v2063 : BitVec 1 := Scalar.cmpi .slt v2059 c0_i32_741
  let v2064 : BitVec 1 := Scalar.xori v2062 v2063
  let c0_i32_739 : BitVec 32 := 0#32
  let v2061 : BitVec 1 := Scalar.cmpi .ne v2060 c0_i32_739
  let v2065 : BitVec 1 := Scalar.andi v2064 v2061
  let v2066 : BitVec 32 := Scalar.addi v2060 v2059
  let v2067 : BitVec 32 := Scalar.select v2065 v2066 v2060
  let c0_i32_743 : BitVec 32 := 0#32
  let v2069 : BitVec 1 := Scalar.cmpi .sgt v2067 c0_i32_743
  let v2070 : BitVec 32 := Scalar.extui v2069
  let c0_i32_744 : BitVec 32 := 0#32
  let v2071 : BitVec 1 := Scalar.cmpi .slt v2067 c0_i32_744
  let v2072 : BitVec 32 := Scalar.extui v2071
  let v2073 : BitVec 32 := Scalar.subi v2070 v2072
  let c128_i32_742 : BitVec 32 := 128#32
  let c0_i32_745 : BitVec 32 := 0#32
  let v2074 : BitVec 1 := Scalar.cmpi .sgt c128_i32_742 c0_i32_745
  let v2075 : BitVec 32 := Scalar.extui v2074
  let c0_i32_746 : BitVec 32 := 0#32
  let v2076 : BitVec 1 := Scalar.cmpi .slt c128_i32_742 c0_i32_746
  let v2077 : BitVec 32 := Scalar.extui v2076
  let v2078 : BitVec 32 := Scalar.subi v2075 v2077
  let v2079 : BitVec 1 := Scalar.cmpi .ne v2073 v2078
  let v2080 : BitVec 32 := Scalar.remsi v2067 c128_i32_742
  let c0_i32_747 : BitVec 32 := 0#32
  let v2081 : BitVec 1 := Scalar.cmpi .ne v2080 c0_i32_747
  let v2082 : BitVec 1 := Scalar.andi v2079 v2081
  let v2068 : BitVec 32 := Scalar.divsi v2067 c128_i32_742
  let c1_i32_748 : BitVec 32 := 1#32
  let v2083 : BitVec 32 := Scalar.subi v2068 c1_i32_748
  let v2084 : BitVec 32 := Scalar.select v2082 v2083 v2068
  let c128_i32_749 : BitVec 32 := 128#32
  let v2085 : BitVec 32 := Scalar.muli v2084 c128_i32_749
  let v2086 : Index := Scalar.indexCast v2085
  ![0, 0, v2086.toNat]

def k2_chk24 (v2050 : BitVec 32) : Prop :=
  (∀ a, (k2_off48 v2050) a + S1x8x128.size a ≤ S1x8x8192.size a)
theorem k2_off48_inb : ∀ (v2050 : BitVec 32) (k2_hw24 : k2_chk24 v2050), ∀ a, (k2_off48 v2050) a + S1x8x128.size a ≤ S1x8x8192.size a := fun v2050 k2_hw24 => k2_hw24

def k2_off49 (i : grid2.Coords) : Fin 1 → Nat :=
  let arg0 : BitVec 32 := BitVec.ofNat 32 (i 0).val
  let c64_i32_763 : BitVec 32 := 64#32
  let v2136 : BitVec 32 := Scalar.muli arg0 c64_i32_763
  let c24_i32 : BitVec 32 := 24#32
  let v2137 : BitVec 32 := Scalar.addi v2136 c24_i32
  let v2138 : Index := Scalar.indexCast v2137
  ![v2138.toNat]
def k2_off50 (v2139 : BitVec 32) : Fin 3 → Nat :=
  let c0_782 : Index := 0#32
  let c0_783 : Index := 0#32
  let c8192_i32_768 : BitVec 32 := 8192#32
  let c0_i32_769 : BitVec 32 := 0#32
  let v2147 : BitVec 1 := Scalar.cmpi .eq c8192_i32_768 c0_i32_769
  let c1_i32_770 : BitVec 32 := 1#32
  let v2148 : BitVec 32 := Scalar.select v2147 c1_i32_770 c8192_i32_768
  let v2149 : BitVec 32 := Scalar.remsi v2139 v2148
  let c0_i32_772 : BitVec 32 := 0#32
  let v2151 : BitVec 1 := Scalar.cmpi .slt v2149 c0_i32_772
  let c0_i32_773 : BitVec 32 := 0#32
  let v2152 : BitVec 1 := Scalar.cmpi .slt v2148 c0_i32_773
  let v2153 : BitVec 1 := Scalar.xori v2151 v2152
  let c0_i32_771 : BitVec 32 := 0#32
  let v2150 : BitVec 1 := Scalar.cmpi .ne v2149 c0_i32_771
  let v2154 : BitVec 1 := Scalar.andi v2153 v2150
  let v2155 : BitVec 32 := Scalar.addi v2149 v2148
  let v2156 : BitVec 32 := Scalar.select v2154 v2155 v2149
  let c0_i32_775 : BitVec 32 := 0#32
  let v2158 : BitVec 1 := Scalar.cmpi .sgt v2156 c0_i32_775
  let v2159 : BitVec 32 := Scalar.extui v2158
  let c0_i32_776 : BitVec 32 := 0#32
  let v2160 : BitVec 1 := Scalar.cmpi .slt v2156 c0_i32_776
  let v2161 : BitVec 32 := Scalar.extui v2160
  let v2162 : BitVec 32 := Scalar.subi v2159 v2161
  let c128_i32_774 : BitVec 32 := 128#32
  let c0_i32_777 : BitVec 32 := 0#32
  let v2163 : BitVec 1 := Scalar.cmpi .sgt c128_i32_774 c0_i32_777
  let v2164 : BitVec 32 := Scalar.extui v2163
  let c0_i32_778 : BitVec 32 := 0#32
  let v2165 : BitVec 1 := Scalar.cmpi .slt c128_i32_774 c0_i32_778
  let v2166 : BitVec 32 := Scalar.extui v2165
  let v2167 : BitVec 32 := Scalar.subi v2164 v2166
  let v2168 : BitVec 1 := Scalar.cmpi .ne v2162 v2167
  let v2169 : BitVec 32 := Scalar.remsi v2156 c128_i32_774
  let c0_i32_779 : BitVec 32 := 0#32
  let v2170 : BitVec 1 := Scalar.cmpi .ne v2169 c0_i32_779
  let v2171 : BitVec 1 := Scalar.andi v2168 v2170
  let v2157 : BitVec 32 := Scalar.divsi v2156 c128_i32_774
  let c1_i32_780 : BitVec 32 := 1#32
  let v2172 : BitVec 32 := Scalar.subi v2157 c1_i32_780
  let v2173 : BitVec 32 := Scalar.select v2171 v2172 v2157
  let c128_i32_781 : BitVec 32 := 128#32
  let v2174 : BitVec 32 := Scalar.muli v2173 c128_i32_781
  let v2175 : Index := Scalar.indexCast v2174
  ![0, 0, v2175.toNat]

def k2_chk25 (v2139 : BitVec 32) : Prop :=
  (∀ a, (k2_off50 v2139) a + S1x8x128.size a ≤ S1x8x8192.size a)
theorem k2_off50_inb : ∀ (v2139 : BitVec 32) (k2_hw25 : k2_chk25 v2139), ∀ a, (k2_off50 v2139) a + S1x8x128.size a ≤ S1x8x8192.size a := fun v2139 k2_hw25 => k2_hw25

def k2_off51 (i : grid2.Coords) : Fin 1 → Nat :=
  let arg0 : BitVec 32 := BitVec.ofNat 32 (i 0).val
  let c64_i32_795 : BitVec 32 := 64#32
  let v2225 : BitVec 32 := Scalar.muli arg0 c64_i32_795
  let c25_i32 : BitVec 32 := 25#32
  let v2226 : BitVec 32 := Scalar.addi v2225 c25_i32
  let v2227 : Index := Scalar.indexCast v2226
  ![v2227.toNat]
def k2_off52 (v2228 : BitVec 32) : Fin 3 → Nat :=
  let c0_814 : Index := 0#32
  let c0_815 : Index := 0#32
  let c8192_i32_800 : BitVec 32 := 8192#32
  let c0_i32_801 : BitVec 32 := 0#32
  let v2236 : BitVec 1 := Scalar.cmpi .eq c8192_i32_800 c0_i32_801
  let c1_i32_802 : BitVec 32 := 1#32
  let v2237 : BitVec 32 := Scalar.select v2236 c1_i32_802 c8192_i32_800
  let v2238 : BitVec 32 := Scalar.remsi v2228 v2237
  let c0_i32_804 : BitVec 32 := 0#32
  let v2240 : BitVec 1 := Scalar.cmpi .slt v2238 c0_i32_804
  let c0_i32_805 : BitVec 32 := 0#32
  let v2241 : BitVec 1 := Scalar.cmpi .slt v2237 c0_i32_805
  let v2242 : BitVec 1 := Scalar.xori v2240 v2241
  let c0_i32_803 : BitVec 32 := 0#32
  let v2239 : BitVec 1 := Scalar.cmpi .ne v2238 c0_i32_803
  let v2243 : BitVec 1 := Scalar.andi v2242 v2239
  let v2244 : BitVec 32 := Scalar.addi v2238 v2237
  let v2245 : BitVec 32 := Scalar.select v2243 v2244 v2238
  let c0_i32_807 : BitVec 32 := 0#32
  let v2247 : BitVec 1 := Scalar.cmpi .sgt v2245 c0_i32_807
  let v2248 : BitVec 32 := Scalar.extui v2247
  let c0_i32_808 : BitVec 32 := 0#32
  let v2249 : BitVec 1 := Scalar.cmpi .slt v2245 c0_i32_808
  let v2250 : BitVec 32 := Scalar.extui v2249
  let v2251 : BitVec 32 := Scalar.subi v2248 v2250
  let c128_i32_806 : BitVec 32 := 128#32
  let c0_i32_809 : BitVec 32 := 0#32
  let v2252 : BitVec 1 := Scalar.cmpi .sgt c128_i32_806 c0_i32_809
  let v2253 : BitVec 32 := Scalar.extui v2252
  let c0_i32_810 : BitVec 32 := 0#32
  let v2254 : BitVec 1 := Scalar.cmpi .slt c128_i32_806 c0_i32_810
  let v2255 : BitVec 32 := Scalar.extui v2254
  let v2256 : BitVec 32 := Scalar.subi v2253 v2255
  let v2257 : BitVec 1 := Scalar.cmpi .ne v2251 v2256
  let v2258 : BitVec 32 := Scalar.remsi v2245 c128_i32_806
  let c0_i32_811 : BitVec 32 := 0#32
  let v2259 : BitVec 1 := Scalar.cmpi .ne v2258 c0_i32_811
  let v2260 : BitVec 1 := Scalar.andi v2257 v2259
  let v2246 : BitVec 32 := Scalar.divsi v2245 c128_i32_806
  let c1_i32_812 : BitVec 32 := 1#32
  let v2261 : BitVec 32 := Scalar.subi v2246 c1_i32_812
  let v2262 : BitVec 32 := Scalar.select v2260 v2261 v2246
  let c128_i32_813 : BitVec 32 := 128#32
  let v2263 : BitVec 32 := Scalar.muli v2262 c128_i32_813
  let v2264 : Index := Scalar.indexCast v2263
  ![0, 0, v2264.toNat]

def k2_chk26 (v2228 : BitVec 32) : Prop :=
  (∀ a, (k2_off52 v2228) a + S1x8x128.size a ≤ S1x8x8192.size a)
theorem k2_off52_inb : ∀ (v2228 : BitVec 32) (k2_hw26 : k2_chk26 v2228), ∀ a, (k2_off52 v2228) a + S1x8x128.size a ≤ S1x8x8192.size a := fun v2228 k2_hw26 => k2_hw26

def k2_off53 (i : grid2.Coords) : Fin 1 → Nat :=
  let arg0 : BitVec 32 := BitVec.ofNat 32 (i 0).val
  let c64_i32_827 : BitVec 32 := 64#32
  let v2314 : BitVec 32 := Scalar.muli arg0 c64_i32_827
  let c26_i32 : BitVec 32 := 26#32
  let v2315 : BitVec 32 := Scalar.addi v2314 c26_i32
  let v2316 : Index := Scalar.indexCast v2315
  ![v2316.toNat]
def k2_off54 (v2317 : BitVec 32) : Fin 3 → Nat :=
  let c0_846 : Index := 0#32
  let c0_847 : Index := 0#32
  let c8192_i32_832 : BitVec 32 := 8192#32
  let c0_i32_833 : BitVec 32 := 0#32
  let v2325 : BitVec 1 := Scalar.cmpi .eq c8192_i32_832 c0_i32_833
  let c1_i32_834 : BitVec 32 := 1#32
  let v2326 : BitVec 32 := Scalar.select v2325 c1_i32_834 c8192_i32_832
  let v2327 : BitVec 32 := Scalar.remsi v2317 v2326
  let c0_i32_836 : BitVec 32 := 0#32
  let v2329 : BitVec 1 := Scalar.cmpi .slt v2327 c0_i32_836
  let c0_i32_837 : BitVec 32 := 0#32
  let v2330 : BitVec 1 := Scalar.cmpi .slt v2326 c0_i32_837
  let v2331 : BitVec 1 := Scalar.xori v2329 v2330
  let c0_i32_835 : BitVec 32 := 0#32
  let v2328 : BitVec 1 := Scalar.cmpi .ne v2327 c0_i32_835
  let v2332 : BitVec 1 := Scalar.andi v2331 v2328
  let v2333 : BitVec 32 := Scalar.addi v2327 v2326
  let v2334 : BitVec 32 := Scalar.select v2332 v2333 v2327
  let c0_i32_839 : BitVec 32 := 0#32
  let v2336 : BitVec 1 := Scalar.cmpi .sgt v2334 c0_i32_839
  let v2337 : BitVec 32 := Scalar.extui v2336
  let c0_i32_840 : BitVec 32 := 0#32
  let v2338 : BitVec 1 := Scalar.cmpi .slt v2334 c0_i32_840
  let v2339 : BitVec 32 := Scalar.extui v2338
  let v2340 : BitVec 32 := Scalar.subi v2337 v2339
  let c128_i32_838 : BitVec 32 := 128#32
  let c0_i32_841 : BitVec 32 := 0#32
  let v2341 : BitVec 1 := Scalar.cmpi .sgt c128_i32_838 c0_i32_841
  let v2342 : BitVec 32 := Scalar.extui v2341
  let c0_i32_842 : BitVec 32 := 0#32
  let v2343 : BitVec 1 := Scalar.cmpi .slt c128_i32_838 c0_i32_842
  let v2344 : BitVec 32 := Scalar.extui v2343
  let v2345 : BitVec 32 := Scalar.subi v2342 v2344
  let v2346 : BitVec 1 := Scalar.cmpi .ne v2340 v2345
  let v2347 : BitVec 32 := Scalar.remsi v2334 c128_i32_838
  let c0_i32_843 : BitVec 32 := 0#32
  let v2348 : BitVec 1 := Scalar.cmpi .ne v2347 c0_i32_843
  let v2349 : BitVec 1 := Scalar.andi v2346 v2348
  let v2335 : BitVec 32 := Scalar.divsi v2334 c128_i32_838
  let c1_i32_844 : BitVec 32 := 1#32
  let v2350 : BitVec 32 := Scalar.subi v2335 c1_i32_844
  let v2351 : BitVec 32 := Scalar.select v2349 v2350 v2335
  let c128_i32_845 : BitVec 32 := 128#32
  let v2352 : BitVec 32 := Scalar.muli v2351 c128_i32_845
  let v2353 : Index := Scalar.indexCast v2352
  ![0, 0, v2353.toNat]

def k2_chk27 (v2317 : BitVec 32) : Prop :=
  (∀ a, (k2_off54 v2317) a + S1x8x128.size a ≤ S1x8x8192.size a)
theorem k2_off54_inb : ∀ (v2317 : BitVec 32) (k2_hw27 : k2_chk27 v2317), ∀ a, (k2_off54 v2317) a + S1x8x128.size a ≤ S1x8x8192.size a := fun v2317 k2_hw27 => k2_hw27

def k2_off55 (i : grid2.Coords) : Fin 1 → Nat :=
  let arg0 : BitVec 32 := BitVec.ofNat 32 (i 0).val
  let c64_i32_859 : BitVec 32 := 64#32
  let v2403 : BitVec 32 := Scalar.muli arg0 c64_i32_859
  let c27_i32 : BitVec 32 := 27#32
  let v2404 : BitVec 32 := Scalar.addi v2403 c27_i32
  let v2405 : Index := Scalar.indexCast v2404
  ![v2405.toNat]
def k2_off56 (v2406 : BitVec 32) : Fin 3 → Nat :=
  let c0_878 : Index := 0#32
  let c0_879 : Index := 0#32
  let c8192_i32_864 : BitVec 32 := 8192#32
  let c0_i32_865 : BitVec 32 := 0#32
  let v2414 : BitVec 1 := Scalar.cmpi .eq c8192_i32_864 c0_i32_865
  let c1_i32_866 : BitVec 32 := 1#32
  let v2415 : BitVec 32 := Scalar.select v2414 c1_i32_866 c8192_i32_864
  let v2416 : BitVec 32 := Scalar.remsi v2406 v2415
  let c0_i32_868 : BitVec 32 := 0#32
  let v2418 : BitVec 1 := Scalar.cmpi .slt v2416 c0_i32_868
  let c0_i32_869 : BitVec 32 := 0#32
  let v2419 : BitVec 1 := Scalar.cmpi .slt v2415 c0_i32_869
  let v2420 : BitVec 1 := Scalar.xori v2418 v2419
  let c0_i32_867 : BitVec 32 := 0#32
  let v2417 : BitVec 1 := Scalar.cmpi .ne v2416 c0_i32_867
  let v2421 : BitVec 1 := Scalar.andi v2420 v2417
  let v2422 : BitVec 32 := Scalar.addi v2416 v2415
  let v2423 : BitVec 32 := Scalar.select v2421 v2422 v2416
  let c0_i32_871 : BitVec 32 := 0#32
  let v2425 : BitVec 1 := Scalar.cmpi .sgt v2423 c0_i32_871
  let v2426 : BitVec 32 := Scalar.extui v2425
  let c0_i32_872 : BitVec 32 := 0#32
  let v2427 : BitVec 1 := Scalar.cmpi .slt v2423 c0_i32_872
  let v2428 : BitVec 32 := Scalar.extui v2427
  let v2429 : BitVec 32 := Scalar.subi v2426 v2428
  let c128_i32_870 : BitVec 32 := 128#32
  let c0_i32_873 : BitVec 32 := 0#32
  let v2430 : BitVec 1 := Scalar.cmpi .sgt c128_i32_870 c0_i32_873
  let v2431 : BitVec 32 := Scalar.extui v2430
  let c0_i32_874 : BitVec 32 := 0#32
  let v2432 : BitVec 1 := Scalar.cmpi .slt c128_i32_870 c0_i32_874
  let v2433 : BitVec 32 := Scalar.extui v2432
  let v2434 : BitVec 32 := Scalar.subi v2431 v2433
  let v2435 : BitVec 1 := Scalar.cmpi .ne v2429 v2434
  let v2436 : BitVec 32 := Scalar.remsi v2423 c128_i32_870
  let c0_i32_875 : BitVec 32 := 0#32
  let v2437 : BitVec 1 := Scalar.cmpi .ne v2436 c0_i32_875
  let v2438 : BitVec 1 := Scalar.andi v2435 v2437
  let v2424 : BitVec 32 := Scalar.divsi v2423 c128_i32_870
  let c1_i32_876 : BitVec 32 := 1#32
  let v2439 : BitVec 32 := Scalar.subi v2424 c1_i32_876
  let v2440 : BitVec 32 := Scalar.select v2438 v2439 v2424
  let c128_i32_877 : BitVec 32 := 128#32
  let v2441 : BitVec 32 := Scalar.muli v2440 c128_i32_877
  let v2442 : Index := Scalar.indexCast v2441
  ![0, 0, v2442.toNat]

def k2_chk28 (v2406 : BitVec 32) : Prop :=
  (∀ a, (k2_off56 v2406) a + S1x8x128.size a ≤ S1x8x8192.size a)
theorem k2_off56_inb : ∀ (v2406 : BitVec 32) (k2_hw28 : k2_chk28 v2406), ∀ a, (k2_off56 v2406) a + S1x8x128.size a ≤ S1x8x8192.size a := fun v2406 k2_hw28 => k2_hw28

def k2_off57 (i : grid2.Coords) : Fin 1 → Nat :=
  let arg0 : BitVec 32 := BitVec.ofNat 32 (i 0).val
  let c64_i32_891 : BitVec 32 := 64#32
  let v2492 : BitVec 32 := Scalar.muli arg0 c64_i32_891
  let c28_i32 : BitVec 32 := 28#32
  let v2493 : BitVec 32 := Scalar.addi v2492 c28_i32
  let v2494 : Index := Scalar.indexCast v2493
  ![v2494.toNat]
def k2_off58 (v2495 : BitVec 32) : Fin 3 → Nat :=
  let c0_910 : Index := 0#32
  let c0_911 : Index := 0#32
  let c8192_i32_896 : BitVec 32 := 8192#32
  let c0_i32_897 : BitVec 32 := 0#32
  let v2503 : BitVec 1 := Scalar.cmpi .eq c8192_i32_896 c0_i32_897
  let c1_i32_898 : BitVec 32 := 1#32
  let v2504 : BitVec 32 := Scalar.select v2503 c1_i32_898 c8192_i32_896
  let v2505 : BitVec 32 := Scalar.remsi v2495 v2504
  let c0_i32_900 : BitVec 32 := 0#32
  let v2507 : BitVec 1 := Scalar.cmpi .slt v2505 c0_i32_900
  let c0_i32_901 : BitVec 32 := 0#32
  let v2508 : BitVec 1 := Scalar.cmpi .slt v2504 c0_i32_901
  let v2509 : BitVec 1 := Scalar.xori v2507 v2508
  let c0_i32_899 : BitVec 32 := 0#32
  let v2506 : BitVec 1 := Scalar.cmpi .ne v2505 c0_i32_899
  let v2510 : BitVec 1 := Scalar.andi v2509 v2506
  let v2511 : BitVec 32 := Scalar.addi v2505 v2504
  let v2512 : BitVec 32 := Scalar.select v2510 v2511 v2505
  let c0_i32_903 : BitVec 32 := 0#32
  let v2514 : BitVec 1 := Scalar.cmpi .sgt v2512 c0_i32_903
  let v2515 : BitVec 32 := Scalar.extui v2514
  let c0_i32_904 : BitVec 32 := 0#32
  let v2516 : BitVec 1 := Scalar.cmpi .slt v2512 c0_i32_904
  let v2517 : BitVec 32 := Scalar.extui v2516
  let v2518 : BitVec 32 := Scalar.subi v2515 v2517
  let c128_i32_902 : BitVec 32 := 128#32
  let c0_i32_905 : BitVec 32 := 0#32
  let v2519 : BitVec 1 := Scalar.cmpi .sgt c128_i32_902 c0_i32_905
  let v2520 : BitVec 32 := Scalar.extui v2519
  let c0_i32_906 : BitVec 32 := 0#32
  let v2521 : BitVec 1 := Scalar.cmpi .slt c128_i32_902 c0_i32_906
  let v2522 : BitVec 32 := Scalar.extui v2521
  let v2523 : BitVec 32 := Scalar.subi v2520 v2522
  let v2524 : BitVec 1 := Scalar.cmpi .ne v2518 v2523
  let v2525 : BitVec 32 := Scalar.remsi v2512 c128_i32_902
  let c0_i32_907 : BitVec 32 := 0#32
  let v2526 : BitVec 1 := Scalar.cmpi .ne v2525 c0_i32_907
  let v2527 : BitVec 1 := Scalar.andi v2524 v2526
  let v2513 : BitVec 32 := Scalar.divsi v2512 c128_i32_902
  let c1_i32_908 : BitVec 32 := 1#32
  let v2528 : BitVec 32 := Scalar.subi v2513 c1_i32_908
  let v2529 : BitVec 32 := Scalar.select v2527 v2528 v2513
  let c128_i32_909 : BitVec 32 := 128#32
  let v2530 : BitVec 32 := Scalar.muli v2529 c128_i32_909
  let v2531 : Index := Scalar.indexCast v2530
  ![0, 0, v2531.toNat]

def k2_chk29 (v2495 : BitVec 32) : Prop :=
  (∀ a, (k2_off58 v2495) a + S1x8x128.size a ≤ S1x8x8192.size a)
theorem k2_off58_inb : ∀ (v2495 : BitVec 32) (k2_hw29 : k2_chk29 v2495), ∀ a, (k2_off58 v2495) a + S1x8x128.size a ≤ S1x8x8192.size a := fun v2495 k2_hw29 => k2_hw29

def k2_off59 (i : grid2.Coords) : Fin 1 → Nat :=
  let arg0 : BitVec 32 := BitVec.ofNat 32 (i 0).val
  let c64_i32_923 : BitVec 32 := 64#32
  let v2581 : BitVec 32 := Scalar.muli arg0 c64_i32_923
  let c29_i32 : BitVec 32 := 29#32
  let v2582 : BitVec 32 := Scalar.addi v2581 c29_i32
  let v2583 : Index := Scalar.indexCast v2582
  ![v2583.toNat]
def k2_off60 (v2584 : BitVec 32) : Fin 3 → Nat :=
  let c0_942 : Index := 0#32
  let c0_943 : Index := 0#32
  let c8192_i32_928 : BitVec 32 := 8192#32
  let c0_i32_929 : BitVec 32 := 0#32
  let v2592 : BitVec 1 := Scalar.cmpi .eq c8192_i32_928 c0_i32_929
  let c1_i32_930 : BitVec 32 := 1#32
  let v2593 : BitVec 32 := Scalar.select v2592 c1_i32_930 c8192_i32_928
  let v2594 : BitVec 32 := Scalar.remsi v2584 v2593
  let c0_i32_932 : BitVec 32 := 0#32
  let v2596 : BitVec 1 := Scalar.cmpi .slt v2594 c0_i32_932
  let c0_i32_933 : BitVec 32 := 0#32
  let v2597 : BitVec 1 := Scalar.cmpi .slt v2593 c0_i32_933
  let v2598 : BitVec 1 := Scalar.xori v2596 v2597
  let c0_i32_931 : BitVec 32 := 0#32
  let v2595 : BitVec 1 := Scalar.cmpi .ne v2594 c0_i32_931
  let v2599 : BitVec 1 := Scalar.andi v2598 v2595
  let v2600 : BitVec 32 := Scalar.addi v2594 v2593
  let v2601 : BitVec 32 := Scalar.select v2599 v2600 v2594
  let c0_i32_935 : BitVec 32 := 0#32
  let v2603 : BitVec 1 := Scalar.cmpi .sgt v2601 c0_i32_935
  let v2604 : BitVec 32 := Scalar.extui v2603
  let c0_i32_936 : BitVec 32 := 0#32
  let v2605 : BitVec 1 := Scalar.cmpi .slt v2601 c0_i32_936
  let v2606 : BitVec 32 := Scalar.extui v2605
  let v2607 : BitVec 32 := Scalar.subi v2604 v2606
  let c128_i32_934 : BitVec 32 := 128#32
  let c0_i32_937 : BitVec 32 := 0#32
  let v2608 : BitVec 1 := Scalar.cmpi .sgt c128_i32_934 c0_i32_937
  let v2609 : BitVec 32 := Scalar.extui v2608
  let c0_i32_938 : BitVec 32 := 0#32
  let v2610 : BitVec 1 := Scalar.cmpi .slt c128_i32_934 c0_i32_938
  let v2611 : BitVec 32 := Scalar.extui v2610
  let v2612 : BitVec 32 := Scalar.subi v2609 v2611
  let v2613 : BitVec 1 := Scalar.cmpi .ne v2607 v2612
  let v2614 : BitVec 32 := Scalar.remsi v2601 c128_i32_934
  let c0_i32_939 : BitVec 32 := 0#32
  let v2615 : BitVec 1 := Scalar.cmpi .ne v2614 c0_i32_939
  let v2616 : BitVec 1 := Scalar.andi v2613 v2615
  let v2602 : BitVec 32 := Scalar.divsi v2601 c128_i32_934
  let c1_i32_940 : BitVec 32 := 1#32
  let v2617 : BitVec 32 := Scalar.subi v2602 c1_i32_940
  let v2618 : BitVec 32 := Scalar.select v2616 v2617 v2602
  let c128_i32_941 : BitVec 32 := 128#32
  let v2619 : BitVec 32 := Scalar.muli v2618 c128_i32_941
  let v2620 : Index := Scalar.indexCast v2619
  ![0, 0, v2620.toNat]

def k2_chk30 (v2584 : BitVec 32) : Prop :=
  (∀ a, (k2_off60 v2584) a + S1x8x128.size a ≤ S1x8x8192.size a)
theorem k2_off60_inb : ∀ (v2584 : BitVec 32) (k2_hw30 : k2_chk30 v2584), ∀ a, (k2_off60 v2584) a + S1x8x128.size a ≤ S1x8x8192.size a := fun v2584 k2_hw30 => k2_hw30

def k2_off61 (i : grid2.Coords) : Fin 1 → Nat :=
  let arg0 : BitVec 32 := BitVec.ofNat 32 (i 0).val
  let c64_i32_955 : BitVec 32 := 64#32
  let v2670 : BitVec 32 := Scalar.muli arg0 c64_i32_955
  let c30_i32 : BitVec 32 := 30#32
  let v2671 : BitVec 32 := Scalar.addi v2670 c30_i32
  let v2672 : Index := Scalar.indexCast v2671
  ![v2672.toNat]
def k2_off62 (v2673 : BitVec 32) : Fin 3 → Nat :=
  let c0_974 : Index := 0#32
  let c0_975 : Index := 0#32
  let c8192_i32_960 : BitVec 32 := 8192#32
  let c0_i32_961 : BitVec 32 := 0#32
  let v2681 : BitVec 1 := Scalar.cmpi .eq c8192_i32_960 c0_i32_961
  let c1_i32_962 : BitVec 32 := 1#32
  let v2682 : BitVec 32 := Scalar.select v2681 c1_i32_962 c8192_i32_960
  let v2683 : BitVec 32 := Scalar.remsi v2673 v2682
  let c0_i32_964 : BitVec 32 := 0#32
  let v2685 : BitVec 1 := Scalar.cmpi .slt v2683 c0_i32_964
  let c0_i32_965 : BitVec 32 := 0#32
  let v2686 : BitVec 1 := Scalar.cmpi .slt v2682 c0_i32_965
  let v2687 : BitVec 1 := Scalar.xori v2685 v2686
  let c0_i32_963 : BitVec 32 := 0#32
  let v2684 : BitVec 1 := Scalar.cmpi .ne v2683 c0_i32_963
  let v2688 : BitVec 1 := Scalar.andi v2687 v2684
  let v2689 : BitVec 32 := Scalar.addi v2683 v2682
  let v2690 : BitVec 32 := Scalar.select v2688 v2689 v2683
  let c0_i32_967 : BitVec 32 := 0#32
  let v2692 : BitVec 1 := Scalar.cmpi .sgt v2690 c0_i32_967
  let v2693 : BitVec 32 := Scalar.extui v2692
  let c0_i32_968 : BitVec 32 := 0#32
  let v2694 : BitVec 1 := Scalar.cmpi .slt v2690 c0_i32_968
  let v2695 : BitVec 32 := Scalar.extui v2694
  let v2696 : BitVec 32 := Scalar.subi v2693 v2695
  let c128_i32_966 : BitVec 32 := 128#32
  let c0_i32_969 : BitVec 32 := 0#32
  let v2697 : BitVec 1 := Scalar.cmpi .sgt c128_i32_966 c0_i32_969
  let v2698 : BitVec 32 := Scalar.extui v2697
  let c0_i32_970 : BitVec 32 := 0#32
  let v2699 : BitVec 1 := Scalar.cmpi .slt c128_i32_966 c0_i32_970
  let v2700 : BitVec 32 := Scalar.extui v2699
  let v2701 : BitVec 32 := Scalar.subi v2698 v2700
  let v2702 : BitVec 1 := Scalar.cmpi .ne v2696 v2701
  let v2703 : BitVec 32 := Scalar.remsi v2690 c128_i32_966
  let c0_i32_971 : BitVec 32 := 0#32
  let v2704 : BitVec 1 := Scalar.cmpi .ne v2703 c0_i32_971
  let v2705 : BitVec 1 := Scalar.andi v2702 v2704
  let v2691 : BitVec 32 := Scalar.divsi v2690 c128_i32_966
  let c1_i32_972 : BitVec 32 := 1#32
  let v2706 : BitVec 32 := Scalar.subi v2691 c1_i32_972
  let v2707 : BitVec 32 := Scalar.select v2705 v2706 v2691
  let c128_i32_973 : BitVec 32 := 128#32
  let v2708 : BitVec 32 := Scalar.muli v2707 c128_i32_973
  let v2709 : Index := Scalar.indexCast v2708
  ![0, 0, v2709.toNat]

def k2_chk31 (v2673 : BitVec 32) : Prop :=
  (∀ a, (k2_off62 v2673) a + S1x8x128.size a ≤ S1x8x8192.size a)
theorem k2_off62_inb : ∀ (v2673 : BitVec 32) (k2_hw31 : k2_chk31 v2673), ∀ a, (k2_off62 v2673) a + S1x8x128.size a ≤ S1x8x8192.size a := fun v2673 k2_hw31 => k2_hw31

def k2_off63 (i : grid2.Coords) : Fin 1 → Nat :=
  let arg0 : BitVec 32 := BitVec.ofNat 32 (i 0).val
  let c64_i32_987 : BitVec 32 := 64#32
  let v2759 : BitVec 32 := Scalar.muli arg0 c64_i32_987
  let c31_i32 : BitVec 32 := 31#32
  let v2760 : BitVec 32 := Scalar.addi v2759 c31_i32
  let v2761 : Index := Scalar.indexCast v2760
  ![v2761.toNat]
def k2_off64 (v2762 : BitVec 32) : Fin 3 → Nat :=
  let c0_1006 : Index := 0#32
  let c0_1007 : Index := 0#32
  let c8192_i32_992 : BitVec 32 := 8192#32
  let c0_i32_993 : BitVec 32 := 0#32
  let v2770 : BitVec 1 := Scalar.cmpi .eq c8192_i32_992 c0_i32_993
  let c1_i32_994 : BitVec 32 := 1#32
  let v2771 : BitVec 32 := Scalar.select v2770 c1_i32_994 c8192_i32_992
  let v2772 : BitVec 32 := Scalar.remsi v2762 v2771
  let c0_i32_996 : BitVec 32 := 0#32
  let v2774 : BitVec 1 := Scalar.cmpi .slt v2772 c0_i32_996
  let c0_i32_997 : BitVec 32 := 0#32
  let v2775 : BitVec 1 := Scalar.cmpi .slt v2771 c0_i32_997
  let v2776 : BitVec 1 := Scalar.xori v2774 v2775
  let c0_i32_995 : BitVec 32 := 0#32
  let v2773 : BitVec 1 := Scalar.cmpi .ne v2772 c0_i32_995
  let v2777 : BitVec 1 := Scalar.andi v2776 v2773
  let v2778 : BitVec 32 := Scalar.addi v2772 v2771
  let v2779 : BitVec 32 := Scalar.select v2777 v2778 v2772
  let c0_i32_999 : BitVec 32 := 0#32
  let v2781 : BitVec 1 := Scalar.cmpi .sgt v2779 c0_i32_999
  let v2782 : BitVec 32 := Scalar.extui v2781
  let c0_i32_1000 : BitVec 32 := 0#32
  let v2783 : BitVec 1 := Scalar.cmpi .slt v2779 c0_i32_1000
  let v2784 : BitVec 32 := Scalar.extui v2783
  let v2785 : BitVec 32 := Scalar.subi v2782 v2784
  let c128_i32_998 : BitVec 32 := 128#32
  let c0_i32_1001 : BitVec 32 := 0#32
  let v2786 : BitVec 1 := Scalar.cmpi .sgt c128_i32_998 c0_i32_1001
  let v2787 : BitVec 32 := Scalar.extui v2786
  let c0_i32_1002 : BitVec 32 := 0#32
  let v2788 : BitVec 1 := Scalar.cmpi .slt c128_i32_998 c0_i32_1002
  let v2789 : BitVec 32 := Scalar.extui v2788
  let v2790 : BitVec 32 := Scalar.subi v2787 v2789
  let v2791 : BitVec 1 := Scalar.cmpi .ne v2785 v2790
  let v2792 : BitVec 32 := Scalar.remsi v2779 c128_i32_998
  let c0_i32_1003 : BitVec 32 := 0#32
  let v2793 : BitVec 1 := Scalar.cmpi .ne v2792 c0_i32_1003
  let v2794 : BitVec 1 := Scalar.andi v2791 v2793
  let v2780 : BitVec 32 := Scalar.divsi v2779 c128_i32_998
  let c1_i32_1004 : BitVec 32 := 1#32
  let v2795 : BitVec 32 := Scalar.subi v2780 c1_i32_1004
  let v2796 : BitVec 32 := Scalar.select v2794 v2795 v2780
  let c128_i32_1005 : BitVec 32 := 128#32
  let v2797 : BitVec 32 := Scalar.muli v2796 c128_i32_1005
  let v2798 : Index := Scalar.indexCast v2797
  ![0, 0, v2798.toNat]

def k2_chk32 (v2762 : BitVec 32) : Prop :=
  (∀ a, (k2_off64 v2762) a + S1x8x128.size a ≤ S1x8x8192.size a)
theorem k2_off64_inb : ∀ (v2762 : BitVec 32) (k2_hw32 : k2_chk32 v2762), ∀ a, (k2_off64 v2762) a + S1x8x128.size a ≤ S1x8x8192.size a := fun v2762 k2_hw32 => k2_hw32

def k2_off65 (i : grid2.Coords) : Fin 1 → Nat :=
  let arg0 : BitVec 32 := BitVec.ofNat 32 (i 0).val
  let c64_i32_1019 : BitVec 32 := 64#32
  let v2848 : BitVec 32 := Scalar.muli arg0 c64_i32_1019
  let c32_i32 : BitVec 32 := 32#32
  let v2849 : BitVec 32 := Scalar.addi v2848 c32_i32
  let v2850 : Index := Scalar.indexCast v2849
  ![v2850.toNat]
def k2_off66 (v2851 : BitVec 32) : Fin 3 → Nat :=
  let c0_1038 : Index := 0#32
  let c0_1039 : Index := 0#32
  let c8192_i32_1024 : BitVec 32 := 8192#32
  let c0_i32_1025 : BitVec 32 := 0#32
  let v2859 : BitVec 1 := Scalar.cmpi .eq c8192_i32_1024 c0_i32_1025
  let c1_i32_1026 : BitVec 32 := 1#32
  let v2860 : BitVec 32 := Scalar.select v2859 c1_i32_1026 c8192_i32_1024
  let v2861 : BitVec 32 := Scalar.remsi v2851 v2860
  let c0_i32_1028 : BitVec 32 := 0#32
  let v2863 : BitVec 1 := Scalar.cmpi .slt v2861 c0_i32_1028
  let c0_i32_1029 : BitVec 32 := 0#32
  let v2864 : BitVec 1 := Scalar.cmpi .slt v2860 c0_i32_1029
  let v2865 : BitVec 1 := Scalar.xori v2863 v2864
  let c0_i32_1027 : BitVec 32 := 0#32
  let v2862 : BitVec 1 := Scalar.cmpi .ne v2861 c0_i32_1027
  let v2866 : BitVec 1 := Scalar.andi v2865 v2862
  let v2867 : BitVec 32 := Scalar.addi v2861 v2860
  let v2868 : BitVec 32 := Scalar.select v2866 v2867 v2861
  let c0_i32_1031 : BitVec 32 := 0#32
  let v2870 : BitVec 1 := Scalar.cmpi .sgt v2868 c0_i32_1031
  let v2871 : BitVec 32 := Scalar.extui v2870
  let c0_i32_1032 : BitVec 32 := 0#32
  let v2872 : BitVec 1 := Scalar.cmpi .slt v2868 c0_i32_1032
  let v2873 : BitVec 32 := Scalar.extui v2872
  let v2874 : BitVec 32 := Scalar.subi v2871 v2873
  let c128_i32_1030 : BitVec 32 := 128#32
  let c0_i32_1033 : BitVec 32 := 0#32
  let v2875 : BitVec 1 := Scalar.cmpi .sgt c128_i32_1030 c0_i32_1033
  let v2876 : BitVec 32 := Scalar.extui v2875
  let c0_i32_1034 : BitVec 32 := 0#32
  let v2877 : BitVec 1 := Scalar.cmpi .slt c128_i32_1030 c0_i32_1034
  let v2878 : BitVec 32 := Scalar.extui v2877
  let v2879 : BitVec 32 := Scalar.subi v2876 v2878
  let v2880 : BitVec 1 := Scalar.cmpi .ne v2874 v2879
  let v2881 : BitVec 32 := Scalar.remsi v2868 c128_i32_1030
  let c0_i32_1035 : BitVec 32 := 0#32
  let v2882 : BitVec 1 := Scalar.cmpi .ne v2881 c0_i32_1035
  let v2883 : BitVec 1 := Scalar.andi v2880 v2882
  let v2869 : BitVec 32 := Scalar.divsi v2868 c128_i32_1030
  let c1_i32_1036 : BitVec 32 := 1#32
  let v2884 : BitVec 32 := Scalar.subi v2869 c1_i32_1036
  let v2885 : BitVec 32 := Scalar.select v2883 v2884 v2869
  let c128_i32_1037 : BitVec 32 := 128#32
  let v2886 : BitVec 32 := Scalar.muli v2885 c128_i32_1037
  let v2887 : Index := Scalar.indexCast v2886
  ![0, 0, v2887.toNat]

def k2_chk33 (v2851 : BitVec 32) : Prop :=
  (∀ a, (k2_off66 v2851) a + S1x8x128.size a ≤ S1x8x8192.size a)
theorem k2_off66_inb : ∀ (v2851 : BitVec 32) (k2_hw33 : k2_chk33 v2851), ∀ a, (k2_off66 v2851) a + S1x8x128.size a ≤ S1x8x8192.size a := fun v2851 k2_hw33 => k2_hw33

def k2_off67 (i : grid2.Coords) : Fin 1 → Nat :=
  let arg0 : BitVec 32 := BitVec.ofNat 32 (i 0).val
  let c64_i32_1051 : BitVec 32 := 64#32
  let v2937 : BitVec 32 := Scalar.muli arg0 c64_i32_1051
  let c33_i32 : BitVec 32 := 33#32
  let v2938 : BitVec 32 := Scalar.addi v2937 c33_i32
  let v2939 : Index := Scalar.indexCast v2938
  ![v2939.toNat]
def k2_off68 (v2940 : BitVec 32) : Fin 3 → Nat :=
  let c0_1070 : Index := 0#32
  let c0_1071 : Index := 0#32
  let c8192_i32_1056 : BitVec 32 := 8192#32
  let c0_i32_1057 : BitVec 32 := 0#32
  let v2948 : BitVec 1 := Scalar.cmpi .eq c8192_i32_1056 c0_i32_1057
  let c1_i32_1058 : BitVec 32 := 1#32
  let v2949 : BitVec 32 := Scalar.select v2948 c1_i32_1058 c8192_i32_1056
  let v2950 : BitVec 32 := Scalar.remsi v2940 v2949
  let c0_i32_1060 : BitVec 32 := 0#32
  let v2952 : BitVec 1 := Scalar.cmpi .slt v2950 c0_i32_1060
  let c0_i32_1061 : BitVec 32 := 0#32
  let v2953 : BitVec 1 := Scalar.cmpi .slt v2949 c0_i32_1061
  let v2954 : BitVec 1 := Scalar.xori v2952 v2953
  let c0_i32_1059 : BitVec 32 := 0#32
  let v2951 : BitVec 1 := Scalar.cmpi .ne v2950 c0_i32_1059
  let v2955 : BitVec 1 := Scalar.andi v2954 v2951
  let v2956 : BitVec 32 := Scalar.addi v2950 v2949
  let v2957 : BitVec 32 := Scalar.select v2955 v2956 v2950
  let c0_i32_1063 : BitVec 32 := 0#32
  let v2959 : BitVec 1 := Scalar.cmpi .sgt v2957 c0_i32_1063
  let v2960 : BitVec 32 := Scalar.extui v2959
  let c0_i32_1064 : BitVec 32 := 0#32
  let v2961 : BitVec 1 := Scalar.cmpi .slt v2957 c0_i32_1064
  let v2962 : BitVec 32 := Scalar.extui v2961
  let v2963 : BitVec 32 := Scalar.subi v2960 v2962
  let c128_i32_1062 : BitVec 32 := 128#32
  let c0_i32_1065 : BitVec 32 := 0#32
  let v2964 : BitVec 1 := Scalar.cmpi .sgt c128_i32_1062 c0_i32_1065
  let v2965 : BitVec 32 := Scalar.extui v2964
  let c0_i32_1066 : BitVec 32 := 0#32
  let v2966 : BitVec 1 := Scalar.cmpi .slt c128_i32_1062 c0_i32_1066
  let v2967 : BitVec 32 := Scalar.extui v2966
  let v2968 : BitVec 32 := Scalar.subi v2965 v2967
  let v2969 : BitVec 1 := Scalar.cmpi .ne v2963 v2968
  let v2970 : BitVec 32 := Scalar.remsi v2957 c128_i32_1062
  let c0_i32_1067 : BitVec 32 := 0#32
  let v2971 : BitVec 1 := Scalar.cmpi .ne v2970 c0_i32_1067
  let v2972 : BitVec 1 := Scalar.andi v2969 v2971
  let v2958 : BitVec 32 := Scalar.divsi v2957 c128_i32_1062
  let c1_i32_1068 : BitVec 32 := 1#32
  let v2973 : BitVec 32 := Scalar.subi v2958 c1_i32_1068
  let v2974 : BitVec 32 := Scalar.select v2972 v2973 v2958
  let c128_i32_1069 : BitVec 32 := 128#32
  let v2975 : BitVec 32 := Scalar.muli v2974 c128_i32_1069
  let v2976 : Index := Scalar.indexCast v2975
  ![0, 0, v2976.toNat]

def k2_chk34 (v2940 : BitVec 32) : Prop :=
  (∀ a, (k2_off68 v2940) a + S1x8x128.size a ≤ S1x8x8192.size a)
theorem k2_off68_inb : ∀ (v2940 : BitVec 32) (k2_hw34 : k2_chk34 v2940), ∀ a, (k2_off68 v2940) a + S1x8x128.size a ≤ S1x8x8192.size a := fun v2940 k2_hw34 => k2_hw34

def k2_off69 (i : grid2.Coords) : Fin 1 → Nat :=
  let arg0 : BitVec 32 := BitVec.ofNat 32 (i 0).val
  let c64_i32_1083 : BitVec 32 := 64#32
  let v3026 : BitVec 32 := Scalar.muli arg0 c64_i32_1083
  let c34_i32 : BitVec 32 := 34#32
  let v3027 : BitVec 32 := Scalar.addi v3026 c34_i32
  let v3028 : Index := Scalar.indexCast v3027
  ![v3028.toNat]
def k2_off70 (v3029 : BitVec 32) : Fin 3 → Nat :=
  let c0_1102 : Index := 0#32
  let c0_1103 : Index := 0#32
  let c8192_i32_1088 : BitVec 32 := 8192#32
  let c0_i32_1089 : BitVec 32 := 0#32
  let v3037 : BitVec 1 := Scalar.cmpi .eq c8192_i32_1088 c0_i32_1089
  let c1_i32_1090 : BitVec 32 := 1#32
  let v3038 : BitVec 32 := Scalar.select v3037 c1_i32_1090 c8192_i32_1088
  let v3039 : BitVec 32 := Scalar.remsi v3029 v3038
  let c0_i32_1092 : BitVec 32 := 0#32
  let v3041 : BitVec 1 := Scalar.cmpi .slt v3039 c0_i32_1092
  let c0_i32_1093 : BitVec 32 := 0#32
  let v3042 : BitVec 1 := Scalar.cmpi .slt v3038 c0_i32_1093
  let v3043 : BitVec 1 := Scalar.xori v3041 v3042
  let c0_i32_1091 : BitVec 32 := 0#32
  let v3040 : BitVec 1 := Scalar.cmpi .ne v3039 c0_i32_1091
  let v3044 : BitVec 1 := Scalar.andi v3043 v3040
  let v3045 : BitVec 32 := Scalar.addi v3039 v3038
  let v3046 : BitVec 32 := Scalar.select v3044 v3045 v3039
  let c0_i32_1095 : BitVec 32 := 0#32
  let v3048 : BitVec 1 := Scalar.cmpi .sgt v3046 c0_i32_1095
  let v3049 : BitVec 32 := Scalar.extui v3048
  let c0_i32_1096 : BitVec 32 := 0#32
  let v3050 : BitVec 1 := Scalar.cmpi .slt v3046 c0_i32_1096
  let v3051 : BitVec 32 := Scalar.extui v3050
  let v3052 : BitVec 32 := Scalar.subi v3049 v3051
  let c128_i32_1094 : BitVec 32 := 128#32
  let c0_i32_1097 : BitVec 32 := 0#32
  let v3053 : BitVec 1 := Scalar.cmpi .sgt c128_i32_1094 c0_i32_1097
  let v3054 : BitVec 32 := Scalar.extui v3053
  let c0_i32_1098 : BitVec 32 := 0#32
  let v3055 : BitVec 1 := Scalar.cmpi .slt c128_i32_1094 c0_i32_1098
  let v3056 : BitVec 32 := Scalar.extui v3055
  let v3057 : BitVec 32 := Scalar.subi v3054 v3056
  let v3058 : BitVec 1 := Scalar.cmpi .ne v3052 v3057
  let v3059 : BitVec 32 := Scalar.remsi v3046 c128_i32_1094
  let c0_i32_1099 : BitVec 32 := 0#32
  let v3060 : BitVec 1 := Scalar.cmpi .ne v3059 c0_i32_1099
  let v3061 : BitVec 1 := Scalar.andi v3058 v3060
  let v3047 : BitVec 32 := Scalar.divsi v3046 c128_i32_1094
  let c1_i32_1100 : BitVec 32 := 1#32
  let v3062 : BitVec 32 := Scalar.subi v3047 c1_i32_1100
  let v3063 : BitVec 32 := Scalar.select v3061 v3062 v3047
  let c128_i32_1101 : BitVec 32 := 128#32
  let v3064 : BitVec 32 := Scalar.muli v3063 c128_i32_1101
  let v3065 : Index := Scalar.indexCast v3064
  ![0, 0, v3065.toNat]

def k2_chk35 (v3029 : BitVec 32) : Prop :=
  (∀ a, (k2_off70 v3029) a + S1x8x128.size a ≤ S1x8x8192.size a)
theorem k2_off70_inb : ∀ (v3029 : BitVec 32) (k2_hw35 : k2_chk35 v3029), ∀ a, (k2_off70 v3029) a + S1x8x128.size a ≤ S1x8x8192.size a := fun v3029 k2_hw35 => k2_hw35

def k2_off71 (i : grid2.Coords) : Fin 1 → Nat :=
  let arg0 : BitVec 32 := BitVec.ofNat 32 (i 0).val
  let c64_i32_1115 : BitVec 32 := 64#32
  let v3115 : BitVec 32 := Scalar.muli arg0 c64_i32_1115
  let c35_i32 : BitVec 32 := 35#32
  let v3116 : BitVec 32 := Scalar.addi v3115 c35_i32
  let v3117 : Index := Scalar.indexCast v3116
  ![v3117.toNat]
def k2_off72 (v3118 : BitVec 32) : Fin 3 → Nat :=
  let c0_1134 : Index := 0#32
  let c0_1135 : Index := 0#32
  let c8192_i32_1120 : BitVec 32 := 8192#32
  let c0_i32_1121 : BitVec 32 := 0#32
  let v3126 : BitVec 1 := Scalar.cmpi .eq c8192_i32_1120 c0_i32_1121
  let c1_i32_1122 : BitVec 32 := 1#32
  let v3127 : BitVec 32 := Scalar.select v3126 c1_i32_1122 c8192_i32_1120
  let v3128 : BitVec 32 := Scalar.remsi v3118 v3127
  let c0_i32_1124 : BitVec 32 := 0#32
  let v3130 : BitVec 1 := Scalar.cmpi .slt v3128 c0_i32_1124
  let c0_i32_1125 : BitVec 32 := 0#32
  let v3131 : BitVec 1 := Scalar.cmpi .slt v3127 c0_i32_1125
  let v3132 : BitVec 1 := Scalar.xori v3130 v3131
  let c0_i32_1123 : BitVec 32 := 0#32
  let v3129 : BitVec 1 := Scalar.cmpi .ne v3128 c0_i32_1123
  let v3133 : BitVec 1 := Scalar.andi v3132 v3129
  let v3134 : BitVec 32 := Scalar.addi v3128 v3127
  let v3135 : BitVec 32 := Scalar.select v3133 v3134 v3128
  let c0_i32_1127 : BitVec 32 := 0#32
  let v3137 : BitVec 1 := Scalar.cmpi .sgt v3135 c0_i32_1127
  let v3138 : BitVec 32 := Scalar.extui v3137
  let c0_i32_1128 : BitVec 32 := 0#32
  let v3139 : BitVec 1 := Scalar.cmpi .slt v3135 c0_i32_1128
  let v3140 : BitVec 32 := Scalar.extui v3139
  let v3141 : BitVec 32 := Scalar.subi v3138 v3140
  let c128_i32_1126 : BitVec 32 := 128#32
  let c0_i32_1129 : BitVec 32 := 0#32
  let v3142 : BitVec 1 := Scalar.cmpi .sgt c128_i32_1126 c0_i32_1129
  let v3143 : BitVec 32 := Scalar.extui v3142
  let c0_i32_1130 : BitVec 32 := 0#32
  let v3144 : BitVec 1 := Scalar.cmpi .slt c128_i32_1126 c0_i32_1130
  let v3145 : BitVec 32 := Scalar.extui v3144
  let v3146 : BitVec 32 := Scalar.subi v3143 v3145
  let v3147 : BitVec 1 := Scalar.cmpi .ne v3141 v3146
  let v3148 : BitVec 32 := Scalar.remsi v3135 c128_i32_1126
  let c0_i32_1131 : BitVec 32 := 0#32
  let v3149 : BitVec 1 := Scalar.cmpi .ne v3148 c0_i32_1131
  let v3150 : BitVec 1 := Scalar.andi v3147 v3149
  let v3136 : BitVec 32 := Scalar.divsi v3135 c128_i32_1126
  let c1_i32_1132 : BitVec 32 := 1#32
  let v3151 : BitVec 32 := Scalar.subi v3136 c1_i32_1132
  let v3152 : BitVec 32 := Scalar.select v3150 v3151 v3136
  let c128_i32_1133 : BitVec 32 := 128#32
  let v3153 : BitVec 32 := Scalar.muli v3152 c128_i32_1133
  let v3154 : Index := Scalar.indexCast v3153
  ![0, 0, v3154.toNat]

def k2_chk36 (v3118 : BitVec 32) : Prop :=
  (∀ a, (k2_off72 v3118) a + S1x8x128.size a ≤ S1x8x8192.size a)
theorem k2_off72_inb : ∀ (v3118 : BitVec 32) (k2_hw36 : k2_chk36 v3118), ∀ a, (k2_off72 v3118) a + S1x8x128.size a ≤ S1x8x8192.size a := fun v3118 k2_hw36 => k2_hw36

def k2_off73 (i : grid2.Coords) : Fin 1 → Nat :=
  let arg0 : BitVec 32 := BitVec.ofNat 32 (i 0).val
  let c64_i32_1147 : BitVec 32 := 64#32
  let v3204 : BitVec 32 := Scalar.muli arg0 c64_i32_1147
  let c36_i32 : BitVec 32 := 36#32
  let v3205 : BitVec 32 := Scalar.addi v3204 c36_i32
  let v3206 : Index := Scalar.indexCast v3205
  ![v3206.toNat]
def k2_off74 (v3207 : BitVec 32) : Fin 3 → Nat :=
  let c0_1166 : Index := 0#32
  let c0_1167 : Index := 0#32
  let c8192_i32_1152 : BitVec 32 := 8192#32
  let c0_i32_1153 : BitVec 32 := 0#32
  let v3215 : BitVec 1 := Scalar.cmpi .eq c8192_i32_1152 c0_i32_1153
  let c1_i32_1154 : BitVec 32 := 1#32
  let v3216 : BitVec 32 := Scalar.select v3215 c1_i32_1154 c8192_i32_1152
  let v3217 : BitVec 32 := Scalar.remsi v3207 v3216
  let c0_i32_1156 : BitVec 32 := 0#32
  let v3219 : BitVec 1 := Scalar.cmpi .slt v3217 c0_i32_1156
  let c0_i32_1157 : BitVec 32 := 0#32
  let v3220 : BitVec 1 := Scalar.cmpi .slt v3216 c0_i32_1157
  let v3221 : BitVec 1 := Scalar.xori v3219 v3220
  let c0_i32_1155 : BitVec 32 := 0#32
  let v3218 : BitVec 1 := Scalar.cmpi .ne v3217 c0_i32_1155
  let v3222 : BitVec 1 := Scalar.andi v3221 v3218
  let v3223 : BitVec 32 := Scalar.addi v3217 v3216
  let v3224 : BitVec 32 := Scalar.select v3222 v3223 v3217
  let c0_i32_1159 : BitVec 32 := 0#32
  let v3226 : BitVec 1 := Scalar.cmpi .sgt v3224 c0_i32_1159
  let v3227 : BitVec 32 := Scalar.extui v3226
  let c0_i32_1160 : BitVec 32 := 0#32
  let v3228 : BitVec 1 := Scalar.cmpi .slt v3224 c0_i32_1160
  let v3229 : BitVec 32 := Scalar.extui v3228
  let v3230 : BitVec 32 := Scalar.subi v3227 v3229
  let c128_i32_1158 : BitVec 32 := 128#32
  let c0_i32_1161 : BitVec 32 := 0#32
  let v3231 : BitVec 1 := Scalar.cmpi .sgt c128_i32_1158 c0_i32_1161
  let v3232 : BitVec 32 := Scalar.extui v3231
  let c0_i32_1162 : BitVec 32 := 0#32
  let v3233 : BitVec 1 := Scalar.cmpi .slt c128_i32_1158 c0_i32_1162
  let v3234 : BitVec 32 := Scalar.extui v3233
  let v3235 : BitVec 32 := Scalar.subi v3232 v3234
  let v3236 : BitVec 1 := Scalar.cmpi .ne v3230 v3235
  let v3237 : BitVec 32 := Scalar.remsi v3224 c128_i32_1158
  let c0_i32_1163 : BitVec 32 := 0#32
  let v3238 : BitVec 1 := Scalar.cmpi .ne v3237 c0_i32_1163
  let v3239 : BitVec 1 := Scalar.andi v3236 v3238
  let v3225 : BitVec 32 := Scalar.divsi v3224 c128_i32_1158
  let c1_i32_1164 : BitVec 32 := 1#32
  let v3240 : BitVec 32 := Scalar.subi v3225 c1_i32_1164
  let v3241 : BitVec 32 := Scalar.select v3239 v3240 v3225
  let c128_i32_1165 : BitVec 32 := 128#32
  let v3242 : BitVec 32 := Scalar.muli v3241 c128_i32_1165
  let v3243 : Index := Scalar.indexCast v3242
  ![0, 0, v3243.toNat]

def k2_chk37 (v3207 : BitVec 32) : Prop :=
  (∀ a, (k2_off74 v3207) a + S1x8x128.size a ≤ S1x8x8192.size a)
theorem k2_off74_inb : ∀ (v3207 : BitVec 32) (k2_hw37 : k2_chk37 v3207), ∀ a, (k2_off74 v3207) a + S1x8x128.size a ≤ S1x8x8192.size a := fun v3207 k2_hw37 => k2_hw37

def k2_off75 (i : grid2.Coords) : Fin 1 → Nat :=
  let arg0 : BitVec 32 := BitVec.ofNat 32 (i 0).val
  let c64_i32_1179 : BitVec 32 := 64#32
  let v3293 : BitVec 32 := Scalar.muli arg0 c64_i32_1179
  let c37_i32 : BitVec 32 := 37#32
  let v3294 : BitVec 32 := Scalar.addi v3293 c37_i32
  let v3295 : Index := Scalar.indexCast v3294
  ![v3295.toNat]
def k2_off76 (v3296 : BitVec 32) : Fin 3 → Nat :=
  let c0_1198 : Index := 0#32
  let c0_1199 : Index := 0#32
  let c8192_i32_1184 : BitVec 32 := 8192#32
  let c0_i32_1185 : BitVec 32 := 0#32
  let v3304 : BitVec 1 := Scalar.cmpi .eq c8192_i32_1184 c0_i32_1185
  let c1_i32_1186 : BitVec 32 := 1#32
  let v3305 : BitVec 32 := Scalar.select v3304 c1_i32_1186 c8192_i32_1184
  let v3306 : BitVec 32 := Scalar.remsi v3296 v3305
  let c0_i32_1188 : BitVec 32 := 0#32
  let v3308 : BitVec 1 := Scalar.cmpi .slt v3306 c0_i32_1188
  let c0_i32_1189 : BitVec 32 := 0#32
  let v3309 : BitVec 1 := Scalar.cmpi .slt v3305 c0_i32_1189
  let v3310 : BitVec 1 := Scalar.xori v3308 v3309
  let c0_i32_1187 : BitVec 32 := 0#32
  let v3307 : BitVec 1 := Scalar.cmpi .ne v3306 c0_i32_1187
  let v3311 : BitVec 1 := Scalar.andi v3310 v3307
  let v3312 : BitVec 32 := Scalar.addi v3306 v3305
  let v3313 : BitVec 32 := Scalar.select v3311 v3312 v3306
  let c0_i32_1191 : BitVec 32 := 0#32
  let v3315 : BitVec 1 := Scalar.cmpi .sgt v3313 c0_i32_1191
  let v3316 : BitVec 32 := Scalar.extui v3315
  let c0_i32_1192 : BitVec 32 := 0#32
  let v3317 : BitVec 1 := Scalar.cmpi .slt v3313 c0_i32_1192
  let v3318 : BitVec 32 := Scalar.extui v3317
  let v3319 : BitVec 32 := Scalar.subi v3316 v3318
  let c128_i32_1190 : BitVec 32 := 128#32
  let c0_i32_1193 : BitVec 32 := 0#32
  let v3320 : BitVec 1 := Scalar.cmpi .sgt c128_i32_1190 c0_i32_1193
  let v3321 : BitVec 32 := Scalar.extui v3320
  let c0_i32_1194 : BitVec 32 := 0#32
  let v3322 : BitVec 1 := Scalar.cmpi .slt c128_i32_1190 c0_i32_1194
  let v3323 : BitVec 32 := Scalar.extui v3322
  let v3324 : BitVec 32 := Scalar.subi v3321 v3323
  let v3325 : BitVec 1 := Scalar.cmpi .ne v3319 v3324
  let v3326 : BitVec 32 := Scalar.remsi v3313 c128_i32_1190
  let c0_i32_1195 : BitVec 32 := 0#32
  let v3327 : BitVec 1 := Scalar.cmpi .ne v3326 c0_i32_1195
  let v3328 : BitVec 1 := Scalar.andi v3325 v3327
  let v3314 : BitVec 32 := Scalar.divsi v3313 c128_i32_1190
  let c1_i32_1196 : BitVec 32 := 1#32
  let v3329 : BitVec 32 := Scalar.subi v3314 c1_i32_1196
  let v3330 : BitVec 32 := Scalar.select v3328 v3329 v3314
  let c128_i32_1197 : BitVec 32 := 128#32
  let v3331 : BitVec 32 := Scalar.muli v3330 c128_i32_1197
  let v3332 : Index := Scalar.indexCast v3331
  ![0, 0, v3332.toNat]

def k2_chk38 (v3296 : BitVec 32) : Prop :=
  (∀ a, (k2_off76 v3296) a + S1x8x128.size a ≤ S1x8x8192.size a)
theorem k2_off76_inb : ∀ (v3296 : BitVec 32) (k2_hw38 : k2_chk38 v3296), ∀ a, (k2_off76 v3296) a + S1x8x128.size a ≤ S1x8x8192.size a := fun v3296 k2_hw38 => k2_hw38

def k2_off77 (i : grid2.Coords) : Fin 1 → Nat :=
  let arg0 : BitVec 32 := BitVec.ofNat 32 (i 0).val
  let c64_i32_1211 : BitVec 32 := 64#32
  let v3382 : BitVec 32 := Scalar.muli arg0 c64_i32_1211
  let c38_i32 : BitVec 32 := 38#32
  let v3383 : BitVec 32 := Scalar.addi v3382 c38_i32
  let v3384 : Index := Scalar.indexCast v3383
  ![v3384.toNat]
def k2_off78 (v3385 : BitVec 32) : Fin 3 → Nat :=
  let c0_1230 : Index := 0#32
  let c0_1231 : Index := 0#32
  let c8192_i32_1216 : BitVec 32 := 8192#32
  let c0_i32_1217 : BitVec 32 := 0#32
  let v3393 : BitVec 1 := Scalar.cmpi .eq c8192_i32_1216 c0_i32_1217
  let c1_i32_1218 : BitVec 32 := 1#32
  let v3394 : BitVec 32 := Scalar.select v3393 c1_i32_1218 c8192_i32_1216
  let v3395 : BitVec 32 := Scalar.remsi v3385 v3394
  let c0_i32_1220 : BitVec 32 := 0#32
  let v3397 : BitVec 1 := Scalar.cmpi .slt v3395 c0_i32_1220
  let c0_i32_1221 : BitVec 32 := 0#32
  let v3398 : BitVec 1 := Scalar.cmpi .slt v3394 c0_i32_1221
  let v3399 : BitVec 1 := Scalar.xori v3397 v3398
  let c0_i32_1219 : BitVec 32 := 0#32
  let v3396 : BitVec 1 := Scalar.cmpi .ne v3395 c0_i32_1219
  let v3400 : BitVec 1 := Scalar.andi v3399 v3396
  let v3401 : BitVec 32 := Scalar.addi v3395 v3394
  let v3402 : BitVec 32 := Scalar.select v3400 v3401 v3395
  let c0_i32_1223 : BitVec 32 := 0#32
  let v3404 : BitVec 1 := Scalar.cmpi .sgt v3402 c0_i32_1223
  let v3405 : BitVec 32 := Scalar.extui v3404
  let c0_i32_1224 : BitVec 32 := 0#32
  let v3406 : BitVec 1 := Scalar.cmpi .slt v3402 c0_i32_1224
  let v3407 : BitVec 32 := Scalar.extui v3406
  let v3408 : BitVec 32 := Scalar.subi v3405 v3407
  let c128_i32_1222 : BitVec 32 := 128#32
  let c0_i32_1225 : BitVec 32 := 0#32
  let v3409 : BitVec 1 := Scalar.cmpi .sgt c128_i32_1222 c0_i32_1225
  let v3410 : BitVec 32 := Scalar.extui v3409
  let c0_i32_1226 : BitVec 32 := 0#32
  let v3411 : BitVec 1 := Scalar.cmpi .slt c128_i32_1222 c0_i32_1226
  let v3412 : BitVec 32 := Scalar.extui v3411
  let v3413 : BitVec 32 := Scalar.subi v3410 v3412
  let v3414 : BitVec 1 := Scalar.cmpi .ne v3408 v3413
  let v3415 : BitVec 32 := Scalar.remsi v3402 c128_i32_1222
  let c0_i32_1227 : BitVec 32 := 0#32
  let v3416 : BitVec 1 := Scalar.cmpi .ne v3415 c0_i32_1227
  let v3417 : BitVec 1 := Scalar.andi v3414 v3416
  let v3403 : BitVec 32 := Scalar.divsi v3402 c128_i32_1222
  let c1_i32_1228 : BitVec 32 := 1#32
  let v3418 : BitVec 32 := Scalar.subi v3403 c1_i32_1228
  let v3419 : BitVec 32 := Scalar.select v3417 v3418 v3403
  let c128_i32_1229 : BitVec 32 := 128#32
  let v3420 : BitVec 32 := Scalar.muli v3419 c128_i32_1229
  let v3421 : Index := Scalar.indexCast v3420
  ![0, 0, v3421.toNat]

def k2_chk39 (v3385 : BitVec 32) : Prop :=
  (∀ a, (k2_off78 v3385) a + S1x8x128.size a ≤ S1x8x8192.size a)
theorem k2_off78_inb : ∀ (v3385 : BitVec 32) (k2_hw39 : k2_chk39 v3385), ∀ a, (k2_off78 v3385) a + S1x8x128.size a ≤ S1x8x8192.size a := fun v3385 k2_hw39 => k2_hw39

def k2_off79 (i : grid2.Coords) : Fin 1 → Nat :=
  let arg0 : BitVec 32 := BitVec.ofNat 32 (i 0).val
  let c64_i32_1243 : BitVec 32 := 64#32
  let v3471 : BitVec 32 := Scalar.muli arg0 c64_i32_1243
  let c39_i32 : BitVec 32 := 39#32
  let v3472 : BitVec 32 := Scalar.addi v3471 c39_i32
  let v3473 : Index := Scalar.indexCast v3472
  ![v3473.toNat]
def k2_off80 (v3474 : BitVec 32) : Fin 3 → Nat :=
  let c0_1262 : Index := 0#32
  let c0_1263 : Index := 0#32
  let c8192_i32_1248 : BitVec 32 := 8192#32
  let c0_i32_1249 : BitVec 32 := 0#32
  let v3482 : BitVec 1 := Scalar.cmpi .eq c8192_i32_1248 c0_i32_1249
  let c1_i32_1250 : BitVec 32 := 1#32
  let v3483 : BitVec 32 := Scalar.select v3482 c1_i32_1250 c8192_i32_1248
  let v3484 : BitVec 32 := Scalar.remsi v3474 v3483
  let c0_i32_1252 : BitVec 32 := 0#32
  let v3486 : BitVec 1 := Scalar.cmpi .slt v3484 c0_i32_1252
  let c0_i32_1253 : BitVec 32 := 0#32
  let v3487 : BitVec 1 := Scalar.cmpi .slt v3483 c0_i32_1253
  let v3488 : BitVec 1 := Scalar.xori v3486 v3487
  let c0_i32_1251 : BitVec 32 := 0#32
  let v3485 : BitVec 1 := Scalar.cmpi .ne v3484 c0_i32_1251
  let v3489 : BitVec 1 := Scalar.andi v3488 v3485
  let v3490 : BitVec 32 := Scalar.addi v3484 v3483
  let v3491 : BitVec 32 := Scalar.select v3489 v3490 v3484
  let c0_i32_1255 : BitVec 32 := 0#32
  let v3493 : BitVec 1 := Scalar.cmpi .sgt v3491 c0_i32_1255
  let v3494 : BitVec 32 := Scalar.extui v3493
  let c0_i32_1256 : BitVec 32 := 0#32
  let v3495 : BitVec 1 := Scalar.cmpi .slt v3491 c0_i32_1256
  let v3496 : BitVec 32 := Scalar.extui v3495
  let v3497 : BitVec 32 := Scalar.subi v3494 v3496
  let c128_i32_1254 : BitVec 32 := 128#32
  let c0_i32_1257 : BitVec 32 := 0#32
  let v3498 : BitVec 1 := Scalar.cmpi .sgt c128_i32_1254 c0_i32_1257
  let v3499 : BitVec 32 := Scalar.extui v3498
  let c0_i32_1258 : BitVec 32 := 0#32
  let v3500 : BitVec 1 := Scalar.cmpi .slt c128_i32_1254 c0_i32_1258
  let v3501 : BitVec 32 := Scalar.extui v3500
  let v3502 : BitVec 32 := Scalar.subi v3499 v3501
  let v3503 : BitVec 1 := Scalar.cmpi .ne v3497 v3502
  let v3504 : BitVec 32 := Scalar.remsi v3491 c128_i32_1254
  let c0_i32_1259 : BitVec 32 := 0#32
  let v3505 : BitVec 1 := Scalar.cmpi .ne v3504 c0_i32_1259
  let v3506 : BitVec 1 := Scalar.andi v3503 v3505
  let v3492 : BitVec 32 := Scalar.divsi v3491 c128_i32_1254
  let c1_i32_1260 : BitVec 32 := 1#32
  let v3507 : BitVec 32 := Scalar.subi v3492 c1_i32_1260
  let v3508 : BitVec 32 := Scalar.select v3506 v3507 v3492
  let c128_i32_1261 : BitVec 32 := 128#32
  let v3509 : BitVec 32 := Scalar.muli v3508 c128_i32_1261
  let v3510 : Index := Scalar.indexCast v3509
  ![0, 0, v3510.toNat]

def k2_chk40 (v3474 : BitVec 32) : Prop :=
  (∀ a, (k2_off80 v3474) a + S1x8x128.size a ≤ S1x8x8192.size a)
theorem k2_off80_inb : ∀ (v3474 : BitVec 32) (k2_hw40 : k2_chk40 v3474), ∀ a, (k2_off80 v3474) a + S1x8x128.size a ≤ S1x8x8192.size a := fun v3474 k2_hw40 => k2_hw40

def k2_off81 (i : grid2.Coords) : Fin 1 → Nat :=
  let arg0 : BitVec 32 := BitVec.ofNat 32 (i 0).val
  let c64_i32_1275 : BitVec 32 := 64#32
  let v3560 : BitVec 32 := Scalar.muli arg0 c64_i32_1275
  let c40_i32 : BitVec 32 := 40#32
  let v3561 : BitVec 32 := Scalar.addi v3560 c40_i32
  let v3562 : Index := Scalar.indexCast v3561
  ![v3562.toNat]
def k2_off82 (v3563 : BitVec 32) : Fin 3 → Nat :=
  let c0_1294 : Index := 0#32
  let c0_1295 : Index := 0#32
  let c8192_i32_1280 : BitVec 32 := 8192#32
  let c0_i32_1281 : BitVec 32 := 0#32
  let v3571 : BitVec 1 := Scalar.cmpi .eq c8192_i32_1280 c0_i32_1281
  let c1_i32_1282 : BitVec 32 := 1#32
  let v3572 : BitVec 32 := Scalar.select v3571 c1_i32_1282 c8192_i32_1280
  let v3573 : BitVec 32 := Scalar.remsi v3563 v3572
  let c0_i32_1284 : BitVec 32 := 0#32
  let v3575 : BitVec 1 := Scalar.cmpi .slt v3573 c0_i32_1284
  let c0_i32_1285 : BitVec 32 := 0#32
  let v3576 : BitVec 1 := Scalar.cmpi .slt v3572 c0_i32_1285
  let v3577 : BitVec 1 := Scalar.xori v3575 v3576
  let c0_i32_1283 : BitVec 32 := 0#32
  let v3574 : BitVec 1 := Scalar.cmpi .ne v3573 c0_i32_1283
  let v3578 : BitVec 1 := Scalar.andi v3577 v3574
  let v3579 : BitVec 32 := Scalar.addi v3573 v3572
  let v3580 : BitVec 32 := Scalar.select v3578 v3579 v3573
  let c0_i32_1287 : BitVec 32 := 0#32
  let v3582 : BitVec 1 := Scalar.cmpi .sgt v3580 c0_i32_1287
  let v3583 : BitVec 32 := Scalar.extui v3582
  let c0_i32_1288 : BitVec 32 := 0#32
  let v3584 : BitVec 1 := Scalar.cmpi .slt v3580 c0_i32_1288
  let v3585 : BitVec 32 := Scalar.extui v3584
  let v3586 : BitVec 32 := Scalar.subi v3583 v3585
  let c128_i32_1286 : BitVec 32 := 128#32
  let c0_i32_1289 : BitVec 32 := 0#32
  let v3587 : BitVec 1 := Scalar.cmpi .sgt c128_i32_1286 c0_i32_1289
  let v3588 : BitVec 32 := Scalar.extui v3587
  let c0_i32_1290 : BitVec 32 := 0#32
  let v3589 : BitVec 1 := Scalar.cmpi .slt c128_i32_1286 c0_i32_1290
  let v3590 : BitVec 32 := Scalar.extui v3589
  let v3591 : BitVec 32 := Scalar.subi v3588 v3590
  let v3592 : BitVec 1 := Scalar.cmpi .ne v3586 v3591
  let v3593 : BitVec 32 := Scalar.remsi v3580 c128_i32_1286
  let c0_i32_1291 : BitVec 32 := 0#32
  let v3594 : BitVec 1 := Scalar.cmpi .ne v3593 c0_i32_1291
  let v3595 : BitVec 1 := Scalar.andi v3592 v3594
  let v3581 : BitVec 32 := Scalar.divsi v3580 c128_i32_1286
  let c1_i32_1292 : BitVec 32 := 1#32
  let v3596 : BitVec 32 := Scalar.subi v3581 c1_i32_1292
  let v3597 : BitVec 32 := Scalar.select v3595 v3596 v3581
  let c128_i32_1293 : BitVec 32 := 128#32
  let v3598 : BitVec 32 := Scalar.muli v3597 c128_i32_1293
  let v3599 : Index := Scalar.indexCast v3598
  ![0, 0, v3599.toNat]

def k2_chk41 (v3563 : BitVec 32) : Prop :=
  (∀ a, (k2_off82 v3563) a + S1x8x128.size a ≤ S1x8x8192.size a)
theorem k2_off82_inb : ∀ (v3563 : BitVec 32) (k2_hw41 : k2_chk41 v3563), ∀ a, (k2_off82 v3563) a + S1x8x128.size a ≤ S1x8x8192.size a := fun v3563 k2_hw41 => k2_hw41

def k2_off83 (i : grid2.Coords) : Fin 1 → Nat :=
  let arg0 : BitVec 32 := BitVec.ofNat 32 (i 0).val
  let c64_i32_1307 : BitVec 32 := 64#32
  let v3649 : BitVec 32 := Scalar.muli arg0 c64_i32_1307
  let c41_i32 : BitVec 32 := 41#32
  let v3650 : BitVec 32 := Scalar.addi v3649 c41_i32
  let v3651 : Index := Scalar.indexCast v3650
  ![v3651.toNat]
def k2_off84 (v3652 : BitVec 32) : Fin 3 → Nat :=
  let c0_1326 : Index := 0#32
  let c0_1327 : Index := 0#32
  let c8192_i32_1312 : BitVec 32 := 8192#32
  let c0_i32_1313 : BitVec 32 := 0#32
  let v3660 : BitVec 1 := Scalar.cmpi .eq c8192_i32_1312 c0_i32_1313
  let c1_i32_1314 : BitVec 32 := 1#32
  let v3661 : BitVec 32 := Scalar.select v3660 c1_i32_1314 c8192_i32_1312
  let v3662 : BitVec 32 := Scalar.remsi v3652 v3661
  let c0_i32_1316 : BitVec 32 := 0#32
  let v3664 : BitVec 1 := Scalar.cmpi .slt v3662 c0_i32_1316
  let c0_i32_1317 : BitVec 32 := 0#32
  let v3665 : BitVec 1 := Scalar.cmpi .slt v3661 c0_i32_1317
  let v3666 : BitVec 1 := Scalar.xori v3664 v3665
  let c0_i32_1315 : BitVec 32 := 0#32
  let v3663 : BitVec 1 := Scalar.cmpi .ne v3662 c0_i32_1315
  let v3667 : BitVec 1 := Scalar.andi v3666 v3663
  let v3668 : BitVec 32 := Scalar.addi v3662 v3661
  let v3669 : BitVec 32 := Scalar.select v3667 v3668 v3662
  let c0_i32_1319 : BitVec 32 := 0#32
  let v3671 : BitVec 1 := Scalar.cmpi .sgt v3669 c0_i32_1319
  let v3672 : BitVec 32 := Scalar.extui v3671
  let c0_i32_1320 : BitVec 32 := 0#32
  let v3673 : BitVec 1 := Scalar.cmpi .slt v3669 c0_i32_1320
  let v3674 : BitVec 32 := Scalar.extui v3673
  let v3675 : BitVec 32 := Scalar.subi v3672 v3674
  let c128_i32_1318 : BitVec 32 := 128#32
  let c0_i32_1321 : BitVec 32 := 0#32
  let v3676 : BitVec 1 := Scalar.cmpi .sgt c128_i32_1318 c0_i32_1321
  let v3677 : BitVec 32 := Scalar.extui v3676
  let c0_i32_1322 : BitVec 32 := 0#32
  let v3678 : BitVec 1 := Scalar.cmpi .slt c128_i32_1318 c0_i32_1322
  let v3679 : BitVec 32 := Scalar.extui v3678
  let v3680 : BitVec 32 := Scalar.subi v3677 v3679
  let v3681 : BitVec 1 := Scalar.cmpi .ne v3675 v3680
  let v3682 : BitVec 32 := Scalar.remsi v3669 c128_i32_1318
  let c0_i32_1323 : BitVec 32 := 0#32
  let v3683 : BitVec 1 := Scalar.cmpi .ne v3682 c0_i32_1323
  let v3684 : BitVec 1 := Scalar.andi v3681 v3683
  let v3670 : BitVec 32 := Scalar.divsi v3669 c128_i32_1318
  let c1_i32_1324 : BitVec 32 := 1#32
  let v3685 : BitVec 32 := Scalar.subi v3670 c1_i32_1324
  let v3686 : BitVec 32 := Scalar.select v3684 v3685 v3670
  let c128_i32_1325 : BitVec 32 := 128#32
  let v3687 : BitVec 32 := Scalar.muli v3686 c128_i32_1325
  let v3688 : Index := Scalar.indexCast v3687
  ![0, 0, v3688.toNat]

def k2_chk42 (v3652 : BitVec 32) : Prop :=
  (∀ a, (k2_off84 v3652) a + S1x8x128.size a ≤ S1x8x8192.size a)
theorem k2_off84_inb : ∀ (v3652 : BitVec 32) (k2_hw42 : k2_chk42 v3652), ∀ a, (k2_off84 v3652) a + S1x8x128.size a ≤ S1x8x8192.size a := fun v3652 k2_hw42 => k2_hw42

def k2_off85 (i : grid2.Coords) : Fin 1 → Nat :=
  let arg0 : BitVec 32 := BitVec.ofNat 32 (i 0).val
  let c64_i32_1339 : BitVec 32 := 64#32
  let v3738 : BitVec 32 := Scalar.muli arg0 c64_i32_1339
  let c42_i32 : BitVec 32 := 42#32
  let v3739 : BitVec 32 := Scalar.addi v3738 c42_i32
  let v3740 : Index := Scalar.indexCast v3739
  ![v3740.toNat]
def k2_off86 (v3741 : BitVec 32) : Fin 3 → Nat :=
  let c0_1358 : Index := 0#32
  let c0_1359 : Index := 0#32
  let c8192_i32_1344 : BitVec 32 := 8192#32
  let c0_i32_1345 : BitVec 32 := 0#32
  let v3749 : BitVec 1 := Scalar.cmpi .eq c8192_i32_1344 c0_i32_1345
  let c1_i32_1346 : BitVec 32 := 1#32
  let v3750 : BitVec 32 := Scalar.select v3749 c1_i32_1346 c8192_i32_1344
  let v3751 : BitVec 32 := Scalar.remsi v3741 v3750
  let c0_i32_1348 : BitVec 32 := 0#32
  let v3753 : BitVec 1 := Scalar.cmpi .slt v3751 c0_i32_1348
  let c0_i32_1349 : BitVec 32 := 0#32
  let v3754 : BitVec 1 := Scalar.cmpi .slt v3750 c0_i32_1349
  let v3755 : BitVec 1 := Scalar.xori v3753 v3754
  let c0_i32_1347 : BitVec 32 := 0#32
  let v3752 : BitVec 1 := Scalar.cmpi .ne v3751 c0_i32_1347
  let v3756 : BitVec 1 := Scalar.andi v3755 v3752
  let v3757 : BitVec 32 := Scalar.addi v3751 v3750
  let v3758 : BitVec 32 := Scalar.select v3756 v3757 v3751
  let c0_i32_1351 : BitVec 32 := 0#32
  let v3760 : BitVec 1 := Scalar.cmpi .sgt v3758 c0_i32_1351
  let v3761 : BitVec 32 := Scalar.extui v3760
  let c0_i32_1352 : BitVec 32 := 0#32
  let v3762 : BitVec 1 := Scalar.cmpi .slt v3758 c0_i32_1352
  let v3763 : BitVec 32 := Scalar.extui v3762
  let v3764 : BitVec 32 := Scalar.subi v3761 v3763
  let c128_i32_1350 : BitVec 32 := 128#32
  let c0_i32_1353 : BitVec 32 := 0#32
  let v3765 : BitVec 1 := Scalar.cmpi .sgt c128_i32_1350 c0_i32_1353
  let v3766 : BitVec 32 := Scalar.extui v3765
  let c0_i32_1354 : BitVec 32 := 0#32
  let v3767 : BitVec 1 := Scalar.cmpi .slt c128_i32_1350 c0_i32_1354
  let v3768 : BitVec 32 := Scalar.extui v3767
  let v3769 : BitVec 32 := Scalar.subi v3766 v3768
  let v3770 : BitVec 1 := Scalar.cmpi .ne v3764 v3769
  let v3771 : BitVec 32 := Scalar.remsi v3758 c128_i32_1350
  let c0_i32_1355 : BitVec 32 := 0#32
  let v3772 : BitVec 1 := Scalar.cmpi .ne v3771 c0_i32_1355
  let v3773 : BitVec 1 := Scalar.andi v3770 v3772
  let v3759 : BitVec 32 := Scalar.divsi v3758 c128_i32_1350
  let c1_i32_1356 : BitVec 32 := 1#32
  let v3774 : BitVec 32 := Scalar.subi v3759 c1_i32_1356
  let v3775 : BitVec 32 := Scalar.select v3773 v3774 v3759
  let c128_i32_1357 : BitVec 32 := 128#32
  let v3776 : BitVec 32 := Scalar.muli v3775 c128_i32_1357
  let v3777 : Index := Scalar.indexCast v3776
  ![0, 0, v3777.toNat]

def k2_chk43 (v3741 : BitVec 32) : Prop :=
  (∀ a, (k2_off86 v3741) a + S1x8x128.size a ≤ S1x8x8192.size a)
theorem k2_off86_inb : ∀ (v3741 : BitVec 32) (k2_hw43 : k2_chk43 v3741), ∀ a, (k2_off86 v3741) a + S1x8x128.size a ≤ S1x8x8192.size a := fun v3741 k2_hw43 => k2_hw43

def k2_off87 (i : grid2.Coords) : Fin 1 → Nat :=
  let arg0 : BitVec 32 := BitVec.ofNat 32 (i 0).val
  let c64_i32_1371 : BitVec 32 := 64#32
  let v3827 : BitVec 32 := Scalar.muli arg0 c64_i32_1371
  let c43_i32 : BitVec 32 := 43#32
  let v3828 : BitVec 32 := Scalar.addi v3827 c43_i32
  let v3829 : Index := Scalar.indexCast v3828
  ![v3829.toNat]
def k2_off88 (v3830 : BitVec 32) : Fin 3 → Nat :=
  let c0_1390 : Index := 0#32
  let c0_1391 : Index := 0#32
  let c8192_i32_1376 : BitVec 32 := 8192#32
  let c0_i32_1377 : BitVec 32 := 0#32
  let v3838 : BitVec 1 := Scalar.cmpi .eq c8192_i32_1376 c0_i32_1377
  let c1_i32_1378 : BitVec 32 := 1#32
  let v3839 : BitVec 32 := Scalar.select v3838 c1_i32_1378 c8192_i32_1376
  let v3840 : BitVec 32 := Scalar.remsi v3830 v3839
  let c0_i32_1380 : BitVec 32 := 0#32
  let v3842 : BitVec 1 := Scalar.cmpi .slt v3840 c0_i32_1380
  let c0_i32_1381 : BitVec 32 := 0#32
  let v3843 : BitVec 1 := Scalar.cmpi .slt v3839 c0_i32_1381
  let v3844 : BitVec 1 := Scalar.xori v3842 v3843
  let c0_i32_1379 : BitVec 32 := 0#32
  let v3841 : BitVec 1 := Scalar.cmpi .ne v3840 c0_i32_1379
  let v3845 : BitVec 1 := Scalar.andi v3844 v3841
  let v3846 : BitVec 32 := Scalar.addi v3840 v3839
  let v3847 : BitVec 32 := Scalar.select v3845 v3846 v3840
  let c0_i32_1383 : BitVec 32 := 0#32
  let v3849 : BitVec 1 := Scalar.cmpi .sgt v3847 c0_i32_1383
  let v3850 : BitVec 32 := Scalar.extui v3849
  let c0_i32_1384 : BitVec 32 := 0#32
  let v3851 : BitVec 1 := Scalar.cmpi .slt v3847 c0_i32_1384
  let v3852 : BitVec 32 := Scalar.extui v3851
  let v3853 : BitVec 32 := Scalar.subi v3850 v3852
  let c128_i32_1382 : BitVec 32 := 128#32
  let c0_i32_1385 : BitVec 32 := 0#32
  let v3854 : BitVec 1 := Scalar.cmpi .sgt c128_i32_1382 c0_i32_1385
  let v3855 : BitVec 32 := Scalar.extui v3854
  let c0_i32_1386 : BitVec 32 := 0#32
  let v3856 : BitVec 1 := Scalar.cmpi .slt c128_i32_1382 c0_i32_1386
  let v3857 : BitVec 32 := Scalar.extui v3856
  let v3858 : BitVec 32 := Scalar.subi v3855 v3857
  let v3859 : BitVec 1 := Scalar.cmpi .ne v3853 v3858
  let v3860 : BitVec 32 := Scalar.remsi v3847 c128_i32_1382
  let c0_i32_1387 : BitVec 32 := 0#32
  let v3861 : BitVec 1 := Scalar.cmpi .ne v3860 c0_i32_1387
  let v3862 : BitVec 1 := Scalar.andi v3859 v3861
  let v3848 : BitVec 32 := Scalar.divsi v3847 c128_i32_1382
  let c1_i32_1388 : BitVec 32 := 1#32
  let v3863 : BitVec 32 := Scalar.subi v3848 c1_i32_1388
  let v3864 : BitVec 32 := Scalar.select v3862 v3863 v3848
  let c128_i32_1389 : BitVec 32 := 128#32
  let v3865 : BitVec 32 := Scalar.muli v3864 c128_i32_1389
  let v3866 : Index := Scalar.indexCast v3865
  ![0, 0, v3866.toNat]

def k2_chk44 (v3830 : BitVec 32) : Prop :=
  (∀ a, (k2_off88 v3830) a + S1x8x128.size a ≤ S1x8x8192.size a)
theorem k2_off88_inb : ∀ (v3830 : BitVec 32) (k2_hw44 : k2_chk44 v3830), ∀ a, (k2_off88 v3830) a + S1x8x128.size a ≤ S1x8x8192.size a := fun v3830 k2_hw44 => k2_hw44

def k2_off89 (i : grid2.Coords) : Fin 1 → Nat :=
  let arg0 : BitVec 32 := BitVec.ofNat 32 (i 0).val
  let c64_i32_1403 : BitVec 32 := 64#32
  let v3916 : BitVec 32 := Scalar.muli arg0 c64_i32_1403
  let c44_i32 : BitVec 32 := 44#32
  let v3917 : BitVec 32 := Scalar.addi v3916 c44_i32
  let v3918 : Index := Scalar.indexCast v3917
  ![v3918.toNat]
def k2_off90 (v3919 : BitVec 32) : Fin 3 → Nat :=
  let c0_1422 : Index := 0#32
  let c0_1423 : Index := 0#32
  let c8192_i32_1408 : BitVec 32 := 8192#32
  let c0_i32_1409 : BitVec 32 := 0#32
  let v3927 : BitVec 1 := Scalar.cmpi .eq c8192_i32_1408 c0_i32_1409
  let c1_i32_1410 : BitVec 32 := 1#32
  let v3928 : BitVec 32 := Scalar.select v3927 c1_i32_1410 c8192_i32_1408
  let v3929 : BitVec 32 := Scalar.remsi v3919 v3928
  let c0_i32_1412 : BitVec 32 := 0#32
  let v3931 : BitVec 1 := Scalar.cmpi .slt v3929 c0_i32_1412
  let c0_i32_1413 : BitVec 32 := 0#32
  let v3932 : BitVec 1 := Scalar.cmpi .slt v3928 c0_i32_1413
  let v3933 : BitVec 1 := Scalar.xori v3931 v3932
  let c0_i32_1411 : BitVec 32 := 0#32
  let v3930 : BitVec 1 := Scalar.cmpi .ne v3929 c0_i32_1411
  let v3934 : BitVec 1 := Scalar.andi v3933 v3930
  let v3935 : BitVec 32 := Scalar.addi v3929 v3928
  let v3936 : BitVec 32 := Scalar.select v3934 v3935 v3929
  let c0_i32_1415 : BitVec 32 := 0#32
  let v3938 : BitVec 1 := Scalar.cmpi .sgt v3936 c0_i32_1415
  let v3939 : BitVec 32 := Scalar.extui v3938
  let c0_i32_1416 : BitVec 32 := 0#32
  let v3940 : BitVec 1 := Scalar.cmpi .slt v3936 c0_i32_1416
  let v3941 : BitVec 32 := Scalar.extui v3940
  let v3942 : BitVec 32 := Scalar.subi v3939 v3941
  let c128_i32_1414 : BitVec 32 := 128#32
  let c0_i32_1417 : BitVec 32 := 0#32
  let v3943 : BitVec 1 := Scalar.cmpi .sgt c128_i32_1414 c0_i32_1417
  let v3944 : BitVec 32 := Scalar.extui v3943
  let c0_i32_1418 : BitVec 32 := 0#32
  let v3945 : BitVec 1 := Scalar.cmpi .slt c128_i32_1414 c0_i32_1418
  let v3946 : BitVec 32 := Scalar.extui v3945
  let v3947 : BitVec 32 := Scalar.subi v3944 v3946
  let v3948 : BitVec 1 := Scalar.cmpi .ne v3942 v3947
  let v3949 : BitVec 32 := Scalar.remsi v3936 c128_i32_1414
  let c0_i32_1419 : BitVec 32 := 0#32
  let v3950 : BitVec 1 := Scalar.cmpi .ne v3949 c0_i32_1419
  let v3951 : BitVec 1 := Scalar.andi v3948 v3950
  let v3937 : BitVec 32 := Scalar.divsi v3936 c128_i32_1414
  let c1_i32_1420 : BitVec 32 := 1#32
  let v3952 : BitVec 32 := Scalar.subi v3937 c1_i32_1420
  let v3953 : BitVec 32 := Scalar.select v3951 v3952 v3937
  let c128_i32_1421 : BitVec 32 := 128#32
  let v3954 : BitVec 32 := Scalar.muli v3953 c128_i32_1421
  let v3955 : Index := Scalar.indexCast v3954
  ![0, 0, v3955.toNat]

def k2_chk45 (v3919 : BitVec 32) : Prop :=
  (∀ a, (k2_off90 v3919) a + S1x8x128.size a ≤ S1x8x8192.size a)
theorem k2_off90_inb : ∀ (v3919 : BitVec 32) (k2_hw45 : k2_chk45 v3919), ∀ a, (k2_off90 v3919) a + S1x8x128.size a ≤ S1x8x8192.size a := fun v3919 k2_hw45 => k2_hw45

def k2_off91 (i : grid2.Coords) : Fin 1 → Nat :=
  let arg0 : BitVec 32 := BitVec.ofNat 32 (i 0).val
  let c64_i32_1435 : BitVec 32 := 64#32
  let v4005 : BitVec 32 := Scalar.muli arg0 c64_i32_1435
  let c45_i32 : BitVec 32 := 45#32
  let v4006 : BitVec 32 := Scalar.addi v4005 c45_i32
  let v4007 : Index := Scalar.indexCast v4006
  ![v4007.toNat]
def k2_off92 (v4008 : BitVec 32) : Fin 3 → Nat :=
  let c0_1454 : Index := 0#32
  let c0_1455 : Index := 0#32
  let c8192_i32_1440 : BitVec 32 := 8192#32
  let c0_i32_1441 : BitVec 32 := 0#32
  let v4016 : BitVec 1 := Scalar.cmpi .eq c8192_i32_1440 c0_i32_1441
  let c1_i32_1442 : BitVec 32 := 1#32
  let v4017 : BitVec 32 := Scalar.select v4016 c1_i32_1442 c8192_i32_1440
  let v4018 : BitVec 32 := Scalar.remsi v4008 v4017
  let c0_i32_1444 : BitVec 32 := 0#32
  let v4020 : BitVec 1 := Scalar.cmpi .slt v4018 c0_i32_1444
  let c0_i32_1445 : BitVec 32 := 0#32
  let v4021 : BitVec 1 := Scalar.cmpi .slt v4017 c0_i32_1445
  let v4022 : BitVec 1 := Scalar.xori v4020 v4021
  let c0_i32_1443 : BitVec 32 := 0#32
  let v4019 : BitVec 1 := Scalar.cmpi .ne v4018 c0_i32_1443
  let v4023 : BitVec 1 := Scalar.andi v4022 v4019
  let v4024 : BitVec 32 := Scalar.addi v4018 v4017
  let v4025 : BitVec 32 := Scalar.select v4023 v4024 v4018
  let c0_i32_1447 : BitVec 32 := 0#32
  let v4027 : BitVec 1 := Scalar.cmpi .sgt v4025 c0_i32_1447
  let v4028 : BitVec 32 := Scalar.extui v4027
  let c0_i32_1448 : BitVec 32 := 0#32
  let v4029 : BitVec 1 := Scalar.cmpi .slt v4025 c0_i32_1448
  let v4030 : BitVec 32 := Scalar.extui v4029
  let v4031 : BitVec 32 := Scalar.subi v4028 v4030
  let c128_i32_1446 : BitVec 32 := 128#32
  let c0_i32_1449 : BitVec 32 := 0#32
  let v4032 : BitVec 1 := Scalar.cmpi .sgt c128_i32_1446 c0_i32_1449
  let v4033 : BitVec 32 := Scalar.extui v4032
  let c0_i32_1450 : BitVec 32 := 0#32
  let v4034 : BitVec 1 := Scalar.cmpi .slt c128_i32_1446 c0_i32_1450
  let v4035 : BitVec 32 := Scalar.extui v4034
  let v4036 : BitVec 32 := Scalar.subi v4033 v4035
  let v4037 : BitVec 1 := Scalar.cmpi .ne v4031 v4036
  let v4038 : BitVec 32 := Scalar.remsi v4025 c128_i32_1446
  let c0_i32_1451 : BitVec 32 := 0#32
  let v4039 : BitVec 1 := Scalar.cmpi .ne v4038 c0_i32_1451
  let v4040 : BitVec 1 := Scalar.andi v4037 v4039
  let v4026 : BitVec 32 := Scalar.divsi v4025 c128_i32_1446
  let c1_i32_1452 : BitVec 32 := 1#32
  let v4041 : BitVec 32 := Scalar.subi v4026 c1_i32_1452
  let v4042 : BitVec 32 := Scalar.select v4040 v4041 v4026
  let c128_i32_1453 : BitVec 32 := 128#32
  let v4043 : BitVec 32 := Scalar.muli v4042 c128_i32_1453
  let v4044 : Index := Scalar.indexCast v4043
  ![0, 0, v4044.toNat]

def k2_chk46 (v4008 : BitVec 32) : Prop :=
  (∀ a, (k2_off92 v4008) a + S1x8x128.size a ≤ S1x8x8192.size a)
theorem k2_off92_inb : ∀ (v4008 : BitVec 32) (k2_hw46 : k2_chk46 v4008), ∀ a, (k2_off92 v4008) a + S1x8x128.size a ≤ S1x8x8192.size a := fun v4008 k2_hw46 => k2_hw46

def k2_off93 (i : grid2.Coords) : Fin 1 → Nat :=
  let arg0 : BitVec 32 := BitVec.ofNat 32 (i 0).val
  let c64_i32_1467 : BitVec 32 := 64#32
  let v4094 : BitVec 32 := Scalar.muli arg0 c64_i32_1467
  let c46_i32 : BitVec 32 := 46#32
  let v4095 : BitVec 32 := Scalar.addi v4094 c46_i32
  let v4096 : Index := Scalar.indexCast v4095
  ![v4096.toNat]
def k2_off94 (v4097 : BitVec 32) : Fin 3 → Nat :=
  let c0_1486 : Index := 0#32
  let c0_1487 : Index := 0#32
  let c8192_i32_1472 : BitVec 32 := 8192#32
  let c0_i32_1473 : BitVec 32 := 0#32
  let v4105 : BitVec 1 := Scalar.cmpi .eq c8192_i32_1472 c0_i32_1473
  let c1_i32_1474 : BitVec 32 := 1#32
  let v4106 : BitVec 32 := Scalar.select v4105 c1_i32_1474 c8192_i32_1472
  let v4107 : BitVec 32 := Scalar.remsi v4097 v4106
  let c0_i32_1476 : BitVec 32 := 0#32
  let v4109 : BitVec 1 := Scalar.cmpi .slt v4107 c0_i32_1476
  let c0_i32_1477 : BitVec 32 := 0#32
  let v4110 : BitVec 1 := Scalar.cmpi .slt v4106 c0_i32_1477
  let v4111 : BitVec 1 := Scalar.xori v4109 v4110
  let c0_i32_1475 : BitVec 32 := 0#32
  let v4108 : BitVec 1 := Scalar.cmpi .ne v4107 c0_i32_1475
  let v4112 : BitVec 1 := Scalar.andi v4111 v4108
  let v4113 : BitVec 32 := Scalar.addi v4107 v4106
  let v4114 : BitVec 32 := Scalar.select v4112 v4113 v4107
  let c0_i32_1479 : BitVec 32 := 0#32
  let v4116 : BitVec 1 := Scalar.cmpi .sgt v4114 c0_i32_1479
  let v4117 : BitVec 32 := Scalar.extui v4116
  let c0_i32_1480 : BitVec 32 := 0#32
  let v4118 : BitVec 1 := Scalar.cmpi .slt v4114 c0_i32_1480
  let v4119 : BitVec 32 := Scalar.extui v4118
  let v4120 : BitVec 32 := Scalar.subi v4117 v4119
  let c128_i32_1478 : BitVec 32 := 128#32
  let c0_i32_1481 : BitVec 32 := 0#32
  let v4121 : BitVec 1 := Scalar.cmpi .sgt c128_i32_1478 c0_i32_1481
  let v4122 : BitVec 32 := Scalar.extui v4121
  let c0_i32_1482 : BitVec 32 := 0#32
  let v4123 : BitVec 1 := Scalar.cmpi .slt c128_i32_1478 c0_i32_1482
  let v4124 : BitVec 32 := Scalar.extui v4123
  let v4125 : BitVec 32 := Scalar.subi v4122 v4124
  let v4126 : BitVec 1 := Scalar.cmpi .ne v4120 v4125
  let v4127 : BitVec 32 := Scalar.remsi v4114 c128_i32_1478
  let c0_i32_1483 : BitVec 32 := 0#32
  let v4128 : BitVec 1 := Scalar.cmpi .ne v4127 c0_i32_1483
  let v4129 : BitVec 1 := Scalar.andi v4126 v4128
  let v4115 : BitVec 32 := Scalar.divsi v4114 c128_i32_1478
  let c1_i32_1484 : BitVec 32 := 1#32
  let v4130 : BitVec 32 := Scalar.subi v4115 c1_i32_1484
  let v4131 : BitVec 32 := Scalar.select v4129 v4130 v4115
  let c128_i32_1485 : BitVec 32 := 128#32
  let v4132 : BitVec 32 := Scalar.muli v4131 c128_i32_1485
  let v4133 : Index := Scalar.indexCast v4132
  ![0, 0, v4133.toNat]

def k2_chk47 (v4097 : BitVec 32) : Prop :=
  (∀ a, (k2_off94 v4097) a + S1x8x128.size a ≤ S1x8x8192.size a)
theorem k2_off94_inb : ∀ (v4097 : BitVec 32) (k2_hw47 : k2_chk47 v4097), ∀ a, (k2_off94 v4097) a + S1x8x128.size a ≤ S1x8x8192.size a := fun v4097 k2_hw47 => k2_hw47

def k2_off95 (i : grid2.Coords) : Fin 1 → Nat :=
  let arg0 : BitVec 32 := BitVec.ofNat 32 (i 0).val
  let c64_i32_1499 : BitVec 32 := 64#32
  let v4183 : BitVec 32 := Scalar.muli arg0 c64_i32_1499
  let c47_i32 : BitVec 32 := 47#32
  let v4184 : BitVec 32 := Scalar.addi v4183 c47_i32
  let v4185 : Index := Scalar.indexCast v4184
  ![v4185.toNat]
def k2_off96 (v4186 : BitVec 32) : Fin 3 → Nat :=
  let c0_1518 : Index := 0#32
  let c0_1519 : Index := 0#32
  let c8192_i32_1504 : BitVec 32 := 8192#32
  let c0_i32_1505 : BitVec 32 := 0#32
  let v4194 : BitVec 1 := Scalar.cmpi .eq c8192_i32_1504 c0_i32_1505
  let c1_i32_1506 : BitVec 32 := 1#32
  let v4195 : BitVec 32 := Scalar.select v4194 c1_i32_1506 c8192_i32_1504
  let v4196 : BitVec 32 := Scalar.remsi v4186 v4195
  let c0_i32_1508 : BitVec 32 := 0#32
  let v4198 : BitVec 1 := Scalar.cmpi .slt v4196 c0_i32_1508
  let c0_i32_1509 : BitVec 32 := 0#32
  let v4199 : BitVec 1 := Scalar.cmpi .slt v4195 c0_i32_1509
  let v4200 : BitVec 1 := Scalar.xori v4198 v4199
  let c0_i32_1507 : BitVec 32 := 0#32
  let v4197 : BitVec 1 := Scalar.cmpi .ne v4196 c0_i32_1507
  let v4201 : BitVec 1 := Scalar.andi v4200 v4197
  let v4202 : BitVec 32 := Scalar.addi v4196 v4195
  let v4203 : BitVec 32 := Scalar.select v4201 v4202 v4196
  let c0_i32_1511 : BitVec 32 := 0#32
  let v4205 : BitVec 1 := Scalar.cmpi .sgt v4203 c0_i32_1511
  let v4206 : BitVec 32 := Scalar.extui v4205
  let c0_i32_1512 : BitVec 32 := 0#32
  let v4207 : BitVec 1 := Scalar.cmpi .slt v4203 c0_i32_1512
  let v4208 : BitVec 32 := Scalar.extui v4207
  let v4209 : BitVec 32 := Scalar.subi v4206 v4208
  let c128_i32_1510 : BitVec 32 := 128#32
  let c0_i32_1513 : BitVec 32 := 0#32
  let v4210 : BitVec 1 := Scalar.cmpi .sgt c128_i32_1510 c0_i32_1513
  let v4211 : BitVec 32 := Scalar.extui v4210
  let c0_i32_1514 : BitVec 32 := 0#32
  let v4212 : BitVec 1 := Scalar.cmpi .slt c128_i32_1510 c0_i32_1514
  let v4213 : BitVec 32 := Scalar.extui v4212
  let v4214 : BitVec 32 := Scalar.subi v4211 v4213
  let v4215 : BitVec 1 := Scalar.cmpi .ne v4209 v4214
  let v4216 : BitVec 32 := Scalar.remsi v4203 c128_i32_1510
  let c0_i32_1515 : BitVec 32 := 0#32
  let v4217 : BitVec 1 := Scalar.cmpi .ne v4216 c0_i32_1515
  let v4218 : BitVec 1 := Scalar.andi v4215 v4217
  let v4204 : BitVec 32 := Scalar.divsi v4203 c128_i32_1510
  let c1_i32_1516 : BitVec 32 := 1#32
  let v4219 : BitVec 32 := Scalar.subi v4204 c1_i32_1516
  let v4220 : BitVec 32 := Scalar.select v4218 v4219 v4204
  let c128_i32_1517 : BitVec 32 := 128#32
  let v4221 : BitVec 32 := Scalar.muli v4220 c128_i32_1517
  let v4222 : Index := Scalar.indexCast v4221
  ![0, 0, v4222.toNat]

def k2_chk48 (v4186 : BitVec 32) : Prop :=
  (∀ a, (k2_off96 v4186) a + S1x8x128.size a ≤ S1x8x8192.size a)
theorem k2_off96_inb : ∀ (v4186 : BitVec 32) (k2_hw48 : k2_chk48 v4186), ∀ a, (k2_off96 v4186) a + S1x8x128.size a ≤ S1x8x8192.size a := fun v4186 k2_hw48 => k2_hw48

def k2_off97 (i : grid2.Coords) : Fin 1 → Nat :=
  let arg0 : BitVec 32 := BitVec.ofNat 32 (i 0).val
  let c64_i32_1531 : BitVec 32 := 64#32
  let v4272 : BitVec 32 := Scalar.muli arg0 c64_i32_1531
  let c48_i32 : BitVec 32 := 48#32
  let v4273 : BitVec 32 := Scalar.addi v4272 c48_i32
  let v4274 : Index := Scalar.indexCast v4273
  ![v4274.toNat]
def k2_off98 (v4275 : BitVec 32) : Fin 3 → Nat :=
  let c0_1550 : Index := 0#32
  let c0_1551 : Index := 0#32
  let c8192_i32_1536 : BitVec 32 := 8192#32
  let c0_i32_1537 : BitVec 32 := 0#32
  let v4283 : BitVec 1 := Scalar.cmpi .eq c8192_i32_1536 c0_i32_1537
  let c1_i32_1538 : BitVec 32 := 1#32
  let v4284 : BitVec 32 := Scalar.select v4283 c1_i32_1538 c8192_i32_1536
  let v4285 : BitVec 32 := Scalar.remsi v4275 v4284
  let c0_i32_1540 : BitVec 32 := 0#32
  let v4287 : BitVec 1 := Scalar.cmpi .slt v4285 c0_i32_1540
  let c0_i32_1541 : BitVec 32 := 0#32
  let v4288 : BitVec 1 := Scalar.cmpi .slt v4284 c0_i32_1541
  let v4289 : BitVec 1 := Scalar.xori v4287 v4288
  let c0_i32_1539 : BitVec 32 := 0#32
  let v4286 : BitVec 1 := Scalar.cmpi .ne v4285 c0_i32_1539
  let v4290 : BitVec 1 := Scalar.andi v4289 v4286
  let v4291 : BitVec 32 := Scalar.addi v4285 v4284
  let v4292 : BitVec 32 := Scalar.select v4290 v4291 v4285
  let c0_i32_1543 : BitVec 32 := 0#32
  let v4294 : BitVec 1 := Scalar.cmpi .sgt v4292 c0_i32_1543
  let v4295 : BitVec 32 := Scalar.extui v4294
  let c0_i32_1544 : BitVec 32 := 0#32
  let v4296 : BitVec 1 := Scalar.cmpi .slt v4292 c0_i32_1544
  let v4297 : BitVec 32 := Scalar.extui v4296
  let v4298 : BitVec 32 := Scalar.subi v4295 v4297
  let c128_i32_1542 : BitVec 32 := 128#32
  let c0_i32_1545 : BitVec 32 := 0#32
  let v4299 : BitVec 1 := Scalar.cmpi .sgt c128_i32_1542 c0_i32_1545
  let v4300 : BitVec 32 := Scalar.extui v4299
  let c0_i32_1546 : BitVec 32 := 0#32
  let v4301 : BitVec 1 := Scalar.cmpi .slt c128_i32_1542 c0_i32_1546
  let v4302 : BitVec 32 := Scalar.extui v4301
  let v4303 : BitVec 32 := Scalar.subi v4300 v4302
  let v4304 : BitVec 1 := Scalar.cmpi .ne v4298 v4303
  let v4305 : BitVec 32 := Scalar.remsi v4292 c128_i32_1542
  let c0_i32_1547 : BitVec 32 := 0#32
  let v4306 : BitVec 1 := Scalar.cmpi .ne v4305 c0_i32_1547
  let v4307 : BitVec 1 := Scalar.andi v4304 v4306
  let v4293 : BitVec 32 := Scalar.divsi v4292 c128_i32_1542
  let c1_i32_1548 : BitVec 32 := 1#32
  let v4308 : BitVec 32 := Scalar.subi v4293 c1_i32_1548
  let v4309 : BitVec 32 := Scalar.select v4307 v4308 v4293
  let c128_i32_1549 : BitVec 32 := 128#32
  let v4310 : BitVec 32 := Scalar.muli v4309 c128_i32_1549
  let v4311 : Index := Scalar.indexCast v4310
  ![0, 0, v4311.toNat]

def k2_chk49 (v4275 : BitVec 32) : Prop :=
  (∀ a, (k2_off98 v4275) a + S1x8x128.size a ≤ S1x8x8192.size a)
theorem k2_off98_inb : ∀ (v4275 : BitVec 32) (k2_hw49 : k2_chk49 v4275), ∀ a, (k2_off98 v4275) a + S1x8x128.size a ≤ S1x8x8192.size a := fun v4275 k2_hw49 => k2_hw49

def k2_off99 (i : grid2.Coords) : Fin 1 → Nat :=
  let arg0 : BitVec 32 := BitVec.ofNat 32 (i 0).val
  let c64_i32_1563 : BitVec 32 := 64#32
  let v4361 : BitVec 32 := Scalar.muli arg0 c64_i32_1563
  let c49_i32 : BitVec 32 := 49#32
  let v4362 : BitVec 32 := Scalar.addi v4361 c49_i32
  let v4363 : Index := Scalar.indexCast v4362
  ![v4363.toNat]
def k2_off100 (v4364 : BitVec 32) : Fin 3 → Nat :=
  let c0_1582 : Index := 0#32
  let c0_1583 : Index := 0#32
  let c8192_i32_1568 : BitVec 32 := 8192#32
  let c0_i32_1569 : BitVec 32 := 0#32
  let v4372 : BitVec 1 := Scalar.cmpi .eq c8192_i32_1568 c0_i32_1569
  let c1_i32_1570 : BitVec 32 := 1#32
  let v4373 : BitVec 32 := Scalar.select v4372 c1_i32_1570 c8192_i32_1568
  let v4374 : BitVec 32 := Scalar.remsi v4364 v4373
  let c0_i32_1572 : BitVec 32 := 0#32
  let v4376 : BitVec 1 := Scalar.cmpi .slt v4374 c0_i32_1572
  let c0_i32_1573 : BitVec 32 := 0#32
  let v4377 : BitVec 1 := Scalar.cmpi .slt v4373 c0_i32_1573
  let v4378 : BitVec 1 := Scalar.xori v4376 v4377
  let c0_i32_1571 : BitVec 32 := 0#32
  let v4375 : BitVec 1 := Scalar.cmpi .ne v4374 c0_i32_1571
  let v4379 : BitVec 1 := Scalar.andi v4378 v4375
  let v4380 : BitVec 32 := Scalar.addi v4374 v4373
  let v4381 : BitVec 32 := Scalar.select v4379 v4380 v4374
  let c0_i32_1575 : BitVec 32 := 0#32
  let v4383 : BitVec 1 := Scalar.cmpi .sgt v4381 c0_i32_1575
  let v4384 : BitVec 32 := Scalar.extui v4383
  let c0_i32_1576 : BitVec 32 := 0#32
  let v4385 : BitVec 1 := Scalar.cmpi .slt v4381 c0_i32_1576
  let v4386 : BitVec 32 := Scalar.extui v4385
  let v4387 : BitVec 32 := Scalar.subi v4384 v4386
  let c128_i32_1574 : BitVec 32 := 128#32
  let c0_i32_1577 : BitVec 32 := 0#32
  let v4388 : BitVec 1 := Scalar.cmpi .sgt c128_i32_1574 c0_i32_1577
  let v4389 : BitVec 32 := Scalar.extui v4388
  let c0_i32_1578 : BitVec 32 := 0#32
  let v4390 : BitVec 1 := Scalar.cmpi .slt c128_i32_1574 c0_i32_1578
  let v4391 : BitVec 32 := Scalar.extui v4390
  let v4392 : BitVec 32 := Scalar.subi v4389 v4391
  let v4393 : BitVec 1 := Scalar.cmpi .ne v4387 v4392
  let v4394 : BitVec 32 := Scalar.remsi v4381 c128_i32_1574
  let c0_i32_1579 : BitVec 32 := 0#32
  let v4395 : BitVec 1 := Scalar.cmpi .ne v4394 c0_i32_1579
  let v4396 : BitVec 1 := Scalar.andi v4393 v4395
  let v4382 : BitVec 32 := Scalar.divsi v4381 c128_i32_1574
  let c1_i32_1580 : BitVec 32 := 1#32
  let v4397 : BitVec 32 := Scalar.subi v4382 c1_i32_1580
  let v4398 : BitVec 32 := Scalar.select v4396 v4397 v4382
  let c128_i32_1581 : BitVec 32 := 128#32
  let v4399 : BitVec 32 := Scalar.muli v4398 c128_i32_1581
  let v4400 : Index := Scalar.indexCast v4399
  ![0, 0, v4400.toNat]

def k2_chk50 (v4364 : BitVec 32) : Prop :=
  (∀ a, (k2_off100 v4364) a + S1x8x128.size a ≤ S1x8x8192.size a)
theorem k2_off100_inb : ∀ (v4364 : BitVec 32) (k2_hw50 : k2_chk50 v4364), ∀ a, (k2_off100 v4364) a + S1x8x128.size a ≤ S1x8x8192.size a := fun v4364 k2_hw50 => k2_hw50

def k2_off101 (i : grid2.Coords) : Fin 1 → Nat :=
  let arg0 : BitVec 32 := BitVec.ofNat 32 (i 0).val
  let c64_i32_1595 : BitVec 32 := 64#32
  let v4450 : BitVec 32 := Scalar.muli arg0 c64_i32_1595
  let c50_i32 : BitVec 32 := 50#32
  let v4451 : BitVec 32 := Scalar.addi v4450 c50_i32
  let v4452 : Index := Scalar.indexCast v4451
  ![v4452.toNat]
def k2_off102 (v4453 : BitVec 32) : Fin 3 → Nat :=
  let c0_1614 : Index := 0#32
  let c0_1615 : Index := 0#32
  let c8192_i32_1600 : BitVec 32 := 8192#32
  let c0_i32_1601 : BitVec 32 := 0#32
  let v4461 : BitVec 1 := Scalar.cmpi .eq c8192_i32_1600 c0_i32_1601
  let c1_i32_1602 : BitVec 32 := 1#32
  let v4462 : BitVec 32 := Scalar.select v4461 c1_i32_1602 c8192_i32_1600
  let v4463 : BitVec 32 := Scalar.remsi v4453 v4462
  let c0_i32_1604 : BitVec 32 := 0#32
  let v4465 : BitVec 1 := Scalar.cmpi .slt v4463 c0_i32_1604
  let c0_i32_1605 : BitVec 32 := 0#32
  let v4466 : BitVec 1 := Scalar.cmpi .slt v4462 c0_i32_1605
  let v4467 : BitVec 1 := Scalar.xori v4465 v4466
  let c0_i32_1603 : BitVec 32 := 0#32
  let v4464 : BitVec 1 := Scalar.cmpi .ne v4463 c0_i32_1603
  let v4468 : BitVec 1 := Scalar.andi v4467 v4464
  let v4469 : BitVec 32 := Scalar.addi v4463 v4462
  let v4470 : BitVec 32 := Scalar.select v4468 v4469 v4463
  let c0_i32_1607 : BitVec 32 := 0#32
  let v4472 : BitVec 1 := Scalar.cmpi .sgt v4470 c0_i32_1607
  let v4473 : BitVec 32 := Scalar.extui v4472
  let c0_i32_1608 : BitVec 32 := 0#32
  let v4474 : BitVec 1 := Scalar.cmpi .slt v4470 c0_i32_1608
  let v4475 : BitVec 32 := Scalar.extui v4474
  let v4476 : BitVec 32 := Scalar.subi v4473 v4475
  let c128_i32_1606 : BitVec 32 := 128#32
  let c0_i32_1609 : BitVec 32 := 0#32
  let v4477 : BitVec 1 := Scalar.cmpi .sgt c128_i32_1606 c0_i32_1609
  let v4478 : BitVec 32 := Scalar.extui v4477
  let c0_i32_1610 : BitVec 32 := 0#32
  let v4479 : BitVec 1 := Scalar.cmpi .slt c128_i32_1606 c0_i32_1610
  let v4480 : BitVec 32 := Scalar.extui v4479
  let v4481 : BitVec 32 := Scalar.subi v4478 v4480
  let v4482 : BitVec 1 := Scalar.cmpi .ne v4476 v4481
  let v4483 : BitVec 32 := Scalar.remsi v4470 c128_i32_1606
  let c0_i32_1611 : BitVec 32 := 0#32
  let v4484 : BitVec 1 := Scalar.cmpi .ne v4483 c0_i32_1611
  let v4485 : BitVec 1 := Scalar.andi v4482 v4484
  let v4471 : BitVec 32 := Scalar.divsi v4470 c128_i32_1606
  let c1_i32_1612 : BitVec 32 := 1#32
  let v4486 : BitVec 32 := Scalar.subi v4471 c1_i32_1612
  let v4487 : BitVec 32 := Scalar.select v4485 v4486 v4471
  let c128_i32_1613 : BitVec 32 := 128#32
  let v4488 : BitVec 32 := Scalar.muli v4487 c128_i32_1613
  let v4489 : Index := Scalar.indexCast v4488
  ![0, 0, v4489.toNat]

def k2_chk51 (v4453 : BitVec 32) : Prop :=
  (∀ a, (k2_off102 v4453) a + S1x8x128.size a ≤ S1x8x8192.size a)
theorem k2_off102_inb : ∀ (v4453 : BitVec 32) (k2_hw51 : k2_chk51 v4453), ∀ a, (k2_off102 v4453) a + S1x8x128.size a ≤ S1x8x8192.size a := fun v4453 k2_hw51 => k2_hw51

def k2_off103 (i : grid2.Coords) : Fin 1 → Nat :=
  let arg0 : BitVec 32 := BitVec.ofNat 32 (i 0).val
  let c64_i32_1627 : BitVec 32 := 64#32
  let v4539 : BitVec 32 := Scalar.muli arg0 c64_i32_1627
  let c51_i32 : BitVec 32 := 51#32
  let v4540 : BitVec 32 := Scalar.addi v4539 c51_i32
  let v4541 : Index := Scalar.indexCast v4540
  ![v4541.toNat]
def k2_off104 (v4542 : BitVec 32) : Fin 3 → Nat :=
  let c0_1646 : Index := 0#32
  let c0_1647 : Index := 0#32
  let c8192_i32_1632 : BitVec 32 := 8192#32
  let c0_i32_1633 : BitVec 32 := 0#32
  let v4550 : BitVec 1 := Scalar.cmpi .eq c8192_i32_1632 c0_i32_1633
  let c1_i32_1634 : BitVec 32 := 1#32
  let v4551 : BitVec 32 := Scalar.select v4550 c1_i32_1634 c8192_i32_1632
  let v4552 : BitVec 32 := Scalar.remsi v4542 v4551
  let c0_i32_1636 : BitVec 32 := 0#32
  let v4554 : BitVec 1 := Scalar.cmpi .slt v4552 c0_i32_1636
  let c0_i32_1637 : BitVec 32 := 0#32
  let v4555 : BitVec 1 := Scalar.cmpi .slt v4551 c0_i32_1637
  let v4556 : BitVec 1 := Scalar.xori v4554 v4555
  let c0_i32_1635 : BitVec 32 := 0#32
  let v4553 : BitVec 1 := Scalar.cmpi .ne v4552 c0_i32_1635
  let v4557 : BitVec 1 := Scalar.andi v4556 v4553
  let v4558 : BitVec 32 := Scalar.addi v4552 v4551
  let v4559 : BitVec 32 := Scalar.select v4557 v4558 v4552
  let c0_i32_1639 : BitVec 32 := 0#32
  let v4561 : BitVec 1 := Scalar.cmpi .sgt v4559 c0_i32_1639
  let v4562 : BitVec 32 := Scalar.extui v4561
  let c0_i32_1640 : BitVec 32 := 0#32
  let v4563 : BitVec 1 := Scalar.cmpi .slt v4559 c0_i32_1640
  let v4564 : BitVec 32 := Scalar.extui v4563
  let v4565 : BitVec 32 := Scalar.subi v4562 v4564
  let c128_i32_1638 : BitVec 32 := 128#32
  let c0_i32_1641 : BitVec 32 := 0#32
  let v4566 : BitVec 1 := Scalar.cmpi .sgt c128_i32_1638 c0_i32_1641
  let v4567 : BitVec 32 := Scalar.extui v4566
  let c0_i32_1642 : BitVec 32 := 0#32
  let v4568 : BitVec 1 := Scalar.cmpi .slt c128_i32_1638 c0_i32_1642
  let v4569 : BitVec 32 := Scalar.extui v4568
  let v4570 : BitVec 32 := Scalar.subi v4567 v4569
  let v4571 : BitVec 1 := Scalar.cmpi .ne v4565 v4570
  let v4572 : BitVec 32 := Scalar.remsi v4559 c128_i32_1638
  let c0_i32_1643 : BitVec 32 := 0#32
  let v4573 : BitVec 1 := Scalar.cmpi .ne v4572 c0_i32_1643
  let v4574 : BitVec 1 := Scalar.andi v4571 v4573
  let v4560 : BitVec 32 := Scalar.divsi v4559 c128_i32_1638
  let c1_i32_1644 : BitVec 32 := 1#32
  let v4575 : BitVec 32 := Scalar.subi v4560 c1_i32_1644
  let v4576 : BitVec 32 := Scalar.select v4574 v4575 v4560
  let c128_i32_1645 : BitVec 32 := 128#32
  let v4577 : BitVec 32 := Scalar.muli v4576 c128_i32_1645
  let v4578 : Index := Scalar.indexCast v4577
  ![0, 0, v4578.toNat]

def k2_chk52 (v4542 : BitVec 32) : Prop :=
  (∀ a, (k2_off104 v4542) a + S1x8x128.size a ≤ S1x8x8192.size a)
theorem k2_off104_inb : ∀ (v4542 : BitVec 32) (k2_hw52 : k2_chk52 v4542), ∀ a, (k2_off104 v4542) a + S1x8x128.size a ≤ S1x8x8192.size a := fun v4542 k2_hw52 => k2_hw52

def k2_off105 (i : grid2.Coords) : Fin 1 → Nat :=
  let arg0 : BitVec 32 := BitVec.ofNat 32 (i 0).val
  let c64_i32_1659 : BitVec 32 := 64#32
  let v4628 : BitVec 32 := Scalar.muli arg0 c64_i32_1659
  let c52_i32 : BitVec 32 := 52#32
  let v4629 : BitVec 32 := Scalar.addi v4628 c52_i32
  let v4630 : Index := Scalar.indexCast v4629
  ![v4630.toNat]
def k2_off106 (v4631 : BitVec 32) : Fin 3 → Nat :=
  let c0_1678 : Index := 0#32
  let c0_1679 : Index := 0#32
  let c8192_i32_1664 : BitVec 32 := 8192#32
  let c0_i32_1665 : BitVec 32 := 0#32
  let v4639 : BitVec 1 := Scalar.cmpi .eq c8192_i32_1664 c0_i32_1665
  let c1_i32_1666 : BitVec 32 := 1#32
  let v4640 : BitVec 32 := Scalar.select v4639 c1_i32_1666 c8192_i32_1664
  let v4641 : BitVec 32 := Scalar.remsi v4631 v4640
  let c0_i32_1668 : BitVec 32 := 0#32
  let v4643 : BitVec 1 := Scalar.cmpi .slt v4641 c0_i32_1668
  let c0_i32_1669 : BitVec 32 := 0#32
  let v4644 : BitVec 1 := Scalar.cmpi .slt v4640 c0_i32_1669
  let v4645 : BitVec 1 := Scalar.xori v4643 v4644
  let c0_i32_1667 : BitVec 32 := 0#32
  let v4642 : BitVec 1 := Scalar.cmpi .ne v4641 c0_i32_1667
  let v4646 : BitVec 1 := Scalar.andi v4645 v4642
  let v4647 : BitVec 32 := Scalar.addi v4641 v4640
  let v4648 : BitVec 32 := Scalar.select v4646 v4647 v4641
  let c0_i32_1671 : BitVec 32 := 0#32
  let v4650 : BitVec 1 := Scalar.cmpi .sgt v4648 c0_i32_1671
  let v4651 : BitVec 32 := Scalar.extui v4650
  let c0_i32_1672 : BitVec 32 := 0#32
  let v4652 : BitVec 1 := Scalar.cmpi .slt v4648 c0_i32_1672
  let v4653 : BitVec 32 := Scalar.extui v4652
  let v4654 : BitVec 32 := Scalar.subi v4651 v4653
  let c128_i32_1670 : BitVec 32 := 128#32
  let c0_i32_1673 : BitVec 32 := 0#32
  let v4655 : BitVec 1 := Scalar.cmpi .sgt c128_i32_1670 c0_i32_1673
  let v4656 : BitVec 32 := Scalar.extui v4655
  let c0_i32_1674 : BitVec 32 := 0#32
  let v4657 : BitVec 1 := Scalar.cmpi .slt c128_i32_1670 c0_i32_1674
  let v4658 : BitVec 32 := Scalar.extui v4657
  let v4659 : BitVec 32 := Scalar.subi v4656 v4658
  let v4660 : BitVec 1 := Scalar.cmpi .ne v4654 v4659
  let v4661 : BitVec 32 := Scalar.remsi v4648 c128_i32_1670
  let c0_i32_1675 : BitVec 32 := 0#32
  let v4662 : BitVec 1 := Scalar.cmpi .ne v4661 c0_i32_1675
  let v4663 : BitVec 1 := Scalar.andi v4660 v4662
  let v4649 : BitVec 32 := Scalar.divsi v4648 c128_i32_1670
  let c1_i32_1676 : BitVec 32 := 1#32
  let v4664 : BitVec 32 := Scalar.subi v4649 c1_i32_1676
  let v4665 : BitVec 32 := Scalar.select v4663 v4664 v4649
  let c128_i32_1677 : BitVec 32 := 128#32
  let v4666 : BitVec 32 := Scalar.muli v4665 c128_i32_1677
  let v4667 : Index := Scalar.indexCast v4666
  ![0, 0, v4667.toNat]

def k2_chk53 (v4631 : BitVec 32) : Prop :=
  (∀ a, (k2_off106 v4631) a + S1x8x128.size a ≤ S1x8x8192.size a)
theorem k2_off106_inb : ∀ (v4631 : BitVec 32) (k2_hw53 : k2_chk53 v4631), ∀ a, (k2_off106 v4631) a + S1x8x128.size a ≤ S1x8x8192.size a := fun v4631 k2_hw53 => k2_hw53

def k2_off107 (i : grid2.Coords) : Fin 1 → Nat :=
  let arg0 : BitVec 32 := BitVec.ofNat 32 (i 0).val
  let c64_i32_1691 : BitVec 32 := 64#32
  let v4717 : BitVec 32 := Scalar.muli arg0 c64_i32_1691
  let c53_i32 : BitVec 32 := 53#32
  let v4718 : BitVec 32 := Scalar.addi v4717 c53_i32
  let v4719 : Index := Scalar.indexCast v4718
  ![v4719.toNat]
def k2_off108 (v4720 : BitVec 32) : Fin 3 → Nat :=
  let c0_1710 : Index := 0#32
  let c0_1711 : Index := 0#32
  let c8192_i32_1696 : BitVec 32 := 8192#32
  let c0_i32_1697 : BitVec 32 := 0#32
  let v4728 : BitVec 1 := Scalar.cmpi .eq c8192_i32_1696 c0_i32_1697
  let c1_i32_1698 : BitVec 32 := 1#32
  let v4729 : BitVec 32 := Scalar.select v4728 c1_i32_1698 c8192_i32_1696
  let v4730 : BitVec 32 := Scalar.remsi v4720 v4729
  let c0_i32_1700 : BitVec 32 := 0#32
  let v4732 : BitVec 1 := Scalar.cmpi .slt v4730 c0_i32_1700
  let c0_i32_1701 : BitVec 32 := 0#32
  let v4733 : BitVec 1 := Scalar.cmpi .slt v4729 c0_i32_1701
  let v4734 : BitVec 1 := Scalar.xori v4732 v4733
  let c0_i32_1699 : BitVec 32 := 0#32
  let v4731 : BitVec 1 := Scalar.cmpi .ne v4730 c0_i32_1699
  let v4735 : BitVec 1 := Scalar.andi v4734 v4731
  let v4736 : BitVec 32 := Scalar.addi v4730 v4729
  let v4737 : BitVec 32 := Scalar.select v4735 v4736 v4730
  let c0_i32_1703 : BitVec 32 := 0#32
  let v4739 : BitVec 1 := Scalar.cmpi .sgt v4737 c0_i32_1703
  let v4740 : BitVec 32 := Scalar.extui v4739
  let c0_i32_1704 : BitVec 32 := 0#32
  let v4741 : BitVec 1 := Scalar.cmpi .slt v4737 c0_i32_1704
  let v4742 : BitVec 32 := Scalar.extui v4741
  let v4743 : BitVec 32 := Scalar.subi v4740 v4742
  let c128_i32_1702 : BitVec 32 := 128#32
  let c0_i32_1705 : BitVec 32 := 0#32
  let v4744 : BitVec 1 := Scalar.cmpi .sgt c128_i32_1702 c0_i32_1705
  let v4745 : BitVec 32 := Scalar.extui v4744
  let c0_i32_1706 : BitVec 32 := 0#32
  let v4746 : BitVec 1 := Scalar.cmpi .slt c128_i32_1702 c0_i32_1706
  let v4747 : BitVec 32 := Scalar.extui v4746
  let v4748 : BitVec 32 := Scalar.subi v4745 v4747
  let v4749 : BitVec 1 := Scalar.cmpi .ne v4743 v4748
  let v4750 : BitVec 32 := Scalar.remsi v4737 c128_i32_1702
  let c0_i32_1707 : BitVec 32 := 0#32
  let v4751 : BitVec 1 := Scalar.cmpi .ne v4750 c0_i32_1707
  let v4752 : BitVec 1 := Scalar.andi v4749 v4751
  let v4738 : BitVec 32 := Scalar.divsi v4737 c128_i32_1702
  let c1_i32_1708 : BitVec 32 := 1#32
  let v4753 : BitVec 32 := Scalar.subi v4738 c1_i32_1708
  let v4754 : BitVec 32 := Scalar.select v4752 v4753 v4738
  let c128_i32_1709 : BitVec 32 := 128#32
  let v4755 : BitVec 32 := Scalar.muli v4754 c128_i32_1709
  let v4756 : Index := Scalar.indexCast v4755
  ![0, 0, v4756.toNat]

def k2_chk54 (v4720 : BitVec 32) : Prop :=
  (∀ a, (k2_off108 v4720) a + S1x8x128.size a ≤ S1x8x8192.size a)
theorem k2_off108_inb : ∀ (v4720 : BitVec 32) (k2_hw54 : k2_chk54 v4720), ∀ a, (k2_off108 v4720) a + S1x8x128.size a ≤ S1x8x8192.size a := fun v4720 k2_hw54 => k2_hw54

def k2_off109 (i : grid2.Coords) : Fin 1 → Nat :=
  let arg0 : BitVec 32 := BitVec.ofNat 32 (i 0).val
  let c64_i32_1723 : BitVec 32 := 64#32
  let v4806 : BitVec 32 := Scalar.muli arg0 c64_i32_1723
  let c54_i32 : BitVec 32 := 54#32
  let v4807 : BitVec 32 := Scalar.addi v4806 c54_i32
  let v4808 : Index := Scalar.indexCast v4807
  ![v4808.toNat]
def k2_off110 (v4809 : BitVec 32) : Fin 3 → Nat :=
  let c0_1742 : Index := 0#32
  let c0_1743 : Index := 0#32
  let c8192_i32_1728 : BitVec 32 := 8192#32
  let c0_i32_1729 : BitVec 32 := 0#32
  let v4817 : BitVec 1 := Scalar.cmpi .eq c8192_i32_1728 c0_i32_1729
  let c1_i32_1730 : BitVec 32 := 1#32
  let v4818 : BitVec 32 := Scalar.select v4817 c1_i32_1730 c8192_i32_1728
  let v4819 : BitVec 32 := Scalar.remsi v4809 v4818
  let c0_i32_1732 : BitVec 32 := 0#32
  let v4821 : BitVec 1 := Scalar.cmpi .slt v4819 c0_i32_1732
  let c0_i32_1733 : BitVec 32 := 0#32
  let v4822 : BitVec 1 := Scalar.cmpi .slt v4818 c0_i32_1733
  let v4823 : BitVec 1 := Scalar.xori v4821 v4822
  let c0_i32_1731 : BitVec 32 := 0#32
  let v4820 : BitVec 1 := Scalar.cmpi .ne v4819 c0_i32_1731
  let v4824 : BitVec 1 := Scalar.andi v4823 v4820
  let v4825 : BitVec 32 := Scalar.addi v4819 v4818
  let v4826 : BitVec 32 := Scalar.select v4824 v4825 v4819
  let c0_i32_1735 : BitVec 32 := 0#32
  let v4828 : BitVec 1 := Scalar.cmpi .sgt v4826 c0_i32_1735
  let v4829 : BitVec 32 := Scalar.extui v4828
  let c0_i32_1736 : BitVec 32 := 0#32
  let v4830 : BitVec 1 := Scalar.cmpi .slt v4826 c0_i32_1736
  let v4831 : BitVec 32 := Scalar.extui v4830
  let v4832 : BitVec 32 := Scalar.subi v4829 v4831
  let c128_i32_1734 : BitVec 32 := 128#32
  let c0_i32_1737 : BitVec 32 := 0#32
  let v4833 : BitVec 1 := Scalar.cmpi .sgt c128_i32_1734 c0_i32_1737
  let v4834 : BitVec 32 := Scalar.extui v4833
  let c0_i32_1738 : BitVec 32 := 0#32
  let v4835 : BitVec 1 := Scalar.cmpi .slt c128_i32_1734 c0_i32_1738
  let v4836 : BitVec 32 := Scalar.extui v4835
  let v4837 : BitVec 32 := Scalar.subi v4834 v4836
  let v4838 : BitVec 1 := Scalar.cmpi .ne v4832 v4837
  let v4839 : BitVec 32 := Scalar.remsi v4826 c128_i32_1734
  let c0_i32_1739 : BitVec 32 := 0#32
  let v4840 : BitVec 1 := Scalar.cmpi .ne v4839 c0_i32_1739
  let v4841 : BitVec 1 := Scalar.andi v4838 v4840
  let v4827 : BitVec 32 := Scalar.divsi v4826 c128_i32_1734
  let c1_i32_1740 : BitVec 32 := 1#32
  let v4842 : BitVec 32 := Scalar.subi v4827 c1_i32_1740
  let v4843 : BitVec 32 := Scalar.select v4841 v4842 v4827
  let c128_i32_1741 : BitVec 32 := 128#32
  let v4844 : BitVec 32 := Scalar.muli v4843 c128_i32_1741
  let v4845 : Index := Scalar.indexCast v4844
  ![0, 0, v4845.toNat]

def k2_chk55 (v4809 : BitVec 32) : Prop :=
  (∀ a, (k2_off110 v4809) a + S1x8x128.size a ≤ S1x8x8192.size a)
theorem k2_off110_inb : ∀ (v4809 : BitVec 32) (k2_hw55 : k2_chk55 v4809), ∀ a, (k2_off110 v4809) a + S1x8x128.size a ≤ S1x8x8192.size a := fun v4809 k2_hw55 => k2_hw55

def k2_off111 (i : grid2.Coords) : Fin 1 → Nat :=
  let arg0 : BitVec 32 := BitVec.ofNat 32 (i 0).val
  let c64_i32_1755 : BitVec 32 := 64#32
  let v4895 : BitVec 32 := Scalar.muli arg0 c64_i32_1755
  let c55_i32 : BitVec 32 := 55#32
  let v4896 : BitVec 32 := Scalar.addi v4895 c55_i32
  let v4897 : Index := Scalar.indexCast v4896
  ![v4897.toNat]
def k2_off112 (v4898 : BitVec 32) : Fin 3 → Nat :=
  let c0_1774 : Index := 0#32
  let c0_1775 : Index := 0#32
  let c8192_i32_1760 : BitVec 32 := 8192#32
  let c0_i32_1761 : BitVec 32 := 0#32
  let v4906 : BitVec 1 := Scalar.cmpi .eq c8192_i32_1760 c0_i32_1761
  let c1_i32_1762 : BitVec 32 := 1#32
  let v4907 : BitVec 32 := Scalar.select v4906 c1_i32_1762 c8192_i32_1760
  let v4908 : BitVec 32 := Scalar.remsi v4898 v4907
  let c0_i32_1764 : BitVec 32 := 0#32
  let v4910 : BitVec 1 := Scalar.cmpi .slt v4908 c0_i32_1764
  let c0_i32_1765 : BitVec 32 := 0#32
  let v4911 : BitVec 1 := Scalar.cmpi .slt v4907 c0_i32_1765
  let v4912 : BitVec 1 := Scalar.xori v4910 v4911
  let c0_i32_1763 : BitVec 32 := 0#32
  let v4909 : BitVec 1 := Scalar.cmpi .ne v4908 c0_i32_1763
  let v4913 : BitVec 1 := Scalar.andi v4912 v4909
  let v4914 : BitVec 32 := Scalar.addi v4908 v4907
  let v4915 : BitVec 32 := Scalar.select v4913 v4914 v4908
  let c0_i32_1767 : BitVec 32 := 0#32
  let v4917 : BitVec 1 := Scalar.cmpi .sgt v4915 c0_i32_1767
  let v4918 : BitVec 32 := Scalar.extui v4917
  let c0_i32_1768 : BitVec 32 := 0#32
  let v4919 : BitVec 1 := Scalar.cmpi .slt v4915 c0_i32_1768
  let v4920 : BitVec 32 := Scalar.extui v4919
  let v4921 : BitVec 32 := Scalar.subi v4918 v4920
  let c128_i32_1766 : BitVec 32 := 128#32
  let c0_i32_1769 : BitVec 32 := 0#32
  let v4922 : BitVec 1 := Scalar.cmpi .sgt c128_i32_1766 c0_i32_1769
  let v4923 : BitVec 32 := Scalar.extui v4922
  let c0_i32_1770 : BitVec 32 := 0#32
  let v4924 : BitVec 1 := Scalar.cmpi .slt c128_i32_1766 c0_i32_1770
  let v4925 : BitVec 32 := Scalar.extui v4924
  let v4926 : BitVec 32 := Scalar.subi v4923 v4925
  let v4927 : BitVec 1 := Scalar.cmpi .ne v4921 v4926
  let v4928 : BitVec 32 := Scalar.remsi v4915 c128_i32_1766
  let c0_i32_1771 : BitVec 32 := 0#32
  let v4929 : BitVec 1 := Scalar.cmpi .ne v4928 c0_i32_1771
  let v4930 : BitVec 1 := Scalar.andi v4927 v4929
  let v4916 : BitVec 32 := Scalar.divsi v4915 c128_i32_1766
  let c1_i32_1772 : BitVec 32 := 1#32
  let v4931 : BitVec 32 := Scalar.subi v4916 c1_i32_1772
  let v4932 : BitVec 32 := Scalar.select v4930 v4931 v4916
  let c128_i32_1773 : BitVec 32 := 128#32
  let v4933 : BitVec 32 := Scalar.muli v4932 c128_i32_1773
  let v4934 : Index := Scalar.indexCast v4933
  ![0, 0, v4934.toNat]

def k2_chk56 (v4898 : BitVec 32) : Prop :=
  (∀ a, (k2_off112 v4898) a + S1x8x128.size a ≤ S1x8x8192.size a)
theorem k2_off112_inb : ∀ (v4898 : BitVec 32) (k2_hw56 : k2_chk56 v4898), ∀ a, (k2_off112 v4898) a + S1x8x128.size a ≤ S1x8x8192.size a := fun v4898 k2_hw56 => k2_hw56

def k2_off113 (i : grid2.Coords) : Fin 1 → Nat :=
  let arg0 : BitVec 32 := BitVec.ofNat 32 (i 0).val
  let c64_i32_1787 : BitVec 32 := 64#32
  let v4984 : BitVec 32 := Scalar.muli arg0 c64_i32_1787
  let c56_i32 : BitVec 32 := 56#32
  let v4985 : BitVec 32 := Scalar.addi v4984 c56_i32
  let v4986 : Index := Scalar.indexCast v4985
  ![v4986.toNat]
def k2_off114 (v4987 : BitVec 32) : Fin 3 → Nat :=
  let c0_1806 : Index := 0#32
  let c0_1807 : Index := 0#32
  let c8192_i32_1792 : BitVec 32 := 8192#32
  let c0_i32_1793 : BitVec 32 := 0#32
  let v4995 : BitVec 1 := Scalar.cmpi .eq c8192_i32_1792 c0_i32_1793
  let c1_i32_1794 : BitVec 32 := 1#32
  let v4996 : BitVec 32 := Scalar.select v4995 c1_i32_1794 c8192_i32_1792
  let v4997 : BitVec 32 := Scalar.remsi v4987 v4996
  let c0_i32_1796 : BitVec 32 := 0#32
  let v4999 : BitVec 1 := Scalar.cmpi .slt v4997 c0_i32_1796
  let c0_i32_1797 : BitVec 32 := 0#32
  let v5000 : BitVec 1 := Scalar.cmpi .slt v4996 c0_i32_1797
  let v5001 : BitVec 1 := Scalar.xori v4999 v5000
  let c0_i32_1795 : BitVec 32 := 0#32
  let v4998 : BitVec 1 := Scalar.cmpi .ne v4997 c0_i32_1795
  let v5002 : BitVec 1 := Scalar.andi v5001 v4998
  let v5003 : BitVec 32 := Scalar.addi v4997 v4996
  let v5004 : BitVec 32 := Scalar.select v5002 v5003 v4997
  let c0_i32_1799 : BitVec 32 := 0#32
  let v5006 : BitVec 1 := Scalar.cmpi .sgt v5004 c0_i32_1799
  let v5007 : BitVec 32 := Scalar.extui v5006
  let c0_i32_1800 : BitVec 32 := 0#32
  let v5008 : BitVec 1 := Scalar.cmpi .slt v5004 c0_i32_1800
  let v5009 : BitVec 32 := Scalar.extui v5008
  let v5010 : BitVec 32 := Scalar.subi v5007 v5009
  let c128_i32_1798 : BitVec 32 := 128#32
  let c0_i32_1801 : BitVec 32 := 0#32
  let v5011 : BitVec 1 := Scalar.cmpi .sgt c128_i32_1798 c0_i32_1801
  let v5012 : BitVec 32 := Scalar.extui v5011
  let c0_i32_1802 : BitVec 32 := 0#32
  let v5013 : BitVec 1 := Scalar.cmpi .slt c128_i32_1798 c0_i32_1802
  let v5014 : BitVec 32 := Scalar.extui v5013
  let v5015 : BitVec 32 := Scalar.subi v5012 v5014
  let v5016 : BitVec 1 := Scalar.cmpi .ne v5010 v5015
  let v5017 : BitVec 32 := Scalar.remsi v5004 c128_i32_1798
  let c0_i32_1803 : BitVec 32 := 0#32
  let v5018 : BitVec 1 := Scalar.cmpi .ne v5017 c0_i32_1803
  let v5019 : BitVec 1 := Scalar.andi v5016 v5018
  let v5005 : BitVec 32 := Scalar.divsi v5004 c128_i32_1798
  let c1_i32_1804 : BitVec 32 := 1#32
  let v5020 : BitVec 32 := Scalar.subi v5005 c1_i32_1804
  let v5021 : BitVec 32 := Scalar.select v5019 v5020 v5005
  let c128_i32_1805 : BitVec 32 := 128#32
  let v5022 : BitVec 32 := Scalar.muli v5021 c128_i32_1805
  let v5023 : Index := Scalar.indexCast v5022
  ![0, 0, v5023.toNat]

def k2_chk57 (v4987 : BitVec 32) : Prop :=
  (∀ a, (k2_off114 v4987) a + S1x8x128.size a ≤ S1x8x8192.size a)
theorem k2_off114_inb : ∀ (v4987 : BitVec 32) (k2_hw57 : k2_chk57 v4987), ∀ a, (k2_off114 v4987) a + S1x8x128.size a ≤ S1x8x8192.size a := fun v4987 k2_hw57 => k2_hw57

def k2_off115 (i : grid2.Coords) : Fin 1 → Nat :=
  let arg0 : BitVec 32 := BitVec.ofNat 32 (i 0).val
  let c64_i32_1819 : BitVec 32 := 64#32
  let v5073 : BitVec 32 := Scalar.muli arg0 c64_i32_1819
  let c57_i32 : BitVec 32 := 57#32
  let v5074 : BitVec 32 := Scalar.addi v5073 c57_i32
  let v5075 : Index := Scalar.indexCast v5074
  ![v5075.toNat]
def k2_off116 (v5076 : BitVec 32) : Fin 3 → Nat :=
  let c0_1838 : Index := 0#32
  let c0_1839 : Index := 0#32
  let c8192_i32_1824 : BitVec 32 := 8192#32
  let c0_i32_1825 : BitVec 32 := 0#32
  let v5084 : BitVec 1 := Scalar.cmpi .eq c8192_i32_1824 c0_i32_1825
  let c1_i32_1826 : BitVec 32 := 1#32
  let v5085 : BitVec 32 := Scalar.select v5084 c1_i32_1826 c8192_i32_1824
  let v5086 : BitVec 32 := Scalar.remsi v5076 v5085
  let c0_i32_1828 : BitVec 32 := 0#32
  let v5088 : BitVec 1 := Scalar.cmpi .slt v5086 c0_i32_1828
  let c0_i32_1829 : BitVec 32 := 0#32
  let v5089 : BitVec 1 := Scalar.cmpi .slt v5085 c0_i32_1829
  let v5090 : BitVec 1 := Scalar.xori v5088 v5089
  let c0_i32_1827 : BitVec 32 := 0#32
  let v5087 : BitVec 1 := Scalar.cmpi .ne v5086 c0_i32_1827
  let v5091 : BitVec 1 := Scalar.andi v5090 v5087
  let v5092 : BitVec 32 := Scalar.addi v5086 v5085
  let v5093 : BitVec 32 := Scalar.select v5091 v5092 v5086
  let c0_i32_1831 : BitVec 32 := 0#32
  let v5095 : BitVec 1 := Scalar.cmpi .sgt v5093 c0_i32_1831
  let v5096 : BitVec 32 := Scalar.extui v5095
  let c0_i32_1832 : BitVec 32 := 0#32
  let v5097 : BitVec 1 := Scalar.cmpi .slt v5093 c0_i32_1832
  let v5098 : BitVec 32 := Scalar.extui v5097
  let v5099 : BitVec 32 := Scalar.subi v5096 v5098
  let c128_i32_1830 : BitVec 32 := 128#32
  let c0_i32_1833 : BitVec 32 := 0#32
  let v5100 : BitVec 1 := Scalar.cmpi .sgt c128_i32_1830 c0_i32_1833
  let v5101 : BitVec 32 := Scalar.extui v5100
  let c0_i32_1834 : BitVec 32 := 0#32
  let v5102 : BitVec 1 := Scalar.cmpi .slt c128_i32_1830 c0_i32_1834
  let v5103 : BitVec 32 := Scalar.extui v5102
  let v5104 : BitVec 32 := Scalar.subi v5101 v5103
  let v5105 : BitVec 1 := Scalar.cmpi .ne v5099 v5104
  let v5106 : BitVec 32 := Scalar.remsi v5093 c128_i32_1830
  let c0_i32_1835 : BitVec 32 := 0#32
  let v5107 : BitVec 1 := Scalar.cmpi .ne v5106 c0_i32_1835
  let v5108 : BitVec 1 := Scalar.andi v5105 v5107
  let v5094 : BitVec 32 := Scalar.divsi v5093 c128_i32_1830
  let c1_i32_1836 : BitVec 32 := 1#32
  let v5109 : BitVec 32 := Scalar.subi v5094 c1_i32_1836
  let v5110 : BitVec 32 := Scalar.select v5108 v5109 v5094
  let c128_i32_1837 : BitVec 32 := 128#32
  let v5111 : BitVec 32 := Scalar.muli v5110 c128_i32_1837
  let v5112 : Index := Scalar.indexCast v5111
  ![0, 0, v5112.toNat]

def k2_chk58 (v5076 : BitVec 32) : Prop :=
  (∀ a, (k2_off116 v5076) a + S1x8x128.size a ≤ S1x8x8192.size a)
theorem k2_off116_inb : ∀ (v5076 : BitVec 32) (k2_hw58 : k2_chk58 v5076), ∀ a, (k2_off116 v5076) a + S1x8x128.size a ≤ S1x8x8192.size a := fun v5076 k2_hw58 => k2_hw58

def k2_off117 (i : grid2.Coords) : Fin 1 → Nat :=
  let arg0 : BitVec 32 := BitVec.ofNat 32 (i 0).val
  let c64_i32_1851 : BitVec 32 := 64#32
  let v5162 : BitVec 32 := Scalar.muli arg0 c64_i32_1851
  let c58_i32 : BitVec 32 := 58#32
  let v5163 : BitVec 32 := Scalar.addi v5162 c58_i32
  let v5164 : Index := Scalar.indexCast v5163
  ![v5164.toNat]
def k2_off118 (v5165 : BitVec 32) : Fin 3 → Nat :=
  let c0_1870 : Index := 0#32
  let c0_1871 : Index := 0#32
  let c8192_i32_1856 : BitVec 32 := 8192#32
  let c0_i32_1857 : BitVec 32 := 0#32
  let v5173 : BitVec 1 := Scalar.cmpi .eq c8192_i32_1856 c0_i32_1857
  let c1_i32_1858 : BitVec 32 := 1#32
  let v5174 : BitVec 32 := Scalar.select v5173 c1_i32_1858 c8192_i32_1856
  let v5175 : BitVec 32 := Scalar.remsi v5165 v5174
  let c0_i32_1860 : BitVec 32 := 0#32
  let v5177 : BitVec 1 := Scalar.cmpi .slt v5175 c0_i32_1860
  let c0_i32_1861 : BitVec 32 := 0#32
  let v5178 : BitVec 1 := Scalar.cmpi .slt v5174 c0_i32_1861
  let v5179 : BitVec 1 := Scalar.xori v5177 v5178
  let c0_i32_1859 : BitVec 32 := 0#32
  let v5176 : BitVec 1 := Scalar.cmpi .ne v5175 c0_i32_1859
  let v5180 : BitVec 1 := Scalar.andi v5179 v5176
  let v5181 : BitVec 32 := Scalar.addi v5175 v5174
  let v5182 : BitVec 32 := Scalar.select v5180 v5181 v5175
  let c0_i32_1863 : BitVec 32 := 0#32
  let v5184 : BitVec 1 := Scalar.cmpi .sgt v5182 c0_i32_1863
  let v5185 : BitVec 32 := Scalar.extui v5184
  let c0_i32_1864 : BitVec 32 := 0#32
  let v5186 : BitVec 1 := Scalar.cmpi .slt v5182 c0_i32_1864
  let v5187 : BitVec 32 := Scalar.extui v5186
  let v5188 : BitVec 32 := Scalar.subi v5185 v5187
  let c128_i32_1862 : BitVec 32 := 128#32
  let c0_i32_1865 : BitVec 32 := 0#32
  let v5189 : BitVec 1 := Scalar.cmpi .sgt c128_i32_1862 c0_i32_1865
  let v5190 : BitVec 32 := Scalar.extui v5189
  let c0_i32_1866 : BitVec 32 := 0#32
  let v5191 : BitVec 1 := Scalar.cmpi .slt c128_i32_1862 c0_i32_1866
  let v5192 : BitVec 32 := Scalar.extui v5191
  let v5193 : BitVec 32 := Scalar.subi v5190 v5192
  let v5194 : BitVec 1 := Scalar.cmpi .ne v5188 v5193
  let v5195 : BitVec 32 := Scalar.remsi v5182 c128_i32_1862
  let c0_i32_1867 : BitVec 32 := 0#32
  let v5196 : BitVec 1 := Scalar.cmpi .ne v5195 c0_i32_1867
  let v5197 : BitVec 1 := Scalar.andi v5194 v5196
  let v5183 : BitVec 32 := Scalar.divsi v5182 c128_i32_1862
  let c1_i32_1868 : BitVec 32 := 1#32
  let v5198 : BitVec 32 := Scalar.subi v5183 c1_i32_1868
  let v5199 : BitVec 32 := Scalar.select v5197 v5198 v5183
  let c128_i32_1869 : BitVec 32 := 128#32
  let v5200 : BitVec 32 := Scalar.muli v5199 c128_i32_1869
  let v5201 : Index := Scalar.indexCast v5200
  ![0, 0, v5201.toNat]

def k2_chk59 (v5165 : BitVec 32) : Prop :=
  (∀ a, (k2_off118 v5165) a + S1x8x128.size a ≤ S1x8x8192.size a)
theorem k2_off118_inb : ∀ (v5165 : BitVec 32) (k2_hw59 : k2_chk59 v5165), ∀ a, (k2_off118 v5165) a + S1x8x128.size a ≤ S1x8x8192.size a := fun v5165 k2_hw59 => k2_hw59

def k2_off119 (i : grid2.Coords) : Fin 1 → Nat :=
  let arg0 : BitVec 32 := BitVec.ofNat 32 (i 0).val
  let c64_i32_1883 : BitVec 32 := 64#32
  let v5251 : BitVec 32 := Scalar.muli arg0 c64_i32_1883
  let c59_i32 : BitVec 32 := 59#32
  let v5252 : BitVec 32 := Scalar.addi v5251 c59_i32
  let v5253 : Index := Scalar.indexCast v5252
  ![v5253.toNat]
def k2_off120 (v5254 : BitVec 32) : Fin 3 → Nat :=
  let c0_1902 : Index := 0#32
  let c0_1903 : Index := 0#32
  let c8192_i32_1888 : BitVec 32 := 8192#32
  let c0_i32_1889 : BitVec 32 := 0#32
  let v5262 : BitVec 1 := Scalar.cmpi .eq c8192_i32_1888 c0_i32_1889
  let c1_i32_1890 : BitVec 32 := 1#32
  let v5263 : BitVec 32 := Scalar.select v5262 c1_i32_1890 c8192_i32_1888
  let v5264 : BitVec 32 := Scalar.remsi v5254 v5263
  let c0_i32_1892 : BitVec 32 := 0#32
  let v5266 : BitVec 1 := Scalar.cmpi .slt v5264 c0_i32_1892
  let c0_i32_1893 : BitVec 32 := 0#32
  let v5267 : BitVec 1 := Scalar.cmpi .slt v5263 c0_i32_1893
  let v5268 : BitVec 1 := Scalar.xori v5266 v5267
  let c0_i32_1891 : BitVec 32 := 0#32
  let v5265 : BitVec 1 := Scalar.cmpi .ne v5264 c0_i32_1891
  let v5269 : BitVec 1 := Scalar.andi v5268 v5265
  let v5270 : BitVec 32 := Scalar.addi v5264 v5263
  let v5271 : BitVec 32 := Scalar.select v5269 v5270 v5264
  let c0_i32_1895 : BitVec 32 := 0#32
  let v5273 : BitVec 1 := Scalar.cmpi .sgt v5271 c0_i32_1895
  let v5274 : BitVec 32 := Scalar.extui v5273
  let c0_i32_1896 : BitVec 32 := 0#32
  let v5275 : BitVec 1 := Scalar.cmpi .slt v5271 c0_i32_1896
  let v5276 : BitVec 32 := Scalar.extui v5275
  let v5277 : BitVec 32 := Scalar.subi v5274 v5276
  let c128_i32_1894 : BitVec 32 := 128#32
  let c0_i32_1897 : BitVec 32 := 0#32
  let v5278 : BitVec 1 := Scalar.cmpi .sgt c128_i32_1894 c0_i32_1897
  let v5279 : BitVec 32 := Scalar.extui v5278
  let c0_i32_1898 : BitVec 32 := 0#32
  let v5280 : BitVec 1 := Scalar.cmpi .slt c128_i32_1894 c0_i32_1898
  let v5281 : BitVec 32 := Scalar.extui v5280
  let v5282 : BitVec 32 := Scalar.subi v5279 v5281
  let v5283 : BitVec 1 := Scalar.cmpi .ne v5277 v5282
  let v5284 : BitVec 32 := Scalar.remsi v5271 c128_i32_1894
  let c0_i32_1899 : BitVec 32 := 0#32
  let v5285 : BitVec 1 := Scalar.cmpi .ne v5284 c0_i32_1899
  let v5286 : BitVec 1 := Scalar.andi v5283 v5285
  let v5272 : BitVec 32 := Scalar.divsi v5271 c128_i32_1894
  let c1_i32_1900 : BitVec 32 := 1#32
  let v5287 : BitVec 32 := Scalar.subi v5272 c1_i32_1900
  let v5288 : BitVec 32 := Scalar.select v5286 v5287 v5272
  let c128_i32_1901 : BitVec 32 := 128#32
  let v5289 : BitVec 32 := Scalar.muli v5288 c128_i32_1901
  let v5290 : Index := Scalar.indexCast v5289
  ![0, 0, v5290.toNat]

def k2_chk60 (v5254 : BitVec 32) : Prop :=
  (∀ a, (k2_off120 v5254) a + S1x8x128.size a ≤ S1x8x8192.size a)
theorem k2_off120_inb : ∀ (v5254 : BitVec 32) (k2_hw60 : k2_chk60 v5254), ∀ a, (k2_off120 v5254) a + S1x8x128.size a ≤ S1x8x8192.size a := fun v5254 k2_hw60 => k2_hw60

def k2_off121 (i : grid2.Coords) : Fin 1 → Nat :=
  let arg0 : BitVec 32 := BitVec.ofNat 32 (i 0).val
  let c64_i32_1915 : BitVec 32 := 64#32
  let v5340 : BitVec 32 := Scalar.muli arg0 c64_i32_1915
  let c60_i32 : BitVec 32 := 60#32
  let v5341 : BitVec 32 := Scalar.addi v5340 c60_i32
  let v5342 : Index := Scalar.indexCast v5341
  ![v5342.toNat]
def k2_off122 (v5343 : BitVec 32) : Fin 3 → Nat :=
  let c0_1934 : Index := 0#32
  let c0_1935 : Index := 0#32
  let c8192_i32_1920 : BitVec 32 := 8192#32
  let c0_i32_1921 : BitVec 32 := 0#32
  let v5351 : BitVec 1 := Scalar.cmpi .eq c8192_i32_1920 c0_i32_1921
  let c1_i32_1922 : BitVec 32 := 1#32
  let v5352 : BitVec 32 := Scalar.select v5351 c1_i32_1922 c8192_i32_1920
  let v5353 : BitVec 32 := Scalar.remsi v5343 v5352
  let c0_i32_1924 : BitVec 32 := 0#32
  let v5355 : BitVec 1 := Scalar.cmpi .slt v5353 c0_i32_1924
  let c0_i32_1925 : BitVec 32 := 0#32
  let v5356 : BitVec 1 := Scalar.cmpi .slt v5352 c0_i32_1925
  let v5357 : BitVec 1 := Scalar.xori v5355 v5356
  let c0_i32_1923 : BitVec 32 := 0#32
  let v5354 : BitVec 1 := Scalar.cmpi .ne v5353 c0_i32_1923
  let v5358 : BitVec 1 := Scalar.andi v5357 v5354
  let v5359 : BitVec 32 := Scalar.addi v5353 v5352
  let v5360 : BitVec 32 := Scalar.select v5358 v5359 v5353
  let c0_i32_1927 : BitVec 32 := 0#32
  let v5362 : BitVec 1 := Scalar.cmpi .sgt v5360 c0_i32_1927
  let v5363 : BitVec 32 := Scalar.extui v5362
  let c0_i32_1928 : BitVec 32 := 0#32
  let v5364 : BitVec 1 := Scalar.cmpi .slt v5360 c0_i32_1928
  let v5365 : BitVec 32 := Scalar.extui v5364
  let v5366 : BitVec 32 := Scalar.subi v5363 v5365
  let c128_i32_1926 : BitVec 32 := 128#32
  let c0_i32_1929 : BitVec 32 := 0#32
  let v5367 : BitVec 1 := Scalar.cmpi .sgt c128_i32_1926 c0_i32_1929
  let v5368 : BitVec 32 := Scalar.extui v5367
  let c0_i32_1930 : BitVec 32 := 0#32
  let v5369 : BitVec 1 := Scalar.cmpi .slt c128_i32_1926 c0_i32_1930
  let v5370 : BitVec 32 := Scalar.extui v5369
  let v5371 : BitVec 32 := Scalar.subi v5368 v5370
  let v5372 : BitVec 1 := Scalar.cmpi .ne v5366 v5371
  let v5373 : BitVec 32 := Scalar.remsi v5360 c128_i32_1926
  let c0_i32_1931 : BitVec 32 := 0#32
  let v5374 : BitVec 1 := Scalar.cmpi .ne v5373 c0_i32_1931
  let v5375 : BitVec 1 := Scalar.andi v5372 v5374
  let v5361 : BitVec 32 := Scalar.divsi v5360 c128_i32_1926
  let c1_i32_1932 : BitVec 32 := 1#32
  let v5376 : BitVec 32 := Scalar.subi v5361 c1_i32_1932
  let v5377 : BitVec 32 := Scalar.select v5375 v5376 v5361
  let c128_i32_1933 : BitVec 32 := 128#32
  let v5378 : BitVec 32 := Scalar.muli v5377 c128_i32_1933
  let v5379 : Index := Scalar.indexCast v5378
  ![0, 0, v5379.toNat]

def k2_chk61 (v5343 : BitVec 32) : Prop :=
  (∀ a, (k2_off122 v5343) a + S1x8x128.size a ≤ S1x8x8192.size a)
theorem k2_off122_inb : ∀ (v5343 : BitVec 32) (k2_hw61 : k2_chk61 v5343), ∀ a, (k2_off122 v5343) a + S1x8x128.size a ≤ S1x8x8192.size a := fun v5343 k2_hw61 => k2_hw61

def k2_off123 (i : grid2.Coords) : Fin 1 → Nat :=
  let arg0 : BitVec 32 := BitVec.ofNat 32 (i 0).val
  let c64_i32_1947 : BitVec 32 := 64#32
  let v5429 : BitVec 32 := Scalar.muli arg0 c64_i32_1947
  let c61_i32 : BitVec 32 := 61#32
  let v5430 : BitVec 32 := Scalar.addi v5429 c61_i32
  let v5431 : Index := Scalar.indexCast v5430
  ![v5431.toNat]
def k2_off124 (v5432 : BitVec 32) : Fin 3 → Nat :=
  let c0_1966 : Index := 0#32
  let c0_1967 : Index := 0#32
  let c8192_i32_1952 : BitVec 32 := 8192#32
  let c0_i32_1953 : BitVec 32 := 0#32
  let v5440 : BitVec 1 := Scalar.cmpi .eq c8192_i32_1952 c0_i32_1953
  let c1_i32_1954 : BitVec 32 := 1#32
  let v5441 : BitVec 32 := Scalar.select v5440 c1_i32_1954 c8192_i32_1952
  let v5442 : BitVec 32 := Scalar.remsi v5432 v5441
  let c0_i32_1956 : BitVec 32 := 0#32
  let v5444 : BitVec 1 := Scalar.cmpi .slt v5442 c0_i32_1956
  let c0_i32_1957 : BitVec 32 := 0#32
  let v5445 : BitVec 1 := Scalar.cmpi .slt v5441 c0_i32_1957
  let v5446 : BitVec 1 := Scalar.xori v5444 v5445
  let c0_i32_1955 : BitVec 32 := 0#32
  let v5443 : BitVec 1 := Scalar.cmpi .ne v5442 c0_i32_1955
  let v5447 : BitVec 1 := Scalar.andi v5446 v5443
  let v5448 : BitVec 32 := Scalar.addi v5442 v5441
  let v5449 : BitVec 32 := Scalar.select v5447 v5448 v5442
  let c0_i32_1959 : BitVec 32 := 0#32
  let v5451 : BitVec 1 := Scalar.cmpi .sgt v5449 c0_i32_1959
  let v5452 : BitVec 32 := Scalar.extui v5451
  let c0_i32_1960 : BitVec 32 := 0#32
  let v5453 : BitVec 1 := Scalar.cmpi .slt v5449 c0_i32_1960
  let v5454 : BitVec 32 := Scalar.extui v5453
  let v5455 : BitVec 32 := Scalar.subi v5452 v5454
  let c128_i32_1958 : BitVec 32 := 128#32
  let c0_i32_1961 : BitVec 32 := 0#32
  let v5456 : BitVec 1 := Scalar.cmpi .sgt c128_i32_1958 c0_i32_1961
  let v5457 : BitVec 32 := Scalar.extui v5456
  let c0_i32_1962 : BitVec 32 := 0#32
  let v5458 : BitVec 1 := Scalar.cmpi .slt c128_i32_1958 c0_i32_1962
  let v5459 : BitVec 32 := Scalar.extui v5458
  let v5460 : BitVec 32 := Scalar.subi v5457 v5459
  let v5461 : BitVec 1 := Scalar.cmpi .ne v5455 v5460
  let v5462 : BitVec 32 := Scalar.remsi v5449 c128_i32_1958
  let c0_i32_1963 : BitVec 32 := 0#32
  let v5463 : BitVec 1 := Scalar.cmpi .ne v5462 c0_i32_1963
  let v5464 : BitVec 1 := Scalar.andi v5461 v5463
  let v5450 : BitVec 32 := Scalar.divsi v5449 c128_i32_1958
  let c1_i32_1964 : BitVec 32 := 1#32
  let v5465 : BitVec 32 := Scalar.subi v5450 c1_i32_1964
  let v5466 : BitVec 32 := Scalar.select v5464 v5465 v5450
  let c128_i32_1965 : BitVec 32 := 128#32
  let v5467 : BitVec 32 := Scalar.muli v5466 c128_i32_1965
  let v5468 : Index := Scalar.indexCast v5467
  ![0, 0, v5468.toNat]

def k2_chk62 (v5432 : BitVec 32) : Prop :=
  (∀ a, (k2_off124 v5432) a + S1x8x128.size a ≤ S1x8x8192.size a)
theorem k2_off124_inb : ∀ (v5432 : BitVec 32) (k2_hw62 : k2_chk62 v5432), ∀ a, (k2_off124 v5432) a + S1x8x128.size a ≤ S1x8x8192.size a := fun v5432 k2_hw62 => k2_hw62

def k2_off125 (i : grid2.Coords) : Fin 1 → Nat :=
  let arg0 : BitVec 32 := BitVec.ofNat 32 (i 0).val
  let c64_i32_1979 : BitVec 32 := 64#32
  let v5518 : BitVec 32 := Scalar.muli arg0 c64_i32_1979
  let c62_i32 : BitVec 32 := 62#32
  let v5519 : BitVec 32 := Scalar.addi v5518 c62_i32
  let v5520 : Index := Scalar.indexCast v5519
  ![v5520.toNat]
def k2_off126 (v5521 : BitVec 32) : Fin 3 → Nat :=
  let c0_1998 : Index := 0#32
  let c0_1999 : Index := 0#32
  let c8192_i32_1984 : BitVec 32 := 8192#32
  let c0_i32_1985 : BitVec 32 := 0#32
  let v5529 : BitVec 1 := Scalar.cmpi .eq c8192_i32_1984 c0_i32_1985
  let c1_i32_1986 : BitVec 32 := 1#32
  let v5530 : BitVec 32 := Scalar.select v5529 c1_i32_1986 c8192_i32_1984
  let v5531 : BitVec 32 := Scalar.remsi v5521 v5530
  let c0_i32_1988 : BitVec 32 := 0#32
  let v5533 : BitVec 1 := Scalar.cmpi .slt v5531 c0_i32_1988
  let c0_i32_1989 : BitVec 32 := 0#32
  let v5534 : BitVec 1 := Scalar.cmpi .slt v5530 c0_i32_1989
  let v5535 : BitVec 1 := Scalar.xori v5533 v5534
  let c0_i32_1987 : BitVec 32 := 0#32
  let v5532 : BitVec 1 := Scalar.cmpi .ne v5531 c0_i32_1987
  let v5536 : BitVec 1 := Scalar.andi v5535 v5532
  let v5537 : BitVec 32 := Scalar.addi v5531 v5530
  let v5538 : BitVec 32 := Scalar.select v5536 v5537 v5531
  let c0_i32_1991 : BitVec 32 := 0#32
  let v5540 : BitVec 1 := Scalar.cmpi .sgt v5538 c0_i32_1991
  let v5541 : BitVec 32 := Scalar.extui v5540
  let c0_i32_1992 : BitVec 32 := 0#32
  let v5542 : BitVec 1 := Scalar.cmpi .slt v5538 c0_i32_1992
  let v5543 : BitVec 32 := Scalar.extui v5542
  let v5544 : BitVec 32 := Scalar.subi v5541 v5543
  let c128_i32_1990 : BitVec 32 := 128#32
  let c0_i32_1993 : BitVec 32 := 0#32
  let v5545 : BitVec 1 := Scalar.cmpi .sgt c128_i32_1990 c0_i32_1993
  let v5546 : BitVec 32 := Scalar.extui v5545
  let c0_i32_1994 : BitVec 32 := 0#32
  let v5547 : BitVec 1 := Scalar.cmpi .slt c128_i32_1990 c0_i32_1994
  let v5548 : BitVec 32 := Scalar.extui v5547
  let v5549 : BitVec 32 := Scalar.subi v5546 v5548
  let v5550 : BitVec 1 := Scalar.cmpi .ne v5544 v5549
  let v5551 : BitVec 32 := Scalar.remsi v5538 c128_i32_1990
  let c0_i32_1995 : BitVec 32 := 0#32
  let v5552 : BitVec 1 := Scalar.cmpi .ne v5551 c0_i32_1995
  let v5553 : BitVec 1 := Scalar.andi v5550 v5552
  let v5539 : BitVec 32 := Scalar.divsi v5538 c128_i32_1990
  let c1_i32_1996 : BitVec 32 := 1#32
  let v5554 : BitVec 32 := Scalar.subi v5539 c1_i32_1996
  let v5555 : BitVec 32 := Scalar.select v5553 v5554 v5539
  let c128_i32_1997 : BitVec 32 := 128#32
  let v5556 : BitVec 32 := Scalar.muli v5555 c128_i32_1997
  let v5557 : Index := Scalar.indexCast v5556
  ![0, 0, v5557.toNat]

def k2_chk63 (v5521 : BitVec 32) : Prop :=
  (∀ a, (k2_off126 v5521) a + S1x8x128.size a ≤ S1x8x8192.size a)
theorem k2_off126_inb : ∀ (v5521 : BitVec 32) (k2_hw63 : k2_chk63 v5521), ∀ a, (k2_off126 v5521) a + S1x8x128.size a ≤ S1x8x8192.size a := fun v5521 k2_hw63 => k2_hw63

def k2_off127 (i : grid2.Coords) : Fin 1 → Nat :=
  let arg0 : BitVec 32 := BitVec.ofNat 32 (i 0).val
  let c64_i32_2011 : BitVec 32 := 64#32
  let v5607 : BitVec 32 := Scalar.muli arg0 c64_i32_2011
  let c63_i32 : BitVec 32 := 63#32
  let v5608 : BitVec 32 := Scalar.addi v5607 c63_i32
  let v5609 : Index := Scalar.indexCast v5608
  ![v5609.toNat]
def k2_off128 (v5610 : BitVec 32) : Fin 3 → Nat :=
  let c0_2030 : Index := 0#32
  let c0_2031 : Index := 0#32
  let c8192_i32_2016 : BitVec 32 := 8192#32
  let c0_i32_2017 : BitVec 32 := 0#32
  let v5618 : BitVec 1 := Scalar.cmpi .eq c8192_i32_2016 c0_i32_2017
  let c1_i32_2018 : BitVec 32 := 1#32
  let v5619 : BitVec 32 := Scalar.select v5618 c1_i32_2018 c8192_i32_2016
  let v5620 : BitVec 32 := Scalar.remsi v5610 v5619
  let c0_i32_2020 : BitVec 32 := 0#32
  let v5622 : BitVec 1 := Scalar.cmpi .slt v5620 c0_i32_2020
  let c0_i32_2021 : BitVec 32 := 0#32
  let v5623 : BitVec 1 := Scalar.cmpi .slt v5619 c0_i32_2021
  let v5624 : BitVec 1 := Scalar.xori v5622 v5623
  let c0_i32_2019 : BitVec 32 := 0#32
  let v5621 : BitVec 1 := Scalar.cmpi .ne v5620 c0_i32_2019
  let v5625 : BitVec 1 := Scalar.andi v5624 v5621
  let v5626 : BitVec 32 := Scalar.addi v5620 v5619
  let v5627 : BitVec 32 := Scalar.select v5625 v5626 v5620
  let c0_i32_2023 : BitVec 32 := 0#32
  let v5629 : BitVec 1 := Scalar.cmpi .sgt v5627 c0_i32_2023
  let v5630 : BitVec 32 := Scalar.extui v5629
  let c0_i32_2024 : BitVec 32 := 0#32
  let v5631 : BitVec 1 := Scalar.cmpi .slt v5627 c0_i32_2024
  let v5632 : BitVec 32 := Scalar.extui v5631
  let v5633 : BitVec 32 := Scalar.subi v5630 v5632
  let c128_i32_2022 : BitVec 32 := 128#32
  let c0_i32_2025 : BitVec 32 := 0#32
  let v5634 : BitVec 1 := Scalar.cmpi .sgt c128_i32_2022 c0_i32_2025
  let v5635 : BitVec 32 := Scalar.extui v5634
  let c0_i32_2026 : BitVec 32 := 0#32
  let v5636 : BitVec 1 := Scalar.cmpi .slt c128_i32_2022 c0_i32_2026
  let v5637 : BitVec 32 := Scalar.extui v5636
  let v5638 : BitVec 32 := Scalar.subi v5635 v5637
  let v5639 : BitVec 1 := Scalar.cmpi .ne v5633 v5638
  let v5640 : BitVec 32 := Scalar.remsi v5627 c128_i32_2022
  let c0_i32_2027 : BitVec 32 := 0#32
  let v5641 : BitVec 1 := Scalar.cmpi .ne v5640 c0_i32_2027
  let v5642 : BitVec 1 := Scalar.andi v5639 v5641
  let v5628 : BitVec 32 := Scalar.divsi v5627 c128_i32_2022
  let c1_i32_2028 : BitVec 32 := 1#32
  let v5643 : BitVec 32 := Scalar.subi v5628 c1_i32_2028
  let v5644 : BitVec 32 := Scalar.select v5642 v5643 v5628
  let c128_i32_2029 : BitVec 32 := 128#32
  let v5645 : BitVec 32 := Scalar.muli v5644 c128_i32_2029
  let v5646 : Index := Scalar.indexCast v5645
  ![0, 0, v5646.toNat]

def k2_chk64 (v5610 : BitVec 32) : Prop :=
  (∀ a, (k2_off128 v5610) a + S1x8x128.size a ≤ S1x8x8192.size a)
theorem k2_off128_inb : ∀ (v5610 : BitVec 32) (k2_hw64 : k2_chk64 v5610), ∀ a, (k2_off128 v5610) a + S1x8x128.size a ≤ S1x8x8192.size a := fun v5610 k2_hw64 => k2_hw64

def cc2_transform_0 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  let v3 : BitVec 32 := pf.at 0 (Rect.unit (s := S4096) ![v2.toNat] S1.size (k2_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc2_transform_1 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.addi v0 c1_i32
  let v2 : Index := Scalar.indexCast v1
  let v3 : BitVec 32 := pf.at 0 (Rect.unit (s := S4096) ![v2.toNat] S1.size (k2_off1_inb i 1)) numel1_S1
  let c0_i32 : BitVec 32 := 0#32
  let c0_i32_0 : BitVec 32 := 0#32
  let c0_i32_1 : BitVec 32 := 0#32
  ![v3.toNat, c0_i32.toNat, c0_i32_0.toNat]

def cc2_transform_2 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c2_i32 : BitVec 32 := 2#32
  let v1 : BitVec 32 := Scalar.addi v0 c2_i32
  let v2 : Index := Scalar.indexCast v1
  let v3 : BitVec 32 := pf.at 0 (Rect.unit (s := S4096) ![v2.toNat] S1.size (k2_off1_inb i 2)) numel1_S1
  let c0_i32 : BitVec 32 := 0#32
  let c0_i32_0 : BitVec 32 := 0#32
  let c0_i32_1 : BitVec 32 := 0#32
  ![v3.toNat, c0_i32.toNat, c0_i32_0.toNat]

def cc2_transform_3 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c3_i32 : BitVec 32 := 3#32
  let v1 : BitVec 32 := Scalar.addi v0 c3_i32
  let v2 : Index := Scalar.indexCast v1
  let v3 : BitVec 32 := pf.at 0 (Rect.unit (s := S4096) ![v2.toNat] S1.size (k2_off1_inb i 3)) numel1_S1
  let c0_i32 : BitVec 32 := 0#32
  let c0_i32_0 : BitVec 32 := 0#32
  let c0_i32_1 : BitVec 32 := 0#32
  ![v3.toNat, c0_i32.toNat, c0_i32_0.toNat]

def cc2_transform_4 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c4_i32 : BitVec 32 := 4#32
  let v1 : BitVec 32 := Scalar.addi v0 c4_i32
  let v2 : Index := Scalar.indexCast v1
  let v3 : BitVec 32 := pf.at 0 (Rect.unit (s := S4096) ![v2.toNat] S1.size (k2_off1_inb i 4)) numel1_S1
  let c0_i32 : BitVec 32 := 0#32
  let c0_i32_0 : BitVec 32 := 0#32
  let c0_i32_1 : BitVec 32 := 0#32
  ![v3.toNat, c0_i32.toNat, c0_i32_0.toNat]

def cc2_transform_5 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c5_i32 : BitVec 32 := 5#32
  let v1 : BitVec 32 := Scalar.addi v0 c5_i32
  let v2 : Index := Scalar.indexCast v1
  let v3 : BitVec 32 := pf.at 0 (Rect.unit (s := S4096) ![v2.toNat] S1.size (k2_off1_inb i 5)) numel1_S1
  let c0_i32 : BitVec 32 := 0#32
  let c0_i32_0 : BitVec 32 := 0#32
  let c0_i32_1 : BitVec 32 := 0#32
  ![v3.toNat, c0_i32.toNat, c0_i32_0.toNat]

def cc2_transform_6 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c6_i32 : BitVec 32 := 6#32
  let v1 : BitVec 32 := Scalar.addi v0 c6_i32
  let v2 : Index := Scalar.indexCast v1
  let v3 : BitVec 32 := pf.at 0 (Rect.unit (s := S4096) ![v2.toNat] S1.size (k2_off1_inb i 6)) numel1_S1
  let c0_i32 : BitVec 32 := 0#32
  let c0_i32_0 : BitVec 32 := 0#32
  let c0_i32_1 : BitVec 32 := 0#32
  ![v3.toNat, c0_i32.toNat, c0_i32_0.toNat]

def cc2_transform_7 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c7_i32 : BitVec 32 := 7#32
  let v1 : BitVec 32 := Scalar.addi v0 c7_i32
  let v2 : Index := Scalar.indexCast v1
  let v3 : BitVec 32 := pf.at 0 (Rect.unit (s := S4096) ![v2.toNat] S1.size (k2_off1_inb i 7)) numel1_S1
  let c0_i32 : BitVec 32 := 0#32
  let c0_i32_0 : BitVec 32 := 0#32
  let c0_i32_1 : BitVec 32 := 0#32
  ![v3.toNat, c0_i32.toNat, c0_i32_0.toNat]

def cc2_transform_8 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c8_i32 : BitVec 32 := 8#32
  let v1 : BitVec 32 := Scalar.addi v0 c8_i32
  let v2 : Index := Scalar.indexCast v1
  let v3 : BitVec 32 := pf.at 0 (Rect.unit (s := S4096) ![v2.toNat] S1.size (k2_off1_inb i 8)) numel1_S1
  let c0_i32 : BitVec 32 := 0#32
  let c0_i32_0 : BitVec 32 := 0#32
  let c0_i32_1 : BitVec 32 := 0#32
  ![v3.toNat, c0_i32.toNat, c0_i32_0.toNat]

def cc2_transform_9 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c9_i32 : BitVec 32 := 9#32
  let v1 : BitVec 32 := Scalar.addi v0 c9_i32
  let v2 : Index := Scalar.indexCast v1
  let v3 : BitVec 32 := pf.at 0 (Rect.unit (s := S4096) ![v2.toNat] S1.size (k2_off1_inb i 9)) numel1_S1
  let c0_i32 : BitVec 32 := 0#32
  let c0_i32_0 : BitVec 32 := 0#32
  let c0_i32_1 : BitVec 32 := 0#32
  ![v3.toNat, c0_i32.toNat, c0_i32_0.toNat]

def cc2_transform_10 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c10_i32 : BitVec 32 := 10#32
  let v1 : BitVec 32 := Scalar.addi v0 c10_i32
  let v2 : Index := Scalar.indexCast v1
  let v3 : BitVec 32 := pf.at 0 (Rect.unit (s := S4096) ![v2.toNat] S1.size (k2_off1_inb i 10)) numel1_S1
  let c0_i32 : BitVec 32 := 0#32
  let c0_i32_0 : BitVec 32 := 0#32
  let c0_i32_1 : BitVec 32 := 0#32
  ![v3.toNat, c0_i32.toNat, c0_i32_0.toNat]

def cc2_transform_11 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c11_i32 : BitVec 32 := 11#32
  let v1 : BitVec 32 := Scalar.addi v0 c11_i32
  let v2 : Index := Scalar.indexCast v1
  let v3 : BitVec 32 := pf.at 0 (Rect.unit (s := S4096) ![v2.toNat] S1.size (k2_off1_inb i 11)) numel1_S1
  let c0_i32 : BitVec 32 := 0#32
  let c0_i32_0 : BitVec 32 := 0#32
  let c0_i32_1 : BitVec 32 := 0#32
  ![v3.toNat, c0_i32.toNat, c0_i32_0.toNat]

def cc2_transform_12 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c12_i32 : BitVec 32 := 12#32
  let v1 : BitVec 32 := Scalar.addi v0 c12_i32
  let v2 : Index := Scalar.indexCast v1
  let v3 : BitVec 32 := pf.at 0 (Rect.unit (s := S4096) ![v2.toNat] S1.size (k2_off1_inb i 12)) numel1_S1
  let c0_i32 : BitVec 32 := 0#32
  let c0_i32_0 : BitVec 32 := 0#32
  let c0_i32_1 : BitVec 32 := 0#32
  ![v3.toNat, c0_i32.toNat, c0_i32_0.toNat]

def cc2_transform_13 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c13_i32 : BitVec 32 := 13#32
  let v1 : BitVec 32 := Scalar.addi v0 c13_i32
  let v2 : Index := Scalar.indexCast v1
  let v3 : BitVec 32 := pf.at 0 (Rect.unit (s := S4096) ![v2.toNat] S1.size (k2_off1_inb i 13)) numel1_S1
  let c0_i32 : BitVec 32 := 0#32
  let c0_i32_0 : BitVec 32 := 0#32
  let c0_i32_1 : BitVec 32 := 0#32
  ![v3.toNat, c0_i32.toNat, c0_i32_0.toNat]

def cc2_transform_14 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c14_i32 : BitVec 32 := 14#32
  let v1 : BitVec 32 := Scalar.addi v0 c14_i32
  let v2 : Index := Scalar.indexCast v1
  let v3 : BitVec 32 := pf.at 0 (Rect.unit (s := S4096) ![v2.toNat] S1.size (k2_off1_inb i 14)) numel1_S1
  let c0_i32 : BitVec 32 := 0#32
  let c0_i32_0 : BitVec 32 := 0#32
  let c0_i32_1 : BitVec 32 := 0#32
  ![v3.toNat, c0_i32.toNat, c0_i32_0.toNat]

def cc2_transform_15 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c15_i32 : BitVec 32 := 15#32
  let v1 : BitVec 32 := Scalar.addi v0 c15_i32
  let v2 : Index := Scalar.indexCast v1
  let v3 : BitVec 32 := pf.at 0 (Rect.unit (s := S4096) ![v2.toNat] S1.size (k2_off1_inb i 15)) numel1_S1
  let c0_i32 : BitVec 32 := 0#32
  let c0_i32_0 : BitVec 32 := 0#32
  let c0_i32_1 : BitVec 32 := 0#32
  ![v3.toNat, c0_i32.toNat, c0_i32_0.toNat]

def cc2_transform_16 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c16_i32 : BitVec 32 := 16#32
  let v1 : BitVec 32 := Scalar.addi v0 c16_i32
  let v2 : Index := Scalar.indexCast v1
  let v3 : BitVec 32 := pf.at 0 (Rect.unit (s := S4096) ![v2.toNat] S1.size (k2_off1_inb i 16)) numel1_S1
  let c0_i32 : BitVec 32 := 0#32
  let c0_i32_0 : BitVec 32 := 0#32
  let c0_i32_1 : BitVec 32 := 0#32
  ![v3.toNat, c0_i32.toNat, c0_i32_0.toNat]

def cc2_transform_17 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c17_i32 : BitVec 32 := 17#32
  let v1 : BitVec 32 := Scalar.addi v0 c17_i32
  let v2 : Index := Scalar.indexCast v1
  let v3 : BitVec 32 := pf.at 0 (Rect.unit (s := S4096) ![v2.toNat] S1.size (k2_off1_inb i 17)) numel1_S1
  let c0_i32 : BitVec 32 := 0#32
  let c0_i32_0 : BitVec 32 := 0#32
  let c0_i32_1 : BitVec 32 := 0#32
  ![v3.toNat, c0_i32.toNat, c0_i32_0.toNat]

def cc2_transform_18 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c18_i32 : BitVec 32 := 18#32
  let v1 : BitVec 32 := Scalar.addi v0 c18_i32
  let v2 : Index := Scalar.indexCast v1
  let v3 : BitVec 32 := pf.at 0 (Rect.unit (s := S4096) ![v2.toNat] S1.size (k2_off1_inb i 18)) numel1_S1
  let c0_i32 : BitVec 32 := 0#32
  let c0_i32_0 : BitVec 32 := 0#32
  let c0_i32_1 : BitVec 32 := 0#32
  ![v3.toNat, c0_i32.toNat, c0_i32_0.toNat]

def cc2_transform_19 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c19_i32 : BitVec 32 := 19#32
  let v1 : BitVec 32 := Scalar.addi v0 c19_i32
  let v2 : Index := Scalar.indexCast v1
  let v3 : BitVec 32 := pf.at 0 (Rect.unit (s := S4096) ![v2.toNat] S1.size (k2_off1_inb i 19)) numel1_S1
  let c0_i32 : BitVec 32 := 0#32
  let c0_i32_0 : BitVec 32 := 0#32
  let c0_i32_1 : BitVec 32 := 0#32
  ![v3.toNat, c0_i32.toNat, c0_i32_0.toNat]

def cc2_transform_20 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c20_i32 : BitVec 32 := 20#32
  let v1 : BitVec 32 := Scalar.addi v0 c20_i32
  let v2 : Index := Scalar.indexCast v1
  let v3 : BitVec 32 := pf.at 0 (Rect.unit (s := S4096) ![v2.toNat] S1.size (k2_off1_inb i 20)) numel1_S1
  let c0_i32 : BitVec 32 := 0#32
  let c0_i32_0 : BitVec 32 := 0#32
  let c0_i32_1 : BitVec 32 := 0#32
  ![v3.toNat, c0_i32.toNat, c0_i32_0.toNat]

def cc2_transform_21 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c21_i32 : BitVec 32 := 21#32
  let v1 : BitVec 32 := Scalar.addi v0 c21_i32
  let v2 : Index := Scalar.indexCast v1
  let v3 : BitVec 32 := pf.at 0 (Rect.unit (s := S4096) ![v2.toNat] S1.size (k2_off1_inb i 21)) numel1_S1
  let c0_i32 : BitVec 32 := 0#32
  let c0_i32_0 : BitVec 32 := 0#32
  let c0_i32_1 : BitVec 32 := 0#32
  ![v3.toNat, c0_i32.toNat, c0_i32_0.toNat]

def cc2_transform_22 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c22_i32 : BitVec 32 := 22#32
  let v1 : BitVec 32 := Scalar.addi v0 c22_i32
  let v2 : Index := Scalar.indexCast v1
  let v3 : BitVec 32 := pf.at 0 (Rect.unit (s := S4096) ![v2.toNat] S1.size (k2_off1_inb i 22)) numel1_S1
  let c0_i32 : BitVec 32 := 0#32
  let c0_i32_0 : BitVec 32 := 0#32
  let c0_i32_1 : BitVec 32 := 0#32
  ![v3.toNat, c0_i32.toNat, c0_i32_0.toNat]

def cc2_transform_23 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c23_i32 : BitVec 32 := 23#32
  let v1 : BitVec 32 := Scalar.addi v0 c23_i32
  let v2 : Index := Scalar.indexCast v1
  let v3 : BitVec 32 := pf.at 0 (Rect.unit (s := S4096) ![v2.toNat] S1.size (k2_off1_inb i 23)) numel1_S1
  let c0_i32 : BitVec 32 := 0#32
  let c0_i32_0 : BitVec 32 := 0#32
  let c0_i32_1 : BitVec 32 := 0#32
  ![v3.toNat, c0_i32.toNat, c0_i32_0.toNat]

def cc2_transform_24 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c24_i32 : BitVec 32 := 24#32
  let v1 : BitVec 32 := Scalar.addi v0 c24_i32
  let v2 : Index := Scalar.indexCast v1
  let v3 : BitVec 32 := pf.at 0 (Rect.unit (s := S4096) ![v2.toNat] S1.size (k2_off1_inb i 24)) numel1_S1
  let c0_i32 : BitVec 32 := 0#32
  let c0_i32_0 : BitVec 32 := 0#32
  let c0_i32_1 : BitVec 32 := 0#32
  ![v3.toNat, c0_i32.toNat, c0_i32_0.toNat]

def cc2_transform_25 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c25_i32 : BitVec 32 := 25#32
  let v1 : BitVec 32 := Scalar.addi v0 c25_i32
  let v2 : Index := Scalar.indexCast v1
  let v3 : BitVec 32 := pf.at 0 (Rect.unit (s := S4096) ![v2.toNat] S1.size (k2_off1_inb i 25)) numel1_S1
  let c0_i32 : BitVec 32 := 0#32
  let c0_i32_0 : BitVec 32 := 0#32
  let c0_i32_1 : BitVec 32 := 0#32
  ![v3.toNat, c0_i32.toNat, c0_i32_0.toNat]

def cc2_transform_26 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c26_i32 : BitVec 32 := 26#32
  let v1 : BitVec 32 := Scalar.addi v0 c26_i32
  let v2 : Index := Scalar.indexCast v1
  let v3 : BitVec 32 := pf.at 0 (Rect.unit (s := S4096) ![v2.toNat] S1.size (k2_off1_inb i 26)) numel1_S1
  let c0_i32 : BitVec 32 := 0#32
  let c0_i32_0 : BitVec 32 := 0#32
  let c0_i32_1 : BitVec 32 := 0#32
  ![v3.toNat, c0_i32.toNat, c0_i32_0.toNat]

def cc2_transform_27 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c27_i32 : BitVec 32 := 27#32
  let v1 : BitVec 32 := Scalar.addi v0 c27_i32
  let v2 : Index := Scalar.indexCast v1
  let v3 : BitVec 32 := pf.at 0 (Rect.unit (s := S4096) ![v2.toNat] S1.size (k2_off1_inb i 27)) numel1_S1
  let c0_i32 : BitVec 32 := 0#32
  let c0_i32_0 : BitVec 32 := 0#32
  let c0_i32_1 : BitVec 32 := 0#32
  ![v3.toNat, c0_i32.toNat, c0_i32_0.toNat]

def cc2_transform_28 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c28_i32 : BitVec 32 := 28#32
  let v1 : BitVec 32 := Scalar.addi v0 c28_i32
  let v2 : Index := Scalar.indexCast v1
  let v3 : BitVec 32 := pf.at 0 (Rect.unit (s := S4096) ![v2.toNat] S1.size (k2_off1_inb i 28)) numel1_S1
  let c0_i32 : BitVec 32 := 0#32
  let c0_i32_0 : BitVec 32 := 0#32
  let c0_i32_1 : BitVec 32 := 0#32
  ![v3.toNat, c0_i32.toNat, c0_i32_0.toNat]

def cc2_transform_29 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c29_i32 : BitVec 32 := 29#32
  let v1 : BitVec 32 := Scalar.addi v0 c29_i32
  let v2 : Index := Scalar.indexCast v1
  let v3 : BitVec 32 := pf.at 0 (Rect.unit (s := S4096) ![v2.toNat] S1.size (k2_off1_inb i 29)) numel1_S1
  let c0_i32 : BitVec 32 := 0#32
  let c0_i32_0 : BitVec 32 := 0#32
  let c0_i32_1 : BitVec 32 := 0#32
  ![v3.toNat, c0_i32.toNat, c0_i32_0.toNat]

def cc2_transform_30 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c30_i32 : BitVec 32 := 30#32
  let v1 : BitVec 32 := Scalar.addi v0 c30_i32
  let v2 : Index := Scalar.indexCast v1
  let v3 : BitVec 32 := pf.at 0 (Rect.unit (s := S4096) ![v2.toNat] S1.size (k2_off1_inb i 30)) numel1_S1
  let c0_i32 : BitVec 32 := 0#32
  let c0_i32_0 : BitVec 32 := 0#32
  let c0_i32_1 : BitVec 32 := 0#32
  ![v3.toNat, c0_i32.toNat, c0_i32_0.toNat]

def cc2_transform_31 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c31_i32 : BitVec 32 := 31#32
  let v1 : BitVec 32 := Scalar.addi v0 c31_i32
  let v2 : Index := Scalar.indexCast v1
  let v3 : BitVec 32 := pf.at 0 (Rect.unit (s := S4096) ![v2.toNat] S1.size (k2_off1_inb i 31)) numel1_S1
  let c0_i32 : BitVec 32 := 0#32
  let c0_i32_0 : BitVec 32 := 0#32
  let c0_i32_1 : BitVec 32 := 0#32
  ![v3.toNat, c0_i32.toNat, c0_i32_0.toNat]

def cc2_transform_32 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c32_i32 : BitVec 32 := 32#32
  let v1 : BitVec 32 := Scalar.addi v0 c32_i32
  let v2 : Index := Scalar.indexCast v1
  let v3 : BitVec 32 := pf.at 0 (Rect.unit (s := S4096) ![v2.toNat] S1.size (k2_off1_inb i 32)) numel1_S1
  let c0_i32 : BitVec 32 := 0#32
  let c0_i32_0 : BitVec 32 := 0#32
  let c0_i32_1 : BitVec 32 := 0#32
  ![v3.toNat, c0_i32.toNat, c0_i32_0.toNat]

def cc2_transform_33 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c33_i32 : BitVec 32 := 33#32
  let v1 : BitVec 32 := Scalar.addi v0 c33_i32
  let v2 : Index := Scalar.indexCast v1
  let v3 : BitVec 32 := pf.at 0 (Rect.unit (s := S4096) ![v2.toNat] S1.size (k2_off1_inb i 33)) numel1_S1
  let c0_i32 : BitVec 32 := 0#32
  let c0_i32_0 : BitVec 32 := 0#32
  let c0_i32_1 : BitVec 32 := 0#32
  ![v3.toNat, c0_i32.toNat, c0_i32_0.toNat]

def cc2_transform_34 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c34_i32 : BitVec 32 := 34#32
  let v1 : BitVec 32 := Scalar.addi v0 c34_i32
  let v2 : Index := Scalar.indexCast v1
  let v3 : BitVec 32 := pf.at 0 (Rect.unit (s := S4096) ![v2.toNat] S1.size (k2_off1_inb i 34)) numel1_S1
  let c0_i32 : BitVec 32 := 0#32
  let c0_i32_0 : BitVec 32 := 0#32
  let c0_i32_1 : BitVec 32 := 0#32
  ![v3.toNat, c0_i32.toNat, c0_i32_0.toNat]

def cc2_transform_35 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c35_i32 : BitVec 32 := 35#32
  let v1 : BitVec 32 := Scalar.addi v0 c35_i32
  let v2 : Index := Scalar.indexCast v1
  let v3 : BitVec 32 := pf.at 0 (Rect.unit (s := S4096) ![v2.toNat] S1.size (k2_off1_inb i 35)) numel1_S1
  let c0_i32 : BitVec 32 := 0#32
  let c0_i32_0 : BitVec 32 := 0#32
  let c0_i32_1 : BitVec 32 := 0#32
  ![v3.toNat, c0_i32.toNat, c0_i32_0.toNat]

def cc2_transform_36 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c36_i32 : BitVec 32 := 36#32
  let v1 : BitVec 32 := Scalar.addi v0 c36_i32
  let v2 : Index := Scalar.indexCast v1
  let v3 : BitVec 32 := pf.at 0 (Rect.unit (s := S4096) ![v2.toNat] S1.size (k2_off1_inb i 36)) numel1_S1
  let c0_i32 : BitVec 32 := 0#32
  let c0_i32_0 : BitVec 32 := 0#32
  let c0_i32_1 : BitVec 32 := 0#32
  ![v3.toNat, c0_i32.toNat, c0_i32_0.toNat]

def cc2_transform_37 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c37_i32 : BitVec 32 := 37#32
  let v1 : BitVec 32 := Scalar.addi v0 c37_i32
  let v2 : Index := Scalar.indexCast v1
  let v3 : BitVec 32 := pf.at 0 (Rect.unit (s := S4096) ![v2.toNat] S1.size (k2_off1_inb i 37)) numel1_S1
  let c0_i32 : BitVec 32 := 0#32
  let c0_i32_0 : BitVec 32 := 0#32
  let c0_i32_1 : BitVec 32 := 0#32
  ![v3.toNat, c0_i32.toNat, c0_i32_0.toNat]

def cc2_transform_38 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c38_i32 : BitVec 32 := 38#32
  let v1 : BitVec 32 := Scalar.addi v0 c38_i32
  let v2 : Index := Scalar.indexCast v1
  let v3 : BitVec 32 := pf.at 0 (Rect.unit (s := S4096) ![v2.toNat] S1.size (k2_off1_inb i 38)) numel1_S1
  let c0_i32 : BitVec 32 := 0#32
  let c0_i32_0 : BitVec 32 := 0#32
  let c0_i32_1 : BitVec 32 := 0#32
  ![v3.toNat, c0_i32.toNat, c0_i32_0.toNat]

def cc2_transform_39 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c39_i32 : BitVec 32 := 39#32
  let v1 : BitVec 32 := Scalar.addi v0 c39_i32
  let v2 : Index := Scalar.indexCast v1
  let v3 : BitVec 32 := pf.at 0 (Rect.unit (s := S4096) ![v2.toNat] S1.size (k2_off1_inb i 39)) numel1_S1
  let c0_i32 : BitVec 32 := 0#32
  let c0_i32_0 : BitVec 32 := 0#32
  let c0_i32_1 : BitVec 32 := 0#32
  ![v3.toNat, c0_i32.toNat, c0_i32_0.toNat]

def cc2_transform_40 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c40_i32 : BitVec 32 := 40#32
  let v1 : BitVec 32 := Scalar.addi v0 c40_i32
  let v2 : Index := Scalar.indexCast v1
  let v3 : BitVec 32 := pf.at 0 (Rect.unit (s := S4096) ![v2.toNat] S1.size (k2_off1_inb i 40)) numel1_S1
  let c0_i32 : BitVec 32 := 0#32
  let c0_i32_0 : BitVec 32 := 0#32
  let c0_i32_1 : BitVec 32 := 0#32
  ![v3.toNat, c0_i32.toNat, c0_i32_0.toNat]

def cc2_transform_41 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c41_i32 : BitVec 32 := 41#32
  let v1 : BitVec 32 := Scalar.addi v0 c41_i32
  let v2 : Index := Scalar.indexCast v1
  let v3 : BitVec 32 := pf.at 0 (Rect.unit (s := S4096) ![v2.toNat] S1.size (k2_off1_inb i 41)) numel1_S1
  let c0_i32 : BitVec 32 := 0#32
  let c0_i32_0 : BitVec 32 := 0#32
  let c0_i32_1 : BitVec 32 := 0#32
  ![v3.toNat, c0_i32.toNat, c0_i32_0.toNat]

def cc2_transform_42 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c42_i32 : BitVec 32 := 42#32
  let v1 : BitVec 32 := Scalar.addi v0 c42_i32
  let v2 : Index := Scalar.indexCast v1
  let v3 : BitVec 32 := pf.at 0 (Rect.unit (s := S4096) ![v2.toNat] S1.size (k2_off1_inb i 42)) numel1_S1
  let c0_i32 : BitVec 32 := 0#32
  let c0_i32_0 : BitVec 32 := 0#32
  let c0_i32_1 : BitVec 32 := 0#32
  ![v3.toNat, c0_i32.toNat, c0_i32_0.toNat]

def cc2_transform_43 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c43_i32 : BitVec 32 := 43#32
  let v1 : BitVec 32 := Scalar.addi v0 c43_i32
  let v2 : Index := Scalar.indexCast v1
  let v3 : BitVec 32 := pf.at 0 (Rect.unit (s := S4096) ![v2.toNat] S1.size (k2_off1_inb i 43)) numel1_S1
  let c0_i32 : BitVec 32 := 0#32
  let c0_i32_0 : BitVec 32 := 0#32
  let c0_i32_1 : BitVec 32 := 0#32
  ![v3.toNat, c0_i32.toNat, c0_i32_0.toNat]

def cc2_transform_44 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c44_i32 : BitVec 32 := 44#32
  let v1 : BitVec 32 := Scalar.addi v0 c44_i32
  let v2 : Index := Scalar.indexCast v1
  let v3 : BitVec 32 := pf.at 0 (Rect.unit (s := S4096) ![v2.toNat] S1.size (k2_off1_inb i 44)) numel1_S1
  let c0_i32 : BitVec 32 := 0#32
  let c0_i32_0 : BitVec 32 := 0#32
  let c0_i32_1 : BitVec 32 := 0#32
  ![v3.toNat, c0_i32.toNat, c0_i32_0.toNat]

def cc2_transform_45 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c45_i32 : BitVec 32 := 45#32
  let v1 : BitVec 32 := Scalar.addi v0 c45_i32
  let v2 : Index := Scalar.indexCast v1
  let v3 : BitVec 32 := pf.at 0 (Rect.unit (s := S4096) ![v2.toNat] S1.size (k2_off1_inb i 45)) numel1_S1
  let c0_i32 : BitVec 32 := 0#32
  let c0_i32_0 : BitVec 32 := 0#32
  let c0_i32_1 : BitVec 32 := 0#32
  ![v3.toNat, c0_i32.toNat, c0_i32_0.toNat]

def cc2_transform_46 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c46_i32 : BitVec 32 := 46#32
  let v1 : BitVec 32 := Scalar.addi v0 c46_i32
  let v2 : Index := Scalar.indexCast v1
  let v3 : BitVec 32 := pf.at 0 (Rect.unit (s := S4096) ![v2.toNat] S1.size (k2_off1_inb i 46)) numel1_S1
  let c0_i32 : BitVec 32 := 0#32
  let c0_i32_0 : BitVec 32 := 0#32
  let c0_i32_1 : BitVec 32 := 0#32
  ![v3.toNat, c0_i32.toNat, c0_i32_0.toNat]

def cc2_transform_47 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c47_i32 : BitVec 32 := 47#32
  let v1 : BitVec 32 := Scalar.addi v0 c47_i32
  let v2 : Index := Scalar.indexCast v1
  let v3 : BitVec 32 := pf.at 0 (Rect.unit (s := S4096) ![v2.toNat] S1.size (k2_off1_inb i 47)) numel1_S1
  let c0_i32 : BitVec 32 := 0#32
  let c0_i32_0 : BitVec 32 := 0#32
  let c0_i32_1 : BitVec 32 := 0#32
  ![v3.toNat, c0_i32.toNat, c0_i32_0.toNat]

def cc2_transform_48 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c48_i32 : BitVec 32 := 48#32
  let v1 : BitVec 32 := Scalar.addi v0 c48_i32
  let v2 : Index := Scalar.indexCast v1
  let v3 : BitVec 32 := pf.at 0 (Rect.unit (s := S4096) ![v2.toNat] S1.size (k2_off1_inb i 48)) numel1_S1
  let c0_i32 : BitVec 32 := 0#32
  let c0_i32_0 : BitVec 32 := 0#32
  let c0_i32_1 : BitVec 32 := 0#32
  ![v3.toNat, c0_i32.toNat, c0_i32_0.toNat]

def cc2_transform_49 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c49_i32 : BitVec 32 := 49#32
  let v1 : BitVec 32 := Scalar.addi v0 c49_i32
  let v2 : Index := Scalar.indexCast v1
  let v3 : BitVec 32 := pf.at 0 (Rect.unit (s := S4096) ![v2.toNat] S1.size (k2_off1_inb i 49)) numel1_S1
  let c0_i32 : BitVec 32 := 0#32
  let c0_i32_0 : BitVec 32 := 0#32
  let c0_i32_1 : BitVec 32 := 0#32
  ![v3.toNat, c0_i32.toNat, c0_i32_0.toNat]

def cc2_transform_50 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c50_i32 : BitVec 32 := 50#32
  let v1 : BitVec 32 := Scalar.addi v0 c50_i32
  let v2 : Index := Scalar.indexCast v1
  let v3 : BitVec 32 := pf.at 0 (Rect.unit (s := S4096) ![v2.toNat] S1.size (k2_off1_inb i 50)) numel1_S1
  let c0_i32 : BitVec 32 := 0#32
  let c0_i32_0 : BitVec 32 := 0#32
  let c0_i32_1 : BitVec 32 := 0#32
  ![v3.toNat, c0_i32.toNat, c0_i32_0.toNat]

def cc2_transform_51 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c51_i32 : BitVec 32 := 51#32
  let v1 : BitVec 32 := Scalar.addi v0 c51_i32
  let v2 : Index := Scalar.indexCast v1
  let v3 : BitVec 32 := pf.at 0 (Rect.unit (s := S4096) ![v2.toNat] S1.size (k2_off1_inb i 51)) numel1_S1
  let c0_i32 : BitVec 32 := 0#32
  let c0_i32_0 : BitVec 32 := 0#32
  let c0_i32_1 : BitVec 32 := 0#32
  ![v3.toNat, c0_i32.toNat, c0_i32_0.toNat]

def cc2_transform_52 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c52_i32 : BitVec 32 := 52#32
  let v1 : BitVec 32 := Scalar.addi v0 c52_i32
  let v2 : Index := Scalar.indexCast v1
  let v3 : BitVec 32 := pf.at 0 (Rect.unit (s := S4096) ![v2.toNat] S1.size (k2_off1_inb i 52)) numel1_S1
  let c0_i32 : BitVec 32 := 0#32
  let c0_i32_0 : BitVec 32 := 0#32
  let c0_i32_1 : BitVec 32 := 0#32
  ![v3.toNat, c0_i32.toNat, c0_i32_0.toNat]

def cc2_transform_53 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c53_i32 : BitVec 32 := 53#32
  let v1 : BitVec 32 := Scalar.addi v0 c53_i32
  let v2 : Index := Scalar.indexCast v1
  let v3 : BitVec 32 := pf.at 0 (Rect.unit (s := S4096) ![v2.toNat] S1.size (k2_off1_inb i 53)) numel1_S1
  let c0_i32 : BitVec 32 := 0#32
  let c0_i32_0 : BitVec 32 := 0#32
  let c0_i32_1 : BitVec 32 := 0#32
  ![v3.toNat, c0_i32.toNat, c0_i32_0.toNat]

def cc2_transform_54 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c54_i32 : BitVec 32 := 54#32
  let v1 : BitVec 32 := Scalar.addi v0 c54_i32
  let v2 : Index := Scalar.indexCast v1
  let v3 : BitVec 32 := pf.at 0 (Rect.unit (s := S4096) ![v2.toNat] S1.size (k2_off1_inb i 54)) numel1_S1
  let c0_i32 : BitVec 32 := 0#32
  let c0_i32_0 : BitVec 32 := 0#32
  let c0_i32_1 : BitVec 32 := 0#32
  ![v3.toNat, c0_i32.toNat, c0_i32_0.toNat]

def cc2_transform_55 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c55_i32 : BitVec 32 := 55#32
  let v1 : BitVec 32 := Scalar.addi v0 c55_i32
  let v2 : Index := Scalar.indexCast v1
  let v3 : BitVec 32 := pf.at 0 (Rect.unit (s := S4096) ![v2.toNat] S1.size (k2_off1_inb i 55)) numel1_S1
  let c0_i32 : BitVec 32 := 0#32
  let c0_i32_0 : BitVec 32 := 0#32
  let c0_i32_1 : BitVec 32 := 0#32
  ![v3.toNat, c0_i32.toNat, c0_i32_0.toNat]

def cc2_transform_56 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c56_i32 : BitVec 32 := 56#32
  let v1 : BitVec 32 := Scalar.addi v0 c56_i32
  let v2 : Index := Scalar.indexCast v1
  let v3 : BitVec 32 := pf.at 0 (Rect.unit (s := S4096) ![v2.toNat] S1.size (k2_off1_inb i 56)) numel1_S1
  let c0_i32 : BitVec 32 := 0#32
  let c0_i32_0 : BitVec 32 := 0#32
  let c0_i32_1 : BitVec 32 := 0#32
  ![v3.toNat, c0_i32.toNat, c0_i32_0.toNat]

def cc2_transform_57 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c57_i32 : BitVec 32 := 57#32
  let v1 : BitVec 32 := Scalar.addi v0 c57_i32
  let v2 : Index := Scalar.indexCast v1
  let v3 : BitVec 32 := pf.at 0 (Rect.unit (s := S4096) ![v2.toNat] S1.size (k2_off1_inb i 57)) numel1_S1
  let c0_i32 : BitVec 32 := 0#32
  let c0_i32_0 : BitVec 32 := 0#32
  let c0_i32_1 : BitVec 32 := 0#32
  ![v3.toNat, c0_i32.toNat, c0_i32_0.toNat]

def cc2_transform_58 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c58_i32 : BitVec 32 := 58#32
  let v1 : BitVec 32 := Scalar.addi v0 c58_i32
  let v2 : Index := Scalar.indexCast v1
  let v3 : BitVec 32 := pf.at 0 (Rect.unit (s := S4096) ![v2.toNat] S1.size (k2_off1_inb i 58)) numel1_S1
  let c0_i32 : BitVec 32 := 0#32
  let c0_i32_0 : BitVec 32 := 0#32
  let c0_i32_1 : BitVec 32 := 0#32
  ![v3.toNat, c0_i32.toNat, c0_i32_0.toNat]

def cc2_transform_59 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c59_i32 : BitVec 32 := 59#32
  let v1 : BitVec 32 := Scalar.addi v0 c59_i32
  let v2 : Index := Scalar.indexCast v1
  let v3 : BitVec 32 := pf.at 0 (Rect.unit (s := S4096) ![v2.toNat] S1.size (k2_off1_inb i 59)) numel1_S1
  let c0_i32 : BitVec 32 := 0#32
  let c0_i32_0 : BitVec 32 := 0#32
  let c0_i32_1 : BitVec 32 := 0#32
  ![v3.toNat, c0_i32.toNat, c0_i32_0.toNat]

def cc2_transform_60 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c60_i32 : BitVec 32 := 60#32
  let v1 : BitVec 32 := Scalar.addi v0 c60_i32
  let v2 : Index := Scalar.indexCast v1
  let v3 : BitVec 32 := pf.at 0 (Rect.unit (s := S4096) ![v2.toNat] S1.size (k2_off1_inb i 60)) numel1_S1
  let c0_i32 : BitVec 32 := 0#32
  let c0_i32_0 : BitVec 32 := 0#32
  let c0_i32_1 : BitVec 32 := 0#32
  ![v3.toNat, c0_i32.toNat, c0_i32_0.toNat]

def cc2_transform_61 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c61_i32 : BitVec 32 := 61#32
  let v1 : BitVec 32 := Scalar.addi v0 c61_i32
  let v2 : Index := Scalar.indexCast v1
  let v3 : BitVec 32 := pf.at 0 (Rect.unit (s := S4096) ![v2.toNat] S1.size (k2_off1_inb i 61)) numel1_S1
  let c0_i32 : BitVec 32 := 0#32
  let c0_i32_0 : BitVec 32 := 0#32
  let c0_i32_1 : BitVec 32 := 0#32
  ![v3.toNat, c0_i32.toNat, c0_i32_0.toNat]

def cc2_transform_62 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c62_i32 : BitVec 32 := 62#32
  let v1 : BitVec 32 := Scalar.addi v0 c62_i32
  let v2 : Index := Scalar.indexCast v1
  let v3 : BitVec 32 := pf.at 0 (Rect.unit (s := S4096) ![v2.toNat] S1.size (k2_off1_inb i 62)) numel1_S1
  let c0_i32 : BitVec 32 := 0#32
  let c0_i32_0 : BitVec 32 := 0#32
  let c0_i32_1 : BitVec 32 := 0#32
  ![v3.toNat, c0_i32.toNat, c0_i32_0.toNat]

def cc2_transform_63 (k2_off1_inb : ∀ i : grid2.Coords, ∀ (r : Fin 64), ∀ a, (k2_off1 i (BitVec.ofNat 32 r.val)) a + S1.size a ≤ S4096.size a) (numel1_S1 : S1.numel = 1) (pf : pre2.Contents (Elt F)) (i : grid2.Coords) : Fin 3 → Nat :=
  let arg0 : BitVec 32 := BitVec.ofNat 32 (i 0).val
  let c64_i32 : BitVec 32 := 64#32
  let v0 : BitVec 32 := Scalar.muli arg0 c64_i32
  let c63_i32 : BitVec 32 := 63#32
  let v1 : BitVec 32 := Scalar.addi v0 c63_i32
  let v2 : Index := Scalar.indexCast v1
  let v3 : BitVec 32 := pf.at 0 (Rect.unit (s := S4096) ![v2.toNat] S1.size (k2_off1_inb i 63)) numel1_S1
  let c0_i32 : BitVec 32 := 0#32
  let c0_i32_0 : BitVec 32 := 0#32
  let c0_i32_1 : BitVec 32 := 0#32
  ![v3.toNat, c0_i32.toNat, c0_i32_0.toNat]

def cc2_transform_64 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x8x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x8x8192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x8x8192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8x8192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x8x8192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x8x8192 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x8x8192 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x8x8192 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x8x8192 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1x8x8192 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1x8x8192 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1x8x8192 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x8x8192 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x8x8192 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S1x8x8192 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S1x8x8192 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S1x8x8192 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S1x8x8192 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev stage2_20 : Fin 2 → Memref sig .tc .vmem S1x8x8192 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev stage2_21 : Fin 2 → Memref sig .tc .vmem S1x8x8192 .f32 := fun | 0 => Memref.whole cc2_stg21_0 | 1 => Memref.whole cc2_stg21_1 | ⟨_ + 2, h⟩ => absurd h (Nat.not_lt.2 (Nat.le_add_left _ _))
abbrev sem2_21 : Fin 2 → DmaSem sig := fun | 0 => cc2_sem21_0 | 1 => cc2_sem21_1 | ⟨_ + 2, h⟩ => absurd h (Nat.not_lt.2 (Nat.le_add_left _ _))
abbrev reads2_21 : Fin grid2.rank → Bool := ![true]

abbrev stage2_22 : Fin 2 → Memref sig .tc .vmem S1x8x8192 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

abbrev stage2_23 : Fin 2 → Memref sig .tc .vmem S1x8x8192 .f32 := fun | 0 => Memref.whole cc2_stg23_0 | 1 => Memref.whole cc2_stg23_1 | ⟨_ + 2, h⟩ => absurd h (Nat.not_lt.2 (Nat.le_add_left _ _))
abbrev sem2_23 : Fin 2 → DmaSem sig := fun | 0 => cc2_sem23_0 | 1 => cc2_sem23_1 | ⟨_ + 2, h⟩ => absurd h (Nat.not_lt.2 (Nat.le_add_left _ _))
abbrev reads2_23 : Fin grid2.rank → Bool := ![true]

abbrev stage2_24 : Fin 2 → Memref sig .tc .vmem S1x8x8192 .f32 := fun | 0 => Memref.whole cc2_stg24_0 | 1 => Memref.whole cc2_stg24_1 | ⟨_ + 2, h⟩ => absurd h (Nat.not_lt.2 (Nat.le_add_left _ _))
abbrev sem2_24 : Fin 2 → DmaSem sig := fun | 0 => cc2_sem24_0 | 1 => cc2_sem24_1 | ⟨_ + 2, h⟩ => absurd h (Nat.not_lt.2 (Nat.le_add_left _ _))
abbrev reads2_24 : Fin grid2.rank → Bool := ![true]

abbrev stage2_25 : Fin 2 → Memref sig .tc .vmem S1x8x8192 .f32 := fun | 0 => Memref.whole cc2_stg25_0 | 1 => Memref.whole cc2_stg25_1 | ⟨_ + 2, h⟩ => absurd h (Nat.not_lt.2 (Nat.le_add_left _ _))
abbrev sem2_25 : Fin 2 → DmaSem sig := fun | 0 => cc2_sem25_0 | 1 => cc2_sem25_1 | ⟨_ + 2, h⟩ => absurd h (Nat.not_lt.2 (Nat.le_add_left _ _))
abbrev reads2_25 : Fin grid2.rank → Bool := ![true]

abbrev stage2_26 : Fin 2 → Memref sig .tc .vmem S1x8x8192 .f32 := fun | 0 => Memref.whole cc2_stg26_0 | 1 => Memref.whole cc2_stg26_1 | ⟨_ + 2, h⟩ => absurd h (Nat.not_lt.2 (Nat.le_add_left _ _))
abbrev sem2_26 : Fin 2 → DmaSem sig := fun | 0 => cc2_sem26_0 | 1 => cc2_sem26_1 | ⟨_ + 2, h⟩ => absurd h (Nat.not_lt.2 (Nat.le_add_left _ _))
abbrev reads2_26 : Fin grid2.rank → Bool := ![true]

abbrev stage2_27 : Fin 2 → Memref sig .tc .vmem S1x8x8192 .f32 := fun | 0 => Memref.whole cc2_stg27_0 | 1 => Memref.whole cc2_stg27_1 | ⟨_ + 2, h⟩ => absurd h (Nat.not_lt.2 (Nat.le_add_left _ _))
abbrev sem2_27 : Fin 2 → DmaSem sig := fun | 0 => cc2_sem27_0 | 1 => cc2_sem27_1 | ⟨_ + 2, h⟩ => absurd h (Nat.not_lt.2 (Nat.le_add_left _ _))
abbrev reads2_27 : Fin grid2.rank → Bool := ![true]

abbrev stage2_28 : Fin 2 → Memref sig .tc .vmem S1x8x8192 .f32 := fun | 0 => Memref.whole cc2_stg28_0 | 1 => Memref.whole cc2_stg28_1 | ⟨_ + 2, h⟩ => absurd h (Nat.not_lt.2 (Nat.le_add_left _ _))
abbrev sem2_28 : Fin 2 → DmaSem sig := fun | 0 => cc2_sem28_0 | 1 => cc2_sem28_1 | ⟨_ + 2, h⟩ => absurd h (Nat.not_lt.2 (Nat.le_add_left _ _))
abbrev reads2_28 : Fin grid2.rank → Bool := ![true]

abbrev stage2_29 : Fin 2 → Memref sig .tc .vmem S1x8x8192 .f32 := fun | 0 => Memref.whole cc2_stg29_0 | 1 => Memref.whole cc2_stg29_1 | ⟨_ + 2, h⟩ => absurd h (Nat.not_lt.2 (Nat.le_add_left _ _))
abbrev sem2_29 : Fin 2 → DmaSem sig := fun | 0 => cc2_sem29_0 | 1 => cc2_sem29_1 | ⟨_ + 2, h⟩ => absurd h (Nat.not_lt.2 (Nat.le_add_left _ _))
abbrev reads2_29 : Fin grid2.rank → Bool := ![true]

abbrev stage2_30 : Fin 2 → Memref sig .tc .vmem S1x8x8192 .f32 := fun | 0 => Memref.whole cc2_stg30_0 | 1 => Memref.whole cc2_stg30_1 | ⟨_ + 2, h⟩ => absurd h (Nat.not_lt.2 (Nat.le_add_left _ _))
abbrev sem2_30 : Fin 2 → DmaSem sig := fun | 0 => cc2_sem30_0 | 1 => cc2_sem30_1 | ⟨_ + 2, h⟩ => absurd h (Nat.not_lt.2 (Nat.le_add_left _ _))
abbrev reads2_30 : Fin grid2.rank → Bool := ![true]

abbrev stage2_31 : Fin 2 → Memref sig .tc .vmem S1x8x8192 .f32 := fun | 0 => Memref.whole cc2_stg31_0 | 1 => Memref.whole cc2_stg31_1 | ⟨_ + 2, h⟩ => absurd h (Nat.not_lt.2 (Nat.le_add_left _ _))
abbrev sem2_31 : Fin 2 → DmaSem sig := fun | 0 => cc2_sem31_0 | 1 => cc2_sem31_1 | ⟨_ + 2, h⟩ => absurd h (Nat.not_lt.2 (Nat.le_add_left _ _))
abbrev reads2_31 : Fin grid2.rank → Bool := ![true]

abbrev stage2_32 : Fin 2 → Memref sig .tc .vmem S1x8x8192 .f32 := fun | 0 => Memref.whole cc2_stg32_0 | 1 => Memref.whole cc2_stg32_1 | ⟨_ + 2, h⟩ => absurd h (Nat.not_lt.2 (Nat.le_add_left _ _))
abbrev sem2_32 : Fin 2 → DmaSem sig := fun | 0 => cc2_sem32_0 | 1 => cc2_sem32_1 | ⟨_ + 2, h⟩ => absurd h (Nat.not_lt.2 (Nat.le_add_left _ _))
abbrev reads2_32 : Fin grid2.rank → Bool := ![true]

abbrev stage2_33 : Fin 2 → Memref sig .tc .vmem S1x8x8192 .f32 := fun | 0 => Memref.whole cc2_stg33_0 | 1 => Memref.whole cc2_stg33_1 | ⟨_ + 2, h⟩ => absurd h (Nat.not_lt.2 (Nat.le_add_left _ _))
abbrev sem2_33 : Fin 2 → DmaSem sig := fun | 0 => cc2_sem33_0 | 1 => cc2_sem33_1 | ⟨_ + 2, h⟩ => absurd h (Nat.not_lt.2 (Nat.le_add_left _ _))
abbrev reads2_33 : Fin grid2.rank → Bool := ![true]

abbrev stage2_34 : Fin 2 → Memref sig .tc .vmem S1x8x8192 .f32 := fun | 0 => Memref.whole cc2_stg34_0 | 1 => Memref.whole cc2_stg34_1 | ⟨_ + 2, h⟩ => absurd h (Nat.not_lt.2 (Nat.le_add_left _ _))
abbrev sem2_34 : Fin 2 → DmaSem sig := fun | 0 => cc2_sem34_0 | 1 => cc2_sem34_1 | ⟨_ + 2, h⟩ => absurd h (Nat.not_lt.2 (Nat.le_add_left _ _))
abbrev reads2_34 : Fin grid2.rank → Bool := ![true]

abbrev stage2_35 : Fin 2 → Memref sig .tc .vmem S1x8x8192 .f32 := fun | 0 => Memref.whole cc2_stg35_0 | 1 => Memref.whole cc2_stg35_1 | ⟨_ + 2, h⟩ => absurd h (Nat.not_lt.2 (Nat.le_add_left _ _))
abbrev sem2_35 : Fin 2 → DmaSem sig := fun | 0 => cc2_sem35_0 | 1 => cc2_sem35_1 | ⟨_ + 2, h⟩ => absurd h (Nat.not_lt.2 (Nat.le_add_left _ _))
abbrev reads2_35 : Fin grid2.rank → Bool := ![true]

abbrev stage2_36 : Fin 2 → Memref sig .tc .vmem S1x8x8192 .f32 := fun | 0 => Memref.whole cc2_stg36_0 | 1 => Memref.whole cc2_stg36_1 | ⟨_ + 2, h⟩ => absurd h (Nat.not_lt.2 (Nat.le_add_left _ _))
abbrev sem2_36 : Fin 2 → DmaSem sig := fun | 0 => cc2_sem36_0 | 1 => cc2_sem36_1 | ⟨_ + 2, h⟩ => absurd h (Nat.not_lt.2 (Nat.le_add_left _ _))
abbrev reads2_36 : Fin grid2.rank → Bool := ![true]

abbrev stage2_37 : Fin 2 → Memref sig .tc .vmem S1x8x8192 .f32 := fun | 0 => Memref.whole cc2_stg37_0 | 1 => Memref.whole cc2_stg37_1 | ⟨_ + 2, h⟩ => absurd h (Nat.not_lt.2 (Nat.le_add_left _ _))
abbrev sem2_37 : Fin 2 → DmaSem sig := fun | 0 => cc2_sem37_0 | 1 => cc2_sem37_1 | ⟨_ + 2, h⟩ => absurd h (Nat.not_lt.2 (Nat.le_add_left _ _))
abbrev reads2_37 : Fin grid2.rank → Bool := ![true]

abbrev stage2_38 : Fin 2 → Memref sig .tc .vmem S1x8x8192 .f32 := fun | 0 => Memref.whole cc2_stg38_0 | 1 => Memref.whole cc2_stg38_1 | ⟨_ + 2, h⟩ => absurd h (Nat.not_lt.2 (Nat.le_add_left _ _))
abbrev sem2_38 : Fin 2 → DmaSem sig := fun | 0 => cc2_sem38_0 | 1 => cc2_sem38_1 | ⟨_ + 2, h⟩ => absurd h (Nat.not_lt.2 (Nat.le_add_left _ _))
abbrev reads2_38 : Fin grid2.rank → Bool := ![true]

abbrev stage2_39 : Fin 2 → Memref sig .tc .vmem S1x8x8192 .f32 := fun | 0 => Memref.whole cc2_stg39_0 | 1 => Memref.whole cc2_stg39_1 | ⟨_ + 2, h⟩ => absurd h (Nat.not_lt.2 (Nat.le_add_left _ _))
abbrev sem2_39 : Fin 2 → DmaSem sig := fun | 0 => cc2_sem39_0 | 1 => cc2_sem39_1 | ⟨_ + 2, h⟩ => absurd h (Nat.not_lt.2 (Nat.le_add_left _ _))
abbrev reads2_39 : Fin grid2.rank → Bool := ![true]

abbrev stage2_40 : Fin 2 → Memref sig .tc .vmem S1x8x8192 .f32 := fun | 0 => Memref.whole cc2_stg40_0 | 1 => Memref.whole cc2_stg40_1 | ⟨_ + 2, h⟩ => absurd h (Nat.not_lt.2 (Nat.le_add_left _ _))
abbrev sem2_40 : Fin 2 → DmaSem sig := fun | 0 => cc2_sem40_0 | 1 => cc2_sem40_1 | ⟨_ + 2, h⟩ => absurd h (Nat.not_lt.2 (Nat.le_add_left _ _))
abbrev reads2_40 : Fin grid2.rank → Bool := ![true]

abbrev stage2_41 : Fin 2 → Memref sig .tc .vmem S1x8x8192 .f32 := fun | 0 => Memref.whole cc2_stg41_0 | 1 => Memref.whole cc2_stg41_1 | ⟨_ + 2, h⟩ => absurd h (Nat.not_lt.2 (Nat.le_add_left _ _))
abbrev sem2_41 : Fin 2 → DmaSem sig := fun | 0 => cc2_sem41_0 | 1 => cc2_sem41_1 | ⟨_ + 2, h⟩ => absurd h (Nat.not_lt.2 (Nat.le_add_left _ _))
abbrev reads2_41 : Fin grid2.rank → Bool := ![true]

abbrev stage2_42 : Fin 2 → Memref sig .tc .vmem S1x8x8192 .f32 := fun | 0 => Memref.whole cc2_stg42_0 | 1 => Memref.whole cc2_stg42_1 | ⟨_ + 2, h⟩ => absurd h (Nat.not_lt.2 (Nat.le_add_left _ _))
abbrev sem2_42 : Fin 2 → DmaSem sig := fun | 0 => cc2_sem42_0 | 1 => cc2_sem42_1 | ⟨_ + 2, h⟩ => absurd h (Nat.not_lt.2 (Nat.le_add_left _ _))
abbrev reads2_42 : Fin grid2.rank → Bool := ![true]

abbrev stage2_43 : Fin 2 → Memref sig .tc .vmem S1x8x8192 .f32 := fun | 0 => Memref.whole cc2_stg43_0 | 1 => Memref.whole cc2_stg43_1 | ⟨_ + 2, h⟩ => absurd h (Nat.not_lt.2 (Nat.le_add_left _ _))
abbrev sem2_43 : Fin 2 → DmaSem sig := fun | 0 => cc2_sem43_0 | 1 => cc2_sem43_1 | ⟨_ + 2, h⟩ => absurd h (Nat.not_lt.2 (Nat.le_add_left _ _))
abbrev reads2_43 : Fin grid2.rank → Bool := ![true]

abbrev stage2_44 : Fin 2 → Memref sig .tc .vmem S1x8x8192 .f32 := fun | 0 => Memref.whole cc2_stg44_0 | 1 => Memref.whole cc2_stg44_1 | ⟨_ + 2, h⟩ => absurd h (Nat.not_lt.2 (Nat.le_add_left _ _))
abbrev sem2_44 : Fin 2 → DmaSem sig := fun | 0 => cc2_sem44_0 | 1 => cc2_sem44_1 | ⟨_ + 2, h⟩ => absurd h (Nat.not_lt.2 (Nat.le_add_left _ _))
abbrev reads2_44 : Fin grid2.rank → Bool := ![true]

abbrev stage2_45 : Fin 2 → Memref sig .tc .vmem S1x8x8192 .f32 := fun | 0 => Memref.whole cc2_stg45_0 | 1 => Memref.whole cc2_stg45_1 | ⟨_ + 2, h⟩ => absurd h (Nat.not_lt.2 (Nat.le_add_left _ _))
abbrev sem2_45 : Fin 2 → DmaSem sig := fun | 0 => cc2_sem45_0 | 1 => cc2_sem45_1 | ⟨_ + 2, h⟩ => absurd h (Nat.not_lt.2 (Nat.le_add_left _ _))
abbrev reads2_45 : Fin grid2.rank → Bool := ![true]

abbrev stage2_46 : Fin 2 → Memref sig .tc .vmem S1x8x8192 .f32 := fun | 0 => Memref.whole cc2_stg46_0 | 1 => Memref.whole cc2_stg46_1 | ⟨_ + 2, h⟩ => absurd h (Nat.not_lt.2 (Nat.le_add_left _ _))
abbrev sem2_46 : Fin 2 → DmaSem sig := fun | 0 => cc2_sem46_0 | 1 => cc2_sem46_1 | ⟨_ + 2, h⟩ => absurd h (Nat.not_lt.2 (Nat.le_add_left _ _))
abbrev reads2_46 : Fin grid2.rank → Bool := ![true]

abbrev stage2_47 : Fin 2 → Memref sig .tc .vmem S1x8x8192 .f32 := fun | 0 => Memref.whole cc2_stg47_0 | 1 => Memref.whole cc2_stg47_1 | ⟨_ + 2, h⟩ => absurd h (Nat.not_lt.2 (Nat.le_add_left _ _))
abbrev sem2_47 : Fin 2 → DmaSem sig := fun | 0 => cc2_sem47_0 | 1 => cc2_sem47_1 | ⟨_ + 2, h⟩ => absurd h (Nat.not_lt.2 (Nat.le_add_left _ _))
abbrev reads2_47 : Fin grid2.rank → Bool := ![true]

abbrev stage2_48 : Fin 2 → Memref sig .tc .vmem S1x8x8192 .f32 := fun | 0 => Memref.whole cc2_stg48_0 | 1 => Memref.whole cc2_stg48_1 | ⟨_ + 2, h⟩ => absurd h (Nat.not_lt.2 (Nat.le_add_left _ _))
abbrev sem2_48 : Fin 2 → DmaSem sig := fun | 0 => cc2_sem48_0 | 1 => cc2_sem48_1 | ⟨_ + 2, h⟩ => absurd h (Nat.not_lt.2 (Nat.le_add_left _ _))
abbrev reads2_48 : Fin grid2.rank → Bool := ![true]

abbrev stage2_49 : Fin 2 → Memref sig .tc .vmem S1x8x8192 .f32 := fun | 0 => Memref.whole cc2_stg49_0 | 1 => Memref.whole cc2_stg49_1 | ⟨_ + 2, h⟩ => absurd h (Nat.not_lt.2 (Nat.le_add_left _ _))
abbrev sem2_49 : Fin 2 → DmaSem sig := fun | 0 => cc2_sem49_0 | 1 => cc2_sem49_1 | ⟨_ + 2, h⟩ => absurd h (Nat.not_lt.2 (Nat.le_add_left _ _))
abbrev reads2_49 : Fin grid2.rank → Bool := ![true]

abbrev stage2_50 : Fin 2 → Memref sig .tc .vmem S1x8x8192 .f32 := fun | 0 => Memref.whole cc2_stg50_0 | 1 => Memref.whole cc2_stg50_1 | ⟨_ + 2, h⟩ => absurd h (Nat.not_lt.2 (Nat.le_add_left _ _))
abbrev sem2_50 : Fin 2 → DmaSem sig := fun | 0 => cc2_sem50_0 | 1 => cc2_sem50_1 | ⟨_ + 2, h⟩ => absurd h (Nat.not_lt.2 (Nat.le_add_left _ _))
abbrev reads2_50 : Fin grid2.rank → Bool := ![true]

abbrev stage2_51 : Fin 2 → Memref sig .tc .vmem S1x8x8192 .f32 := fun | 0 => Memref.whole cc2_stg51_0 | 1 => Memref.whole cc2_stg51_1 | ⟨_ + 2, h⟩ => absurd h (Nat.not_lt.2 (Nat.le_add_left _ _))
abbrev sem2_51 : Fin 2 → DmaSem sig := fun | 0 => cc2_sem51_0 | 1 => cc2_sem51_1 | ⟨_ + 2, h⟩ => absurd h (Nat.not_lt.2 (Nat.le_add_left _ _))
abbrev reads2_51 : Fin grid2.rank → Bool := ![true]

abbrev stage2_52 : Fin 2 → Memref sig .tc .vmem S1x8x8192 .f32 := fun | 0 => Memref.whole cc2_stg52_0 | 1 => Memref.whole cc2_stg52_1 | ⟨_ + 2, h⟩ => absurd h (Nat.not_lt.2 (Nat.le_add_left _ _))
abbrev sem2_52 : Fin 2 → DmaSem sig := fun | 0 => cc2_sem52_0 | 1 => cc2_sem52_1 | ⟨_ + 2, h⟩ => absurd h (Nat.not_lt.2 (Nat.le_add_left _ _))
abbrev reads2_52 : Fin grid2.rank → Bool := ![true]

abbrev stage2_53 : Fin 2 → Memref sig .tc .vmem S1x8x8192 .f32 := fun | 0 => Memref.whole cc2_stg53_0 | 1 => Memref.whole cc2_stg53_1 | ⟨_ + 2, h⟩ => absurd h (Nat.not_lt.2 (Nat.le_add_left _ _))
abbrev sem2_53 : Fin 2 → DmaSem sig := fun | 0 => cc2_sem53_0 | 1 => cc2_sem53_1 | ⟨_ + 2, h⟩ => absurd h (Nat.not_lt.2 (Nat.le_add_left _ _))
abbrev reads2_53 : Fin grid2.rank → Bool := ![true]

abbrev stage2_54 : Fin 2 → Memref sig .tc .vmem S1x8x8192 .f32 := fun | 0 => Memref.whole cc2_stg54_0 | 1 => Memref.whole cc2_stg54_1 | ⟨_ + 2, h⟩ => absurd h (Nat.not_lt.2 (Nat.le_add_left _ _))
abbrev sem2_54 : Fin 2 → DmaSem sig := fun | 0 => cc2_sem54_0 | 1 => cc2_sem54_1 | ⟨_ + 2, h⟩ => absurd h (Nat.not_lt.2 (Nat.le_add_left _ _))
abbrev reads2_54 : Fin grid2.rank → Bool := ![true]

abbrev stage2_55 : Fin 2 → Memref sig .tc .vmem S1x8x8192 .f32 := fun | 0 => Memref.whole cc2_stg55_0 | 1 => Memref.whole cc2_stg55_1 | ⟨_ + 2, h⟩ => absurd h (Nat.not_lt.2 (Nat.le_add_left _ _))
abbrev sem2_55 : Fin 2 → DmaSem sig := fun | 0 => cc2_sem55_0 | 1 => cc2_sem55_1 | ⟨_ + 2, h⟩ => absurd h (Nat.not_lt.2 (Nat.le_add_left _ _))
abbrev reads2_55 : Fin grid2.rank → Bool := ![true]

abbrev stage2_56 : Fin 2 → Memref sig .tc .vmem S1x8x8192 .f32 := fun | 0 => Memref.whole cc2_stg56_0 | 1 => Memref.whole cc2_stg56_1 | ⟨_ + 2, h⟩ => absurd h (Nat.not_lt.2 (Nat.le_add_left _ _))
abbrev sem2_56 : Fin 2 → DmaSem sig := fun | 0 => cc2_sem56_0 | 1 => cc2_sem56_1 | ⟨_ + 2, h⟩ => absurd h (Nat.not_lt.2 (Nat.le_add_left _ _))
abbrev reads2_56 : Fin grid2.rank → Bool := ![true]

abbrev stage2_57 : Fin 2 → Memref sig .tc .vmem S1x8x8192 .f32 := fun | 0 => Memref.whole cc2_stg57_0 | 1 => Memref.whole cc2_stg57_1 | ⟨_ + 2, h⟩ => absurd h (Nat.not_lt.2 (Nat.le_add_left _ _))
abbrev sem2_57 : Fin 2 → DmaSem sig := fun | 0 => cc2_sem57_0 | 1 => cc2_sem57_1 | ⟨_ + 2, h⟩ => absurd h (Nat.not_lt.2 (Nat.le_add_left _ _))
abbrev reads2_57 : Fin grid2.rank → Bool := ![true]

abbrev stage2_58 : Fin 2 → Memref sig .tc .vmem S1x8x8192 .f32 := fun | 0 => Memref.whole cc2_stg58_0 | 1 => Memref.whole cc2_stg58_1 | ⟨_ + 2, h⟩ => absurd h (Nat.not_lt.2 (Nat.le_add_left _ _))
abbrev sem2_58 : Fin 2 → DmaSem sig := fun | 0 => cc2_sem58_0 | 1 => cc2_sem58_1 | ⟨_ + 2, h⟩ => absurd h (Nat.not_lt.2 (Nat.le_add_left _ _))
abbrev reads2_58 : Fin grid2.rank → Bool := ![true]

abbrev stage2_59 : Fin 2 → Memref sig .tc .vmem S1x8x8192 .f32 := fun | 0 => Memref.whole cc2_stg59_0 | 1 => Memref.whole cc2_stg59_1 | ⟨_ + 2, h⟩ => absurd h (Nat.not_lt.2 (Nat.le_add_left _ _))
abbrev sem2_59 : Fin 2 → DmaSem sig := fun | 0 => cc2_sem59_0 | 1 => cc2_sem59_1 | ⟨_ + 2, h⟩ => absurd h (Nat.not_lt.2 (Nat.le_add_left _ _))
abbrev reads2_59 : Fin grid2.rank → Bool := ![true]

abbrev stage2_60 : Fin 2 → Memref sig .tc .vmem S1x8x8192 .f32 := fun | 0 => Memref.whole cc2_stg60_0 | 1 => Memref.whole cc2_stg60_1 | ⟨_ + 2, h⟩ => absurd h (Nat.not_lt.2 (Nat.le_add_left _ _))
abbrev sem2_60 : Fin 2 → DmaSem sig := fun | 0 => cc2_sem60_0 | 1 => cc2_sem60_1 | ⟨_ + 2, h⟩ => absurd h (Nat.not_lt.2 (Nat.le_add_left _ _))
abbrev reads2_60 : Fin grid2.rank → Bool := ![true]

abbrev stage2_61 : Fin 2 → Memref sig .tc .vmem S1x8x8192 .f32 := fun | 0 => Memref.whole cc2_stg61_0 | 1 => Memref.whole cc2_stg61_1 | ⟨_ + 2, h⟩ => absurd h (Nat.not_lt.2 (Nat.le_add_left _ _))
abbrev sem2_61 : Fin 2 → DmaSem sig := fun | 0 => cc2_sem61_0 | 1 => cc2_sem61_1 | ⟨_ + 2, h⟩ => absurd h (Nat.not_lt.2 (Nat.le_add_left _ _))
abbrev reads2_61 : Fin grid2.rank → Bool := ![true]

abbrev stage2_62 : Fin 2 → Memref sig .tc .vmem S1x8x8192 .f32 := fun | 0 => Memref.whole cc2_stg62_0 | 1 => Memref.whole cc2_stg62_1 | ⟨_ + 2, h⟩ => absurd h (Nat.not_lt.2 (Nat.le_add_left _ _))
abbrev sem2_62 : Fin 2 → DmaSem sig := fun | 0 => cc2_sem62_0 | 1 => cc2_sem62_1 | ⟨_ + 2, h⟩ => absurd h (Nat.not_lt.2 (Nat.le_add_left _ _))
abbrev reads2_62 : Fin grid2.rank → Bool := ![true]

abbrev stage2_63 : Fin 2 → Memref sig .tc .vmem S1x8x8192 .f32 := fun | 0 => Memref.whole cc2_stg63_0 | 1 => Memref.whole cc2_stg63_1 | ⟨_ + 2, h⟩ => absurd h (Nat.not_lt.2 (Nat.le_add_left _ _))
abbrev sem2_63 : Fin 2 → DmaSem sig := fun | 0 => cc2_sem63_0 | 1 => cc2_sem63_1 | ⟨_ + 2, h⟩ => absurd h (Nat.not_lt.2 (Nat.le_add_left _ _))
abbrev reads2_63 : Fin grid2.rank → Bool := ![true]

abbrev stage2_64 : Fin 2 → Memref sig .tc .vmem S64x1x1 .f32 := fun | 0 => Memref.whole cc2_stg64_0 | 1 => Memref.whole cc2_stg64_1 | ⟨_ + 2, h⟩ => absurd h (Nat.not_lt.2 (Nat.le_add_left _ _))
abbrev sem2_64 : Fin 2 → DmaSem sig := fun | 0 => cc2_sem64_0 | 1 => cc2_sem64_1 | ⟨_ + 2, h⟩ => absurd h (Nat.not_lt.2 (Nat.le_add_left _ _))
abbrev reads2_64 : Fin grid2.rank → Bool := ![true]

abbrev grid3 : Pipeline.Grid := .none

abbrev stage3_0 : Fin 1 → Memref sig .tc .vmem S1x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x4096 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x4096 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
-- ==== ReferenceIdeal.lean ====
abbrev S512x65536 : Shape := ⟨2, ![512, 65536]⟩
abbrev S512 : Shape := ⟨1, ![512]⟩
abbrev S512x2 : Shape := ⟨2, ![512, 2]⟩
abbrev S65536 : Shape := ⟨1, ![65536]⟩
abbrev S65536x2 : Shape := ⟨2, ![65536, 2]⟩
abbrev S2x16384 : Shape := ⟨2, ![2, 16384]⟩
abbrev S4096 : Shape := ⟨1, ![4096]⟩
abbrev S512x1 : Shape := ⟨2, ![512, 1]⟩
abbrev S1x65536 : Shape := ⟨2, ![1, 65536]⟩
abbrev S65536x1 : Shape := ⟨2, ![65536, 1]⟩
abbrev S_ : Shape := ⟨0, ![]⟩
abbrev S2048x2048 : Shape := ⟨2, ![2048, 2048]⟩
abbrev S1x16384 : Shape := ⟨2, ![1, 16384]⟩
abbrev S16384 : Shape := ⟨1, ![16384]⟩
abbrev S16384x1 : Shape := ⟨2, ![16384, 1]⟩
abbrev S16384x2 : Shape := ⟨2, ![16384, 2]⟩
abbrev S512x2048 : Shape := ⟨2, ![512, 2048]⟩
abbrev S4096x1 : Shape := ⟨2, ![4096, 1]⟩
abbrev S4096x2 : Shape := ⟨2, ![4096, 2]⟩
abbrev S512x1x1 : Shape := ⟨3, ![512, 1, 1]⟩
abbrev S1 : Shape := ⟨1, ![1]⟩
abbrev S1x1x1 : Shape := ⟨3, ![1, 1, 1]⟩
abbrev S512x10 : Shape := ⟨2, ![512, 10]⟩
abbrev S512x10x1 : Shape := ⟨3, ![512, 10, 1]⟩

abbrev nBuf : Space → Nat
  | .hbm => 229
  | .vmem => 0
  | .smem => 0
  | _ => 0

abbrev hbmTy0_0 (i : Nat) : BufTy := match i % 128 with
  | 0 => ⟨S512x65536, .f32⟩
  | 1 => ⟨S512, .i32⟩
  | 2 => ⟨S512x2, .i32⟩
  | 3 => ⟨S65536, .i32⟩
  | 4 => ⟨S65536x2, .i32⟩
  | 5 => ⟨S2x16384, .i32⟩
  | 6 => ⟨S4096, .i32⟩
  | 7 => ⟨S4096, .i32⟩
  | 8 => ⟨S512x1, .i32⟩
  | 9 => ⟨S1x65536, .i32⟩
  | 10 => ⟨S512x65536, .i32⟩
  | 11 => ⟨S512x65536, .i32⟩
  | 12 => ⟨S512x65536, .i1⟩
  | 13 => ⟨S65536x1, .i32⟩
  | 14 => ⟨S65536, .i32⟩
  | 15 => ⟨S1x65536, .i32⟩
  | 16 => ⟨S65536x1, .i32⟩
  | 17 => ⟨S65536, .i32⟩
  | 18 => ⟨S1x65536, .i32⟩
  | 19 => ⟨S512x1, .i32⟩
  | 20 => ⟨S512, .i32⟩
  | 21 => ⟨S512x1, .i32⟩
  | 22 => ⟨S512x1, .i32⟩
  | 23 => ⟨S512, .i32⟩
  | 24 => ⟨S512x1, .i32⟩
  | 25 => ⟨S512x65536, .i32⟩
  | 26 => ⟨S512x65536, .i32⟩
  | 27 => ⟨S512x65536, .i1⟩
  | 28 => ⟨S512x65536, .i32⟩
  | 29 => ⟨S512x65536, .i32⟩
  | 30 => ⟨S512x65536, .i1⟩
  | 31 => ⟨S512x65536, .i32⟩
  | 32 => ⟨S512x65536, .i32⟩
  | 33 => ⟨S512x65536, .i1⟩
  | 34 => ⟨S512x65536, .i1⟩
  | 35 => ⟨S512x65536, .i1⟩
  | 36 => ⟨S512x65536, .i1⟩
  | 37 => ⟨S_, .i1⟩
  | 38 => ⟨S2048x2048, .i1⟩
  | 39 => ⟨S1x16384, .i32⟩
  | 40 => ⟨S16384, .i32⟩
  | 41 => ⟨S1x16384, .i32⟩
  | 42 => ⟨S16384, .i32⟩
  | 43 => ⟨S_, .i32⟩
  | 44 => ⟨S16384, .i32⟩
  | 45 => ⟨S16384, .i1⟩
  | 46 => ⟨S_, .i32⟩
  | 47 => ⟨S16384, .i32⟩
  | 48 => ⟨S16384, .i32⟩
  | 49 => ⟨S16384, .i32⟩
  | 50 => ⟨S_, .i32⟩
  | 51 => ⟨S16384, .i32⟩
  | 52 => ⟨S16384, .i1⟩
  | 53 => ⟨S_, .i32⟩
  | 54 => ⟨S16384, .i32⟩
  | 55 => ⟨S16384, .i32⟩
  | 56 => ⟨S16384, .i32⟩
  | 57 => ⟨S16384x1, .i32⟩
  | 58 => ⟨S16384x1, .i32⟩
  | 59 => ⟨S16384x2, .i32⟩
  | 60 => ⟨S_, .i1⟩
  | 61 => ⟨S16384, .i1⟩
  | 62 => ⟨S2048x2048, .i1⟩
  | 63 => ⟨S_, .i32⟩
  | 64 => ⟨S512, .i32⟩
  | 65 => ⟨S512, .i1⟩
  | 66 => ⟨S_, .i32⟩
  | 67 => ⟨S512, .i32⟩
  | 68 => ⟨S512, .i32⟩
  | 69 => ⟨S512, .i32⟩
  | 70 => ⟨S512x1, .i32⟩
  | 71 => ⟨S512x2048, .i1⟩
  | 72 => ⟨S_, .i32⟩
  | 73 => ⟨S65536, .i32⟩
  | 74 => ⟨S65536, .i1⟩
  | 75 => ⟨S_, .i32⟩
  | 76 => ⟨S65536, .i32⟩
  | 77 => ⟨S65536, .i32⟩
  | 78 => ⟨S65536, .i32⟩
  | 79 => ⟨S65536x1, .i32⟩
  | 80 => ⟨S512x65536, .i1⟩
  | 81 => ⟨S512x65536, .i1⟩
  | 82 => ⟨S_, .f32⟩
  | 83 => ⟨S_, .f32⟩
  | 84 => ⟨S512x65536, .f32⟩
  | 85 => ⟨S512x65536, .f32⟩
  | 86 => ⟨S_, .i1⟩
  | 87 => ⟨S512x65536, .i1⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S4096x1, .i32⟩
  | 104 => ⟨S4096x2, .i32⟩
  | 105 => ⟨S_, .i1⟩
  | 106 => ⟨S4096, .i1⟩
  | 107 => ⟨S512x65536, .i1⟩
  | 108 => ⟨S512x65536, .i32⟩
  | 109 => ⟨S_, .i32⟩
  | 110 => ⟨S512, .i32⟩
  | 111 => ⟨S_, .i32⟩
  | 112 => ⟨S512, .i32⟩
  | 113 => ⟨S512, .i1⟩
  | 114 => ⟨S512, .i32⟩
  | 115 => ⟨S_, .i32⟩
  | 116 => ⟨S_, .i32⟩
  | 117 => ⟨S_, .i32⟩
  | 118 => ⟨S_, .i32⟩
  | 119 => ⟨S512x1, .f32⟩
  | 120 => ⟨S512x1, .i32⟩
  | 121 => ⟨S_, .i32⟩
  | 122 => ⟨S512x1, .i32⟩
  | 123 => ⟨S512x1, .i1⟩
  | 124 => ⟨S_, .i32⟩
  | 125 => ⟨S512x1, .i32⟩
  | 126 => ⟨S512x1, .i32⟩
  | 127 => ⟨S512x1, .i32⟩
  | _ => ⟨S512x65536, .f32⟩

abbrev hbmTy0_1 (i : Nat) : BufTy := match i % 128 with
  | 0 => ⟨S512x1x1, .i32⟩
  | 1 => ⟨S1, .i32⟩
  | 2 => ⟨S_, .i32⟩
  | 3 => ⟨S512x1x1, .i32⟩
  | 4 => ⟨S512x1x1, .i1⟩
  | 5 => ⟨S1x1x1, .i32⟩
  | 6 => ⟨S512x1x1, .i32⟩
  | 7 => ⟨S512x1x1, .i1⟩
  | 8 => ⟨S512x1x1, .i1⟩
  | 9 => ⟨S_, .i1⟩
  | 10 => ⟨S512x1, .i1⟩
  | 11 => ⟨S512x1, .i1⟩
  | 12 => ⟨S_, .i1⟩
  | 13 => ⟨S512x1, .i1⟩
  | 14 => ⟨S512x1, .i1⟩
  | 15 => ⟨S512x1, .i32⟩
  | 16 => ⟨S_, .i32⟩
  | 17 => ⟨S512, .i32⟩
  | 18 => ⟨S_, .i32⟩
  | 19 => ⟨S512, .i32⟩
  | 20 => ⟨S512, .i32⟩
  | 21 => ⟨S512, .f32⟩
  | 22 => ⟨S512, .f32⟩
  | 23 => ⟨S512, .f32⟩
  | 24 => ⟨S_, .f32⟩
  | 25 => ⟨S_, .f32⟩
  | 26 => ⟨S512, .f32⟩
  | 27 => ⟨S512, .f32⟩
  | 28 => ⟨S_, .f32⟩
  | 29 => ⟨S_, .f32⟩
  | 30 => ⟨S_, .f32⟩
  | 31 => ⟨S_, .f32⟩
  | 32 => ⟨S512x10, .f32⟩
  | 33 => ⟨S512x10, .i32⟩
  | 34 => ⟨S_, .i32⟩
  | 35 => ⟨S512x10, .i32⟩
  | 36 => ⟨S512x10, .i1⟩
  | 37 => ⟨S_, .i32⟩
  | 38 => ⟨S512x10, .i32⟩
  | 39 => ⟨S512x10, .i32⟩
  | 40 => ⟨S512x10, .i32⟩
  | 41 => ⟨S512x10x1, .i32⟩
  | 42 => ⟨S1, .i32⟩
  | 43 => ⟨S_, .i32⟩
  | 44 => ⟨S512x10x1, .i32⟩
  | 45 => ⟨S512x10x1, .i1⟩
  | 46 => ⟨S1x1x1, .i32⟩
  | 47 => ⟨S512x10x1, .i32⟩
  | 48 => ⟨S512x10x1, .i1⟩
  | 49 => ⟨S512x10x1, .i1⟩
  | 50 => ⟨S_, .i1⟩
  | 51 => ⟨S512x10, .i1⟩
  | 52 => ⟨S512x10, .i1⟩
  | 53 => ⟨S_, .i1⟩
  | 54 => ⟨S512x10, .i1⟩
  | 55 => ⟨S512x10, .i1⟩
  | 56 => ⟨S512x10, .i32⟩
  | 57 => ⟨S_, .i32⟩
  | 58 => ⟨S512, .i32⟩
  | 59 => ⟨S_, .i32⟩
  | 60 => ⟨S512, .i32⟩
  | 61 => ⟨S512, .i32⟩
  | 62 => ⟨S512, .f32⟩
  | 63 => ⟨S512, .f32⟩
  | 64 => ⟨S512, .f32⟩
  | 65 => ⟨S_, .f32⟩
  | 66 => ⟨S_, .f32⟩
  | 67 => ⟨S512, .f32⟩
  | 68 => ⟨S512, .f32⟩
  | 69 => ⟨S_, .f32⟩
  | 70 => ⟨S_, .f32⟩
  | 71 => ⟨S_, .f32⟩
  | 72 => ⟨S_, .f32⟩
  | 73 => ⟨S512x65536, .f32⟩
  | 74 => ⟨S512x65536, .i32⟩
  | 75 => ⟨S512x65536, .f32⟩
  | 76 => ⟨S512x65536, .i32⟩
  | 77 => ⟨S512x65536, .i32⟩
  | 78 => ⟨S512x65536, .i32⟩
  | 79 => ⟨S512x65536, .i32⟩
  | 80 => ⟨S_, .i32⟩
  | 81 => ⟨S512x65536, .i32⟩
  | 82 => ⟨S512x65536, .i32⟩
  | 83 => ⟨S512x65536, .f32⟩
  | 84 => ⟨S_, .f32⟩
  | 85 => ⟨S_, .f32⟩
  | 86 => ⟨S512x65536, .f32⟩
  | 87 => ⟨S512x65536, .f32⟩
  | 88 => ⟨S_, .f32⟩
  | 89 => ⟨S512, .f32⟩
  | 90 => ⟨S_, .f32⟩
  | 91 => ⟨S512, .f32⟩
  | 92 => ⟨S512, .f32⟩
  | 93 => ⟨S_, .f32⟩
  | 94 => ⟨S_, .f32⟩
  | 95 => ⟨S512, .f32⟩
  | 96 => ⟨S512, .f32⟩
  | 97 => ⟨S_, .f32⟩
  | 98 => ⟨S_, .f32⟩
  | 99 => ⟨S_, .f32⟩
  | 100 => ⟨S_, .f32⟩
  | _ => ⟨S512x65536, .f32⟩

abbrev hbmTy (i : Nat) : BufTy := match i / 128 with
  | 0 => hbmTy0_0 i
  | 1 => hbmTy0_1 i
  | _ => ⟨S512x65536, .f32⟩

abbrev bufTy : (tb : Table) → Fin (tcTables nBuf tb) → BufTy
  | .hbm, ⟨i, _⟩ => hbmTy i
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_0 : Ref sig .tc := ⟨.hbm, 43, rfl⟩
abbrev main_v34 : Ref sig .tc := ⟨.hbm, 44, rfl⟩
abbrev main_v35 : Ref sig .tc := ⟨.hbm, 45, rfl⟩
abbrev main_c_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_2 : Ref sig .tc := ⟨.hbm, 50, rfl⟩
abbrev main_v39 : Ref sig .tc := ⟨.hbm, 51, rfl⟩
abbrev main_v40 : Ref sig .tc := ⟨.hbm, 52, rfl⟩
abbrev main_c_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_4 : Ref sig .tc := ⟨.hbm, 60, rfl⟩
abbrev main_v47 : Ref sig .tc := ⟨.hbm, 61, rfl⟩
abbrev main_v48 : Ref sig .tc := ⟨.hbm, 62, rfl⟩
abbrev main_c_5 : Ref sig .tc := ⟨.hbm, 63, rfl⟩
abbrev main_v49 : Ref sig .tc := ⟨.hbm, 64, rfl⟩
abbrev main_v50 : Ref sig .tc := ⟨.hbm, 65, rfl⟩
abbrev main_c_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_7 : Ref sig .tc := ⟨.hbm, 72, rfl⟩
abbrev main_v56 : Ref sig .tc := ⟨.hbm, 73, rfl⟩
abbrev main_v57 : Ref sig .tc := ⟨.hbm, 74, rfl⟩
abbrev main_c_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst : Ref sig .tc := ⟨.hbm, 82, rfl⟩
abbrev main_call0_v0 : Ref sig .tc := ⟨.hbm, 83, rfl⟩
abbrev main_call0_v1 : Ref sig .tc := ⟨.hbm, 84, rfl⟩
abbrev main_v64 : Ref sig .tc := ⟨.hbm, 85, rfl⟩
abbrev main_c_9 : Ref sig .tc := ⟨.hbm, 86, rfl⟩
abbrev main_v65 : Ref sig .tc := ⟨.hbm, 87, rfl⟩
abbrev main_c_10 : Ref sig .tc := ⟨.hbm, 88, rfl⟩
abbrev main_v66 : Ref sig .tc := ⟨.hbm, 89, rfl⟩
abbrev main_v67 : Ref sig .tc := ⟨.hbm, 90, rfl⟩
abbrev main_c_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_12 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_15 : Ref sig .tc := ⟨.hbm, 109, rfl⟩
abbrev main_v82 : Ref sig .tc := ⟨.hbm, 110, rfl⟩
abbrev main_c_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_17 : Ref sig .tc := ⟨.hbm, 115, rfl⟩
abbrev main_v86 : Ref sig .tc := ⟨.hbm, 116, rfl⟩
abbrev main_c_18 : Ref sig .tc := ⟨.hbm, 117, rfl⟩
abbrev main_v87 : Ref sig .tc := ⟨.hbm, 118, rfl⟩
abbrev main_values : Ref sig .tc := ⟨.hbm, 119, rfl⟩
abbrev main_indices : Ref sig .tc := ⟨.hbm, 120, rfl⟩
abbrev main_call1_c : Ref sig .tc := ⟨.hbm, 121, rfl⟩
abbrev main_call1_v0 : Ref sig .tc := ⟨.hbm, 122, rfl⟩
abbrev main_call1_v1 : Ref sig .tc := ⟨.hbm, 123, rfl⟩
abbrev main_call1_c_0 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_c_1 : Ref sig .tc := ⟨.hbm, 129, rfl⟩
abbrev main_call1_c_2 : Ref sig .tc := ⟨.hbm, 130, rfl⟩
abbrev main_call1_v6 : Ref sig .tc := ⟨.hbm, 131, rfl⟩
abbrev main_call1_v7 : Ref sig .tc := ⟨.hbm, 132, rfl⟩
abbrev main_call1_v8 : Ref sig .tc := ⟨.hbm, 133, rfl⟩
abbrev main_call1_v9 : Ref sig .tc := ⟨.hbm, 134, rfl⟩
abbrev main_call1_v10 : Ref sig .tc := ⟨.hbm, 135, rfl⟩
abbrev main_call1_v11 : Ref sig .tc := ⟨.hbm, 136, rfl⟩
abbrev main_call1_c_3 : Ref sig .tc := ⟨.hbm, 137, rfl⟩
abbrev main_call1_v12 : Ref sig .tc := ⟨.hbm, 138, rfl⟩
abbrev main_call1_v13 : Ref sig .tc := ⟨.hbm, 139, rfl⟩
abbrev main_call1_c_4 : Ref sig .tc := ⟨.hbm, 140, rfl⟩
abbrev main_call1_v14 : Ref sig .tc := ⟨.hbm, 141, rfl⟩
abbrev main_v88 : Ref sig .tc := ⟨.hbm, 142, rfl⟩
abbrev main_v89 : Ref sig .tc := ⟨.hbm, 143, rfl⟩
abbrev main_c_19 : Ref sig .tc := ⟨.hbm, 144, rfl⟩
abbrev main_v90 : Ref sig .tc := ⟨.hbm, 145, rfl⟩
abbrev main_c_20 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_21 : Ref sig .tc := ⟨.hbm, 152, rfl⟩
abbrev main_call2_v0 : Ref sig .tc := ⟨.hbm, 153, rfl⟩
abbrev main_call2_v1 : Ref sig .tc := ⟨.hbm, 154, rfl⟩
abbrev main_v96 : Ref sig .tc := ⟨.hbm, 155, rfl⟩
abbrev main_cst_22 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_values_23 : Ref sig .tc := ⟨.hbm, 160, rfl⟩
abbrev main_indices_24 : Ref sig .tc := ⟨.hbm, 161, rfl⟩
abbrev main_call3_c : Ref sig .tc := ⟨.hbm, 162, rfl⟩
abbrev main_call3_v0 : Ref sig .tc := ⟨.hbm, 163, rfl⟩
abbrev main_call3_v1 : Ref sig .tc := ⟨.hbm, 164, rfl⟩
abbrev main_call3_c_0 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_c_1 : Ref sig .tc := ⟨.hbm, 170, rfl⟩
abbrev main_call3_c_2 : Ref sig .tc := ⟨.hbm, 171, rfl⟩
abbrev main_call3_v6 : Ref sig .tc := ⟨.hbm, 172, rfl⟩
abbrev main_call3_v7 : Ref sig .tc := ⟨.hbm, 173, rfl⟩
abbrev main_call3_v8 : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_c_3 : Ref sig .tc := ⟨.hbm, 178, rfl⟩
abbrev main_call3_v12 : Ref sig .tc := ⟨.hbm, 179, rfl⟩
abbrev main_call3_v13 : Ref sig .tc := ⟨.hbm, 180, rfl⟩
abbrev main_call3_c_4 : Ref sig .tc := ⟨.hbm, 181, rfl⟩
abbrev main_call3_v14 : Ref sig .tc := ⟨.hbm, 182, rfl⟩
abbrev main_v100 : Ref sig .tc := ⟨.hbm, 183, rfl⟩
abbrev main_v101 : Ref sig .tc := ⟨.hbm, 184, rfl⟩
abbrev main_c_25 : Ref sig .tc := ⟨.hbm, 185, rfl⟩
abbrev main_v102 : Ref sig .tc := ⟨.hbm, 186, rfl⟩
abbrev main_c_26 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_cst_27 : Ref sig .tc := ⟨.hbm, 193, rfl⟩
abbrev main_call4_v0 : Ref sig .tc := ⟨.hbm, 194, rfl⟩
abbrev main_call4_v1 : Ref sig .tc := ⟨.hbm, 195, rfl⟩
abbrev main_v108 : Ref sig .tc := ⟨.hbm, 196, rfl⟩
abbrev main_cst_28 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_call5_v0 : Ref sig .tc := ⟨.hbm, 202, rfl⟩
abbrev main_call5_v1_0 : Ref sig .tc := ⟨.hbm, 203, rfl⟩
abbrev main_v113 : Ref sig .tc := ⟨.hbm, 204, rfl⟩
abbrev main_call6_v0 : Ref sig .tc := ⟨.hbm, 205, rfl⟩
abbrev main_call6_v1_0 : Ref sig .tc := ⟨.hbm, 206, rfl⟩
abbrev main_v114 : Ref sig .tc := ⟨.hbm, 207, rfl⟩
abbrev main_c_29 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_cst_30 : Ref sig .tc := ⟨.hbm, 212, rfl⟩
abbrev main_call7_v0 : Ref sig .tc := ⟨.hbm, 213, rfl⟩
abbrev main_call7_v1 : Ref sig .tc := ⟨.hbm, 214, rfl⟩
abbrev main_v118 : Ref sig .tc := ⟨.hbm, 215, rfl⟩
abbrev main_cst_31 : Ref sig .tc := ⟨.hbm, 216, rfl⟩
abbrev main_v119 : Ref sig .tc := ⟨.hbm, 217, rfl⟩
abbrev main_cst_32 : Ref sig .tc := ⟨.hbm, 218, rfl⟩
abbrev main_v120 : Ref sig .tc := ⟨.hbm, 219, rfl⟩
abbrev main_v121 : Ref sig .tc := ⟨.hbm, 220, rfl⟩
abbrev main_cst_33 : Ref sig .tc := ⟨.hbm, 221, rfl⟩
abbrev main_call8_v0 : Ref sig .tc := ⟨.hbm, 222, rfl⟩
abbrev main_call8_v1 : Ref sig .tc := ⟨.hbm, 223, rfl⟩
abbrev main_v122 : Ref sig .tc := ⟨.hbm, 224, rfl⟩
abbrev main_cst_34 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩

abbrev nD : Nat := 1
abbrev τ : Topo := Topo.v7x

variable {F : FTy → Type} [FloatOps F]
-- ==== Proof.KernelIdeal.Base.lean ====
/-
  What the four calls' modules share: the algebra the run is carried out over, a buffer held whole,
  and reading back a buffer one store has filled.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionsLoop
public import Idealize.ShloMosaic.Lib.Tactic
public import Idealize.ShloMosaic.Lib.VecWindow
public import Idealize.ShloMosaic.Lib.WritesUnit
public import Idealize.ShloMosaic.Lib.Pipeline.FrameBody

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The run's own algebra: the pipelines' rounds alone. -/
abbrev UU : Type := UR sig nD τ

local notation "𝕄" => MT nD τ sig Unit (Elt F) ℕ UU ℕ

/-- The contents of the buffer a memref names. -/
abbrev Bf (c : Dev nD) {sp : Space} {S : Shape} {e : EltTy} (M : Memref sig .tc sp S e) : Type := Buf (Elt F) (M.view.loc (c : Thread nD τ))
/-- That buffer held whole at the given contents. -/
abbrev pt (c : Dev nD) {sp : Space} {S : Shape} {e : EltTy} (M : Memref sig .tc sp S e) (f : Bf (F := F) c M) : sProp 𝕄 :=
  M.view.loc (c : Thread nD τ) ↦{fullShare} f

/-- No core owes another anything: no level is assigned. -/
abbrev L : GSem nD τ sig → Finset Unit := fun _ => ∅
abbrev lv : GSem nD τ sig → Unit → ℕ := fun _ _ => 0
abbrev 𝒱₀ : Variants := Variants.none

omit [FloatOps F] in
/-- A buffer filled by one store of its own sizes reads as what was stored. -/
theorem read_filled {sp : Space} {S : Shape} {e : EltTy} (M : Memref sig .tc sp S e) (f : M.view.ty.Contents (Elt F))
    {off : Fin S.rank → ℕ} (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  funext y
  refine View.read_writes_cons_unit_of_mem (off' := fun _ => 0) _ _ inb w L y y (funext fun a => by have := inb a; omega) fun a => ?_
  omega

omit [FloatOps F] in
/-- Owning a whole memref's elements at given values is holding its buffer at contents that read so. -/
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

/-- What a call not described here does: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

end Cert.Proof.KernelIdeal

end
-- ==== Proof.KernelIdeal.CrowsBody.lean ====
/-
  The crows call's body, run at its first point, at a middle point and at its last point: what it leaves in the
  accumulator and, at the last point, in the result's block.
-/
module

public import proofs.«01_k».proof.Proof.KernelIdeal.Base

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Whether the point is the first. -/
abbrev isFirst (i : grid0.Coords) : Prop := Scalar.cmpi .ne (Scalar.extui (Scalar.cmpi .eq (BitVec.ofNat 32 (i 0).val) 0#32) : BitVec 32) 0#32 = 1#1

/-- The body's run at the first point. -/
def crowsFirst (c : Dev nD) (i : grid0.Coords) (hf : isFirst i) (hl : ¬ k0_cond2 i = 1#1) (M0 : Memref sig .tc .vmem S512x1 .i32) (h0 : M0.IsWhole) (M1 : Memref sig .tc .vmem S1x1024 .i32) (h1 : M1.IsWhole) (M2 : Memref sig .tc .vmem S1024x1 .i32) (h2 : M2.IsWhole) (M3 : Memref sig .tc .vmem S512x2048 .bf16) (h3 : M3.IsWhole) (M4 : Memref sig .tc .vmem S512x2048 .f32) (h4 : M4.IsWhole)
    (f0 : Bf (F := F) c M0) (f1 : Bf (F := F) c M1) (f2 : Bf (F := F) c M2)  :
    { W : Bf (F := F) c M4 // ∀ (f3 : Bf (F := F) c M3) (f4 : Bf (F := F) c M4) (E : Set ℕ) (Q : PUnit → sProp 𝕄),
        iprop(pt c M0 f0 ∗ pt c M1 f1 ∗ pt c M2 f2 ∗ pt c M3 f3 ∗ pt c M4 f4 ∗ (iprop(pt c M0 f0 ∗ pt c M1 f1 ∗ pt c M2 f2 ∗ pt c M3 f3 ∗ pt c M4 W) -∗ Q ⟨⟩))
          ⊢ wp frame (wpE (defs₀ (F := F)) Variants.none c none) E (cc0__crows_kernel i M0 h0 M1 h1 M2 h2 M3 h3 M4 h4) Q } := by
  refine ⟨?_, fun f3 f4 E Q => ?run⟩
  case run =>
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

/-- What that run leaves, read back. -/
theorem crowsFirst_read4 (c : Dev nD) (i : grid0.Coords) (hf : isFirst i) (hl : ¬ k0_cond2 i = 1#1) (M0 : Memref sig .tc .vmem S512x1 .i32) (h0 : M0.IsWhole) (M1 : Memref sig .tc .vmem S1x1024 .i32) (h1 : M1.IsWhole) (M2 : Memref sig .tc .vmem S1024x1 .i32) (h2 : M2.IsWhole) (M3 : Memref sig .tc .vmem S512x2048 .bf16) (h3 : M3.IsWhole) (M4 : Memref sig .tc .vmem S512x2048 .f32) (h4 : M4.IsWhole)
    (f0 : Bf (F := F) c M0) (f1 : Bf (F := F) c M1) (f2 : Bf (F := F) c M2) :
    M4.view.read (Elt F) (crowsFirst c i hf hl M0 h0 M1 h1 M2 h2 M3 h3 M4 h4 f0 f1 f2).1 = k0_pay2 (M0.view.read (Elt F) f0) (M1.view.read (Elt F) f1) (M2.view.read (Elt F) f2) (k0_pay1 (F := F)) := by
  rw [show (crowsFirst c i hf hl M0 h0 M1 h1 M2 h2 M3 h3 M4 h4 f0 f1 f2).1 = M4.view.writes (Elt F) M4.view.junk (crowsFirst.sl.H4_2 c M0 M1 M2 M4 f0 f1 f2) from by delta crowsFirst; dsimp only]
  delta crowsFirst.sl.H4_2
  rw [read_filled]
  try delta crowsFirst.sl.v21 crowsFirst.sl.H4_1
  simp only [↓View.readAt_full, ↓View.readCov_full]

/-- The body from its blocks' values to what it leaves, at the first point. -/
theorem crowsStepFirst (c : Dev nD) (i : grid0.Coords) (hf : isFirst i) (hl : ¬ k0_cond2 i = 1#1) (M0 : Memref sig .tc .vmem S512x1 .i32) (h0 : M0.IsWhole) (M1 : Memref sig .tc .vmem S1x1024 .i32) (h1 : M1.IsWhole) (M2 : Memref sig .tc .vmem S1024x1 .i32) (h2 : M2.IsWhole) (M3 : Memref sig .tc .vmem S512x2048 .bf16) (h3 : M3.IsWhole) (M4 : Memref sig .tc .vmem S512x2048 .f32) (h4 : M4.IsWhole)
    (X0 : S512x1.Idx → Elt F .i32) (X1 : S1x1024.Idx → Elt F .i32) (X2 : S1024x1.Idx → Elt F .i32) (X3 : S512x2048.Idx → Elt F .bf16) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ (∃ d, owns (c : Thread nD τ) M4 fullShare d) ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare (k0_pay2 X0 X1 X2 (k0_pay1 (F := F)))) -∗ Q ⟨⟩))
      ⊢ wp frame (wpE (defs₀ (F := F)) Variants.none c none) E (cc0__crows_kernel i M0 h0 M1 h1 M2 h2 M3 h3 M4 h4) Q := by
  simp only [owns_of_whole c M0 h0]
  simp only [owns_of_whole c M1 h1]
  simp only [owns_of_whole c M2 h2]
  simp only [owns_of_whole c M3 h3]
  simp only [owns_of_whole c M4 h4]
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  iapply ((crowsFirst c i hf hl M0 h0 M1 h1 M2 h2 M3 h3 M4 h4 f0 f1 f2).2 f3 f4 E Q)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap; (· iexact H4); ipureintro; exact crowsFirst_read4 c i hf hl M0 h0 M1 h1 M2 h2 M3 h3 M4 h4 f0 f1 f2

/-- The body's run at a middle point. -/
def crowsMid (c : Dev nD) (i : grid0.Coords) (hf : ¬ isFirst i) (hl : ¬ k0_cond2 i = 1#1) (M0 : Memref sig .tc .vmem S512x1 .i32) (h0 : M0.IsWhole) (M1 : Memref sig .tc .vmem S1x1024 .i32) (h1 : M1.IsWhole) (M2 : Memref sig .tc .vmem S1024x1 .i32) (h2 : M2.IsWhole) (M3 : Memref sig .tc .vmem S512x2048 .bf16) (h3 : M3.IsWhole) (M4 : Memref sig .tc .vmem S512x2048 .f32) (h4 : M4.IsWhole)
    (f0 : Bf (F := F) c M0) (f1 : Bf (F := F) c M1) (f2 : Bf (F := F) c M2) (f4 : Bf (F := F) c M4)  :
    { W : Bf (F := F) c M4 // ∀ (f3 : Bf (F := F) c M3) (E : Set ℕ) (Q : PUnit → sProp 𝕄),
        iprop(pt c M0 f0 ∗ pt c M1 f1 ∗ pt c M2 f2 ∗ pt c M3 f3 ∗ pt c M4 f4 ∗ (iprop(pt c M0 f0 ∗ pt c M1 f1 ∗ pt c M2 f2 ∗ pt c M3 f3 ∗ pt c M4 W) -∗ Q ⟨⟩))
          ⊢ wp frame (wpE (defs₀ (F := F)) Variants.none c none) E (cc0__crows_kernel i M0 h0 M1 h1 M2 h2 M3 h3 M4 h4) Q } := by
  refine ⟨?_, fun f3 E Q => ?run⟩
  case run =>
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

/-- What that run leaves, read back. -/
theorem crowsMid_read4 (c : Dev nD) (i : grid0.Coords) (hf : ¬ isFirst i) (hl : ¬ k0_cond2 i = 1#1) (M0 : Memref sig .tc .vmem S512x1 .i32) (h0 : M0.IsWhole) (M1 : Memref sig .tc .vmem S1x1024 .i32) (h1 : M1.IsWhole) (M2 : Memref sig .tc .vmem S1024x1 .i32) (h2 : M2.IsWhole) (M3 : Memref sig .tc .vmem S512x2048 .bf16) (h3 : M3.IsWhole) (M4 : Memref sig .tc .vmem S512x2048 .f32) (h4 : M4.IsWhole)
    (f0 : Bf (F := F) c M0) (f1 : Bf (F := F) c M1) (f2 : Bf (F := F) c M2) (f4 : Bf (F := F) c M4) :
    M4.view.read (Elt F) (crowsMid c i hf hl M0 h0 M1 h1 M2 h2 M3 h3 M4 h4 f0 f1 f2 f4).1 = k0_pay2 (M0.view.read (Elt F) f0) (M1.view.read (Elt F) f1) (M2.view.read (Elt F) f2) (M4.view.read (Elt F) f4) := by
  rw [show (crowsMid c i hf hl M0 h0 M1 h1 M2 h2 M3 h3 M4 h4 f0 f1 f2 f4).1 = M4.view.writes (Elt F) M4.view.junk (crowsMid.sl.H4_1 c M0 M1 M2 M4 f0 f1 f2 f4) from by delta crowsMid; dsimp only]
  delta crowsMid.sl.H4_1
  rw [read_filled]
  try delta k0_xx
  simp only [↓View.readAt_full, ↓View.readCov_full]

/-- The body from its blocks' values to what it leaves, at a middle point. -/
theorem crowsStepMid (c : Dev nD) (i : grid0.Coords) (hf : ¬ isFirst i) (hl : ¬ k0_cond2 i = 1#1) (M0 : Memref sig .tc .vmem S512x1 .i32) (h0 : M0.IsWhole) (M1 : Memref sig .tc .vmem S1x1024 .i32) (h1 : M1.IsWhole) (M2 : Memref sig .tc .vmem S1024x1 .i32) (h2 : M2.IsWhole) (M3 : Memref sig .tc .vmem S512x2048 .bf16) (h3 : M3.IsWhole) (M4 : Memref sig .tc .vmem S512x2048 .f32) (h4 : M4.IsWhole)
    (X0 : S512x1.Idx → Elt F .i32) (X1 : S1x1024.Idx → Elt F .i32) (X2 : S1024x1.Idx → Elt F .i32) (X4 : S512x2048.Idx → Elt F .f32) (X3 : S512x2048.Idx → Elt F .bf16) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare (k0_pay2 X0 X1 X2 X4)) -∗ Q ⟨⟩))
      ⊢ wp frame (wpE (defs₀ (F := F)) Variants.none c none) E (cc0__crows_kernel i M0 h0 M1 h1 M2 h2 M3 h3 M4 h4) Q := by
  simp only [owns_of_whole c M0 h0]
  simp only [owns_of_whole c M1 h1]
  simp only [owns_of_whole c M2 h2]
  simp only [owns_of_whole c M3 h3]
  simp only [owns_of_whole c M4 h4]
  iintro ⟨⟨%f0, %hf0, H0⟩, ⟨%f1, %hf1, H1⟩, ⟨%f2, %hf2, H2⟩, ⟨%f3, %hf3, H3⟩, ⟨%f4, %hf4, H4⟩, Hk⟩
  subst hf0
  subst hf1
  subst hf2
  subst hf3
  subst hf4
  iapply ((crowsMid c i hf hl M0 h0 M1 h1 M2 h2 M3 h3 M4 h4 f0 f1 f2 f4).2 f3 E Q)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap; (· iexact H4); ipureintro; exact crowsMid_read4 c i hf hl M0 h0 M1 h1 M2 h2 M3 h3 M4 h4 f0 f1 f2 f4

/-- The body's run at the last point. -/
def crowsLast (c : Dev nD) (i : grid0.Coords) (hf : ¬ isFirst i) (hl : k0_cond2 i = 1#1) (M0 : Memref sig .tc .vmem S512x1 .i32) (h0 : M0.IsWhole) (M1 : Memref sig .tc .vmem S1x1024 .i32) (h1 : M1.IsWhole) (M2 : Memref sig .tc .vmem S1024x1 .i32) (h2 : M2.IsWhole) (M3 : Memref sig .tc .vmem S512x2048 .bf16) (h3 : M3.IsWhole) (M4 : Memref sig .tc .vmem S512x2048 .f32) (h4 : M4.IsWhole)
    (f0 : Bf (F := F) c M0) (f1 : Bf (F := F) c M1) (f2 : Bf (F := F) c M2) (f4 : Bf (F := F) c M4)  :
    { W : Bf (F := F) c M3 × Bf (F := F) c M4 // ∀ (f3 : Bf (F := F) c M3) (E : Set ℕ) (Q : PUnit → sProp 𝕄),
        iprop(pt c M0 f0 ∗ pt c M1 f1 ∗ pt c M2 f2 ∗ pt c M3 f3 ∗ pt c M4 f4 ∗ (iprop(pt c M0 f0 ∗ pt c M1 f1 ∗ pt c M2 f2 ∗ pt c M3 W.1 ∗ pt c M4 W.2) -∗ Q ⟨⟩))
          ⊢ wp frame (wpE (defs₀ (F := F)) Variants.none c none) E (cc0__crows_kernel i M0 h0 M1 h1 M2 h2 M3 h3 M4 h4) Q } := by
  refine ⟨(?_, ?_), fun f3 E Q => ?run⟩
  case run =>
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

/-- What that run leaves, read back. -/
theorem crowsLast_read3 (c : Dev nD) (i : grid0.Coords) (hf : ¬ isFirst i) (hl : k0_cond2 i = 1#1) (M0 : Memref sig .tc .vmem S512x1 .i32) (h0 : M0.IsWhole) (M1 : Memref sig .tc .vmem S1x1024 .i32) (h1 : M1.IsWhole) (M2 : Memref sig .tc .vmem S1024x1 .i32) (h2 : M2.IsWhole) (M3 : Memref sig .tc .vmem S512x2048 .bf16) (h3 : M3.IsWhole) (M4 : Memref sig .tc .vmem S512x2048 .f32) (h4 : M4.IsWhole)
    (f0 : Bf (F := F) c M0) (f1 : Bf (F := F) c M1) (f2 : Bf (F := F) c M2) (f4 : Bf (F := F) c M4) :
    M3.view.read (Elt F) (crowsLast c i hf hl M0 h0 M1 h1 M2 h2 M3 h3 M4 h4 f0 f1 f2 f4).1.1 = k0_pay3 (k0_pay2 (M0.view.read (Elt F) f0) (M1.view.read (Elt F) f1) (M2.view.read (Elt F) f2) (M4.view.read (Elt F) f4)) := by
  rw [show (crowsLast c i hf hl M0 h0 M1 h1 M2 h2 M3 h3 M4 h4 f0 f1 f2 f4).1.1 = M3.view.writes (Elt F) M3.view.junk (crowsLast.sl.H3_1 c M0 M1 M2 M4 f0 f1 f2 f4) from by delta crowsLast; dsimp only]
  delta crowsLast.sl.H3_1
  rw [read_filled]
  try delta crowsLast.sl.v30 crowsLast.sl.H4_1
  simp only [↓View.readAt_full, ↓View.readCov_full]

/-- What that run leaves, read back. -/
theorem crowsLast_read4 (c : Dev nD) (i : grid0.Coords) (hf : ¬ isFirst i) (hl : k0_cond2 i = 1#1) (M0 : Memref sig .tc .vmem S512x1 .i32) (h0 : M0.IsWhole) (M1 : Memref sig .tc .vmem S1x1024 .i32) (h1 : M1.IsWhole) (M2 : Memref sig .tc .vmem S1024x1 .i32) (h2 : M2.IsWhole) (M3 : Memref sig .tc .vmem S512x2048 .bf16) (h3 : M3.IsWhole) (M4 : Memref sig .tc .vmem S512x2048 .f32) (h4 : M4.IsWhole)
    (f0 : Bf (F := F) c M0) (f1 : Bf (F := F) c M1) (f2 : Bf (F := F) c M2) (f4 : Bf (F := F) c M4) :
    M4.view.read (Elt F) (crowsLast c i hf hl M0 h0 M1 h1 M2 h2 M3 h3 M4 h4 f0 f1 f2 f4).1.2 = k0_pay2 (M0.view.read (Elt F) f0) (M1.view.read (Elt F) f1) (M2.view.read (Elt F) f2) (M4.view.read (Elt F) f4) := by
  rw [show (crowsLast c i hf hl M0 h0 M1 h1 M2 h2 M3 h3 M4 h4 f0 f1 f2 f4).1.2 = M4.view.writes (Elt F) M4.view.junk (crowsLast.sl.H4_1 c M0 M1 M2 M4 f0 f1 f2 f4) from by delta crowsLast; dsimp only]
  delta crowsLast.sl.H4_1
  rw [read_filled]
  try delta crowsLast.sl.v30 crowsLast.sl.H4_1
  simp only [↓View.readAt_full, ↓View.readCov_full]

/-- The body from its blocks' values to what it leaves, at the last point. -/
theorem crowsStepLast (c : Dev nD) (i : grid0.Coords) (hf : ¬ isFirst i) (hl : k0_cond2 i = 1#1) (M0 : Memref sig .tc .vmem S512x1 .i32) (h0 : M0.IsWhole) (M1 : Memref sig .tc .vmem S1x1024 .i32) (h1 : M1.IsWhole) (M2 : Memref sig .tc .vmem S1024x1 .i32) (h2 : M2.IsWhole) (M3 : Memref sig .tc .vmem S512x2048 .bf16) (h3 : M3.IsWhole) (M4 : Memref sig .tc .vmem S512x2048 .f32) (h4 : M4.IsWhole)
    (X0 : S512x1.Idx → Elt F .i32) (X1 : S1x1024.Idx → Elt F .i32) (X2 : S1024x1.Idx → Elt F .i32) (X4 : S512x2048.Idx → Elt F .f32) (E : Set ℕ) (Q : PUnit → sProp 𝕄) :
    iprop(owns (c : Thread nD τ) M0 fullShare X0 ∗ owns (c : Thread nD τ) M1 fullShare X1 ∗ owns (c : Thread nD τ) M2 fullShare X2 ∗ (∃ d, owns (c : Thread nD τ) M3 fullShare d) ∗ owns (c : Thread nD τ) M4 fullShare X4 ∗ (iprop(owns (c : Thread nD τ) M0 fullShare X0 ∗ owns (c : Thread nD τ) M1 fullShare X1 ∗ owns (c : Thread nD τ) M2 fullShare X2 ∗ owns (c : Thread nD τ) M3 fullShare (k0_pay3 (k0_pay2 X0 X1 X2 X4)) ∗ owns (c : Thread nD τ) M4 fullShare (k0_pay2 X0 X1 X2 X4)) -∗ Q ⟨⟩))
      ⊢ wp frame (wpE (defs₀ (F := F)) Variants.none c none) E (cc0__crows_kernel i M0 h0 M1 h1 M2 h2 M3 h3 M4 h4) Q := by
  simp only [owns_of_whole c M0 h0]
  simp only [owns_of_whole c M1 h1]
  simp only [owns_of_whole c M2 h2]
  simp only [owns_of_whole c M3 h3]
  simp only [owns_of_whole c M4 h4]
  iintro ⟨⟨%f0, %hf0, H0⟩, ⟨%f1, %hf1, H1⟩, ⟨%f2, %hf2, H2⟩, ⟨%d3, %f3, -, H3⟩, ⟨%f4, %hf4, H4⟩, Hk⟩
  subst hf0
  subst hf1
  subst hf2
  subst hf4
  iapply ((crowsLast c i hf hl M0 h0 M1 h1 M2 h2 M3 h3 M4 h4 f0 f1 f2 f4).2 f3 E Q)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; exact crowsLast_read3 c i hf hl M0 h0 M1 h1 M2 h2 M3 h3 M4 h4 f0 f1 f2 f4
  iexists _; isplitr; swap; (· iexact H4); ipureintro; exact crowsLast_read4 c i hf hl M0 h0 M1 h1 M2 h2 M3 h3 M4 h4 f0 f1 f2 f4

end Cert.Proof.KernelIdeal

end
-- ==== Proof.KernelIdeal.CrowsStage.lean ====
/-
  The crows call as a stage of the run: the accumulator before every point, what the staging blocks hold, and the
  body's obligation.
-/
module

public import proofs.«01_k».proof.Proof.KernelIdeal.CrowsBody

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Valuation τ sig (Elt F))

/-- What the call's window `w` shows of its array at point `t`. -/
abbrev blk0 (c : Dev nD) (w : Fin 4) (t : Fin cfg0.N) := ((cfg0.win w).blk t).view.read (Elt F) (V c (Pipeline.arrRef spec0 w))

/-- The accumulator after `n` points: zero, then each point's edges added. -/
def acc0 (c : Dev nD) : ℕ → Vec F S512x2048 .f32
  | 0 => k0_pay1 (F := F)
  | n + 1 => if h : n < cfg0.N then k0_pay2 (blk0 V c 0 ⟨n, h⟩) (blk0 V c 1 ⟨n, h⟩) (blk0 V c 2 ⟨n, h⟩) (acc0 c n) else acc0 c n

/-- One more point's edges. -/
theorem acc0_succ (c : Dev nD) (t : Fin cfg0.N) : acc0 V c (t.val + 1) = k0_pay2 (blk0 V c 0 t) (blk0 V c 1 t) (blk0 V c 2 t) (acc0 V c t.val) := by
  exact dif_pos t.isLt

/-- The accumulator, held: at anything before the first point, after it at what the points so far have left. -/
def scr0 (c : Dev nD) (n : ℕ) : sProp 𝕄 :=
  iprop(∃ X : S512x2048.Idx → Elt F .f32, ⌜n ≠ 0 → X = acc0 V c n⌝ ∗ owns (c : Thread nD τ) (Memref.whole cc0_scratch0) fullShare X)

/-- The call's data: every operand's block is fetched, the result's is the rounded accumulator. -/
def dat0 (c : Dev nD) : Dat τ (Elt F) Unit ℕ UU ℕ cfg0 c where
  A w := V c (Pipeline.arrRef spec0 w)
  after w t := match w with
    | 0 => blk0 V c 0 t
    | 1 => blk0 V c 1 t
    | 2 => blk0 V c 2 t
    | 3 => k0_pay3 (acc0 V c (t.val + 1))
  Φ t := iprop(scr0 V c t.val ∗ Pipeline.scopedRestBut (Ix := Unit) (Name := ℕ) (U := UU) (Lvl := ℕ) (Val := Elt F) spec0 c [cc0_scratch0])
  q _ := fullShare
  owed _ := 0

/-- An operand's block is what its window shows. -/
theorem before0_0 (c : Dev nD) (t : Fin cfg0.N) (d) : (dat0 V c).before 0 t d = blk0 V c 0 t :=
  Dat.before_in_eq_fetched (dat0 V c) 0 rfl (fun _ => rfl) (fun _ _ _ => rfl) (fun _ => rfl) t d

/-- An operand's block is what its window shows. -/
theorem before0_1 (c : Dev nD) (t : Fin cfg0.N) (d) : (dat0 V c).before 1 t d = blk0 V c 1 t :=
  Dat.before_in_eq_fetched (dat0 V c) 1 rfl (fun _ => rfl) (fun _ _ _ => rfl) (fun _ => rfl) t d

/-- An operand's block is what its window shows. -/
theorem before0_2 (c : Dev nD) (t : Fin cfg0.N) (d) : (dat0 V c).before 2 t d = blk0 V c 2 t :=
  Dat.before_in_eq_fetched (dat0 V c) 2 rfl (fun _ => rfl) (fun _ _ _ => rfl) (fun _ => rfl) t d

/-- The first point is the one numbered zero. -/
theorem first_iff : ∀ t : Fin grid0.N, isFirst (grid0.coords t) ↔ t.val = 0 := by decide +kernel
/-- The last point is the one the result is written at. -/
theorem last_iff : ∀ t : Fin grid0.N, k0_cond2 (grid0.coords t) = 1#1 ↔ t.val % 16 = 15 := by decide +kernel

set_option maxRecDepth 4000 in
/-- The body keeps its obligation at every point. -/
theorem body0 (c : Dev nD) : BodyObligation (dat0 V c) (defs₀ (F := F)) 𝒱₀ () Set.univ := fun t => by
  rw [bigSep_W0, bigSep_W0]
  simp only [before0_0, before0_1, before0_2]
  rw [show (dat0 V c).Φ t.castSucc = iprop(scr0 V c t.val ∗ Pipeline.scopedRestBut (Ix := Unit) (Name := ℕ) (U := UU) (Lvl := ℕ) (Val := Elt F) spec0 c [cc0_scratch0]) from rfl,
    show (dat0 V c).Φ t.succ = iprop(scr0 V c (t.val + 1) ∗ Pipeline.scopedRestBut (Ix := Unit) (Name := ℕ) (U := UU) (Lvl := ℕ) (Val := Elt F) spec0 c [cc0_scratch0]) from rfl]
  change _ ⊢ wp _ _ _ (bodyAt0 t) _
  unfold scr0
  by_cases hl : k0_cond2 (grid0.coords t) = 1#1
  · have hf : ¬ isFirst (grid0.coords t) := fun h => by
      have h1 := (first_iff t).1 h; have h2 := (last_iff t).1 hl; omega
    have hi : idle0 3 (grid0.coords t) = false := by
      show (!(k0_cond2 (grid0.coords t) == 1#1)) = false
      rw [hl]; rfl
    simp only [hi]
    iintro ⟨⟨⟨%X, %hX, HS⟩, HR⟩, Ho, ⟨%d0, H0⟩, ⟨%d1, H1⟩, ⟨%d2, H2⟩, ⟨%d3, H3⟩⟩
    obtain rfl : X = acc0 V c t.val := hX fun h => hf ((first_iff t).2 h)
    iapply (crowsStepLast c (grid0.coords t) hf hl _ _ _ _ _ _ _ _ _ _)
    isplitl [H0]; · iexact H0
    isplitl [H1]; · iexact H1
    isplitl [H2]; · iexact H2
    isplitl [H3]; · iexists _; iexact H3
    isplitl [HS]; · iexact HS
    rw [← acc0_succ]
    iintro ⟨H0, H1, H2, H3, HS⟩
    isplitl [HS HR]
    · isplitl [HS]
      · iexists _; isplitr; swap; (· iexact HS); ipureintro; exact fun _ => rfl
      iexact HR
    isplitl [Ho]; · iexact Ho
    isplitl [H0]; · iexact H0
    isplitl [H1]; · iexact H1
    isplitl [H2]; · iexact H2
    iexact H3
  · have hi : idle0 3 (grid0.coords t) = true := by
      show (!(k0_cond2 (grid0.coords t) == 1#1)) = true
      simp [hl]
    have hfl : (win0 3).flush t = false := by
      rw [Bool.eq_false_iff]; exact fun h => hl ((last_iff t).2 ((flush0_3 t).1 h))
    simp only [hi, hfl]
    by_cases hf : isFirst (grid0.coords t)
    · iintro ⟨⟨⟨%X, %hX, HS⟩, HR⟩, Ho, ⟨%d0, H0⟩, ⟨%d1, H1⟩, ⟨%d2, H2⟩, ⟨%d3, H3⟩⟩
      iapply (crowsStepFirst c (grid0.coords t) hf hl _ _ _ _ _ _ _ _ _ _)
      isplitl [H0]; · iexact H0
      isplitl [H1]; · iexact H1
      isplitl [H2]; · iexact H2
      isplitl [H3]; · iexact H3
      isplitl [HS]; · iexists _; iexact HS
      rw [show k0_pay2 (blk0 V c 0 t) (blk0 V c 1 t) (blk0 V c 2 t) (k0_pay1 (F := F)) = acc0 V c (t.val + 1) by
        rw [acc0_succ, (first_iff t).1 hf]; rfl]
      iintro ⟨H0, H1, H2, H3, HS⟩
      isplitl [HS HR]
      · isplitl [HS]
        · iexists _; isplitr; swap; (· iexact HS); ipureintro; exact fun _ => rfl
        iexact HR
      isplitl [Ho]; · iexact Ho
      isplitl [H0]; · iexact H0
      isplitl [H1]; · iexact H1
      isplitl [H2]; · iexact H2
      iexists _; iexact H3
    · iintro ⟨⟨⟨%X, %hX, HS⟩, HR⟩, Ho, ⟨%d0, H0⟩, ⟨%d1, H1⟩, ⟨%d2, H2⟩, ⟨%d3, H3⟩⟩
      obtain rfl : X = acc0 V c t.val := hX fun h => hf ((first_iff t).2 h)
      iapply (crowsStepMid c (grid0.coords t) hf hl _ _ _ _ _ _ _ _ _ _)
      isplitl [H0]; · iexact H0
      isplitl [H1]; · iexact H1
      isplitl [H2]; · iexact H2
      isplitl [H3]; · iexact H3
      isplitl [HS]; · iexact HS
      rw [← acc0_succ]
      iintro ⟨H0, H1, H2, H3, HS⟩
      isplitl [HS HR]
      · isplitl [HS]
        · iexists _; isplitr; swap; (· iexact HS); ipureintro; exact fun _ => rfl
        iexact HR
      isplitl [Ho]; · iexact Ho
      isplitl [H0]; · iexact H0
      isplitl [H1]; · iexact H1
      isplitl [H2]; · iexact H2
      iexists _; iexact H3

end Cert.Proof.KernelIdeal

end
-- ==== Proof.KernelIdeal.MaskBody.lean ====
/-
  The mask call's body, run once at any eight operand blocks: what it leaves in the result's block.
-/
module

public import proofs.«01_k».proof.Proof.KernelIdeal.Base

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- From the eight operand blocks and the result's, the body runs to its return, leaving a value of the
    operands in the result's block. -/
def maskRun (c : Dev nD) (i : grid1.Coords) (M0 : Memref sig .tc .vmem S512x2048 .f32) (h0 : M0.IsWhole) (M1 : Memref sig .tc .vmem S512x1 .i32) (h1 : M1.IsWhole) (M2 : Memref sig .tc .vmem S512x1 .i32) (h2 : M2.IsWhole) (M3 : Memref sig .tc .vmem S512x1 .i32) (h3 : M3.IsWhole) (M4 : Memref sig .tc .vmem S1x2048 .i32) (h4 : M4.IsWhole) (M5 : Memref sig .tc .vmem S1x2048 .i32) (h5 : M5.IsWhole) (M6 : Memref sig .tc .vmem S1x2048 .i32) (h6 : M6.IsWhole) (M7 : Memref sig .tc .vmem S512x2048 .bf16) (h7 : M7.IsWhole) (M8 : Memref sig .tc .vmem S512x2048 .f32) (h8 : M8.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7)  :
    { W : Bf (F := F) c M8 // ∀ (f8 : Bf (F := F) c M8) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ (iprop(pt c M0 f0 ∗ pt c M1 f1 ∗ pt c M2 f2 ∗ pt c M3 f3 ∗ pt c M4 f4 ∗ pt c M5 f5 ∗ pt c M6 f6 ∗ pt c M7 f7 ∗ pt c M8 W) -∗ Q ⟨⟩))
          ⊢ wp frame (wpE (defs₀ (F := F)) Variants.none c none) E (cc1__mask_kernel i M0 h0 M1 h1 M2 h2 M3 h3 M4 h4 M5 h5 M6 h6 M7 h7 M8 h8) Q } := by
  refine ⟨?_, fun f8 E Q => ?run⟩
  case run =>
    iintro ⟨H0, H1, H2, H3, H4, H5, H6, H7, H8, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The mask call's block of results: the similarity where the premise may be used, minus infinity elsewhere. -/
def maskVal (X0 : Vec F S512x2048 .f32) (X1 X2 X3 : Vec F S512x1 .i32) (X4 X5 X6 : Vec F S1x2048 .i32) (X7 : Vec F S512x2048 .bf16) : Vec F S512x2048 .f32 :=
  k1_pay1 (k1_pay2 X4 X1 X5 X6 X2 X3 X7) X0 (Scalar.ofBits .f32 0xFF800000#32)

/-- What the run leaves in the result's block, read back. -/
theorem maskRun_read8 (c : Dev nD) (i : grid1.Coords) (M0 : Memref sig .tc .vmem S512x2048 .f32) (h0 : M0.IsWhole) (M1 : Memref sig .tc .vmem S512x1 .i32) (h1 : M1.IsWhole) (M2 : Memref sig .tc .vmem S512x1 .i32) (h2 : M2.IsWhole) (M3 : Memref sig .tc .vmem S512x1 .i32) (h3 : M3.IsWhole) (M4 : Memref sig .tc .vmem S1x2048 .i32) (h4 : M4.IsWhole) (M5 : Memref sig .tc .vmem S1x2048 .i32) (h5 : M5.IsWhole) (M6 : Memref sig .tc .vmem S1x2048 .i32) (h6 : M6.IsWhole) (M7 : Memref sig .tc .vmem S512x2048 .bf16) (h7 : M7.IsWhole) (M8 : Memref sig .tc .vmem S512x2048 .f32) (h8 : M8.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) :
    M8.view.read (Elt F) (maskRun c i M0 h0 M1 h1 M2 h2 M3 h3 M4 h4 M5 h5 M6 h6 M7 h7 M8 h8 f0 f1 f2 f3 f4 f5 f6 f7).1 = maskVal (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) := by
  rw [show (maskRun c i M0 h0 M1 h1 M2 h2 M3 h3 M4 h4 M5 h5 M6 h6 M7 h7 M8 h8 f0 f1 f2 f3 f4 f5 f6 f7).1 = M8.view.writes (Elt F) M8.view.junk (maskRun.sl.H8_1 c M0 M1 M2 M3 M4 M5 M6 M7 f0 f1 f2 f3 f4 f5 f6 f7) from by delta maskRun; dsimp only]
  delta maskRun.sl.H8_1
  rw [read_filled]
  unfold maskRun.sl.r maskRun.sl.r_1 maskRun.sl.cst_16 maskVal
  simp only [↓View.readAt_full]

/-- The mask call's body from its operands' values to its result's. -/
theorem maskStep (c : Dev nD) (i : grid1.Coords) (M0 : Memref sig .tc .vmem S512x2048 .f32) (h0 : M0.IsWhole) (M1 : Memref sig .tc .vmem S512x1 .i32) (h1 : M1.IsWhole) (M2 : Memref sig .tc .vmem S512x1 .i32) (h2 : M2.IsWhole) (M3 : Memref sig .tc .vmem S512x1 .i32) (h3 : M3.IsWhole) (M4 : Memref sig .tc .vmem S1x2048 .i32) (h4 : M4.IsWhole) (M5 : Memref sig .tc .vmem S1x2048 .i32) (h5 : M5.IsWhole) (M6 : Memref sig .tc .vmem S1x2048 .i32) (h6 : M6.IsWhole) (M7 : Memref sig .tc .vmem S512x2048 .bf16) (h7 : M7.IsWhole) (M8 : Memref sig .tc .vmem S512x2048 .f32) (h8 : M8.IsWhole)
    (X0 : S512x2048.Idx → Elt F .f32) (X1 : S512x1.Idx → Elt F .i32) (X2 : S512x1.Idx → Elt F .i32) (X3 : S512x1.Idx → Elt F .i32) (X4 : S1x2048.Idx → Elt F .i32) (X5 : S1x2048.Idx → Elt F .i32) (X6 : S1x2048.Idx → Elt F .i32) (X7 : S512x2048.Idx → Elt F .bf16) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ (∃ d, owns (c : Thread nD τ) M8 fullShare d) ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (maskVal X0 X1 X2 X3 X4 X5 X6 X7)) -∗ Q ⟨⟩))
      ⊢ wp frame (wpE (defs₀ (F := F)) Variants.none c none) E (cc1__mask_kernel i M0 h0 M1 h1 M2 h2 M3 h3 M4 h4 M5 h5 M6 h6 M7 h7 M8 h8) Q := by
  simp only [owns_of_whole c M0 h0]
  simp only [owns_of_whole c M1 h1]
  simp only [owns_of_whole c M2 h2]
  simp only [owns_of_whole c M3 h3]
  simp only [owns_of_whole c M4 h4]
  simp only [owns_of_whole c M5 h5]
  simp only [owns_of_whole c M6 h6]
  simp only [owns_of_whole c M7 h7]
  simp only [owns_of_whole c M8 h8]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  iapply ((maskRun c i M0 h0 M1 h1 M2 h2 M3 h3 M4 h4 M5 h5 M6 h6 M7 h7 M8 h8 f0 f1 f2 f3 f4 f5 f6 f7).2 f8 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  iexists _; isplitr; swap; (· iexact H8); ipureintro; exact maskRun_read8 c i M0 h0 M1 h1 M2 h2 M3 h3 M4 h4 M5 h5 M6 h6 M7 h7 M8 h8 f0 f1 f2 f3 f4 f5 f6 f7

end Cert.Proof.KernelIdeal

end
-- ==== Proof.KernelIdeal.MaskStage.lean ====
/-
  The mask call as a stage of the run: what its staging blocks hold at every point, and its body's obligation.
-/
module

public import proofs.«01_k».proof.Proof.KernelIdeal.MaskBody

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Valuation τ sig (Elt F))

/-- What the call's window `w` shows of its array at point `t`. -/
abbrev blk1 (c : Dev nD) (w : Fin 9) (t : Fin cfg1.N) := ((cfg1.win w).blk t).view.read (Elt F) (V c (Pipeline.arrRef spec1 w))

/-- The call's data: every operand's block is fetched, every result's is the body's value of them. -/
def dat1 (c : Dev nD) : Dat τ (Elt F) Unit ℕ UU ℕ cfg1 c where
  A w := V c (Pipeline.arrRef spec1 w)
  after w t := match w with
    | 0 => blk1 V c 0 t
    | 1 => blk1 V c 1 t
    | 2 => blk1 V c 2 t
    | 3 => blk1 V c 3 t
    | 4 => blk1 V c 4 t
    | 5 => blk1 V c 5 t
    | 6 => blk1 V c 6 t
    | 7 => blk1 V c 7 t
    | 8 => maskVal (blk1 V c 0 t) (blk1 V c 1 t) (blk1 V c 2 t) (blk1 V c 3 t) (blk1 V c 4 t) (blk1 V c 5 t) (blk1 V c 6 t) (blk1 V c 7 t)
  Φ _ := Pipeline.scopedRest (Ix := Unit) (Name := ℕ) (U := UU) (Lvl := ℕ) (Val := Elt F) spec1 c
  q _ := fullShare
  owed _ := 0

/-- An operand's block is what its window shows. -/
theorem before1_0 (c : Dev nD) (t : Fin cfg1.N) (d) : (dat1 V c).before 0 t d = blk1 V c 0 t :=
  Dat.before_in_eq_fetched (dat1 V c) 0 rfl (fun _ => rfl) (fun _ _ _ => rfl) (fun _ => rfl) t d

/-- An operand's block is what its window shows. -/
theorem before1_1 (c : Dev nD) (t : Fin cfg1.N) (d) : (dat1 V c).before 1 t d = blk1 V c 1 t :=
  Dat.before_in_eq_fetched (dat1 V c) 1 rfl (fun _ => rfl) (fun _ _ _ => rfl) (fun _ => rfl) t d

/-- An operand's block is what its window shows. -/
theorem before1_2 (c : Dev nD) (t : Fin cfg1.N) (d) : (dat1 V c).before 2 t d = blk1 V c 2 t :=
  Dat.before_in_eq_fetched (dat1 V c) 2 rfl (fun _ => rfl) (fun _ _ _ => rfl) (fun _ => rfl) t d

/-- An operand's block is what its window shows. -/
theorem before1_3 (c : Dev nD) (t : Fin cfg1.N) (d) : (dat1 V c).before 3 t d = blk1 V c 3 t :=
  Dat.before_in_eq_fetched (dat1 V c) 3 rfl (fun _ => rfl) (fun _ _ _ => rfl) (fun _ => rfl) t d

/-- An operand's block is what its window shows. -/
theorem before1_4 (c : Dev nD) (t : Fin cfg1.N) (d) : (dat1 V c).before 4 t d = blk1 V c 4 t :=
  Dat.before_in_eq_fetched (dat1 V c) 4 rfl (fun _ => rfl) (fun _ _ _ => rfl) (fun _ => rfl) t d

/-- An operand's block is what its window shows. -/
theorem before1_5 (c : Dev nD) (t : Fin cfg1.N) (d) : (dat1 V c).before 5 t d = blk1 V c 5 t :=
  Dat.before_in_eq_fetched (dat1 V c) 5 rfl (fun _ => rfl) (fun _ _ _ => rfl) (fun _ => rfl) t d

/-- An operand's block is what its window shows. -/
theorem before1_6 (c : Dev nD) (t : Fin cfg1.N) (d) : (dat1 V c).before 6 t d = blk1 V c 6 t :=
  Dat.before_in_eq_fetched (dat1 V c) 6 rfl (fun _ => rfl) (fun _ _ _ => rfl) (fun _ => rfl) t d

/-- An operand's block is what its window shows. -/
theorem before1_7 (c : Dev nD) (t : Fin cfg1.N) (d) : (dat1 V c).before 7 t d = blk1 V c 7 t :=
  Dat.before_in_eq_fetched (dat1 V c) 7 rfl (fun _ => rfl) (fun _ _ _ => rfl) (fun _ => rfl) t d

set_option maxRecDepth 4000 in
/-- The body keeps its obligation at every point. -/
theorem body1 (c : Dev nD) : BodyObligation (dat1 V c) (defs₀ (F := F)) 𝒱₀ () Set.univ := fun t => by
  rw [bigSep_W1, bigSep_W1]
  simp only [before1_0, before1_1, before1_2, before1_3, before1_4, before1_5, before1_6, before1_7]
  rw [show (dat1 V c).Φ t.castSucc = (dat1 V c).Φ t.succ from rfl]
  change _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (maskStep c (grid1.coords t) _ _ _ _ _ _ _ _ _ _ _ _ _ _ _ _ _ _ )
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · icases H8 with ⟨%e8, H8⟩; iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Proof.KernelIdeal

end
-- ==== Proof.KernelIdeal.RankBody.lean ====
/-
  The rank call's body, run once: from the table of positions, the 64 staged rows and the result's
  block, all held whole, the body runs to its return and leaves a value of the rows and the table in
  the result's block.
-/
module

public import proofs.«01_k».proof.Proof.KernelIdeal.Base

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- From the table, the 64 rows and the result's block, the body runs to its return, leaving a value of the
    rows and the table in the result's block; every position in the table lies inside a row. -/
def rankRun (c : Dev nD) (i : grid2.Coords) (T1 : Memref sig .tc .smem S4096 .i32) (hT1 : T1.IsWhole) (T2 : Memref sig .tc .smem S4096 .i32) (hT2 : T2.IsWhole)
    (M : Fin 64 → Memref sig .tc .vmem S1x8x8192 .f32) (hM : ∀ g, (M g).IsWhole) (O : Memref sig .tc .vmem S64x1x1 .f32) (hO : O.IsWhole)
    (fT : Bf (F := F) c T2) (f : (g : Fin 64) → Bf (F := F) c (M g)) (hc : ∀ w, k2_chk1 (View.read (Elt F) T2.view fT w)) :
    { W : Bf (F := F) c O // ∀ (fO : Bf (F := F) c O) (E : Set ℕ) (Q : PUnit → sProp 𝕄),
        iprop((pt c T2 fT ∗ pt c (M 0) (f 0) ∗ pt c (M 1) (f 1) ∗ pt c (M 2) (f 2) ∗ pt c (M 3) (f 3) ∗ pt c (M 4) (f 4) ∗ pt c (M 5) (f 5) ∗ pt c (M 6) (f 6) ∗ pt c (M 7) (f 7) ∗ pt c (M 8) (f 8) ∗ pt c (M 9) (f 9) ∗ pt c (M 10) (f 10) ∗ pt c (M 11) (f 11) ∗ pt c (M 12) (f 12) ∗ pt c (M 13) (f 13) ∗ pt c (M 14) (f 14) ∗ pt c (M 15) (f 15) ∗ pt c (M 16) (f 16) ∗ pt c (M 17) (f 17) ∗ pt c (M 18) (f 18) ∗ pt c (M 19) (f 19) ∗ pt c (M 20) (f 20) ∗ pt c (M 21) (f 21) ∗ pt c (M 22) (f 22) ∗ pt c (M 23) (f 23) ∗ pt c (M 24) (f 24) ∗ pt c (M 25) (f 25) ∗ pt c (M 26) (f 26) ∗ pt c (M 27) (f 27) ∗ pt c (M 28) (f 28) ∗ pt c (M 29) (f 29) ∗ pt c (M 30) (f 30) ∗ pt c (M 31) (f 31) ∗ pt c (M 32) (f 32) ∗ pt c (M 33) (f 33) ∗ pt c (M 34) (f 34) ∗ pt c (M 35) (f 35) ∗ pt c (M 36) (f 36) ∗ pt c (M 37) (f 37) ∗ pt c (M 38) (f 38) ∗ pt c (M 39) (f 39) ∗ pt c (M 40) (f 40) ∗ pt c (M 41) (f 41) ∗ pt c (M 42) (f 42) ∗ pt c (M 43) (f 43) ∗ pt c (M 44) (f 44) ∗ pt c (M 45) (f 45) ∗ pt c (M 46) (f 46) ∗ pt c (M 47) (f 47) ∗ pt c (M 48) (f 48) ∗ pt c (M 49) (f 49) ∗ pt c (M 50) (f 50) ∗ pt c (M 51) (f 51) ∗ pt c (M 52) (f 52) ∗ pt c (M 53) (f 53) ∗ pt c (M 54) (f 54) ∗ pt c (M 55) (f 55) ∗ pt c (M 56) (f 56) ∗ pt c (M 57) (f 57) ∗ pt c (M 58) (f 58) ∗ pt c (M 59) (f 59) ∗ pt c (M 60) (f 60) ∗ pt c (M 61) (f 61) ∗ pt c (M 62) (f 62) ∗ pt c (M 63) (f 63)) ∗ pt c O fO ∗ (iprop((pt c T2 fT ∗ pt c (M 0) (f 0) ∗ pt c (M 1) (f 1) ∗ pt c (M 2) (f 2) ∗ pt c (M 3) (f 3) ∗ pt c (M 4) (f 4) ∗ pt c (M 5) (f 5) ∗ pt c (M 6) (f 6) ∗ pt c (M 7) (f 7) ∗ pt c (M 8) (f 8) ∗ pt c (M 9) (f 9) ∗ pt c (M 10) (f 10) ∗ pt c (M 11) (f 11) ∗ pt c (M 12) (f 12) ∗ pt c (M 13) (f 13) ∗ pt c (M 14) (f 14) ∗ pt c (M 15) (f 15) ∗ pt c (M 16) (f 16) ∗ pt c (M 17) (f 17) ∗ pt c (M 18) (f 18) ∗ pt c (M 19) (f 19) ∗ pt c (M 20) (f 20) ∗ pt c (M 21) (f 21) ∗ pt c (M 22) (f 22) ∗ pt c (M 23) (f 23) ∗ pt c (M 24) (f 24) ∗ pt c (M 25) (f 25) ∗ pt c (M 26) (f 26) ∗ pt c (M 27) (f 27) ∗ pt c (M 28) (f 28) ∗ pt c (M 29) (f 29) ∗ pt c (M 30) (f 30) ∗ pt c (M 31) (f 31) ∗ pt c (M 32) (f 32) ∗ pt c (M 33) (f 33) ∗ pt c (M 34) (f 34) ∗ pt c (M 35) (f 35) ∗ pt c (M 36) (f 36) ∗ pt c (M 37) (f 37) ∗ pt c (M 38) (f 38) ∗ pt c (M 39) (f 39) ∗ pt c (M 40) (f 40) ∗ pt c (M 41) (f 41) ∗ pt c (M 42) (f 42) ∗ pt c (M 43) (f 43) ∗ pt c (M 44) (f 44) ∗ pt c (M 45) (f 45) ∗ pt c (M 46) (f 46) ∗ pt c (M 47) (f 47) ∗ pt c (M 48) (f 48) ∗ pt c (M 49) (f 49) ∗ pt c (M 50) (f 50) ∗ pt c (M 51) (f 51) ∗ pt c (M 52) (f 52) ∗ pt c (M 53) (f 53) ∗ pt c (M 54) (f 54) ∗ pt c (M 55) (f 55) ∗ pt c (M 56) (f 56) ∗ pt c (M 57) (f 57) ∗ pt c (M 58) (f 58) ∗ pt c (M 59) (f 59) ∗ pt c (M 60) (f 60) ∗ pt c (M 61) (f 61) ∗ pt c (M 62) (f 62) ∗ pt c (M 63) (f 63)) ∗ pt c O W) -∗ Q ⟨⟩))
          ⊢ wp frame (wpE (defs₀ (F := F)) Variants.none c none) E (cc2__rank_kernel i T1 hT1 T2 hT2 (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) (M 23) (hM 23) (M 24) (hM 24) (M 25) (hM 25) (M 26) (hM 26) (M 27) (hM 27) (M 28) (hM 28) (M 29) (hM 29) (M 30) (hM 30) (M 31) (hM 31) (M 32) (hM 32) (M 33) (hM 33) (M 34) (hM 34) (M 35) (hM 35) (M 36) (hM 36) (M 37) (hM 37) (M 38) (hM 38) (M 39) (hM 39) (M 40) (hM 40) (M 41) (hM 41) (M 42) (hM 42) (M 43) (hM 43) (M 44) (hM 44) (M 45) (hM 45) (M 46) (hM 46) (M 47) (hM 47) (M 48) (hM 48) (M 49) (hM 49) (M 50) (hM 50) (M 51) (hM 51) (M 52) (hM 52) (M 53) (hM 53) (M 54) (hM 54) (M 55) (hM 55) (M 56) (hM 56) (M 57) (hM 57) (M 58) (hM 58) (M 59) (hM 59) (M 60) (hM 60) (M 61) (hM 61) (M 62) (hM 62) (M 63) (hM 63) O hO) Q } := by
  refine ⟨?_, fun fO E Q => ?run⟩
  case run =>
    iintro ⟨⟨HT, H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63⟩, HO, Hk⟩
    sl_exec_parts! (disch := exact hc _)
    sl_step
    iapply Hk
    isplitr [HO]
    · isplitl [HT]; · iexact HT
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [H35]; · iexact H35
      isplitl [H36]; · iexact H36
      isplitl [H37]; · iexact H37
      isplitl [H38]; · iexact H38
      isplitl [H39]; · iexact H39
      isplitl [H40]; · iexact H40
      isplitl [H41]; · iexact H41
      isplitl [H42]; · iexact H42
      isplitl [H43]; · iexact H43
      isplitl [H44]; · iexact H44
      isplitl [H45]; · iexact H45
      isplitl [H46]; · iexact H46
      isplitl [H47]; · iexact H47
      isplitl [H48]; · iexact H48
      isplitl [H49]; · iexact H49
      isplitl [H50]; · iexact H50
      isplitl [H51]; · iexact H51
      isplitl [H52]; · iexact H52
      isplitl [H53]; · iexact H53
      isplitl [H54]; · iexact H54
      isplitl [H55]; · iexact H55
      isplitl [H56]; · iexact H56
      isplitl [H57]; · iexact H57
      isplitl [H58]; · iexact H58
      isplitl [H59]; · iexact H59
      isplitl [H60]; · iexact H60
      isplitl [H61]; · iexact H61
      isplitl [H62]; · iexact H62
      iexact H63
    iexact HO

/-- What the body leaves in the result's block, from the values of the rows. -/
def rankOut (c : Dev nD) (i : grid2.Coords) (T1 : Memref sig .tc .smem S4096 .i32) (hT1 : T1.IsWhole) (T2 : Memref sig .tc .smem S4096 .i32) (hT2 : T2.IsWhole)
    (M : Fin 64 → Memref sig .tc .vmem S1x8x8192 .f32) (hM : ∀ g, (M g).IsWhole) (O : Memref sig .tc .vmem S64x1x1 .f32) (hO : O.IsWhole)
    (fT : Bf (F := F) c T2) (X : Fin 64 → S1x8x8192.Idx → Elt F .f32) (hc : ∀ w, k2_chk1 (View.read (Elt F) T2.view fT w)) : S64x1x1.Idx → Elt F .f32 :=
  O.view.read (Elt F) (rankRun c i T1 hT1 T2 hT2 M hM O hO fT (fun g => (hM g).unread (X g)) hc).1

/-- The rank call's body from its rows' values to its result's. -/
theorem rankStep (c : Dev nD) (i : grid2.Coords) (T1 : Memref sig .tc .smem S4096 .i32) (hT1 : T1.IsWhole) (T2 : Memref sig .tc .smem S4096 .i32) (hT2 : T2.IsWhole)
    (M : Fin 64 → Memref sig .tc .vmem S1x8x8192 .f32) (hM : ∀ g, (M g).IsWhole) (O : Memref sig .tc .vmem S64x1x1 .f32) (hO : O.IsWhole)
    (fT : Bf (F := F) c T2) (X : Fin 64 → S1x8x8192.Idx → Elt F .f32) (hc : ∀ w, k2_chk1 (View.read (Elt F) T2.view fT w)) (E : Set ℕ) (Q : PUnit → sProp 𝕄) :
    iprop(pt c T2 fT ∗ (owns (c : Thread nD τ) (M 0) fullShare (X 0) ∗ owns (c : Thread nD τ) (M 1) fullShare (X 1) ∗ owns (c : Thread nD τ) (M 2) fullShare (X 2) ∗ owns (c : Thread nD τ) (M 3) fullShare (X 3) ∗ owns (c : Thread nD τ) (M 4) fullShare (X 4) ∗ owns (c : Thread nD τ) (M 5) fullShare (X 5) ∗ owns (c : Thread nD τ) (M 6) fullShare (X 6) ∗ owns (c : Thread nD τ) (M 7) fullShare (X 7) ∗ owns (c : Thread nD τ) (M 8) fullShare (X 8) ∗ owns (c : Thread nD τ) (M 9) fullShare (X 9) ∗ owns (c : Thread nD τ) (M 10) fullShare (X 10) ∗ owns (c : Thread nD τ) (M 11) fullShare (X 11) ∗ owns (c : Thread nD τ) (M 12) fullShare (X 12) ∗ owns (c : Thread nD τ) (M 13) fullShare (X 13) ∗ owns (c : Thread nD τ) (M 14) fullShare (X 14) ∗ owns (c : Thread nD τ) (M 15) fullShare (X 15) ∗ owns (c : Thread nD τ) (M 16) fullShare (X 16) ∗ owns (c : Thread nD τ) (M 17) fullShare (X 17) ∗ owns (c : Thread nD τ) (M 18) fullShare (X 18) ∗ owns (c : Thread nD τ) (M 19) fullShare (X 19) ∗ owns (c : Thread nD τ) (M 20) fullShare (X 20) ∗ owns (c : Thread nD τ) (M 21) fullShare (X 21) ∗ owns (c : Thread nD τ) (M 22) fullShare (X 22) ∗ owns (c : Thread nD τ) (M 23) fullShare (X 23) ∗ owns (c : Thread nD τ) (M 24) fullShare (X 24) ∗ owns (c : Thread nD τ) (M 25) fullShare (X 25) ∗ owns (c : Thread nD τ) (M 26) fullShare (X 26) ∗ owns (c : Thread nD τ) (M 27) fullShare (X 27) ∗ owns (c : Thread nD τ) (M 28) fullShare (X 28) ∗ owns (c : Thread nD τ) (M 29) fullShare (X 29) ∗ owns (c : Thread nD τ) (M 30) fullShare (X 30) ∗ owns (c : Thread nD τ) (M 31) fullShare (X 31) ∗ owns (c : Thread nD τ) (M 32) fullShare (X 32) ∗ owns (c : Thread nD τ) (M 33) fullShare (X 33) ∗ owns (c : Thread nD τ) (M 34) fullShare (X 34) ∗ owns (c : Thread nD τ) (M 35) fullShare (X 35) ∗ owns (c : Thread nD τ) (M 36) fullShare (X 36) ∗ owns (c : Thread nD τ) (M 37) fullShare (X 37) ∗ owns (c : Thread nD τ) (M 38) fullShare (X 38) ∗ owns (c : Thread nD τ) (M 39) fullShare (X 39) ∗ owns (c : Thread nD τ) (M 40) fullShare (X 40) ∗ owns (c : Thread nD τ) (M 41) fullShare (X 41) ∗ owns (c : Thread nD τ) (M 42) fullShare (X 42) ∗ owns (c : Thread nD τ) (M 43) fullShare (X 43) ∗ owns (c : Thread nD τ) (M 44) fullShare (X 44) ∗ owns (c : Thread nD τ) (M 45) fullShare (X 45) ∗ owns (c : Thread nD τ) (M 46) fullShare (X 46) ∗ owns (c : Thread nD τ) (M 47) fullShare (X 47) ∗ owns (c : Thread nD τ) (M 48) fullShare (X 48) ∗ owns (c : Thread nD τ) (M 49) fullShare (X 49) ∗ owns (c : Thread nD τ) (M 50) fullShare (X 50) ∗ owns (c : Thread nD τ) (M 51) fullShare (X 51) ∗ owns (c : Thread nD τ) (M 52) fullShare (X 52) ∗ owns (c : Thread nD τ) (M 53) fullShare (X 53) ∗ owns (c : Thread nD τ) (M 54) fullShare (X 54) ∗ owns (c : Thread nD τ) (M 55) fullShare (X 55) ∗ owns (c : Thread nD τ) (M 56) fullShare (X 56) ∗ owns (c : Thread nD τ) (M 57) fullShare (X 57) ∗ owns (c : Thread nD τ) (M 58) fullShare (X 58) ∗ owns (c : Thread nD τ) (M 59) fullShare (X 59) ∗ owns (c : Thread nD τ) (M 60) fullShare (X 60) ∗ owns (c : Thread nD τ) (M 61) fullShare (X 61) ∗ owns (c : Thread nD τ) (M 62) fullShare (X 62) ∗ owns (c : Thread nD τ) (M 63) fullShare (X 63)) ∗ (∃ d, owns (c : Thread nD τ) O fullShare d)
        ∗ (iprop(pt c T2 fT ∗ (owns (c : Thread nD τ) (M 0) fullShare (X 0) ∗ owns (c : Thread nD τ) (M 1) fullShare (X 1) ∗ owns (c : Thread nD τ) (M 2) fullShare (X 2) ∗ owns (c : Thread nD τ) (M 3) fullShare (X 3) ∗ owns (c : Thread nD τ) (M 4) fullShare (X 4) ∗ owns (c : Thread nD τ) (M 5) fullShare (X 5) ∗ owns (c : Thread nD τ) (M 6) fullShare (X 6) ∗ owns (c : Thread nD τ) (M 7) fullShare (X 7) ∗ owns (c : Thread nD τ) (M 8) fullShare (X 8) ∗ owns (c : Thread nD τ) (M 9) fullShare (X 9) ∗ owns (c : Thread nD τ) (M 10) fullShare (X 10) ∗ owns (c : Thread nD τ) (M 11) fullShare (X 11) ∗ owns (c : Thread nD τ) (M 12) fullShare (X 12) ∗ owns (c : Thread nD τ) (M 13) fullShare (X 13) ∗ owns (c : Thread nD τ) (M 14) fullShare (X 14) ∗ owns (c : Thread nD τ) (M 15) fullShare (X 15) ∗ owns (c : Thread nD τ) (M 16) fullShare (X 16) ∗ owns (c : Thread nD τ) (M 17) fullShare (X 17) ∗ owns (c : Thread nD τ) (M 18) fullShare (X 18) ∗ owns (c : Thread nD τ) (M 19) fullShare (X 19) ∗ owns (c : Thread nD τ) (M 20) fullShare (X 20) ∗ owns (c : Thread nD τ) (M 21) fullShare (X 21) ∗ owns (c : Thread nD τ) (M 22) fullShare (X 22) ∗ owns (c : Thread nD τ) (M 23) fullShare (X 23) ∗ owns (c : Thread nD τ) (M 24) fullShare (X 24) ∗ owns (c : Thread nD τ) (M 25) fullShare (X 25) ∗ owns (c : Thread nD τ) (M 26) fullShare (X 26) ∗ owns (c : Thread nD τ) (M 27) fullShare (X 27) ∗ owns (c : Thread nD τ) (M 28) fullShare (X 28) ∗ owns (c : Thread nD τ) (M 29) fullShare (X 29) ∗ owns (c : Thread nD τ) (M 30) fullShare (X 30) ∗ owns (c : Thread nD τ) (M 31) fullShare (X 31) ∗ owns (c : Thread nD τ) (M 32) fullShare (X 32) ∗ owns (c : Thread nD τ) (M 33) fullShare (X 33) ∗ owns (c : Thread nD τ) (M 34) fullShare (X 34) ∗ owns (c : Thread nD τ) (M 35) fullShare (X 35) ∗ owns (c : Thread nD τ) (M 36) fullShare (X 36) ∗ owns (c : Thread nD τ) (M 37) fullShare (X 37) ∗ owns (c : Thread nD τ) (M 38) fullShare (X 38) ∗ owns (c : Thread nD τ) (M 39) fullShare (X 39) ∗ owns (c : Thread nD τ) (M 40) fullShare (X 40) ∗ owns (c : Thread nD τ) (M 41) fullShare (X 41) ∗ owns (c : Thread nD τ) (M 42) fullShare (X 42) ∗ owns (c : Thread nD τ) (M 43) fullShare (X 43) ∗ owns (c : Thread nD τ) (M 44) fullShare (X 44) ∗ owns (c : Thread nD τ) (M 45) fullShare (X 45) ∗ owns (c : Thread nD τ) (M 46) fullShare (X 46) ∗ owns (c : Thread nD τ) (M 47) fullShare (X 47) ∗ owns (c : Thread nD τ) (M 48) fullShare (X 48) ∗ owns (c : Thread nD τ) (M 49) fullShare (X 49) ∗ owns (c : Thread nD τ) (M 50) fullShare (X 50) ∗ owns (c : Thread nD τ) (M 51) fullShare (X 51) ∗ owns (c : Thread nD τ) (M 52) fullShare (X 52) ∗ owns (c : Thread nD τ) (M 53) fullShare (X 53) ∗ owns (c : Thread nD τ) (M 54) fullShare (X 54) ∗ owns (c : Thread nD τ) (M 55) fullShare (X 55) ∗ owns (c : Thread nD τ) (M 56) fullShare (X 56) ∗ owns (c : Thread nD τ) (M 57) fullShare (X 57) ∗ owns (c : Thread nD τ) (M 58) fullShare (X 58) ∗ owns (c : Thread nD τ) (M 59) fullShare (X 59) ∗ owns (c : Thread nD τ) (M 60) fullShare (X 60) ∗ owns (c : Thread nD τ) (M 61) fullShare (X 61) ∗ owns (c : Thread nD τ) (M 62) fullShare (X 62) ∗ owns (c : Thread nD τ) (M 63) fullShare (X 63))
          ∗ owns (c : Thread nD τ) O fullShare (rankOut c i T1 hT1 T2 hT2 M hM O hO fT X hc)) -∗ Q ⟨⟩))
      ⊢ wp frame (wpE (defs₀ (F := F)) Variants.none c none) E (cc2__rank_kernel i T1 hT1 T2 hT2 (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) (M 23) (hM 23) (M 24) (hM 24) (M 25) (hM 25) (M 26) (hM 26) (M 27) (hM 27) (M 28) (hM 28) (M 29) (hM 29) (M 30) (hM 30) (M 31) (hM 31) (M 32) (hM 32) (M 33) (hM 33) (M 34) (hM 34) (M 35) (hM 35) (M 36) (hM 36) (M 37) (hM 37) (M 38) (hM 38) (M 39) (hM 39) (M 40) (hM 40) (M 41) (hM 41) (M 42) (hM 42) (M 43) (hM 43) (M 44) (hM 44) (M 45) (hM 45) (M 46) (hM 46) (M 47) (hM 47) (M 48) (hM 48) (M 49) (hM 49) (M 50) (hM 50) (M 51) (hM 51) (M 52) (hM 52) (M 53) (hM 53) (M 54) (hM 54) (M 55) (hM 55) (M 56) (hM 56) (M 57) (hM 57) (M 58) (hM 58) (M 59) (hM 59) (M 60) (hM 60) (M 61) (hM 61) (M 62) (hM 62) (M 63) (hM 63) O hO) Q := by
  have hin : ∀ g, (owns (c : Thread nD τ) (M g) fullShare (X g) : sProp 𝕄) ⊢ pt c (M g) ((hM g).unread (X g)) := fun g => by
    rw [owns_of_whole c (M g) (hM g)]
    iintro ⟨%f, %hf, H⟩
    rw [← (hM g).eq_unread hf]; iexact H
  have hback : ∀ g, pt c (M g) ((hM g).unread (X g)) ⊢ (owns (c : Thread nD τ) (M g) fullShare (X g) : sProp 𝕄) := fun g => by
    rw [owns_of_whole c (M g) (hM g)]
    iintro H
    iexists _; isplitr; swap; (· iexact H); ipureintro; exact (hM g).read_unread (X g)
  rw [owns_of_whole c O hO]
  simp only [owns_of_whole c O hO]
  iintro ⟨HT, ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63⟩, ⟨%d, %fO, -, HO⟩, Hk⟩
  iapply ((rankRun c i T1 hT1 T2 hT2 M hM O hO fT (fun g => (hM g).unread (X g)) hc).2 fO E Q)
  isplitl [HT H0 H1 H2 H3 H4 H5 H6 H7 H8 H9 H10 H11 H12 H13 H14 H15 H16 H17 H18 H19 H20 H21 H22 H23 H24 H25 H26 H27 H28 H29 H30 H31 H32 H33 H34 H35 H36 H37 H38 H39 H40 H41 H42 H43 H44 H45 H46 H47 H48 H49 H50 H51 H52 H53 H54 H55 H56 H57 H58 H59 H60 H61 H62 H63]
  · isplitl [HT]; · iexact HT
    isplitl [H0]; · iapply (hin 0); iexact H0
    isplitl [H1]; · iapply (hin 1); iexact H1
    isplitl [H2]; · iapply (hin 2); iexact H2
    isplitl [H3]; · iapply (hin 3); iexact H3
    isplitl [H4]; · iapply (hin 4); iexact H4
    isplitl [H5]; · iapply (hin 5); iexact H5
    isplitl [H6]; · iapply (hin 6); iexact H6
    isplitl [H7]; · iapply (hin 7); iexact H7
    isplitl [H8]; · iapply (hin 8); iexact H8
    isplitl [H9]; · iapply (hin 9); iexact H9
    isplitl [H10]; · iapply (hin 10); iexact H10
    isplitl [H11]; · iapply (hin 11); iexact H11
    isplitl [H12]; · iapply (hin 12); iexact H12
    isplitl [H13]; · iapply (hin 13); iexact H13
    isplitl [H14]; · iapply (hin 14); iexact H14
    isplitl [H15]; · iapply (hin 15); iexact H15
    isplitl [H16]; · iapply (hin 16); iexact H16
    isplitl [H17]; · iapply (hin 17); iexact H17
    isplitl [H18]; · iapply (hin 18); iexact H18
    isplitl [H19]; · iapply (hin 19); iexact H19
    isplitl [H20]; · iapply (hin 20); iexact H20
    isplitl [H21]; · iapply (hin 21); iexact H21
    isplitl [H22]; · iapply (hin 22); iexact H22
    isplitl [H23]; · iapply (hin 23); iexact H23
    isplitl [H24]; · iapply (hin 24); iexact H24
    isplitl [H25]; · iapply (hin 25); iexact H25
    isplitl [H26]; · iapply (hin 26); iexact H26
    isplitl [H27]; · iapply (hin 27); iexact H27
    isplitl [H28]; · iapply (hin 28); iexact H28
    isplitl [H29]; · iapply (hin 29); iexact H29
    isplitl [H30]; · iapply (hin 30); iexact H30
    isplitl [H31]; · iapply (hin 31); iexact H31
    isplitl [H32]; · iapply (hin 32); iexact H32
    isplitl [H33]; · iapply (hin 33); iexact H33
    isplitl [H34]; · iapply (hin 34); iexact H34
    isplitl [H35]; · iapply (hin 35); iexact H35
    isplitl [H36]; · iapply (hin 36); iexact H36
    isplitl [H37]; · iapply (hin 37); iexact H37
    isplitl [H38]; · iapply (hin 38); iexact H38
    isplitl [H39]; · iapply (hin 39); iexact H39
    isplitl [H40]; · iapply (hin 40); iexact H40
    isplitl [H41]; · iapply (hin 41); iexact H41
    isplitl [H42]; · iapply (hin 42); iexact H42
    isplitl [H43]; · iapply (hin 43); iexact H43
    isplitl [H44]; · iapply (hin 44); iexact H44
    isplitl [H45]; · iapply (hin 45); iexact H45
    isplitl [H46]; · iapply (hin 46); iexact H46
    isplitl [H47]; · iapply (hin 47); iexact H47
    isplitl [H48]; · iapply (hin 48); iexact H48
    isplitl [H49]; · iapply (hin 49); iexact H49
    isplitl [H50]; · iapply (hin 50); iexact H50
    isplitl [H51]; · iapply (hin 51); iexact H51
    isplitl [H52]; · iapply (hin 52); iexact H52
    isplitl [H53]; · iapply (hin 53); iexact H53
    isplitl [H54]; · iapply (hin 54); iexact H54
    isplitl [H55]; · iapply (hin 55); iexact H55
    isplitl [H56]; · iapply (hin 56); iexact H56
    isplitl [H57]; · iapply (hin 57); iexact H57
    isplitl [H58]; · iapply (hin 58); iexact H58
    isplitl [H59]; · iapply (hin 59); iexact H59
    isplitl [H60]; · iapply (hin 60); iexact H60
    isplitl [H61]; · iapply (hin 61); iexact H61
    isplitl [H62]; · iapply (hin 62); iexact H62
    iapply (hin 63); iexact H63
  isplitl [HO]; · iexact HO
  iintro ⟨⟨HT, H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63⟩, HO⟩
  iapply Hk
  isplitl [HT]; · iexact HT
  isplitr [HO]
  · isplitl [H0]; · iapply (hback 0); iexact H0
    isplitl [H1]; · iapply (hback 1); iexact H1
    isplitl [H2]; · iapply (hback 2); iexact H2
    isplitl [H3]; · iapply (hback 3); iexact H3
    isplitl [H4]; · iapply (hback 4); iexact H4
    isplitl [H5]; · iapply (hback 5); iexact H5
    isplitl [H6]; · iapply (hback 6); iexact H6
    isplitl [H7]; · iapply (hback 7); iexact H7
    isplitl [H8]; · iapply (hback 8); iexact H8
    isplitl [H9]; · iapply (hback 9); iexact H9
    isplitl [H10]; · iapply (hback 10); iexact H10
    isplitl [H11]; · iapply (hback 11); iexact H11
    isplitl [H12]; · iapply (hback 12); iexact H12
    isplitl [H13]; · iapply (hback 13); iexact H13
    isplitl [H14]; · iapply (hback 14); iexact H14
    isplitl [H15]; · iapply (hback 15); iexact H15
    isplitl [H16]; · iapply (hback 16); iexact H16
    isplitl [H17]; · iapply (hback 17); iexact H17
    isplitl [H18]; · iapply (hback 18); iexact H18
    isplitl [H19]; · iapply (hback 19); iexact H19
    isplitl [H20]; · iapply (hback 20); iexact H20
    isplitl [H21]; · iapply (hback 21); iexact H21
    isplitl [H22]; · iapply (hback 22); iexact H22
    isplitl [H23]; · iapply (hback 23); iexact H23
    isplitl [H24]; · iapply (hback 24); iexact H24
    isplitl [H25]; · iapply (hback 25); iexact H25
    isplitl [H26]; · iapply (hback 26); iexact H26
    isplitl [H27]; · iapply (hback 27); iexact H27
    isplitl [H28]; · iapply (hback 28); iexact H28
    isplitl [H29]; · iapply (hback 29); iexact H29
    isplitl [H30]; · iapply (hback 30); iexact H30
    isplitl [H31]; · iapply (hback 31); iexact H31
    isplitl [H32]; · iapply (hback 32); iexact H32
    isplitl [H33]; · iapply (hback 33); iexact H33
    isplitl [H34]; · iapply (hback 34); iexact H34
    isplitl [H35]; · iapply (hback 35); iexact H35
    isplitl [H36]; · iapply (hback 36); iexact H36
    isplitl [H37]; · iapply (hback 37); iexact H37
    isplitl [H38]; · iapply (hback 38); iexact H38
    isplitl [H39]; · iapply (hback 39); iexact H39
    isplitl [H40]; · iapply (hback 40); iexact H40
    isplitl [H41]; · iapply (hback 41); iexact H41
    isplitl [H42]; · iapply (hback 42); iexact H42
    isplitl [H43]; · iapply (hback 43); iexact H43
    isplitl [H44]; · iapply (hback 44); iexact H44
    isplitl [H45]; · iapply (hback 45); iexact H45
    isplitl [H46]; · iapply (hback 46); iexact H46
    isplitl [H47]; · iapply (hback 47); iexact H47
    isplitl [H48]; · iapply (hback 48); iexact H48
    isplitl [H49]; · iapply (hback 49); iexact H49
    isplitl [H50]; · iapply (hback 50); iexact H50
    isplitl [H51]; · iapply (hback 51); iexact H51
    isplitl [H52]; · iapply (hback 52); iexact H52
    isplitl [H53]; · iapply (hback 53); iexact H53
    isplitl [H54]; · iapply (hback 54); iexact H54
    isplitl [H55]; · iapply (hback 55); iexact H55
    isplitl [H56]; · iapply (hback 56); iexact H56
    isplitl [H57]; · iapply (hback 57); iexact H57
    isplitl [H58]; · iapply (hback 58); iexact H58
    isplitl [H59]; · iapply (hback 59); iexact H59
    isplitl [H60]; · iapply (hback 60); iexact H60
    isplitl [H61]; · iapply (hback 61); iexact H61
    isplitl [H62]; · iapply (hback 62); iexact H62
    iapply (hback 63); iexact H63
  iexists _; isplitr; swap; (· iexact HO); ipureintro; rfl

end Cert.Proof.KernelIdeal

end
-- ==== Proof.KernelIdeal.RankStage.lean ====
/-
  The rank call as a stage of the run: at admissible tables, what its staging blocks hold at every point, and the
  body's obligation.
-/
module

public import proofs.«01_k».proof.Proof.KernelIdeal.RankBody

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Valuation τ sig (Elt F)) (a : (pcfg2 (F := F)).Adm)

/-- What the call's window `w` shows of its array at point `t`. -/
abbrev blk2 (c : Dev nD) (w : Fin 65) (t : Fin (cfg2 a).N) := (((cfg2 a).win w).blk t).view.read (Elt F) (V c (Pipeline.arrRef spec2 w))

/-- The tables, whole: the contexts' table and the positions' table. -/
theorem tables2 (c : Dev nD) :
    (Pipeline.prefHeld (Ix := Unit) (Name := ℕ) (U := UU) (Lvl := ℕ) pre2 c (fun _ => fullShare) a.1 : sProp 𝕄)
      = iprop((((c : Thread nD τ).loc main_arg6) ↦{fullShare} a.1 0) ∗ (((c : Thread nD τ).loc main_arg7) ↦{fullShare} a.1 1)) := by
  unfold Pipeline.prefHeld
  exact bigSep_univ_eq_bigSepL [(0 : Fin 2), (1 : Fin 2)] (by decide) (by decide) _

/-- The rows' staging blocks at a point. -/
def stM (t : Fin (cfg2 a).N) : Fin 64 → Memref sig .tc .vmem S1x8x8192 .f32
  | 0 => spec2_0.stage ((cfg2 a).slots t 0)
  | 1 => spec2_1.stage ((cfg2 a).slots t 1)
  | 2 => spec2_2.stage ((cfg2 a).slots t 2)
  | 3 => spec2_3.stage ((cfg2 a).slots t 3)
  | 4 => spec2_4.stage ((cfg2 a).slots t 4)
  | 5 => spec2_5.stage ((cfg2 a).slots t 5)
  | 6 => spec2_6.stage ((cfg2 a).slots t 6)
  | 7 => spec2_7.stage ((cfg2 a).slots t 7)
  | 8 => spec2_8.stage ((cfg2 a).slots t 8)
  | 9 => spec2_9.stage ((cfg2 a).slots t 9)
  | 10 => spec2_10.stage ((cfg2 a).slots t 10)
  | 11 => spec2_11.stage ((cfg2 a).slots t 11)
  | 12 => spec2_12.stage ((cfg2 a).slots t 12)
  | 13 => spec2_13.stage ((cfg2 a).slots t 13)
  | 14 => spec2_14.stage ((cfg2 a).slots t 14)
  | 15 => spec2_15.stage ((cfg2 a).slots t 15)
  | 16 => spec2_16.stage ((cfg2 a).slots t 16)
  | 17 => spec2_17.stage ((cfg2 a).slots t 17)
  | 18 => spec2_18.stage ((cfg2 a).slots t 18)
  | 19 => spec2_19.stage ((cfg2 a).slots t 19)
  | 20 => spec2_20.stage ((cfg2 a).slots t 20)
  | 21 => spec2_21.stage ((cfg2 a).slots t 21)
  | 22 => spec2_22.stage ((cfg2 a).slots t 22)
  | 23 => spec2_23.stage ((cfg2 a).slots t 23)
  | 24 => spec2_24.stage ((cfg2 a).slots t 24)
  | 25 => spec2_25.stage ((cfg2 a).slots t 25)
  | 26 => spec2_26.stage ((cfg2 a).slots t 26)
  | 27 => spec2_27.stage ((cfg2 a).slots t 27)
  | 28 => spec2_28.stage ((cfg2 a).slots t 28)
  | 29 => spec2_29.stage ((cfg2 a).slots t 29)
  | 30 => spec2_30.stage ((cfg2 a).slots t 30)
  | 31 => spec2_31.stage ((cfg2 a).slots t 31)
  | 32 => spec2_32.stage ((cfg2 a).slots t 32)
  | 33 => spec2_33.stage ((cfg2 a).slots t 33)
  | 34 => spec2_34.stage ((cfg2 a).slots t 34)
  | 35 => spec2_35.stage ((cfg2 a).slots t 35)
  | 36 => spec2_36.stage ((cfg2 a).slots t 36)
  | 37 => spec2_37.stage ((cfg2 a).slots t 37)
  | 38 => spec2_38.stage ((cfg2 a).slots t 38)
  | 39 => spec2_39.stage ((cfg2 a).slots t 39)
  | 40 => spec2_40.stage ((cfg2 a).slots t 40)
  | 41 => spec2_41.stage ((cfg2 a).slots t 41)
  | 42 => spec2_42.stage ((cfg2 a).slots t 42)
  | 43 => spec2_43.stage ((cfg2 a).slots t 43)
  | 44 => spec2_44.stage ((cfg2 a).slots t 44)
  | 45 => spec2_45.stage ((cfg2 a).slots t 45)
  | 46 => spec2_46.stage ((cfg2 a).slots t 46)
  | 47 => spec2_47.stage ((cfg2 a).slots t 47)
  | 48 => spec2_48.stage ((cfg2 a).slots t 48)
  | 49 => spec2_49.stage ((cfg2 a).slots t 49)
  | 50 => spec2_50.stage ((cfg2 a).slots t 50)
  | 51 => spec2_51.stage ((cfg2 a).slots t 51)
  | 52 => spec2_52.stage ((cfg2 a).slots t 52)
  | 53 => spec2_53.stage ((cfg2 a).slots t 53)
  | 54 => spec2_54.stage ((cfg2 a).slots t 54)
  | 55 => spec2_55.stage ((cfg2 a).slots t 55)
  | 56 => spec2_56.stage ((cfg2 a).slots t 56)
  | 57 => spec2_57.stage ((cfg2 a).slots t 57)
  | 58 => spec2_58.stage ((cfg2 a).slots t 58)
  | 59 => spec2_59.stage ((cfg2 a).slots t 59)
  | 60 => spec2_60.stage ((cfg2 a).slots t 60)
  | 61 => spec2_61.stage ((cfg2 a).slots t 61)
  | 62 => spec2_62.stage ((cfg2 a).slots t 62)
  | 63 => spec2_63.stage ((cfg2 a).slots t 63)
  | ⟨_ + 64, h⟩ => absurd h (Nat.not_lt.2 (Nat.le_add_left _ _))

/-- Each is a whole buffer. -/
theorem hstM (t : Fin (cfg2 a).N) : ∀ g, (stM a t g).IsWhole
  | 0 => hstage2_0 (((cfg2 a).slots t 0).cast nbuf2_0)
  | 1 => hstage2_1 (((cfg2 a).slots t 1).cast nbuf2_1)
  | 2 => hstage2_2 (((cfg2 a).slots t 2).cast nbuf2_2)
  | 3 => hstage2_3 (((cfg2 a).slots t 3).cast nbuf2_3)
  | 4 => hstage2_4 (((cfg2 a).slots t 4).cast nbuf2_4)
  | 5 => hstage2_5 (((cfg2 a).slots t 5).cast nbuf2_5)
  | 6 => hstage2_6 (((cfg2 a).slots t 6).cast nbuf2_6)
  | 7 => hstage2_7 (((cfg2 a).slots t 7).cast nbuf2_7)
  | 8 => hstage2_8 (((cfg2 a).slots t 8).cast nbuf2_8)
  | 9 => hstage2_9 (((cfg2 a).slots t 9).cast nbuf2_9)
  | 10 => hstage2_10 (((cfg2 a).slots t 10).cast nbuf2_10)
  | 11 => hstage2_11 (((cfg2 a).slots t 11).cast nbuf2_11)
  | 12 => hstage2_12 (((cfg2 a).slots t 12).cast nbuf2_12)
  | 13 => hstage2_13 (((cfg2 a).slots t 13).cast nbuf2_13)
  | 14 => hstage2_14 (((cfg2 a).slots t 14).cast nbuf2_14)
  | 15 => hstage2_15 (((cfg2 a).slots t 15).cast nbuf2_15)
  | 16 => hstage2_16 (((cfg2 a).slots t 16).cast nbuf2_16)
  | 17 => hstage2_17 (((cfg2 a).slots t 17).cast nbuf2_17)
  | 18 => hstage2_18 (((cfg2 a).slots t 18).cast nbuf2_18)
  | 19 => hstage2_19 (((cfg2 a).slots t 19).cast nbuf2_19)
  | 20 => hstage2_20 (((cfg2 a).slots t 20).cast nbuf2_20)
  | 21 => hstage2_21 (((cfg2 a).slots t 21).cast nbuf2_21)
  | 22 => hstage2_22 (((cfg2 a).slots t 22).cast nbuf2_22)
  | 23 => hstage2_23 (((cfg2 a).slots t 23).cast nbuf2_23)
  | 24 => hstage2_24 (((cfg2 a).slots t 24).cast nbuf2_24)
  | 25 => hstage2_25 (((cfg2 a).slots t 25).cast nbuf2_25)
  | 26 => hstage2_26 (((cfg2 a).slots t 26).cast nbuf2_26)
  | 27 => hstage2_27 (((cfg2 a).slots t 27).cast nbuf2_27)
  | 28 => hstage2_28 (((cfg2 a).slots t 28).cast nbuf2_28)
  | 29 => hstage2_29 (((cfg2 a).slots t 29).cast nbuf2_29)
  | 30 => hstage2_30 (((cfg2 a).slots t 30).cast nbuf2_30)
  | 31 => hstage2_31 (((cfg2 a).slots t 31).cast nbuf2_31)
  | 32 => hstage2_32 (((cfg2 a).slots t 32).cast nbuf2_32)
  | 33 => hstage2_33 (((cfg2 a).slots t 33).cast nbuf2_33)
  | 34 => hstage2_34 (((cfg2 a).slots t 34).cast nbuf2_34)
  | 35 => hstage2_35 (((cfg2 a).slots t 35).cast nbuf2_35)
  | 36 => hstage2_36 (((cfg2 a).slots t 36).cast nbuf2_36)
  | 37 => hstage2_37 (((cfg2 a).slots t 37).cast nbuf2_37)
  | 38 => hstage2_38 (((cfg2 a).slots t 38).cast nbuf2_38)
  | 39 => hstage2_39 (((cfg2 a).slots t 39).cast nbuf2_39)
  | 40 => hstage2_40 (((cfg2 a).slots t 40).cast nbuf2_40)
  | 41 => hstage2_41 (((cfg2 a).slots t 41).cast nbuf2_41)
  | 42 => hstage2_42 (((cfg2 a).slots t 42).cast nbuf2_42)
  | 43 => hstage2_43 (((cfg2 a).slots t 43).cast nbuf2_43)
  | 44 => hstage2_44 (((cfg2 a).slots t 44).cast nbuf2_44)
  | 45 => hstage2_45 (((cfg2 a).slots t 45).cast nbuf2_45)
  | 46 => hstage2_46 (((cfg2 a).slots t 46).cast nbuf2_46)
  | 47 => hstage2_47 (((cfg2 a).slots t 47).cast nbuf2_47)
  | 48 => hstage2_48 (((cfg2 a).slots t 48).cast nbuf2_48)
  | 49 => hstage2_49 (((cfg2 a).slots t 49).cast nbuf2_49)
  | 50 => hstage2_50 (((cfg2 a).slots t 50).cast nbuf2_50)
  | 51 => hstage2_51 (((cfg2 a).slots t 51).cast nbuf2_51)
  | 52 => hstage2_52 (((cfg2 a).slots t 52).cast nbuf2_52)
  | 53 => hstage2_53 (((cfg2 a).slots t 53).cast nbuf2_53)
  | 54 => hstage2_54 (((cfg2 a).slots t 54).cast nbuf2_54)
  | 55 => hstage2_55 (((cfg2 a).slots t 55).cast nbuf2_55)
  | 56 => hstage2_56 (((cfg2 a).slots t 56).cast nbuf2_56)
  | 57 => hstage2_57 (((cfg2 a).slots t 57).cast nbuf2_57)
  | 58 => hstage2_58 (((cfg2 a).slots t 58).cast nbuf2_58)
  | 59 => hstage2_59 (((cfg2 a).slots t 59).cast nbuf2_59)
  | 60 => hstage2_60 (((cfg2 a).slots t 60).cast nbuf2_60)
  | 61 => hstage2_61 (((cfg2 a).slots t 61).cast nbuf2_61)
  | 62 => hstage2_62 (((cfg2 a).slots t 62).cast nbuf2_62)
  | 63 => hstage2_63 (((cfg2 a).slots t 63).cast nbuf2_63)
  | ⟨_ + 64, h⟩ => absurd h (Nat.not_lt.2 (Nat.le_add_left _ _))

/-- The rows at a point. -/
def stX (c : Dev nD) (t : Fin (cfg2 a).N) : Fin 64 → S1x8x8192.Idx → Elt F .f32
  | 0 => blk2 V a c 0 t
  | 1 => blk2 V a c 1 t
  | 2 => blk2 V a c 2 t
  | 3 => blk2 V a c 3 t
  | 4 => blk2 V a c 4 t
  | 5 => blk2 V a c 5 t
  | 6 => blk2 V a c 6 t
  | 7 => blk2 V a c 7 t
  | 8 => blk2 V a c 8 t
  | 9 => blk2 V a c 9 t
  | 10 => blk2 V a c 10 t
  | 11 => blk2 V a c 11 t
  | 12 => blk2 V a c 12 t
  | 13 => blk2 V a c 13 t
  | 14 => blk2 V a c 14 t
  | 15 => blk2 V a c 15 t
  | 16 => blk2 V a c 16 t
  | 17 => blk2 V a c 17 t
  | 18 => blk2 V a c 18 t
  | 19 => blk2 V a c 19 t
  | 20 => blk2 V a c 20 t
  | 21 => blk2 V a c 21 t
  | 22 => blk2 V a c 22 t
  | 23 => blk2 V a c 23 t
  | 24 => blk2 V a c 24 t
  | 25 => blk2 V a c 25 t
  | 26 => blk2 V a c 26 t
  | 27 => blk2 V a c 27 t
  | 28 => blk2 V a c 28 t
  | 29 => blk2 V a c 29 t
  | 30 => blk2 V a c 30 t
  | 31 => blk2 V a c 31 t
  | 32 => blk2 V a c 32 t
  | 33 => blk2 V a c 33 t
  | 34 => blk2 V a c 34 t
  | 35 => blk2 V a c 35 t
  | 36 => blk2 V a c 36 t
  | 37 => blk2 V a c 37 t
  | 38 => blk2 V a c 38 t
  | 39 => blk2 V a c 39 t
  | 40 => blk2 V a c 40 t
  | 41 => blk2 V a c 41 t
  | 42 => blk2 V a c 42 t
  | 43 => blk2 V a c 43 t
  | 44 => blk2 V a c 44 t
  | 45 => blk2 V a c 45 t
  | 46 => blk2 V a c 46 t
  | 47 => blk2 V a c 47 t
  | 48 => blk2 V a c 48 t
  | 49 => blk2 V a c 49 t
  | 50 => blk2 V a c 50 t
  | 51 => blk2 V a c 51 t
  | 52 => blk2 V a c 52 t
  | 53 => blk2 V a c 53 t
  | 54 => blk2 V a c 54 t
  | 55 => blk2 V a c 55 t
  | 56 => blk2 V a c 56 t
  | 57 => blk2 V a c 57 t
  | 58 => blk2 V a c 58 t
  | 59 => blk2 V a c 59 t
  | 60 => blk2 V a c 60 t
  | 61 => blk2 V a c 61 t
  | 62 => blk2 V a c 62 t
  | 63 => blk2 V a c 63 t
  | ⟨_ + 64, h⟩ => absurd h (Nat.not_lt.2 (Nat.le_add_left _ _))

/-- What the positions' table must satisfy: every word lies inside a row. -/
abbrev Tab2 (c : Dev nD) : Prop := ∀ w, k2_chk1 (View.read (Elt F) (Memref.whole main_arg7 : Memref sig .tc .smem S4096 .i32).view (a.1 1 : Bf (F := F) c (Memref.whole main_arg7 : Memref sig .tc .smem S4096 .i32)) w)

/-- What the body leaves in the result's block at a point. -/
def stOut (hc : ∀ c, Tab2 (F := F) a c) (c : Dev nD) (t : Fin (cfg2 a).N) : S64x1x1.Idx → Elt F .f32 :=
  rankOut c (grid2.coords t) (Memref.whole main_arg6) (Memref.isWhole_whole _) (Memref.whole main_arg7) (Memref.isWhole_whole _)
    (stM a t) (hstM a t) (spec2_64.stage ((cfg2 a).slots t 64)) (hstage2_64 (((cfg2 a).slots t 64).cast nbuf2_64)) (a.1 1) (stX V a c t) (hc c)

/-- The call's data: every row is fetched, the result's block is the body's value of them. -/
def dat2 (hc : ∀ c, Tab2 (F := F) a c) (c : Dev nD) : Dat τ (Elt F) Unit ℕ UU ℕ (cfg2 a) c where
  A w := V c (Pipeline.arrRef spec2 w)
  after w t := match w with
    | 0 => blk2 V a c 0 t
    | 1 => blk2 V a c 1 t
    | 2 => blk2 V a c 2 t
    | 3 => blk2 V a c 3 t
    | 4 => blk2 V a c 4 t
    | 5 => blk2 V a c 5 t
    | 6 => blk2 V a c 6 t
    | 7 => blk2 V a c 7 t
    | 8 => blk2 V a c 8 t
    | 9 => blk2 V a c 9 t
    | 10 => blk2 V a c 10 t
    | 11 => blk2 V a c 11 t
    | 12 => blk2 V a c 12 t
    | 13 => blk2 V a c 13 t
    | 14 => blk2 V a c 14 t
    | 15 => blk2 V a c 15 t
    | 16 => blk2 V a c 16 t
    | 17 => blk2 V a c 17 t
    | 18 => blk2 V a c 18 t
    | 19 => blk2 V a c 19 t
    | 20 => blk2 V a c 20 t
    | 21 => blk2 V a c 21 t
    | 22 => blk2 V a c 22 t
    | 23 => blk2 V a c 23 t
    | 24 => blk2 V a c 24 t
    | 25 => blk2 V a c 25 t
    | 26 => blk2 V a c 26 t
    | 27 => blk2 V a c 27 t
    | 28 => blk2 V a c 28 t
    | 29 => blk2 V a c 29 t
    | 30 => blk2 V a c 30 t
    | 31 => blk2 V a c 31 t
    | 32 => blk2 V a c 32 t
    | 33 => blk2 V a c 33 t
    | 34 => blk2 V a c 34 t
    | 35 => blk2 V a c 35 t
    | 36 => blk2 V a c 36 t
    | 37 => blk2 V a c 37 t
    | 38 => blk2 V a c 38 t
    | 39 => blk2 V a c 39 t
    | 40 => blk2 V a c 40 t
    | 41 => blk2 V a c 41 t
    | 42 => blk2 V a c 42 t
    | 43 => blk2 V a c 43 t
    | 44 => blk2 V a c 44 t
    | 45 => blk2 V a c 45 t
    | 46 => blk2 V a c 46 t
    | 47 => blk2 V a c 47 t
    | 48 => blk2 V a c 48 t
    | 49 => blk2 V a c 49 t
    | 50 => blk2 V a c 50 t
    | 51 => blk2 V a c 51 t
    | 52 => blk2 V a c 52 t
    | 53 => blk2 V a c 53 t
    | 54 => blk2 V a c 54 t
    | 55 => blk2 V a c 55 t
    | 56 => blk2 V a c 56 t
    | 57 => blk2 V a c 57 t
    | 58 => blk2 V a c 58 t
    | 59 => blk2 V a c 59 t
    | 60 => blk2 V a c 60 t
    | 61 => blk2 V a c 61 t
    | 62 => blk2 V a c 62 t
    | 63 => blk2 V a c 63 t
    | 64 => stOut V a hc c t
    | ⟨_ + 65, h⟩ => absurd h (Nat.not_lt.2 (Nat.le_add_left _ _))
  Φ _ := iprop(Pipeline.scopedRest (Ix := Unit) (Name := ℕ) (U := UU) (Lvl := ℕ) (Val := Elt F) spec2 c
    ∗ Pipeline.prefHeld (Ix := Unit) (Name := ℕ) (U := UU) (Lvl := ℕ) pre2 c (fun _ => fullShare) a.1)
  q := Pipeline.shareOf spec2
  owed _ := 0

variable (hc : ∀ c, Tab2 (F := F) a c)

/-- A window's staging block before the body runs. -/
def preW (c : Dev nD) (t : Fin (cfg2 a).N) (w : Fin 65) : sProp 𝕄 :=
  iprop(∃ d, owns (c : Thread nD τ) (((cfg2 a).win w).stage ((cfg2 a).slots t w)) fullShare ((dat2 V a hc c).before w t d))
/-- A window's staging block after the body has run. -/
def postW (c : Dev nD) (t : Fin (cfg2 a).N) (w : Fin 65) : sProp 𝕄 :=
  owns (c : Thread nD τ) (((cfg2 a).win w).stage ((cfg2 a).slots t w)) fullShare ((dat2 V a hc c).after w t)

/-- A row's block is what its window shows. -/
theorem before2_0 (c : Dev nD) (t : Fin (cfg2 a).N) (d) : (dat2 V a hc c).before 0 t d = blk2 V a c 0 t :=
  Dat.before_in_eq_fetched (dat2 V a hc c) 0 rfl (fun _ => rfl) (fun _ _ _ => rfl) (fun _ => rfl) t d
theorem in2_0 (c : Dev nD) (t : Fin (cfg2 a).N) : preW V a hc c t 0 ⊢ (owns (c : Thread nD τ) (stM a t 0) fullShare (stX V a c t 0) : sProp 𝕄) := by
  have h : ∀ d, (owns (c : Thread nD τ) (((cfg2 a).win 0).stage ((cfg2 a).slots t 0)) fullShare ((dat2 V a hc c).before 0 t d) : sProp 𝕄)
      ⊢ owns (c : Thread nD τ) (stM a t 0) fullShare (stX V a c t 0) := fun d => by rw [before2_0]; exact .rfl
  unfold preW
  iintro ⟨%d, H⟩
  iapply (h d); iexact H
theorem out2_0 (c : Dev nD) (t : Fin (cfg2 a).N) : (owns (c : Thread nD τ) (stM a t 0) fullShare (stX V a c t 0) : sProp 𝕄) ⊢ postW V a hc c t 0 := .rfl
/-- A row's block is what its window shows. -/
theorem before2_1 (c : Dev nD) (t : Fin (cfg2 a).N) (d) : (dat2 V a hc c).before 1 t d = blk2 V a c 1 t :=
  Dat.before_in_eq_fetched (dat2 V a hc c) 1 rfl (fun _ => rfl) (fun _ _ _ => rfl) (fun _ => rfl) t d
theorem in2_1 (c : Dev nD) (t : Fin (cfg2 a).N) : preW V a hc c t 1 ⊢ (owns (c : Thread nD τ) (stM a t 1) fullShare (stX V a c t 1) : sProp 𝕄) := by
  have h : ∀ d, (owns (c : Thread nD τ) (((cfg2 a).win 1).stage ((cfg2 a).slots t 1)) fullShare ((dat2 V a hc c).before 1 t d) : sProp 𝕄)
      ⊢ owns (c : Thread nD τ) (stM a t 1) fullShare (stX V a c t 1) := fun d => by rw [before2_1]; exact .rfl
  unfold preW
  iintro ⟨%d, H⟩
  iapply (h d); iexact H
theorem out2_1 (c : Dev nD) (t : Fin (cfg2 a).N) : (owns (c : Thread nD τ) (stM a t 1) fullShare (stX V a c t 1) : sProp 𝕄) ⊢ postW V a hc c t 1 := .rfl
/-- A row's block is what its window shows. -/
theorem before2_2 (c : Dev nD) (t : Fin (cfg2 a).N) (d) : (dat2 V a hc c).before 2 t d = blk2 V a c 2 t :=
  Dat.before_in_eq_fetched (dat2 V a hc c) 2 rfl (fun _ => rfl) (fun _ _ _ => rfl) (fun _ => rfl) t d
theorem in2_2 (c : Dev nD) (t : Fin (cfg2 a).N) : preW V a hc c t 2 ⊢ (owns (c : Thread nD τ) (stM a t 2) fullShare (stX V a c t 2) : sProp 𝕄) := by
  have h : ∀ d, (owns (c : Thread nD τ) (((cfg2 a).win 2).stage ((cfg2 a).slots t 2)) fullShare ((dat2 V a hc c).before 2 t d) : sProp 𝕄)
      ⊢ owns (c : Thread nD τ) (stM a t 2) fullShare (stX V a c t 2) := fun d => by rw [before2_2]; exact .rfl
  unfold preW
  iintro ⟨%d, H⟩
  iapply (h d); iexact H
theorem out2_2 (c : Dev nD) (t : Fin (cfg2 a).N) : (owns (c : Thread nD τ) (stM a t 2) fullShare (stX V a c t 2) : sProp 𝕄) ⊢ postW V a hc c t 2 := .rfl
/-- A row's block is what its window shows. -/
theorem before2_3 (c : Dev nD) (t : Fin (cfg2 a).N) (d) : (dat2 V a hc c).before 3 t d = blk2 V a c 3 t :=
  Dat.before_in_eq_fetched (dat2 V a hc c) 3 rfl (fun _ => rfl) (fun _ _ _ => rfl) (fun _ => rfl) t d
theorem in2_3 (c : Dev nD) (t : Fin (cfg2 a).N) : preW V a hc c t 3 ⊢ (owns (c : Thread nD τ) (stM a t 3) fullShare (stX V a c t 3) : sProp 𝕄) := by
  have h : ∀ d, (owns (c : Thread nD τ) (((cfg2 a).win 3).stage ((cfg2 a).slots t 3)) fullShare ((dat2 V a hc c).before 3 t d) : sProp 𝕄)
      ⊢ owns (c : Thread nD τ) (stM a t 3) fullShare (stX V a c t 3) := fun d => by rw [before2_3]; exact .rfl
  unfold preW
  iintro ⟨%d, H⟩
  iapply (h d); iexact H
theorem out2_3 (c : Dev nD) (t : Fin (cfg2 a).N) : (owns (c : Thread nD τ) (stM a t 3) fullShare (stX V a c t 3) : sProp 𝕄) ⊢ postW V a hc c t 3 := .rfl
/-- A row's block is what its window shows. -/
theorem before2_4 (c : Dev nD) (t : Fin (cfg2 a).N) (d) : (dat2 V a hc c).before 4 t d = blk2 V a c 4 t :=
  Dat.before_in_eq_fetched (dat2 V a hc c) 4 rfl (fun _ => rfl) (fun _ _ _ => rfl) (fun _ => rfl) t d
theorem in2_4 (c : Dev nD) (t : Fin (cfg2 a).N) : preW V a hc c t 4 ⊢ (owns (c : Thread nD τ) (stM a t 4) fullShare (stX V a c t 4) : sProp 𝕄) := by
  have h : ∀ d, (owns (c : Thread nD τ) (((cfg2 a).win 4).stage ((cfg2 a).slots t 4)) fullShare ((dat2 V a hc c).before 4 t d) : sProp 𝕄)
      ⊢ owns (c : Thread nD τ) (stM a t 4) fullShare (stX V a c t 4) := fun d => by rw [before2_4]; exact .rfl
  unfold preW
  iintro ⟨%d, H⟩
  iapply (h d); iexact H
theorem out2_4 (c : Dev nD) (t : Fin (cfg2 a).N) : (owns (c : Thread nD τ) (stM a t 4) fullShare (stX V a c t 4) : sProp 𝕄) ⊢ postW V a hc c t 4 := .rfl
/-- A row's block is what its window shows. -/
theorem before2_5 (c : Dev nD) (t : Fin (cfg2 a).N) (d) : (dat2 V a hc c).before 5 t d = blk2 V a c 5 t :=
  Dat.before_in_eq_fetched (dat2 V a hc c) 5 rfl (fun _ => rfl) (fun _ _ _ => rfl) (fun _ => rfl) t d
theorem in2_5 (c : Dev nD) (t : Fin (cfg2 a).N) : preW V a hc c t 5 ⊢ (owns (c : Thread nD τ) (stM a t 5) fullShare (stX V a c t 5) : sProp 𝕄) := by
  have h : ∀ d, (owns (c : Thread nD τ) (((cfg2 a).win 5).stage ((cfg2 a).slots t 5)) fullShare ((dat2 V a hc c).before 5 t d) : sProp 𝕄)
      ⊢ owns (c : Thread nD τ) (stM a t 5) fullShare (stX V a c t 5) := fun d => by rw [before2_5]; exact .rfl
  unfold preW
  iintro ⟨%d, H⟩
  iapply (h d); iexact H
theorem out2_5 (c : Dev nD) (t : Fin (cfg2 a).N) : (owns (c : Thread nD τ) (stM a t 5) fullShare (stX V a c t 5) : sProp 𝕄) ⊢ postW V a hc c t 5 := .rfl
/-- A row's block is what its window shows. -/
theorem before2_6 (c : Dev nD) (t : Fin (cfg2 a).N) (d) : (dat2 V a hc c).before 6 t d = blk2 V a c 6 t :=
  Dat.before_in_eq_fetched (dat2 V a hc c) 6 rfl (fun _ => rfl) (fun _ _ _ => rfl) (fun _ => rfl) t d
theorem in2_6 (c : Dev nD) (t : Fin (cfg2 a).N) : preW V a hc c t 6 ⊢ (owns (c : Thread nD τ) (stM a t 6) fullShare (stX V a c t 6) : sProp 𝕄) := by
  have h : ∀ d, (owns (c : Thread nD τ) (((cfg2 a).win 6).stage ((cfg2 a).slots t 6)) fullShare ((dat2 V a hc c).before 6 t d) : sProp 𝕄)
      ⊢ owns (c : Thread nD τ) (stM a t 6) fullShare (stX V a c t 6) := fun d => by rw [before2_6]; exact .rfl
  unfold preW
  iintro ⟨%d, H⟩
  iapply (h d); iexact H
theorem out2_6 (c : Dev nD) (t : Fin (cfg2 a).N) : (owns (c : Thread nD τ) (stM a t 6) fullShare (stX V a c t 6) : sProp 𝕄) ⊢ postW V a hc c t 6 := .rfl
/-- A row's block is what its window shows. -/
theorem before2_7 (c : Dev nD) (t : Fin (cfg2 a).N) (d) : (dat2 V a hc c).before 7 t d = blk2 V a c 7 t :=
  Dat.before_in_eq_fetched (dat2 V a hc c) 7 rfl (fun _ => rfl) (fun _ _ _ => rfl) (fun _ => rfl) t d
theorem in2_7 (c : Dev nD) (t : Fin (cfg2 a).N) : preW V a hc c t 7 ⊢ (owns (c : Thread nD τ) (stM a t 7) fullShare (stX V a c t 7) : sProp 𝕄) := by
  have h : ∀ d, (owns (c : Thread nD τ) (((cfg2 a).win 7).stage ((cfg2 a).slots t 7)) fullShare ((dat2 V a hc c).before 7 t d) : sProp 𝕄)
      ⊢ owns (c : Thread nD τ) (stM a t 7) fullShare (stX V a c t 7) := fun d => by rw [before2_7]; exact .rfl
  unfold preW
  iintro ⟨%d, H⟩
  iapply (h d); iexact H
theorem out2_7 (c : Dev nD) (t : Fin (cfg2 a).N) : (owns (c : Thread nD τ) (stM a t 7) fullShare (stX V a c t 7) : sProp 𝕄) ⊢ postW V a hc c t 7 := .rfl
/-- A row's block is what its window shows. -/
theorem before2_8 (c : Dev nD) (t : Fin (cfg2 a).N) (d) : (dat2 V a hc c).before 8 t d = blk2 V a c 8 t :=
  Dat.before_in_eq_fetched (dat2 V a hc c) 8 rfl (fun _ => rfl) (fun _ _ _ => rfl) (fun _ => rfl) t d
theorem in2_8 (c : Dev nD) (t : Fin (cfg2 a).N) : preW V a hc c t 8 ⊢ (owns (c : Thread nD τ) (stM a t 8) fullShare (stX V a c t 8) : sProp 𝕄) := by
  have h : ∀ d, (owns (c : Thread nD τ) (((cfg2 a).win 8).stage ((cfg2 a).slots t 8)) fullShare ((dat2 V a hc c).before 8 t d) : sProp 𝕄)
      ⊢ owns (c : Thread nD τ) (stM a t 8) fullShare (stX V a c t 8) := fun d => by rw [before2_8]; exact .rfl
  unfold preW
  iintro ⟨%d, H⟩
  iapply (h d); iexact H
theorem out2_8 (c : Dev nD) (t : Fin (cfg2 a).N) : (owns (c : Thread nD τ) (stM a t 8) fullShare (stX V a c t 8) : sProp 𝕄) ⊢ postW V a hc c t 8 := .rfl
/-- A row's block is what its window shows. -/
theorem before2_9 (c : Dev nD) (t : Fin (cfg2 a).N) (d) : (dat2 V a hc c).before 9 t d = blk2 V a c 9 t :=
  Dat.before_in_eq_fetched (dat2 V a hc c) 9 rfl (fun _ => rfl) (fun _ _ _ => rfl) (fun _ => rfl) t d
theorem in2_9 (c : Dev nD) (t : Fin (cfg2 a).N) : preW V a hc c t 9 ⊢ (owns (c : Thread nD τ) (stM a t 9) fullShare (stX V a c t 9) : sProp 𝕄) := by
  have h : ∀ d, (owns (c : Thread nD τ) (((cfg2 a).win 9).stage ((cfg2 a).slots t 9)) fullShare ((dat2 V a hc c).before 9 t d) : sProp 𝕄)
      ⊢ owns (c : Thread nD τ) (stM a t 9) fullShare (stX V a c t 9) := fun d => by rw [before2_9]; exact .rfl
  unfold preW
  iintro ⟨%d, H⟩
  iapply (h d); iexact H
theorem out2_9 (c : Dev nD) (t : Fin (cfg2 a).N) : (owns (c : Thread nD τ) (stM a t 9) fullShare (stX V a c t 9) : sProp 𝕄) ⊢ postW V a hc c t 9 := .rfl
/-- A row's block is what its window shows. -/
theorem before2_10 (c : Dev nD) (t : Fin (cfg2 a).N) (d) : (dat2 V a hc c).before 10 t d = blk2 V a c 10 t :=
  Dat.before_in_eq_fetched (dat2 V a hc c) 10 rfl (fun _ => rfl) (fun _ _ _ => rfl) (fun _ => rfl) t d
theorem in2_10 (c : Dev nD) (t : Fin (cfg2 a).N) : preW V a hc c t 10 ⊢ (owns (c : Thread nD τ) (stM a t 10) fullShare (stX V a c t 10) : sProp 𝕄) := by
  have h : ∀ d, (owns (c : Thread nD τ) (((cfg2 a).win 10).stage ((cfg2 a).slots t 10)) fullShare ((dat2 V a hc c).before 10 t d) : sProp 𝕄)
      ⊢ owns (c : Thread nD τ) (stM a t 10) fullShare (stX V a c t 10) := fun d => by rw [before2_10]; exact .rfl
  unfold preW
  iintro ⟨%d, H⟩
  iapply (h d); iexact H
theorem out2_10 (c : Dev nD) (t : Fin (cfg2 a).N) : (owns (c : Thread nD τ) (stM a t 10) fullShare (stX V a c t 10) : sProp 𝕄) ⊢ postW V a hc c t 10 := .rfl
/-- A row's block is what its window shows. -/
theorem before2_11 (c : Dev nD) (t : Fin (cfg2 a).N) (d) : (dat2 V a hc c).before 11 t d = blk2 V a c 11 t :=
  Dat.before_in_eq_fetched (dat2 V a hc c) 11 rfl (fun _ => rfl) (fun _ _ _ => rfl) (fun _ => rfl) t d
theorem in2_11 (c : Dev nD) (t : Fin (cfg2 a).N) : preW V a hc c t 11 ⊢ (owns (c : Thread nD τ) (stM a t 11) fullShare (stX V a c t 11) : sProp 𝕄) := by
  have h : ∀ d, (owns (c : Thread nD τ) (((cfg2 a).win 11).stage ((cfg2 a).slots t 11)) fullShare ((dat2 V a hc c).before 11 t d) : sProp 𝕄)
      ⊢ owns (c : Thread nD τ) (stM a t 11) fullShare (stX V a c t 11) := fun d => by rw [before2_11]; exact .rfl
  unfold preW
  iintro ⟨%d, H⟩
  iapply (h d); iexact H
theorem out2_11 (c : Dev nD) (t : Fin (cfg2 a).N) : (owns (c : Thread nD τ) (stM a t 11) fullShare (stX V a c t 11) : sProp 𝕄) ⊢ postW V a hc c t 11 := .rfl
/-- A row's block is what its window shows. -/
theorem before2_12 (c : Dev nD) (t : Fin (cfg2 a).N) (d) : (dat2 V a hc c).before 12 t d = blk2 V a c 12 t :=
  Dat.before_in_eq_fetched (dat2 V a hc c) 12 rfl (fun _ => rfl) (fun _ _ _ => rfl) (fun _ => rfl) t d
theorem in2_12 (c : Dev nD) (t : Fin (cfg2 a).N) : preW V a hc c t 12 ⊢ (owns (c : Thread nD τ) (stM a t 12) fullShare (stX V a c t 12) : sProp 𝕄) := by
  have h : ∀ d, (owns (c : Thread nD τ) (((cfg2 a).win 12).stage ((cfg2 a).slots t 12)) fullShare ((dat2 V a hc c).before 12 t d) : sProp 𝕄)
      ⊢ owns (c : Thread nD τ) (stM a t 12) fullShare (stX V a c t 12) := fun d => by rw [before2_12]; exact .rfl
  unfold preW
  iintro ⟨%d, H⟩
  iapply (h d); iexact H
theorem out2_12 (c : Dev nD) (t : Fin (cfg2 a).N) : (owns (c : Thread nD τ) (stM a t 12) fullShare (stX V a c t 12) : sProp 𝕄) ⊢ postW V a hc c t 12 := .rfl
/-- A row's block is what its window shows. -/
theorem before2_13 (c : Dev nD) (t : Fin (cfg2 a).N) (d) : (dat2 V a hc c).before 13 t d = blk2 V a c 13 t :=
  Dat.before_in_eq_fetched (dat2 V a hc c) 13 rfl (fun _ => rfl) (fun _ _ _ => rfl) (fun _ => rfl) t d
theorem in2_13 (c : Dev nD) (t : Fin (cfg2 a).N) : preW V a hc c t 13 ⊢ (owns (c : Thread nD τ) (stM a t 13) fullShare (stX V a c t 13) : sProp 𝕄) := by
  have h : ∀ d, (owns (c : Thread nD τ) (((cfg2 a).win 13).stage ((cfg2 a).slots t 13)) fullShare ((dat2 V a hc c).before 13 t d) : sProp 𝕄)
      ⊢ owns (c : Thread nD τ) (stM a t 13) fullShare (stX V a c t 13) := fun d => by rw [before2_13]; exact .rfl
  unfold preW
  iintro ⟨%d, H⟩
  iapply (h d); iexact H
theorem out2_13 (c : Dev nD) (t : Fin (cfg2 a).N) : (owns (c : Thread nD τ) (stM a t 13) fullShare (stX V a c t 13) : sProp 𝕄) ⊢ postW V a hc c t 13 := .rfl
/-- A row's block is what its window shows. -/
theorem before2_14 (c : Dev nD) (t : Fin (cfg2 a).N) (d) : (dat2 V a hc c).before 14 t d = blk2 V a c 14 t :=
  Dat.before_in_eq_fetched (dat2 V a hc c) 14 rfl (fun _ => rfl) (fun _ _ _ => rfl) (fun _ => rfl) t d
theorem in2_14 (c : Dev nD) (t : Fin (cfg2 a).N) : preW V a hc c t 14 ⊢ (owns (c : Thread nD τ) (stM a t 14) fullShare (stX V a c t 14) : sProp 𝕄) := by
  have h : ∀ d, (owns (c : Thread nD τ) (((cfg2 a).win 14).stage ((cfg2 a).slots t 14)) fullShare ((dat2 V a hc c).before 14 t d) : sProp 𝕄)
      ⊢ owns (c : Thread nD τ) (stM a t 14) fullShare (stX V a c t 14) := fun d => by rw [before2_14]; exact .rfl
  unfold preW
  iintro ⟨%d, H⟩
  iapply (h d); iexact H
theorem out2_14 (c : Dev nD) (t : Fin (cfg2 a).N) : (owns (c : Thread nD τ) (stM a t 14) fullShare (stX V a c t 14) : sProp 𝕄) ⊢ postW V a hc c t 14 := .rfl
/-- A row's block is what its window shows. -/
theorem before2_15 (c : Dev nD) (t : Fin (cfg2 a).N) (d) : (dat2 V a hc c).before 15 t d = blk2 V a c 15 t :=
  Dat.before_in_eq_fetched (dat2 V a hc c) 15 rfl (fun _ => rfl) (fun _ _ _ => rfl) (fun _ => rfl) t d
theorem in2_15 (c : Dev nD) (t : Fin (cfg2 a).N) : preW V a hc c t 15 ⊢ (owns (c : Thread nD τ) (stM a t 15) fullShare (stX V a c t 15) : sProp 𝕄) := by
  have h : ∀ d, (owns (c : Thread nD τ) (((cfg2 a).win 15).stage ((cfg2 a).slots t 15)) fullShare ((dat2 V a hc c).before 15 t d) : sProp 𝕄)
      ⊢ owns (c : Thread nD τ) (stM a t 15) fullShare (stX V a c t 15) := fun d => by rw [before2_15]; exact .rfl
  unfold preW
  iintro ⟨%d, H⟩
  iapply (h d); iexact H
theorem out2_15 (c : Dev nD) (t : Fin (cfg2 a).N) : (owns (c : Thread nD τ) (stM a t 15) fullShare (stX V a c t 15) : sProp 𝕄) ⊢ postW V a hc c t 15 := .rfl
/-- A row's block is what its window shows. -/
theorem before2_16 (c : Dev nD) (t : Fin (cfg2 a).N) (d) : (dat2 V a hc c).before 16 t d = blk2 V a c 16 t :=
  Dat.before_in_eq_fetched (dat2 V a hc c) 16 rfl (fun _ => rfl) (fun _ _ _ => rfl) (fun _ => rfl) t d
theorem in2_16 (c : Dev nD) (t : Fin (cfg2 a).N) : preW V a hc c t 16 ⊢ (owns (c : Thread nD τ) (stM a t 16) fullShare (stX V a c t 16) : sProp 𝕄) := by
  have h : ∀ d, (owns (c : Thread nD τ) (((cfg2 a).win 16).stage ((cfg2 a).slots t 16)) fullShare ((dat2 V a hc c).before 16 t d) : sProp 𝕄)
      ⊢ owns (c : Thread nD τ) (stM a t 16) fullShare (stX V a c t 16) := fun d => by rw [before2_16]; exact .rfl
  unfold preW
  iintro ⟨%d, H⟩
  iapply (h d); iexact H
theorem out2_16 (c : Dev nD) (t : Fin (cfg2 a).N) : (owns (c : Thread nD τ) (stM a t 16) fullShare (stX V a c t 16) : sProp 𝕄) ⊢ postW V a hc c t 16 := .rfl
/-- A row's block is what its window shows. -/
theorem before2_17 (c : Dev nD) (t : Fin (cfg2 a).N) (d) : (dat2 V a hc c).before 17 t d = blk2 V a c 17 t :=
  Dat.before_in_eq_fetched (dat2 V a hc c) 17 rfl (fun _ => rfl) (fun _ _ _ => rfl) (fun _ => rfl) t d
theorem in2_17 (c : Dev nD) (t : Fin (cfg2 a).N) : preW V a hc c t 17 ⊢ (owns (c : Thread nD τ) (stM a t 17) fullShare (stX V a c t 17) : sProp 𝕄) := by
  have h : ∀ d, (owns (c : Thread nD τ) (((cfg2 a).win 17).stage ((cfg2 a).slots t 17)) fullShare ((dat2 V a hc c).before 17 t d) : sProp 𝕄)
      ⊢ owns (c : Thread nD τ) (stM a t 17) fullShare (stX V a c t 17) := fun d => by rw [before2_17]; exact .rfl
  unfold preW
  iintro ⟨%d, H⟩
  iapply (h d); iexact H
theorem out2_17 (c : Dev nD) (t : Fin (cfg2 a).N) : (owns (c : Thread nD τ) (stM a t 17) fullShare (stX V a c t 17) : sProp 𝕄) ⊢ postW V a hc c t 17 := .rfl
/-- A row's block is what its window shows. -/
theorem before2_18 (c : Dev nD) (t : Fin (cfg2 a).N) (d) : (dat2 V a hc c).before 18 t d = blk2 V a c 18 t :=
  Dat.before_in_eq_fetched (dat2 V a hc c) 18 rfl (fun _ => rfl) (fun _ _ _ => rfl) (fun _ => rfl) t d
theorem in2_18 (c : Dev nD) (t : Fin (cfg2 a).N) : preW V a hc c t 18 ⊢ (owns (c : Thread nD τ) (stM a t 18) fullShare (stX V a c t 18) : sProp 𝕄) := by
  have h : ∀ d, (owns (c : Thread nD τ) (((cfg2 a).win 18).stage ((cfg2 a).slots t 18)) fullShare ((dat2 V a hc c).before 18 t d) : sProp 𝕄)
      ⊢ owns (c : Thread nD τ) (stM a t 18) fullShare (stX V a c t 18) := fun d => by rw [before2_18]; exact .rfl
  unfold preW
  iintro ⟨%d, H⟩
  iapply (h d); iexact H
theorem out2_18 (c : Dev nD) (t : Fin (cfg2 a).N) : (owns (c : Thread nD τ) (stM a t 18) fullShare (stX V a c t 18) : sProp 𝕄) ⊢ postW V a hc c t 18 := .rfl
/-- A row's block is what its window shows. -/
theorem before2_19 (c : Dev nD) (t : Fin (cfg2 a).N) (d) : (dat2 V a hc c).before 19 t d = blk2 V a c 19 t :=
  Dat.before_in_eq_fetched (dat2 V a hc c) 19 rfl (fun _ => rfl) (fun _ _ _ => rfl) (fun _ => rfl) t d
theorem in2_19 (c : Dev nD) (t : Fin (cfg2 a).N) : preW V a hc c t 19 ⊢ (owns (c : Thread nD τ) (stM a t 19) fullShare (stX V a c t 19) : sProp 𝕄) := by
  have h : ∀ d, (owns (c : Thread nD τ) (((cfg2 a).win 19).stage ((cfg2 a).slots t 19)) fullShare ((dat2 V a hc c).before 19 t d) : sProp 𝕄)
      ⊢ owns (c : Thread nD τ) (stM a t 19) fullShare (stX V a c t 19) := fun d => by rw [before2_19]; exact .rfl
  unfold preW
  iintro ⟨%d, H⟩
  iapply (h d); iexact H
theorem out2_19 (c : Dev nD) (t : Fin (cfg2 a).N) : (owns (c : Thread nD τ) (stM a t 19) fullShare (stX V a c t 19) : sProp 𝕄) ⊢ postW V a hc c t 19 := .rfl
/-- A row's block is what its window shows. -/
theorem before2_20 (c : Dev nD) (t : Fin (cfg2 a).N) (d) : (dat2 V a hc c).before 20 t d = blk2 V a c 20 t :=
  Dat.before_in_eq_fetched (dat2 V a hc c) 20 rfl (fun _ => rfl) (fun _ _ _ => rfl) (fun _ => rfl) t d
theorem in2_20 (c : Dev nD) (t : Fin (cfg2 a).N) : preW V a hc c t 20 ⊢ (owns (c : Thread nD τ) (stM a t 20) fullShare (stX V a c t 20) : sProp 𝕄) := by
  have h : ∀ d, (owns (c : Thread nD τ) (((cfg2 a).win 20).stage ((cfg2 a).slots t 20)) fullShare ((dat2 V a hc c).before 20 t d) : sProp 𝕄)
      ⊢ owns (c : Thread nD τ) (stM a t 20) fullShare (stX V a c t 20) := fun d => by rw [before2_20]; exact .rfl
  unfold preW
  iintro ⟨%d, H⟩
  iapply (h d); iexact H
theorem out2_20 (c : Dev nD) (t : Fin (cfg2 a).N) : (owns (c : Thread nD τ) (stM a t 20) fullShare (stX V a c t 20) : sProp 𝕄) ⊢ postW V a hc c t 20 := .rfl
/-- A row's block is what its window shows. -/
theorem before2_21 (c : Dev nD) (t : Fin (cfg2 a).N) (d) : (dat2 V a hc c).before 21 t d = blk2 V a c 21 t :=
  Dat.before_in_eq_fetched (dat2 V a hc c) 21 rfl (fun _ => rfl) (fun _ _ _ => rfl) (fun _ => rfl) t d
theorem in2_21 (c : Dev nD) (t : Fin (cfg2 a).N) : preW V a hc c t 21 ⊢ (owns (c : Thread nD τ) (stM a t 21) fullShare (stX V a c t 21) : sProp 𝕄) := by
  have h : ∀ d, (owns (c : Thread nD τ) (((cfg2 a).win 21).stage ((cfg2 a).slots t 21)) fullShare ((dat2 V a hc c).before 21 t d) : sProp 𝕄)
      ⊢ owns (c : Thread nD τ) (stM a t 21) fullShare (stX V a c t 21) := fun d => by rw [before2_21]; exact .rfl
  unfold preW
  iintro ⟨%d, H⟩
  iapply (h d); iexact H
theorem out2_21 (c : Dev nD) (t : Fin (cfg2 a).N) : (owns (c : Thread nD τ) (stM a t 21) fullShare (stX V a c t 21) : sProp 𝕄) ⊢ postW V a hc c t 21 := .rfl
/-- A row's block is what its window shows. -/
theorem before2_22 (c : Dev nD) (t : Fin (cfg2 a).N) (d) : (dat2 V a hc c).before 22 t d = blk2 V a c 22 t :=
  Dat.before_in_eq_fetched (dat2 V a hc c) 22 rfl (fun _ => rfl) (fun _ _ _ => rfl) (fun _ => rfl) t d
theorem in2_22 (c : Dev nD) (t : Fin (cfg2 a).N) : preW V a hc c t 22 ⊢ (owns (c : Thread nD τ) (stM a t 22) fullShare (stX V a c t 22) : sProp 𝕄) := by
  have h : ∀ d, (owns (c : Thread nD τ) (((cfg2 a).win 22).stage ((cfg2 a).slots t 22)) fullShare ((dat2 V a hc c).before 22 t d) : sProp 𝕄)
      ⊢ owns (c : Thread nD τ) (stM a t 22) fullShare (stX V a c t 22) := fun d => by rw [before2_22]; exact .rfl
  unfold preW
  iintro ⟨%d, H⟩
  iapply (h d); iexact H
theorem out2_22 (c : Dev nD) (t : Fin (cfg2 a).N) : (owns (c : Thread nD τ) (stM a t 22) fullShare (stX V a c t 22) : sProp 𝕄) ⊢ postW V a hc c t 22 := .rfl
/-- A row's block is what its window shows. -/
theorem before2_23 (c : Dev nD) (t : Fin (cfg2 a).N) (d) : (dat2 V a hc c).before 23 t d = blk2 V a c 23 t :=
  Dat.before_in_eq_fetched (dat2 V a hc c) 23 rfl (fun _ => rfl) (fun _ _ _ => rfl) (fun _ => rfl) t d
theorem in2_23 (c : Dev nD) (t : Fin (cfg2 a).N) : preW V a hc c t 23 ⊢ (owns (c : Thread nD τ) (stM a t 23) fullShare (stX V a c t 23) : sProp 𝕄) := by
  have h : ∀ d, (owns (c : Thread nD τ) (((cfg2 a).win 23).stage ((cfg2 a).slots t 23)) fullShare ((dat2 V a hc c).before 23 t d) : sProp 𝕄)
      ⊢ owns (c : Thread nD τ) (stM a t 23) fullShare (stX V a c t 23) := fun d => by rw [before2_23]; exact .rfl
  unfold preW
  iintro ⟨%d, H⟩
  iapply (h d); iexact H
theorem out2_23 (c : Dev nD) (t : Fin (cfg2 a).N) : (owns (c : Thread nD τ) (stM a t 23) fullShare (stX V a c t 23) : sProp 𝕄) ⊢ postW V a hc c t 23 := .rfl
/-- A row's block is what its window shows. -/
theorem before2_24 (c : Dev nD) (t : Fin (cfg2 a).N) (d) : (dat2 V a hc c).before 24 t d = blk2 V a c 24 t :=
  Dat.before_in_eq_fetched (dat2 V a hc c) 24 rfl (fun _ => rfl) (fun _ _ _ => rfl) (fun _ => rfl) t d
theorem in2_24 (c : Dev nD) (t : Fin (cfg2 a).N) : preW V a hc c t 24 ⊢ (owns (c : Thread nD τ) (stM a t 24) fullShare (stX V a c t 24) : sProp 𝕄) := by
  have h : ∀ d, (owns (c : Thread nD τ) (((cfg2 a).win 24).stage ((cfg2 a).slots t 24)) fullShare ((dat2 V a hc c).before 24 t d) : sProp 𝕄)
      ⊢ owns (c : Thread nD τ) (stM a t 24) fullShare (stX V a c t 24) := fun d => by rw [before2_24]; exact .rfl
  unfold preW
  iintro ⟨%d, H⟩
  iapply (h d); iexact H
theorem out2_24 (c : Dev nD) (t : Fin (cfg2 a).N) : (owns (c : Thread nD τ) (stM a t 24) fullShare (stX V a c t 24) : sProp 𝕄) ⊢ postW V a hc c t 24 := .rfl
/-- A row's block is what its window shows. -/
theorem before2_25 (c : Dev nD) (t : Fin (cfg2 a).N) (d) : (dat2 V a hc c).before 25 t d = blk2 V a c 25 t :=
  Dat.before_in_eq_fetched (dat2 V a hc c) 25 rfl (fun _ => rfl) (fun _ _ _ => rfl) (fun _ => rfl) t d
theorem in2_25 (c : Dev nD) (t : Fin (cfg2 a).N) : preW V a hc c t 25 ⊢ (owns (c : Thread nD τ) (stM a t 25) fullShare (stX V a c t 25) : sProp 𝕄) := by
  have h : ∀ d, (owns (c : Thread nD τ) (((cfg2 a).win 25).stage ((cfg2 a).slots t 25)) fullShare ((dat2 V a hc c).before 25 t d) : sProp 𝕄)
      ⊢ owns (c : Thread nD τ) (stM a t 25) fullShare (stX V a c t 25) := fun d => by rw [before2_25]; exact .rfl
  unfold preW
  iintro ⟨%d, H⟩
  iapply (h d); iexact H
theorem out2_25 (c : Dev nD) (t : Fin (cfg2 a).N) : (owns (c : Thread nD τ) (stM a t 25) fullShare (stX V a c t 25) : sProp 𝕄) ⊢ postW V a hc c t 25 := .rfl
/-- A row's block is what its window shows. -/
theorem before2_26 (c : Dev nD) (t : Fin (cfg2 a).N) (d) : (dat2 V a hc c).before 26 t d = blk2 V a c 26 t :=
  Dat.before_in_eq_fetched (dat2 V a hc c) 26 rfl (fun _ => rfl) (fun _ _ _ => rfl) (fun _ => rfl) t d
theorem in2_26 (c : Dev nD) (t : Fin (cfg2 a).N) : preW V a hc c t 26 ⊢ (owns (c : Thread nD τ) (stM a t 26) fullShare (stX V a c t 26) : sProp 𝕄) := by
  have h : ∀ d, (owns (c : Thread nD τ) (((cfg2 a).win 26).stage ((cfg2 a).slots t 26)) fullShare ((dat2 V a hc c).before 26 t d) : sProp 𝕄)
      ⊢ owns (c : Thread nD τ) (stM a t 26) fullShare (stX V a c t 26) := fun d => by rw [before2_26]; exact .rfl
  unfold preW
  iintro ⟨%d, H⟩
  iapply (h d); iexact H
theorem out2_26 (c : Dev nD) (t : Fin (cfg2 a).N) : (owns (c : Thread nD τ) (stM a t 26) fullShare (stX V a c t 26) : sProp 𝕄) ⊢ postW V a hc c t 26 := .rfl
/-- A row's block is what its window shows. -/
theorem before2_27 (c : Dev nD) (t : Fin (cfg2 a).N) (d) : (dat2 V a hc c).before 27 t d = blk2 V a c 27 t :=
  Dat.before_in_eq_fetched (dat2 V a hc c) 27 rfl (fun _ => rfl) (fun _ _ _ => rfl) (fun _ => rfl) t d
theorem in2_27 (c : Dev nD) (t : Fin (cfg2 a).N) : preW V a hc c t 27 ⊢ (owns (c : Thread nD τ) (stM a t 27) fullShare (stX V a c t 27) : sProp 𝕄) := by
  have h : ∀ d, (owns (c : Thread nD τ) (((cfg2 a).win 27).stage ((cfg2 a).slots t 27)) fullShare ((dat2 V a hc c).before 27 t d) : sProp 𝕄)
      ⊢ owns (c : Thread nD τ) (stM a t 27) fullShare (stX V a c t 27) := fun d => by rw [before2_27]; exact .rfl
  unfold preW
  iintro ⟨%d, H⟩
  iapply (h d); iexact H
theorem out2_27 (c : Dev nD) (t : Fin (cfg2 a).N) : (owns (c : Thread nD τ) (stM a t 27) fullShare (stX V a c t 27) : sProp 𝕄) ⊢ postW V a hc c t 27 := .rfl
/-- A row's block is what its window shows. -/
theorem before2_28 (c : Dev nD) (t : Fin (cfg2 a).N) (d) : (dat2 V a hc c).before 28 t d = blk2 V a c 28 t :=
  Dat.before_in_eq_fetched (dat2 V a hc c) 28 rfl (fun _ => rfl) (fun _ _ _ => rfl) (fun _ => rfl) t d
theorem in2_28 (c : Dev nD) (t : Fin (cfg2 a).N) : preW V a hc c t 28 ⊢ (owns (c : Thread nD τ) (stM a t 28) fullShare (stX V a c t 28) : sProp 𝕄) := by
  have h : ∀ d, (owns (c : Thread nD τ) (((cfg2 a).win 28).stage ((cfg2 a).slots t 28)) fullShare ((dat2 V a hc c).before 28 t d) : sProp 𝕄)
      ⊢ owns (c : Thread nD τ) (stM a t 28) fullShare (stX V a c t 28) := fun d => by rw [before2_28]; exact .rfl
  unfold preW
  iintro ⟨%d, H⟩
  iapply (h d); iexact H
theorem out2_28 (c : Dev nD) (t : Fin (cfg2 a).N) : (owns (c : Thread nD τ) (stM a t 28) fullShare (stX V a c t 28) : sProp 𝕄) ⊢ postW V a hc c t 28 := .rfl
/-- A row's block is what its window shows. -/
theorem before2_29 (c : Dev nD) (t : Fin (cfg2 a).N) (d) : (dat2 V a hc c).before 29 t d = blk2 V a c 29 t :=
  Dat.before_in_eq_fetched (dat2 V a hc c) 29 rfl (fun _ => rfl) (fun _ _ _ => rfl) (fun _ => rfl) t d
theorem in2_29 (c : Dev nD) (t : Fin (cfg2 a).N) : preW V a hc c t 29 ⊢ (owns (c : Thread nD τ) (stM a t 29) fullShare (stX V a c t 29) : sProp 𝕄) := by
  have h : ∀ d, (owns (c : Thread nD τ) (((cfg2 a).win 29).stage ((cfg2 a).slots t 29)) fullShare ((dat2 V a hc c).before 29 t d) : sProp 𝕄)
      ⊢ owns (c : Thread nD τ) (stM a t 29) fullShare (stX V a c t 29) := fun d => by rw [before2_29]; exact .rfl
  unfold preW
  iintro ⟨%d, H⟩
  iapply (h d); iexact H
theorem out2_29 (c : Dev nD) (t : Fin (cfg2 a).N) : (owns (c : Thread nD τ) (stM a t 29) fullShare (stX V a c t 29) : sProp 𝕄) ⊢ postW V a hc c t 29 := .rfl
/-- A row's block is what its window shows. -/
theorem before2_30 (c : Dev nD) (t : Fin (cfg2 a).N) (d) : (dat2 V a hc c).before 30 t d = blk2 V a c 30 t :=
  Dat.before_in_eq_fetched (dat2 V a hc c) 30 rfl (fun _ => rfl) (fun _ _ _ => rfl) (fun _ => rfl) t d
theorem in2_30 (c : Dev nD) (t : Fin (cfg2 a).N) : preW V a hc c t 30 ⊢ (owns (c : Thread nD τ) (stM a t 30) fullShare (stX V a c t 30) : sProp 𝕄) := by
  have h : ∀ d, (owns (c : Thread nD τ) (((cfg2 a).win 30).stage ((cfg2 a).slots t 30)) fullShare ((dat2 V a hc c).before 30 t d) : sProp 𝕄)
      ⊢ owns (c : Thread nD τ) (stM a t 30) fullShare (stX V a c t 30) := fun d => by rw [before2_30]; exact .rfl
  unfold preW
  iintro ⟨%d, H⟩
  iapply (h d); iexact H
theorem out2_30 (c : Dev nD) (t : Fin (cfg2 a).N) : (owns (c : Thread nD τ) (stM a t 30) fullShare (stX V a c t 30) : sProp 𝕄) ⊢ postW V a hc c t 30 := .rfl
/-- A row's block is what its window shows. -/
theorem before2_31 (c : Dev nD) (t : Fin (cfg2 a).N) (d) : (dat2 V a hc c).before 31 t d = blk2 V a c 31 t :=
  Dat.before_in_eq_fetched (dat2 V a hc c) 31 rfl (fun _ => rfl) (fun _ _ _ => rfl) (fun _ => rfl) t d
theorem in2_31 (c : Dev nD) (t : Fin (cfg2 a).N) : preW V a hc c t 31 ⊢ (owns (c : Thread nD τ) (stM a t 31) fullShare (stX V a c t 31) : sProp 𝕄) := by
  have h : ∀ d, (owns (c : Thread nD τ) (((cfg2 a).win 31).stage ((cfg2 a).slots t 31)) fullShare ((dat2 V a hc c).before 31 t d) : sProp 𝕄)
      ⊢ owns (c : Thread nD τ) (stM a t 31) fullShare (stX V a c t 31) := fun d => by rw [before2_31]; exact .rfl
  unfold preW
  iintro ⟨%d, H⟩
  iapply (h d); iexact H
theorem out2_31 (c : Dev nD) (t : Fin (cfg2 a).N) : (owns (c : Thread nD τ) (stM a t 31) fullShare (stX V a c t 31) : sProp 𝕄) ⊢ postW V a hc c t 31 := .rfl
/-- A row's block is what its window shows. -/
theorem before2_32 (c : Dev nD) (t : Fin (cfg2 a).N) (d) : (dat2 V a hc c).before 32 t d = blk2 V a c 32 t :=
  Dat.before_in_eq_fetched (dat2 V a hc c) 32 rfl (fun _ => rfl) (fun _ _ _ => rfl) (fun _ => rfl) t d
theorem in2_32 (c : Dev nD) (t : Fin (cfg2 a).N) : preW V a hc c t 32 ⊢ (owns (c : Thread nD τ) (stM a t 32) fullShare (stX V a c t 32) : sProp 𝕄) := by
  have h : ∀ d, (owns (c : Thread nD τ) (((cfg2 a).win 32).stage ((cfg2 a).slots t 32)) fullShare ((dat2 V a hc c).before 32 t d) : sProp 𝕄)
      ⊢ owns (c : Thread nD τ) (stM a t 32) fullShare (stX V a c t 32) := fun d => by rw [before2_32]; exact .rfl
  unfold preW
  iintro ⟨%d, H⟩
  iapply (h d); iexact H
theorem out2_32 (c : Dev nD) (t : Fin (cfg2 a).N) : (owns (c : Thread nD τ) (stM a t 32) fullShare (stX V a c t 32) : sProp 𝕄) ⊢ postW V a hc c t 32 := .rfl
/-- A row's block is what its window shows. -/
theorem before2_33 (c : Dev nD) (t : Fin (cfg2 a).N) (d) : (dat2 V a hc c).before 33 t d = blk2 V a c 33 t :=
  Dat.before_in_eq_fetched (dat2 V a hc c) 33 rfl (fun _ => rfl) (fun _ _ _ => rfl) (fun _ => rfl) t d
theorem in2_33 (c : Dev nD) (t : Fin (cfg2 a).N) : preW V a hc c t 33 ⊢ (owns (c : Thread nD τ) (stM a t 33) fullShare (stX V a c t 33) : sProp 𝕄) := by
  have h : ∀ d, (owns (c : Thread nD τ) (((cfg2 a).win 33).stage ((cfg2 a).slots t 33)) fullShare ((dat2 V a hc c).before 33 t d) : sProp 𝕄)
      ⊢ owns (c : Thread nD τ) (stM a t 33) fullShare (stX V a c t 33) := fun d => by rw [before2_33]; exact .rfl
  unfold preW
  iintro ⟨%d, H⟩
  iapply (h d); iexact H
theorem out2_33 (c : Dev nD) (t : Fin (cfg2 a).N) : (owns (c : Thread nD τ) (stM a t 33) fullShare (stX V a c t 33) : sProp 𝕄) ⊢ postW V a hc c t 33 := .rfl
/-- A row's block is what its window shows. -/
theorem before2_34 (c : Dev nD) (t : Fin (cfg2 a).N) (d) : (dat2 V a hc c).before 34 t d = blk2 V a c 34 t :=
  Dat.before_in_eq_fetched (dat2 V a hc c) 34 rfl (fun _ => rfl) (fun _ _ _ => rfl) (fun _ => rfl) t d
theorem in2_34 (c : Dev nD) (t : Fin (cfg2 a).N) : preW V a hc c t 34 ⊢ (owns (c : Thread nD τ) (stM a t 34) fullShare (stX V a c t 34) : sProp 𝕄) := by
  have h : ∀ d, (owns (c : Thread nD τ) (((cfg2 a).win 34).stage ((cfg2 a).slots t 34)) fullShare ((dat2 V a hc c).before 34 t d) : sProp 𝕄)
      ⊢ owns (c : Thread nD τ) (stM a t 34) fullShare (stX V a c t 34) := fun d => by rw [before2_34]; exact .rfl
  unfold preW
  iintro ⟨%d, H⟩
  iapply (h d); iexact H
theorem out2_34 (c : Dev nD) (t : Fin (cfg2 a).N) : (owns (c : Thread nD τ) (stM a t 34) fullShare (stX V a c t 34) : sProp 𝕄) ⊢ postW V a hc c t 34 := .rfl
/-- A row's block is what its window shows. -/
theorem before2_35 (c : Dev nD) (t : Fin (cfg2 a).N) (d) : (dat2 V a hc c).before 35 t d = blk2 V a c 35 t :=
  Dat.before_in_eq_fetched (dat2 V a hc c) 35 rfl (fun _ => rfl) (fun _ _ _ => rfl) (fun _ => rfl) t d
theorem in2_35 (c : Dev nD) (t : Fin (cfg2 a).N) : preW V a hc c t 35 ⊢ (owns (c : Thread nD τ) (stM a t 35) fullShare (stX V a c t 35) : sProp 𝕄) := by
  have h : ∀ d, (owns (c : Thread nD τ) (((cfg2 a).win 35).stage ((cfg2 a).slots t 35)) fullShare ((dat2 V a hc c).before 35 t d) : sProp 𝕄)
      ⊢ owns (c : Thread nD τ) (stM a t 35) fullShare (stX V a c t 35) := fun d => by rw [before2_35]; exact .rfl
  unfold preW
  iintro ⟨%d, H⟩
  iapply (h d); iexact H
theorem out2_35 (c : Dev nD) (t : Fin (cfg2 a).N) : (owns (c : Thread nD τ) (stM a t 35) fullShare (stX V a c t 35) : sProp 𝕄) ⊢ postW V a hc c t 35 := .rfl
/-- A row's block is what its window shows. -/
theorem before2_36 (c : Dev nD) (t : Fin (cfg2 a).N) (d) : (dat2 V a hc c).before 36 t d = blk2 V a c 36 t :=
  Dat.before_in_eq_fetched (dat2 V a hc c) 36 rfl (fun _ => rfl) (fun _ _ _ => rfl) (fun _ => rfl) t d
theorem in2_36 (c : Dev nD) (t : Fin (cfg2 a).N) : preW V a hc c t 36 ⊢ (owns (c : Thread nD τ) (stM a t 36) fullShare (stX V a c t 36) : sProp 𝕄) := by
  have h : ∀ d, (owns (c : Thread nD τ) (((cfg2 a).win 36).stage ((cfg2 a).slots t 36)) fullShare ((dat2 V a hc c).before 36 t d) : sProp 𝕄)
      ⊢ owns (c : Thread nD τ) (stM a t 36) fullShare (stX V a c t 36) := fun d => by rw [before2_36]; exact .rfl
  unfold preW
  iintro ⟨%d, H⟩
  iapply (h d); iexact H
theorem out2_36 (c : Dev nD) (t : Fin (cfg2 a).N) : (owns (c : Thread nD τ) (stM a t 36) fullShare (stX V a c t 36) : sProp 𝕄) ⊢ postW V a hc c t 36 := .rfl
/-- A row's block is what its window shows. -/
theorem before2_37 (c : Dev nD) (t : Fin (cfg2 a).N) (d) : (dat2 V a hc c).before 37 t d = blk2 V a c 37 t :=
  Dat.before_in_eq_fetched (dat2 V a hc c) 37 rfl (fun _ => rfl) (fun _ _ _ => rfl) (fun _ => rfl) t d
theorem in2_37 (c : Dev nD) (t : Fin (cfg2 a).N) : preW V a hc c t 37 ⊢ (owns (c : Thread nD τ) (stM a t 37) fullShare (stX V a c t 37) : sProp 𝕄) := by
  have h : ∀ d, (owns (c : Thread nD τ) (((cfg2 a).win 37).stage ((cfg2 a).slots t 37)) fullShare ((dat2 V a hc c).before 37 t d) : sProp 𝕄)
      ⊢ owns (c : Thread nD τ) (stM a t 37) fullShare (stX V a c t 37) := fun d => by rw [before2_37]; exact .rfl
  unfold preW
  iintro ⟨%d, H⟩
  iapply (h d); iexact H
theorem out2_37 (c : Dev nD) (t : Fin (cfg2 a).N) : (owns (c : Thread nD τ) (stM a t 37) fullShare (stX V a c t 37) : sProp 𝕄) ⊢ postW V a hc c t 37 := .rfl
/-- A row's block is what its window shows. -/
theorem before2_38 (c : Dev nD) (t : Fin (cfg2 a).N) (d) : (dat2 V a hc c).before 38 t d = blk2 V a c 38 t :=
  Dat.before_in_eq_fetched (dat2 V a hc c) 38 rfl (fun _ => rfl) (fun _ _ _ => rfl) (fun _ => rfl) t d
theorem in2_38 (c : Dev nD) (t : Fin (cfg2 a).N) : preW V a hc c t 38 ⊢ (owns (c : Thread nD τ) (stM a t 38) fullShare (stX V a c t 38) : sProp 𝕄) := by
  have h : ∀ d, (owns (c : Thread nD τ) (((cfg2 a).win 38).stage ((cfg2 a).slots t 38)) fullShare ((dat2 V a hc c).before 38 t d) : sProp 𝕄)
      ⊢ owns (c : Thread nD τ) (stM a t 38) fullShare (stX V a c t 38) := fun d => by rw [before2_38]; exact .rfl
  unfold preW
  iintro ⟨%d, H⟩
  iapply (h d); iexact H
theorem out2_38 (c : Dev nD) (t : Fin (cfg2 a).N) : (owns (c : Thread nD τ) (stM a t 38) fullShare (stX V a c t 38) : sProp 𝕄) ⊢ postW V a hc c t 38 := .rfl
/-- A row's block is what its window shows. -/
theorem before2_39 (c : Dev nD) (t : Fin (cfg2 a).N) (d) : (dat2 V a hc c).before 39 t d = blk2 V a c 39 t :=
  Dat.before_in_eq_fetched (dat2 V a hc c) 39 rfl (fun _ => rfl) (fun _ _ _ => rfl) (fun _ => rfl) t d
theorem in2_39 (c : Dev nD) (t : Fin (cfg2 a).N) : preW V a hc c t 39 ⊢ (owns (c : Thread nD τ) (stM a t 39) fullShare (stX V a c t 39) : sProp 𝕄) := by
  have h : ∀ d, (owns (c : Thread nD τ) (((cfg2 a).win 39).stage ((cfg2 a).slots t 39)) fullShare ((dat2 V a hc c).before 39 t d) : sProp 𝕄)
      ⊢ owns (c : Thread nD τ) (stM a t 39) fullShare (stX V a c t 39) := fun d => by rw [before2_39]; exact .rfl
  unfold preW
  iintro ⟨%d, H⟩
  iapply (h d); iexact H
theorem out2_39 (c : Dev nD) (t : Fin (cfg2 a).N) : (owns (c : Thread nD τ) (stM a t 39) fullShare (stX V a c t 39) : sProp 𝕄) ⊢ postW V a hc c t 39 := .rfl
/-- A row's block is what its window shows. -/
theorem before2_40 (c : Dev nD) (t : Fin (cfg2 a).N) (d) : (dat2 V a hc c).before 40 t d = blk2 V a c 40 t :=
  Dat.before_in_eq_fetched (dat2 V a hc c) 40 rfl (fun _ => rfl) (fun _ _ _ => rfl) (fun _ => rfl) t d
theorem in2_40 (c : Dev nD) (t : Fin (cfg2 a).N) : preW V a hc c t 40 ⊢ (owns (c : Thread nD τ) (stM a t 40) fullShare (stX V a c t 40) : sProp 𝕄) := by
  have h : ∀ d, (owns (c : Thread nD τ) (((cfg2 a).win 40).stage ((cfg2 a).slots t 40)) fullShare ((dat2 V a hc c).before 40 t d) : sProp 𝕄)
      ⊢ owns (c : Thread nD τ) (stM a t 40) fullShare (stX V a c t 40) := fun d => by rw [before2_40]; exact .rfl
  unfold preW
  iintro ⟨%d, H⟩
  iapply (h d); iexact H
theorem out2_40 (c : Dev nD) (t : Fin (cfg2 a).N) : (owns (c : Thread nD τ) (stM a t 40) fullShare (stX V a c t 40) : sProp 𝕄) ⊢ postW V a hc c t 40 := .rfl
/-- A row's block is what its window shows. -/
theorem before2_41 (c : Dev nD) (t : Fin (cfg2 a).N) (d) : (dat2 V a hc c).before 41 t d = blk2 V a c 41 t :=
  Dat.before_in_eq_fetched (dat2 V a hc c) 41 rfl (fun _ => rfl) (fun _ _ _ => rfl) (fun _ => rfl) t d
theorem in2_41 (c : Dev nD) (t : Fin (cfg2 a).N) : preW V a hc c t 41 ⊢ (owns (c : Thread nD τ) (stM a t 41) fullShare (stX V a c t 41) : sProp 𝕄) := by
  have h : ∀ d, (owns (c : Thread nD τ) (((cfg2 a).win 41).stage ((cfg2 a).slots t 41)) fullShare ((dat2 V a hc c).before 41 t d) : sProp 𝕄)
      ⊢ owns (c : Thread nD τ) (stM a t 41) fullShare (stX V a c t 41) := fun d => by rw [before2_41]; exact .rfl
  unfold preW
  iintro ⟨%d, H⟩
  iapply (h d); iexact H
theorem out2_41 (c : Dev nD) (t : Fin (cfg2 a).N) : (owns (c : Thread nD τ) (stM a t 41) fullShare (stX V a c t 41) : sProp 𝕄) ⊢ postW V a hc c t 41 := .rfl
/-- A row's block is what its window shows. -/
theorem before2_42 (c : Dev nD) (t : Fin (cfg2 a).N) (d) : (dat2 V a hc c).before 42 t d = blk2 V a c 42 t :=
  Dat.before_in_eq_fetched (dat2 V a hc c) 42 rfl (fun _ => rfl) (fun _ _ _ => rfl) (fun _ => rfl) t d
theorem in2_42 (c : Dev nD) (t : Fin (cfg2 a).N) : preW V a hc c t 42 ⊢ (owns (c : Thread nD τ) (stM a t 42) fullShare (stX V a c t 42) : sProp 𝕄) := by
  have h : ∀ d, (owns (c : Thread nD τ) (((cfg2 a).win 42).stage ((cfg2 a).slots t 42)) fullShare ((dat2 V a hc c).before 42 t d) : sProp 𝕄)
      ⊢ owns (c : Thread nD τ) (stM a t 42) fullShare (stX V a c t 42) := fun d => by rw [before2_42]; exact .rfl
  unfold preW
  iintro ⟨%d, H⟩
  iapply (h d); iexact H
theorem out2_42 (c : Dev nD) (t : Fin (cfg2 a).N) : (owns (c : Thread nD τ) (stM a t 42) fullShare (stX V a c t 42) : sProp 𝕄) ⊢ postW V a hc c t 42 := .rfl
/-- A row's block is what its window shows. -/
theorem before2_43 (c : Dev nD) (t : Fin (cfg2 a).N) (d) : (dat2 V a hc c).before 43 t d = blk2 V a c 43 t :=
  Dat.before_in_eq_fetched (dat2 V a hc c) 43 rfl (fun _ => rfl) (fun _ _ _ => rfl) (fun _ => rfl) t d
theorem in2_43 (c : Dev nD) (t : Fin (cfg2 a).N) : preW V a hc c t 43 ⊢ (owns (c : Thread nD τ) (stM a t 43) fullShare (stX V a c t 43) : sProp 𝕄) := by
  have h : ∀ d, (owns (c : Thread nD τ) (((cfg2 a).win 43).stage ((cfg2 a).slots t 43)) fullShare ((dat2 V a hc c).before 43 t d) : sProp 𝕄)
      ⊢ owns (c : Thread nD τ) (stM a t 43) fullShare (stX V a c t 43) := fun d => by rw [before2_43]; exact .rfl
  unfold preW
  iintro ⟨%d, H⟩
  iapply (h d); iexact H
theorem out2_43 (c : Dev nD) (t : Fin (cfg2 a).N) : (owns (c : Thread nD τ) (stM a t 43) fullShare (stX V a c t 43) : sProp 𝕄) ⊢ postW V a hc c t 43 := .rfl
/-- A row's block is what its window shows. -/
theorem before2_44 (c : Dev nD) (t : Fin (cfg2 a).N) (d) : (dat2 V a hc c).before 44 t d = blk2 V a c 44 t :=
  Dat.before_in_eq_fetched (dat2 V a hc c) 44 rfl (fun _ => rfl) (fun _ _ _ => rfl) (fun _ => rfl) t d
theorem in2_44 (c : Dev nD) (t : Fin (cfg2 a).N) : preW V a hc c t 44 ⊢ (owns (c : Thread nD τ) (stM a t 44) fullShare (stX V a c t 44) : sProp 𝕄) := by
  have h : ∀ d, (owns (c : Thread nD τ) (((cfg2 a).win 44).stage ((cfg2 a).slots t 44)) fullShare ((dat2 V a hc c).before 44 t d) : sProp 𝕄)
      ⊢ owns (c : Thread nD τ) (stM a t 44) fullShare (stX V a c t 44) := fun d => by rw [before2_44]; exact .rfl
  unfold preW
  iintro ⟨%d, H⟩
  iapply (h d); iexact H
theorem out2_44 (c : Dev nD) (t : Fin (cfg2 a).N) : (owns (c : Thread nD τ) (stM a t 44) fullShare (stX V a c t 44) : sProp 𝕄) ⊢ postW V a hc c t 44 := .rfl
/-- A row's block is what its window shows. -/
theorem before2_45 (c : Dev nD) (t : Fin (cfg2 a).N) (d) : (dat2 V a hc c).before 45 t d = blk2 V a c 45 t :=
  Dat.before_in_eq_fetched (dat2 V a hc c) 45 rfl (fun _ => rfl) (fun _ _ _ => rfl) (fun _ => rfl) t d
theorem in2_45 (c : Dev nD) (t : Fin (cfg2 a).N) : preW V a hc c t 45 ⊢ (owns (c : Thread nD τ) (stM a t 45) fullShare (stX V a c t 45) : sProp 𝕄) := by
  have h : ∀ d, (owns (c : Thread nD τ) (((cfg2 a).win 45).stage ((cfg2 a).slots t 45)) fullShare ((dat2 V a hc c).before 45 t d) : sProp 𝕄)
      ⊢ owns (c : Thread nD τ) (stM a t 45) fullShare (stX V a c t 45) := fun d => by rw [before2_45]; exact .rfl
  unfold preW
  iintro ⟨%d, H⟩
  iapply (h d); iexact H
theorem out2_45 (c : Dev nD) (t : Fin (cfg2 a).N) : (owns (c : Thread nD τ) (stM a t 45) fullShare (stX V a c t 45) : sProp 𝕄) ⊢ postW V a hc c t 45 := .rfl
/-- A row's block is what its window shows. -/
theorem before2_46 (c : Dev nD) (t : Fin (cfg2 a).N) (d) : (dat2 V a hc c).before 46 t d = blk2 V a c 46 t :=
  Dat.before_in_eq_fetched (dat2 V a hc c) 46 rfl (fun _ => rfl) (fun _ _ _ => rfl) (fun _ => rfl) t d
theorem in2_46 (c : Dev nD) (t : Fin (cfg2 a).N) : preW V a hc c t 46 ⊢ (owns (c : Thread nD τ) (stM a t 46) fullShare (stX V a c t 46) : sProp 𝕄) := by
  have h : ∀ d, (owns (c : Thread nD τ) (((cfg2 a).win 46).stage ((cfg2 a).slots t 46)) fullShare ((dat2 V a hc c).before 46 t d) : sProp 𝕄)
      ⊢ owns (c : Thread nD τ) (stM a t 46) fullShare (stX V a c t 46) := fun d => by rw [before2_46]; exact .rfl
  unfold preW
  iintro ⟨%d, H⟩
  iapply (h d); iexact H
theorem out2_46 (c : Dev nD) (t : Fin (cfg2 a).N) : (owns (c : Thread nD τ) (stM a t 46) fullShare (stX V a c t 46) : sProp 𝕄) ⊢ postW V a hc c t 46 := .rfl
/-- A row's block is what its window shows. -/
theorem before2_47 (c : Dev nD) (t : Fin (cfg2 a).N) (d) : (dat2 V a hc c).before 47 t d = blk2 V a c 47 t :=
  Dat.before_in_eq_fetched (dat2 V a hc c) 47 rfl (fun _ => rfl) (fun _ _ _ => rfl) (fun _ => rfl) t d
theorem in2_47 (c : Dev nD) (t : Fin (cfg2 a).N) : preW V a hc c t 47 ⊢ (owns (c : Thread nD τ) (stM a t 47) fullShare (stX V a c t 47) : sProp 𝕄) := by
  have h : ∀ d, (owns (c : Thread nD τ) (((cfg2 a).win 47).stage ((cfg2 a).slots t 47)) fullShare ((dat2 V a hc c).before 47 t d) : sProp 𝕄)
      ⊢ owns (c : Thread nD τ) (stM a t 47) fullShare (stX V a c t 47) := fun d => by rw [before2_47]; exact .rfl
  unfold preW
  iintro ⟨%d, H⟩
  iapply (h d); iexact H
theorem out2_47 (c : Dev nD) (t : Fin (cfg2 a).N) : (owns (c : Thread nD τ) (stM a t 47) fullShare (stX V a c t 47) : sProp 𝕄) ⊢ postW V a hc c t 47 := .rfl
/-- A row's block is what its window shows. -/
theorem before2_48 (c : Dev nD) (t : Fin (cfg2 a).N) (d) : (dat2 V a hc c).before 48 t d = blk2 V a c 48 t :=
  Dat.before_in_eq_fetched (dat2 V a hc c) 48 rfl (fun _ => rfl) (fun _ _ _ => rfl) (fun _ => rfl) t d
theorem in2_48 (c : Dev nD) (t : Fin (cfg2 a).N) : preW V a hc c t 48 ⊢ (owns (c : Thread nD τ) (stM a t 48) fullShare (stX V a c t 48) : sProp 𝕄) := by
  have h : ∀ d, (owns (c : Thread nD τ) (((cfg2 a).win 48).stage ((cfg2 a).slots t 48)) fullShare ((dat2 V a hc c).before 48 t d) : sProp 𝕄)
      ⊢ owns (c : Thread nD τ) (stM a t 48) fullShare (stX V a c t 48) := fun d => by rw [before2_48]; exact .rfl
  unfold preW
  iintro ⟨%d, H⟩
  iapply (h d); iexact H
theorem out2_48 (c : Dev nD) (t : Fin (cfg2 a).N) : (owns (c : Thread nD τ) (stM a t 48) fullShare (stX V a c t 48) : sProp 𝕄) ⊢ postW V a hc c t 48 := .rfl
/-- A row's block is what its window shows. -/
theorem before2_49 (c : Dev nD) (t : Fin (cfg2 a).N) (d) : (dat2 V a hc c).before 49 t d = blk2 V a c 49 t :=
  Dat.before_in_eq_fetched (dat2 V a hc c) 49 rfl (fun _ => rfl) (fun _ _ _ => rfl) (fun _ => rfl) t d
theorem in2_49 (c : Dev nD) (t : Fin (cfg2 a).N) : preW V a hc c t 49 ⊢ (owns (c : Thread nD τ) (stM a t 49) fullShare (stX V a c t 49) : sProp 𝕄) := by
  have h : ∀ d, (owns (c : Thread nD τ) (((cfg2 a).win 49).stage ((cfg2 a).slots t 49)) fullShare ((dat2 V a hc c).before 49 t d) : sProp 𝕄)
      ⊢ owns (c : Thread nD τ) (stM a t 49) fullShare (stX V a c t 49) := fun d => by rw [before2_49]; exact .rfl
  unfold preW
  iintro ⟨%d, H⟩
  iapply (h d); iexact H
theorem out2_49 (c : Dev nD) (t : Fin (cfg2 a).N) : (owns (c : Thread nD τ) (stM a t 49) fullShare (stX V a c t 49) : sProp 𝕄) ⊢ postW V a hc c t 49 := .rfl
/-- A row's block is what its window shows. -/
theorem before2_50 (c : Dev nD) (t : Fin (cfg2 a).N) (d) : (dat2 V a hc c).before 50 t d = blk2 V a c 50 t :=
  Dat.before_in_eq_fetched (dat2 V a hc c) 50 rfl (fun _ => rfl) (fun _ _ _ => rfl) (fun _ => rfl) t d
theorem in2_50 (c : Dev nD) (t : Fin (cfg2 a).N) : preW V a hc c t 50 ⊢ (owns (c : Thread nD τ) (stM a t 50) fullShare (stX V a c t 50) : sProp 𝕄) := by
  have h : ∀ d, (owns (c : Thread nD τ) (((cfg2 a).win 50).stage ((cfg2 a).slots t 50)) fullShare ((dat2 V a hc c).before 50 t d) : sProp 𝕄)
      ⊢ owns (c : Thread nD τ) (stM a t 50) fullShare (stX V a c t 50) := fun d => by rw [before2_50]; exact .rfl
  unfold preW
  iintro ⟨%d, H⟩
  iapply (h d); iexact H
theorem out2_50 (c : Dev nD) (t : Fin (cfg2 a).N) : (owns (c : Thread nD τ) (stM a t 50) fullShare (stX V a c t 50) : sProp 𝕄) ⊢ postW V a hc c t 50 := .rfl
/-- A row's block is what its window shows. -/
theorem before2_51 (c : Dev nD) (t : Fin (cfg2 a).N) (d) : (dat2 V a hc c).before 51 t d = blk2 V a c 51 t :=
  Dat.before_in_eq_fetched (dat2 V a hc c) 51 rfl (fun _ => rfl) (fun _ _ _ => rfl) (fun _ => rfl) t d
theorem in2_51 (c : Dev nD) (t : Fin (cfg2 a).N) : preW V a hc c t 51 ⊢ (owns (c : Thread nD τ) (stM a t 51) fullShare (stX V a c t 51) : sProp 𝕄) := by
  have h : ∀ d, (owns (c : Thread nD τ) (((cfg2 a).win 51).stage ((cfg2 a).slots t 51)) fullShare ((dat2 V a hc c).before 51 t d) : sProp 𝕄)
      ⊢ owns (c : Thread nD τ) (stM a t 51) fullShare (stX V a c t 51) := fun d => by rw [before2_51]; exact .rfl
  unfold preW
  iintro ⟨%d, H⟩
  iapply (h d); iexact H
theorem out2_51 (c : Dev nD) (t : Fin (cfg2 a).N) : (owns (c : Thread nD τ) (stM a t 51) fullShare (stX V a c t 51) : sProp 𝕄) ⊢ postW V a hc c t 51 := .rfl
/-- A row's block is what its window shows. -/
theorem before2_52 (c : Dev nD) (t : Fin (cfg2 a).N) (d) : (dat2 V a hc c).before 52 t d = blk2 V a c 52 t :=
  Dat.before_in_eq_fetched (dat2 V a hc c) 52 rfl (fun _ => rfl) (fun _ _ _ => rfl) (fun _ => rfl) t d
theorem in2_52 (c : Dev nD) (t : Fin (cfg2 a).N) : preW V a hc c t 52 ⊢ (owns (c : Thread nD τ) (stM a t 52) fullShare (stX V a c t 52) : sProp 𝕄) := by
  have h : ∀ d, (owns (c : Thread nD τ) (((cfg2 a).win 52).stage ((cfg2 a).slots t 52)) fullShare ((dat2 V a hc c).before 52 t d) : sProp 𝕄)
      ⊢ owns (c : Thread nD τ) (stM a t 52) fullShare (stX V a c t 52) := fun d => by rw [before2_52]; exact .rfl
  unfold preW
  iintro ⟨%d, H⟩
  iapply (h d); iexact H
theorem out2_52 (c : Dev nD) (t : Fin (cfg2 a).N) : (owns (c : Thread nD τ) (stM a t 52) fullShare (stX V a c t 52) : sProp 𝕄) ⊢ postW V a hc c t 52 := .rfl
/-- A row's block is what its window shows. -/
theorem before2_53 (c : Dev nD) (t : Fin (cfg2 a).N) (d) : (dat2 V a hc c).before 53 t d = blk2 V a c 53 t :=
  Dat.before_in_eq_fetched (dat2 V a hc c) 53 rfl (fun _ => rfl) (fun _ _ _ => rfl) (fun _ => rfl) t d
theorem in2_53 (c : Dev nD) (t : Fin (cfg2 a).N) : preW V a hc c t 53 ⊢ (owns (c : Thread nD τ) (stM a t 53) fullShare (stX V a c t 53) : sProp 𝕄) := by
  have h : ∀ d, (owns (c : Thread nD τ) (((cfg2 a).win 53).stage ((cfg2 a).slots t 53)) fullShare ((dat2 V a hc c).before 53 t d) : sProp 𝕄)
      ⊢ owns (c : Thread nD τ) (stM a t 53) fullShare (stX V a c t 53) := fun d => by rw [before2_53]; exact .rfl
  unfold preW
  iintro ⟨%d, H⟩
  iapply (h d); iexact H
theorem out2_53 (c : Dev nD) (t : Fin (cfg2 a).N) : (owns (c : Thread nD τ) (stM a t 53) fullShare (stX V a c t 53) : sProp 𝕄) ⊢ postW V a hc c t 53 := .rfl
/-- A row's block is what its window shows. -/
theorem before2_54 (c : Dev nD) (t : Fin (cfg2 a).N) (d) : (dat2 V a hc c).before 54 t d = blk2 V a c 54 t :=
  Dat.before_in_eq_fetched (dat2 V a hc c) 54 rfl (fun _ => rfl) (fun _ _ _ => rfl) (fun _ => rfl) t d
theorem in2_54 (c : Dev nD) (t : Fin (cfg2 a).N) : preW V a hc c t 54 ⊢ (owns (c : Thread nD τ) (stM a t 54) fullShare (stX V a c t 54) : sProp 𝕄) := by
  have h : ∀ d, (owns (c : Thread nD τ) (((cfg2 a).win 54).stage ((cfg2 a).slots t 54)) fullShare ((dat2 V a hc c).before 54 t d) : sProp 𝕄)
      ⊢ owns (c : Thread nD τ) (stM a t 54) fullShare (stX V a c t 54) := fun d => by rw [before2_54]; exact .rfl
  unfold preW
  iintro ⟨%d, H⟩
  iapply (h d); iexact H
theorem out2_54 (c : Dev nD) (t : Fin (cfg2 a).N) : (owns (c : Thread nD τ) (stM a t 54) fullShare (stX V a c t 54) : sProp 𝕄) ⊢ postW V a hc c t 54 := .rfl
/-- A row's block is what its window shows. -/
theorem before2_55 (c : Dev nD) (t : Fin (cfg2 a).N) (d) : (dat2 V a hc c).before 55 t d = blk2 V a c 55 t :=
  Dat.before_in_eq_fetched (dat2 V a hc c) 55 rfl (fun _ => rfl) (fun _ _ _ => rfl) (fun _ => rfl) t d
theorem in2_55 (c : Dev nD) (t : Fin (cfg2 a).N) : preW V a hc c t 55 ⊢ (owns (c : Thread nD τ) (stM a t 55) fullShare (stX V a c t 55) : sProp 𝕄) := by
  have h : ∀ d, (owns (c : Thread nD τ) (((cfg2 a).win 55).stage ((cfg2 a).slots t 55)) fullShare ((dat2 V a hc c).before 55 t d) : sProp 𝕄)
      ⊢ owns (c : Thread nD τ) (stM a t 55) fullShare (stX V a c t 55) := fun d => by rw [before2_55]; exact .rfl
  unfold preW
  iintro ⟨%d, H⟩
  iapply (h d); iexact H
theorem out2_55 (c : Dev nD) (t : Fin (cfg2 a).N) : (owns (c : Thread nD τ) (stM a t 55) fullShare (stX V a c t 55) : sProp 𝕄) ⊢ postW V a hc c t 55 := .rfl
/-- A row's block is what its window shows. -/
theorem before2_56 (c : Dev nD) (t : Fin (cfg2 a).N) (d) : (dat2 V a hc c).before 56 t d = blk2 V a c 56 t :=
  Dat.before_in_eq_fetched (dat2 V a hc c) 56 rfl (fun _ => rfl) (fun _ _ _ => rfl) (fun _ => rfl) t d
theorem in2_56 (c : Dev nD) (t : Fin (cfg2 a).N) : preW V a hc c t 56 ⊢ (owns (c : Thread nD τ) (stM a t 56) fullShare (stX V a c t 56) : sProp 𝕄) := by
  have h : ∀ d, (owns (c : Thread nD τ) (((cfg2 a).win 56).stage ((cfg2 a).slots t 56)) fullShare ((dat2 V a hc c).before 56 t d) : sProp 𝕄)
      ⊢ owns (c : Thread nD τ) (stM a t 56) fullShare (stX V a c t 56) := fun d => by rw [before2_56]; exact .rfl
  unfold preW
  iintro ⟨%d, H⟩
  iapply (h d); iexact H
theorem out2_56 (c : Dev nD) (t : Fin (cfg2 a).N) : (owns (c : Thread nD τ) (stM a t 56) fullShare (stX V a c t 56) : sProp 𝕄) ⊢ postW V a hc c t 56 := .rfl
/-- A row's block is what its window shows. -/
theorem before2_57 (c : Dev nD) (t : Fin (cfg2 a).N) (d) : (dat2 V a hc c).before 57 t d = blk2 V a c 57 t :=
  Dat.before_in_eq_fetched (dat2 V a hc c) 57 rfl (fun _ => rfl) (fun _ _ _ => rfl) (fun _ => rfl) t d
theorem in2_57 (c : Dev nD) (t : Fin (cfg2 a).N) : preW V a hc c t 57 ⊢ (owns (c : Thread nD τ) (stM a t 57) fullShare (stX V a c t 57) : sProp 𝕄) := by
  have h : ∀ d, (owns (c : Thread nD τ) (((cfg2 a).win 57).stage ((cfg2 a).slots t 57)) fullShare ((dat2 V a hc c).before 57 t d) : sProp 𝕄)
      ⊢ owns (c : Thread nD τ) (stM a t 57) fullShare (stX V a c t 57) := fun d => by rw [before2_57]; exact .rfl
  unfold preW
  iintro ⟨%d, H⟩
  iapply (h d); iexact H
theorem out2_57 (c : Dev nD) (t : Fin (cfg2 a).N) : (owns (c : Thread nD τ) (stM a t 57) fullShare (stX V a c t 57) : sProp 𝕄) ⊢ postW V a hc c t 57 := .rfl
/-- A row's block is what its window shows. -/
theorem before2_58 (c : Dev nD) (t : Fin (cfg2 a).N) (d) : (dat2 V a hc c).before 58 t d = blk2 V a c 58 t :=
  Dat.before_in_eq_fetched (dat2 V a hc c) 58 rfl (fun _ => rfl) (fun _ _ _ => rfl) (fun _ => rfl) t d
theorem in2_58 (c : Dev nD) (t : Fin (cfg2 a).N) : preW V a hc c t 58 ⊢ (owns (c : Thread nD τ) (stM a t 58) fullShare (stX V a c t 58) : sProp 𝕄) := by
  have h : ∀ d, (owns (c : Thread nD τ) (((cfg2 a).win 58).stage ((cfg2 a).slots t 58)) fullShare ((dat2 V a hc c).before 58 t d) : sProp 𝕄)
      ⊢ owns (c : Thread nD τ) (stM a t 58) fullShare (stX V a c t 58) := fun d => by rw [before2_58]; exact .rfl
  unfold preW
  iintro ⟨%d, H⟩
  iapply (h d); iexact H
theorem out2_58 (c : Dev nD) (t : Fin (cfg2 a).N) : (owns (c : Thread nD τ) (stM a t 58) fullShare (stX V a c t 58) : sProp 𝕄) ⊢ postW V a hc c t 58 := .rfl
/-- A row's block is what its window shows. -/
theorem before2_59 (c : Dev nD) (t : Fin (cfg2 a).N) (d) : (dat2 V a hc c).before 59 t d = blk2 V a c 59 t :=
  Dat.before_in_eq_fetched (dat2 V a hc c) 59 rfl (fun _ => rfl) (fun _ _ _ => rfl) (fun _ => rfl) t d
theorem in2_59 (c : Dev nD) (t : Fin (cfg2 a).N) : preW V a hc c t 59 ⊢ (owns (c : Thread nD τ) (stM a t 59) fullShare (stX V a c t 59) : sProp 𝕄) := by
  have h : ∀ d, (owns (c : Thread nD τ) (((cfg2 a).win 59).stage ((cfg2 a).slots t 59)) fullShare ((dat2 V a hc c).before 59 t d) : sProp 𝕄)
      ⊢ owns (c : Thread nD τ) (stM a t 59) fullShare (stX V a c t 59) := fun d => by rw [before2_59]; exact .rfl
  unfold preW
  iintro ⟨%d, H⟩
  iapply (h d); iexact H
theorem out2_59 (c : Dev nD) (t : Fin (cfg2 a).N) : (owns (c : Thread nD τ) (stM a t 59) fullShare (stX V a c t 59) : sProp 𝕄) ⊢ postW V a hc c t 59 := .rfl
/-- A row's block is what its window shows. -/
theorem before2_60 (c : Dev nD) (t : Fin (cfg2 a).N) (d) : (dat2 V a hc c).before 60 t d = blk2 V a c 60 t :=
  Dat.before_in_eq_fetched (dat2 V a hc c) 60 rfl (fun _ => rfl) (fun _ _ _ => rfl) (fun _ => rfl) t d
theorem in2_60 (c : Dev nD) (t : Fin (cfg2 a).N) : preW V a hc c t 60 ⊢ (owns (c : Thread nD τ) (stM a t 60) fullShare (stX V a c t 60) : sProp 𝕄) := by
  have h : ∀ d, (owns (c : Thread nD τ) (((cfg2 a).win 60).stage ((cfg2 a).slots t 60)) fullShare ((dat2 V a hc c).before 60 t d) : sProp 𝕄)
      ⊢ owns (c : Thread nD τ) (stM a t 60) fullShare (stX V a c t 60) := fun d => by rw [before2_60]; exact .rfl
  unfold preW
  iintro ⟨%d, H⟩
  iapply (h d); iexact H
theorem out2_60 (c : Dev nD) (t : Fin (cfg2 a).N) : (owns (c : Thread nD τ) (stM a t 60) fullShare (stX V a c t 60) : sProp 𝕄) ⊢ postW V a hc c t 60 := .rfl
/-- A row's block is what its window shows. -/
theorem before2_61 (c : Dev nD) (t : Fin (cfg2 a).N) (d) : (dat2 V a hc c).before 61 t d = blk2 V a c 61 t :=
  Dat.before_in_eq_fetched (dat2 V a hc c) 61 rfl (fun _ => rfl) (fun _ _ _ => rfl) (fun _ => rfl) t d
theorem in2_61 (c : Dev nD) (t : Fin (cfg2 a).N) : preW V a hc c t 61 ⊢ (owns (c : Thread nD τ) (stM a t 61) fullShare (stX V a c t 61) : sProp 𝕄) := by
  have h : ∀ d, (owns (c : Thread nD τ) (((cfg2 a).win 61).stage ((cfg2 a).slots t 61)) fullShare ((dat2 V a hc c).before 61 t d) : sProp 𝕄)
      ⊢ owns (c : Thread nD τ) (stM a t 61) fullShare (stX V a c t 61) := fun d => by rw [before2_61]; exact .rfl
  unfold preW
  iintro ⟨%d, H⟩
  iapply (h d); iexact H
theorem out2_61 (c : Dev nD) (t : Fin (cfg2 a).N) : (owns (c : Thread nD τ) (stM a t 61) fullShare (stX V a c t 61) : sProp 𝕄) ⊢ postW V a hc c t 61 := .rfl
/-- A row's block is what its window shows. -/
theorem before2_62 (c : Dev nD) (t : Fin (cfg2 a).N) (d) : (dat2 V a hc c).before 62 t d = blk2 V a c 62 t :=
  Dat.before_in_eq_fetched (dat2 V a hc c) 62 rfl (fun _ => rfl) (fun _ _ _ => rfl) (fun _ => rfl) t d
theorem in2_62 (c : Dev nD) (t : Fin (cfg2 a).N) : preW V a hc c t 62 ⊢ (owns (c : Thread nD τ) (stM a t 62) fullShare (stX V a c t 62) : sProp 𝕄) := by
  have h : ∀ d, (owns (c : Thread nD τ) (((cfg2 a).win 62).stage ((cfg2 a).slots t 62)) fullShare ((dat2 V a hc c).before 62 t d) : sProp 𝕄)
      ⊢ owns (c : Thread nD τ) (stM a t 62) fullShare (stX V a c t 62) := fun d => by rw [before2_62]; exact .rfl
  unfold preW
  iintro ⟨%d, H⟩
  iapply (h d); iexact H
theorem out2_62 (c : Dev nD) (t : Fin (cfg2 a).N) : (owns (c : Thread nD τ) (stM a t 62) fullShare (stX V a c t 62) : sProp 𝕄) ⊢ postW V a hc c t 62 := .rfl
/-- A row's block is what its window shows. -/
theorem before2_63 (c : Dev nD) (t : Fin (cfg2 a).N) (d) : (dat2 V a hc c).before 63 t d = blk2 V a c 63 t :=
  Dat.before_in_eq_fetched (dat2 V a hc c) 63 rfl (fun _ => rfl) (fun _ _ _ => rfl) (fun _ => rfl) t d
theorem in2_63 (c : Dev nD) (t : Fin (cfg2 a).N) : preW V a hc c t 63 ⊢ (owns (c : Thread nD τ) (stM a t 63) fullShare (stX V a c t 63) : sProp 𝕄) := by
  have h : ∀ d, (owns (c : Thread nD τ) (((cfg2 a).win 63).stage ((cfg2 a).slots t 63)) fullShare ((dat2 V a hc c).before 63 t d) : sProp 𝕄)
      ⊢ owns (c : Thread nD τ) (stM a t 63) fullShare (stX V a c t 63) := fun d => by rw [before2_63]; exact .rfl
  unfold preW
  iintro ⟨%d, H⟩
  iapply (h d); iexact H
theorem out2_63 (c : Dev nD) (t : Fin (cfg2 a).N) : (owns (c : Thread nD τ) (stM a t 63) fullShare (stX V a c t 63) : sProp 𝕄) ⊢ postW V a hc c t 63 := .rfl
/-- The result's block is the body's value. -/
theorem out2_64 (c : Dev nD) (t : Fin (cfg2 a).N) : (owns (c : Thread nD τ) (spec2_64.stage ((cfg2 a).slots t 64)) fullShare
    (rankOut c (grid2.coords t) (Memref.whole main_arg6) (Memref.isWhole_whole _) (Memref.whole main_arg7) (Memref.isWhole_whole _)
    (stM a t) (hstM a t) (spec2_64.stage ((cfg2 a).slots t 64)) (hstage2_64 (((cfg2 a).slots t 64).cast nbuf2_64)) (a.1 1) (stX V a c t) (hc c)) : sProp 𝕄) ⊢ postW V a hc c t 64 := by
  have h : (dat2 V a hc c).after 64 t = stOut V a hc c t := rfl
  unfold postW; rw [h]; unfold stOut; exact .rfl

set_option maxRecDepth 8000 in
/-- The body at a point, its staging blocks named. -/
theorem prog2 (t : Fin (cfg2 a).N) : (defs₀ (F := F)) .tc (cfg2 a).body ((cfg2 a).bodyArgs t ((cfg2 a).slots t)) = (cc2__rank_kernel (grid2.coords t) (Memref.whole main_arg6) (Memref.isWhole_whole _) (Memref.whole main_arg7) (Memref.isWhole_whole _)
    (stM a t 0) (hstM a t 0) (stM a t 1) (hstM a t 1) (stM a t 2) (hstM a t 2) (stM a t 3) (hstM a t 3) (stM a t 4) (hstM a t 4) (stM a t 5) (hstM a t 5) (stM a t 6) (hstM a t 6) (stM a t 7) (hstM a t 7) (stM a t 8) (hstM a t 8) (stM a t 9) (hstM a t 9) (stM a t 10) (hstM a t 10) (stM a t 11) (hstM a t 11) (stM a t 12) (hstM a t 12) (stM a t 13) (hstM a t 13) (stM a t 14) (hstM a t 14) (stM a t 15) (hstM a t 15) (stM a t 16) (hstM a t 16) (stM a t 17) (hstM a t 17) (stM a t 18) (hstM a t 18) (stM a t 19) (hstM a t 19) (stM a t 20) (hstM a t 20) (stM a t 21) (hstM a t 21) (stM a t 22) (hstM a t 22) (stM a t 23) (hstM a t 23) (stM a t 24) (hstM a t 24) (stM a t 25) (hstM a t 25) (stM a t 26) (hstM a t 26) (stM a t 27) (hstM a t 27) (stM a t 28) (hstM a t 28) (stM a t 29) (hstM a t 29) (stM a t 30) (hstM a t 30) (stM a t 31) (hstM a t 31) (stM a t 32) (hstM a t 32) (stM a t 33) (hstM a t 33) (stM a t 34) (hstM a t 34) (stM a t 35) (hstM a t 35) (stM a t 36) (hstM a t 36) (stM a t 37) (hstM a t 37) (stM a t 38) (hstM a t 38) (stM a t 39) (hstM a t 39) (stM a t 40) (hstM a t 40) (stM a t 41) (hstM a t 41) (stM a t 42) (hstM a t 42) (stM a t 43) (hstM a t 43) (stM a t 44) (hstM a t 44) (stM a t 45) (hstM a t 45) (stM a t 46) (hstM a t 46) (stM a t 47) (hstM a t 47) (stM a t 48) (hstM a t 48) (stM a t 49) (hstM a t 49) (stM a t 50) (hstM a t 50) (stM a t 51) (hstM a t 51) (stM a t 52) (hstM a t 52) (stM a t 53) (hstM a t 53) (stM a t 54) (hstM a t 54) (stM a t 55) (hstM a t 55) (stM a t 56) (hstM a t 56) (stM a t 57) (hstM a t 57) (stM a t 58) (hstM a t 58) (stM a t 59) (hstM a t 59) (stM a t 60) (hstM a t 60) (stM a t 61) (hstM a t 61) (stM a t 62) (hstM a t 62) (stM a t 63) (hstM a t 63) (spec2_64.stage ((cfg2 a).slots t 64)) (hstage2_64 (((cfg2 a).slots t 64).cast nbuf2_64))) := rfl

set_option maxRecDepth 8000 in
/-- The body keeps its obligation at every point. -/
theorem body2 (c : Dev nD) : BodyObligation (dat2 V a hc c) (defs₀ (F := F)) 𝒱₀ () Set.univ := fun t => by
  change iprop(_ ∗ _ ∗ bigSep Finset.univ (preW V a hc c t)) ⊢ wp _ _ _ _ fun _ => iprop(_ ∗ _ ∗ bigSep Finset.univ (postW V a hc c t))
  rw [bigSep_W2, bigSep_W2]
  rw [show (dat2 V a hc c).Φ t.castSucc = iprop(Pipeline.scopedRest (Ix := Unit) (Name := ℕ) (U := UU) (Lvl := ℕ) (Val := Elt F) spec2 c
    ∗ Pipeline.prefHeld (Ix := Unit) (Name := ℕ) (U := UU) (Lvl := ℕ) pre2 c (fun _ => fullShare) a.1) from rfl,
    show (dat2 V a hc c).Φ t.succ = iprop(Pipeline.scopedRest (Ix := Unit) (Name := ℕ) (U := UU) (Lvl := ℕ) (Val := Elt F) spec2 c
    ∗ Pipeline.prefHeld (Ix := Unit) (Name := ℕ) (U := UU) (Lvl := ℕ) pre2 c (fun _ => fullShare) a.1) from rfl, tables2, prog2]
  iintro ⟨⟨HS, HT6, HT7⟩, Ho, H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64⟩
  iapply (rankStep c (grid2.coords t) (Memref.whole main_arg6) (Memref.isWhole_whole _) (Memref.whole main_arg7) (Memref.isWhole_whole _)
    (stM a t) (hstM a t) (spec2_64.stage ((cfg2 a).slots t 64)) (hstage2_64 (((cfg2 a).slots t 64).cast nbuf2_64)) (a.1 1) (stX V a c t) (hc c))
  isplitl [HT7]; · iexact HT7
  isplitl [H0 H1 H2 H3 H4 H5 H6 H7 H8 H9 H10 H11 H12 H13 H14 H15 H16 H17 H18 H19 H20 H21 H22 H23 H24 H25 H26 H27 H28 H29 H30 H31 H32 H33 H34 H35 H36 H37 H38 H39 H40 H41 H42 H43 H44 H45 H46 H47 H48 H49 H50 H51 H52 H53 H54 H55 H56 H57 H58 H59 H60 H61 H62 H63]
  · isplitl [H0]; · iapply (in2_0 V a hc c t); iexact H0
    isplitl [H1]; · iapply (in2_1 V a hc c t); iexact H1
    isplitl [H2]; · iapply (in2_2 V a hc c t); iexact H2
    isplitl [H3]; · iapply (in2_3 V a hc c t); iexact H3
    isplitl [H4]; · iapply (in2_4 V a hc c t); iexact H4
    isplitl [H5]; · iapply (in2_5 V a hc c t); iexact H5
    isplitl [H6]; · iapply (in2_6 V a hc c t); iexact H6
    isplitl [H7]; · iapply (in2_7 V a hc c t); iexact H7
    isplitl [H8]; · iapply (in2_8 V a hc c t); iexact H8
    isplitl [H9]; · iapply (in2_9 V a hc c t); iexact H9
    isplitl [H10]; · iapply (in2_10 V a hc c t); iexact H10
    isplitl [H11]; · iapply (in2_11 V a hc c t); iexact H11
    isplitl [H12]; · iapply (in2_12 V a hc c t); iexact H12
    isplitl [H13]; · iapply (in2_13 V a hc c t); iexact H13
    isplitl [H14]; · iapply (in2_14 V a hc c t); iexact H14
    isplitl [H15]; · iapply (in2_15 V a hc c t); iexact H15
    isplitl [H16]; · iapply (in2_16 V a hc c t); iexact H16
    isplitl [H17]; · iapply (in2_17 V a hc c t); iexact H17
    isplitl [H18]; · iapply (in2_18 V a hc c t); iexact H18
    isplitl [H19]; · iapply (in2_19 V a hc c t); iexact H19
    isplitl [H20]; · iapply (in2_20 V a hc c t); iexact H20
    isplitl [H21]; · iapply (in2_21 V a hc c t); iexact H21
    isplitl [H22]; · iapply (in2_22 V a hc c t); iexact H22
    isplitl [H23]; · iapply (in2_23 V a hc c t); iexact H23
    isplitl [H24]; · iapply (in2_24 V a hc c t); iexact H24
    isplitl [H25]; · iapply (in2_25 V a hc c t); iexact H25
    isplitl [H26]; · iapply (in2_26 V a hc c t); iexact H26
    isplitl [H27]; · iapply (in2_27 V a hc c t); iexact H27
    isplitl [H28]; · iapply (in2_28 V a hc c t); iexact H28
    isplitl [H29]; · iapply (in2_29 V a hc c t); iexact H29
    isplitl [H30]; · iapply (in2_30 V a hc c t); iexact H30
    isplitl [H31]; · iapply (in2_31 V a hc c t); iexact H31
    isplitl [H32]; · iapply (in2_32 V a hc c t); iexact H32
    isplitl [H33]; · iapply (in2_33 V a hc c t); iexact H33
    isplitl [H34]; · iapply (in2_34 V a hc c t); iexact H34
    isplitl [H35]; · iapply (in2_35 V a hc c t); iexact H35
    isplitl [H36]; · iapply (in2_36 V a hc c t); iexact H36
    isplitl [H37]; · iapply (in2_37 V a hc c t); iexact H37
    isplitl [H38]; · iapply (in2_38 V a hc c t); iexact H38
    isplitl [H39]; · iapply (in2_39 V a hc c t); iexact H39
    isplitl [H40]; · iapply (in2_40 V a hc c t); iexact H40
    isplitl [H41]; · iapply (in2_41 V a hc c t); iexact H41
    isplitl [H42]; · iapply (in2_42 V a hc c t); iexact H42
    isplitl [H43]; · iapply (in2_43 V a hc c t); iexact H43
    isplitl [H44]; · iapply (in2_44 V a hc c t); iexact H44
    isplitl [H45]; · iapply (in2_45 V a hc c t); iexact H45
    isplitl [H46]; · iapply (in2_46 V a hc c t); iexact H46
    isplitl [H47]; · iapply (in2_47 V a hc c t); iexact H47
    isplitl [H48]; · iapply (in2_48 V a hc c t); iexact H48
    isplitl [H49]; · iapply (in2_49 V a hc c t); iexact H49
    isplitl [H50]; · iapply (in2_50 V a hc c t); iexact H50
    isplitl [H51]; · iapply (in2_51 V a hc c t); iexact H51
    isplitl [H52]; · iapply (in2_52 V a hc c t); iexact H52
    isplitl [H53]; · iapply (in2_53 V a hc c t); iexact H53
    isplitl [H54]; · iapply (in2_54 V a hc c t); iexact H54
    isplitl [H55]; · iapply (in2_55 V a hc c t); iexact H55
    isplitl [H56]; · iapply (in2_56 V a hc c t); iexact H56
    isplitl [H57]; · iapply (in2_57 V a hc c t); iexact H57
    isplitl [H58]; · iapply (in2_58 V a hc c t); iexact H58
    isplitl [H59]; · iapply (in2_59 V a hc c t); iexact H59
    isplitl [H60]; · iapply (in2_60 V a hc c t); iexact H60
    isplitl [H61]; · iapply (in2_61 V a hc c t); iexact H61
    isplitl [H62]; · iapply (in2_62 V a hc c t); iexact H62
    iapply (in2_63 V a hc c t); iexact H63
  isplitl [H64]
  · unfold preW
    icases H64 with ⟨%e64, H64⟩; iexists _; iexact H64
  iintro ⟨HT7, ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63⟩, H64⟩
  isplitl [HS HT6 HT7]
  · isplitl [HS]; · iexact HS
    isplitl [HT6]; · iexact HT6
    iexact HT7
  isplitl [Ho]; · iexact Ho
  isplitl [H0]; · iapply (out2_0 V a hc c t); iexact H0
  isplitl [H1]; · iapply (out2_1 V a hc c t); iexact H1
  isplitl [H2]; · iapply (out2_2 V a hc c t); iexact H2
  isplitl [H3]; · iapply (out2_3 V a hc c t); iexact H3
  isplitl [H4]; · iapply (out2_4 V a hc c t); iexact H4
  isplitl [H5]; · iapply (out2_5 V a hc c t); iexact H5
  isplitl [H6]; · iapply (out2_6 V a hc c t); iexact H6
  isplitl [H7]; · iapply (out2_7 V a hc c t); iexact H7
  isplitl [H8]; · iapply (out2_8 V a hc c t); iexact H8
  isplitl [H9]; · iapply (out2_9 V a hc c t); iexact H9
  isplitl [H10]; · iapply (out2_10 V a hc c t); iexact H10
  isplitl [H11]; · iapply (out2_11 V a hc c t); iexact H11
  isplitl [H12]; · iapply (out2_12 V a hc c t); iexact H12
  isplitl [H13]; · iapply (out2_13 V a hc c t); iexact H13
  isplitl [H14]; · iapply (out2_14 V a hc c t); iexact H14
  isplitl [H15]; · iapply (out2_15 V a hc c t); iexact H15
  isplitl [H16]; · iapply (out2_16 V a hc c t); iexact H16
  isplitl [H17]; · iapply (out2_17 V a hc c t); iexact H17
  isplitl [H18]; · iapply (out2_18 V a hc c t); iexact H18
  isplitl [H19]; · iapply (out2_19 V a hc c t); iexact H19
  isplitl [H20]; · iapply (out2_20 V a hc c t); iexact H20
  isplitl [H21]; · iapply (out2_21 V a hc c t); iexact H21
  isplitl [H22]; · iapply (out2_22 V a hc c t); iexact H22
  isplitl [H23]; · iapply (out2_23 V a hc c t); iexact H23
  isplitl [H24]; · iapply (out2_24 V a hc c t); iexact H24
  isplitl [H25]; · iapply (out2_25 V a hc c t); iexact H25
  isplitl [H26]; · iapply (out2_26 V a hc c t); iexact H26
  isplitl [H27]; · iapply (out2_27 V a hc c t); iexact H27
  isplitl [H28]; · iapply (out2_28 V a hc c t); iexact H28
  isplitl [H29]; · iapply (out2_29 V a hc c t); iexact H29
  isplitl [H30]; · iapply (out2_30 V a hc c t); iexact H30
  isplitl [H31]; · iapply (out2_31 V a hc c t); iexact H31
  isplitl [H32]; · iapply (out2_32 V a hc c t); iexact H32
  isplitl [H33]; · iapply (out2_33 V a hc c t); iexact H33
  isplitl [H34]; · iapply (out2_34 V a hc c t); iexact H34
  isplitl [H35]; · iapply (out2_35 V a hc c t); iexact H35
  isplitl [H36]; · iapply (out2_36 V a hc c t); iexact H36
  isplitl [H37]; · iapply (out2_37 V a hc c t); iexact H37
  isplitl [H38]; · iapply (out2_38 V a hc c t); iexact H38
  isplitl [H39]; · iapply (out2_39 V a hc c t); iexact H39
  isplitl [H40]; · iapply (out2_40 V a hc c t); iexact H40
  isplitl [H41]; · iapply (out2_41 V a hc c t); iexact H41
  isplitl [H42]; · iapply (out2_42 V a hc c t); iexact H42
  isplitl [H43]; · iapply (out2_43 V a hc c t); iexact H43
  isplitl [H44]; · iapply (out2_44 V a hc c t); iexact H44
  isplitl [H45]; · iapply (out2_45 V a hc c t); iexact H45
  isplitl [H46]; · iapply (out2_46 V a hc c t); iexact H46
  isplitl [H47]; · iapply (out2_47 V a hc c t); iexact H47
  isplitl [H48]; · iapply (out2_48 V a hc c t); iexact H48
  isplitl [H49]; · iapply (out2_49 V a hc c t); iexact H49
  isplitl [H50]; · iapply (out2_50 V a hc c t); iexact H50
  isplitl [H51]; · iapply (out2_51 V a hc c t); iexact H51
  isplitl [H52]; · iapply (out2_52 V a hc c t); iexact H52
  isplitl [H53]; · iapply (out2_53 V a hc c t); iexact H53
  isplitl [H54]; · iapply (out2_54 V a hc c t); iexact H54
  isplitl [H55]; · iapply (out2_55 V a hc c t); iexact H55
  isplitl [H56]; · iapply (out2_56 V a hc c t); iexact H56
  isplitl [H57]; · iapply (out2_57 V a hc c t); iexact H57
  isplitl [H58]; · iapply (out2_58 V a hc c t); iexact H58
  isplitl [H59]; · iapply (out2_59 V a hc c t); iexact H59
  isplitl [H60]; · iapply (out2_60 V a hc c t); iexact H60
  isplitl [H61]; · iapply (out2_61 V a hc c t); iexact H61
  isplitl [H62]; · iapply (out2_62 V a hc c t); iexact H62
  isplitl [H63]; · iapply (out2_63 V a hc c t); iexact H63
  iapply (out2_64 V a hc c t); iexact H64

end Cert.Proof.KernelIdeal

end
-- ==== Proof.KernelIdeal.MetricsBody.lean ====
/-
  The metrics call's body, run once at any three operand blocks: what it leaves in the results' blocks.
-/
module

public import proofs.«01_k».proof.Proof.KernelIdeal.Base

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- From the three operand blocks and the three results', the body runs to its return, leaving values of
    the operands in the results' blocks. -/
def metricsRun (c : Dev nD)  (M0 : Memref sig .tc .vmem S1x4096 .f32) (h0 : M0.IsWhole) (M1 : Memref sig .tc .vmem S1x4096 .i32) (h1 : M1.IsWhole) (M2 : Memref sig .tc .vmem S1x4096 .i32) (h2 : M2.IsWhole) (M3 : Memref sig .tc .vmem S1x1 .f32) (h3 : M3.IsWhole) (M4 : Memref sig .tc .vmem S1x1 .f32) (h4 : M4.IsWhole) (M5 : Memref sig .tc .vmem S1x1 .f32) (h5 : M5.IsWhole)
    (f0 : Bf (F := F) c M0) (f1 : Bf (F := F) c M1) (f2 : Bf (F := F) c M2)  :
    { W : Bf (F := F) c M3 × Bf (F := F) c M4 × Bf (F := F) c M5 // ∀ (f3 : Bf (F := F) c M3) (f4 : Bf (F := F) c M4) (f5 : Bf (F := F) c M5) (E : Set ℕ) (Q : PUnit → sProp 𝕄),
        iprop(pt c M0 f0 ∗ pt c M1 f1 ∗ pt c M2 f2 ∗ pt c M3 f3 ∗ pt c M4 f4 ∗ pt c M5 f5 ∗ (iprop(pt c M0 f0 ∗ pt c M1 f1 ∗ pt c M2 f2 ∗ pt c M3 W.1 ∗ pt c M4 W.2.1 ∗ pt c M5 W.2.2) -∗ Q ⟨⟩))
          ⊢ wp frame (wpE (defs₀ (F := F)) Variants.none c none) E (cc3__metrics_kernel M0 h0 M1 h1 M2 h2 M3 h3 M4 h4 M5 h5) Q } := by
  refine ⟨(?_, ?_, ?_), fun f3 f4 f5 E Q => ?run⟩
  case run =>
    iintro ⟨H0, H1, H2, H3, H4, H5, Hk⟩
    sl_exec_parts!
    sl_step
    iapply Hk
    isplitl [H0]; · iexact H0
    isplitl [H1]; · iexact H1
    isplitl [H2]; · iexact H2
    isplitl [H3]; · iexact H3
    isplitl [H4]; · iexact H4
    iexact H5

/-- The column number at each entry of a chunk. -/
def mCol : IVec S512x4096 32 := iota .tc S512x4096 32 [1] iota_S512x4096_d1_w32
/-- The row number at each entry of a chunk. -/
def mRow : IVec S512x4096 32 := iota .tc S512x4096 32 [0] iota_S512x4096_d0_w32
/-- How many earlier labels of the first five chunks name the same context and premise. -/
def mDup (X1 X2 : Vec F S1x4096 .i32) : IVec S1x4096 32 :=
  k3_pay6 (k3_pay3 X1 X2) mCol mRow (k3_pay4 X1 X2) (k3_pay5 X1 X2)
/-- Which labels of the sixth chunk are earlier and name the same context and premise. -/
def mHit (X1 X2 : Vec F S1x4096 .i32) : IVec S512x4096 1 := k3_pay7 (k3_pay3 X1 X2) mCol mRow
/-- The number of distinct labels of each context. -/
def mCnt (X1 X2 : Vec F S1x4096 .i32) : FVec F S512x1 .f32 :=
  k3_pay10 (F := F) (k3_pay2 X1) (k3_pay3 X1 X2) mCol mRow (mDup X1 X2) (mHit X1 X2)
/-- The number of distinct labels of each context ranked first. -/
def mHits1 (X0 : Vec F S1x4096 .f32) (X1 X2 : Vec F S1x4096 .i32) : FVec F S512x1 .f32 :=
  k3_pay11 (k3_pay1 X0) (k3_pay2 X1) (k3_pay3 X1 X2) mCol mRow (mDup X1 X2) (mHit X1 X2)
/-- The number of distinct labels of each context ranked among the first ten. -/
def mHits10 (X0 : Vec F S1x4096 .f32) (X1 X2 : Vec F S1x4096 .i32) : FVec F S512x1 .f32 :=
  k3_pay12 (k3_pay1 X0) (k3_pay2 X1) (k3_pay3 X1 X2) mCol mRow (mDup X1 X2) (mHit X1 X2)
/-- The smallest rank among each context's labels. -/
def mMin (X0 : Vec F S1x4096 .f32) (X1 X2 : Vec F S1x4096 .i32) : FVec F S512 .f32 :=
  k3_pay13 (k3_pay1 X0) (k3_pay2 X1) (k3_pay3 X1 X2) mCol mRow (mDup X1 X2) (mHit X1 X2)

/-- A step of the run, as the body names it. -/
theorem msl1 (c : Dev nD) (M0 : Memref sig .tc .vmem S1x4096 .f32) (f0 : Bf (F := F) c M0) : metricsRun.sl.v1 c M0 f0 = k3_pay1 (M0.view.readAt (Elt F) (Rect.unit ![0, 0] S1x4096.size inb_S1x4096_S1x4096_0_0).toLoadRect f0) := rfl
/-- A step of the run, as the body names it. -/
theorem msl3 (c : Dev nD) (M1 : Memref sig .tc .vmem S1x4096 .i32) (f1 : Bf (F := F) c M1) : metricsRun.sl.v3 c M1 f1 = k3_pay2 (M1.view.readAt (Elt F) (Rect.unit ![0, 0] S1x4096.size inb_S1x4096_S1x4096_0_0).toLoadRect f1) := rfl
/-- A step of the run, as the body names it. -/
theorem msl8 (c : Dev nD) (M1 : Memref sig .tc .vmem S1x4096 .i32) (M2 : Memref sig .tc .vmem S1x4096 .i32) (f1 : Bf (F := F) c M1) (f2 : Bf (F := F) c M2) : metricsRun.sl.v8 c M1 M2 f1 f2 = k3_pay3 (M1.view.readAt (Elt F) (Rect.unit ![0, 0] S1x4096.size inb_S1x4096_S1x4096_0_0).toLoadRect f1) (M2.view.readAt (Elt F) (Rect.unit ![0, 0] S1x4096.size inb_S1x4096_S1x4096_0_0).toLoadRect f2) := rfl
/-- A step of the run, as the body names it. -/
theorem msl98 (c : Dev nD) (M1 : Memref sig .tc .vmem S1x4096 .i32) (M2 : Memref sig .tc .vmem S1x4096 .i32) (f1 : Bf (F := F) c M1) (f2 : Bf (F := F) c M2) : metricsRun.sl.v98 c M1 M2 f1 f2 = k3_pay7 (metricsRun.sl.v8 c M1 M2 f1 f2) metricsRun.sl.v10 metricsRun.sl.v11 := rfl
/-- A step of the run, as the body names it. -/
theorem msl89 (c : Dev nD) (M1 : Memref sig .tc .vmem S1x4096 .i32) (M2 : Memref sig .tc .vmem S1x4096 .i32) (f1 : Bf (F := F) c M1) (f2 : Bf (F := F) c M2) : metricsRun.sl.v89 c M1 M2 f1 f2 = k3_pay6 (metricsRun.sl.v8 c M1 M2 f1 f2) metricsRun.sl.v10 metricsRun.sl.v11 (k3_pay4 (M1.view.readAt (Elt F) (Rect.unit ![0, 0] S1x4096.size inb_S1x4096_S1x4096_0_0).toLoadRect f1) (M2.view.readAt (Elt F) (Rect.unit ![0, 0] S1x4096.size inb_S1x4096_S1x4096_0_0).toLoadRect f2)) (k3_pay5 (M1.view.readAt (Elt F) (Rect.unit ![0, 0] S1x4096.size inb_S1x4096_S1x4096_0_0).toLoadRect f1) (M2.view.readAt (Elt F) (Rect.unit ![0, 0] S1x4096.size inb_S1x4096_S1x4096_0_0).toLoadRect f2)) := rfl

/-- What the run leaves in one result's block, read back. -/
theorem metricsRun_read3 (c : Dev nD)  (M0 : Memref sig .tc .vmem S1x4096 .f32) (h0 : M0.IsWhole) (M1 : Memref sig .tc .vmem S1x4096 .i32) (h1 : M1.IsWhole) (M2 : Memref sig .tc .vmem S1x4096 .i32) (h2 : M2.IsWhole) (M3 : Memref sig .tc .vmem S1x1 .f32) (h3 : M3.IsWhole) (M4 : Memref sig .tc .vmem S1x1 .f32) (h4 : M4.IsWhole) (M5 : Memref sig .tc .vmem S1x1 .f32) (h5 : M5.IsWhole)
    (f0 : Bf (F := F) c M0) (f1 : Bf (F := F) c M1) (f2 : Bf (F := F) c M2) :
    M3.view.read (Elt F) (metricsRun c  M0 h0 M1 h1 M2 h2 M3 h3 M4 h4 M5 h5 f0 f1 f2).1.1 = k3_pay17 (mCnt (M1.view.read (Elt F) f1) (M2.view.read (Elt F) f2)) (mHits1 (M0.view.read (Elt F) f0) (M1.view.read (Elt F) f1) (M2.view.read (Elt F) f2)) := by
  rw [show (metricsRun c  M0 h0 M1 h1 M2 h2 M3 h3 M4 h4 M5 h5 f0 f1 f2).1.1 = M3.view.writes (Elt F) M3.view.junk (metricsRun.sl.H3_1 c M0 M1 M2 f0 f1 f2) from by delta metricsRun; dsimp only]
  delta metricsRun.sl.H3_1
  rw [read_filled]
  delta metricsRun.sl.r metricsRun.sl.r_1 mCnt mHits1 mDup mHit mCol mRow
  simp only [msl1, msl3, msl8, msl89, msl98, ↓View.readAt_full]
  rfl

/-- What the run leaves in one result's block, read back. -/
theorem metricsRun_read4 (c : Dev nD)  (M0 : Memref sig .tc .vmem S1x4096 .f32) (h0 : M0.IsWhole) (M1 : Memref sig .tc .vmem S1x4096 .i32) (h1 : M1.IsWhole) (M2 : Memref sig .tc .vmem S1x4096 .i32) (h2 : M2.IsWhole) (M3 : Memref sig .tc .vmem S1x1 .f32) (h3 : M3.IsWhole) (M4 : Memref sig .tc .vmem S1x1 .f32) (h4 : M4.IsWhole) (M5 : Memref sig .tc .vmem S1x1 .f32) (h5 : M5.IsWhole)
    (f0 : Bf (F := F) c M0) (f1 : Bf (F := F) c M1) (f2 : Bf (F := F) c M2) :
    M4.view.read (Elt F) (metricsRun c  M0 h0 M1 h1 M2 h2 M3 h3 M4 h4 M5 h5 f0 f1 f2).1.2.1 = k3_pay18 (mCnt (M1.view.read (Elt F) f1) (M2.view.read (Elt F) f2)) (mHits10 (M0.view.read (Elt F) f0) (M1.view.read (Elt F) f1) (M2.view.read (Elt F) f2)) := by
  rw [show (metricsRun c  M0 h0 M1 h1 M2 h2 M3 h3 M4 h4 M5 h5 f0 f1 f2).1.2.1 = M4.view.writes (Elt F) M4.view.junk (metricsRun.sl.H4_1 c M0 M1 M2 f0 f1 f2) from by delta metricsRun; dsimp only]
  delta metricsRun.sl.H4_1
  rw [read_filled]
  delta metricsRun.sl.r metricsRun.sl.r_2 mCnt mHits10 mDup mHit mCol mRow
  simp only [msl1, msl3, msl8, msl89, msl98, ↓View.readAt_full]
  rfl

/-- What the run leaves in one result's block, read back. -/
theorem metricsRun_read5 (c : Dev nD)  (M0 : Memref sig .tc .vmem S1x4096 .f32) (h0 : M0.IsWhole) (M1 : Memref sig .tc .vmem S1x4096 .i32) (h1 : M1.IsWhole) (M2 : Memref sig .tc .vmem S1x4096 .i32) (h2 : M2.IsWhole) (M3 : Memref sig .tc .vmem S1x1 .f32) (h3 : M3.IsWhole) (M4 : Memref sig .tc .vmem S1x1 .f32) (h4 : M4.IsWhole) (M5 : Memref sig .tc .vmem S1x1 .f32) (h5 : M5.IsWhole)
    (f0 : Bf (F := F) c M0) (f1 : Bf (F := F) c M1) (f2 : Bf (F := F) c M2) :
    M5.view.read (Elt F) (metricsRun c  M0 h0 M1 h1 M2 h2 M3 h3 M4 h4 M5 h5 f0 f1 f2).1.2.2 = k3_pay19 (mCnt (M1.view.read (Elt F) f1) (M2.view.read (Elt F) f2)) (mMin (M0.view.read (Elt F) f0) (M1.view.read (Elt F) f1) (M2.view.read (Elt F) f2)) := by
  rw [show (metricsRun c  M0 h0 M1 h1 M2 h2 M3 h3 M4 h4 M5 h5 f0 f1 f2).1.2.2 = M5.view.writes (Elt F) M5.view.junk (metricsRun.sl.H5_1 c M0 M1 M2 f0 f1 f2) from by delta metricsRun; dsimp only]
  delta metricsRun.sl.H5_1
  rw [read_filled]
  delta metricsRun.sl.r_4 metricsRun.sl.r metricsRun.sl.r_3 mCnt mMin mDup mHit mCol mRow
  simp only [msl1, msl3, msl8, msl89, msl98, ↓View.readAt_full]
  rfl

/-- The metrics call's body from its operands' values to its results'. -/
theorem metricsStep (c : Dev nD)  (M0 : Memref sig .tc .vmem S1x4096 .f32) (h0 : M0.IsWhole) (M1 : Memref sig .tc .vmem S1x4096 .i32) (h1 : M1.IsWhole) (M2 : Memref sig .tc .vmem S1x4096 .i32) (h2 : M2.IsWhole) (M3 : Memref sig .tc .vmem S1x1 .f32) (h3 : M3.IsWhole) (M4 : Memref sig .tc .vmem S1x1 .f32) (h4 : M4.IsWhole) (M5 : Memref sig .tc .vmem S1x1 .f32) (h5 : M5.IsWhole)
    (X0 : S1x4096.Idx → Elt F .f32) (X1 : S1x4096.Idx → Elt F .i32) (X2 : S1x4096.Idx → Elt F .i32) (E : Set ℕ) (Q : PUnit → sProp 𝕄) :
    iprop(owns (c : Thread nD τ) M0 fullShare X0 ∗ owns (c : Thread nD τ) M1 fullShare X1 ∗ owns (c : Thread nD τ) M2 fullShare X2 ∗ (∃ d, owns (c : Thread nD τ) M3 fullShare d) ∗ (∃ d, owns (c : Thread nD τ) M4 fullShare d) ∗ (∃ d, owns (c : Thread nD τ) M5 fullShare d) ∗ (iprop(owns (c : Thread nD τ) M0 fullShare X0 ∗ owns (c : Thread nD τ) M1 fullShare X1 ∗ owns (c : Thread nD τ) M2 fullShare X2 ∗ owns (c : Thread nD τ) M3 fullShare (k3_pay17 (mCnt X1 X2) (mHits1 X0 X1 X2)) ∗ owns (c : Thread nD τ) M4 fullShare (k3_pay18 (mCnt X1 X2) (mHits10 X0 X1 X2)) ∗ owns (c : Thread nD τ) M5 fullShare (k3_pay19 (mCnt X1 X2) (mMin X0 X1 X2))) -∗ Q ⟨⟩))
      ⊢ wp frame (wpE (defs₀ (F := F)) Variants.none c none) E (cc3__metrics_kernel M0 h0 M1 h1 M2 h2 M3 h3 M4 h4 M5 h5) Q := by
  simp only [owns_of_whole c M0 h0]
  simp only [owns_of_whole c M1 h1]
  simp only [owns_of_whole c M2 h2]
  simp only [owns_of_whole c M3 h3]
  simp only [owns_of_whole c M4 h4]
  simp only [owns_of_whole c M5 h5]
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0
  subst hf1
  subst hf2
  iapply ((metricsRun c  M0 h0 M1 h1 M2 h2 M3 h3 M4 h4 M5 h5 f0 f1 f2).2 f3 f4 f5 E Q)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; exact metricsRun_read3 c  M0 h0 M1 h1 M2 h2 M3 h3 M4 h4 M5 h5 f0 f1 f2
  isplitl [H4]; · iexists _; isplitr; swap; (· iexact H4); ipureintro; exact metricsRun_read4 c  M0 h0 M1 h1 M2 h2 M3 h3 M4 h4 M5 h5 f0 f1 f2
  iexists _; isplitr; swap; (· iexact H5); ipureintro; exact metricsRun_read5 c  M0 h0 M1 h1 M2 h2 M3 h3 M4 h4 M5 h5 f0 f1 f2

end Cert.Proof.KernelIdeal

end
-- ==== Proof.KernelIdeal.MetricsStage.lean ====
/-
  The metrics call as a stage of the run: what its staging blocks hold at every point, and its body's obligation.
-/
module

public import proofs.«01_k».proof.Proof.KernelIdeal.MetricsBody

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Valuation τ sig (Elt F))

/-- What the call's window `w` shows of its array at point `t`. -/
abbrev blk3 (c : Dev nD) (w : Fin 6) (t : Fin cfg3.N) := ((cfg3.win w).blk t).view.read (Elt F) (V c (Pipeline.arrRef spec3 w))

/-- The call's data: every operand's block is fetched, every result's is the body's value of them. -/
def dat3 (c : Dev nD) : Dat τ (Elt F) Unit ℕ UU ℕ cfg3 c where
  A w := V c (Pipeline.arrRef spec3 w)
  after w t := match w with
    | 0 => blk3 V c 0 t
    | 1 => blk3 V c 1 t
    | 2 => blk3 V c 2 t
    | 3 => k3_pay17 (mCnt (blk3 V c 1 t) (blk3 V c 2 t)) (mHits1 (blk3 V c 0 t) (blk3 V c 1 t) (blk3 V c 2 t))
    | 4 => k3_pay18 (mCnt (blk3 V c 1 t) (blk3 V c 2 t)) (mHits10 (blk3 V c 0 t) (blk3 V c 1 t) (blk3 V c 2 t))
    | 5 => k3_pay19 (mCnt (blk3 V c 1 t) (blk3 V c 2 t)) (mMin (blk3 V c 0 t) (blk3 V c 1 t) (blk3 V c 2 t))
  Φ _ := Pipeline.scopedRest (Ix := Unit) (Name := ℕ) (U := UU) (Lvl := ℕ) (Val := Elt F) spec3 c
  q _ := fullShare
  owed _ := 0

/-- An operand's block is what its window shows. -/
theorem before3_0 (c : Dev nD) (t : Fin cfg3.N) (d) : (dat3 V c).before 0 t d = blk3 V c 0 t :=
  Dat.before_in_eq_fetched (dat3 V c) 0 rfl (fun _ => rfl) (fun _ _ _ => rfl) (fun _ => rfl) t d

/-- An operand's block is what its window shows. -/
theorem before3_1 (c : Dev nD) (t : Fin cfg3.N) (d) : (dat3 V c).before 1 t d = blk3 V c 1 t :=
  Dat.before_in_eq_fetched (dat3 V c) 1 rfl (fun _ => rfl) (fun _ _ _ => rfl) (fun _ => rfl) t d

/-- An operand's block is what its window shows. -/
theorem before3_2 (c : Dev nD) (t : Fin cfg3.N) (d) : (dat3 V c).before 2 t d = blk3 V c 2 t :=
  Dat.before_in_eq_fetched (dat3 V c) 2 rfl (fun _ => rfl) (fun _ _ _ => rfl) (fun _ => rfl) t d

set_option maxRecDepth 4000 in
/-- The body keeps its obligation at every point. -/
theorem body3 (c : Dev nD) : BodyObligation (dat3 V c) (defs₀ (F := F)) 𝒱₀ () Set.univ := fun t => by
  rw [bigSep_W3, bigSep_W3]
  simp only [before3_0, before3_1, before3_2]
  rw [show (dat3 V c).Φ t.castSucc = (dat3 V c).Φ t.succ from rfl]
  change _ ⊢ wp _ _ _ (bodyAt3 t) _
  iintro ⟨HΦ, Ho, ⟨%d0, H0⟩, ⟨%d1, H1⟩, ⟨%d2, H2⟩, H3, H4, H5⟩
  iapply (metricsStep c _ _ _ _ _ _ _ _ _ _ _ _ )
  isplitl [H0]
  · iexact H0
  isplitl [H1]
  · iexact H1
  isplitl [H2]
  · iexact H2
  isplitl [H3]
  · icases H3 with ⟨%e3, H3⟩; iexists _; iexact H3
  isplitl [H4]
  · icases H4 with ⟨%e4, H4⟩; iexists _; iexact H4
  isplitl [H5]
  · icases H5 with ⟨%e5, H5⟩; iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.Proof.KernelIdeal

end
-- ==== Proof.KernelIdeal.Regs.lean ====
/-
  The four calls as regions of the run: what the buffers hold between them, and each call entered from one such
  state and left at the next.
-/
module

public import proofs.«01_k».proof.Proof.KernelIdeal.CrowsStage
public import proofs.«01_k».proof.Proof.KernelIdeal.MaskStage
public import proofs.«01_k».proof.Proof.KernelIdeal.RankStage
public import proofs.«01_k».proof.Proof.KernelIdeal.MetricsStage
public import proofs.«01_k».proof.Proof.Gen.KernelIdeal.Regions

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (a : (pcfg2 (F := F)).Adm) (hc : ∀ c, Tab2 (F := F) a c)

/-- The buffers as the crows call finds them. -/
def W1 (c : Dev nD) : Valuation τ sig (Elt F) := V1 m c
/-- What the crows call leaves in its result. -/
def fin0 (c : Dev nD) : Buf (Elt F) ((c : Thread nD τ).loc main_v22) := (dat0 (W1 m) c).arrAt 3 cfg0.N
/-- The buffers after the crows call. -/
def W2 (c : Dev nD) : Valuation τ sig (Elt F) := Function.update (W1 m c) main_v22 (fin0 m c)
/-- What the mask call leaves in its result. -/
def fin1 (c : Dev nD) : Buf (Elt F) ((c : Thread nD τ).loc main_v23) := (dat1 (W2 m) c).arrAt 8 cfg1.N
/-- The buffers after the mask call. -/
def W3 (c : Dev nD) : Valuation τ sig (Elt F) := Function.update (W2 m c) main_v23 (fin1 m c)
/-- The buffers as the rank call finds them. -/
def W4 (c : Dev nD) : Valuation τ sig (Elt F) := StableHlo.after hostOps2 (W3 m c)
/-- What the rank call leaves in its result. -/
def fin2 (c : Dev nD) : Buf (Elt F) ((c : Thread nD τ).loc main_v25) := (dat2 (W4 m) a hc c).arrAt 64 (cfg2 a).N
/-- The buffers after the rank call. -/
def W5 (c : Dev nD) : Valuation τ sig (Elt F) := Function.update (W4 m c) main_v25 (fin2 m a hc c)
/-- The buffers as the metrics call finds them. -/
def W6 (c : Dev nD) : Valuation τ sig (Elt F) := StableHlo.after hostOps3 (W5 m a hc c)
/-- What the metrics call leaves in its first result. -/
def fin3 (c : Dev nD) : Buf (Elt F) ((c : Thread nD τ).loc main_v27_0) := (dat3 (W6 m a hc) c).arrAt 3 cfg3.N
/-- What the metrics call leaves in its second result. -/
def fin4 (c : Dev nD) : Buf (Elt F) ((c : Thread nD τ).loc main_v27_1) := (dat3 (W6 m a hc) c).arrAt 4 cfg3.N
/-- What the metrics call leaves in its third result. -/
def fin5 (c : Dev nD) : Buf (Elt F) ((c : Thread nD τ).loc main_v27_2) := (dat3 (W6 m a hc) c).arrAt 5 cfg3.N
/-- The buffers after the metrics call. -/
def W7 (c : Dev nD) : Valuation τ sig (Elt F) :=
  Function.update (Function.update (Function.update (W6 m a hc c) main_v27_0 (fin3 m a hc c)) main_v27_1 (fin4 m a hc c)) main_v27_2 (fin5 m a hc c)

/-- What every call leaves, by the place of the call. -/
def outs : Outs (F := F) := fun n r c => match n with
  | 2 => W2 m c r
  | 3 => W3 m c r
  | 5 => W5 m a hc c r
  | _ => W7 m a hc c r

theorem W2_of (c : Dev nD) (r : Ref sig .tc) (h : r ≠ main_v22) : W2 m c r = W1 m c r := by
  unfold W2; exact Function.update_of_ne (StableHlo.devRef_ne_of_ne (τ := τ) h) ..
theorem W2_out (c : Dev nD) : W2 m c main_v22 = fin0 m c := by unfold W2; exact Function.update_self ..
theorem W3_of (c : Dev nD) (r : Ref sig .tc) (h : r ≠ main_v23) : W3 m c r = W2 m c r := by
  unfold W3; exact Function.update_of_ne (StableHlo.devRef_ne_of_ne (τ := τ) h) ..
theorem W3_out (c : Dev nD) : W3 m c main_v23 = fin1 m c := by unfold W3; exact Function.update_self ..
theorem W5_of (c : Dev nD) (r : Ref sig .tc) (h : r ≠ main_v25) : W5 m a hc c r = W4 m c r := by
  unfold W5; exact Function.update_of_ne (StableHlo.devRef_ne_of_ne (τ := τ) h) ..
theorem W5_out (c : Dev nD) : W5 m a hc c main_v25 = fin2 m a hc c := by unfold W5; exact Function.update_self ..
theorem W7_of (c : Dev nD) (r : Ref sig .tc) (h : r ≠ main_v27_0) (h1 : r ≠ main_v27_1) (h2 : r ≠ main_v27_2) : W7 m a hc c r = W6 m a hc c r := by
  unfold W7
  rw [Function.update_of_ne (StableHlo.devRef_ne_of_ne (τ := τ) h2), Function.update_of_ne (StableHlo.devRef_ne_of_ne (τ := τ) h1), Function.update_of_ne (StableHlo.devRef_ne_of_ne (τ := τ) h)]

theorem V2_eq (c : Dev nD) : V2 m (outs m a hc) c = W2 m c := by
  unfold V2; rw [show outs m a hc 2 main_v22 c = fin0 m c from W2_out m c]; rfl
theorem V3_eq (c : Dev nD) : V3 m (outs m a hc) c = W3 m c := by
  unfold V3; rw [V2_eq, show outs m a hc 3 main_v23 c = fin1 m c from W3_out m c]; rfl
theorem V4_eq (c : Dev nD) : V4 m (outs m a hc) c = W4 m c := by
  unfold V4 W4; rw [V3_eq]
theorem V5_eq (c : Dev nD) : V5 m (outs m a hc) c = W5 m a hc c := by
  unfold V5; rw [V4_eq, show outs m a hc 5 main_v25 c = fin2 m a hc c from W5_out m a hc c]; rfl
theorem V6_eq (c : Dev nD) : V6 m (outs m a hc) c = W6 m a hc c := by
  unfold V6 W6; rw [V5_eq]
theorem W7_0 (c : Dev nD) : W7 m a hc c main_v27_0 = fin3 m a hc c := by
  unfold W7; rw [Function.update_of_ne (by decide), Function.update_of_ne (by decide)]; exact Function.update_self ..
theorem W7_1 (c : Dev nD) : W7 m a hc c main_v27_1 = fin4 m a hc c := by
  unfold W7; rw [Function.update_of_ne (by decide)]; exact Function.update_self ..
theorem W7_2 (c : Dev nD) : W7 m a hc c main_v27_2 = fin5 m a hc c := by
  unfold W7; exact Function.update_self ..
theorem V7_eq (c : Dev nD) : V7 m (outs m a hc) c = W7 m a hc c := by
  unfold V7; rw [V6_eq]
  rw [show outs m a hc 7 main_v27_0 c = fin3 m a hc c from W7_0 m a hc c, show outs m a hc 7 main_v27_1 c = fin4 m a hc c from W7_1 m a hc c,
    show outs m a hc 7 main_v27_2 c = fin5 m a hc c from W7_2 m a hc c]
  rfl

/-- The tables each call is entered with: only the rank call has any. -/
abbrev adm : (p : Fin 4) → (pcfgs (F := F) p).Adm
  | 0 => cfg0.toPCfg_adm
  | 1 => cfg1.toPCfg_adm
  | 2 => a
  | 3 => cfg3.toPCfg_adm

/-- The four calls' data, each over the buffers it finds. -/
abbrev pdats : (p : Fin 4) → (c : Dev nD) → Dat τ (Elt F) Unit ℕ UU ℕ (Pipeline.pin (pcfgs (F := F)) (adm a) p) c
  | 0 => fun c => dat0 (W1 m) c
  | 1 => fun c => dat1 (W2 m) c
  | 2 => fun c => dat2 (W4 m) a hc c
  | 3 => fun c => dat3 (W6 m a hc) c

/-- What rides along beside the buffers: the core owes nothing. -/
abbrev Rr (c : Dev nD) : sProp 𝕄 := iprop(∃ W, owes (c : Thread nD τ) (0 : CellTallies nD τ sig Unit) W)

/-- The call finds its arrays as the buffers are. -/
theorem dA0 (V : Dev nD → Valuation τ sig (Elt F)) (c : Dev nD) (w) : (dat0 V c).A w = V c (Pipeline.arrRef spec0 w) := rfl

/-- The call finds its arrays as the buffers are. -/
theorem dA1 (V : Dev nD → Valuation τ sig (Elt F)) (c : Dev nD) (w) : (dat1 V c).A w = V c (Pipeline.arrRef spec1 w) := rfl

/-- The call finds its arrays as the buffers are. -/
theorem dA3 (V : Dev nD → Valuation τ sig (Elt F)) (c : Dev nD) (w) : (dat3 V c).A w = V c (Pipeline.arrRef spec3 w) := rfl

/-- A buffer that is no array of the call is not its result. -/
theorem off_main_v22 (b : Ref sig .tc) (hb : b ∉ Finset.univ.image (Pipeline.arrRef spec0)) : b ≠ main_v22 := by
  rintro rfl; exact hb (Finset.mem_image.mpr ⟨3, Finset.mem_univ _, rfl⟩)

/-- A buffer that is no array of the call is not its result. -/
theorem off_main_v23 (b : Ref sig .tc) (hb : b ∉ Finset.univ.image (Pipeline.arrRef spec1)) : b ≠ main_v23 := by
  rintro rfl; exact hb (Finset.mem_image.mpr ⟨8, Finset.mem_univ _, rfl⟩)

/-- A buffer that is no array of the call is not its result. -/
theorem off_main_v25 (b : Ref sig .tc) (hb : b ∉ Finset.univ.image (Pipeline.arrRef spec2)) : b ≠ main_v25 := by
  rintro rfl; exact hb (Finset.mem_image.mpr ⟨64, Finset.mem_univ _, rfl⟩)

/-- A buffer that is no array of the call is not its result. -/
theorem off_main_v27_0 (b : Ref sig .tc) (hb : b ∉ Finset.univ.image (Pipeline.arrRef spec3)) : b ≠ main_v27_0 := by
  rintro rfl; exact hb (Finset.mem_image.mpr ⟨3, Finset.mem_univ _, rfl⟩)

/-- A buffer that is no array of the call is not its result. -/
theorem off_main_v27_1 (b : Ref sig .tc) (hb : b ∉ Finset.univ.image (Pipeline.arrRef spec3)) : b ≠ main_v27_1 := by
  rintro rfl; exact hb (Finset.mem_image.mpr ⟨4, Finset.mem_univ _, rfl⟩)

/-- A buffer that is no array of the call is not its result. -/
theorem off_main_v27_2 (b : Ref sig .tc) (hb : b ∉ Finset.univ.image (Pipeline.arrRef spec3)) : b ≠ main_v27_2 := by
  rintro rfl; exact hb (Finset.mem_image.mpr ⟨5, Finset.mem_univ _, rfl⟩)

/-- After the call every window's array is what the next state says. -/
theorem arrs0 (c : Dev nD) : ∀ w, (dat0 (W1 m) c).arrAt w cfg0.N = W2 m c (Pipeline.arrRef spec0 w)
  | 0 => ((dat0 (W1 m) c).arrAt_in 0 rfl _).trans <| (dA0 (W1 m) c 0).trans (W2_of m c (Pipeline.arrRef spec0 0) (by decide)).symm
  | 1 => ((dat0 (W1 m) c).arrAt_in 1 rfl _).trans <| (dA0 (W1 m) c 1).trans (W2_of m c (Pipeline.arrRef spec0 1) (by decide)).symm
  | 2 => ((dat0 (W1 m) c).arrAt_in 2 rfl _).trans <| (dA0 (W1 m) c 2).trans (W2_of m c (Pipeline.arrRef spec0 2) (by decide)).symm
  | 3 => (W2_out m c).symm

/-- After the call every window's array is what the next state says. -/
theorem arrs1 (c : Dev nD) : ∀ w, (dat1 (W2 m) c).arrAt w cfg1.N = W3 m c (Pipeline.arrRef spec1 w)
  | 0 => ((dat1 (W2 m) c).arrAt_in 0 rfl _).trans <| (dA1 (W2 m) c 0).trans (W3_of m c (Pipeline.arrRef spec1 0) (by decide)).symm
  | 1 => ((dat1 (W2 m) c).arrAt_in 1 rfl _).trans <| (dA1 (W2 m) c 1).trans (W3_of m c (Pipeline.arrRef spec1 1) (by decide)).symm
  | 2 => ((dat1 (W2 m) c).arrAt_in 2 rfl _).trans <| (dA1 (W2 m) c 2).trans (W3_of m c (Pipeline.arrRef spec1 2) (by decide)).symm
  | 3 => ((dat1 (W2 m) c).arrAt_in 3 rfl _).trans <| (dA1 (W2 m) c 3).trans (W3_of m c (Pipeline.arrRef spec1 3) (by decide)).symm
  | 4 => ((dat1 (W2 m) c).arrAt_in 4 rfl _).trans <| (dA1 (W2 m) c 4).trans (W3_of m c (Pipeline.arrRef spec1 4) (by decide)).symm
  | 5 => ((dat1 (W2 m) c).arrAt_in 5 rfl _).trans <| (dA1 (W2 m) c 5).trans (W3_of m c (Pipeline.arrRef spec1 5) (by decide)).symm
  | 6 => ((dat1 (W2 m) c).arrAt_in 6 rfl _).trans <| (dA1 (W2 m) c 6).trans (W3_of m c (Pipeline.arrRef spec1 6) (by decide)).symm
  | 7 => ((dat1 (W2 m) c).arrAt_in 7 rfl _).trans <| (dA1 (W2 m) c 7).trans (W3_of m c (Pipeline.arrRef spec1 7) (by decide)).symm
  | 8 => (W3_out m c).symm

/-- After the call every window's array is what the next state says. -/
theorem arrs3 (c : Dev nD) : ∀ w, (dat3 (W6 m a hc) c).arrAt w cfg3.N = W7 m a hc c (Pipeline.arrRef spec3 w)
  | 0 => ((dat3 (W6 m a hc) c).arrAt_in 0 rfl _).trans <| (dA3 (W6 m a hc) c 0).trans (W7_of m a hc c (Pipeline.arrRef spec3 0) (by decide) (by decide) (by decide)).symm
  | 1 => ((dat3 (W6 m a hc) c).arrAt_in 1 rfl _).trans <| (dA3 (W6 m a hc) c 1).trans (W7_of m a hc c (Pipeline.arrRef spec3 1) (by decide) (by decide) (by decide)).symm
  | 2 => ((dat3 (W6 m a hc) c).arrAt_in 2 rfl _).trans <| (dA3 (W6 m a hc) c 2).trans (W7_of m a hc c (Pipeline.arrRef spec3 2) (by decide) (by decide) (by decide)).symm
  | 3 => (W7_0 m a hc c).symm
  | 4 => (W7_1 m a hc c).symm
  | 5 => (W7_2 m a hc c).symm

/-- What the crows call's invariant holds at any point. -/
theorem Phi0 (V : Dev nD → Valuation τ sig (Elt F)) (c : Dev nD) (t) : (dat0 V c).Φ t
    = iprop(scr0 V c t.val ∗ Pipeline.scopedRestBut (Ix := Unit) (Name := ℕ) (U := UU) (Lvl := ℕ) (Val := Elt F) spec0 c [cc0_scratch0]) := rfl

/-- Leaving the crows call gives back its scratch with the rest. -/
theorem Phi0_out (V : Dev nD → Valuation τ sig (Elt F)) (c : Dev nD) (t) : (dat0 V c).Φ t
    ⊢ iprop(BI.emp ∗ BI.emp ∗ Pipeline.scopedRest (Ix := Unit) (Name := ℕ) (U := UU) (Lvl := ℕ) (Val := Elt F) spec0 c) := by
  refine (Entails.of_eq (Phi0 V c t)).trans (BIBase.Entails.trans ?_ (sep_mono .rfl (sep_mono .rfl (Entails.of_eq (scopedRest0_split c).symm))))
  unfold scr0
  iintro ⟨⟨%X, -, HX⟩, Hr⟩
  ihave HX' := (Entails.of_eq (owns_of_whole c _ (Memref.isWhole_whole _) X)) $$ HX
  icases HX' with ⟨%f, -, Hf⟩
  isplitr; · iempintro
  isplitr; · iempintro
  isplitl [Hf]; · iexists f; iexact Hf
  iexact Hr

set_option backward.isDefEq.respectTransparency.types false in
/-- The crows call as a region: it finds the buffers as the host operations left them, and changes its result alone. -/
def reg0 : Pipeline.RegionSeg (pcfgs (F := F)) (adm a) (pdats m a hc) () defs₀ 𝒱₀ L lv 0 where
  win := (launch0 (F := F)).win.to₀
  block_pos := (launch0 (F := F)).block_pos
  stage_whole := (launch0 (F := F)).stage_whole
  K := PEmpty
  osem := fun k => k.elim
  ho := Pipeline.OwnSemFacts.none _
  hbody c := (body0 (W1 m) c).loose
  hwaits := Pipeline.hwaits_of_owed_zero _ _ _ _ L lv 0 fun _ _ => rfl
  pre c := iprop(unscopedBufs c (fun b => W1 m c b) ∗ Rr c)
  post c := iprop(unscopedBufs c (fun b => W2 m c b) ∗ Rr c)
  X _ := BI.emp
  Y _ := BI.emp
  Z c := Pipeline.unscopedRest (Ix := Unit) (Name := ℕ) (U := UU) (Lvl := ℕ) spec0 c (fun b => W1 m c b)
  hentry c := by
    rw [Pipeline.ownSems0_none]
    have hsplit := Pipeline.arrays_of_unscopedBufs (p := 0) (pcfgs (F := F)) (adm a) (pdats m a hc) (launch0 (F := F)).win (launch0 (F := F)).arr_whole c
      ((pdats m a hc 0 c).share_full fun _ => rfl) (fun b => W1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    refine ((sep_mono .rfl (sep_mono .rfl (Entails.of_eq (scopedRest0_split c)))).trans ?_).trans (Entails.of_eq (Phi0 (W1 m) c 0).symm)
    unfold scr0
    iintro ⟨-, -, ⟨%f, Hf⟩, Hr⟩
    isplitl [Hf]
    · iexists (Memref.whole cc0_scratch0 : Memref sig .tc .vmem S512x2048 .f32).view.read (Elt F) f
      isplitr; · ipureintro; exact fun h => absurd rfl h
      rw [owns_of_whole c _ (Memref.isWhole_whole _)]
      iexists f
      isplitr; · ipureintro; rfl
      iexact Hf
    iexact Hr
  hout c := by
    rw [Pipeline.ownSems0_none]
    exact Phi0_out (W1 m) c (Fin.last _)
  hexit c := by
    have hjoin := Pipeline.unscopedBufs_of_arrays (p := 0) (pcfgs (F := F)) (adm a) (Ix := Unit) (Name := ℕ) (U := UU) (Lvl := ℕ) (launch0 (F := F)).win (launch0 (F := F)).arr_whole c (pdats m a hc)
      ((pdats m a hc 0 c).share_full fun _ => rfl) (fun b => W1 m c b) (fun b => W2 m c b) ((pdats m a hc 0 c).arrAt · cfg0.N)
      (arrs0 m c)
      (fun b hb => W2_of m c b (off_main_v22 b hb))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The mask call as a region: it changes its result alone. -/
def reg1 : Pipeline.RegionSeg (pcfgs (F := F)) (adm a) (pdats m a hc) () defs₀ 𝒱₀ L lv 1 where
  win := (launch1 (F := F)).win.to₀
  block_pos := (launch1 (F := F)).block_pos
  stage_whole := (launch1 (F := F)).stage_whole
  K := PEmpty
  osem := fun k => k.elim
  ho := Pipeline.OwnSemFacts.none _
  hbody c := (body1 (W2 m) c).loose
  hwaits := Pipeline.hwaits_of_owed_zero _ _ _ _ L lv 1 fun _ _ => rfl
  pre c := iprop(unscopedBufs c (fun b => W2 m c b) ∗ Rr c)
  post c := iprop(unscopedBufs c (fun b => W3 m c b) ∗ Rr c)
  X _ := BI.emp
  Y _ := BI.emp
  Z c := Pipeline.unscopedRest (Ix := Unit) (Name := ℕ) (U := UU) (Lvl := ℕ) spec1 c (fun b => W2 m c b)
  hentry c := by
    rw [Pipeline.ownSems0_none]
    have hsplit := Pipeline.arrays_of_unscopedBufs (p := 1) (pcfgs (F := F)) (adm a) (pdats m a hc) (launch1 (F := F)).win (launch1 (F := F)).arr_whole c
      ((pdats m a hc 1 c).share_full fun _ => rfl) (fun b => W2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m a hc 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats m a hc 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) (adm a) (Ix := Unit) (Name := ℕ) (U := UU) (Lvl := ℕ) (launch1 (F := F)).win (launch1 (F := F)).arr_whole c (pdats m a hc)
      ((pdats m a hc 1 c).share_full fun _ => rfl) (fun b => W2 m c b) (fun b => W3 m c b) ((pdats m a hc 1 c).arrAt · cfg1.N)
      (arrs1 m c)
      (fun b hb => W3_of m c b (off_main_v23 b hb))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The metrics call as a region: it changes its three results alone. -/
def reg3 : Pipeline.RegionSeg (pcfgs (F := F)) (adm a) (pdats m a hc) () defs₀ 𝒱₀ L lv 3 where
  win := (launch3 (F := F)).win.to₀
  block_pos := (launch3 (F := F)).block_pos
  stage_whole := (launch3 (F := F)).stage_whole
  K := PEmpty
  osem := fun k => k.elim
  ho := Pipeline.OwnSemFacts.none _
  hbody c := (body3 (W6 m a hc) c).loose
  hwaits := Pipeline.hwaits_of_owed_zero _ _ _ _ L lv 3 fun _ _ => rfl
  pre c := iprop(unscopedBufs c (fun b => W6 m a hc c b) ∗ Rr c)
  post c := iprop(unscopedBufs c (fun b => W7 m a hc c b) ∗ Rr c)
  X _ := BI.emp
  Y _ := BI.emp
  Z c := Pipeline.unscopedRest (Ix := Unit) (Name := ℕ) (U := UU) (Lvl := ℕ) spec3 c (fun b => W6 m a hc c b)
  hentry c := by
    rw [Pipeline.ownSems0_none]
    have hsplit := Pipeline.arrays_of_unscopedBufs (p := 3) (pcfgs (F := F)) (adm a) (pdats m a hc) (launch3 (F := F)).win (launch3 (F := F)).arr_whole c
      ((pdats m a hc 3 c).share_full fun _ => rfl) (fun b => W6 m a hc c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m a hc 3 c).Φ 0 = Pipeline.scopedRest (Ix := Unit) (Name := ℕ) (U := UU) (Lvl := ℕ) (Val := Elt F) spec3 c from rfl]
    iintro ⟨-, -, Hr⟩; iexact Hr
  hout c := by
    rw [Pipeline.ownSems0_none, show (pdats m a hc 3 c).Φ (Fin.last _) = Pipeline.scopedRest (Ix := Unit) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 3) (pcfgs (F := F)) (adm a) (Ix := Unit) (Name := ℕ) (U := UU) (Lvl := ℕ) (launch3 (F := F)).win (launch3 (F := F)).arr_whole c (pdats m a hc)
      ((pdats m a hc 3 c).share_full fun _ => rfl) (fun b => W6 m a hc c b) (fun b => W7 m a hc c b) ((pdats m a hc 3 c).arrAt · cfg3.N)
      (arrs3 m a hc c)
      (fun b hb => W7_of m a hc c b (off_main_v27_0 b hb) (off_main_v27_1 b hb) (off_main_v27_2 b hb))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- Only the last window of the rank call is a result. -/
theorem ins2 : ∀ w : Fin 65, w ≠ 64 → (spec2 w).isOut = false ∧ Pipeline.arrRef spec2 w ≠ main_v25 := by decide

/-- After the call every window's array is what the next state says. -/
theorem arrs2 (c : Dev nD) (w : Fin 65) : (dat2 (W4 m) a hc c).arrAt w (cfg2 a).N = W5 m a hc c (Pipeline.arrRef spec2 w) := by
  by_cases h : w = 64
  · subst h; exact (W5_out m a hc c).symm
  · exact ((dat2 (W4 m) a hc c).arrAt_in w (ins2 w h).1 _).trans (W5_of m a hc c (Pipeline.arrRef spec2 w) (ins2 w h).2).symm

/-- What the rank call's invariant holds at any point. -/
theorem Phi2 (V : Dev nD → Valuation τ sig (Elt F)) (c : Dev nD) (t) : (dat2 V a hc c).Φ t
    = iprop(Pipeline.scopedRest (Ix := Unit) (Name := ℕ) (U := UU) (Lvl := ℕ) (Val := Elt F) spec2 c
        ∗ Pipeline.prefHeld (Ix := Unit) (Name := ℕ) (U := UU) (Lvl := ℕ) pre2 c (fun _ => fullShare) a.1) := rfl

set_option backward.isDefEq.respectTransparency.types false in
/-- The rank call as a region: it reads the two tables, and changes its result alone. -/
def reg2 (ha : ∀ c k, a.1 k = W4 m c (pre2.ref k)) : Pipeline.RegionSeg (pcfgs (F := F)) (adm a) (pdats m a hc) () defs₀ 𝒱₀ L lv 2 where
  win := (launch₀2 (F := F)).win
  block_pos := (launch₀2 (F := F)).block_pos
  stage_whole := (launch₀2 (F := F)).stage_whole
  K := PEmpty
  osem := fun k => k.elim
  ho := Pipeline.OwnSemFacts.none _
  hbody c := (body2 (W4 m) a hc c).loose
  hwaits := Pipeline.hwaits_of_owed_zero _ _ _ _ L lv 2 fun _ _ => rfl
  pre c := iprop(unscopedBufs c (fun b => W4 m c b) ∗ Rr c)
  post c := iprop(unscopedBufs c (fun b => W5 m a hc c b) ∗ Rr c)
  X _ := BI.emp
  Y c := Pipeline.prefHeld (Ix := Unit) (Name := ℕ) (U := UU) (Lvl := ℕ) pre2 c (fun _ => fullShare) a.1
  Z c := Pipeline.unscopedRestP (Ix := Unit) (Name := ℕ) (U := UU) (Lvl := ℕ) pre2 spec2 c (fun b => W4 m c b)
  hentry c := by
    rw [Pipeline.ownSems0_none]
    have hsplit := Pipeline.arrays_of_unscopedBufs_shared (p := 2) (pcfgs (F := F)) (adm a) (pdats m a hc) (launch₀2 (F := F)).win (launch₀2 (F := F)).sharedIn
      (launch₀2 (F := F)).arr_whole c (fun _ _ => rfl) (fun b => W4 m c b) fun _ => rfl
    have hrest := Pipeline.unscopedRest_split (Ix := Unit) (Name := ℕ) (U := UU) (Lvl := ℕ) preFacts2 c (fun b => W4 m c b)
    rw [show (fun k => W4 m c (pre2.ref k)) = a.1 from funext fun k => (ha c k).symm] at hrest
    iintro ⟨⟨Hub, HO⟩, -, -⟩
    ihave H := hsplit $$ Hub
    icases H with ⟨Ha, Hrest⟩
    ihave Hr := (Entails.of_eq hrest) $$ Hrest
    icases Hr with ⟨Hp, Hrest⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    refine BIBase.Entails.trans ?_ (Entails.of_eq (Phi2 a hc (W4 m) c 0).symm)
    iintro ⟨-, Hp, Hr⟩
    isplitl [Hr]; · iexact Hr
    iexact Hp
  hout c := by
    rw [Pipeline.ownSems0_none]
    refine (Entails.of_eq (Phi2 a hc (W4 m) c (Fin.last (cfg2 a).N))).trans ?_
    iintro ⟨Hr, Hp⟩
    isplitl [Hp]; · iexact Hp
    isplitr; · iempintro
    iexact Hr
  hexit c := by
    have hjoin := Pipeline.unscopedBufs_of_arrays_shared (p := 2) (pcfgs (F := F)) (adm a) (Ix := Unit) (Name := ℕ) (U := UU) (Lvl := ℕ) (launch₀2 (F := F)).win
      (launch₀2 (F := F)).sharedIn (launch₀2 (F := F)).arr_whole c (pdats m a hc) (fun _ _ => rfl)
      (fun b => W4 m c b) (fun b => W5 m a hc c b) ((pdats m a hc 2 c).arrAt · (cfg2 a).N) (arrs2 m a hc c)
      (fun b hb => W5_of m a hc c b (off_main_v25 b hb))
    have hrest := Pipeline.unscopedRest_split (Ix := Unit) (Name := ℕ) (U := UU) (Lvl := ℕ) preFacts2 c (fun b => W4 m c b)
    rw [show (fun k => W4 m c (pre2.ref k)) = a.1 from funext fun k => (ha c k).symm] at hrest
    iintro ⟨Ha, HO, Hp, Hrest⟩
    ihave Hr := (Entails.of_eq hrest.symm) $$ [Hp Hrest]
    · isplitl [Hp] <;> iassumption
    imodintro
    isplitl [Ha Hr]
    · iapply hjoin; isplitl [Ha] <;> iassumption
    unfold Pipeline.Dat.owesAt Pipeline.owesWithin
    icases HO with ⟨%W, -, HO⟩; iexists W; iexact HO

end Cert.Proof.KernelIdeal

end
-- ==== Proof.KernelIdeal.Run.lean ====
/-
  The whole program run: its four calls between the host operations, every unscoped buffer at the end read off the
  states between them.
-/
module

public import proofs.«01_k».proof.Proof.KernelIdeal.Regs

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ UU ℕ

variable (m : (ℓ : Loc nD τ sig) → Buf (Elt F) ℓ) (a : (pcfg2 (F := F)).Adm) (hc : ∀ c, Tab2 (F := F) a c)

/-- An argument's buffer reaches the rank call as launched. -/
theorem W4_arg (c : Dev nD) (r : Ref sig .tc) (h0 : r ∉ hostOps0_W) (h2 : r ∉ hostOps2_W) (h : r ≠ main_v22) (h' : r ≠ main_v23) :
    W4 m c r = m ((c : Thread nD τ).loc r) := by
  have e4 : W4 m c r = W3 m c r := StableHlo.after_of_forall_not_mem (b := Proc.devRef .tc r) hostOps2 (W3 m c)
    fun op hop hmem => h2 (by
      have := (List.forall_iff_forall_mem.mp hostOps2_writes) op hop hmem
      simpa [List.mem_toFinset, (Proc.devRef_injective (τ := τ) (sig := sig) _).eq_iff] using this)
  rw [e4, W3_of m c r h', W2_of m c r h]
  exact V1_of m c r h0

set_option maxRecDepth 9624 in
set_option backward.isDefEq.respectTransparency.types false in
/-- From any memory with zero counters, the tables fetched for the rank call being the launched ones and every word of the
    second in range: the program terminates under every weakly fair schedule, every counter ends at zero, and every
    unscoped buffer ends as the last state says. -/
theorem run (ρ : Dev nD → PrngReg) (ha : ∀ (c : Dev nD) k, a.1 k = m ((c : Thread nD τ).loc (pre2.ref k))) :
    θ_run defs (onTc (τ := τ) (main (F := F))) ⟨m, fun _ => 0, ρ⟩ (fun r => (∀ c : Dev nD, ∀ b ∈ Pipeline.ucRefs τ sig,
      r.2.mem (((c : Thread nD τ).1, b) : Loc nD τ sig) = V8 m (outs m a hc) c b) ∧ r.2.sem = fun _ => 0) := by
  have ha' : ∀ c k, a.1 k = W4 m c (pre2.ref k) := fun c k => by
    rw [ha c k]
    fin_cases k
    · exact (W4_arg m c main_arg6 (by decide) (by decide) (by decide) (by decide)).symm
    · exact (W4_arg m c main_arg7 (by decide) (by decide) (by decide) (by decide)).symm
  refine Pipeline.θ_run_regions_kit_dev_sems (pcfgs (F := F)) (adm a) (pdats m a hc) () (cellOf_inj (adm a)) emb₁ defs₀ 𝒱₀ L lv m ρ main
    (segs m (outs m a hc) 𝒱₀ L lv (fun _ => Rr) () (adm a) (pdats m a hc) (reg0 m a hc) (reg1 m a hc) (reg2 m a hc ha') (reg3 m a hc))
    (fun c Q => by
      rewrite [main_chain c, Seg.run_eq_chain,
        show (segs m (outs m a hc) 𝒱₀ L lv (fun _ => Rr) () (adm a) (pdats m a hc) (reg0 m a hc) (reg1 m a hc) (reg2 m a hc ha') (reg3 m a hc) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide) 0 (fun _ _ => rfl) (fun _ => iprop(emp))
    (initOf (Pipeline.cells (Pipeline.pin (pcfgs (F := F)) (adm a)) (cellOf_inj (adm a))) (Pipeline.launchToks (Pipeline.pin (pcfgs (F := F)) (adm a)) (cellOf_inj (adm a))))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V8 m (outs m a hc) c))
    (hch := fun c => ⟨.rfl,
      sep_mono (Entails.of_eq (Pipeline.unscopedBufs_held (Ix := Unit) (Name := ℕ) (U := UU) (Lvl := ℕ) c (W1 m c)).symm) .rfl, .rfl,
      sep_mono (Entails.of_eq ((Pipeline.unscopedBufs_held (Ix := Unit) (Name := ℕ) (U := UU) (Lvl := ℕ) c (W3 m c)).trans (by rw [V3_eq]))) .rfl,
      sep_mono (Entails.of_eq ((Pipeline.unscopedBufs_held (Ix := Unit) (Name := ℕ) (U := UU) (Lvl := ℕ) c (W4 m c)).trans (by rw [← V4_eq m a hc c])).symm) .rfl,
      sep_mono (Entails.of_eq ((Pipeline.unscopedBufs_held (Ix := Unit) (Name := ℕ) (U := UU) (Lvl := ℕ) c (W5 m a hc c)).trans (by rw [V5_eq]))) .rfl,
      sep_mono (Entails.of_eq ((Pipeline.unscopedBufs_held (Ix := Unit) (Name := ℕ) (U := UU) (Lvl := ℕ) c (W6 m a hc c)).trans (by rw [← V6_eq m a hc c])).symm) .rfl,
      sep_mono (Entails.of_eq ((Pipeline.unscopedBufs_held (Ix := Unit) (Name := ℕ) (U := UU) (Lvl := ℕ) c (W7 m a hc c)).trans (by rw [V7_eq]))) .rfl,
      .rfl⟩)
    (hinit := ?_) (QY := fun c s => ∀ b ∈ Pipeline.ucRefs τ sig, s.mem (((c : Thread nD τ).1, b) : Loc nD τ sig) = V8 m (outs m a hc) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V8 m (outs m a hc) c) s') $$ [Hh HSI]
    · isplitl [Hh] <;> iassumption
    icases Hr with ⟨%h, HSI⟩
    imodintro
    isplitr
    · ipureintro; exact h
    · iexact HSI

/-- A buffer the program keeps: it is among those the run accounts for. -/
theorem mem_uc (r : Ref sig .tc) (h : r.isScoped = false) : (Proc.devRef .tc r : DevRef τ sig) ∈ Pipeline.ucRefs τ sig :=
  Finset.mem_filter.mpr ⟨StableHlo.devRef_mem_tcRefs r, by simpa using h⟩

end Cert.Proof.KernelIdeal

end
-- ==== Proof.KernelIdeal.Tables.lean ====
/-
  The rank call's tables under the precondition: every window it fetches lies in its array, and every slab it reads in its row.
-/
module

public import proofs.«01_k».proof.Proof.KernelIdeal.RankStage

@[expose] public section

noncomputable section

namespace Cert.Proof.KernelIdeal

open Cert.KernelIdeal Cert.KernelIdeal.Gen

open Idealize.ShloMosaic
open Idealize.ShloMosaic.TcCoe

variable {F : FTy → Type} [FloatOps F]

/-- Where the slab of a column begins, from the column modulo the row's length: the multiple of 128 below it. -/
def slabAt (v13 : BitVec 32) : ℕ :=
  let v20 := Scalar.select (Scalar.andi (Scalar.xori (Scalar.cmpi .slt v13 0#32) (Scalar.cmpi .slt 8192#32 0#32)) (Scalar.cmpi .ne v13 0#32)) (Scalar.addi v13 8192#32) v13
  let v26 := Scalar.subi (w := 32) (Scalar.extui (Scalar.cmpi .sgt v20 0#32)) (Scalar.extui (Scalar.cmpi .slt v20 0#32))
  let v31 := Scalar.subi (w := 32) (Scalar.extui (Scalar.cmpi .sgt 128#32 0#32)) (Scalar.extui (Scalar.cmpi .slt 128#32 0#32))
  let v35 := Scalar.andi (Scalar.cmpi .ne v26 v31) (Scalar.cmpi .ne (Scalar.remsi v20 128#32) 0#32)
  (Scalar.muli (Scalar.select v35 (Scalar.subi (Scalar.divsi v20 128#32) 1#32) (Scalar.divsi v20 128#32)) 128#32).toNat

theorem slabAt_eq : ∀ x : Fin 8192, slabAt (BitVec.ofNat 32 x.val) = x.val / 128 * 128 := by decide +kernel

/-- The remainder of a column by the row's length, as the natural numbers' remainder. -/
theorem rem_eq (v : BitVec 32) (h : v.toNat < 65536) : Scalar.remsi v 8192#32 = BitVec.ofNat 32 (v.toNat % 8192) := by
  have h1 : Affine.IsInt v (v.toNat : ℤ) := by
    have := Affine.ofNat (e := (v.toNat : ℤ)) v.toNat ⟨rfl, by omega⟩
    rwa [BitVec.ofNat_toNat, BitVec.setWidth_eq] at this
  have h2 : Affine.IsInt (8192#32) (8192 : ℤ) := Affine.ofNat (e := (8192 : ℤ)) 8192 ⟨rfl, by omega⟩
  have h3 := Affine.remsi (e := ((v.toNat % 8192 : ℕ) : ℤ)) h1 h2 ⟨by push_cast; rfl, by omega, by omega⟩
  have h4 : Affine.IsInt (BitVec.ofNat 32 (v.toNat % 8192)) ((v.toNat % 8192 : ℕ) : ℤ) := Affine.ofNat _ ⟨rfl, by omega⟩
  unfold Affine.IsInt at h3 h4
  exact BitVec.eq_of_toInt_eq (h3.trans h4.symm)

/-- The slab read for a column in range begins at the multiple of 128 below the column modulo the row's length. -/
theorem off2_eq (v : BitVec 32) (h : v.toNat < 65536) : k2_off2 v = ![0, 0, v.toNat % 8192 / 128 * 128] := by
  have e : k2_off2 v = ![0, 0, slabAt (Scalar.remsi v 8192#32)] := rfl
  rw [e, rem_eq v h, slabAt_eq ⟨v.toNat % 8192, by omega⟩]

/-- It lies in its row. -/
theorem chk_of (v : BitVec 32) (h : v.toNat < 65536) : k2_chk1 v := by
  unfold k2_chk1
  rw [off2_eq v h]
  intro a
  fin_cases a
  · show 0 + 1 ≤ 1
    omega
  · show 0 + 8 ≤ 8
    omega
  · show v.toNat % 8192 / 128 * 128 + 128 ≤ 8192
    omega

/-- A block named by a row below 512 lies in the array. -/
theorem row_ok (w : BitVec 32) (h : w.toNat < 512) : ∀ a, ((![w.toNat, (0#32).toNat, (0#32).toNat] : Fin 3 → ℕ) a + 1) * S1x8x8192.size a ≤ S512x8x8192.size a := by
  intro a
  fin_cases a
  · show (w.toNat + 1) * 1 ≤ 512
    omega
  · show (0 + 1) * 8 ≤ 8
    omega
  · show (0 + 1) * 8192 ≤ 8192
    omega

/-- The tables' windows: every row the first table names is below 512, so every window lies in the array. -/
theorem ok2_of (pf : pre2.Contents (Elt F)) (h : ∀ x, (pf 0 x : BitVec 32).toNat < 512) : ok2 pf := by
  unfold ok2
  exact ⟨fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩,
    fun i => ⟨row_ok _ (h _), Or.inl rfl⟩⟩

variable (m : (ℓ : Loc nD τ sig) → Buf (Elt F) ℓ)

/-- The tables the rank call fetches, as launched. -/
def tabs : pre2.Contents (Elt F) := fun k => m (((0 : Dev nD) : Thread nD τ).loc (pre2.ref k))

/-- The tables with what the precondition says of them. -/
def a2 (h6 : ∀ x, (m (((0 : Dev nD) : Thread nD τ).loc main_arg6) x : BitVec 32).toNat < 512) : (pcfg2 (F := F)).Adm := ⟨tabs m, ok2_of _ h6⟩

/-- Every slab the rank call reads lies in its row. -/
theorem tab2 (h6) (h7 : ∀ x, (m (((0 : Dev nD) : Thread nD τ).loc main_arg7) x : BitVec 32).toNat < 65536) (c : Dev nD) : Tab2 (F := F) (a2 m h6) c :=
  fun _ => chk_of _ (h7 _)

/-- They are the launched ones on every device. -/
theorem a2_eq (h6) (c : Dev nD) (k) : (a2 m h6).1 k = m ((c : Thread nD τ).loc (pre2.ref k)) := by
  obtain rfl : c = 0 := Subsingleton.elim _ _
  rfl

end Cert.Proof.KernelIdeal

end
-- ==== Proof.KernelIdeal.Frame.lean ====
/-
  The program under the precondition: it terminates, its arguments keep their contents, and its results are what the
  last state says.
-/
module

public import proofs.«01_k».proof.Proof.KernelIdeal.Run
public import proofs.«01_k».proof.Proof.KernelIdeal.Tables

@[expose] public section

noncomputable section

namespace Cert.Proof.KernelIdeal

open Cert.KernelIdeal Cert.KernelIdeal.Gen

open Idealize.ShloMosaic Idealize.SL.Sem
open Idealize.ShloMosaic.TcCoe

variable {F : FTy → Type} [FloatOps F]

variable (m : (ℓ : Loc nD τ sig) → Buf (Elt F) ℓ)
variable (h6 : ∀ x, (m (((0 : Dev nD) : Thread nD τ).loc main_arg6) x : BitVec 32).toNat < 512)
variable (h7 : ∀ x, (m (((0 : Dev nD) : Thread nD τ).loc main_arg7) x : BitVec 32).toNat < 65536)

/-- The last state under the precondition. -/
def Vend (c : Dev nD) : Valuation τ sig (Elt F) := V8 m (outs m (a2 m h6) (tab2 m h6 h7)) c

/-- Under the bounds on the tables' words the program terminates with every counter at zero, its arguments as launched and its
    four results as the last state says. -/
theorem ends (ρ : Dev nD → PrngReg) :
    θ_run defs (onTc (τ := τ) (main (F := F))) ⟨m, fun _ => 0, ρ⟩ (fun r => (∀ c : Dev nD,
      (r.2.mem ((c.tc : Thread nD τ).loc main_v23) = Vend m h6 h7 c main_v23
      ∧ r.2.mem ((c.tc : Thread nD τ).loc main_v28) = Vend m h6 h7 c main_v28
      ∧ r.2.mem ((c.tc : Thread nD τ).loc main_v29) = Vend m h6 h7 c main_v29
      ∧ r.2.mem ((c.tc : Thread nD τ).loc main_v30) = Vend m h6 h7 c main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r hr => ⟨fun c => ?_, hr.2⟩) (run m (a2 m h6) (tab2 m h6 h7) ρ (a2_eq m h6))
  have h := hr.1 c
  exact ⟨⟨h _ (mem_uc main_v23 (by decide)), h _ (mem_uc main_v28 (by decide)), h _ (mem_uc main_v29 (by decide)), h _ (mem_uc main_v30 (by decide))⟩,
    (h _ (mem_uc main_arg0 (by decide))).trans (V8_main_arg0 ..), (h _ (mem_uc main_arg1 (by decide))).trans (V8_main_arg1 ..),
    (h _ (mem_uc main_arg2 (by decide))).trans (V8_main_arg2 ..), (h _ (mem_uc main_arg3 (by decide))).trans (V8_main_arg3 ..),
    (h _ (mem_uc main_arg4 (by decide))).trans (V8_main_arg4 ..), (h _ (mem_uc main_arg5 (by decide))).trans (V8_main_arg5 ..),
    (h _ (mem_uc main_arg6 (by decide))).trans (V8_main_arg6 ..), (h _ (mem_uc main_arg7 (by decide))).trans (V8_main_arg7 ..)⟩

end Cert.Proof.KernelIdeal

end
-- ==== Proof.InRange.lean ====
/-
  What the precondition says of the integer arguments' words: each is below its bound.
-/
module

public import proofs.«01_k».proof.Pre_in_range
public import Idealize.ShloMosaic.Lib.Affine

@[expose] public section

namespace Cert.Proof

open Idealize.ShloMosaic

/-- The predicate's broadcasts are of a scalar. -/
instance preFacts : Cert.Pre_in_range.Facts where
  bcast_S_S512 := by decide
  bcast_S_S65536 := by decide
  bcast_S_S2x16384 := by decide
  bcast_S_S4096 := by decide

/-- A word that is at least zero and below a bound, both compared signed, is below it as a natural number. -/
theorem lt_of_cmp (w : BitVec 32) (n : ℕ) (hn : n < 2 ^ 31)
    (h : IntOp.andi (IntOp.cmpi .sge w 0#32) (IntOp.cmpi .slt w (BitVec.ofNat 32 n)) = 1#1) : w.toNat < n := by
  have hb : ∀ x y : Bool, BitVec.ofBool x &&& BitVec.ofBool y = 1#1 → x = true ∧ y = true := by decide
  obtain ⟨h1, h2⟩ := hb _ _ h
  have e0 : (0#32).toInt = 0 := by decide
  have en : (BitVec.ofNat 32 n).toInt = n := by
    rw [BitVec.toInt_eq_toNat_of_lt] <;> rw [BitVec.toNat_ofNat, Nat.mod_eq_of_lt (by omega)]; omega
  rw [BitVec.sle, e0] at h1
  rw [BitVec.slt, en] at h2
  have h1 := of_decide_eq_true h1
  have h2 := of_decide_eq_true h2
  have := BitVec.toInt_eq_toNat_cond w
  split at this <;> omega

variable {F : FTy → Type} [FloatOps F]
variable (a0 : FVec F Cert.Pre_in_range.S512x65536 .f32) (a1 : IVec Cert.Pre_in_range.S512 32) (a2 : IVec Cert.Pre_in_range.S512x2 32)
  (a3 : IVec Cert.Pre_in_range.S65536 32) (a4 : IVec Cert.Pre_in_range.S65536x2 32) (a5 : IVec Cert.Pre_in_range.S2x16384 32)
  (a6 : IVec Cert.Pre_in_range.S4096 32) (a7 : IVec Cert.Pre_in_range.S4096 32)

/-- The first file index is below 2048. -/
theorem inRange1 (h : (Cert.Pre_in_range.fn (F := F) a0 a1 a2 a3 a4 a5 a6 a7).1 = fun _ => 1#1) (i) : (a1 i).toNat < 2048 :=
  lt_of_cmp (a1 i) 2048 (by omega) (congrFun h i)
/-- The second file index is below 2048. -/
theorem inRange3 (h : (Cert.Pre_in_range.fn (F := F) a0 a1 a2 a3 a4 a5 a6 a7).2.1 = fun _ => 1#1) (i) : (a3 i).toNat < 2048 :=
  lt_of_cmp (a3 i) 2048 (by omega) (congrFun h i)
/-- Both ends of an edge are below 2048. -/
theorem inRange5 (h : (Cert.Pre_in_range.fn (F := F) a0 a1 a2 a3 a4 a5 a6 a7).2.2.1 = fun _ => 1#1) (i) : (a5 i).toNat < 2048 :=
  lt_of_cmp (a5 i) 2048 (by omega) (congrFun h i)
/-- A label's row is below 512. -/
theorem inRange6 (h : (Cert.Pre_in_range.fn (F := F) a0 a1 a2 a3 a4 a5 a6 a7).2.2.2.1 = fun _ => 1#1) (i) : (a6 i).toNat < 512 :=
  lt_of_cmp (a6 i) 512 (by omega) (congrFun h i)
/-- A label's column is below 65536. -/
theorem inRange7 (h : (Cert.Pre_in_range.fn (F := F) a0 a1 a2 a3 a4 a5 a6 a7).2.2.2.2 = fun _ => 1#1) (i) : (a7 i).toNat < 65536 :=
  lt_of_cmp (a7 i) 65536 (by omega) (congrFun h i)

end Cert.Proof
-- ==== Proof.Value.RankCat.lean ====
/-
  The rank call's block: one value of the row and the word of the group for each of its 64 groups.
-/
module

public import proofs.«01_k».proof.Proof.KernelIdeal.RankStage

@[expose] public section

noncomputable section

namespace Cert.Proof.Value

open Cert.KernelIdeal Cert.KernelIdeal.Gen Cert.Proof.KernelIdeal

open Idealize.ShloMosaic
open Idealize.ShloMosaic.TcCoe Idealize.ShloMosaic.Tactic

variable {F : FTy → Type} [FloatOps F]

/-- The lane of a position among its sublane's 8192. -/
def lane (j : BitVec 32) : BitVec 32 :=
  Scalar.select (Scalar.andi (Scalar.xori (Scalar.cmpi .slt (Scalar.remsi j 8192#32) 0#32) (Scalar.cmpi .slt 8192#32 0#32))
    (Scalar.cmpi .ne (Scalar.remsi j 8192#32) 0#32)) (Scalar.addi (Scalar.remsi j 8192#32) 8192#32) (Scalar.remsi j 8192#32)

/-- The tile of 128 lanes a lane lies in. -/
def tile (l : BitVec 32) : BitVec 32 :=
  Scalar.select (Scalar.andi
      (Scalar.cmpi .ne (Scalar.subi (Scalar.extui (Scalar.cmpi .sgt l 0#32)) (Scalar.extui (Scalar.cmpi .slt l 0#32)))
        (Scalar.subi (Scalar.extui (Scalar.cmpi .sgt 128#32 0#32)) (Scalar.extui (Scalar.cmpi .slt 128#32 0#32))))
      (Scalar.cmpi .ne (Scalar.remsi l 128#32) 0#32))
    (Scalar.subi (Scalar.divsi l 128#32) 1#32) (Scalar.divsi l 128#32)

/-- One group's value: the rank of the row's element at the word, from the row and the slab around the element. -/
def rankOne (j : BitVec 32) (row : S1x8x8192.Idx → F .f32) (slab : S1x8x128.Idx → F .f32) : FVec F S1x1x1 .f32 :=
  k2_pay6 (extractAt ![0, 0, 0] (k2_pay5 j (k2_pay3 row) k2_pay4 (lane j) (tile (lane j)) 128#32 slab) inpos_S1x1x1_p0_0_0)

theorem word_inb (i : grid2.Coords) (g : Fin 64) : ∀ a, k2_off1 i (BitVec.ofNat 32 g.val) a + S1.size a ≤ S4096.size a := by
  intro a
  have ha : a = 0 := Subsingleton.elim _ _
  subst ha
  have hi : (i 0).val < 64 := (i 0).isLt
  have hg := g.isLt
  show (BitVec.ofNat 32 (i 0).val * 64#32 + BitVec.ofNat 32 g.val).toNat + 1 ≤ 4096
  rw [BitVec.toNat_add, BitVec.toNat_mul, BitVec.toNat_ofNat, BitVec.toNat_ofNat, BitVec.toNat_ofNat]
  omega

/-- The word of group `g` at a point. -/
def word (c : Dev nD) (i : grid2.Coords) (T2 : Memref sig .tc .smem S4096 .i32) (fT : Bf (F := F) c T2) (g : Fin 64) : BitVec 32 :=
  View.readAt (Elt F) T2.view (Rect.unit (s := S4096) (k2_off1 i (BitVec.ofNat 32 g.val)) S1.size (word_inb i g)).toLoadRect fT (Shape.Idx.first (show 0 < Shape.numel S1 by decide))

theorem cat_fits : Shape.Concatenates ((List.ofFn fun _ : Fin 64 => (⟨S1x1x1, fun _ => default⟩ : (s : Shape) × (s.Idx → BitVec 1))).map (·.1)) S64x1x1 0 := by
  decide

set_option maxRecDepth 20000 in
set_option maxHeartbeats 4000000 in
/-- What the run stores: one piece, the groups' values in order. -/
theorem stored (c : Dev nD) (i : grid2.Coords) (T2 : Memref sig .tc .smem S4096 .i32) (M : Fin 64 → Memref sig .tc .vmem S1x8x8192 .f32)
    (fT : Bf (F := F) c T2) (f : (g : Fin 64) → Bf (F := F) c (M g)) (hc : ∀ w, k2_chk1 (View.read (Elt F) T2.view fT w))
    (hw : ∀ g, k2_chk1 (word c i T2 fT g)) :
    rankRun.sl.HO_1 c i T2 M fT f hc = [⟨Rect.unit (s := S64x1x1) ![0, 0, 0] S64x1x1.size inb_S64x1x1_S64x1x1_0_0_0,
      concatenate S64x1x1 0 (List.ofFn fun g : Fin 64 => (⟨S1x1x1, rankOne (word c i T2 fT g)
        (View.readAt (Elt F) (M g).view (Rect.unit (s := S1x8x8192) ![0, 0, 0] S1x8x8192.size inb_S1x8x8192_S1x8x8192_0_0_0).toLoadRect (f g))
        (View.readAt (Elt F) (M g).view (Rect.unit (s := S1x8x8192) (k2_off2 (word c i T2 fT g)) S1x8x128.size (hw g)).toLoadRect (f g))⟩ : (s : Shape) × (s.Idx → F .f32))) cat_fits⟩] := by
  rfl

end Cert.Proof.Value

end
-- ==== Proof.Value.RankWords.lean ====
/-
  The words of the rank call's slab: the sublane, the lane and the tile of a position.
-/
module

public import proofs.«01_k».proof.Proof.KernelIdeal.Tables
public import proofs.«01_k».proof.Proof.Value.RankCat

@[expose] public section

noncomputable section

namespace Cert.Proof.Value

open Cert.KernelIdeal Cert.KernelIdeal.Gen Cert.Proof.KernelIdeal

open Idealize.ShloMosaic
open Idealize.ShloMosaic.TcCoe Idealize.ShloMosaic.Tactic

theorem tile_eq : ∀ x : Fin 8192, Scalar.muli (tile (BitVec.ofNat 32 x.val)) 128#32 = BitVec.ofNat 32 (x.val / 128 * 128) := by decide +kernel
theorem lane_aux : ∀ x : Fin 8192, (Scalar.select (Scalar.andi (Scalar.xori (Scalar.cmpi .slt (BitVec.ofNat 32 x.val) 0#32) (Scalar.cmpi .slt 8192#32 0#32))
    (Scalar.cmpi .ne (BitVec.ofNat 32 x.val) 0#32)) (Scalar.addi (BitVec.ofNat 32 x.val) 8192#32) (BitVec.ofNat 32 x.val) : BitVec 32) = BitVec.ofNat 32 x.val := by decide +kernel

/-- The lane of a position in range. -/
theorem lane_eq (j : BitVec 32) (h : j.toNat < 65536) : lane j = BitVec.ofNat 32 (j.toNat % 8192) := by
  unfold lane
  rw [rem_eq j h]
  exact lane_aux ⟨j.toNat % 8192, by omega⟩

/-- The quotient of a position by the sublane's length, as the natural numbers' quotient. -/
theorem quo_eq (v : BitVec 32) (h : v.toNat < 65536) : Scalar.divsi v 8192#32 = BitVec.ofNat 32 (v.toNat / 8192) := by
  have h1 : Affine.IsInt v (v.toNat : ℤ) := by
    have := Affine.ofNat (e := (v.toNat : ℤ)) v.toNat ⟨rfl, by omega⟩
    rwa [BitVec.ofNat_toNat, BitVec.setWidth_eq] at this
  have h2 : Affine.IsInt (8192#32) (8192 : ℤ) := Affine.ofNat (e := (8192 : ℤ)) 8192 ⟨rfl, by omega⟩
  have h3 := Affine.divsi (e := ((v.toNat / 8192 : ℕ) : ℤ)) h1 h2 ⟨by push_cast; rfl, by omega, by omega⟩
  have h4 : Affine.IsInt (BitVec.ofNat 32 (v.toNat / 8192)) ((v.toNat / 8192 : ℕ) : ℤ) := Affine.ofNat _ ⟨rfl, by omega⟩
  unfold Affine.IsInt at h3 h4
  exact BitVec.eq_of_toInt_eq (h3.trans h4.symm)

/-- The sublane of a position in range. -/
theorem sub_eq (j : BitVec 32) (h : j.toNat < 65536) :
    (Scalar.select
        (Scalar.andi
          (Scalar.cmpi CmpIPredicate.ne
            (Scalar.subi (w := 32) (Scalar.extui (Scalar.cmpi CmpIPredicate.sgt j 0#32)) (Scalar.extui (Scalar.cmpi CmpIPredicate.slt j 0#32)))
            (Scalar.subi (Scalar.extui (Scalar.cmpi CmpIPredicate.sgt 8192#32 0#32)) (Scalar.extui (Scalar.cmpi CmpIPredicate.slt 8192#32 0#32))))
          (Scalar.cmpi CmpIPredicate.ne (Scalar.remsi j 8192#32) 0#32))
        (Scalar.subi (Scalar.divsi j 8192#32) 1#32) (Scalar.divsi j 8192#32)) = BitVec.ofNat 32 (j.toNat / 8192) := by
  rw [quo_eq j h, rem_eq j h]
  by_cases hj : j = 0#32
  · subst hj; decide
  · have hp : 0 < j.toInt := by
      have h1 : j.toInt = j.toNat := by rw [BitVec.toInt_eq_toNat_of_lt]; omega
      have h2 : j.toNat ≠ 0 := fun e => hj (BitVec.eq_of_toNat_eq e)
      omega
    have e1 : Scalar.cmpi CmpIPredicate.sgt j 0#32 = 1#1 := by
      show BitVec.ofBool ((0#32).slt j) = 1#1
      rw [BitVec.slt_eq_decide]
      simp [hp]
    have e2 : Scalar.cmpi CmpIPredicate.slt j 0#32 = 0#1 := by
      show BitVec.ofBool (j.slt 0#32) = 0#1
      rw [BitVec.slt_eq_decide]
      have : ¬ j.toInt < 0 := by omega
      simp [this]
    rw [e1, e2]
    rw [show Scalar.cmpi CmpIPredicate.ne
            (Scalar.subi (w := 32) (Scalar.extui 1#1) (Scalar.extui 0#1))
            (Scalar.subi (Scalar.extui (Scalar.cmpi CmpIPredicate.sgt 8192#32 0#32)) (Scalar.extui (Scalar.cmpi CmpIPredicate.slt 8192#32 0#32))) = 0#1 from by decide]
    show (if (0#1 &&& _ : BitVec 1) = 1#1 then _ else _) = _
    rw [BitVec.zero_and]; rfl

end Cert.Proof.Value

end
-- ==== Proof.Value.Words.lean ====
/-
  Facts that name no program: sums of indicators, a scatter of ones at pairs of indices, a row taken and a column taken,
  each read at an index.
-/
module

public import Idealize.ShloMosaic.Lib.ValueIdx
public import Idealize.ShloMosaic.Lib.ValueLayoutCasts
public import Idealize.ShloMosaic.Lib.Routing.OpsPair
public import Idealize.ShloMosaic.Lib.Routing.OpsSet
public import Idealize.ShloMosaic.PureOps.Ideal.Laws

@[expose] public section

noncomputable section

namespace Cert.Proof.Value

open Idealize.ShloMosaic Idealize.ShloMosaic.ValueIdx

/-- The bit of a proposition. -/
def bit (p : Prop) : BitVec 1 := by classical exact if p then 1#1 else 0#1

theorem bit_true {p : Prop} (h : p) : bit p = 1#1 := by unfold bit; exact if_pos h
theorem bit_false {p : Prop} (h : ¬ p) : bit p = 0#1 := by unfold bit; exact if_neg h
/-- A one-bit word that is one exactly when `p` holds is the bit of `p`. -/
theorem eq_bit {p : Prop} (x : BitVec 1) (h : x = 1#1 ↔ p) : x = bit p := by
  by_cases hp : p
  · rw [bit_true hp]; exact h.2 hp
  · rw [bit_false hp]; exact eq_zero_of_ne_one (fun e => hp (h.1 e))
theorem bit_congr {p q : Prop} (h : p ↔ q) : bit p = bit q := by rw [propext h]

/-- A comparison of two words for equality is the bit of their being equal. -/
theorem cmpi_eq_bit {w : ℕ} (x y : BitVec w) : IntOp.cmpi .eq x y = bit (x = y) := by
  apply eq_bit
  show BitVec.ofBool (x == y) = 1#1 ↔ _
  by_cases h : x = y
  · simp [h]
  · rw [beq_false_of_ne h]; simp [h]

/-- A bit widened and converted to an ideal value is one or zero. -/
theorem sitofp_bit (p : Prop) [Decidable p] (φ : FTy) : (FloatOps.sitofp φ ((bit p).setWidth 32) : Ideal φ) = (if p then (1 : EReal) else 0) := by
  by_cases h : p
  · rw [bit_true h, if_pos h]
    show (((BitVec.setWidth 32 1#1).toInt : ℝ) : EReal) = 1
    rw [show (BitVec.setWidth 32 1#1).toInt = 1 from by decide]; simp
  · rw [bit_false h, if_neg h]
    show (((BitVec.setWidth 32 0#1).toInt : ℝ) : EReal) = 0
    rw [show (BitVec.setWidth 32 0#1).toInt = 0 from by decide]; simp

/-- The constant one half. -/
theorem half : Ideal.ofBits .f32 0x3F000000#32 = ((1 / 2 : ℝ) : EReal) := by
  simp [Ideal.ofBits, Ideal.ieee]
  rw [← EReal.coe_mul]; norm_num

/-- A natural number exceeds one half exactly when it is positive. -/
theorem gt_half (k : ℕ) : FloatOps.cmpf (F := Ideal) (φ := .f32) .ogt ((k : ℝ) : EReal) (Scalar.ofBits .f32 0x3F000000#32) = bit (0 < k) := by
  apply eq_bit
  show Ideal.cmp .ogt ((k : ℝ) : EReal) (Ideal.ofBits .f32 0x3F000000#32) = 1#1 ↔ _
  rw [half]
  unfold Ideal.cmp
  have e : ((1 / 2 : ℝ) : EReal) < ((k : ℝ) : EReal) ↔ 0 < k := by
    rw [EReal.coe_lt_coe_iff]
    constructor
    · intro h; rcases Nat.eq_zero_or_pos k with rfl | h' <;> [(norm_num at h); exact h']
    · intro h; have : (1 : ℝ) ≤ k := by exact_mod_cast h
      linarith
  simp only [e]
  by_cases h : 0 < k <;> simp [h]

/-- A sum of products of two indicators counts the indices at which both hold. -/
theorem sum_ind {ι : Type} [Fintype ι] (p q : ι → Prop) [DecidablePred p] [DecidablePred q] :
    ∑ e, (if p e then (1 : EReal) else 0) * (if q e then (1 : EReal) else 0) = (((Finset.univ.filter fun e => p e ∧ q e).card : ℝ) : EReal) := by
  have h : ∀ e, (if p e then (1 : EReal) else 0) * (if q e then (1 : EReal) else 0) = if p e ∧ q e then 1 else 0 := fun e => by
    by_cases hp : p e <;> by_cases hq : q e <;> simp [hp, hq]
  rw [Finset.sum_congr rfl fun e _ => h e, Finset.sum_boole]
  simp

/-- A sum against the indicator of one index is the term there. -/
theorem sum_pick {ι : Type} [Fintype ι] [DecidableEq ι] (f : ι → EReal) (p : ι → Prop) [DecidablePred p] (i : ι) (h : ∀ j, p j ↔ j = i) :
    ∑ j, f j * (if p j then (1 : EReal) else 0) = f i := by
  rw [Finset.sum_eq_single i]
  · rw [if_pos ((h i).2 rfl), mul_one]
  · intro j _ hj; rw [if_neg fun e => hj ((h j).1 e), mul_zero]
  · exact fun h => (h (Finset.mem_univ _)).elim

/-- A scatter of `N` scalars into an `R × C` matrix, two index words each. -/
abbrev pairDims (R C N : ℕ) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

/-- Update `n` lands at `(r, c)` exactly when its two words, read signed, are `r` and `c`. -/
theorem pair_lands {R C N w : ℕ} (wf) (idx : IVec ⟨2, ![N, 2]⟩ w) (n : Fin N) (r : Fin R) (c : Fin C) :
    (pairDims R C N wf).resultIdx? (ix1 n) idx = some (ix2 r c) ↔ (idx (ix2 n 0)).toInt = r.val ∧ (idx (ix2 n 1)).toInt = c.val := by
  have hm : ∀ q : Fin 2, q ∈ (pairDims R C N wf).scatterDimsToOperandDims := fun q => by
    show q ∈ [(0 : Fin 2), 1]
    fin_cases q <;> simp
  have hwin : ∀ q : Fin 2, (pairDims R C N wf).window (ix1 n) q = 0 := fun q => by
    unfold ScatterDims.window
    rw [dif_neg fun h => (of_decide_eq_true (List.mem_filter.1 h).2) (by show q ∈ [(0 : Fin 2), 1]; fin_cases q <;> simp)]
  have hst : ∀ q : Fin 2, (pairDims R C N wf).start (ix1 n) idx q = (idx (ix2 n q)).toInt := fun q => by
    unfold ScatterDims.start
    rw [dif_pos (hm q)]
    congr 2
    funext a
    apply Fin.ext
    fin_cases q <;> fin_cases a <;> rfl
  rw [Routing.resultIdx?_ix2, hst, hst, hwin, hwin]
  simp

/-- Ones scattered into zeros: the entry is one exactly when some update's words name it. -/
theorem scatter_ones {R C N w : ℕ} (wf) (x0 : (⟨2, ![R, C]⟩ : Shape).Idx → BitVec 1) (h0 : ∀ i, x0 i = 0#1) (idx : IVec ⟨2, ![N, 2]⟩ w)
    (upd : (⟨1, ![N]⟩ : Shape).Idx → BitVec 1) (h1 : ∀ i, upd i = 1#1) (r : Fin R) (c : Fin C) :
    Host.scatter (pairDims R C N wf) (fun _ b => b) x0 idx upd (ix2 r c)
      = bit (∃ n : Fin N, (idx (ix2 n 0)).toInt = r.val ∧ (idx (ix2 n 1)).toInt = c.val) := by
  by_cases h : ∃ n : Fin N, (idx (ix2 n 0)).toInt = r.val ∧ (idx (ix2 n 1)).toInt = c.val
  · rw [bit_true h]
    obtain ⟨n, hn⟩ := h
    exact Routing.scatter_set_hit _ x0 idx upd (ix2 r c) 1#1 (fun k _ => h1 k) (ix1 n) ((pair_lands wf idx n r c).2 hn)
  · rw [bit_false h]
    refine (Routing.scatter_set_miss _ x0 idx upd (ix2 r c) fun k hk => h ?_).trans (h0 _)
    rw [eq_ix1 k] at hk
    exact ⟨_, (pair_lands wf idx _ r c).1 hk⟩

/-- Columns `idx` of an `R × C` matrix. -/
abbrev colDims (R C N : ℕ) (wf : GatherDims.WF ⟨2, ![R, C]⟩ ⟨2, ![N, 1]⟩ ⟨2, ![R, N]⟩ [0] [1] [] [1] [] 1 ![R, 1]) :
    GatherDims ⟨2, ![R, C]⟩ ⟨2, ![N, 1]⟩ ⟨2, ![R, N]⟩ where
  offsetDims := [0]
  collapsedSliceDims := [1]
  operandBatchingDims := []
  startIndicesBatchingDims := []
  startIndexMap := [1]
  indexVectorDim := 1
  sliceSizes := ![R, 1]
  wf := wf

/-- Entry `(r, n)` of the columns taken is the matrix's at row `r` and the column word `n` names, clamped. -/
theorem col_apply {R C N w : ℕ} {α : Type} (hC : 0 < C) (wf) (x : (⟨2, ![R, C]⟩ : Shape).Idx → α) (idx : IVec ⟨2, ![N, 1]⟩ w) (r : Fin R) (n : Fin N) :
    Host.gather (colDims R C N wf) x idx (ix2 r n) = x (ix2 r ⟨min (idx (ix2 n 0)).toInt.toNat (C - 1), by omega⟩) := by
  unfold Host.gather
  congr 1
  funext a
  refine Fin.ext ?_
  show (colDims R C N wf).start (ix2 r n) idx a + (colDims R C N wf).batchCoord (ix2 r n) a + (colDims R C N wf).offCoord (ix2 r n) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show ¬ (0 : Fin 2) ∈ [(1 : Fin 2)] by decide)]
    unfold GatherDims.offCoord
    rw [dif_pos ((GatherDims.mem_sKept _ _).mpr ⟨show ¬ (0 : Fin 2) ∈ [(1 : Fin 2)] by decide, List.not_mem_nil⟩)]
    simp only [Nat.zero_add]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R C N wf).startIndexMap from List.mem_singleton.mpr rfl)]
    have hsi : (colDims R C N wf).siIdx (ix2 r n) ⟨List.idxOf (1 : Fin 2) (colDims R C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl

/-- One column of a two-column matrix, flattened. -/
theorem col_flat {α : Type} {n : ℕ} (q : Fin 2) (x : (⟨2, ![n, 2]⟩ : Shape).Idx → α) (h : (⟨2, ![n, 2]⟩ : Shape).Slices ![0, q.val] ⟨2, ![n, 1]⟩)
    (h' : (⟨2, ![n, 1]⟩ : Shape).ShapeCasts ⟨1, ![n]⟩) (i : Fin n) :
    shapeCast ⟨1, ![n]⟩ (extractStridedSlice ⟨2, ![n, 1]⟩ ![0, q.val] x h) h' (ix1 i) = x (ix2 i q) := by
  refine (shapeCast_apply _ h' _ (ix2 i (0 : Fin 1)) ?_).trans (extractStridedSlice_apply _ _ _ _ _ fun a => ?_)
  · rw [Shape.rowMajor_val_two, Shape.rowMajor_val_one]
    show i.val * 1 + 0 = i.val
    omega
  · match a with
    | ⟨0, _⟩ => exact (Nat.zero_add _).symm
    | ⟨1, _⟩ => rfl

/-- One row of a two-row matrix, flattened. -/
theorem row_flat {α : Type} {n : ℕ} (q : Fin 2) (x : (⟨2, ![2, n]⟩ : Shape).Idx → α) (h : (⟨2, ![2, n]⟩ : Shape).Slices ![q.val, 0] ⟨2, ![1, n]⟩)
    (h' : (⟨2, ![1, n]⟩ : Shape).ShapeCasts ⟨1, ![n]⟩) (i : Fin n) :
    shapeCast ⟨1, ![n]⟩ (extractStridedSlice ⟨2, ![1, n]⟩ ![q.val, 0] x h) h' (ix1 i) = x (ix2 q i) := by
  refine (shapeCast_1a_a_apply _ h' _).trans (extractStridedSlice_apply _ _ _ _ _ fun a => ?_)
  match a with
  | ⟨0, _⟩ => rfl
  | ⟨1, _⟩ => exact (Nat.zero_add _).symm

/-- Whether a premise stands above the position in its own file. -/
def before (cf pf p0 p1 t0 t1 : BitVec 32) : BitVec 1 :=
  IntOp.andi (IntOp.cmpi .eq cf pf) (IntOp.ori (IntOp.cmpi .slt p0 t0) (IntOp.andi (IntOp.cmpi .eq p0 t0) (IntOp.cmpi .sle p1 t1)))

/-- The masked score of premise `p` for prefix `b`: the score where the premise is accessible (above the position in the
    same file, or in a file that the prefix's file has an edge to), minus infinity elsewhere. -/
def spec (x0 : (⟨2, ![512, 65536]⟩ : Shape).Idx → Ideal .f32) (x1 : (⟨1, ![512]⟩ : Shape).Idx → BitVec 32) (x2 : (⟨2, ![512, 2]⟩ : Shape).Idx → BitVec 32)
    (x3 : (⟨1, ![65536]⟩ : Shape).Idx → BitVec 32) (x4 : (⟨2, ![65536, 2]⟩ : Shape).Idx → BitVec 32) (x5 : (⟨2, ![2, 16384]⟩ : Shape).Idx → BitVec 32)
    (b : Fin 512) (p : Fin 65536) : Ideal .f32 :=
  Scalar.select (IntOp.ori (before (x1 (ix1 b)) (x3 (ix1 p)) (x4 (ix2 p 0)) (x4 (ix2 p 1)) (x2 (ix2 b 0)) (x2 (ix2 b 1)))
      (bit (∃ e : Fin 16384, x1 (ix1 b) = x5 (ix2 0 e) ∧ x5 (ix2 1 e) = x3 (ix1 p))))
    (x0 (ix2 b p)) (Scalar.ofBits (F := Ideal) .f32 0xFF800000#32)

end Cert.Proof.Value

end
-- ==== Proof.Value.Host.lean ====
/-
  The arrays the host stretch hands the calls, read at an index as entries of the arguments.
-/
module

public import proofs.«01_k».proof.Proof.KernelIdeal.Regs
public import proofs.«01_k».proof.Proof.Value.Words

@[expose] public section

noncomputable section

namespace Cert.Proof.Value

open Cert.KernelIdeal Cert.KernelIdeal.Gen Cert.Proof.KernelIdeal

open Idealize.ShloMosaic Idealize.ShloMosaic.ValueIdx
open Idealize.ShloMosaic.TcCoe Idealize.ShloMosaic.Tactic

variable {F : FTy → Type} [FloatOps F]
variable (m : (ℓ : Loc nD τ sig) → Buf (Elt F) ℓ)

/-- The prefixes' files, a column. -/
theorem host_v0 (c : Dev nD) (b : Fin 512) (u : Fin 1) :
    (W1 m c main_v0 : S512x1.Idx → BitVec 32) (ix2 b u) = (m ((c : Thread nD τ).loc main_arg1) : S512.Idx → BitVec 32) (ix1 b) := by
  have e : (W1 m c main_v0 : S512x1.Idx → BitVec 32)
      = shapeCast S512x1 (m ((c : Thread nD τ).loc main_arg1) : S512.Idx → BitVec 32) shapeCasts_S512_S512x1 := by
    unfold W1 V1
    after_results
    rfl
  rw [e]
  exact shapeCast_a_a1_apply _ _ _ _

/-- The prefixes' starts, first words, a column. -/
theorem host_v3 (c : Dev nD) (b : Fin 512) (u : Fin 1) :
    (W1 m c main_v3 : S512x1.Idx → BitVec 32) (ix2 b u) = (m ((c : Thread nD τ).loc main_arg2) : S512x2.Idx → BitVec 32) (ix2 b 0) := by
  have e : (W1 m c main_v3 : S512x1.Idx → BitVec 32)
      = shapeCast S512x1 (shapeCast S512 (extractStridedSlice S512x1 ![0, 0] (m ((c : Thread nD τ).loc main_arg2) : S512x2.Idx → BitVec 32) slices_S512x2_S512x1_0_0) shapeCasts_S512x1_S512) shapeCasts_S512_S512x1 := by
    unfold W1 V1
    after_results
    rfl
  rw [e]
  exact (shapeCast_a_a1_apply _ _ _ _).trans (col_flat 0 _ _ _ _)

/-- The prefixes' starts, second words, a column. -/
theorem host_v6 (c : Dev nD) (b : Fin 512) (u : Fin 1) :
    (W1 m c main_v6 : S512x1.Idx → BitVec 32) (ix2 b u) = (m ((c : Thread nD τ).loc main_arg2) : S512x2.Idx → BitVec 32) (ix2 b 1) := by
  have e : (W1 m c main_v6 : S512x1.Idx → BitVec 32)
      = shapeCast S512x1 (shapeCast S512 (extractStridedSlice S512x1 ![0, 1] (m ((c : Thread nD τ).loc main_arg2) : S512x2.Idx → BitVec 32) slices_S512x2_S512x1_0_1) shapeCasts_S512x1_S512) shapeCasts_S512_S512x1 := by
    unfold W1 V1
    after_results
    rfl
  rw [e]
  exact (shapeCast_a_a1_apply _ _ _ _).trans (col_flat 1 _ _ _ _)

/-- The premises' files, a row. -/
theorem host_v7 (c : Dev nD) (u : Fin 1) (p : Fin 65536) :
    (W1 m c main_v7 : S1x65536.Idx → BitVec 32) (ix2 u p) = (m ((c : Thread nD τ).loc main_arg3) : S65536.Idx → BitVec 32) (ix1 p) := by
  have e : (W1 m c main_v7 : S1x65536.Idx → BitVec 32)
      = shapeCast S1x65536 (m ((c : Thread nD τ).loc main_arg3) : S65536.Idx → BitVec 32) shapeCasts_S65536_S1x65536 := by
    unfold W1 V1
    after_results
    rfl
  rw [e]
  exact shapeCast_a_1a_apply _ _ _ _

/-- The premises' ends, first words, a row. -/
theorem host_v10 (c : Dev nD) (u : Fin 1) (p : Fin 65536) :
    (W1 m c main_v10 : S1x65536.Idx → BitVec 32) (ix2 u p) = (m ((c : Thread nD τ).loc main_arg4) : S65536x2.Idx → BitVec 32) (ix2 p 0) := by
  have e : (W1 m c main_v10 : S1x65536.Idx → BitVec 32)
      = shapeCast S1x65536 (shapeCast S65536 (extractStridedSlice S65536x1 ![0, 0] (m ((c : Thread nD τ).loc main_arg4) : S65536x2.Idx → BitVec 32) slices_S65536x2_S65536x1_0_0) shapeCasts_S65536x1_S65536) shapeCasts_S65536_S1x65536 := by
    unfold W1 V1
    after_results
    rfl
  rw [e]
  exact (shapeCast_a_1a_apply _ _ _ _).trans (col_flat 0 _ _ _ _)

/-- The premises' ends, second words, a row. -/
theorem host_v13 (c : Dev nD) (u : Fin 1) (p : Fin 65536) :
    (W1 m c main_v13 : S1x65536.Idx → BitVec 32) (ix2 u p) = (m ((c : Thread nD τ).loc main_arg4) : S65536x2.Idx → BitVec 32) (ix2 p 1) := by
  have e : (W1 m c main_v13 : S1x65536.Idx → BitVec 32)
      = shapeCast S1x65536 (shapeCast S65536 (extractStridedSlice S65536x1 ![0, 1] (m ((c : Thread nD τ).loc main_arg4) : S65536x2.Idx → BitVec 32) slices_S65536x2_S65536x1_0_1) shapeCasts_S65536x1_S65536) shapeCasts_S65536_S1x65536 := by
    unfold W1 V1
    after_results
    rfl
  rw [e]
  exact (shapeCast_a_1a_apply _ _ _ _).trans (col_flat 1 _ _ _ _)

/-- The edges' sources, a row. -/
theorem host_v16 (c : Dev nD) (u : Fin 1) (e : Fin 16384) :
    (W1 m c main_v16 : S1x16384.Idx → BitVec 32) (ix2 u e) = (m ((c : Thread nD τ).loc main_arg5) : S2x16384.Idx → BitVec 32) (ix2 0 e) := by
  have e : (W1 m c main_v16 : S1x16384.Idx → BitVec 32)
      = shapeCast S1x16384 (shapeCast S16384 (extractStridedSlice S1x16384 ![0, 0] (m ((c : Thread nD τ).loc main_arg5) : S2x16384.Idx → BitVec 32) slices_S2x16384_S1x16384_0_0) shapeCasts_S1x16384_S16384) shapeCasts_S16384_S1x16384 := by
    unfold W1 V1
    after_results
    rfl
  rw [e]
  exact (shapeCast_a_1a_apply _ _ _ _).trans (row_flat 0 _ _ _ _)

/-- The edges' targets, a column. -/
theorem host_v19 (c : Dev nD) (e : Fin 16384) (u : Fin 1) :
    (W1 m c main_v19 : S16384x1.Idx → BitVec 32) (ix2 e u) = (m ((c : Thread nD τ).loc main_arg5) : S2x16384.Idx → BitVec 32) (ix2 1 e) := by
  have e : (W1 m c main_v19 : S16384x1.Idx → BitVec 32)
      = shapeCast S16384x1 (shapeCast S16384 (extractStridedSlice S1x16384 ![1, 0] (m ((c : Thread nD τ).loc main_arg5) : S2x16384.Idx → BitVec 32) slices_S2x16384_S1x16384_1_0) shapeCasts_S1x16384_S16384) shapeCasts_S16384_S16384x1 := by
    unfold W1 V1
    after_results
    rfl
  rw [e]
  exact (shapeCast_a_a1_apply _ _ _ _).trans (row_flat 1 _ _ _ _)

end Cert.Proof.Value

end
-- ==== Proof.Value.Crows.lean ====
/-
  The crows call's result, read at an index: one exactly where some edge runs from the prefix's file to the column's.
-/
module

public import proofs.«01_k».proof.Proof.Value.Host
public import proofs.«01_k».proof.Proof.Value.Words
public import Idealize.ShloMosaic.Lib.Pointwise
public import Idealize.ShloMosaic.Lib.Pipeline.ValueKit.Geometry

@[expose] public section

noncomputable section

namespace Cert.Proof.Value

open Cert.KernelIdeal Cert.KernelIdeal.Gen Cert.Proof.KernelIdeal

open Idealize.ShloMosaic Idealize.ShloMosaic.ValueIdx
open Idealize.ShloMosaic.TcCoe Idealize.ShloMosaic.Tactic

/-- One point's step of the accumulator, at an index: the edges seen that run from `b`'s file to file `f` are added. -/
theorem pay2_apply (v3 : S512x1.Idx → BitVec 32) (v5 : S1x1024.Idx → BitVec 32) (v14 : S1024x1.Idx → BitVec 32) (v21 : S512x2048.Idx → Ideal .f32)
    (b : Fin 512) (f : Fin 2048) :
    k0_pay2 (F := Ideal) v3 v5 v14 v21 (ValueIdx.ix2 b f) = v21 (ValueIdx.ix2 b f)
      + (((Finset.univ.filter fun k : Fin 1024 => v3 (ValueIdx.ix2 b 0) = v5 (ValueIdx.ix2 0 k) ∧ v14 (ValueIdx.ix2 k 0) = BitVec.ofNat 32 f.val).card : ℝ) : EReal) := by
  pointwise [k0_pay2]
  simp only [cmpi_eq_bit, sitofp_bit, ix2_eq_valueIdx]
  rw [← sum_ind]

/-- The rounded accumulator, at an index where it holds a number of edges: one if there is any. -/
theorem pay3_apply (v : S512x2048.Idx → Ideal .f32) (b : Fin 512) (f : Fin 2048) (k : ℕ) (h : v (ValueIdx.ix2 b f) = ((k : ℝ) : EReal)) :
    k0_pay3 (F := Ideal) v (ValueIdx.ix2 b f) = (if 0 < k then 1 else 0 : EReal) := by
  have e : k0_pay3 (F := Ideal) v (ValueIdx.ix2 b f)
      = FloatOps.sitofp (F := Ideal) .f32 ((FloatOps.cmpf (F := Ideal) (φ := .f32) .ogt (v (ValueIdx.ix2 b f)) (Scalar.ofBits .f32 0x3F000000#32)).setWidth 32) := by
    pointwise [k0_pay3]
  rw [e, h, gt_half, sitofp_bit]

variable (V : Dev nD → Valuation τ sig (Elt Ideal))

theorem idx0_0 : ∀ t : Fin cfg0.N, win0_0.index t = ![0, 0] := (by decide +kernel : ∀ t : Fin grid0.N, _)
theorem idx0_1 : ∀ t : Fin cfg0.N, win0_1.index t = ![0, t.val] := (by decide +kernel : ∀ t : Fin grid0.N, _)
theorem idx0_2 : ∀ t : Fin cfg0.N, win0_2.index t = ![t.val, 0] := (by decide +kernel : ∀ t : Fin grid0.N, _)

/-- The prefixes' files, as a point sees them. -/
theorem blk0_0_apply (c : Dev nD) (t : Fin cfg0.N) (b : Fin 512) :
    (blk0 V c 0 t : S512x1.Idx → BitVec 32) (ValueIdx.ix2 b 0) = (V c main_v0 : S512x1.Idx → BitVec 32) (ValueIdx.ix2 b 0) := by
  unfold blk0
  blk_simp
  congr 1 <;> blk_ext [idx0_0]

/-- The sources a point sees. -/
theorem blk0_1_apply (c : Dev nD) (t : Fin cfg0.N) (k : Fin 1024) (e : Fin 16384) (he : e.val = 1024 * t.val + k.val) :
    (blk0 V c 1 t : S1x1024.Idx → BitVec 32) (ValueIdx.ix2 0 k) = (V c main_v16 : S1x16384.Idx → BitVec 32) (ValueIdx.ix2 0 e) := by
  unfold blk0
  blk_simp
  congr 1 <;> blk_ext [idx0_1, he]
  show t.val * 1024 + k.val = 1024 * t.val + k.val
  omega

/-- The targets a point sees. -/
theorem blk0_2_apply (c : Dev nD) (t : Fin cfg0.N) (k : Fin 1024) (e : Fin 16384) (he : e.val = 1024 * t.val + k.val) :
    (blk0 V c 2 t : S1024x1.Idx → BitVec 32) (ValueIdx.ix2 k 0) = (V c main_v19 : S16384x1.Idx → BitVec 32) (ValueIdx.ix2 e 0) := by
  unfold blk0
  blk_simp
  congr 1 <;> blk_ext [idx0_2, he]
  show t.val * 1024 + k.val = 1024 * t.val + k.val
  omega

/-- After `n` points the accumulator holds, at each entry, a number of edges: positive exactly when one of the edges
    seen runs from the prefix's file to the column's. -/
theorem acc0_count (c : Dev nD) (b : Fin 512) (f : Fin 2048) : ∀ n : ℕ, n ≤ 16 → ∃ k : ℕ,
    acc0 V c n (ValueIdx.ix2 b f) = (((k : ℝ) : EReal)) ∧ (0 < k ↔ ∃ e : Fin 16384, e.val < 1024 * n
      ∧ (V c main_v0 : S512x1.Idx → BitVec 32) (ValueIdx.ix2 b 0) = (V c main_v16 : S1x16384.Idx → BitVec 32) (ValueIdx.ix2 0 e)
      ∧ (V c main_v19 : S16384x1.Idx → BitVec 32) (ValueIdx.ix2 e 0) = BitVec.ofNat 32 f.val)
  | 0, _ => ⟨0, by
      constructor
      · show k0_pay1 (F := Ideal) (ValueIdx.ix2 b f) = _
        pointwise [k0_pay1]
        simp
      · simp⟩
  | n + 1, hn => by
      obtain ⟨k, hk, hiff⟩ := acc0_count c b f n (by omega)
      have hN : n < cfg0.N := by rw [show cfg0.N = 16 from N_0]; omega
      have hs := acc0_succ V c ⟨n, hN⟩
      simp only at hs
      rw [hs, pay2_apply, hk]
      refine ⟨k + _, by push_cast; rfl, ?_⟩
      rw [Nat.add_pos_iff_pos_or_pos, hiff, Finset.card_pos]
      constructor
      · rintro (⟨e, he, h⟩ | ⟨i, hi⟩)
        · exact ⟨e, by omega, h⟩
        · obtain ⟨h1, h2⟩ := (Finset.mem_filter.1 hi).2
          have hi' := i.isLt
          have he : ((⟨1024 * n + i.val, by omega⟩ : Fin 16384) : ℕ) = 1024 * (⟨n, hN⟩ : Fin cfg0.N).val + i.val := rfl
          rw [blk0_0_apply, blk0_1_apply V c ⟨n, hN⟩ i _ he] at h1
          rw [blk0_2_apply V c ⟨n, hN⟩ i _ he] at h2
          exact ⟨_, by show 1024 * n + i.val < _; omega, h1, h2⟩
      · rintro ⟨e, he, h1, h2⟩
        by_cases hlt : e.val < 1024 * n
        · exact Or.inl ⟨e, hlt, h1, h2⟩
        · refine Or.inr ⟨⟨e.val - 1024 * n, by omega⟩, Finset.mem_filter.2 ⟨Finset.mem_univ _, ?_, ?_⟩⟩
          · rw [blk0_0_apply, blk0_1_apply V c ⟨n, hN⟩ _ e (by show e.val = 1024 * n + (e.val - 1024 * n); omega)]; exact h1
          · rw [blk0_2_apply V c ⟨n, hN⟩ _ e (by show e.val = 1024 * n + (e.val - 1024 * n); omega)]; exact h2

/-- The call's result is the last point's rounded accumulator. -/
theorem arr0 (c : Dev nD) : (dat0 V c).arrAt 3 cfg0.N = k0_pay3 (acc0 V c 16) := by
  refine (dat0 V c).arrAt_eq_of_after_last 3 ⟨15, by rw [show cfg0.N = 16 from N_0]; omega⟩ (by decide +kernel) _ fun j => ?_
  have e : ((cfg0.win 3).arr.view.emb j : S512x2048.Idx) = j := by blk_simp
  refine Eq.trans ?_ (congrArg (k0_pay3 (F := Ideal) (acc0 V c 16)) e.symm)
  rfl

/-- The result at `(b, f)`: one exactly when some edge runs from `b`'s file to file `f`. -/
theorem arr0_apply (c : Dev nD) (b : Fin 512) (f : Fin 2048) (p : Prop) [Decidable p]
    (hp : p ↔ ∃ e : Fin 16384, (V c main_v0 : S512x1.Idx → BitVec 32) (ValueIdx.ix2 b 0) = (V c main_v16 : S1x16384.Idx → BitVec 32) (ValueIdx.ix2 0 e)
      ∧ (V c main_v19 : S16384x1.Idx → BitVec 32) (ValueIdx.ix2 e 0) = BitVec.ofNat 32 f.val) :
    ((dat0 V c).arrAt 3 cfg0.N : S512x2048.Idx → Ideal .bf16) (ValueIdx.ix2 b f) = (if p then 1 else 0 : EReal) := by
  obtain ⟨k, hk, hiff⟩ := acc0_count V c b f 16 le_rfl
  rw [arr0]
  refine (pay3_apply _ b f k hk).trans (if_congr (hiff.trans ?_) rfl rfl)
  rw [hp]
  exact exists_congr fun e => ⟨fun h => h.2, fun h => ⟨by omega, h⟩⟩

end Cert.Proof.Value

end
-- ==== Proof.Value.Rank.lean ====
/-
  One group's value of the rank call: one more than the number of the row's elements that come before the group's own.
-/
module

public import proofs.«01_k».proof.Proof.Value.RankWords
public import proofs.«01_k».proof.Proof.Value.Crows
public import Idealize.ShloMosaic.Lib.IndicatorCount

@[expose] public section

noncomputable section

namespace Cert.Proof.Value

open Cert.KernelIdeal Cert.KernelIdeal.Gen Cert.Proof.KernelIdeal

open Idealize.ShloMosaic
open Idealize.ShloMosaic.TcCoe Idealize.ShloMosaic.Tactic

/-- Element `p` comes before element `q`: it is greater, or equal and of smaller index. -/
def Ahead {n : ℕ} (r : Fin n → EReal) (q p : Fin n) : Prop := r q < r p ∨ (r p = r q ∧ p.val < q.val)

instance {n : ℕ} (r : Fin n → EReal) (q p : Fin n) : Decidable (Ahead r q p) := Classical.propDecidable _

/-- The rank of element `q`: one more than the number of elements that come before it. -/
def rankAt {n : ℕ} (r : Fin n → EReal) (q : Fin n) : ℕ := (Finset.univ.filter fun p => Ahead r q p).card + 1

theorem ofBits_ninf : Ideal.ofBits .f32 0xFF800000#32 = ⊥ := by simp [Ideal.ofBits, Ideal.ieee]

/-- A maximum from minus infinity over one element kept and the rest at minus infinity is that element. -/
theorem fold_max_pick {ι : Type} [Fintype ι] (f : ι → EReal) (k : ι) (h : ∀ x, x ≠ k → f x = ⊥) : Finset.univ.fold max ⊥ f = f k := by
  apply le_antisymm
  · rw [Finset.fold_max_le]
    refine ⟨bot_le, fun x _ => ?_⟩
    by_cases hx : x = k
    · rw [hx]
    · rw [h x hx]; exact bot_le
  · rw [Finset.le_fold_max]
    exact Or.inr ⟨k, Finset.mem_univ _, le_rfl⟩

theorem ofBool_one (b : Bool) : BitVec.ofBool b = 1#1 ↔ b = true := by cases b <;> decide
theorem ori_one (a b : BitVec 1) : IntOp.ori a b = 1#1 ↔ a = 1#1 ∨ b = 1#1 := by revert a b; decide
theorem andi_one (a b : BitVec 1) : IntOp.andi a b = 1#1 ↔ a = 1#1 ∧ b = 1#1 := by revert a b; decide

/-- Two words below two to the thirty-first compare as signed as their values do. -/
theorem slt_small (a b : BitVec 32) (ha : a.toNat < 2 ^ 31) (hb : b.toNat < 2 ^ 31) : IntOp.cmpi .slt a b = 1#1 ↔ a.toNat < b.toNat := by
  show BitVec.ofBool (a.slt b) = 1#1 ↔ _
  rw [ofBool_one, BitVec.slt_eq_decide, decide_eq_true_eq, BitVec.toInt_eq_toNat_of_lt (by omega), BitVec.toInt_eq_toNat_of_lt (by omega)]
  omega

theorem ofNat_inj_small (a b : ℕ) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- A small number's word, read as an exact number. -/
theorem sitofp_small (n : ℕ) (h : n < 2 ^ 31) : (FloatOps.sitofp (F := Ideal) .f32 (BitVec.ofNat 32 n) : EReal) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- A row's positions as sublane and lane. -/
def flat : Fin 8 × Fin 8192 ≃ Fin 65536 where
  toFun x := ⟨x.1.val * 8192 + x.2.val, by have := x.1.isLt; have := x.2.isLt; omega⟩
  invFun p := (⟨p.val / 8192, by have := p.isLt; omega⟩, ⟨p.val % 8192, by omega⟩)
  left_inv x := by
    have := x.2.isLt
    refine Prod.ext (Fin.ext ?_) (Fin.ext ?_)
    · show (x.1.val * 8192 + x.2.val) / 8192 = x.1.val; omega
    · show (x.1.val * 8192 + x.2.val) % 8192 = x.2.val; omega
  right_inv p := Fin.ext (by show p.val / 8192 * 8192 + p.val % 8192 = p.val; omega)

theorem flat_val (x : Fin 8 × Fin 8192) : (flat x).val = x.1.val * 8192 + x.2.val := rfl

/-- One group's value is the rank, in its row, of the element at the group's word. -/
theorem rankOne_apply (j : BitVec 32) (hj : j.toNat < 65536) (row : S1x8x8192.Idx → Ideal .f32) (slab : S1x8x128.Idx → Ideal .f32)
    (r : Fin 65536 → EReal) (hr : ∀ (p : Fin 65536) (s : Fin 8) (l : Fin 8192), p.val = s.val * 8192 + l.val → row (ValueIdx.ix3 0 s l) = r p)
    (hs : ∀ (s : Fin 8) (l : Fin 128) (p : Fin 65536), p.val = s.val * 8192 + (j.toNat % 8192 / 128 * 128 + l.val) → slab (ValueIdx.ix3 0 s l) = r p) (x : S1x1x1.Idx) :
    rankOne (F := Ideal) j row slab x = (((rankAt r ⟨j.toNat, hj⟩ : ℕ) : ℝ) : EReal) := by
  have e : k2_pay5 (F := Ideal) j (k2_pay3 (F := Ideal) row) k2_pay4 (lane j) (tile (lane j)) 128#32 slab (ValueIdx.ix3 0 0 0)
      = BitVec.ofNat 32 (Finset.univ.filter fun p => Ahead r ⟨j.toNat, hj⟩ p).card := by
    pointwise [k2_pay5, k2_pay3, k2_pay4]
    rw [sub_eq j hj, lane_eq j hj, show Scalar.muli (tile (BitVec.ofNat 32 (j.toNat % 8192))) 128#32 = BitVec.ofNat 32 (j.toNat % 8192 / 128 * 128) from tile_eq ⟨j.toNat % 8192, by omega⟩, ofBits_ninf]
    simp only [ix3_eq_valueIdx]
    have hm : Finset.fold max (⊥ : EReal) (fun x : Fin 8 × Fin 128 => Scalar.select (IntOp.andi (IntOp.cmpi .eq (BitVec.ofNat 32 x.1.val) (BitVec.ofNat 32 (j.toNat / 8192)))
        (IntOp.cmpi .eq (BitVec.ofNat 32 x.2.val) (Scalar.subi (BitVec.ofNat 32 (j.toNat % 8192)) (BitVec.ofNat 32 (j.toNat % 8192 / 128 * 128))))) (slab (ValueIdx.ix3 0 x.1 x.2) : EReal) ⊥) Finset.univ = r ⟨j.toNat, hj⟩ := by
      have hsub : (Scalar.subi (BitVec.ofNat 32 (j.toNat % 8192)) (BitVec.ofNat 32 (j.toNat % 8192 / 128 * 128)) : BitVec 32) = BitVec.ofNat 32 (j.toNat % 128) := by
        show BitVec.ofNat 32 _ - BitVec.ofNat 32 _ = _
        apply BitVec.eq_of_toNat_eq
        rw [BitVec.toNat_sub, BitVec.toNat_ofNat, BitVec.toNat_ofNat, BitVec.toNat_ofNat]
        omega
      have hpick : ∀ x : Fin 8 × Fin 128, IntOp.andi (IntOp.cmpi .eq (BitVec.ofNat 32 x.1.val) (BitVec.ofNat 32 (j.toNat / 8192)))
          (IntOp.cmpi .eq (BitVec.ofNat 32 x.2.val) (BitVec.ofNat 32 (j.toNat % 128))) = 1#1 ↔ x = (⟨j.toNat / 8192, by omega⟩, ⟨j.toNat % 128, by omega⟩) := fun x => by
        have h1 := x.1.isLt
        have h2 := x.2.isLt
        rw [andi_one, cmpi_eq_bit, cmpi_eq_bit, ofNat_inj_small _ _ (by omega) (by omega), ofNat_inj_small _ _ (by omega) (by omega)]
        have hb : ∀ p : Prop, bit p = 1#1 ↔ p := fun p => ⟨fun h => by by_contra hn; rw [bit_false hn] at h; exact absurd h (by decide), bit_true⟩
        rw [hb, hb, Prod.ext_iff, Fin.ext_iff, Fin.ext_iff]
      rw [hsub, fold_max_pick _ (⟨j.toNat / 8192, by omega⟩, ⟨j.toNat % 128, by omega⟩)]
      · refine (if_pos ((hpick _).2 rfl)).trans ?_
        exact hs _ _ _ (by show j.toNat = j.toNat / 8192 * 8192 + (j.toNat % 8192 / 128 * 128 + j.toNat % 128); omega)
      · intro x hx
        exact if_neg fun h => hx ((hpick x).1 h)
    rw [hm, IndicatorCount.fold_addi_setWidth_eq_card]
    refine congrArg (BitVec.ofNat 32) (Finset.card_equiv flat fun x => ?_)
    have h1 := x.1.isLt
    have h2 := x.2.isLt
    have hv := flat_val x
    rw [Finset.mem_filter, Finset.mem_filter]
    simp only [Finset.mem_univ, true_and]
    rw [ori_one, andi_one, ofBool_one, ofBool_one, decide_eq_true_eq, decide_eq_true_eq, hr (flat x) x.1 x.2 hv]
    unfold Ahead
    have hw : (IntOp.addi (IntOp.muli (BitVec.ofNat 32 x.1.val) 8192#32) (BitVec.ofNat 32 x.2.val)).toNat = x.1.val * 8192 + x.2.val := by
      show (BitVec.ofNat 32 x.1.val * 8192#32 + BitVec.ofNat 32 x.2.val).toNat = _
      rw [BitVec.toNat_add, BitVec.toNat_mul, BitVec.toNat_ofNat, BitVec.toNat_ofNat, BitVec.toNat_ofNat]
      omega
    rw [slt_small _ _ (by rw [hw]; omega) (by omega), hw, hv]
  have hc : (Finset.univ.filter fun p => Ahead r ⟨j.toNat, hj⟩ p).card ≤ 65536 := (Finset.card_filter_le _ _).trans (by simp)
  refine Eq.trans (congrArg (fun i => (FloatOps.sitofp (F := Ideal) .f32 (k2_pay5 (F := Ideal) j (k2_pay3 (F := Ideal) row) k2_pay4 (lane j) (tile (lane j)) 128#32 slab i + 1#32) : EReal))
    (?_ : (fun a => ⟨(![0, 0, 0] : Fin 3 → ℕ) a, inpos_S1x1x1_p0_0_0 a⟩ : S1x1x1.Idx) = ValueIdx.ix3 0 0 0)) ?_
  · funext a; fin_cases a <;> rfl
  · show (FloatOps.sitofp (F := Ideal) .f32 (k2_pay5 (F := Ideal) j (k2_pay3 (F := Ideal) row) k2_pay4 (lane j) (tile (lane j)) 128#32 slab (ValueIdx.ix3 0 0 0) + 1#32) : EReal) = _
    rw [e, ← BitVec.ofNat_add]
    exact sitofp_small _ (by omega)

end Cert.Proof.Value

end
-- ==== Proof.Value.Sorts.lean ====
/-
  A stable sort of a row: the element it puts at a position has that position's rank.
-/
module

public import proofs.«01_k».proof.Proof.Value.Rank
public import Idealize.ShloMosaic.Lib.SortFacts

@[expose] public section

noncomputable section

namespace Cert.Proof.Value

open Idealize.ShloMosaic

/-- Two relations that agree wherever the later of two elements is compared with the earlier sort an increasing list alike. -/
theorem stable_congr {n : ℕ} (R B : Fin n → Fin n → Bool) (h : ∀ a b, a < b → R b a = B b a) (l : List (Fin n)) (hl : l.Pairwise (· < ·)) :
    stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

/-- The element a stable sort puts at position `i` has exactly `i` elements before it. -/
theorem count_sorted {n : ℕ} (R B : Fin n → Fin n → Bool) (h : ∀ a b, a < b → R b a = B b a) (hasym : ∀ a b, B a b = true → B b a = false)
    (hneg : ∀ a b c, B a b = false → B b c = false → B a c = false) (htot : ∀ a b, a ≠ b → B a b = true ∨ B b a = true) (i : Fin n) :
    (Finset.univ.filter fun p => B p (sortedFrom R i) = true).card = i.val := by
  have e : sortedFrom R = sortedFrom B := by
    have e' : sortPositions n R = sortPositions n B := stable_congr R B h _ (List.pairwise_lt_finRange n)
    funext k
    unfold sortedFrom
    simp only [List.get_eq_getElem, Fin.val_cast]
    congr 1
  rw [e]
  have hinj := sortedFrom_injective B
  have hsur := sortedFrom_surjective B
  have hlt : ∀ j, B (sortedFrom B j) (sortedFrom B i) = true ↔ j < i := by
    intro j
    constructor
    · intro hb
      by_contra hn
      rcases lt_or_eq_of_le (not_lt.mp hn) with hij | rfl
      · rw [sortedFrom_noInversion B B hasym (fun _ _ x => x) hneg i j hij] at hb
        exact Bool.false_ne_true hb
      · rw [hasym _ _ hb] at hb
        exact Bool.false_ne_true hb
    · intro hji
      rcases htot (sortedFrom B j) (sortedFrom B i) (fun x => absurd (hinj x) hji.ne) with hb | hb
      · exact hb
      · rw [sortedFrom_noInversion B B hasym (fun _ _ x => x) hneg j i hji] at hb
        exact (Bool.false_ne_true hb).elim
  rw [← Fin.card_Iio i]
  refine (Finset.card_bij (fun j _ => sortedFrom B j) (fun j hj => ?_) (fun _ _ _ _ x => hinj x) (fun p hp => ?_)).symm
  · exact Finset.mem_filter.2 ⟨Finset.mem_univ _, (hlt j).2 (Finset.mem_Iio.1 hj)⟩
  · obtain ⟨j, rfl⟩ := hsur p
    exact ⟨j, Finset.mem_Iio.2 ((hlt j).1 (Finset.mem_filter.1 hp).2), rfl⟩

/-- A stable sort by descending value puts at position `i` the element of rank `i + 1`. -/
theorem rank_sorted {n : ℕ} (r : Fin n → EReal) (R : Fin n → Fin n → Bool) (hR : ∀ p q, R p q = true ↔ r q < r p) (i : Fin n) :
    rankAt r (sortedFrom R i) = i.val + 1 := by
  have hB : ∀ p q, decide (Ahead r q p) = true ↔ Ahead r q p := fun p q => decide_eq_true_iff
  have hB' : ∀ p q, decide (Ahead r q p) = false ↔ ¬ Ahead r q p := fun p q => decide_eq_false_iff_not
  have := count_sorted R (fun p q => decide (Ahead r q p)) (fun a b hab => ?_) (fun a b x => ?_) (fun a b c x y => ?_) (fun a b hab => ?_) i
  · unfold rankAt
    refine congrArg (· + 1) (Eq.trans (congrArg Finset.card (Finset.filter_congr fun p _ => ?_)) this)
    exact (hB p _).symm
  · rw [Bool.eq_iff_iff, hR, hB]
    unfold Ahead
    constructor
    · exact Or.inl
    · rintro (x | ⟨-, x⟩)
      · exact x
      · exact absurd x (not_lt.2 hab.le)
  · rw [hB] at x
    rw [hB']
    unfold Ahead at x ⊢
    rintro (y | ⟨y, z⟩) <;> rcases x with x | ⟨x, w⟩
    · exact lt_asymm x y
    · exact absurd x y.ne
    · exact absurd y x.ne
    · exact lt_asymm z w
  · rw [hB'] at x y ⊢
    unfold Ahead at x y ⊢
    push Not at x y ⊢
    refine ⟨x.1.trans y.1, fun z => ?_⟩
    have e1 : r a = r b := le_antisymm x.1 (y.1.trans z.ge)
    have e2 : r b = r c := e1.symm.trans z
    exact (y.2 e2).trans (x.2 e1)
  · rw [hB, hB]
    unfold Ahead
    rcases lt_trichotomy (r a) (r b) with x | x | x
    · exact Or.inr (Or.inl x)
    · rcases lt_or_gt_of_ne hab with y | y
      · exact Or.inl (Or.inr ⟨x, y⟩)
      · exact Or.inr (Or.inr ⟨x.symm, y⟩)
    · exact Or.inl (Or.inl x)

/-- Sorting a permutation's values inverts it. -/
theorem sort_inverts {n : ℕ} (σ : Fin n → Fin n) (hσ : Function.Bijective σ) (R : Fin n → Fin n → Bool) (hR : ∀ p q, R p q = true ↔ σ p < σ q) (i : Fin n) :
    σ (sortedFrom R i) = i := by
  have hF : ∀ p q, R p q = false ↔ ¬ σ p < σ q := fun p q => by rw [← hR, Bool.not_eq_true]
  have := count_sorted R R (fun _ _ _ => rfl) (fun a b x => ?_) (fun a b c x y => ?_) (fun a b hab => ?_) i
  · refine Fin.ext (Eq.trans ?_ this)
    refine (Fin.card_Iio _).symm.trans (Finset.card_bij (fun q _ => Function.surjInv hσ.surjective q) (fun q hq => ?_) (fun a _ b _ x => ?_) (fun p hp => ?_))
    · refine Finset.mem_filter.2 ⟨Finset.mem_univ _, (hR _ _).2 ?_⟩
      show σ (Function.surjInv hσ.surjective q) < _
      rw [Function.surjInv_eq hσ.surjective q]
      exact Finset.mem_Iio.1 hq
    · exact Function.injective_surjInv hσ.surjective x
    · exact ⟨σ p, Finset.mem_Iio.2 ((hR _ _).1 (Finset.mem_filter.1 hp).2), hσ.injective (Function.surjInv_eq hσ.surjective _)⟩
  · rw [hR] at x; rw [hF]; exact not_lt.2 x.le
  · rw [hF] at x y ⊢; exact not_lt.2 ((not_lt.1 y).trans (not_lt.1 x))
  · rw [hR, hR]; exact lt_or_gt_of_ne fun x => hab (hσ.injective x)

end Cert.Proof.Value

end
-- ==== Proof.Value.Ref.lean ====
/-
  The reference's masked scores, read at an index.
-/
module

public import proofs.«01_k».proof.Proof.Value.Words
public import proofs.«01_k».proof.Proof.Gen.ReferenceIdeal.Read

@[expose] public section

noncomputable section

namespace Cert.Proof.Value.Ref

open Cert.ReferenceIdeal Cert.ReferenceIdeal.Read Cert.ReferenceIdeal.Gen Cert.Proof.Value

open Idealize.ShloMosaic Idealize.ShloMosaic.ValueIdx

variable (x0 : S512x65536.Idx → Ideal .f32) (x1 : S512.Idx → BitVec 32) (x2 : S512x2.Idx → BitVec 32) (x3 : S65536.Idx → BitVec 32)
  (x4 : S65536x2.Idx → BitVec 32) (x5 : S2x16384.Idx → BitVec 32)

/-- A word below 2048 is not negative. -/
theorem small (x : BitVec 32) (h : x.toNat < 2048) : x.toNat < 2 ^ (32 - 1) := by norm_num; omega
theorem small_toInt (x : BitVec 32) (h : x.toNat < 2048) : x.toInt = x.toNat := by
  rw [BitVec.toInt_eq_toNat_of_lt]; norm_num; omega

/-- Above in the same file, at an index. -/
theorem v28_at (b : Fin 512) (p : Fin 65536) : val_main_v28 (F := Ideal) x1 x2 x3 x4 (ix2 b p)
    = before (x1 (ix1 b)) (x3 (ix1 p)) (x4 (ix2 p 0)) (x4 (ix2 p 1)) (x2 (ix2 b 0)) (x2 (ix2 b 1)) := by
  have h6 : val_main_v6 (F := Ideal) x4 (ix1 p) = x4 (ix2 p 0) := by unfold val_main_v6 val_main_v5; exact col_flat 0 x4 _ _ p
  have h9 : val_main_v9 (F := Ideal) x4 (ix1 p) = x4 (ix2 p 1) := by unfold val_main_v9 val_main_v8; exact col_flat 1 x4 _ _ p
  have h12 : val_main_v12 (F := Ideal) x2 (ix1 b) = x2 (ix2 b 0) := by unfold val_main_v12 val_main_v11; exact col_flat 0 x2 _ _ b
  have h15 : val_main_v15 (F := Ideal) x2 (ix1 b) = x2 (ix2 b 1) := by unfold val_main_v15 val_main_v14; exact col_flat 1 x2 _ _ b
  have i7 : idx_main_v7 (ix2 0 p) = ix1 p := by ext a; match a with | ⟨0, _⟩ => rfl
  have i10 : idx_main_v10 (ix2 0 p) = ix1 p := by ext a; match a with | ⟨0, _⟩ => rfl
  have i13 : idx_main_v13 (ix2 b 0) = ix1 b := by ext a; match a with | ⟨0, _⟩ => rfl
  have i16 : idx_main_v16 (ix2 b 0) = ix1 b := by ext a; match a with | ⟨0, _⟩ => rfl
  have ip : ∀ i : S512x65536.Idx, idx_main_v17 i = ix2 0 (i 1) := fun i => by ext a; match a with | ⟨0, _⟩ => rfl | ⟨1, _⟩ => rfl
  have ib : ∀ i : S512x65536.Idx, idx_main_v18 i = ix2 (i 0) 0 := fun i => by ext a; match a with | ⟨0, _⟩ => rfl | ⟨1, _⟩ => rfl
  have w7 : val_main_v7 (F := Ideal) x4 (ix2 0 p) = x4 (ix2 p 0) := by rw [val_main_v7_apply, i7, h6]
  have w10 : val_main_v10 (F := Ideal) x4 (ix2 0 p) = x4 (ix2 p 1) := by rw [val_main_v10_apply, i10, h9]
  have w13 : val_main_v13 (F := Ideal) x2 (ix2 b 0) = x2 (ix2 b 0) := by rw [val_main_v13_apply, i13, h12]
  have w16 : val_main_v16 (F := Ideal) x2 (ix2 b 0) = x2 (ix2 b 1) := by rw [val_main_v16_apply, i16, h15]
  rw [val_main_v28_apply, val_main_v4_apply, val_main_v27_apply, val_main_v19_apply, val_main_v26_apply, val_main_v22_apply, val_main_v25_apply,
    val_main_v2_apply, val_main_v3_apply, val_main_v0_apply, val_main_v1_apply, val_main_v17_apply, val_main_v18_apply, val_main_v20_apply,
    val_main_v21_apply, val_main_v23_apply, val_main_v24_apply]
  unfold before
  refine congrArg₂ _ (congrArg₂ _ (congrArg x1 ?_) (congrArg x3 ?_)) (congrArg₂ _ (congrArg₂ _ ((congrArg _ (ip _)).trans w7) ((congrArg _ (ib _)).trans w13))
    (congrArg₂ _ (congrArg₂ _ ((congrArg _ (ip _)).trans w7) ((congrArg _ (ib _)).trans w13)) (congrArg₂ _ ((congrArg _ (ip _)).trans w10) ((congrArg _ (ib _)).trans w16))))
  · ext a; match a with | ⟨0, _⟩ => rfl
  · ext a; match a with | ⟨0, _⟩ => rfl

/-- The graph's table: one at `(r, f)` exactly when some edge runs from `r` to `f`. -/
theorem v48_at (h5 : ∀ i, (x5 i).toNat < 2048) (r f : Fin 2048) : val_main_v48 (F := Ideal) x5 (ix2 r f)
    = bit (∃ e : Fin 16384, (x5 (ix2 0 e)).toNat = r.val ∧ (x5 (ix2 1 e)).toNat = f.val) := by
  have h31 : ∀ e, val_main_v31 (F := Ideal) x5 (ix1 e) = x5 (ix2 0 e) := fun e => by unfold val_main_v31 val_main_v30; exact row_flat 0 x5 _ _ e
  have h33 : ∀ e, val_main_v33 (F := Ideal) x5 (ix1 e) = x5 (ix2 1 e) := fun e => by unfold val_main_v33 val_main_v32; exact row_flat 1 x5 _ _ e
  have h44 : ∀ e : Fin 16384, val_main_v44 (F := Ideal) x5 (ix2 e 0) = x5 (ix2 0 e) := fun e => by
    rw [val_main_v44_apply, show idx_main_v44 (ix2 e 0) = ix1 e by ext a; match a with | ⟨0, _⟩ => rfl]
    rw [val_main_v38_apply, val_main_v35_apply, val_main_v34_apply, val_main_c_0_apply, h31]
    exact Routing.wrap_of_lt _ _ (small _ (h5 _))
  have h45 : ∀ e : Fin 16384, val_main_v45 (F := Ideal) x5 (ix2 e 0) = x5 (ix2 1 e) := fun e => by
    rw [val_main_v45_apply, show idx_main_v45 (ix2 e 0) = ix1 e by ext a; match a with | ⟨0, _⟩ => rfl]
    rw [val_main_v43_apply, val_main_v40_apply, val_main_v39_apply, val_main_c_2_apply, h33]
    exact Routing.wrap_of_lt _ _ (small _ (h5 _))
  have c0 : ∀ e : Fin 16384, val_main_v46 (F := Ideal) x5 (ix2 e 0) = x5 (ix2 0 e) := fun e => by
    unfold val_main_v46
    refine (concatenate_pair_apply_left (t := S16384x2) (s₁ := S16384x1) (s₂ := S16384x1) 1 _ _ _ _ rfl (ix2 e 0) fun a => ?_).trans (h44 e)
    match a with | ⟨0, _⟩ => rfl | ⟨1, _⟩ => rfl
  have c1 : ∀ e : Fin 16384, val_main_v46 (F := Ideal) x5 (ix2 e 1) = x5 (ix2 1 e) := fun e => by
    unfold val_main_v46
    refine (concatenate_pair_apply_right (t := S16384x2) (s₁ := S16384x1) (s₂ := S16384x1) 1 _ _ _ (ix2 e 1) rfl rfl (ix2 e 0) (fun a ha => ?_) rfl).trans (h45 e)
    match a with | ⟨0, _⟩ => rfl | ⟨1, _⟩ => exact (ha rfl).elim
  unfold val_main_v48
  refine (scatter_ones scatter_S2048x2048_S16384x2_S16384_n_01_01_1_wf _ (fun i => ?_) _ _ (fun i => ?_) r f).trans (bit_congr (exists_congr fun e => ?_))
  · rw [val_main_v29_apply, val_main_c_apply]
  · rw [val_main_v47_apply, val_main_c_4_apply]
  · rw [c0, c1, small_toInt _ (h5 _), small_toInt _ (h5 _), Nat.cast_inj, Nat.cast_inj]

/-- Whether the prefix's file has an edge to the premise's, at an index. -/
theorem v62_at (h1 : ∀ i, (x1 i).toNat < 2048) (h3 : ∀ i, (x3 i).toNat < 2048) (h5 : ∀ i, (x5 i).toNat < 2048) (b : Fin 512) (p : Fin 65536) :
    val_main_v62 (F := Ideal) x1 x3 x5 (ix2 b p) = bit (∃ e : Fin 16384, x1 (ix1 b) = x5 (ix2 0 e) ∧ x5 (ix2 1 e) = x3 (ix1 p)) := by
  have h54 : val_main_v54 (F := Ideal) x1 (ix2 b 0) = x1 (ix1 b) := by
    rw [val_main_v54_apply, show idx_main_v54 (ix2 b 0) = ix1 b by ext a; match a with | ⟨0, _⟩ => rfl]
    rw [val_main_v53_apply, val_main_v50_apply, val_main_v49_apply, val_main_c_5_apply]
    exact Routing.wrap_of_lt _ _ (small _ (h1 _))
  have h61 : val_main_v61 (F := Ideal) x3 (ix2 p 0) = x3 (ix1 p) := by
    rw [val_main_v61_apply, show idx_main_v61 (ix2 p 0) = ix1 p by ext a; match a with | ⟨0, _⟩ => rfl]
    rw [val_main_v60_apply, val_main_v57_apply, val_main_v56_apply, val_main_c_7_apply]
    exact Routing.wrap_of_lt _ _ (small _ (h3 _))
  unfold val_main_v62
  refine (col_apply (by decide) gather_S512x2048_S65536x1_S512x65536_0_1_n_n_1_1_5121_wf _ _ b p).trans ?_
  unfold val_main_v55
  refine (Routing.gather_row gather_S2048x2048_S512x1_S512x2048_1_0_n_n_0_1_12048 rfl rfl rfl rfl rfl _ _ b _ ⟨_, h1 (ix1 b)⟩ ?_ (by norm_num)).trans ?_
  · rw [h54]; exact BitVec.eq_of_toNat_eq (by rw [BitVec.toNat_ofNat]; exact (Nat.mod_eq_of_lt (x1 (ix1 b)).isLt).symm)
  · rw [v48_at x5 h5]
    refine bit_congr (exists_congr fun e => and_congr ?_ ?_)
    · rw [← BitVec.toNat_inj]; exact eq_comm
    · rw [← BitVec.toNat_inj]
      show _ = min _ _ ↔ _
      rw [h61, small_toInt _ (h3 _), Int.toNat_natCast, min_eq_left (by have := h3 (ix1 p); omega)]

/-- The reference's masked scores. -/
theorem v64_at (h1 : ∀ i, (x1 i).toNat < 2048) (h3 : ∀ i, (x3 i).toNat < 2048) (h5 : ∀ i, (x5 i).toNat < 2048) (b : Fin 512) (p : Fin 65536) :
    val_main_v64 (F := Ideal) x0 x1 x2 x3 x4 x5 (ix2 b p) = spec x0 x1 x2 x3 x4 x5 b p := by
  rw [val_main_v64_apply, val_main_v63_apply, v28_at, v62_at x1 x3 x5 h1 h3 h5, val_main_call0_v1_apply]
  rfl

end Cert.Proof.Value.Ref

end
-- ==== Proof.Value.RefRank.lean ====
/-
  The reference's ranks and its first positions, read at an index.
-/
module

public import proofs.«01_k».proof.Proof.Value.Sorts
public import proofs.«01_k».proof.Proof.Value.Ref

@[expose] public section

noncomputable section

namespace Cert.Proof.Value.Ref

open Cert.ReferenceIdeal Cert.ReferenceIdeal.Read Cert.ReferenceIdeal.Gen Cert.Proof.Value

open Idealize.ShloMosaic hiding ix1 ix2 ix3
open Idealize.ShloMosaic.ValueIdx

/-- A sort of two matrices' rows, its second result at an index. -/
theorem sort2_row {α β : Type} {m n : ℕ} (cmp : α × β → α × β → BitVec 1) (x : (⟨2, ![m, n]⟩ : Shape).Idx → α) (y : (⟨2, ![m, n]⟩ : Shape).Idx → β) (b : Fin m) (i : Fin n) :
    (Host.sort2 (⟨2, ![m, n]⟩ : Shape) 1 cmp x y).2 (ix2 b i)
      = y (ix2 b (sortedFrom (fun k k' : Fin n => cmp (x (ix2 b k), y (ix2 b k)) (x (ix2 b k'), y (ix2 b k')) == 1#1) i)) := by
  have e : ∀ k : Fin n, Shape.Idx.along (s := ⟨2, ![m, n]⟩) (ix2 b i) (1 : Fin 2) k = ix2 b k := fun k => by
    funext a
    match a with
    | ⟨0, _⟩ => rfl
    | ⟨1, _⟩ => rfl
  unfold Host.sort2
  rw [dif_pos (show 1 < (⟨2, ![m, n]⟩ : Shape).rank from Nat.one_lt_two)]
  exact (congrArg y (e _)).trans (congrArg (fun f : Fin n → (⟨2, ![m, n]⟩ : Shape).Idx => y (ix2 b (sortedFrom (fun k k' : Fin n => cmp (x (f k), y (f k)) (x (f k'), y (f k')) == 1#1) i))) (funext e))

/-- The positions of a row's first elements, at an index. -/
theorem topK_row {α : Type} {m n k : ℕ} (hk : k ≤ n) (gt : α → α → BitVec 1) (x : (⟨2, ![m, n]⟩ : Shape).Idx → α) (h : (⟨2, ![m, n]⟩ : Shape).Slices (fun _ => 0) ⟨2, ![m, k]⟩) (b : Fin m) (i : Fin k) :
    (Host.topK (⟨2, ![m, k]⟩ : Shape) 1 gt x h).2 (ix2 b i) = BitVec.ofNat 32 (sortedFrom (fun p q : Fin n => gt (x (ix2 b p)) (x (ix2 b q)) == 1#1) ⟨i.val, i.isLt.trans_le hk⟩).val := by
  unfold Host.topK
  dsimp only
  refine (extractStridedSlice_apply _ _ _ _ (ix2 b (⟨i.val, i.isLt.trans_le hk⟩ : Fin n)) fun a => ?_).trans ((sort2_row _ _ _ b _).trans rfl)
  match a with
  | ⟨0, _⟩ => exact (Nat.zero_add _).symm
  | ⟨1, _⟩ => exact (Nat.zero_add _).symm

variable (x0 : S512x65536.Idx → Ideal .f32) (x1 : S512.Idx → BitVec 32) (x2 : S512x2.Idx → BitVec 32) (x3 : S65536.Idx → BitVec 32)
  (x4 : S65536x2.Idx → BitVec 32) (x5 : S2x16384.Idx → BitVec 32)

/-- A row of the masked scores. -/
def row (b : Fin 512) (p : Fin 65536) : EReal := val_main_v64 (F := Ideal) x0 x1 x2 x3 x4 x5 (ix2 b p)

theorem cmp_lt_one (a b : EReal) : (FloatOps.cmpfTotal (F := Ideal) (φ := .f32) .lt a b == 1#1) = true ↔ a < b := by
  show (BitVec.ofBool (decide (a < b)) == 1#1) = true ↔ _
  by_cases h : a < b <;> simp [h]
theorem cmp_gt_one (a b : EReal) : (FloatOps.cmpfTotal (F := Ideal) (φ := .f32) .gt a b == 1#1) = true ↔ b < a := by
  show (BitVec.ofBool (decide (b < a)) == 1#1) = true ↔ _
  by_cases h : b < a <;> simp [h]

theorem comparator_f (l r : Ideal .f32 × BitVec 32) : (comparator_f32_i32_d1 (F := Ideal) l r == 1#1) = true ↔ (l.1 : EReal) < r.1 := by
  have hz : ∀ a : EReal, Scalar.select (FloatOps.cmpf (F := Ideal) (φ := .f32) .une a a) (FloatOps.ofBits (F := Ideal) .f32 0x7FC00000#32 : EReal)
      (Scalar.select (FloatOps.cmpf (F := Ideal) (φ := .f32) .oeq a (FloatOps.ofBits (F := Ideal) .f32 0x00000000#32)) (FloatOps.ofBits (F := Ideal) .f32 0x00000000#32 : EReal) a) = a := by
    intro a
    refine (if_neg ?_).trans ?_
    · show ¬ BitVec.ofBool (decide (a ≠ a)) = 1#1
      simp
    · by_cases h : a = (FloatOps.ofBits (F := Ideal) .f32 0x00000000#32 : EReal)
      · refine (if_pos ?_).trans h.symm
        show BitVec.ofBool (decide (a = (FloatOps.ofBits (F := Ideal) .f32 0x00000000#32 : EReal))) = 1#1
        rw [decide_eq_true h]; rfl
      · refine if_neg ?_
        show ¬ BitVec.ofBool (decide (a = (FloatOps.ofBits (F := Ideal) .f32 0x00000000#32 : EReal))) = 1#1
        rw [decide_eq_false h]; decide
  rw [← cmp_lt_one]
  unfold comparator_f32_i32_d1
  exact iff_of_eq (congrArg (· = true) (congrArg (fun w => w == 1#1) (congrArg₂ (FloatOps.cmpfTotal (F := Ideal) (φ := .f32) .lt) (hz l.1) (hz r.1))))

/-- The order in which the reference's first sort puts a row's elements. -/
def ord (b : Fin 512) : Fin 65536 → Fin 65536 := sortedFrom fun k k' : Fin 65536 => comparator_f32_i32_d1 (F := Ideal)
  (val_main_v112 (F := Ideal) x0 x1 x2 x3 x4 x5 (ix2 b k), val_main_call5_v0 (F := Ideal) (ix2 b k)) (val_main_v112 (F := Ideal) x0 x1 x2 x3 x4 x5 (ix2 b k'), val_main_call5_v0 (F := Ideal) (ix2 b k')) == 1#1

theorem iota5 (b : Fin 512) (k : Fin 65536) : val_main_call5_v0 (F := Ideal) (ix2 b k) = BitVec.ofNat 32 k.val := rfl
theorem iota6 (b : Fin 512) (k : Fin 65536) : val_main_call6_v0 (F := Ideal) (ix2 b k) = BitVec.ofNat 32 k.val := rfl

theorem v113_at (b : Fin 512) (i : Fin 65536) : val_main_v113 (F := Ideal) x0 x1 x2 x3 x4 x5 (ix2 b i) = BitVec.ofNat 32 (ord x0 x1 x2 x3 x4 x5 b i).val := by
  unfold val_main_v113
  exact (sort2_row _ _ _ b i).trans (iota5 b _)

theorem rank_ord (b : Fin 512) (i : Fin 65536) : rankAt (row x0 x1 x2 x3 x4 x5 b) (ord x0 x1 x2 x3 x4 x5 b i) = i.val + 1 := by
  refine rank_sorted _ _ (fun p q => ?_) i
  rw [comparator_f]
  show (-(row x0 x1 x2 x3 x4 x5 b p) : EReal) < -(row x0 x1 x2 x3 x4 x5 b q) ↔ _
  exact EReal.neg_lt_neg_iff

theorem v114_at (b : Fin 512) (p : Fin 65536) : val_main_v114 (F := Ideal) x0 x1 x2 x3 x4 x5 (ix2 b p) + 1#32 = BitVec.ofNat 32 (rankAt (row x0 x1 x2 x3 x4 x5 b) p) := by
  unfold val_main_v114
  rw [show (Host.sort2 S512x65536 1 comparator_i32_i32_d1 (val_main_v113 (F := Ideal) x0 x1 x2 x3 x4 x5) (val_main_call6_v0 (F := Ideal))).2 (ix2 b p) = _ from sort2_row _ _ _ b p, iota6]
  have h := sort_inverts (ord x0 x1 x2 x3 x4 x5 b) ⟨sortedFrom_injective _, sortedFrom_surjective _⟩
    (fun k k' : Fin 65536 => comparator_i32_i32_d1 (val_main_v113 (F := Ideal) x0 x1 x2 x3 x4 x5 (ix2 b k), val_main_call6_v0 (F := Ideal) (ix2 b k))
      (val_main_v113 (F := Ideal) x0 x1 x2 x3 x4 x5 (ix2 b k'), val_main_call6_v0 (F := Ideal) (ix2 b k')) == 1#1) (fun k k' => ?_) p
  · have h2 := rank_ord x0 x1 x2 x3 x4 x5 b (sortedFrom (fun k k' : Fin 65536 => comparator_i32_i32_d1 (val_main_v113 (F := Ideal) x0 x1 x2 x3 x4 x5 (ix2 b k), val_main_call6_v0 (F := Ideal) (ix2 b k))
      (val_main_v113 (F := Ideal) x0 x1 x2 x3 x4 x5 (ix2 b k'), val_main_call6_v0 (F := Ideal) (ix2 b k')) == 1#1) p)
    rw [h] at h2
    rw [h2, BitVec.ofNat_add]
  · unfold comparator_i32_i32_d1
    rw [beq_iff_eq, Fin.lt_def]
    show IntOp.cmpi .slt (val_main_v113 (F := Ideal) x0 x1 x2 x3 x4 x5 (ix2 b k)) (val_main_v113 (F := Ideal) x0 x1 x2 x3 x4 x5 (ix2 b k')) = 1#1 ↔ _
    have h1 := (ord x0 x1 x2 x3 x4 x5 b k).isLt
    have h2 := (ord x0 x1 x2 x3 x4 x5 b k').isLt
    have e1 : (BitVec.ofNat 32 (ord x0 x1 x2 x3 x4 x5 b k).val : BitVec 32).toNat = (ord x0 x1 x2 x3 x4 x5 b k).val := by rw [BitVec.toNat_ofNat]; omega
    have e2 : (BitVec.ofNat 32 (ord x0 x1 x2 x3 x4 x5 b k').val : BitVec 32).toNat = (ord x0 x1 x2 x3 x4 x5 b k').val := by rw [BitVec.toNat_ofNat]; omega
    rw [v113_at, v113_at, slt_small _ _ (by rw [e1]; omega) (by rw [e2]; omega), e1, e2]

theorem rankAt_le {n : ℕ} (r : Fin n → EReal) (q : Fin n) : rankAt r q ≤ n + 1 := by
  unfold rankAt
  exact Nat.succ_le_succ ((Finset.card_filter_le _ _).trans (by simp))

/-- The reference's rank of a premise. -/
theorem v117_at (b : Fin 512) (p : Fin 65536) : (val_main_v117 (F := Ideal) x0 x1 x2 x3 x4 x5 (ix2 b p) : EReal) = ((rankAt (row x0 x1 x2 x3 x4 x5 b) p : ℝ) : EReal) := by
  rw [val_main_v117_apply, val_main_v116_apply, val_main_v115_apply, val_main_c_29_apply]
  refine (congrArg (fun w => (FloatOps.sitofp (F := Ideal) .f32 w : EReal)) (v114_at x0 x1 x2 x3 x4 x5 b p)).trans (sitofp_small _ ?_)
  have := rankAt_le (row x0 x1 x2 x3 x4 x5 b) p
  omega

/-- The order in which the reference's choice of the first few puts a row's elements. -/
def top (b : Fin 512) : Fin 65536 → Fin 65536 := sortedFrom fun k k' : Fin 65536 => FloatOps.cmpfTotal (F := Ideal) (φ := .f32) .gt
  (row x0 x1 x2 x3 x4 x5 b k) (row x0 x1 x2 x3 x4 x5 b k') == 1#1

theorem rank_top (b : Fin 512) (i : Fin 65536) : rankAt (row x0 x1 x2 x3 x4 x5 b) (top x0 x1 x2 x3 x4 x5 b i) = i.val + 1 :=
  rank_sorted (row x0 x1 x2 x3 x4 x5 b) _ (fun p q => cmp_gt_one (row x0 x1 x2 x3 x4 x5 b p) (row x0 x1 x2 x3 x4 x5 b q)) i

theorem indices_at (b : Fin 512) (i : Fin 1) : val_main_indices (F := Ideal) x0 x1 x2 x3 x4 x5 (ix2 b i) = BitVec.ofNat 32 (top x0 x1 x2 x3 x4 x5 b ⟨i.val, by omega⟩).val := by
  unfold val_main_indices
  exact topK_row (by norm_num) _ (val_main_v64 (F := Ideal) x0 x1 x2 x3 x4 x5) _ b i

theorem indices10_at (b : Fin 512) (i : Fin 10) : val_main_indices_24 (F := Ideal) x0 x1 x2 x3 x4 x5 (ix2 b i) = BitVec.ofNat 32 (top x0 x1 x2 x3 x4 x5 b ⟨i.val, by omega⟩).val := by
  unfold val_main_indices_24
  exact topK_row (by norm_num) _ (val_main_v64 (F := Ideal) x0 x1 x2 x3 x4 x5) _ b i

end Cert.Proof.Value.Ref

end
-- ==== Proof.Value.Dups.lean ====
/-
  The metrics call's row masks: at a prefix and a label, one exactly when the label is the prefix's and no earlier
  label names the same prefix and premise.
-/
module

public import proofs.«01_k».proof.Proof.Value.Rank
public import proofs.«01_k».proof.Proof.KernelIdeal.MetricsBody

@[expose] public section

noncomputable section

namespace Cert.Proof.Value

open Cert.KernelIdeal Cert.KernelIdeal.Gen Cert.Proof.KernelIdeal

open Idealize.ShloMosaic
open Idealize.ShloMosaic.TcCoe Idealize.ShloMosaic.Tactic

/-- Which labels of a chunk of 512, starting at `o`, are earlier than a label and carry the same number. -/
def chunkBits (o : ℕ) (h : S1x4096.Slices ![0, o] S1x512) (ids : IVec S1x4096 32) : IVec S512x4096 1 :=
  andi (cmpi .eq (broadcastTo S512x4096 (shapeCast S512x1 (extractStridedSlice S1x512 ![0, o] ids h) shapeCasts_S1x512_S512x1) broadcasts_S512x1_S512x4096)
    (broadcastTo S512x4096 ids broadcasts_S1x4096_S512x4096)) (cmpi .slt (addi mRow (broadcast S512x4096 (BitVec.ofNat 32 o))) mCol)

/-- How many of them. -/
def chunkCnt (o : ℕ) (h : S1x4096.Slices ![0, o] S1x512) (ids : IVec S1x4096 32) : IVec S1x4096 32 :=
  shapeCast S1x4096 (multiReductionI .add [0] S4096 (extui 32 (chunkBits o h ids) natLt_1_32) 0#32 reduces_S512x4096_S4096 rfl) shapeCasts_S4096_S1x4096

/-- A chunk's earlier labels with the label's number. -/
def Earlier (o : ℕ) (ids : IVec S1x4096 32) (l : Fin 4096) (i : Fin 512) : Prop :=
  ∃ m : Fin 4096, m.val = o + i.val ∧ m.val < l.val ∧ ids (ValueIdx.ix2 0 m) = ids (ValueIdx.ix2 0 l)
instance (o : ℕ) (ids : IVec S1x4096 32) (l : Fin 4096) : DecidablePred (Earlier o ids l) := fun _ => Classical.propDecidable _

theorem bit_one (p : Prop) : bit p = 1#1 ↔ p := ⟨fun h => by by_contra hn; rw [bit_false hn] at h; exact absurd h (by decide), bit_true⟩

/-- A column repeated along the labels. -/
theorem bcol {α : Type} (x : S512x1.Idx → α) (i : Fin 512) (l : Fin 4096) : broadcastTo S512x4096 x broadcasts_S512x1_S512x4096 (ValueIdx.ix2 i l) = x (ValueIdx.ix2 i 0) := by
  pointwise
  rfl
/-- A row repeated along the chunk. -/
theorem brow {α : Type} (x : S1x4096.Idx → α) (i : Fin 512) (l : Fin 4096) : broadcastTo S512x4096 x broadcasts_S1x4096_S512x4096 (ValueIdx.ix2 i l) = x (ValueIdx.ix2 0 l) := by
  pointwise
  rfl

/-- Eight small counts, added as words, are zero exactly when each is. -/
theorem sum8 (n : Fin 8 → ℕ) (h : ∀ k, n k ≤ 512) :
    (((((((0#32 + BitVec.ofNat 32 (n 0)) + BitVec.ofNat 32 (n 1)) + BitVec.ofNat 32 (n 2)) + BitVec.ofNat 32 (n 3)) + BitVec.ofNat 32 (n 4)) + BitVec.ofNat 32 (n 5)) + BitVec.ofNat 32 (n 6))
      + BitVec.ofNat 32 (n 7) = 0#32 ↔ ∀ k, n k = 0 := by
  simp only [← BitVec.ofNat_add]
  have h0 := h 0
  have h1 := h 1
  have h2 := h 2
  have h3 := h 3
  have h4 := h 4
  have h5 := h 5
  have h6 := h 6
  have h7 := h 7
  rw [ofNat_inj_small _ _ (by omega) (by omega)]
  constructor
  · intro e k
    fin_cases k
    exacts [show n 0 = 0 by omega, show n 1 = 0 by omega, show n 2 = 0 by omega, show n 3 = 0 by omega, show n 4 = 0 by omega, show n 5 = 0 by omega, show n 6 = 0 by omega, show n 7 = 0 by omega]
  · intro e
    rw [e, e, e, e, e, e, e, e]

theorem chunkBits_apply (o : ℕ) (ho : o + 512 ≤ 4096) (h : S1x4096.Slices ![0, o] S1x512) (ids : IVec S1x4096 32) (i : Fin 512) (l : Fin 4096) :
    chunkBits o h ids (ValueIdx.ix2 i l) = 1#1 ↔ Earlier o ids l i := by
  have hi := i.isLt
  have hl := l.isLt
  have e1 : (broadcastTo S512x4096 (shapeCast S512x1 (extractStridedSlice S1x512 ![0, o] ids h) shapeCasts_S1x512_S512x1) broadcasts_S512x1_S512x4096) (ValueIdx.ix2 i l)
      = ids (ValueIdx.ix2 0 ⟨o + i.val, by omega⟩) := by
    refine Eq.trans (b := shapeCast S512x1 (extractStridedSlice S1x512 ![0, o] ids h) shapeCasts_S1x512_S512x1 (ValueIdx.ix2 i 0)) ?_ ?_
    · exact bcol _ _ _
    · refine (shapeCast_apply _ _ _ (ValueIdx.ix2 (0 : Fin 1) i) ?_).trans (extractStridedSlice_apply _ _ _ _ _ fun a => ?_)
      · rw [Shape.rowMajor_val_two, Shape.rowMajor_val_two]
        show 0 * 512 + i.val = i.val * 1 + 0
        omega
      · match a with
        | ⟨0, _⟩ => rfl
        | ⟨1, _⟩ => rfl
  have e2 : (broadcastTo S512x4096 ids broadcasts_S1x4096_S512x4096) (ValueIdx.ix2 i l) = ids (ValueIdx.ix2 0 l) := brow _ _ _
  have e3 : mRow (ValueIdx.ix2 i l) = BitVec.ofNat 32 i.val := by unfold mRow; pointwise
  have e4 : mCol (ValueIdx.ix2 i l) = BitVec.ofNat 32 l.val := by unfold mCol; pointwise
  show IntOp.andi (IntOp.cmpi .eq _ _) (IntOp.cmpi .slt (mRow (ValueIdx.ix2 i l) + BitVec.ofNat 32 o) (mCol (ValueIdx.ix2 i l))) = 1#1 ↔ _
  have hw : (BitVec.ofNat 32 i.val + BitVec.ofNat 32 o : BitVec 32).toNat = o + i.val := by
    rw [BitVec.toNat_add, BitVec.toNat_ofNat, BitVec.toNat_ofNat]; omega
  have hv : (BitVec.ofNat 32 l.val : BitVec 32).toNat = l.val := by rw [BitVec.toNat_ofNat]; omega
  rw [andi_one, e1, e2, e3, e4, cmpi_eq_bit, bit_one, slt_small _ _ (by rw [hw]; omega) (by rw [hv]; omega), hw, hv]
  exact ⟨fun x => ⟨_, rfl, x.2, x.1⟩, fun ⟨m, hm, hlt, he⟩ => by
    have : m = ⟨o + i.val, by omega⟩ := Fin.ext hm
    exact ⟨by rw [← this]; exact he, by rw [← hm]; exact hlt⟩⟩

theorem chunkCnt_apply (o : ℕ) (ho : o + 512 ≤ 4096) (h : S1x4096.Slices ![0, o] S1x512) (ids : IVec S1x4096 32) (l : Fin 4096) :
    chunkCnt o h ids (ValueIdx.ix2 0 l) = BitVec.ofNat 32 (Finset.univ.filter fun i => Earlier o ids l i).card := by
  unfold chunkCnt
  pointwise
  simp only [ix2_eq_valueIdx]
  rw [IndicatorCount.fold_addi_setWidth_eq_card]
  exact congrArg (BitVec.ofNat 32) (congrArg Finset.card (Finset.filter_congr fun i _ => chunkBits_apply o ho h ids i l))

/-- A label's number is new: no earlier label carries it. -/
def Fresh (ids : IVec S1x4096 32) (l : Fin 4096) : Prop := ∀ m : Fin 4096, m.val < l.val → ids (ValueIdx.ix2 0 m) ≠ ids (ValueIdx.ix2 0 l)

theorem fresh_iff (ids : IVec S1x4096 32) (l : Fin 4096) :
    Fresh ids l ↔ ∀ k : Fin 8, (Finset.univ.filter fun i => Earlier (k.val * 512) ids l i).card = 0 := by
  simp only [Finset.card_eq_zero, Finset.filter_eq_empty_iff, Finset.mem_univ, true_implies]
  constructor
  · rintro h k i ⟨m, -, hlt, he⟩
    exact h m hlt he
  · intro h m hlt he
    have hm := m.isLt
    exact h ⟨m.val / 512, by omega⟩ (x := ⟨m.val % 512, by omega⟩) ⟨m, by show m.val = m.val / 512 * 512 + m.val % 512; omega, hlt, he⟩

theorem rowMask (X1 X2 : Vec Ideal S1x4096 .i32) (b : Fin 512) (l : Fin 4096) :
    k3_pay8 (k3_pay2 (F := Ideal) X1) (k3_pay3 (F := Ideal) X1 X2) mCol mRow (mDup (F := Ideal) X1 X2) (mHit (F := Ideal) X1 X2) (ValueIdx.ix2 b l)
      = bit (BitVec.ofNat 32 b.val = X1 (ValueIdx.ix2 0 l) ∧ Fresh (k3_pay3 (F := Ideal) X1 X2) l) := by
  apply eq_bit
  generalize hids : k3_pay3 (F := Ideal) X1 X2 = ids
  have hX1 : k3_pay2 (F := Ideal) X1 = X1 := by unfold k3_pay2; exact shapeCast_self _ _
  have e : mDup (F := Ideal) X1 X2 = addi (addi (addi (addi (addi (addi (broadcast S1x4096 0#32) (chunkCnt 0 slices_S1x4096_o0_0_S1x512 ids)) (chunkCnt 512 slices_S1x4096_o0_512_S1x512 ids))
      (chunkCnt 1024 slices_S1x4096_o0_1024_S1x512 ids)) (chunkCnt 1536 slices_S1x4096_o0_1536_S1x512 ids)) (chunkCnt 2048 slices_S1x4096_o0_2048_S1x512 ids))
      (chunkCnt 2560 slices_S1x4096_o0_2560_S1x512 ids) := by subst hids; rfl
  have eh : mHit (F := Ideal) X1 X2 = chunkBits 3072 slices_S1x4096_o0_3072_S1x512 ids := by subst hids; rfl
  rw [hX1, e, eh]
  show IntOp.andi (IntOp.cmpi .eq (iota .tc S512x4096 32 [0] iota_S512x4096_d0_w32 (ValueIdx.ix2 b l)) (broadcastTo S512x4096 X1 broadcasts_S1x4096_S512x4096 (ValueIdx.ix2 b l)))
    (broadcastTo S512x4096 (cmpi .eq (addi (addi (addi (addi (addi (addi (addi (addi (broadcast S1x4096 0#32) (chunkCnt 0 slices_S1x4096_o0_0_S1x512 ids)) (chunkCnt 512 slices_S1x4096_o0_512_S1x512 ids))
      (chunkCnt 1024 slices_S1x4096_o0_1024_S1x512 ids)) (chunkCnt 1536 slices_S1x4096_o0_1536_S1x512 ids)) (chunkCnt 2048 slices_S1x4096_o0_2048_S1x512 ids))
      (chunkCnt 2560 slices_S1x4096_o0_2560_S1x512 ids)) (chunkCnt 3072 slices_S1x4096_o0_3072_S1x512 ids)) (chunkCnt 3584 slices_S1x4096_o0_3584_S1x512 ids)) (broadcast S1x4096 0#32))
      broadcasts_S1x4096_S512x4096 (ValueIdx.ix2 b l)) = 1#1 ↔ _
  have eb : ∀ {α : Type} (x : S1x4096.Idx → α), broadcastTo S512x4096 x broadcasts_S1x4096_S512x4096 (ValueIdx.ix2 b l) = x (ValueIdx.ix2 0 l) := fun x => brow _ _ _
  have e3 : iota .tc S512x4096 32 [0] iota_S512x4096_d0_w32 (ValueIdx.ix2 b l) = BitVec.ofNat 32 b.val := by pointwise
  rw [andi_one, eb, eb, e3, cmpi_eq_bit, bit_one]
  refine and_congr Iff.rfl ?_
  show IntOp.cmpi .eq ((((((((0#32 + chunkCnt 0 _ ids _) + chunkCnt 512 _ ids _) + chunkCnt 1024 _ ids _) + chunkCnt 1536 _ ids _) + chunkCnt 2048 _ ids _) + chunkCnt 2560 _ ids _) + chunkCnt 3072 _ ids _) + chunkCnt 3584 _ ids _) 0#32 = 1#1 ↔ _
  rw [cmpi_eq_bit, bit_one, chunkCnt_apply _ (by omega), chunkCnt_apply _ (by omega), chunkCnt_apply _ (by omega), chunkCnt_apply _ (by omega), chunkCnt_apply _ (by omega),
    chunkCnt_apply _ (by omega), chunkCnt_apply _ (by omega), chunkCnt_apply _ (by omega), fresh_iff]
  have hle : ∀ o, (Finset.univ.filter fun i => Earlier o ids l i).card ≤ 512 := fun o => (Finset.card_filter_le _ _).trans (by simp)
  exact sum8 (fun k => (Finset.univ.filter fun i => Earlier (k.val * 512) ids l i).card) fun k => hle _

end Cert.Proof.Value

end
-- ==== Proof.Value.Metrics.lean ====
/-
  The metrics call's results, as sums over the prefixes.
-/
module

public import proofs.«01_k».proof.Proof.Value.Dups

@[expose] public section

noncomputable section

namespace Cert.Proof.Value

open Cert.KernelIdeal Cert.KernelIdeal.Gen Cert.Proof.KernelIdeal

open Idealize.ShloMosaic
open Idealize.ShloMosaic.TcCoe Idealize.ShloMosaic.Tactic

variable (X0 : Vec Ideal S1x4096 .f32) (X1 X2 : Vec Ideal S1x4096 .i32)

/-- Label `l` is the first of its kind and belongs to prefix `b`. -/
def RowOf (b : Fin 512) (l : Fin 4096) : Prop := BitVec.ofNat 32 b.val = X1 (ValueIdx.ix2 0 l) ∧ Fresh (k3_pay3 (F := Ideal) X1 X2) l
instance (b : Fin 512) : DecidablePred (RowOf X1 X2 b) := fun _ => Classical.propDecidable _

/-- The average of `q` over the prefixes with a label. -/
def avg (cnt q : Fin 512 → EReal) : EReal :=
  Ideal.div (∑ b, if 0 < cnt b then q b else 0) (max (∑ b, if 0 < cnt b then (1 : EReal) else 0) 1)

theorem ofBool_bit (p : Prop) [Decidable p] : BitVec.ofBool (decide p) = bit p := by
  by_cases h : p
  · rw [bit_true h]; simp [h]
  · rw [bit_false h]; simp [h]

theorem ofBits_pinf : Ideal.ofBits .f32 2139095040#32 = ⊤ := by simp [Ideal.ofBits, Ideal.ieee]

theorem pay1_eq : k3_pay1 (F := Ideal) X0 = X0 := by unfold k3_pay1; exact shapeCast_self _ _

theorem rowMask' (b : Fin 512) (l : Fin 4096) :
    k3_pay8 (k3_pay2 (F := Ideal) X1) (k3_pay3 (F := Ideal) X1 X2) mCol mRow (mDup (F := Ideal) X1 X2) (mHit (F := Ideal) X1 X2) (ValueIdx.ix2 b l) = bit (RowOf X1 X2 b l) :=
  rowMask X1 X2 b l

theorem cnt_apply (b : Fin 512) : (mCnt (F := Ideal) X1 X2 (ValueIdx.ix2 b 0) : EReal) = ∑ l, if RowOf X1 X2 b l then (1 : EReal) else 0 := by
  pointwise [mCnt, k3_pay10, k3_pay9]
  simp only [ix2_eq_valueIdx]
  exact Finset.sum_congr rfl fun l _ => (congrArg (fun w => (FloatOps.sitofp (F := Ideal) .f32 (BitVec.setWidth 32 w) : EReal)) (rowMask' X1 X2 b l)).trans (sitofp_bit _ _)

theorem hits1_apply (b : Fin 512) : (mHits1 (F := Ideal) X0 X1 X2 (ValueIdx.ix2 b 0) : EReal)
    = ∑ l, (if RowOf X1 X2 b l then (1 : EReal) else 0) * (if (X0 (ValueIdx.ix2 0 l) : EReal) ≤ 1 then 1 else 0) := by
  pointwise [mHits1, k3_pay11, k3_pay9]
  simp only [ix2_eq_valueIdx, ofBool_bit, pay1_eq]
  exact Finset.sum_congr rfl fun l _ => congrArg₂ (· * ·) ((congrArg (fun w => (FloatOps.sitofp (F := Ideal) .f32 (BitVec.setWidth 32 w) : EReal)) (rowMask' X1 X2 b l)).trans (sitofp_bit _ _)) (sitofp_bit _ _)

theorem hits10_apply (b : Fin 512) : (mHits10 (F := Ideal) X0 X1 X2 (ValueIdx.ix2 b 0) : EReal)
    = ∑ l, (if RowOf X1 X2 b l then (1 : EReal) else 0) * (if (X0 (ValueIdx.ix2 0 l) : EReal) ≤ Ideal.ofBits .f32 0x41200000#32 then 1 else 0) := by
  pointwise [mHits10, k3_pay12, k3_pay9]
  simp only [ix2_eq_valueIdx, ofBool_bit, pay1_eq]
  exact Finset.sum_congr rfl fun l _ => congrArg₂ (· * ·) ((congrArg (fun w => (FloatOps.sitofp (F := Ideal) .f32 (BitVec.setWidth 32 w) : EReal)) (rowMask' X1 X2 b l)).trans (sitofp_bit _ _)) (sitofp_bit _ _)

theorem min_apply (b : Fin 512) : (mMin (F := Ideal) X0 X1 X2 (ValueIdx.ix1 b) : EReal)
    = Finset.univ.fold min (⊤ : EReal) (fun l => if RowOf X1 X2 b l then (X0 (ValueIdx.ix2 0 l) : EReal) else ⊤) := by
  pointwise [mMin, k3_pay13]
  simp only [ix2_eq_valueIdx, ofBits_pinf, pay1_eq]
  refine congrArg (fun f => Finset.univ.fold min (⊤ : EReal) f) (funext fun l => ?_)
  by_cases h : RowOf X1 X2 b l
  · refine Eq.trans (if_pos ((rowMask' X1 X2 b l).trans (bit_true h))) (if_pos h).symm
  · refine Eq.trans (if_neg ?_) (if_neg h).symm
    exact fun e => h ((bit_one _).1 ((rowMask' X1 X2 b l).symm.trans e))

theorem pay19_apply (cnt : FVec Ideal S512x1 .f32) (mn : FVec Ideal S512 .f32) (x : S1x1.Idx) :
    (k3_pay19 (F := Ideal) cnt mn x : EReal) = avg (fun b => cnt (ValueIdx.ix2 b 0)) (fun b => Ideal.div 1 (mn (ValueIdx.ix1 b))) := by
  pointwise [k3_pay19, k3_pay14, k3_pay15]
  simp only [ix2_eq_valueIdx, ix1_eq_valueIdx, ofBool_bit, sitofp_bit, Fin.sum_univ_one, Finset.univ_unique, Finset.sum_singleton]
  rfl

theorem pay17_apply (cnt hits : FVec Ideal S512x1 .f32) (x : S1x1.Idx) :
    (k3_pay17 (F := Ideal) cnt hits x : EReal) = avg (fun b => cnt (ValueIdx.ix2 b 0)) (fun b => Ideal.div (hits (ValueIdx.ix2 b 0)) (max (cnt (ValueIdx.ix2 b 0) : EReal) 1)) := by
  pointwise [k3_pay17, k3_pay14, k3_pay15, k3_pay16]
  simp only [ix2_eq_valueIdx, ix1_eq_valueIdx, ofBool_bit, sitofp_bit, Fin.sum_univ_one, Finset.univ_unique, Finset.sum_singleton]
  rfl

theorem pay18_apply (cnt hits : FVec Ideal S512x1 .f32) (x : S1x1.Idx) :
    (k3_pay18 (F := Ideal) cnt hits x : EReal) = avg (fun b => cnt (ValueIdx.ix2 b 0)) (fun b => Ideal.div (hits (ValueIdx.ix2 b 0)) (max (cnt (ValueIdx.ix2 b 0) : EReal) 1)) := by
  pointwise [k3_pay18, k3_pay14, k3_pay15, k3_pay16]
  simp only [ix2_eq_valueIdx, ix1_eq_valueIdx, ofBool_bit, sitofp_bit, Fin.sum_univ_one, Finset.univ_unique, Finset.sum_singleton]
  rfl

end Cert.Proof.Value

end
-- ==== Proof.Value.RefMetrics.lean ====
/-
  The reference's averages, as sums over the prefixes.
-/
module

public import proofs.«01_k».proof.Proof.Value.RefRank
public import proofs.«01_k».proof.Proof.Value.Metrics

@[expose] public section

noncomputable section

namespace Cert.Proof.Value.Ref

open Cert.ReferenceIdeal Cert.ReferenceIdeal.Read Cert.ReferenceIdeal.Gen Cert.Proof.Value

open Idealize.ShloMosaic hiding ix0 ix1 ix2 ix3
open Idealize.ShloMosaic.ValueIdx Idealize.ShloMosaic.Tactic

variable (x0 : S512x65536.Idx → Ideal .f32) (x1 : S512.Idx → BitVec 32) (x2 : S512x2.Idx → BitVec 32) (x3 : S65536.Idx → BitVec 32)
  (x4 : S65536x2.Idx → BitVec 32) (x5 : S2x16384.Idx → BitVec 32) (x6 x7 : S4096.Idx → BitVec 32)

/-- Some label names prefix `b` and premise `p`. -/
def Target (b : Fin 512) (p : Fin 65536) : Prop := ∃ l : Fin 4096, (x6 (ix1 l)).toNat = b.val ∧ (x7 (ix1 l)).toNat = p.val
instance (b : Fin 512) : DecidablePred (Target x6 x7 b) := fun _ => Classical.propDecidable _

/-- How many premises the labels name for prefix `b`. -/
def num (b : Fin 512) : ℕ := (Finset.univ.filter fun p => Target x6 x7 b p).card

theorem small' (x : BitVec 32) (n : ℕ) (hn : n ≤ 65536) (h : x.toNat < n) : x.toNat < 2 ^ (32 - 1) := by norm_num; omega
theorem small_toInt' (x : BitVec 32) (n : ℕ) (hn : n ≤ 65536) (h : x.toNat < n) : x.toInt = x.toNat := by
  rw [BitVec.toInt_eq_toNat_of_lt]; norm_num; omega

/-- The reference's table of targets. -/
theorem v80_at (h6 : ∀ i, (x6 i).toNat < 512) (h7 : ∀ i, (x7 i).toNat < 65536) (b : Fin 512) (p : Fin 65536) : val_main_v80 (F := Ideal) x6 x7 (ix2 b p) = bit (Target x6 x7 b p) := by
  have h76 : ∀ e : Fin 4096, val_main_v76 (F := Ideal) x6 (ix2 e 0) = x6 (ix1 e) := fun e => by
    rw [val_main_v76_apply, show idx_main_v76 (ix2 e 0) = ix1 e by ext a; match a with | ⟨0, _⟩ => rfl]
    rw [val_main_v70_apply, val_main_v67_apply, val_main_v66_apply, val_main_c_10_apply]
    exact Routing.wrap_of_lt _ _ (small' _ 512 (by norm_num) (h6 _))
  have h77 : ∀ e : Fin 4096, val_main_v77 (F := Ideal) x7 (ix2 e 0) = x7 (ix1 e) := fun e => by
    rw [val_main_v77_apply, show idx_main_v77 (ix2 e 0) = ix1 e by ext a; match a with | ⟨0, _⟩ => rfl]
    rw [val_main_v75_apply, val_main_v72_apply, val_main_v71_apply, val_main_c_12_apply]
    exact Routing.wrap_of_lt _ _ (small' _ 65536 (by norm_num) (h7 _))
  have c0 : ∀ e : Fin 4096, val_main_v78 (F := Ideal) x6 x7 (ix2 e 0) = x6 (ix1 e) := fun e => by
    unfold val_main_v78
    refine (concatenate_pair_apply_left (t := S4096x2) (s₁ := S4096x1) (s₂ := S4096x1) 1 _ _ _ _ rfl (ix2 e 0) fun a => ?_).trans (h76 e)
    match a with | ⟨0, _⟩ => rfl | ⟨1, _⟩ => rfl
  have c1 : ∀ e : Fin 4096, val_main_v78 (F := Ideal) x6 x7 (ix2 e 1) = x7 (ix1 e) := fun e => by
    unfold val_main_v78
    refine (concatenate_pair_apply_right (t := S4096x2) (s₁ := S4096x1) (s₂ := S4096x1) 1 _ _ _ (ix2 e 1) rfl rfl (ix2 e 0) (fun a ha => ?_) rfl).trans (h77 e)
    match a with | ⟨0, _⟩ => rfl | ⟨1, _⟩ => exact (ha rfl).elim
  unfold val_main_v80
  refine (scatter_ones scatter_S512x65536_S4096x2_S4096_n_01_01_1_wf _ (fun i => ?_) _ _ (fun i => ?_) b p).trans (bit_congr (exists_congr fun e => ?_))
  · rw [val_main_v65_apply, val_main_c_9_apply]
  · rw [val_main_v79_apply, val_main_c_14_apply]
  · rw [c0, c1, small_toInt' _ 512 (by norm_num) (h6 _), small_toInt' _ 65536 (by norm_num) (h7 _), Nat.cast_inj, Nat.cast_inj]

/-- The reference's count of a prefix's targets. -/
theorem v82_at (h6 : ∀ i, (x6 i).toNat < 512) (h7 : ∀ i, (x7 i).toNat < 65536) (b : Fin 512) : val_main_v82 (F := Ideal) x6 x7 (ix1 b) = BitVec.ofNat 32 (num x6 x7 b) := by
  unfold val_main_v82 val_main_v81
  generalize hv : val_main_v80 (F := Ideal) x6 x7 = v
  have hv' : ∀ p, v (ix2 b p) = bit (Target x6 x7 b p) := fun p => by rw [← hv]; exact v80_at x6 x7 h6 h7 b p
  pointwise
  refine (IndicatorCount.fold_addi_setWidth_eq_card _ _).trans (congrArg _ (congrArg Finset.card (Finset.filter_congr fun p _ => ?_)))
  rw [ix2_eq_valueIdx]
  exact (iff_of_eq (congrArg (· = 1#1) (hv' p))).trans (bit_one _)

theorem num_le (b : Fin 512) : num x6 x7 b ≤ 65536 := (Finset.card_le_univ _).trans (Fintype.card_fin _).le

/-- The order of small words is that of the numbers. -/
theorem pos_word (n : ℕ) (hn : n ≤ 65536) : IntOp.cmpi .sgt (BitVec.ofNat 32 n) 0#32 = bit (0 < n) := by
  refine eq_bit _ ?_
  show BitVec.ofBool ((0#32).slt (BitVec.ofNat 32 n)) = 1#1 ↔ _
  have hi : (BitVec.ofNat 32 n).toInt = n := by
    rw [BitVec.toInt_eq_toNat_of_lt] <;> rw [BitVec.toNat_ofNat, Nat.mod_eq_of_lt (by norm_num; omega)]
    norm_num; omega
  rw [show ((0#32).slt (BitVec.ofNat 32 n)) = decide (0 < n) by rw [BitVec.slt, hi]; simp]
  by_cases h : 0 < n <;> simp [h]

theorem max_word (n : ℕ) (hn : n ≤ 65536) : FloatOps.sitofp (F := Ideal) .f32 (IntOp.maxsi (BitVec.ofNat 32 n) 1#32) = ((max (n : ℝ) 1 : ℝ) : EReal) := by
  have hi : (BitVec.ofNat 32 n).toInt = n := by
    rw [BitVec.toInt_eq_toNat_of_lt] <;> rw [BitVec.toNat_ofNat, Nat.mod_eq_of_lt (by norm_num; omega)]
    norm_num; omega
  have hm : (IntOp.maxsi (BitVec.ofNat 32 n) 1#32).toInt = max (n : ℤ) 1 := by
    have h1 : (1#32 : BitVec 32).toInt = 1 := by decide
    unfold IntOp.maxsi
    by_cases h : 1 < n
    · rw [if_pos (by rw [BitVec.slt, hi, h1]; simpa using h), hi]; omega
    · rw [if_neg (by rw [BitVec.slt, hi, h1]; simpa using h), h1]; omega
  show ((((IntOp.maxsi (BitVec.ofNat 32 n) 1#32).toInt : ℤ) : ℝ) : EReal) = _
  rw [hm]; push_cast; rfl

theorem v84_at (h6 : ∀ i, (x6 i).toNat < 512) (h7 : ∀ i, (x7 i).toNat < 65536) (b : Fin 512) : val_main_v84 (F := Ideal) x6 x7 (ix1 b) = bit (0 < num x6 x7 b) := by
  rw [val_main_v84_apply, v82_at x6 x7 h6 h7, val_main_v83_apply, val_main_c_16_apply]
  exact pos_word _ (num_le x6 x7 b)

/-- How many prefixes have a target. -/
def live : ℕ := (Finset.univ.filter fun b => 0 < num x6 x7 b).card

theorem v86_at (h6 : ∀ i, (x6 i).toNat < 512) (h7 : ∀ i, (x7 i).toNat < 65536) : val_main_v86 (F := Ideal) x6 x7 ix0 = BitVec.ofNat 32 (live x6 x7) := by
  unfold val_main_v86 val_main_v85
  generalize hv : val_main_v84 (F := Ideal) x6 x7 = v
  have hv' : ∀ b, v (ix1 b) = bit (0 < num x6 x7 b) := fun b => by rw [← hv]; exact v84_at x6 x7 h6 h7 b
  pointwise
  refine (IndicatorCount.fold_addi_setWidth_eq_card _ _).trans (congrArg _ (congrArg Finset.card (Finset.filter_congr fun p _ => ?_)))
  exact (iff_of_eq (congrArg (· = 1#1) (hv' p))).trans (bit_one _)

theorem v87_at (h6 : ∀ i, (x6 i).toNat < 512) (h7 : ∀ i, (x7 i).toNat < 65536) : FloatOps.sitofp (F := Ideal) .f32 (val_main_v87 (F := Ideal) x6 x7 ix0) = ((max (live x6 x7 : ℝ) 1 : ℝ) : EReal) := by
  rw [val_main_v87_apply, v86_at x6 x7 h6 h7, val_main_c_18_apply]
  exact max_word _ ((Finset.card_le_univ _).trans (by rw [Fintype.card_fin]; norm_num))

/-- The reference's way to average a quantity over the prefixes with a target is `avg`. -/
theorem avg_of (n : Fin 512 → ℕ) (q : Fin 512 → EReal) (s : EReal) (hs : s = ∑ b, if 0 < n b then q b else 0) :
    Ideal.div s ((max ((Finset.univ.filter fun b => 0 < n b).card : ℝ) 1 : ℝ) : EReal) = avg (fun b => ((n b : ℝ) : EReal)) q := by
  have hp : ∀ b, (0 : EReal) < ((n b : ℝ) : EReal) ↔ 0 < n b := fun b => by rw [EReal.coe_pos, Nat.cast_pos]
  unfold avg
  rw [hs]
  simp only [hp]
  congr 1
  rw [Finset.sum_boole]
  exact Monotone.map_max (fun _ _ h => EReal.coe_le_coe_iff.2 h)

theorem select_bit {α : Type} (p : Prop) [Decidable p] (x y : α) : Scalar.select (bit p) x y = if p then x else y := by
  by_cases h : p
  · rw [bit_true h, if_pos h]; rfl
  · rw [bit_false h, if_neg h]; rfl

/-- The best rank among a prefix's targets. -/
def best (b : Fin 512) : EReal :=
  Finset.univ.fold min (⊤ : EReal) (fun p => if Target x6 x7 b p then ((rankAt (row x0 x1 x2 x3 x4 x5 b) p : ℝ) : EReal) else ⊤)

theorem v119_at (h6 : ∀ i, (x6 i).toNat < 512) (h7 : ∀ i, (x7 i).toNat < 65536) (b : Fin 512) : (val_main_v119 (F := Ideal) x0 x1 x2 x3 x4 x5 x6 x7 (ix1 b) : EReal) = best x0 x1 x2 x3 x4 x5 x6 x7 b := by
  unfold val_main_v119 best
  generalize hv : val_main_v118 (F := Ideal) x0 x1 x2 x3 x4 x5 x6 x7 = v
  have hv' : ∀ p, v (ix2 b p) = if Target x6 x7 b p then ((rankAt (row x0 x1 x2 x3 x4 x5 b) p : ℝ) : EReal) else ⊤ := fun p => by
    rw [← hv, val_main_v118_apply, v80_at x6 x7 h6 h7, v117_at, select_bit]
    exact congrArg (ite _ _) ofBits_pinf
  pointwise
  rw [val_main_cst_31_apply]
  refine (congrArg₂ (fun a f => Finset.fold min a f Finset.univ) ofBits_pinf (funext fun p => ?_))
  rw [ix2_eq_valueIdx]
  exact hv' p

/-- A sum over all prefixes that starts from zero. -/
theorem total (v : S512.Idx → EReal) (f : Fin 512 → EReal) (h : ∀ b, v (ix1 b) = f b) : Ideal.ofBits .f32 0#32 + ∑ j, v j = ∑ b, f b := by
  rw [Ideal.ofBits_zero_f32, zero_add]
  exact (sum_idx1 v).trans (Finset.sum_congr rfl fun b _ => h b)

/-- The reference's mean reciprocal rank. -/
theorem v125_at (h6 : ∀ i, (x6 i).toNat < 512) (h7 : ∀ i, (x7 i).toNat < 65536) : val_main_v125 (F := Ideal) x0 x1 x2 x3 x4 x5 x6 x7 ix0
    = avg (fun b => ((num x6 x7 b : ℝ) : EReal)) (fun b => Ideal.div 1 (best x0 x1 x2 x3 x4 x5 x6 x7 b)) := by
  have hs : (val_main_v123 (F := Ideal) x0 x1 x2 x3 x4 x5 x6 x7 ix0 : EReal) = ∑ b, if 0 < num x6 x7 b then Ideal.div 1 (best x0 x1 x2 x3 x4 x5 x6 x7 b) else 0 := by
    refine (val_main_v123_apply x0 x1 x2 x3 x4 x5 x6 x7 ix0).trans (total _ _ fun b => ?_)
    rw [val_main_v122_apply, v84_at x6 x7 h6 h7, select_bit]
    by_cases h : 0 < num x6 x7 b
    · rw [if_pos h, if_pos h, val_main_v121_apply, v119_at x0 x1 x2 x3 x4 x5 x6 x7 h6 h7, val_main_v120_apply, val_main_cst_32_apply]
      exact congrArg (fun a => Ideal.div a (best x0 x1 x2 x3 x4 x5 x6 x7 b)) Ideal.ofBits_one_f32
    · rw [if_neg h, if_neg h]
      exact Ideal.ofBits_zero_f32
  rw [val_main_v125_apply, val_main_v124_apply, v87_at x6 x7 h6 h7]
  exact avg_of (num x6 x7) (fun b => Ideal.div 1 (best x0 x1 x2 x3 x4 x5 x6 x7 b)) _ hs

end Cert.Proof.Value.Ref

end
-- ==== Proof.Value.RefRecall.lean ====
/-
  The reference's two recalls, as averages over the prefixes.
-/
module

public import proofs.«01_k».proof.Proof.Value.RefMetrics
public import Idealize.ShloMosaic.Lib.ReduceAll

@[expose] public section

noncomputable section

namespace Cert.Proof.Value.Ref

open Cert.ReferenceIdeal Cert.ReferenceIdeal.Read Cert.ReferenceIdeal.Gen Cert.Proof.Value

open Idealize.ShloMosaic hiding ix0 ix1 ix2 ix3
open Idealize.ShloMosaic.ValueIdx Idealize.ShloMosaic.Tactic

variable (x0 : S512x65536.Idx → Ideal .f32) (x1 : S512.Idx → BitVec 32) (x2 : S512x2.Idx → BitVec 32) (x3 : S65536.Idx → BitVec 32)
  (x4 : S65536x2.Idx → BitVec 32) (x5 : S2x16384.Idx → BitVec 32) (x6 x7 : S4096.Idx → BitVec 32)

/-- The dimension numbers that take from each row of a matrix the entries its row of words names. -/
def alongDims (R C K : ℕ) (wf : GatherDims.WF ⟨2, ![R, C]⟩ ⟨3, ![R, K, 1]⟩ ⟨2, ![R, K]⟩ [] [1] [0] [1] [0] 2 ![1, 1]) : GatherDims ⟨2, ![R, C]⟩ ⟨3, ![R, K, 1]⟩ ⟨2, ![R, K]⟩ := ⟨[], [1], [0], [0], [1], 2, ![1, 1], wf⟩

theorem along_apply {R C K w : ℕ} {α : Type} (hC : 0 < C) (wf) (x : (⟨2, ![R, C]⟩ : Shape).Idx → α) (idx : IVec ⟨3, ![R, K, 1]⟩ w) (r : Fin R) (k : Fin K) :
    Host.gather (alongDims R C K wf) x idx (ix2 r k) = x (ix2 r ⟨min (idx (ix3 r k 0)).toInt.toNat (C - 1), by omega⟩) := by
  unfold Host.gather
  congr 1
  funext a
  refine Fin.ext ?_
  show (alongDims R C K wf).start (ix2 r k) idx a + (alongDims R C K wf).batchCoord (ix2 r k) a + (alongDims R C K wf).offCoord (ix2 r k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ (alongDims R C K wf).operandBatchingDims from List.mem_singleton.mpr rfl)]
    simp only [Nat.zero_add, Nat.add_zero]
    rfl
  · rw [GatherDims.batchCoord_eq_zero _ _ _ (show ¬ (1 : Fin 2) ∈ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C K wf).startIndexMap from List.mem_singleton.mpr rfl)]
    have hsi : (alongDims R C K wf).siIdx (ix2 r k) ⟨List.idxOf (1 : Fin 2) (alongDims R C K wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi]
    rfl

theorem at_three {R K : ℕ} (j : (⟨3, ![R, K, 1]⟩ : Shape).Idx) : ∃ (b : Fin R) (i : Fin K), j = ix3 b i 0 :=
  ⟨⟨(j 0).val, (j 0).isLt⟩, ⟨(j 1).val, (j 1).isLt⟩, by
    ext a; match a with
      | ⟨0, _⟩ => rfl
      | ⟨1, _⟩ => rfl
      | ⟨2, _⟩ => (show (j 2).val = 0; have : (j 2).val < 1 := (j 2).isLt; omega)⟩

/-- A position word is small, so reading it signed gives the position. -/
theorem pos_toInt (n : ℕ) (hn : n ≤ 65536) : (BitVec.ofNat 32 n).toInt = n := by
  rw [BitVec.toInt_eq_toNat_of_lt] <;> rw [BitVec.toNat_ofNat, Nat.mod_eq_of_lt (by norm_num; omega)]
  norm_num; omega

theorem in_range (n : ℕ) (hn : n < 65536) : IntOp.andi (IntOp.cmpi .sge (BitVec.ofNat 32 n) 0#32) (IntOp.cmpi .sle (BitVec.ofNat 32 n) 65535#32) = 1#1 := by
  have hi := pos_toInt n hn.le
  have h1 : (0#32).sle (BitVec.ofNat 32 n) = true := by rw [BitVec.sle, hi]; simp
  have h2 : (BitVec.ofNat 32 n).sle 65535#32 = true := by rw [BitVec.sle, hi, show (65535#32 : BitVec 32).toInt = 65535 by decide]; simp; omega
  show BitVec.ofBool ((0#32).sle (BitVec.ofNat 32 n)) &&& BitVec.ofBool ((BitVec.ofNat 32 n).sle 65535#32) = 1#1
  rw [h1, h2]; rfl

/-- The entry a position's word names is the one at that position. -/
theorem taken (w : BitVec 32) (p : Fin 65536) (h : w = BitVec.ofNat 32 p.val) : (⟨min w.toInt.toNat (65536 - 1), by omega⟩ : Fin 65536) = p := by
  subst h
  refine Fin.ext ?_
  show min (BitVec.ofNat 32 p.val).toInt.toNat (65536 - 1) = p.val
  have := p.isLt
  rw [pos_toInt p.val (by omega), Int.toNat_natCast]; omega

theorem small_pos (p : ℕ) (hp : p < 65536) : (BitVec.ofNat 32 p).toNat < 2 ^ (32 - 1) := by
  rw [BitVec.toNat_ofNat, Nat.mod_eq_of_lt (by norm_num; omega)]; norm_num; omega

/-- How many of a row's targets are ranked `k` or better. -/
def hits (k : ℕ) (b : Fin 512) : ℕ := (Finset.univ.filter fun p => Target x6 x7 b p ∧ rankAt (row x0 x1 x2 x3 x4 x5 b) p ≤ k).card

theorem hits_le (k : ℕ) (b : Fin 512) : hits x0 x1 x2 x3 x4 x5 x6 x7 k b ≤ 65536 := (Finset.card_le_univ _).trans (Fintype.card_fin _).le

/-- The targets among a row's first `k` positions are the targets ranked `k` or better. -/
theorem hits_first (k : ℕ) (hk : k ≤ 65536) (b : Fin 512) :
    (Finset.univ.filter fun i : Fin k => Target x6 x7 b (top x0 x1 x2 x3 x4 x5 b ⟨i.val, by have := i.isLt; omega⟩)).card = hits x0 x1 x2 x3 x4 x5 x6 x7 k b := by
  have hr : ∀ i, rankAt (row x0 x1 x2 x3 x4 x5 b) (top x0 x1 x2 x3 x4 x5 b i) = i.val + 1 := rank_top x0 x1 x2 x3 x4 x5 b
  have hinj : Function.Injective (top x0 x1 x2 x3 x4 x5 b) := fun i j h => by
    have e := (hr i).symm.trans ((congrArg _ h).trans (hr j))
    exact Fin.ext (by omega)
  have hsur : Function.Surjective (top x0 x1 x2 x3 x4 x5 b) := Finite.surjective_of_injective hinj
  refine Finset.card_bij (fun i _ => top x0 x1 x2 x3 x4 x5 b ⟨i.val, by have := i.isLt; omega⟩) (fun i hi => ?_) (fun i _ j _ h => ?_) (fun p hp => ?_)
  · rw [Finset.mem_filter] at hi ⊢
    refine ⟨Finset.mem_univ _, hi.2, ?_⟩
    rw [hr]; have := i.isLt; simp only; omega
  · have := congrArg Fin.val (hinj h); exact Fin.ext this
  · rw [Finset.mem_filter] at hp
    obtain ⟨i, rfl⟩ := hsur p
    have hi : i.val < k := by have := hp.2.2; rw [hr] at this; omega
    exact ⟨⟨i.val, hi⟩, Finset.mem_filter.2 ⟨Finset.mem_univ _, hp.2.1⟩, rfl⟩

theorem v88_at (h6 : ∀ i, (x6 i).toNat < 512) (h7 : ∀ i, (x7 i).toNat < 65536) (b : Fin 512) (i : Fin 1) :
    val_main_v88 (F := Ideal) x0 x1 x2 x3 x4 x5 x6 x7 (ix2 b i) = bit (Target x6 x7 b (top x0 x1 x2 x3 x4 x5 b ⟨i.val, by omega⟩)) := by
  have h5 : ∀ (b : Fin 512) (i : Fin 1), val_main_call1_v5 (F := Ideal) x0 x1 x2 x3 x4 x5 (ix3 b i 0) = BitVec.ofNat 32 (top x0 x1 x2 x3 x4 x5 b ⟨i.val, by omega⟩).val := fun b i => by
    rw [val_main_call1_v5_apply, show idx_main_call1_v5 (ix3 b i 0) = ix2 b i by
      ext a; match a with
        | ⟨0, _⟩ => show ((b.val * 1 + i.val) * 1 + 0) / 1 = b.val; omega
        | ⟨1, _⟩ => show 0 = i.val; omega]
    rw [val_main_call1_v4_apply, val_main_call1_v1_apply, val_main_call1_v0_apply, val_main_call1_c_apply, indices_at]
    exact Routing.wrap_of_lt _ _ (small_pos _ (top x0 x1 x2 x3 x4 x5 b _).isLt)
  have h12 : val_main_call1_v12 (F := Ideal) x0 x1 x2 x3 x4 x5 (ix2 b i) = 1#1 := by
    unfold val_main_call1_v12
    refine Host.reduce_andi_one _ _ _ _ _ rfl fun j => ?_
    obtain ⟨b', i', rfl⟩ := at_three j
    rw [val_main_call1_v11_apply, val_main_call1_v7_apply, val_main_call1_v10_apply, h5]
    exact in_range _ (Fin.isLt _)
  rw [val_main_v88_apply, h12]
  refine Eq.trans (show Scalar.select 1#1 _ _ = val_main_call1_v13 (F := Ideal) x0 x1 x2 x3 x4 x5 x6 x7 (ix2 b i) from rfl) ?_
  unfold val_main_call1_v13
  refine (along_apply (by norm_num) gather_S512x65536_S512x1x1_S512x1_n_1_0_0_1_2_11_wf (val_main_v80 (F := Ideal) x6 x7) _ b i).trans ?_
  rw [v80_at x6 x7 h6 h7]
  exact congrArg (fun p => bit (Target x6 x7 b p)) (taken _ _ (h5 b i))

/-- A row's ones counted. -/
theorem count_bits {K : ℕ} (v : (⟨2, ![512, K]⟩ : Shape).Idx → BitVec 1) (b : Fin 512) (T : Fin K → Prop) [DecidablePred T] (hv : ∀ i, v (ix2 b i) = bit (T i)) :
    Finset.univ.fold IntOp.addi 0#32 (fun i => BitVec.setWidth 32 (v (Idealize.ShloMosaic.ix2 b i))) = BitVec.ofNat 32 (Finset.univ.filter T).card := by
  refine (IndicatorCount.fold_addi_setWidth_eq_card _ _).trans (congrArg _ (congrArg Finset.card (Finset.filter_congr fun p _ => ?_)))
  rw [ix2_eq_valueIdx, hv]
  exact bit_one _

theorem v90_at (h6 : ∀ i, (x6 i).toNat < 512) (h7 : ∀ i, (x7 i).toNat < 65536) (b : Fin 512) :
    val_main_v90 (F := Ideal) x0 x1 x2 x3 x4 x5 x6 x7 (ix1 b) = BitVec.ofNat 32 (hits x0 x1 x2 x3 x4 x5 x6 x7 1 b) := by
  unfold val_main_v90 val_main_v89
  generalize hv : val_main_v88 (F := Ideal) x0 x1 x2 x3 x4 x5 x6 x7 = v
  have hv' : ∀ i, v (ix2 b i) = bit (Target x6 x7 b (top x0 x1 x2 x3 x4 x5 b ⟨i.val, by omega⟩)) := fun i => by rw [← hv]; exact v88_at x0 x1 x2 x3 x4 x5 x6 x7 h6 h7 b i
  have hc := (count_bits (K := 1) v b (fun i => Target x6 x7 b (top x0 x1 x2 x3 x4 x5 b ⟨i.val, by omega⟩)) hv').trans
    (congrArg (BitVec.ofNat 32) (hits_first x0 x1 x2 x3 x4 x5 x6 x7 1 (by norm_num) b))
  generalize hits x0 x1 x2 x3 x4 x5 x6 x7 1 b = n at hc ⊢
  clear hv hv'
  pointwise
  rw [val_main_c_19_apply]
  exact hc

theorem word_real (n : ℕ) (hn : n ≤ 65536) : FloatOps.sitofp (F := Ideal) .f32 (BitVec.ofNat 32 n) = ((n : ℝ) : EReal) := by
  show ((((BitVec.ofNat 32 n).toInt : ℤ) : ℝ) : EReal) = _
  rw [pos_toInt n hn]; push_cast; rfl

/-- The reference's recall at one. -/
theorem v99_at (h6 : ∀ i, (x6 i).toNat < 512) (h7 : ∀ i, (x7 i).toNat < 65536) : val_main_v99 (F := Ideal) x0 x1 x2 x3 x4 x5 x6 x7 ix0
    = avg (fun b => ((num x6 x7 b : ℝ) : EReal)) (fun b => Ideal.div ((hits x0 x1 x2 x3 x4 x5 x6 x7 1 b : ℝ) : EReal) ((max (num x6 x7 b : ℝ) 1 : ℝ) : EReal)) := by
  have hs : (val_main_v97 (F := Ideal) x0 x1 x2 x3 x4 x5 x6 x7 ix0 : EReal)
      = ∑ b, if 0 < num x6 x7 b then Ideal.div ((hits x0 x1 x2 x3 x4 x5 x6 x7 1 b : ℝ) : EReal) ((max (num x6 x7 b : ℝ) 1 : ℝ) : EReal) else 0 := by
    refine (val_main_v97_apply x0 x1 x2 x3 x4 x5 x6 x7 ix0).trans (total _ _ fun b => ?_)
    rw [val_main_v96_apply, v84_at x6 x7 h6 h7, select_bit]
    by_cases h : 0 < num x6 x7 b
    · rw [if_pos h, if_pos h, val_main_v95_apply, val_main_v93_apply, val_main_v94_apply, val_main_v92_apply, v90_at x0 x1 x2 x3 x4 x5 x6 x7 h6 h7,
        v82_at x6 x7 h6 h7, val_main_v91_apply, val_main_c_20_apply, word_real _ (hits_le x0 x1 x2 x3 x4 x5 x6 x7 1 b), max_word _ (num_le x6 x7 b)]
      rfl
    · rw [if_neg h, if_neg h]
      exact Ideal.ofBits_zero_f32
  rw [val_main_v99_apply, val_main_v98_apply, v87_at x6 x7 h6 h7]
  exact avg_of (num x6 x7) (fun b => Ideal.div ((hits x0 x1 x2 x3 x4 x5 x6 x7 1 b : ℝ) : EReal) ((max (num x6 x7 b : ℝ) 1 : ℝ) : EReal)) _ hs

theorem v100_at (h6 : ∀ i, (x6 i).toNat < 512) (h7 : ∀ i, (x7 i).toNat < 65536) (b : Fin 512) (i : Fin 10) :
    val_main_v100 (F := Ideal) x0 x1 x2 x3 x4 x5 x6 x7 (ix2 b i) = bit (Target x6 x7 b (top x0 x1 x2 x3 x4 x5 b ⟨i.val, by omega⟩)) := by
  have h5 : ∀ (b : Fin 512) (i : Fin 10), val_main_call3_v5 (F := Ideal) x0 x1 x2 x3 x4 x5 (ix3 b i 0) = BitVec.ofNat 32 (top x0 x1 x2 x3 x4 x5 b ⟨i.val, by omega⟩).val := fun b i => by
    rw [val_main_call3_v5_apply, show idx_main_call3_v5 (ix3 b i 0) = ix2 b i by
      ext a; match a with
        | ⟨0, _⟩ => show ((b.val * 10 + i.val) * 1 + 0) / 10 = b.val; omega
        | ⟨1, _⟩ => show ((b.val * 10 + i.val) * 1 + 0) % 10 = i.val; omega]
    rw [val_main_call3_v4_apply, val_main_call3_v1_apply, val_main_call3_v0_apply, val_main_call3_c_apply, indices10_at]
    exact Routing.wrap_of_lt _ _ (small_pos _ (top x0 x1 x2 x3 x4 x5 b _).isLt)
  have h12 : val_main_call3_v12 (F := Ideal) x0 x1 x2 x3 x4 x5 (ix2 b i) = 1#1 := by
    unfold val_main_call3_v12
    refine Host.reduce_andi_one _ _ _ _ _ rfl fun j => ?_
    obtain ⟨b', i', rfl⟩ := at_three j
    rw [val_main_call3_v11_apply, val_main_call3_v7_apply, val_main_call3_v10_apply, h5]
    exact in_range _ (Fin.isLt _)
  rw [val_main_v100_apply, h12]
  refine Eq.trans (show Scalar.select 1#1 _ _ = val_main_call3_v13 (F := Ideal) x0 x1 x2 x3 x4 x5 x6 x7 (ix2 b i) from rfl) ?_
  unfold val_main_call3_v13
  refine (along_apply (by norm_num) gather_S512x65536_S512x10x1_S512x10_n_1_0_0_1_2_11_wf (val_main_v80 (F := Ideal) x6 x7) _ b i).trans ?_
  rw [v80_at x6 x7 h6 h7]
  exact congrArg (fun p => bit (Target x6 x7 b p)) (taken _ _ (h5 b i))

theorem v102_at (h6 : ∀ i, (x6 i).toNat < 512) (h7 : ∀ i, (x7 i).toNat < 65536) (b : Fin 512) :
    val_main_v102 (F := Ideal) x0 x1 x2 x3 x4 x5 x6 x7 (ix1 b) = BitVec.ofNat 32 (hits x0 x1 x2 x3 x4 x5 x6 x7 10 b) := by
  unfold val_main_v102 val_main_v101
  generalize hv : val_main_v100 (F := Ideal) x0 x1 x2 x3 x4 x5 x6 x7 = v
  have hv' : ∀ i, v (ix2 b i) = bit (Target x6 x7 b (top x0 x1 x2 x3 x4 x5 b ⟨i.val, by omega⟩)) := fun i => by rw [← hv]; exact v100_at x0 x1 x2 x3 x4 x5 x6 x7 h6 h7 b i
  have hc := (count_bits (K := 10) v b (fun i => Target x6 x7 b (top x0 x1 x2 x3 x4 x5 b ⟨i.val, by omega⟩)) hv').trans
    (congrArg (BitVec.ofNat 32) (hits_first x0 x1 x2 x3 x4 x5 x6 x7 10 (by norm_num) b))
  generalize hits x0 x1 x2 x3 x4 x5 x6 x7 10 b = n at hc ⊢
  clear hv hv'
  pointwise
  rw [val_main_c_25_apply]
  exact hc

/-- The reference's recall at ten. -/
theorem v111_at (h6 : ∀ i, (x6 i).toNat < 512) (h7 : ∀ i, (x7 i).toNat < 65536) : val_main_v111 (F := Ideal) x0 x1 x2 x3 x4 x5 x6 x7 ix0
    = avg (fun b => ((num x6 x7 b : ℝ) : EReal)) (fun b => Ideal.div ((hits x0 x1 x2 x3 x4 x5 x6 x7 10 b : ℝ) : EReal) ((max (num x6 x7 b : ℝ) 1 : ℝ) : EReal)) := by
  have hs : (val_main_v109 (F := Ideal) x0 x1 x2 x3 x4 x5 x6 x7 ix0 : EReal)
      = ∑ b, if 0 < num x6 x7 b then Ideal.div ((hits x0 x1 x2 x3 x4 x5 x6 x7 10 b : ℝ) : EReal) ((max (num x6 x7 b : ℝ) 1 : ℝ) : EReal) else 0 := by
    refine (val_main_v109_apply x0 x1 x2 x3 x4 x5 x6 x7 ix0).trans (total _ _ fun b => ?_)
    rw [val_main_v108_apply, v84_at x6 x7 h6 h7, select_bit]
    by_cases h : 0 < num x6 x7 b
    · rw [if_pos h, if_pos h, val_main_v107_apply, val_main_v105_apply, val_main_v106_apply, val_main_v104_apply, v102_at x0 x1 x2 x3 x4 x5 x6 x7 h6 h7,
        v82_at x6 x7 h6 h7, val_main_v103_apply, val_main_c_26_apply, word_real _ (hits_le x0 x1 x2 x3 x4 x5 x6 x7 10 b), max_word _ (num_le x6 x7 b)]
      rfl
    · rw [if_neg h, if_neg h]
      exact Ideal.ofBits_zero_f32
  rw [val_main_v111_apply, val_main_v110_apply, v87_at x6 x7 h6 h7]
  exact avg_of (num x6 x7) (fun b => Ideal.div ((hits x0 x1 x2 x3 x4 x5 x6 x7 10 b : ℝ) : EReal) ((max (num x6 x7 b : ℝ) 1 : ℝ) : EReal)) _ hs

end Cert.Proof.Value.Ref

end
-- ==== Proof.Value.Agree.lean ====
/-
  Counting first labels is counting targets: the metrics call's sums over the labels are the reference's over the
  premises.
-/
module

public import proofs.«01_k».proof.Proof.Value.RefRecall

@[expose] public section

noncomputable section

namespace Cert.Proof.Value

open Cert.KernelIdeal Cert.KernelIdeal.Gen Cert.Proof.KernelIdeal

open Idealize.ShloMosaic
open Idealize.ShloMosaic.TcCoe Idealize.ShloMosaic.Tactic

section Pure

variable {n N : ℕ} (R : Fin n → Prop) [DecidablePred R] (T : Fin N → Prop) [DecidablePred T] (f : Fin n → Fin N)
  (hT : ∀ l, R l → T (f l)) (hinj : ∀ l m, R l → R m → f l = f m → l = m) (hsur : ∀ p, T p → ∃ l, R l ∧ f l = p)

include hT hinj hsur in
/-- The labels kept and the targets are as many, and so are those with a further property. -/
theorem same_card (Q : Fin N → Prop) [DecidablePred Q] :
    (Finset.univ.filter fun l => R l ∧ Q (f l)).card = (Finset.univ.filter fun p => T p ∧ Q p).card := by
  refine Finset.card_bij (fun l _ => f l) (fun l hl => ?_) (fun l hl m hm h => ?_) (fun p hp => ?_)
  · rw [Finset.mem_filter] at hl ⊢
    exact ⟨Finset.mem_univ _, hT l hl.2.1, hl.2.2⟩
  · rw [Finset.mem_filter] at hl hm
    exact hinj l m hl.2.1 hm.2.1 h
  · rw [Finset.mem_filter] at hp
    obtain ⟨l, hl, rfl⟩ := hsur p hp.2.1
    exact ⟨l, Finset.mem_filter.2 ⟨Finset.mem_univ _, hl, hp.2.2⟩, rfl⟩

include hT hsur in
/-- The least value over the labels kept is the least over the targets. -/
theorem same_min (g : Fin N → EReal) :
    Finset.univ.fold min (⊤ : EReal) (fun l => if R l then g (f l) else ⊤) = Finset.univ.fold min (⊤ : EReal) (fun p => if T p then g p else ⊤) := by
  refine eq_of_forall_le_iff fun c => ?_
  rw [Finset.le_fold_min, Finset.le_fold_min]
  refine and_congr_right fun _ => ⟨fun h p _ => ?_, fun h l _ => ?_⟩
  · by_cases hp : T p
    · obtain ⟨l, hl, rfl⟩ := hsur p hp
      have := h l (Finset.mem_univ _)
      rw [if_pos hl] at this
      rwa [if_pos hp]
    · rw [if_neg hp]; exact le_top
  · by_cases hl : R l
    · have := h (f l) (Finset.mem_univ _)
      rw [if_pos (hT l hl)] at this
      rwa [if_pos hl]
    · rw [if_neg hl]; exact le_top

/-- A product of two indicators summed counts where both hold. -/
theorem sum_both (Q : Fin n → Prop) [DecidablePred Q] :
    ∑ l, (if R l then (1 : EReal) else 0) * (if Q l then 1 else 0) = (((Finset.univ.filter fun l => R l ∧ Q l).card : ℝ) : EReal) := by
  have e : ∀ l, (if R l then (1 : EReal) else 0) * (if Q l then 1 else 0) = if R l ∧ Q l then 1 else 0 := fun l => by
    by_cases h : R l <;> by_cases h' : Q l <;> simp [h, h']
  rw [Finset.sum_congr rfl fun l _ => e l, Finset.sum_boole]
  rfl

end Pure

theorem ofBits_ten : Ideal.ofBits .f32 0x41200000#32 = ((10 : ℝ) : EReal) := by
  simp [Ideal.ofBits, Ideal.ieee]
  rw [← EReal.coe_mul]
  norm_num

variable (X0 : Vec Ideal S1x4096 .f32) (X1 X2 : Vec Ideal S1x4096 .i32)

/-- A label's number, from its prefix and its premise. -/
theorem ids_apply (l : Fin 4096) : k3_pay3 (F := Ideal) X1 X2 (ValueIdx.ix2 0 l) = X1 (ValueIdx.ix2 0 l) * 65536#32 + X2 (ValueIdx.ix2 0 l) := by
  have e2 : k3_pay2 (F := Ideal) X1 = X1 := by unfold k3_pay2; exact shapeCast_self _ _
  unfold k3_pay3
  rw [e2, shapeCast_self]
  rfl

variable (x6 x7 : S4096.Idx → BitVec 32) (h6 : ∀ i, (x6 i).toNat < 512) (h7 : ∀ i, (x7 i).toNat < 65536)
  (hX1 : ∀ l, X1 (ValueIdx.ix2 0 l) = x6 (ValueIdx.ix1 l)) (hX2 : ∀ l, X2 (ValueIdx.ix2 0 l) = x7 (ValueIdx.ix1 l))

/-- The premise a label names. -/
def lp (l : Fin 4096) : Fin 65536 := ⟨(x7 (ValueIdx.ix1 l)).toNat, h7 _⟩

include h6 h7 hX1 hX2 in
/-- Two labels' numbers agree only when they name the same prefix and premise. -/
theorem ids_eq (l k : Fin 4096) : k3_pay3 (F := Ideal) X1 X2 (ValueIdx.ix2 0 l) = k3_pay3 (F := Ideal) X1 X2 (ValueIdx.ix2 0 k)
    ↔ (x6 (ValueIdx.ix1 l)).toNat = (x6 (ValueIdx.ix1 k)).toNat ∧ (x7 (ValueIdx.ix1 l)).toNat = (x7 (ValueIdx.ix1 k)).toNat := by
  rw [ids_apply, ids_apply, hX1, hX2, hX1, hX2]
  have a := h6 (ValueIdx.ix1 l); have b := h6 (ValueIdx.ix1 k); have c := h7 (ValueIdx.ix1 l); have d := h7 (ValueIdx.ix1 k)
  have val : ∀ u v : BitVec 32, u.toNat < 512 → v.toNat < 65536 → (u * 65536#32 + v).toNat = u.toNat * 65536 + v.toNat := fun u v hu hv => by
    rw [BitVec.toNat_add, BitVec.toNat_mul, show (65536#32 : BitVec 32).toNat = 65536 from rfl]; omega
  constructor
  · intro h
    have := congrArg BitVec.toNat h
    rw [val _ _ a c, val _ _ b d] at this
    omega
  · rintro ⟨h, h'⟩
    rw [BitVec.eq_of_toNat_eq h, BitVec.eq_of_toNat_eq h']

include h6 hX1 in
theorem row_eq (b : Fin 512) (l : Fin 4096) : BitVec.ofNat 32 b.val = X1 (ValueIdx.ix2 0 l) ↔ (x6 (ValueIdx.ix1 l)).toNat = b.val := by
  rw [hX1]
  have := b.isLt
  constructor
  · intro h; rw [← h, BitVec.toNat_ofNat]; omega
  · intro h; exact BitVec.eq_of_toNat_eq (by rw [BitVec.toNat_ofNat, h]; omega)

include hX1 h6 in
theorem row_target (b : Fin 512) (l : Fin 4096) (h : RowOf X1 X2 b l) : Ref.Target x6 x7 b (lp x7 h7 l) :=
  ⟨l, (row_eq X1 x6 h6 hX1 b l).1 h.1, rfl⟩

include hX1 hX2 h6 in
theorem row_inj (b : Fin 512) (l k : Fin 4096) (hl : RowOf X1 X2 b l) (hk : RowOf X1 X2 b k) (h : lp x7 h7 l = lp x7 h7 k) : l = k := by
  have e := (ids_eq X1 X2 x6 x7 h6 h7 hX1 hX2 l k).2
    ⟨((row_eq X1 x6 h6 hX1 b l).1 hl.1).trans ((row_eq X1 x6 h6 hX1 b k).1 hk.1).symm, congrArg (fun p : Fin 65536 => p.val) h⟩
  rcases lt_trichotomy l.val k.val with hlt | heq | hgt
  · exact absurd e (hk.2 l hlt)
  · exact Fin.ext heq
  · exact absurd e.symm (hl.2 k hgt)

include hX1 hX2 h6 in
theorem row_sur (b : Fin 512) (p : Fin 65536) (h : Ref.Target x6 x7 b p) : ∃ l, RowOf X1 X2 b l ∧ lp x7 h7 l = p := by
  classical
  have hex : ∃ n : ℕ, ∃ l : Fin 4096, l.val = n ∧ (x6 (ValueIdx.ix1 l)).toNat = b.val ∧ (x7 (ValueIdx.ix1 l)).toNat = p.val := by
    obtain ⟨l, hl⟩ := h
    exact ⟨l.val, l, rfl, hl⟩
  obtain ⟨l, hl, e6, e7⟩ := Nat.find_spec hex
  refine ⟨l, ⟨(row_eq X1 x6 h6 hX1 b l).2 e6, fun k hk e => ?_⟩, Fin.ext e7⟩
  have := (ids_eq X1 X2 x6 x7 h6 h7 hX1 hX2 k l).1 e
  exact Nat.find_min hex (hl ▸ hk) ⟨k, rfl, this.1.trans e6, this.2.trans e7⟩

include h6 h7 hX1 hX2 in
/-- The metrics call counts a prefix's targets. -/
theorem cnt_num (b : Fin 512) : (mCnt (F := Ideal) X1 X2 (ValueIdx.ix2 b 0) : EReal) = ((Ref.num x6 x7 b : ℝ) : EReal) := by
  rw [cnt_apply, Finset.sum_boole]
  have e := same_card (RowOf X1 X2 b) (Ref.Target x6 x7 b) (lp x7 h7) (row_target X1 X2 x6 x7 h6 h7 hX1 b) (row_inj X1 X2 x6 x7 h6 h7 hX1 hX2 b)
    (row_sur X1 X2 x6 x7 h6 h7 hX1 hX2 b) (fun _ => True)
  simp only [and_true] at e
  rw [e]
  rfl

variable (r : Fin 512 → Fin 65536 → EReal) (hX0 : ∀ b l, RowOf X1 X2 b l → X0 (ValueIdx.ix2 0 l) = ((rankAt (r b) (lp x7 h7 l) : ℝ) : EReal))

include h6 hX1 hX2 hX0 in
/-- The metrics call's count of a prefix's targets ranked `k` or better. -/
theorem hits_num (b : Fin 512) (k : ℕ) (w : EReal) (hw : w = ((k : ℝ) : EReal)) :
    ∑ l, (if RowOf X1 X2 b l then (1 : EReal) else 0) * (if (X0 (ValueIdx.ix2 0 l) : EReal) ≤ w then 1 else 0)
      = (((Finset.univ.filter fun p => Ref.Target x6 x7 b p ∧ rankAt (r b) p ≤ k).card : ℝ) : EReal) := by
  rw [sum_both (RowOf X1 X2 b) (fun l => (X0 (ValueIdx.ix2 0 l) : EReal) ≤ w)]
  rw [← same_card (RowOf X1 X2 b) (Ref.Target x6 x7 b) (lp x7 h7) (row_target X1 X2 x6 x7 h6 h7 hX1 b) (row_inj X1 X2 x6 x7 h6 h7 hX1 hX2 b)
    (row_sur X1 X2 x6 x7 h6 h7 hX1 hX2 b) (fun p => rankAt (r b) p ≤ k)]
  refine congrArg (fun n : ℕ => ((n : ℝ) : EReal)) (congrArg Finset.card (Finset.filter_congr fun l _ => and_congr_right fun hl => ?_))
  rw [hX0 b l hl, hw, EReal.coe_le_coe_iff, Nat.cast_le]

include h6 hX1 hX2 hX0 in
/-- The metrics call's best rank of a prefix's targets. -/
theorem min_num (b : Fin 512) : (mMin (F := Ideal) X0 X1 X2 (ValueIdx.ix1 b) : EReal)
    = Finset.univ.fold min (⊤ : EReal) (fun p => if Ref.Target x6 x7 b p then ((rankAt (r b) p : ℝ) : EReal) else ⊤) := by
  rw [min_apply, ← same_min (RowOf X1 X2 b) (Ref.Target x6 x7 b) (lp x7 h7) (row_target X1 X2 x6 x7 h6 h7 hX1 b)
    (row_sur X1 X2 x6 x7 h6 h7 hX1 hX2 b) (fun p => ((rankAt (r b) p : ℝ) : EReal))]
  refine congrArg (fun f => Finset.univ.fold min (⊤ : EReal) f) (funext fun l => ?_)
  by_cases hl : RowOf X1 X2 b l
  · rw [if_pos hl, if_pos hl, hX0 b l hl]
  · rw [if_neg hl, if_neg hl]

/-- The larger of a count and one. -/
theorem max_one (n : ℕ) : max (((n : ℝ) : EReal)) 1 = ((max (n : ℝ) 1 : ℝ) : EReal) :=
  (Monotone.map_max (fun _ _ h => EReal.coe_le_coe_iff.2 h) : ((max (n : ℝ) 1 : ℝ) : EReal) = max ((n : ℝ) : EReal) ((1 : ℝ) : EReal)).symm

end Cert.Proof.Value

end
-- ==== Proof.Value.Averages.lean ====
/-
  The metrics call's three results, from the ranks and the labels it is given.
-/
module

public import proofs.«01_k».proof.Proof.Value.Agree
public import proofs.«01_k».proof.Proof.KernelIdeal.MetricsStage

@[expose] public section

noncomputable section

namespace Cert.Proof.Value

open Cert.KernelIdeal Cert.KernelIdeal.Gen Cert.Proof.KernelIdeal

open Idealize.ShloMosaic
open Idealize.ShloMosaic.TcCoe Idealize.ShloMosaic.Tactic Idealize.ShloMosaic.Pipeline

variable (V : Dev nD → Valuation τ sig (Elt Ideal)) (c : Dev nD)

theorem idx3_0 : ∀ t : Fin cfg3.N, win3_0.index t = ![0, 0] := (by decide +kernel : ∀ t : Fin grid3.N, _)
theorem idx3_1 : ∀ t : Fin cfg3.N, win3_1.index t = ![0, 0] := (by decide +kernel : ∀ t : Fin grid3.N, _)
theorem idx3_2 : ∀ t : Fin cfg3.N, win3_2.index t = ![0, 0] := (by decide +kernel : ∀ t : Fin grid3.N, _)

/-- The ranks the call sees. -/
theorem blk3_0_apply (t : Fin cfg3.N) (l : Fin 4096) :
    (blk3 V c 0 t : S1x4096.Idx → Ideal .f32) (ValueIdx.ix2 0 l) = (V c main_v26 : S1x4096.Idx → Ideal .f32) (ValueIdx.ix2 0 l) := by
  unfold blk3
  blk_simp
  congr 1 <;> blk_ext [idx3_0]

/-- The labels' prefixes the call sees. -/
theorem blk3_1_apply (t : Fin cfg3.N) (l : Fin 4096) :
    (blk3 V c 1 t : S1x4096.Idx → BitVec 32) (ValueIdx.ix2 0 l) = (V c main_v20 : S1x4096.Idx → BitVec 32) (ValueIdx.ix2 0 l) := by
  unfold blk3
  blk_simp
  congr 1 <;> blk_ext [idx3_1]

/-- The labels' premises the call sees. -/
theorem blk3_2_apply (t : Fin cfg3.N) (l : Fin 4096) :
    (blk3 V c 2 t : S1x4096.Idx → BitVec 32) (ValueIdx.ix2 0 l) = (V c main_v21 : S1x4096.Idx → BitVec 32) (ValueIdx.ix2 0 l) := by
  unfold blk3
  blk_simp
  congr 1 <;> blk_ext [idx3_2]

theorem last3 : (0 : ℕ) < cfg3.N := by rw [show cfg3.N = 1 from N_3]; omega

/-- The call's only point. -/
def pt3 : Fin cfg3.N := ⟨0, last3⟩

theorem arr3_3 : (dat3 V c).arrAt 3 cfg3.N = (dat3 V c).after 3 pt3 := by
  refine (dat3 V c).arrAt_eq_of_after_last 3 pt3 (by decide +kernel) _ fun j => ?_
  have e : ((cfg3.win 3).arr.view.emb j : S1x1.Idx) = j := by blk_simp
  exact congrArg ((dat3 V c).after 3 pt3) e.symm

theorem arr3_4 : (dat3 V c).arrAt 4 cfg3.N = (dat3 V c).after 4 pt3 := by
  refine (dat3 V c).arrAt_eq_of_after_last 4 pt3 (by decide +kernel) _ fun j => ?_
  have e : ((cfg3.win 4).arr.view.emb j : S1x1.Idx) = j := by blk_simp
  exact congrArg ((dat3 V c).after 4 pt3) e.symm

theorem arr3_5 : (dat3 V c).arrAt 5 cfg3.N = (dat3 V c).after 5 pt3 := by
  refine (dat3 V c).arrAt_eq_of_after_last 5 pt3 (by decide +kernel) _ fun j => ?_
  have e : ((cfg3.win 5).arr.view.emb j : S1x1.Idx) = j := by blk_simp
  exact congrArg ((dat3 V c).after 5 pt3) e.symm

set_option maxRecDepth 8000 in
theorem after3_3 : (dat3 V c).after 3 pt3 = k3_pay17 (F := Ideal) (mCnt (blk3 V c 1 pt3) (blk3 V c 2 pt3)) (mHits1 (blk3 V c 0 pt3) (blk3 V c 1 pt3) (blk3 V c 2 pt3)) := by
  unfold dat3
  rfl

set_option maxRecDepth 8000 in
theorem after3_4 : (dat3 V c).after 4 pt3 = k3_pay18 (F := Ideal) (mCnt (blk3 V c 1 pt3) (blk3 V c 2 pt3)) (mHits10 (blk3 V c 0 pt3) (blk3 V c 1 pt3) (blk3 V c 2 pt3)) := by
  unfold dat3
  rfl

set_option maxRecDepth 8000 in
theorem after3_5 : (dat3 V c).after 5 pt3 = k3_pay19 (F := Ideal) (mCnt (blk3 V c 1 pt3) (blk3 V c 2 pt3)) (mMin (blk3 V c 0 pt3) (blk3 V c 1 pt3) (blk3 V c 2 pt3)) := by
  unfold dat3
  rfl

variable (x6 x7 : S4096.Idx → BitVec 32) (h6 : ∀ i, (x6 i).toNat < 512) (h7 : ∀ i, (x7 i).toNat < 65536)
  (hX1 : ∀ l, (V c main_v20 : S1x4096.Idx → BitVec 32) (ValueIdx.ix2 0 l) = x6 (ValueIdx.ix1 l))
  (hX2 : ∀ l, (V c main_v21 : S1x4096.Idx → BitVec 32) (ValueIdx.ix2 0 l) = x7 (ValueIdx.ix1 l))
  (r : Fin 512 → Fin 65536 → EReal)
  (hX0 : ∀ l, (V c main_v26 : S1x4096.Idx → Ideal .f32) (ValueIdx.ix2 0 l) = ((rankAt (r ⟨(x6 (ValueIdx.ix1 l)).toNat, h6 _⟩) (lp x7 h7 l) : ℝ) : EReal))

include hX1 in
theorem seen1 (t : Fin cfg3.N) (l : Fin 4096) : (blk3 V c 1 t : S1x4096.Idx → BitVec 32) (ValueIdx.ix2 0 l) = x6 (ValueIdx.ix1 l) := (blk3_1_apply V c t l).trans (hX1 l)
include hX2 in
theorem seen2 (t : Fin cfg3.N) (l : Fin 4096) : (blk3 V c 2 t : S1x4096.Idx → BitVec 32) (ValueIdx.ix2 0 l) = x7 (ValueIdx.ix1 l) := (blk3_2_apply V c t l).trans (hX2 l)
include hX0 hX1 in
theorem seen0 (t : Fin cfg3.N) (b : Fin 512) (l : Fin 4096) (h : RowOf (blk3 V c 1 t) (blk3 V c 2 t) b l) :
    (blk3 V c 0 t : S1x4096.Idx → Ideal .f32) (ValueIdx.ix2 0 l) = ((rankAt (r b) (lp x7 h7 l) : ℝ) : EReal) := by
  refine (blk3_0_apply V c t l).trans ((hX0 l).trans ?_)
  have e : (⟨(x6 (ValueIdx.ix1 l)).toNat, h6 _⟩ : Fin 512) = b := Fin.ext ((row_eq _ x6 h6 (seen1 V c x6 hX1 t) b l).1 h.1)
  rw [e]

include hX0 hX1 hX2 in
/-- The mean reciprocal rank the call leaves. -/
theorem fifth_apply (i : S1x1.Idx) : ((dat3 V c).arrAt 5 cfg3.N : S1x1.Idx → Ideal .f32) i
    = avg (fun b => ((Ref.num x6 x7 b : ℝ) : EReal)) (fun b => Ideal.div 1 (Finset.univ.fold min (⊤ : EReal) (fun p => if Ref.Target x6 x7 b p then ((rankAt (r b) p : ℝ) : EReal) else ⊤))) := by
  refine (congrFun ((arr3_5 V c).trans (after3_5 V c)) i).trans ((pay19_apply _ _ i).trans (congrArg₂ avg (funext fun b => ?_) (funext fun b => congrArg (Ideal.div 1) ?_)))
  · exact cnt_num _ _ x6 x7 h6 h7 (seen1 V c x6 hX1 _) (seen2 V c x7 hX2 _) b
  · exact min_num _ _ _ x6 x7 h6 h7 (seen1 V c x6 hX1 _) (seen2 V c x7 hX2 _) r (seen0 V c x6 x7 h6 h7 hX1 r hX0 _) b

include h6 h7 hX1 hX2 in
/-- A call's quotient of hits by targets. -/
theorem quot_eq (t : Fin cfg3.N) (b : Fin 512) (h : EReal) :
    Ideal.div h (max (mCnt (F := Ideal) (blk3 V c 1 t) (blk3 V c 2 t) (ValueIdx.ix2 b 0)) 1) = Ideal.div h ((max (Ref.num x6 x7 b : ℝ) 1 : ℝ) : EReal) :=
  congrArg (Ideal.div h) ((congrArg (fun a : EReal => max a 1) (cnt_num _ _ x6 x7 h6 h7 (seen1 V c x6 hX1 t) (seen2 V c x7 hX2 t) b)).trans (max_one _))

include hX0 hX1 hX2 in
/-- The recall at one the call leaves. -/
theorem third_apply (i : S1x1.Idx) : ((dat3 V c).arrAt 3 cfg3.N : S1x1.Idx → Ideal .f32) i
    = avg (fun b => ((Ref.num x6 x7 b : ℝ) : EReal)) (fun b => Ideal.div (((Finset.univ.filter fun p => Ref.Target x6 x7 b p ∧ rankAt (r b) p ≤ 1).card : ℝ) : EReal)
      ((max (Ref.num x6 x7 b : ℝ) 1 : ℝ) : EReal)) := by
  refine (congrFun ((arr3_3 V c).trans (after3_3 V c)) i).trans ((pay17_apply _ _ i).trans (congrArg₂ avg (funext fun b => ?_) (funext fun b => ?_)))
  · exact cnt_num _ _ x6 x7 h6 h7 (seen1 V c x6 hX1 _) (seen2 V c x7 hX2 _) b
  · rw [quot_eq V c x6 x7 h6 h7 hX1 hX2, hits1_apply]
    rw [hits_num _ _ _ x6 x7 h6 h7 (seen1 V c x6 hX1 _) (seen2 V c x7 hX2 _) r (seen0 V c x6 x7 h6 h7 hX1 r hX0 _) b 1 1 (by simp)]

include hX0 hX1 hX2 in
/-- The recall at ten the call leaves. -/
theorem fourth_apply (i : S1x1.Idx) : ((dat3 V c).arrAt 4 cfg3.N : S1x1.Idx → Ideal .f32) i
    = avg (fun b => ((Ref.num x6 x7 b : ℝ) : EReal)) (fun b => Ideal.div (((Finset.univ.filter fun p => Ref.Target x6 x7 b p ∧ rankAt (r b) p ≤ 10).card : ℝ) : EReal)
      ((max (Ref.num x6 x7 b : ℝ) 1 : ℝ) : EReal)) := by
  refine (congrFun ((arr3_4 V c).trans (after3_4 V c)) i).trans ((pay18_apply _ _ i).trans (congrArg₂ avg (funext fun b => ?_) (funext fun b => ?_)))
  · exact cnt_num _ _ x6 x7 h6 h7 (seen1 V c x6 hX1 _) (seen2 V c x7 hX2 _) b
  · rw [quot_eq V c x6 x7 h6 h7 hX1 hX2, hits10_apply]
    rw [hits_num _ _ _ x6 x7 h6 h7 (seen1 V c x6 hX1 _) (seen2 V c x7 hX2 _) r (seen0 V c x6 x7 h6 h7 hX1 r hX0 _) b 10 _ (by rw [ofBits_ten]; norm_num)]

end Cert.Proof.Value

end
-- ==== Proof.Value.Mask.lean ====
/-
  The mask call's result, read at an index: the score where the premise is accessible, minus infinity elsewhere.
-/
module

public import proofs.«01_k».proof.Proof.Value.Crows

@[expose] public section

noncomputable section

namespace Cert.Proof.Value

open Cert.KernelIdeal Cert.KernelIdeal.Gen Cert.Proof.KernelIdeal

open Idealize.ShloMosaic
open Idealize.ShloMosaic.TcCoe Idealize.ShloMosaic.Tactic

/-- The mask at an index: above in its own file, or in a file the prefix's file has an edge to. -/
theorem pay2m_apply (v0 : S1x2048.Idx → BitVec 32) (v2 : S512x1.Idx → BitVec 32) (v7 v9 : S1x2048.Idx → BitVec 32) (v11 v13 : S512x1.Idx → BitVec 32)
    (v32 : S512x2048.Idx → Ideal .bf16) (b : Fin 512) (q : Fin 2048) (P : Fin 2048 → Prop) [DecidablePred P]
    (hP : ∀ f, v32 (ValueIdx.ix2 b f) = (if P f then 1 else 0 : EReal)) (hq : (v0 (ValueIdx.ix2 0 q)).toNat < 2048) :
    k1_pay2 (F := Ideal) v0 v2 v7 v9 v11 v13 v32 (ValueIdx.ix2 b q)
      = IntOp.ori (before (v2 (ValueIdx.ix2 b 0)) (v0 (ValueIdx.ix2 0 q)) (v7 (ValueIdx.ix2 0 q)) (v9 (ValueIdx.ix2 0 q)) (v11 (ValueIdx.ix2 b 0)) (v13 (ValueIdx.ix2 b 0)))
          (bit (P ⟨(v0 (ValueIdx.ix2 0 q)).toNat, hq⟩)) := by
  have hs : ∑ x : Fin 2048, v32 (ValueIdx.ix2 b x) * (FloatOps.sitofp (F := Ideal) .f32 (BitVec.setWidth 32 (IntOp.cmpi .eq (BitVec.ofNat 32 x.val) (v0 (ValueIdx.ix2 0 q)))) : EReal)
      = if P ⟨(v0 (ValueIdx.ix2 0 q)).toNat, hq⟩ then 1 else 0 := by
    simp only [cmpi_eq_bit, sitofp_bit]
    refine (sum_pick (fun x => (v32 (ValueIdx.ix2 b x) : EReal)) _ ⟨_, hq⟩ fun x => ?_).trans (hP _)
    constructor
    · intro h
      refine Fin.ext ?_
      show x.val = (v0 (ValueIdx.ix2 0 q)).toNat
      rw [← h, BitVec.toNat_ofNat]
      exact (Nat.mod_eq_of_lt (by have := x.isLt; omega)).symm
    · rintro rfl
      exact BitVec.eq_of_toNat_eq (by rw [BitVec.toNat_ofNat]; exact Nat.mod_eq_of_lt (by show (v0 (ValueIdx.ix2 0 q)).toNat < _; omega))
  pointwise [k1_pay2]
  simp only [ix2_eq_valueIdx]
  unfold before
  refine congrArg₂ IntOp.ori rfl ?_
  have hg := gt_half (if P ⟨(v0 (ValueIdx.ix2 0 q)).toNat, hq⟩ then 1 else 0)
  by_cases h : P ⟨(v0 (ValueIdx.ix2 0 q)).toNat, hq⟩
  · rw [if_pos h] at hs hg
    rw [bit_true h]
    refine Eq.trans ?_ (hg.trans (bit_true (by decide)))
    show BitVec.ofBool (decide (_ < _)) = BitVec.ofBool (decide (_ < _))
    rw [show (((1 : ℕ) : ℝ) : EReal) = 1 by simp, ← hs]
    rfl
  · rw [if_neg h] at hs hg
    rw [bit_false h]
    refine Eq.trans ?_ (hg.trans (bit_false (by decide)))
    show BitVec.ofBool (decide (_ < _)) = BitVec.ofBool (decide (_ < _))
    rw [show (((0 : ℕ) : ℝ) : EReal) = 0 by simp, ← hs]
    rfl

/-- The masked scores at an index. -/
theorem maskVal_apply (X0 : S512x2048.Idx → Ideal .f32) (X1 X2 X3 : S512x1.Idx → BitVec 32) (X4 X5 X6 : S1x2048.Idx → BitVec 32)
    (X7 : S512x2048.Idx → Ideal .bf16) (i : S512x2048.Idx) : maskVal (F := Ideal) X0 X1 X2 X3 X4 X5 X6 X7 i
      = Scalar.select (k1_pay2 (F := Ideal) X4 X1 X5 X6 X2 X3 X7 i) (X0 i) (Scalar.ofBits (F := Ideal) .f32 0xFF800000#32) := rfl

variable (V : Dev nD → Valuation τ sig (Elt Ideal))

theorem idx1_0 : ∀ t : Fin cfg1.N, win1_0.index t = ![0, t.val] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, t.val] := (by decide +kernel : ∀ t : Fin grid1.N, _)
theorem idx1_5 : ∀ t : Fin cfg1.N, win1_5.index t = ![0, t.val] := (by decide +kernel : ∀ t : Fin grid1.N, _)
theorem idx1_6 : ∀ t : Fin cfg1.N, win1_6.index t = ![0, t.val] := (by decide +kernel : ∀ t : Fin grid1.N, _)
theorem idx1_7 : ∀ t : Fin cfg1.N, win1_7.index t = ![0, 0] := (by decide +kernel : ∀ t : Fin grid1.N, _)
theorem idx1_8 : ∀ t : Fin cfg1.N, win1_8.index t = ![0, t.val] := (by decide +kernel : ∀ t : Fin grid1.N, _)

/-- The scores a point sees. -/
theorem blk1_0_apply (c : Dev nD) (t : Fin cfg1.N) (b : Fin 512) (q : Fin 2048) (p : Fin 65536) (hp : p.val = 2048 * t.val + q.val) :
    (blk1 V c 0 t : S512x2048.Idx → Ideal .f32) (ValueIdx.ix2 b q) = (V c main_arg0 : S512x65536.Idx → Ideal .f32) (ValueIdx.ix2 b p) := by
  unfold blk1
  blk_simp
  congr 1 <;> blk_ext [idx1_0, hp]
  show t.val * 2048 + q.val = 2048 * t.val + q.val
  omega

/-- The prefixes' files a point sees. -/
theorem blk1_1_apply (c : Dev nD) (t : Fin cfg1.N) (b : Fin 512) :
    (blk1 V c 1 t : S512x1.Idx → BitVec 32) (ValueIdx.ix2 b 0) = (V c main_v0 : S512x1.Idx → BitVec 32) (ValueIdx.ix2 b 0) := by
  unfold blk1
  blk_simp
  congr 1 <;> blk_ext [idx1_1]

/-- The prefixes' first words a point sees. -/
theorem blk1_2_apply (c : Dev nD) (t : Fin cfg1.N) (b : Fin 512) :
    (blk1 V c 2 t : S512x1.Idx → BitVec 32) (ValueIdx.ix2 b 0) = (V c main_v3 : S512x1.Idx → BitVec 32) (ValueIdx.ix2 b 0) := by
  unfold blk1
  blk_simp
  congr 1 <;> blk_ext [idx1_2]

/-- The prefixes' second words a point sees. -/
theorem blk1_3_apply (c : Dev nD) (t : Fin cfg1.N) (b : Fin 512) :
    (blk1 V c 3 t : S512x1.Idx → BitVec 32) (ValueIdx.ix2 b 0) = (V c main_v6 : S512x1.Idx → BitVec 32) (ValueIdx.ix2 b 0) := by
  unfold blk1
  blk_simp
  congr 1 <;> blk_ext [idx1_3]

/-- The premises' files a point sees. -/
theorem blk1_4_apply (c : Dev nD) (t : Fin cfg1.N) (q : Fin 2048) (p : Fin 65536) (hp : p.val = 2048 * t.val + q.val) :
    (blk1 V c 4 t : S1x2048.Idx → BitVec 32) (ValueIdx.ix2 0 q) = (V c main_v7 : S1x65536.Idx → BitVec 32) (ValueIdx.ix2 0 p) := by
  unfold blk1
  blk_simp
  congr 1 <;> blk_ext [idx1_4, hp]
  show t.val * 2048 + q.val = 2048 * t.val + q.val
  omega

/-- The premises' first words a point sees. -/
theorem blk1_5_apply (c : Dev nD) (t : Fin cfg1.N) (q : Fin 2048) (p : Fin 65536) (hp : p.val = 2048 * t.val + q.val) :
    (blk1 V c 5 t : S1x2048.Idx → BitVec 32) (ValueIdx.ix2 0 q) = (V c main_v10 : S1x65536.Idx → BitVec 32) (ValueIdx.ix2 0 p) := by
  unfold blk1
  blk_simp
  congr 1 <;> blk_ext [idx1_5, hp]
  show t.val * 2048 + q.val = 2048 * t.val + q.val
  omega

/-- The premises' second words a point sees. -/
theorem blk1_6_apply (c : Dev nD) (t : Fin cfg1.N) (q : Fin 2048) (p : Fin 65536) (hp : p.val = 2048 * t.val + q.val) :
    (blk1 V c 6 t : S1x2048.Idx → BitVec 32) (ValueIdx.ix2 0 q) = (V c main_v13 : S1x65536.Idx → BitVec 32) (ValueIdx.ix2 0 p) := by
  unfold blk1
  blk_simp
  congr 1 <;> blk_ext [idx1_6, hp]
  show t.val * 2048 + q.val = 2048 * t.val + q.val
  omega

/-- The crows a point sees. -/
theorem blk1_7_apply (c : Dev nD) (t : Fin cfg1.N) (b : Fin 512) (f : Fin 2048) :
    (blk1 V c 7 t : S512x2048.Idx → Ideal .bf16) (ValueIdx.ix2 b f) = (V c main_v22 : S512x2048.Idx → Ideal .bf16) (ValueIdx.ix2 b f) := by
  unfold blk1
  blk_simp
  congr 1 <;> blk_ext [idx1_7]

/-- The value of the mask call at `(b, p)`, of the arrays it is given. -/
def masked (c : Dev nD) (b : Fin 512) (p : Fin 65536) (k : BitVec 1) : Ideal .f32 :=
  Scalar.select (IntOp.ori (before ((V c main_v0 : S512x1.Idx → BitVec 32) (ValueIdx.ix2 b 0)) ((V c main_v7 : S1x65536.Idx → BitVec 32) (ValueIdx.ix2 0 p))
      ((V c main_v10 : S1x65536.Idx → BitVec 32) (ValueIdx.ix2 0 p)) ((V c main_v13 : S1x65536.Idx → BitVec 32) (ValueIdx.ix2 0 p))
      ((V c main_v3 : S512x1.Idx → BitVec 32) (ValueIdx.ix2 b 0)) ((V c main_v6 : S512x1.Idx → BitVec 32) (ValueIdx.ix2 b 0))) k)
    ((V c main_arg0 : S512x65536.Idx → Ideal .f32) (ValueIdx.ix2 b p)) (Scalar.ofBits (F := Ideal) .f32 0xFF800000#32)

/-- The call's result at `(b, p)`. -/
theorem arr1_apply (c : Dev nD) (P : Fin 512 → Fin 2048 → Prop) [∀ b, DecidablePred (P b)]
    (hP : ∀ b f, (V c main_v22 : S512x2048.Idx → Ideal .bf16) (ValueIdx.ix2 b f) = (if P b f then 1 else 0 : EReal))
    (hq : ∀ p, ((V c main_v7 : S1x65536.Idx → BitVec 32) (ValueIdx.ix2 0 p)).toNat < 2048) :
    (dat1 V c).arrAt 8 cfg1.N = fun i : S512x65536.Idx => masked V c (i 0) (i 1) (bit (P (i 0) ⟨_, hq (i 1)⟩)) := by
  refine (dat1 V c).arrAt_eq_of_covers 8 _ (by decide +kernel) fun t hf y => ?_
  have ht : t.val < 32 := lt_of_lt_of_eq t.isLt N_1
  obtain ⟨b, q, rfl⟩ : ∃ (b : Fin 512) (q : Fin 2048), y = ValueIdx.ix2 b q := ⟨y 0, y 1, ValueIdx.eq_ix2 (n0 := 512) (n1 := 2048) y⟩
  have hp : ((⟨2048 * t.val + q.val, by have := q.isLt; omega⟩ : Fin 65536) : ℕ) = 2048 * t.val + q.val := rfl
  generalize (⟨2048 * t.val + q.val, _⟩ : Fin 65536) = p at hp
  have e : ((cfg1.win 8).blk t).view.emb (ValueIdx.ix2 b q) = (ValueIdx.ix2 b p : S512x65536.Idx) := by
    blk_ext [idx1_8, hp]
    show t.val * 2048 + q.val = 2048 * t.val + q.val
    omega
  refine Eq.trans ?_ (congrArg (fun i : S512x65536.Idx => masked V c (i 0) (i 1) (bit (P (i 0) ⟨_, hq (i 1)⟩))) e.symm)
  have h4 := blk1_4_apply V c t q p hp
  have hq' : ((blk1 V c 4 t : S1x2048.Idx → BitVec 32) (ValueIdx.ix2 0 q)).toNat < 2048 := h4 ▸ hq p
  refine (maskVal_apply (blk1 V c 0 t) (blk1 V c 1 t) (blk1 V c 2 t) (blk1 V c 3 t) (blk1 V c 4 t) (blk1 V c 5 t) (blk1 V c 6 t) (blk1 V c 7 t) (ValueIdx.ix2 b q)).trans ?_
  rw [pay2m_apply _ _ _ _ _ _ _ b q (P b) (fun f => (blk1_7_apply V c t b f).trans (hP b f)) hq', blk1_0_apply V c t b q p hp,
    blk1_1_apply, blk1_2_apply, blk1_3_apply, blk1_5_apply V c t q p hp, blk1_6_apply V c t q p hp]
  simp only [h4]
  rfl

end Cert.Proof.Value

end
-- ==== Proof.Value.Masked.lean ====
/-
  The kernel's masked scores at the end of its run.
-/
module

public import proofs.«01_k».proof.Proof.Value.Mask
public import proofs.«01_k».proof.Proof.KernelIdeal.Frame

@[expose] public section

noncomputable section

namespace Cert.Proof.Value

open Cert.KernelIdeal Cert.KernelIdeal.Gen Cert.Proof.KernelIdeal

open Idealize.ShloMosaic
open Idealize.ShloMosaic.TcCoe Idealize.ShloMosaic.Tactic

variable (m : (ℓ : Loc nD τ sig) → Buf (Elt Ideal) ℓ)

/-- The mask call's result, at an index, is the masked score of the arguments. -/
theorem fin1_apply (c : Dev nD) (h3 : ∀ i, ((m ((c : Thread nD τ).loc main_arg3) : S65536.Idx → BitVec 32) i).toNat < 2048) (b : Fin 512) (p : Fin 65536) :
    (fin1 m c : S512x65536.Idx → Ideal .f32) (ValueIdx.ix2 b p)
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b p := by
  classical
  have hW0 : W2 m c main_v0 = W1 m c main_v0 := W2_of m c _ (by decide)
  have hW3 : W2 m c main_v3 = W1 m c main_v3 := W2_of m c _ (by decide)
  have hW6 : W2 m c main_v6 = W1 m c main_v6 := W2_of m c _ (by decide)
  have hW7 : W2 m c main_v7 = W1 m c main_v7 := W2_of m c _ (by decide)
  have hW10 : W2 m c main_v10 = W1 m c main_v10 := W2_of m c _ (by decide)
  have hW13 : W2 m c main_v13 = W1 m c main_v13 := W2_of m c _ (by decide)
  have hWa : W2 m c main_arg0 = m ((c : Thread nD τ).loc main_arg0) :=
    (W2_of m c _ (by decide)).trans (V1_of m c main_arg0 (by decide))
  have hP : ∀ b f, (W2 m c main_v22 : S512x2048.Idx → Ideal .bf16) (ValueIdx.ix2 b f)
      = (if ∃ e : Fin 16384, (W1 m c main_v0 : S512x1.Idx → BitVec 32) (ValueIdx.ix2 b 0) = (W1 m c main_v16 : S1x16384.Idx → BitVec 32) (ValueIdx.ix2 0 e)
          ∧ (W1 m c main_v19 : S16384x1.Idx → BitVec 32) (ValueIdx.ix2 e 0) = BitVec.ofNat 32 f.val then 1 else 0 : EReal) := fun b f => by
    rw [W2_out]
    exact arr0_apply (W1 m) c b f _ Iff.rfl
  have hq : ∀ p, ((W2 m c main_v7 : S1x65536.Idx → BitVec 32) (ValueIdx.ix2 0 p)).toNat < 2048 := fun p => by
    rw [hW7, host_v7]; exact h3 _
  have e := congrFun (arr1_apply (W2 m) c _ hP hq) (ValueIdx.ix2 b p)
  refine Eq.trans e ?_
  show masked (W2 m) c b p _ = _
  have h7 := (congrFun hW7 _).trans (host_v7 m c 0 p)
  have ef : BitVec.ofNat 32 (((W2 m c main_v7 : S1x65536.Idx → BitVec 32) (ValueIdx.ix2 0 p)).toNat)
      = (m ((c : Thread nD τ).loc main_arg3) : S65536.Idx → BitVec 32) (ValueIdx.ix1 p) := by
    rw [h7]
    exact BitVec.eq_of_toNat_eq (by rw [BitVec.toNat_ofNat]; exact Nat.mod_eq_of_lt (BitVec.isLt _))
  refine (congrArg (masked (W2 m) c b p) (bit_congr (exists_congr fun x =>
    and_congr (iff_of_eq (congrArg₂ Eq (host_v0 m c b 0) (host_v16 m c 0 x))) (iff_of_eq (congrArg₂ Eq (host_v19 m c x 0) ef))))).trans ?_
  unfold masked spec
  rw [hW0, hW3, hW6, hW10, hW13, hWa, host_v0, host_v3, host_v6, host_v10, host_v13, h7]

/-- The run's first result is the mask call's. -/
theorem first_result (h6) (h7) (c : Dev nD) : Vend m h6 h7 c main_v23 = fin1 m c := by
  unfold Vend
  rw [V8_of _ _ _ _ (by decide), V7_of _ _ _ _ (by decide), V6_of _ _ _ _ (by decide), V5_of _ _ _ _ (by decide), V4_of _ _ _ _ (by decide), V3_eq]
  exact W3_out m c

end Cert.Proof.Value

end
-- ==== Proof.Value.RankBlocks.lean ====
/-
  What the rank call stages for a group at a point: the row that the first table names, the word of the second table.
-/
module

public import proofs.«01_k».proof.Proof.Value.Rank
public import proofs.«01_k».proof.Proof.Value.Masked

@[expose] public section

noncomputable section

namespace Cert.Proof.Value

open Cert.KernelIdeal Cert.KernelIdeal.Gen Cert.Proof.KernelIdeal

open Idealize.ShloMosaic
open Idealize.ShloMosaic.TcCoe Idealize.ShloMosaic.Tactic

theorem coords2 : ∀ t : Fin grid2.N, (grid2.coords t 0).val = t.val := by decide +kernel

/-- The place in a table that group `g` reads at a point. -/
theorem place (t : Fin grid2.N) (g : Fin 64) (l : Fin 4096) (hl : l.val = 64 * t.val + g.val) (h) :
    ((Rect.unit (s := S4096) (k2_off1 (grid2.coords t) (BitVec.ofNat 32 g.val)) S1.size (word_inb _ g)).emb (Shape.Idx.first h) : S4096.Idx) = ValueIdx.ix1 l := by
  funext a
  have ha : a = 0 := Subsingleton.elim _ _
  subst ha
  refine Fin.ext ?_
  have hg := g.isLt
  have hl' := l.isLt
  show (BitVec.ofNat 32 (grid2.coords t 0).val * 64#32 + BitVec.ofNat 32 g.val).toNat + 1 * 0 = l.val
  rw [coords2, BitVec.toNat_add, BitVec.toNat_mul, BitVec.toNat_ofNat, BitVec.toNat_ofNat, BitVec.toNat_ofNat]
  omega

variable (V : Dev nD → Valuation τ sig (Elt Ideal)) (a : (pcfg2 (F := Ideal)).Adm)

/-- A row's index from its block's name. -/
theorem row_index (w : BitVec 32) (b : Fin 512) (hw : w.toNat = b.val) (s : Fin 8) (p : Fin 8192) (e : S512x8x8192.Idx)
    (he : ∀ d : Fin 3, (e d).val = (![w.toNat, 0, 0] : Fin 3 → ℕ) d * S1x8x8192.size d + 1 * ((ValueIdx.ix3 0 s p : S1x8x8192.Idx) d).val) : e = ValueIdx.ix3 b s p := by
  funext d
  refine Fin.ext ((he d).trans ?_)
  fin_cases d
  · show w.toNat * 1 + 1 * 0 = b.val; omega
  · show 0 * 8 + 1 * s.val = s.val; omega
  · show 0 * 8192 + 1 * p.val = p.val; omega

/-- The row staged for group `g`. -/
theorem stX_apply (c : Dev nD) (t : Fin (cfg2 a).N) (g : Fin 64) (l : Fin 4096) (hl : l.val = 64 * t.val + g.val) (b : Fin 512)
    (hb : (a.1 0 (ValueIdx.ix1 l : S4096.Idx) : BitVec 32).toNat = b.val) (s : Fin 8) (p : Fin 8192) :
    stX V a c t g (ValueIdx.ix3 0 s p) = (V c main_v24 : S512x8x8192.Idx → Ideal .f32) (ValueIdx.ix3 b s p) := by
  rw [← place t g l hl (show 0 < Shape.numel S1 by decide)] at hb
  fin_cases g <;> exact congrArg (V c main_v24 : S512x8x8192.Idx → Ideal .f32) (row_index _ b hb s p _ fun _ => rfl)

/-- The word group `g` reads from the second table. -/
theorem word_apply (c : Dev nD) (t : Fin grid2.N) (fT : S4096.Idx → BitVec 32) (g : Fin 64) (l : Fin 4096) (hl : l.val = 64 * t.val + g.val) :
    word (F := Ideal) c (grid2.coords t) (Memref.whole main_arg7) fT g = fT (ValueIdx.ix1 l) := by
  rw [← place t g l hl (show 0 < Shape.numel S1 by decide)]
  rfl
end Cert.Proof.Value

end
-- ==== Proof.Value.RankArr.lean ====
/-
  The rank call's result: at each label the rank of its premise among the masked scores of its prefix.
-/
module

public import proofs.«01_k».proof.Proof.Value.RankBlocks

@[expose] public section

noncomputable section

namespace Cert.Proof.Value

open Cert.KernelIdeal Cert.KernelIdeal.Gen Cert.Proof.KernelIdeal

open Idealize.ShloMosaic
open Idealize.ShloMosaic.TcCoe Idealize.ShloMosaic.Tactic

variable (V : Dev nD → Valuation τ sig (Elt Ideal)) (a : (pcfg2 (F := Ideal)).Adm)

theorem index2_64 : ∀ t : Fin grid2.N, cc2_transform_64 (grid2.coords t) = ![t.val, 0, 0] := by decide +kernel

theorem index2 (t : Fin (cfg2 a).N) : ((cfg2 a).win 64).index t = ![t.val, 0, 0] := index2_64 t

/-- The block numbers of the result. -/
theorem nblk2 (d : Fin 3) : ((cfg2 a).win 64).nblk d = ![64, 1, 1] d := by
  show (S4096x1x1.size d + S64x1x1.size d - 1) / S64x1x1.size d = _
  fin_cases d
  · show (4096 + 64 - 1) / 64 = 64; norm_num
  · show (1 + 1 - 1) / 1 = 1; norm_num
  · show (1 + 1 - 1) / 1 = 1; norm_num

/-- Every block of the result is written back. -/
theorem covers2 : ((cfg2 a).win 64).Covers := by
  refine ⟨fun d => ?_, fun β => ⟨⟨(β (0 : Fin 3)).val, ?_⟩, ?_, fun d => ⟨?_, Or.inl ?_⟩⟩⟩
  · show 0 < S64x1x1.size d
    fin_cases d
    exacts [(by decide : 0 < 64), Nat.one_pos, Nat.one_pos]
  · exact lt_of_lt_of_eq (β (0 : Fin 3)).isLt (nblk2 a 0)
  · unfold Pipeline.Window.flush
    rw [Bool.and_eq_true]
    refine ⟨rfl, ?_⟩
    by_cases h : (β (0 : Fin 3)).val + 1 = 64
    · rw [Bool.or_eq_true]; left; exact decide_eq_true h
    · rw [Bool.or_eq_true]; right
      refine decide_eq_true ⟨?_, fun e => ?_⟩
      · show (β (0 : Fin 3)).val + 1 < 64
        have : (β (0 : Fin 3)).val < 64 := lt_of_lt_of_eq (β (0 : Fin 3)).isLt (nblk2 a 0)
        omega
      · have e' := congrFun (((index2 a _).symm.trans e).trans (index2 a _)) (0 : Fin 3)
        simp at e'
  · rw [index2]
    fin_cases d
    · rfl
    · have : (β (1 : Fin 3)).val < 1 := lt_of_lt_of_eq (β (1 : Fin 3)).isLt (nblk2 a 1)
      show 0 = (β (1 : Fin 3)).val; omega
    · have : (β (2 : Fin 3)).val < 1 := lt_of_lt_of_eq (β (2 : Fin 3)).isLt (nblk2 a 2)
      show 0 = (β (2 : Fin 3)).val; omega
  · blk_simp

/-- What a point leaves in the result's block, at a group. -/
theorem stOut_apply (hc : ∀ c, Tab2 (F := Ideal) a c) (c : Dev nD) (t : Fin (cfg2 a).N) (g : Fin 64) (l : Fin 4096) (hl : l.val = 64 * t.val + g.val)
    (b : Fin 512) (hb : (a.1 0 (ValueIdx.ix1 l : S4096.Idx) : BitVec 32).toNat = b.val)
    (j : Fin 65536) (hj : (a.1 1 (ValueIdx.ix1 l : S4096.Idx) : BitVec 32).toNat = j.val)
    (r : Fin 65536 → EReal) (hr : ∀ (p : Fin 65536) (s : Fin 8) (q : Fin 8192), p.val = s.val * 8192 + q.val → (V c main_v24 : S512x8x8192.Idx → Ideal .f32) (ValueIdx.ix3 b s q) = r p) :
    stOut V a hc c t (ValueIdx.ix3 g 0 0) = (((rankAt r j : ℕ) : ℝ) : EReal) := by
  unfold stOut rankOut
  have hw : ∀ g, k2_chk1 (word (F := Ideal) c (grid2.coords t) (Memref.whole main_arg7) (a.1 1) g) := fun g => by
    have := g.isLt
    have ht : t.val < 64 := t.isLt
    rw [word_apply c t (a.1 1) g ⟨64 * t.val + g.val, by omega⟩ rfl]
    exact hc c _
  have e : (rankRun c (grid2.coords t) (Memref.whole main_arg6) (Memref.isWhole_whole _) (Memref.whole main_arg7) (Memref.isWhole_whole _)
      (stM a t) (hstM a t) (spec2_64.stage ((cfg2 a).slots t 64)) (hstage2_64 (((cfg2 a).slots t 64).cast nbuf2_64)) (a.1 1)
      (fun g => (hstM a t g).unread (stX V a c t g)) (hc c)).1
      = (spec2_64.stage ((cfg2 a).slots t 64)).view.writes (Elt Ideal) (spec2_64.stage ((cfg2 a).slots t 64)).view.junk
        (rankRun.sl.HO_1 c (grid2.coords t) (Memref.whole main_arg7) (stM a t) (a.1 1) (fun g => (hstM a t g).unread (stX V a c t g)) (hc c)) := by
    delta rankRun; dsimp only
  rw [e, stored _ _ _ _ _ _ _ hw, read_filled]
  refine (concatenate_ofFn_unit_apply (t := S64x1x1) (s₁ := S1x1x1) 0 (fun g : Fin 64 => rankOne (F := Ideal) (word (F := Ideal) c (grid2.coords t) (Memref.whole main_arg7) (a.1 1) g) (View.readAt (Elt Ideal) (stM a t g).view (Rect.unit (s := S1x8x8192) ![0, 0, 0] S1x8x8192.size inb_S1x8x8192_S1x8x8192_0_0_0).toLoadRect ((hstM a t g).unread (stX V a c t g))) (View.readAt (Elt Ideal) (stM a t g).view (Rect.unit (s := S1x8x8192) (k2_off2 (word (F := Ideal) c (grid2.coords t) (Memref.whole main_arg7) (a.1 1) g)) S1x8x128.size (hw g)).toLoadRect ((hstM a t g).unread (stX V a c t g)))) cat_fits rfl rfl (ValueIdx.ix3 g 0 0) g rfl (ValueIdx.ix3 0 0 0) fun d hd => ?_).trans ?_
  · fin_cases d
    · exact absurd rfl hd
    · rfl
    · rfl
  · have hword := word_apply c t (a.1 1) g l hl
    have hj' : (word (F := Ideal) c (grid2.coords t) (Memref.whole main_arg7) (a.1 1) g).toNat = j.val := by rw [hword]; exact hj
    have hlt : (word (F := Ideal) c (grid2.coords t) (Memref.whole main_arg7) (a.1 1) g).toNat < 65536 := by rw [hj']; exact j.isLt
    refine (rankOne_apply _ hlt _ _ r (fun p s q hp => ?_) (fun s q p hp => ?_) _).trans ?_
    · rw [View.readAt_full, Memref.IsWhole.read_unread, stX_apply V a c t g l hl b hb, hr p s q hp]
    · have hq := q.isLt
      rw [View.readAt_apply, Memref.IsWhole.read_unread]
      rw [← hr p s ⟨(word (F := Ideal) c (grid2.coords t) (Memref.whole main_arg7) (a.1 1) g).toNat % 8192 / 128 * 128 + q.val, by omega⟩ hp,
        ← stX_apply V a c t g l hl b hb]
      refine congrArg (stX V a c t g) (funext fun d => Fin.ext ?_)
      show k2_off2 _ d + 1 * ((ValueIdx.ix3 0 s q : S1x8x128.Idx) d).val = _
      rw [off2_eq _ hlt]
      fin_cases d
      · rfl
      · show 0 + 1 * s.val = s.val; omega
      · show _ % 8192 / 128 * 128 + 1 * q.val = _ % 8192 / 128 * 128 + q.val; omega
    · rw [show (⟨_, hlt⟩ : Fin 65536) = j from Fin.ext hj']

/-- The rank call's result at a label. -/
theorem arr2_apply (hc : ∀ c, Tab2 (F := Ideal) a c) (c : Dev nD) (lc : Fin 4096 → Fin 512) (hlc : ∀ l, (a.1 0 (ValueIdx.ix1 l : S4096.Idx) : BitVec 32).toNat = (lc l).val)
    (lp : Fin 4096 → Fin 65536) (hlp : ∀ l, (a.1 1 (ValueIdx.ix1 l : S4096.Idx) : BitVec 32).toNat = (lp l).val)
    (r : Fin 512 → Fin 65536 → EReal) (hr : ∀ b (p : Fin 65536) (s : Fin 8) (q : Fin 8192), p.val = s.val * 8192 + q.val → (V c main_v24 : S512x8x8192.Idx → Ideal .f32) (ValueIdx.ix3 b s q) = r b p) :
    (dat2 V a hc c).arrAt 64 (cfg2 a).N = fun i : S4096x1x1.Idx => ((((rankAt (r (lc (i 0))) (lp (i 0)) : ℕ) : ℝ) : EReal) : Ideal .f32) := by
  refine (dat2 V a hc c).arrAt_eq_of_covers 64 _ (covers2 a) fun t hf y => ?_
  obtain ⟨g, rfl⟩ : ∃ g : Fin 64, y = ValueIdx.ix3 g 0 0 := ⟨y (0 : Fin 3), funext fun d => by fin_cases d; exacts [rfl, Subsingleton.elim (α := Fin 1) _ _, Subsingleton.elim (α := Fin 1) _ _]⟩
  have ht : t.val < 64 := t.isLt
  have hg := g.isLt
  have e : ((((cfg2 a).win 64).blk t).view.emb (ValueIdx.ix3 g 0 0) : S4096x1x1.Idx) = ValueIdx.ix3 ⟨64 * t.val + g.val, by omega⟩ 0 0 := by
    funext d
    refine Fin.ext ?_
    have h := congrFun (index2_64 t) d
    refine (show _ = cc2_transform_64 (grid2.coords t) d * S64x1x1.size d + 1 * ((ValueIdx.ix3 g 0 0 : S64x1x1.Idx) d).val from rfl).trans ?_
    rw [h]
    fin_cases d
    · show t.val * 64 + 1 * g.val = 64 * t.val + g.val; omega
    · rfl
    · rfl
  refine Eq.trans ?_ (congrArg (fun i : S4096x1x1.Idx => ((((rankAt (r (lc (i 0))) (lp (i 0)) : ℕ) : ℝ) : EReal) : Ideal .f32)) e.symm)
  exact stOut_apply V a hc c t g ⟨64 * t.val + g.val, by omega⟩ rfl _ (hlc _) _ (hlp _) _ (hr _)

end Cert.Proof.Value

end
-- ==== Proof.Value.Results.lean ====
/-
  The run's three averages, from its own masked scores and the labels.
-/
module

public import proofs.«01_k».proof.Proof.Value.Averages
public import proofs.«01_k».proof.Proof.Value.RankArr
public import proofs.«01_k».proof.Proof.Value.Masked
public import proofs.«01_k».proof.Proof.KernelIdeal.Frame

@[expose] public section

noncomputable section

namespace Cert.Proof.Value

open Cert.KernelIdeal Cert.KernelIdeal.Gen Cert.Proof.KernelIdeal

open Idealize.ShloMosaic
open Idealize.ShloMosaic.TcCoe Idealize.ShloMosaic.Tactic

variable (m : (ℓ : Loc nD τ sig) → Buf (Elt Ideal) ℓ)

/-- The labels, laid out as a row. -/
theorem lay_labels (x : S4096.Idx → BitVec 32) (l : Fin 4096) : shapeCast S1x4096 x shapeCasts_S4096_S1x4096 (ValueIdx.ix2 0 l) = x (ValueIdx.ix1 l) := by
  refine shapeCast_apply _ _ _ _ ?_
  rw [Shape.rowMajor_val_one, Shape.rowMajor_val_two]
  show l.val = 0 * 4096 + l.val
  omega

/-- The scores, their premises split in eight. -/
theorem lay_scores (x : S512x65536.Idx → Ideal .f32) (b : Fin 512) (p : Fin 65536) (s : Fin 8) (q : Fin 8192) (hp : p.val = s.val * 8192 + q.val) :
    shapeCast S512x8x8192 x shapeCasts_S512x65536_S512x8x8192 (ValueIdx.ix3 b s q) = x (ValueIdx.ix2 b p) := by
  refine shapeCast_apply _ _ _ _ ?_
  rw [Shape.rowMajor_val_two, Shape.rowMajor_val_three]
  show b.val * 65536 + p.val = (b.val * 8 + s.val) * 8192 + q.val
  omega

/-- The ranks, laid out as a row. -/
theorem lay_ranks (x : S4096x1x1.Idx → Ideal .f32) (l : Fin 4096) : shapeCast S1x4096 x shapeCasts_S4096x1x1_S1x4096 (ValueIdx.ix2 0 l) = x (ValueIdx.ix3 l 0 0) := by
  refine shapeCast_apply _ _ _ _ ?_
  rw [Shape.rowMajor_val_three, Shape.rowMajor_val_two]
  show (l.val * 1 + 0) * 1 + 0 = 0 * 4096 + l.val
  omega

theorem host_v20 (c : Dev nD) (l : Fin 4096) :
    (W1 m c main_v20 : S1x4096.Idx → BitVec 32) (ValueIdx.ix2 0 l) = (m ((c : Thread nD τ).loc main_arg6) : S4096.Idx → BitVec 32) (ValueIdx.ix1 l) := by
  have e : (W1 m c main_v20 : S1x4096.Idx → BitVec 32) = shapeCast S1x4096 (m ((c : Thread nD τ).loc main_arg6) : S4096.Idx → BitVec 32) shapeCasts_S4096_S1x4096 := by
    unfold W1 V1
    after_results
    rfl
  rw [e]
  exact lay_labels _ l

theorem host_v21 (c : Dev nD) (l : Fin 4096) :
    (W1 m c main_v21 : S1x4096.Idx → BitVec 32) (ValueIdx.ix2 0 l) = (m ((c : Thread nD τ).loc main_arg7) : S4096.Idx → BitVec 32) (ValueIdx.ix1 l) := by
  have e : (W1 m c main_v21 : S1x4096.Idx → BitVec 32) = shapeCast S1x4096 (m ((c : Thread nD τ).loc main_arg7) : S4096.Idx → BitVec 32) shapeCasts_S4096_S1x4096 := by
    unfold W1 V1
    after_results
    rfl
  rw [e]
  exact lay_labels _ l

/-- The rank call's scores are the mask call's, their premises split in eight. -/
theorem host_v24 (c : Dev nD) (b : Fin 512) (p : Fin 65536) (s : Fin 8) (q : Fin 8192) (hp : p.val = s.val * 8192 + q.val) :
    (W4 m c main_v24 : S512x8x8192.Idx → Ideal .f32) (ValueIdx.ix3 b s q) = (fin1 m c : S512x65536.Idx → Ideal .f32) (ValueIdx.ix2 b p) := by
  have e : (W4 m c main_v24 : S512x8x8192.Idx → Ideal .f32) = shapeCast S512x8x8192 (W3 m c main_v23 : S512x65536.Idx → Ideal .f32) shapeCasts_S512x65536_S512x8x8192 := by
    unfold W4
    after_results
    rfl
  rw [e, W3_out]
  exact lay_scores _ b p s q hp

variable (a : (pcfg2 (F := Ideal)).Adm) (hc : ∀ c, Tab2 (F := Ideal) a c)

/-- The metrics call's ranks are the rank call's. -/
theorem host_v26 (c : Dev nD) (l : Fin 4096) :
    (W6 m a hc c main_v26 : S1x4096.Idx → Ideal .f32) (ValueIdx.ix2 0 l) = (fin2 m a hc c : S4096x1x1.Idx → Ideal .f32) (ValueIdx.ix3 l 0 0) := by
  have e : (W6 m a hc c main_v26 : S1x4096.Idx → Ideal .f32) = shapeCast S1x4096 (W5 m a hc c main_v25 : S4096x1x1.Idx → Ideal .f32) shapeCasts_S4096x1x1_S1x4096 := by
    unfold W6
    after_results
    rfl
  rw [e, W5_out]
  exact lay_ranks _ l

theorem kept_v20 (c : Dev nD) : W6 m a hc c main_v20 = W1 m c main_v20 := by
  rw [← V6_eq, V6_of _ _ _ _ (by decide), V5_of _ _ _ _ (by decide), V4_of _ _ _ _ (by decide), V3_of _ _ _ _ (by decide), V2_of _ _ _ _ (by decide)]
  rfl
theorem kept_v21 (c : Dev nD) : W6 m a hc c main_v21 = W1 m c main_v21 := by
  rw [← V6_eq, V6_of _ _ _ _ (by decide), V5_of _ _ _ _ (by decide), V4_of _ _ _ _ (by decide), V3_of _ _ _ _ (by decide), V2_of _ _ _ _ (by decide)]
  rfl

theorem end_v28 (c : Dev nD) (i : S_.Idx) : (V8 m (outs m a hc) c main_v28 : S_.Idx → Ideal .f32) i = (fin3 m a hc c : S1x1.Idx → Ideal .f32) (ValueIdx.ix2 0 0) := by
  have e : (V8 m (outs m a hc) c main_v28 : S_.Idx → Ideal .f32) = shapeCast S_ (V7 m (outs m a hc) c main_v27_0 : S1x1.Idx → Ideal .f32) shapeCasts_S1x1_S_ := by
    unfold V8
    after_results
    rfl
  rw [e, V7_eq, W7_0]
  exact congrArg (fin3 m a hc c : S1x1.Idx → Ideal .f32) (funext fun d => Fin.ext (by match d with | ⟨0, _⟩ => exact Nat.lt_one_iff.1 (Fin.isLt _) | ⟨1, _⟩ => exact Nat.lt_one_iff.1 (Fin.isLt _)))
theorem end_v29 (c : Dev nD) (i : S_.Idx) : (V8 m (outs m a hc) c main_v29 : S_.Idx → Ideal .f32) i = (fin4 m a hc c : S1x1.Idx → Ideal .f32) (ValueIdx.ix2 0 0) := by
  have e : (V8 m (outs m a hc) c main_v29 : S_.Idx → Ideal .f32) = shapeCast S_ (V7 m (outs m a hc) c main_v27_1 : S1x1.Idx → Ideal .f32) shapeCasts_S1x1_S_ := by
    unfold V8
    after_results
    rfl
  rw [e, V7_eq, W7_1]
  exact congrArg (fin4 m a hc c : S1x1.Idx → Ideal .f32) (funext fun d => Fin.ext (by match d with | ⟨0, _⟩ => exact Nat.lt_one_iff.1 (Fin.isLt _) | ⟨1, _⟩ => exact Nat.lt_one_iff.1 (Fin.isLt _)))
theorem end_v30 (c : Dev nD) (i : S_.Idx) : (V8 m (outs m a hc) c main_v30 : S_.Idx → Ideal .f32) i = (fin5 m a hc c : S1x1.Idx → Ideal .f32) (ValueIdx.ix2 0 0) := by
  have e : (V8 m (outs m a hc) c main_v30 : S_.Idx → Ideal .f32) = shapeCast S_ (V7 m (outs m a hc) c main_v27_2 : S1x1.Idx → Ideal .f32) shapeCasts_S1x1_S_ := by
    unfold V8
    after_results
    rfl
  rw [e, V7_eq, W7_2]
  exact congrArg (fin5 m a hc c : S1x1.Idx → Ideal .f32) (funext fun d => Fin.ext (by match d with | ⟨0, _⟩ => exact Nat.lt_one_iff.1 (Fin.isLt _) | ⟨1, _⟩ => exact Nat.lt_one_iff.1 (Fin.isLt _)))

variable (h6 : ∀ i, ((m (((0 : Dev nD) : Thread nD τ).loc main_arg6) : S4096.Idx → BitVec 32) i).toNat < 512)
  (h7 : ∀ i, ((m (((0 : Dev nD) : Thread nD τ).loc main_arg7) : S4096.Idx → BitVec 32) i).toNat < 65536)

/-- The run's masked scores, as rows. -/
def mine (b : Fin 512) (p : Fin 65536) : EReal := (fin1 m 0 : S512x65536.Idx → Ideal .f32) (ValueIdx.ix2 b p)

/-- The ranks the metrics call is given. -/
theorem ranks_seen (l : Fin 4096) : (W6 m (a2 m h6) (tab2 m h6 h7) 0 main_v26 : S1x4096.Idx → Ideal .f32) (ValueIdx.ix2 0 l)
    = ((rankAt (mine m ⟨((m (((0 : Dev nD) : Thread nD τ).loc main_arg6) : S4096.Idx → BitVec 32) (ValueIdx.ix1 l)).toNat, h6 _⟩)
        (lp (m (((0 : Dev nD) : Thread nD τ).loc main_arg7) : S4096.Idx → BitVec 32) h7 l) : ℝ) : EReal) := by
  rw [host_v26]
  exact congrFun (arr2_apply (W4 m) (a2 m h6) (tab2 m h6 h7) 0 (fun l => ⟨((m (((0 : Dev nD) : Thread nD τ).loc main_arg6) : S4096.Idx → BitVec 32) (ValueIdx.ix1 l)).toNat, h6 _⟩)
    (fun _ => rfl) (lp (m (((0 : Dev nD) : Thread nD τ).loc main_arg7) : S4096.Idx → BitVec 32) h7) (fun _ => rfl) (mine m)
    (fun b p s q hp => host_v24 m 0 b p s q hp)) (ValueIdx.ix3 l 0 0)

theorem labels_seen (l : Fin 4096) : (W6 m (a2 m h6) (tab2 m h6 h7) 0 main_v20 : S1x4096.Idx → BitVec 32) (ValueIdx.ix2 0 l)
    = (m (((0 : Dev nD) : Thread nD τ).loc main_arg6) : S4096.Idx → BitVec 32) (ValueIdx.ix1 l) := by
  rw [kept_v20]; exact host_v20 m 0 l
theorem premises_seen (l : Fin 4096) : (W6 m (a2 m h6) (tab2 m h6 h7) 0 main_v21 : S1x4096.Idx → BitVec 32) (ValueIdx.ix2 0 l)
    = (m (((0 : Dev nD) : Thread nD τ).loc main_arg7) : S4096.Idx → BitVec 32) (ValueIdx.ix1 l) := by
  rw [kept_v21]; exact host_v21 m 0 l

variable (x6 x7 : S4096.Idx → BitVec 32) (r : Fin 512 → Fin 65536 → EReal) (e6 : x6 = m (((0 : Dev nD) : Thread nD τ).loc main_arg6))
  (e7 : x7 = m (((0 : Dev nD) : Thread nD τ).loc main_arg7)) (er : r = mine m)

include e6 e7 er in
/-- The run's recall at one. -/
theorem second_result (i : S_.Idx) : (Vend m h6 h7 0 main_v28 : S_.Idx → Ideal .f32) i
    = avg (fun b => ((Ref.num x6 x7 b : ℝ) : EReal)) (fun b => Ideal.div (((Finset.univ.filter fun p => Ref.Target x6 x7 b p ∧ rankAt (r b) p ≤ 1).card : ℝ) : EReal)
      ((max (Ref.num x6 x7 b : ℝ) 1 : ℝ) : EReal)) := by
  subst e6 e7 er
  exact (end_v28 m _ _ 0 i).trans (third_apply (W6 m (a2 m h6) (tab2 m h6 h7)) 0 _ _ h6 h7 (labels_seen m h6 h7) (premises_seen m h6 h7) (mine m) (ranks_seen m h6 h7) _)

include e6 e7 er in
/-- The run's recall at ten. -/
theorem third_result (i : S_.Idx) : (Vend m h6 h7 0 main_v29 : S_.Idx → Ideal .f32) i
    = avg (fun b => ((Ref.num x6 x7 b : ℝ) : EReal)) (fun b => Ideal.div (((Finset.univ.filter fun p => Ref.Target x6 x7 b p ∧ rankAt (r b) p ≤ 10).card : ℝ) : EReal)
      ((max (Ref.num x6 x7 b : ℝ) 1 : ℝ) : EReal)) := by
  subst e6 e7 er
  exact (end_v29 m _ _ 0 i).trans (fourth_apply (W6 m (a2 m h6) (tab2 m h6 h7)) 0 _ _ h6 h7 (labels_seen m h6 h7) (premises_seen m h6 h7) (mine m) (ranks_seen m h6 h7) _)

include e6 e7 er in
/-- The run's mean reciprocal rank. -/
theorem fourth_result (i : S_.Idx) : (Vend m h6 h7 0 main_v30 : S_.Idx → Ideal .f32) i
    = avg (fun b => ((Ref.num x6 x7 b : ℝ) : EReal)) (fun b => Ideal.div 1 (Finset.univ.fold min (⊤ : EReal) (fun p => if Ref.Target x6 x7 b p then ((rankAt (r b) p : ℝ) : EReal) else ⊤))) := by
  subst e6 e7 er
  exact (end_v30 m _ _ 0 i).trans (fifth_apply (W6 m (a2 m h6) (tab2 m h6 h7)) 0 _ _ h6 h7 (labels_seen m h6 h7) (premises_seen m h6 h7) (mine m) (ranks_seen m h6 h7) _)

end Cert.Proof.Value

end
-- ==== Proof.Value.Scores.lean ====
/-
  Both runs leave the same masked scores and the same three averages.
-/
module

public import proofs.«01_k».proof.Defs
public import proofs.«01_k».proof.Proof.Value.Results
public import proofs.«01_k».proof.Proof.InRange
public import proofs.«01_k».proof.Proof.Gen.KernelIdeal
public import proofs.«01_k».proof.Proof.Gen.ReferenceIdeal

@[expose] public section

noncomputable section

namespace Cert.Proof

open Idealize.ShloMosaic Idealize.SL.Sem

/-- A function of six equal arguments. -/
theorem args6 {A0 A1 A2 A3 A4 A5 B : Type} (f : A0 → A1 → A2 → A3 → A4 → A5 → B) {x0 y0 : A0} {x1 y1 : A1} {x2 y2 : A2} {x3 y3 : A3} {x4 y4 : A4} {x5 y5 : A5}
    (e0 : x0 = y0) (e1 : x1 = y1) (e2 : x2 = y2) (e3 : x3 = y3) (e4 : x4 = y4) (e5 : x5 = y5) : f x0 x1 x2 x3 x4 x5 = f y0 y1 y2 y3 y4 y5 := by
  subst e0 e1 e2 e3 e4 e5; rfl

/-- A function of eight equal arguments. -/
theorem args8 {A0 A1 A2 A3 A4 A5 A6 A7 B : Type} (f : A0 → A1 → A2 → A3 → A4 → A5 → A6 → A7 → B) {x0 y0 : A0} {x1 y1 : A1} {x2 y2 : A2} {x3 y3 : A3} {x4 y4 : A4}
    {x5 y5 : A5} {x6 y6 : A6} {x7 y7 : A7} (e0 : x0 = y0) (e1 : x1 = y1) (e2 : x2 = y2) (e3 : x3 = y3) (e4 : x4 = y4) (e5 : x5 = y5) (e6 : x6 = y6) (e7 : x7 = y7) :
    f x0 x1 x2 x3 x4 x5 x6 x7 = f y0 y1 y2 y3 y4 y5 y6 y7 := by
  subst e6 e7; exact args6 (fun a b c d e g => f a b c d e g x6 x7) e0 e1 e2 e3 e4 e5

section Rows
open Cert.KernelIdeal

/-- The reference's rows of masked scores are the kernel's. -/
theorem same_rows (m : (ℓ : Loc nD τ sig) → Buf (Elt Ideal) ℓ)
    (h1 : ∀ i, ((m (((0 : Dev nD).tc : Thread nD τ).loc main_arg1) : S512.Idx → BitVec 32) i).toNat < 2048)
    (h3 : ∀ i, ((m (((0 : Dev nD).tc : Thread nD τ).loc main_arg3) : S65536.Idx → BitVec 32) i).toNat < 2048)
    (h5 : ∀ i, ((m (((0 : Dev nD).tc : Thread nD τ).loc main_arg5) : S2x16384.Idx → BitVec 32) i).toNat < 2048) :
    Value.Ref.row (m (((0 : Dev nD).tc : Thread nD τ).loc main_arg0)) (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4)) (m (((0 : Dev nD).tc : Thread nD τ).loc main_arg5)) = Value.mine m :=
  funext fun b => funext fun p => (Value.Ref.v64_at _ _ _ _ _ _ h1 h3 h5 b p).trans (Value.fin1_apply m 0 h3 b p).symm

end Rows

/-- The kernel and the reference, run from the same arguments, leave the same masked scores and the same averages. -/
theorem same_results : Cert.algebraic_KernelIdeal_ReferenceIdeal := by
  intro m g m' g' hp he
  have h1 := fun c => inRange1 _ _ _ _ _ _ _ _ (hp c).1
  have h3 := fun c => inRange3 _ _ _ _ _ _ _ _ (hp c).2.1
  have h5 := fun c => inRange5 _ _ _ _ _ _ _ _ (hp c).2.2.1
  have h6 := inRange6 _ _ _ _ _ _ _ _ (hp 0).2.2.2.1
  have h7 := inRange7 _ _ _ _ _ _ _ _ (hp 0).2.2.2.2
  refine ⟨fun c => KernelIdeal.fin1 m c, fun c => KernelIdeal.Vend m h6 h7 c (Proc.devRef .tc Cert.KernelIdeal.main_v28), fun c => KernelIdeal.Vend m h6 h7 c (Proc.devRef .tc Cert.KernelIdeal.main_v29),
    fun c => KernelIdeal.Vend m h6 h7 c (Proc.devRef .tc Cert.KernelIdeal.main_v30), ?_, ?_⟩
  · refine (θ_run _ _ _).mono (fun r h c => ?_) (KernelIdeal.ends m h6 h7 g)
    obtain ⟨⟨r0, r1, r2, r3⟩, ha⟩ := h.1 c
    exact ⟨r0.trans (Value.first_result m h6 h7 c), r1, r2, r3, ha⟩
  · refine (θ_run _ _ _).mono (fun r h c => ?_) (Cert.ReferenceIdeal.Value.run (F := Ideal) m' g')
    obtain ⟨r0, r1, r2, r3, ha⟩ := h c
    obtain rfl : c = 0 := Subsingleton.elim _ _
    obtain ⟨e0, e1, e2, e3, e4, e5, e6, e7⟩ := he 0
    have er := same_rows m (h1 0) (h3 0) (h5 0)
    refine ⟨r0.trans ((Cert.ReferenceIdeal.Read.val_main_v64_eq _).trans ?_), r1.trans ((Cert.ReferenceIdeal.Read.val_main_v99_eq _).trans ?_),
      r2.trans ((Cert.ReferenceIdeal.Read.val_main_v111_eq _).trans ?_), r3.trans ((Cert.ReferenceIdeal.Read.val_main_v125_eq _).trans ?_), ha⟩
    · refine (args6 Cert.ReferenceIdeal.Read.val_main_v64 e0 e1 e2 e3 e4 e5).trans (funext fun i => ?_)
      obtain ⟨b, p, rfl⟩ : ∃ (b : Fin 512) (p : Fin 65536), i = ValueIdx.ix2 b p := ⟨i 0, i 1, ValueIdx.eq_ix2 (n0 := 512) (n1 := 65536) i⟩
      exact congrFun (congrFun er b) p
    · refine (args8 Cert.ReferenceIdeal.Read.val_main_v99 e0 e1 e2 e3 e4 e5 e6 e7).trans (funext fun i => ?_)
      obtain rfl : i = ValueIdx.ix0 := Subsingleton.elim _ _
      exact (Value.Ref.v99_at _ _ _ _ _ _ _ _ h6 h7).trans (Value.second_result m h6 h7 _ _ _ rfl rfl er _).symm
    · refine (args8 Cert.ReferenceIdeal.Read.val_main_v111 e0 e1 e2 e3 e4 e5 e6 e7).trans (funext fun i => ?_)
      obtain rfl : i = ValueIdx.ix0 := Subsingleton.elim _ _
      exact (Value.Ref.v111_at _ _ _ _ _ _ _ _ h6 h7).trans (Value.third_result m h6 h7 _ _ _ rfl rfl er _).symm
    · refine (args8 Cert.ReferenceIdeal.Read.val_main_v125 e0 e1 e2 e3 e4 e5 e6 e7).trans (funext fun i => ?_)
      obtain rfl : i = ValueIdx.ix0 := Subsingleton.elim _ _
      exact (Value.Ref.v125_at _ _ _ _ _ _ _ _ h6 h7).trans (Value.fourth_result m h6 h7 _ _ _ rfl rfl er _).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.Kernel.Frame
public import proofs.«01_k».proof.Proof.KernelIdeal.Frame
public import proofs.«01_k».proof.Proof.InRange
public import proofs.«01_k».proof.Proof.Value.Scores

@[expose] public section

noncomputable section

namespace Cert.Proof

open Idealize.ShloMosaic Idealize.SL.Sem Cert.Kernel

/-- The reference terminates and keeps its arguments. -/
theorem reference_ends : Cert.quiescent_ReferenceIdeal := fun m g _ =>
  (θ_run _ _ _).mono (fun r h => ⟨fun c => (h c).2.2.2.2, sem_eq_zero_of_no_sems (by decide) r.2⟩) (Cert.ReferenceIdeal.Value.run (F := Ideal) m g)

/-- Every claim: the two programs and the reference terminate and keep their arguments, and the kernel's masked scores
    and averages are the reference's. -/
theorem claim : Cert.Claim := ⟨Cert.Kernel.Gen.facts, Cert.KernelIdeal.Gen.facts, Cert.ReferenceIdeal.Gen.facts, Cert.Proof.preFacts,
  fun m g hp => (θ_run _ _ _).mono (fun _ h => ⟨fun c => (h.1 c).2, h.2⟩)
    (Cert.Proof.Kernel.ends m (inRange6 _ _ _ _ _ _ _ _ (hp 0).2.2.2.1) (inRange7 _ _ _ _ _ _ _ _ (hp 0).2.2.2.2) g),
  fun m g hp => (θ_run _ _ _).mono (fun _ h => ⟨fun c => (h.1 c).2, h.2⟩)
    (Cert.Proof.KernelIdeal.ends m (inRange6 _ _ _ _ _ _ _ _ (hp 0).2.2.2.1) (inRange7 _ _ _ _ _ _ _ _ (hp 0).2.2.2.2) g),
  reference_ends, fun m g _ => reference_ends m g trivial, trivial, same_results⟩

end Cert.Proof

end
